-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_MmIn (m : (ℓ : Loc Cert.MmIn.nD Cert.MmIn.τ Cert.MmIn.sig) → Buf (Elt Bits) ℓ) : Prop :=
  True

def Pre_MmInIdeal (m : (ℓ : Loc Cert.MmInIdeal.nD Cert.MmInIdeal.τ Cert.MmInIdeal.sig) → Buf (Elt Ideal) ℓ) : Prop :=
  True

def Pre_MmInRefIdeal (m : (ℓ : Loc Cert.MmInRefIdeal.nD Cert.MmInRefIdeal.τ Cert.MmInRefIdeal.sig) → Buf (Elt Ideal) ℓ) : Prop :=
  True

def Pre_MmDWcat (m : (ℓ : Loc Cert.MmDWcat.nD Cert.MmDWcat.τ Cert.MmDWcat.sig) → Buf (Elt Bits) ℓ) : Prop :=
  True

def Pre_MmDWcatIdeal (m : (ℓ : Loc Cert.MmDWcatIdeal.nD Cert.MmDWcatIdeal.τ Cert.MmDWcatIdeal.sig) → Buf (Elt Ideal) ℓ) : Prop :=
  True

def Pre_MmDWcatRefIdeal (m : (ℓ : Loc Cert.MmDWcatRefIdeal.nD Cert.MmDWcatRefIdeal.τ Cert.MmDWcatRefIdeal.sig) → Buf (Elt Ideal) ℓ) : Prop :=
  True

def Pre_MmDWup (m : (ℓ : Loc Cert.MmDWup.nD Cert.MmDWup.τ Cert.MmDWup.sig) → Buf (Elt Bits) ℓ) : Prop :=
  True

def Pre_MmDWupIdeal (m : (ℓ : Loc Cert.MmDWupIdeal.nD Cert.MmDWupIdeal.τ Cert.MmDWupIdeal.sig) → Buf (Elt Ideal) ℓ) : Prop :=
  True

def Pre_MmDWupRefIdeal (m : (ℓ : Loc Cert.MmDWupRefIdeal.nD Cert.MmDWupRefIdeal.τ Cert.MmDWupRefIdeal.sig) → Buf (Elt Ideal) ℓ) : Prop :=
  True

def Pre_MmDAct (m : (ℓ : Loc Cert.MmDAct.nD Cert.MmDAct.τ Cert.MmDAct.sig) → Buf (Elt Bits) ℓ) : Prop :=
  True

def Pre_MmDActIdeal (m : (ℓ : Loc Cert.MmDActIdeal.nD Cert.MmDActIdeal.τ Cert.MmDActIdeal.sig) → Buf (Elt Ideal) ℓ) : Prop :=
  True

def Pre_MmDActRefIdeal (m : (ℓ : Loc Cert.MmDActRefIdeal.nD Cert.MmDActRefIdeal.τ Cert.MmDActRefIdeal.sig) → Buf (Elt Ideal) ℓ) : Prop :=
  True

def Pre_MmDWdown (m : (ℓ : Loc Cert.MmDWdown.nD Cert.MmDWdown.τ Cert.MmDWdown.sig) → Buf (Elt Bits) ℓ) : Prop :=
  True

def Pre_MmDWdownIdeal (m : (ℓ : Loc Cert.MmDWdownIdeal.nD Cert.MmDWdownIdeal.τ Cert.MmDWdownIdeal.sig) → Buf (Elt Ideal) ℓ) : Prop :=
  True

def Pre_MmDWdownRefIdeal (m : (ℓ : Loc Cert.MmDWdownRefIdeal.nD Cert.MmDWdownRefIdeal.τ Cert.MmDWdownRefIdeal.sig) → Buf (Elt Ideal) ℓ) : Prop :=
  True

def Pre_MmDHRms (m : (ℓ : Loc Cert.MmDHRms.nD Cert.MmDHRms.τ Cert.MmDHRms.sig) → Buf (Elt Bits) ℓ) : Prop :=
  True

def Pre_MmDHRmsIdeal (m : (ℓ : Loc Cert.MmDHRmsIdeal.nD Cert.MmDHRmsIdeal.τ Cert.MmDHRmsIdeal.sig) → Buf (Elt Ideal) ℓ) : Prop :=
  True

def Pre_MmDHRmsIdeal_finite_7 [hPre_finite_7 : Cert.Pre_finite_7.Facts] (m : (ℓ : Loc Cert.MmDHRmsIdeal.nD Cert.MmDHRmsIdeal.τ Cert.MmDHRmsIdeal.sig) → Buf (Elt Ideal) ℓ) : Prop :=
  ∀ c : Dev Cert.MmDHRmsIdeal.nD,
    (Cert.Pre_finite_7.fn (F := Ideal) (m ((c.tc : Thread Cert.MmDHRmsIdeal.nD Cert.MmDHRmsIdeal.τ).loc Cert.MmDHRmsIdeal.main_arg0)) (m ((c.tc : Thread Cert.MmDHRmsIdeal.nD Cert.MmDHRmsIdeal.τ).loc Cert.MmDHRmsIdeal.main_arg1)) (m ((c.tc : Thread Cert.MmDHRmsIdeal.nD Cert.MmDHRmsIdeal.τ).loc Cert.MmDHRmsIdeal.main_arg2)) (m ((c.tc : Thread Cert.MmDHRmsIdeal.nD Cert.MmDHRmsIdeal.τ).loc Cert.MmDHRmsIdeal.main_arg3)) (m ((c.tc : Thread Cert.MmDHRmsIdeal.nD Cert.MmDHRmsIdeal.τ).loc Cert.MmDHRmsIdeal.main_arg4))) = (fun _ => 1#1)

def Pre_MmDHRmsRefIdeal (m : (ℓ : Loc Cert.MmDHRmsRefIdeal.nD Cert.MmDHRmsRefIdeal.τ Cert.MmDHRmsRefIdeal.sig) → Buf (Elt Ideal) ℓ) : Prop :=
  True

def Pre_MmDHRmsRefIdeal_finite_7 [hPre_finite_7 : Cert.Pre_finite_7.Facts] (m : (ℓ : Loc Cert.MmDHRmsRefIdeal.nD Cert.MmDHRmsRefIdeal.τ Cert.MmDHRmsRefIdeal.sig) → Buf (Elt Ideal) ℓ) : Prop :=
  ∀ c : Dev Cert.MmDHRmsRefIdeal.nD,
    (Cert.Pre_finite_7.fn (F := Ideal) (m ((c.tc : Thread Cert.MmDHRmsRefIdeal.nD Cert.MmDHRmsRefIdeal.τ).loc Cert.MmDHRmsRefIdeal.main_arg0)) (m ((c.tc : Thread Cert.MmDHRmsRefIdeal.nD Cert.MmDHRmsRefIdeal.τ).loc Cert.MmDHRmsRefIdeal.main_arg1)) (m ((c.tc : Thread Cert.MmDHRmsRefIdeal.nD Cert.MmDHRmsRefIdeal.τ).loc Cert.MmDHRmsRefIdeal.main_arg2)) (m ((c.tc : Thread Cert.MmDHRmsRefIdeal.nD Cert.MmDHRmsRefIdeal.τ).loc Cert.MmDHRmsRefIdeal.main_arg3)) (m ((c.tc : Thread Cert.MmDHRmsRefIdeal.nD Cert.MmDHRmsRefIdeal.τ).loc Cert.MmDHRmsRefIdeal.main_arg4))) = (fun _ => 1#1)

def Pre_MmDH2Rms (m : (ℓ : Loc Cert.MmDH2Rms.nD Cert.MmDH2Rms.τ Cert.MmDH2Rms.sig) → Buf (Elt Bits) ℓ) : Prop :=
  True

def Pre_MmDH2RmsIdeal (m : (ℓ : Loc Cert.MmDH2RmsIdeal.nD Cert.MmDH2RmsIdeal.τ Cert.MmDH2RmsIdeal.sig) → Buf (Elt Ideal) ℓ) : Prop :=
  True

def Pre_MmDH2RmsIdeal_finite_8 [hPre_finite_8 : Cert.Pre_finite_8.Facts] (m : (ℓ : Loc Cert.MmDH2RmsIdeal.nD Cert.MmDH2RmsIdeal.τ Cert.MmDH2RmsIdeal.sig) → Buf (Elt Ideal) ℓ) : Prop :=
  ∀ c : Dev Cert.MmDH2RmsIdeal.nD,
    (Cert.Pre_finite_8.fn (F := Ideal) (m ((c.tc : Thread Cert.MmDH2RmsIdeal.nD Cert.MmDH2RmsIdeal.τ).loc Cert.MmDH2RmsIdeal.main_arg0)) (m ((c.tc : Thread Cert.MmDH2RmsIdeal.nD Cert.MmDH2RmsIdeal.τ).loc Cert.MmDH2RmsIdeal.main_arg1)) (m ((c.tc : Thread Cert.MmDH2RmsIdeal.nD Cert.MmDH2RmsIdeal.τ).loc Cert.MmDH2RmsIdeal.main_arg2)) (m ((c.tc : Thread Cert.MmDH2RmsIdeal.nD Cert.MmDH2RmsIdeal.τ).loc Cert.MmDH2RmsIdeal.main_arg3)) (m ((c.tc : Thread Cert.MmDH2RmsIdeal.nD Cert.MmDH2RmsIdeal.τ).loc Cert.MmDH2RmsIdeal.main_arg4))) = (fun _ => 1#1)

def Pre_MmDH2RmsRefIdeal (m : (ℓ : Loc Cert.MmDH2RmsRefIdeal.nD Cert.MmDH2RmsRefIdeal.τ Cert.MmDH2RmsRefIdeal.sig) → Buf (Elt Ideal) ℓ) : Prop :=
  True

def Pre_MmDH2RmsRefIdeal_finite_8 [hPre_finite_8 : Cert.Pre_finite_8.Facts] (m : (ℓ : Loc Cert.MmDH2RmsRefIdeal.nD Cert.MmDH2RmsRefIdeal.τ Cert.MmDH2RmsRefIdeal.sig) → Buf (Elt Ideal) ℓ) : Prop :=
  ∀ c : Dev Cert.MmDH2RmsRefIdeal.nD,
    (Cert.Pre_finite_8.fn (F := Ideal) (m ((c.tc : Thread Cert.MmDH2RmsRefIdeal.nD Cert.MmDH2RmsRefIdeal.τ).loc Cert.MmDH2RmsRefIdeal.main_arg0)) (m ((c.tc : Thread Cert.MmDH2RmsRefIdeal.nD Cert.MmDH2RmsRefIdeal.τ).loc Cert.MmDH2RmsRefIdeal.main_arg1)) (m ((c.tc : Thread Cert.MmDH2RmsRefIdeal.nD Cert.MmDH2RmsRefIdeal.τ).loc Cert.MmDH2RmsRefIdeal.main_arg2)) (m ((c.tc : Thread Cert.MmDH2RmsRefIdeal.nD Cert.MmDH2RmsRefIdeal.τ).loc Cert.MmDH2RmsRefIdeal.main_arg3)) (m ((c.tc : Thread Cert.MmDH2RmsRefIdeal.nD Cert.MmDH2RmsRefIdeal.τ).loc Cert.MmDH2RmsRefIdeal.main_arg4))) = (fun _ => 1#1)

def Pre_MmDownLoss (m : (ℓ : Loc Cert.MmDownLoss.nD Cert.MmDownLoss.τ Cert.MmDownLoss.sig) → Buf (Elt Bits) ℓ) : Prop :=
  True

def Pre_MmDownLossIdeal (m : (ℓ : Loc Cert.MmDownLossIdeal.nD Cert.MmDownLossIdeal.τ Cert.MmDownLossIdeal.sig) → Buf (Elt Ideal) ℓ) : Prop :=
  True

def Pre_MmDownLossIdeal_finite_9 [hPre_finite_9 : Cert.Pre_finite_9.Facts] (m : (ℓ : Loc Cert.MmDownLossIdeal.nD Cert.MmDownLossIdeal.τ Cert.MmDownLossIdeal.sig) → Buf (Elt Ideal) ℓ) : Prop :=
  ∀ c : Dev Cert.MmDownLossIdeal.nD,
    (Cert.Pre_finite_9.fn (F := Ideal) (m ((c.tc : Thread Cert.MmDownLossIdeal.nD Cert.MmDownLossIdeal.τ).loc Cert.MmDownLossIdeal.main_arg0)) (m ((c.tc : Thread Cert.MmDownLossIdeal.nD Cert.MmDownLossIdeal.τ).loc Cert.MmDownLossIdeal.main_arg1)) (m ((c.tc : Thread Cert.MmDownLossIdeal.nD Cert.MmDownLossIdeal.τ).loc Cert.MmDownLossIdeal.main_arg2)) (m ((c.tc : Thread Cert.MmDownLossIdeal.nD Cert.MmDownLossIdeal.τ).loc Cert.MmDownLossIdeal.main_arg3)) (m ((c.tc : Thread Cert.MmDownLossIdeal.nD Cert.MmDownLossIdeal.τ).loc Cert.MmDownLossIdeal.main_arg4))) = (fun _ => 1#1)

def Pre_MmDownLossRefIdeal (m : (ℓ : Loc Cert.MmDownLossRefIdeal.nD Cert.MmDownLossRefIdeal.τ Cert.MmDownLossRefIdeal.sig) → Buf (Elt Ideal) ℓ) : Prop :=
  True

def Pre_MmDownLossRefIdeal_finite_9 [hPre_finite_9 : Cert.Pre_finite_9.Facts] (m : (ℓ : Loc Cert.MmDownLossRefIdeal.nD Cert.MmDownLossRefIdeal.τ Cert.MmDownLossRefIdeal.sig) → Buf (Elt Ideal) ℓ) : Prop :=
  ∀ c : Dev Cert.MmDownLossRefIdeal.nD,
    (Cert.Pre_finite_9.fn (F := Ideal) (m ((c.tc : Thread Cert.MmDownLossRefIdeal.nD Cert.MmDownLossRefIdeal.τ).loc Cert.MmDownLossRefIdeal.main_arg0)) (m ((c.tc : Thread Cert.MmDownLossRefIdeal.nD Cert.MmDownLossRefIdeal.τ).loc Cert.MmDownLossRefIdeal.main_arg1)) (m ((c.tc : Thread Cert.MmDownLossRefIdeal.nD Cert.MmDownLossRefIdeal.τ).loc Cert.MmDownLossRefIdeal.main_arg2)) (m ((c.tc : Thread Cert.MmDownLossRefIdeal.nD Cert.MmDownLossRefIdeal.τ).loc Cert.MmDownLossRefIdeal.main_arg3)) (m ((c.tc : Thread Cert.MmDownLossRefIdeal.nD Cert.MmDownLossRefIdeal.τ).loc Cert.MmDownLossRefIdeal.main_arg4))) = (fun _ => 1#1)

def Pre_MmDWout (m : (ℓ : Loc Cert.MmDWout.nD Cert.MmDWout.τ Cert.MmDWout.sig) → Buf (Elt Bits) ℓ) : Prop :=
  True

def Pre_MmDWoutIdeal (m : (ℓ : Loc Cert.MmDWoutIdeal.nD Cert.MmDWoutIdeal.τ Cert.MmDWoutIdeal.sig) → Buf (Elt Ideal) ℓ) : Prop :=
  True

def Pre_MmDWoutRefIdeal (m : (ℓ : Loc Cert.MmDWoutRefIdeal.nD Cert.MmDWoutRefIdeal.τ Cert.MmDWoutRefIdeal.sig) → Buf (Elt Ideal) ℓ) : Prop :=
  True

def Pre_MmDWgp (m : (ℓ : Loc Cert.MmDWgp.nD Cert.MmDWgp.τ Cert.MmDWgp.sig) → Buf (Elt Bits) ℓ) : Prop :=
  True

def Pre_MmDWgpIdeal (m : (ℓ : Loc Cert.MmDWgpIdeal.nD Cert.MmDWgpIdeal.τ Cert.MmDWgpIdeal.sig) → Buf (Elt Ideal) ℓ) : Prop :=
  True

def Pre_MmDWgpRefIdeal (m : (ℓ : Loc Cert.MmDWgpRefIdeal.nD Cert.MmDWgpRefIdeal.τ Cert.MmDWgpRefIdeal.sig) → Buf (Elt Ideal) ℓ) : Prop :=
  True

def Pre_MmDPs (m : (ℓ : Loc Cert.MmDPs.nD Cert.MmDPs.τ Cert.MmDPs.sig) → Buf (Elt Bits) ℓ) : Prop :=
  True

def Pre_MmDPsIdeal (m : (ℓ : Loc Cert.MmDPsIdeal.nD Cert.MmDPsIdeal.τ Cert.MmDPsIdeal.sig) → Buf (Elt Ideal) ℓ) : Prop :=
  True

def Pre_MmDPsRefIdeal (m : (ℓ : Loc Cert.MmDPsRefIdeal.nD Cert.MmDPsRefIdeal.τ Cert.MmDPsRefIdeal.sig) → Buf (Elt Ideal) ℓ) : Prop :=
  True

def Pre_MmDWpp (m : (ℓ : Loc Cert.MmDWpp.nD Cert.MmDWpp.τ Cert.MmDWpp.sig) → Buf (Elt Bits) ℓ) : Prop :=
  True

def Pre_MmDWppIdeal (m : (ℓ : Loc Cert.MmDWppIdeal.nD Cert.MmDWppIdeal.τ Cert.MmDWppIdeal.sig) → Buf (Elt Ideal) ℓ) : Prop :=
  True

def Pre_MmDWppRefIdeal (m : (ℓ : Loc Cert.MmDWppRefIdeal.nD Cert.MmDWppRefIdeal.τ Cert.MmDWppRefIdeal.sig) → Buf (Elt Ideal) ℓ) : Prop :=
  True

def Pre_AdamSquare (m : (ℓ : Loc Cert.AdamSquare.nD Cert.AdamSquare.τ Cert.AdamSquare.sig) → Buf (Elt Bits) ℓ) : Prop :=
  True

def Pre_AdamSquareIdeal (m : (ℓ : Loc Cert.AdamSquareIdeal.nD Cert.AdamSquareIdeal.τ Cert.AdamSquareIdeal.sig) → Buf (Elt Ideal) ℓ) : Prop :=
  True

def Pre_AdamSquareRefIdeal (m : (ℓ : Loc Cert.AdamSquareRefIdeal.nD Cert.AdamSquareRefIdeal.τ Cert.AdamSquareRefIdeal.sig) → Buf (Elt Ideal) ℓ) : Prop :=
  True

def Pre_AdamPool (m : (ℓ : Loc Cert.AdamPool.nD Cert.AdamPool.τ Cert.AdamPool.sig) → Buf (Elt Bits) ℓ) : Prop :=
  True

def Pre_AdamPoolIdeal (m : (ℓ : Loc Cert.AdamPoolIdeal.nD Cert.AdamPoolIdeal.τ Cert.AdamPoolIdeal.sig) → Buf (Elt Ideal) ℓ) : Prop :=
  True

def Pre_AdamPoolRefIdeal (m : (ℓ : Loc Cert.AdamPoolRefIdeal.nD Cert.AdamPoolRefIdeal.τ Cert.AdamPoolRefIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownRefIdeal (m : (ℓ : Loc Cert.AdamDownRefIdeal.nD Cert.AdamDownRefIdeal.τ Cert.AdamDownRefIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpRefIdeal (m : (ℓ : Loc Cert.AdamUpRefIdeal.nD Cert.AdamUpRefIdeal.τ Cert.AdamUpRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_RmsMix (m : (ℓ : Loc Cert.RmsMix.nD Cert.RmsMix.τ Cert.RmsMix.sig) → Buf (Elt Bits) ℓ) : Prop :=
  True

def Pre_RmsMixIdeal (m : (ℓ : Loc Cert.RmsMixIdeal.nD Cert.RmsMixIdeal.τ Cert.RmsMixIdeal.sig) → Buf (Elt Ideal) ℓ) : Prop :=
  True

def Pre_RmsMixRefIdeal (m : (ℓ : Loc Cert.RmsMixRefIdeal.nD Cert.RmsMixRefIdeal.τ Cert.RmsMixRefIdeal.sig) → Buf (Elt Ideal) ℓ) : Prop :=
  True

def Pre_GkFwd (m : (ℓ : Loc Cert.GkFwd.nD Cert.GkFwd.τ Cert.GkFwd.sig) → Buf (Elt Bits) ℓ) : Prop :=
  True

def Pre_GkFwdIdeal (m : (ℓ : Loc Cert.GkFwdIdeal.nD Cert.GkFwdIdeal.τ Cert.GkFwdIdeal.sig) → Buf (Elt Ideal) ℓ) : Prop :=
  True

def Pre_GkFwdRefIdeal (m : (ℓ : Loc Cert.GkFwdRefIdeal.nD Cert.GkFwdRefIdeal.τ Cert.GkFwdRefIdeal.sig) → Buf (Elt Ideal) ℓ) : Prop :=
  True

def Pre_PairSum (m : (ℓ : Loc Cert.PairSum.nD Cert.PairSum.τ Cert.PairSum.sig) → Buf (Elt Bits) ℓ) : Prop :=
  True

def Pre_PairSumIdeal (m : (ℓ : Loc Cert.PairSumIdeal.nD Cert.PairSumIdeal.τ Cert.PairSumIdeal.sig) → Buf (Elt Ideal) ℓ) : Prop :=
  True

def Pre_PairSumRefIdeal (m : (ℓ : Loc Cert.PairSumRefIdeal.nD Cert.PairSumRefIdeal.τ Cert.PairSumRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_MmIn [hMmIn : Cert.MmIn.Facts] : Prop :=
  ∀ (m : (ℓ : Loc Cert.MmIn.nD Cert.MmIn.τ Cert.MmIn.sig) → Buf (Elt Bits) ℓ) (g : Dev Cert.MmIn.nD → PrngReg), Pre_MmIn m →
    θ_run (Cert.MmIn.defs (F := Bits)) (onTc (τ := Cert.MmIn.τ) (Cert.MmIn.main (F := Bits))) ⟨m, fun _ => 0, g⟩ (fun r => (∀ c : Dev Cert.MmIn.nD,
      r.2.mem ((c.tc : Thread Cert.MmIn.nD Cert.MmIn.τ).loc Cert.MmIn.main_arg0) = m ((c.tc : Thread Cert.MmIn.nD Cert.MmIn.τ).loc Cert.MmIn.main_arg0)
      ∧ r.2.mem ((c.tc : Thread Cert.MmIn.nD Cert.MmIn.τ).loc Cert.MmIn.main_arg1) = m ((c.tc : Thread Cert.MmIn.nD Cert.MmIn.τ).loc Cert.MmIn.main_arg1))
      ∧ r.2.sem = fun _ => 0)

def quiescent_MmInIdeal [hMmInIdeal : Cert.MmInIdeal.Facts] : Prop :=
  ∀ (m : (ℓ : Loc Cert.MmInIdeal.nD Cert.MmInIdeal.τ Cert.MmInIdeal.sig) → Buf (Elt Ideal) ℓ) (g : Dev Cert.MmInIdeal.nD → PrngReg), Pre_MmInIdeal m →
    θ_run (Cert.MmInIdeal.defs (F := Ideal)) (onTc (τ := Cert.MmInIdeal.τ) (Cert.MmInIdeal.main (F := Ideal))) ⟨m, fun _ => 0, g⟩ (fun r => (∀ c : Dev Cert.MmInIdeal.nD,
      r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
      ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ r.2.sem = fun _ => 0)

def quiescent_MmInRefIdeal [hMmInRefIdeal : Cert.MmInRefIdeal.Facts] : Prop :=
  ∀ (m : (ℓ : Loc Cert.MmInRefIdeal.nD Cert.MmInRefIdeal.τ Cert.MmInRefIdeal.sig) → Buf (Elt Ideal) ℓ) (g : Dev Cert.MmInRefIdeal.nD → PrngReg), Pre_MmInRefIdeal m →
    θ_run (Cert.MmInRefIdeal.defs (F := Ideal)) (onTc (τ := Cert.MmInRefIdeal.τ) (Cert.MmInRefIdeal.main (F := Ideal))) ⟨m, fun _ => 0, g⟩ (fun r => (∀ c : Dev Cert.MmInRefIdeal.nD,
      r.2.mem ((c.tc : Thread Cert.MmInRefIdeal.nD Cert.MmInRefIdeal.τ).loc Cert.MmInRefIdeal.main_arg0) = m ((c.tc : Thread Cert.MmInRefIdeal.nD Cert.MmInRefIdeal.τ).loc Cert.MmInRefIdeal.main_arg0)
      ∧ r.2.mem ((c.tc : Thread Cert.MmInRefIdeal.nD Cert.MmInRefIdeal.τ).loc Cert.MmInRefIdeal.main_arg1) = m ((c.tc : Thread Cert.MmInRefIdeal.nD Cert.MmInRefIdeal.τ).loc Cert.MmInRefIdeal.main_arg1))
      ∧ r.2.sem = fun _ => 0)

def quiescent_MmDWcat [hMmDWcat : Cert.MmDWcat.Facts] : Prop :=
  ∀ (m : (ℓ : Loc Cert.MmDWcat.nD Cert.MmDWcat.τ Cert.MmDWcat.sig) → Buf (Elt Bits) ℓ) (g : Dev Cert.MmDWcat.nD → PrngReg), Pre_MmDWcat m →
    θ_run (Cert.MmDWcat.defs (F := Bits)) (onTc (τ := Cert.MmDWcat.τ) (Cert.MmDWcat.main (F := Bits))) ⟨m, fun _ => 0, g⟩ (fun r => (∀ c : Dev Cert.MmDWcat.nD,
      r.2.mem ((c.tc : Thread Cert.MmDWcat.nD Cert.MmDWcat.τ).loc Cert.MmDWcat.main_arg0) = m ((c.tc : Thread Cert.MmDWcat.nD Cert.MmDWcat.τ).loc Cert.MmDWcat.main_arg0)
      ∧ r.2.mem ((c.tc : Thread Cert.MmDWcat.nD Cert.MmDWcat.τ).loc Cert.MmDWcat.main_arg1) = m ((c.tc : Thread Cert.MmDWcat.nD Cert.MmDWcat.τ).loc Cert.MmDWcat.main_arg1))
      ∧ r.2.sem = fun _ => 0)

def quiescent_MmDWcatIdeal [hMmDWcatIdeal : Cert.MmDWcatIdeal.Facts] : Prop :=
  ∀ (m : (ℓ : Loc Cert.MmDWcatIdeal.nD Cert.MmDWcatIdeal.τ Cert.MmDWcatIdeal.sig) → Buf (Elt Ideal) ℓ) (g : Dev Cert.MmDWcatIdeal.nD → PrngReg), Pre_MmDWcatIdeal m →
    θ_run (Cert.MmDWcatIdeal.defs (F := Ideal)) (onTc (τ := Cert.MmDWcatIdeal.τ) (Cert.MmDWcatIdeal.main (F := Ideal))) ⟨m, fun _ => 0, g⟩ (fun r => (∀ c : Dev Cert.MmDWcatIdeal.nD,
      r.2.mem ((c.tc : Thread Cert.MmDWcatIdeal.nD Cert.MmDWcatIdeal.τ).loc Cert.MmDWcatIdeal.main_arg0) = m ((c.tc : Thread Cert.MmDWcatIdeal.nD Cert.MmDWcatIdeal.τ).loc Cert.MmDWcatIdeal.main_arg0)
      ∧ r.2.mem ((c.tc : Thread Cert.MmDWcatIdeal.nD Cert.MmDWcatIdeal.τ).loc Cert.MmDWcatIdeal.main_arg1) = m ((c.tc : Thread Cert.MmDWcatIdeal.nD Cert.MmDWcatIdeal.τ).loc Cert.MmDWcatIdeal.main_arg1))
      ∧ r.2.sem = fun _ => 0)

def quiescent_MmDWcatRefIdeal [hMmDWcatRefIdeal : Cert.MmDWcatRefIdeal.Facts] : Prop :=
  ∀ (m : (ℓ : Loc Cert.MmDWcatRefIdeal.nD Cert.MmDWcatRefIdeal.τ Cert.MmDWcatRefIdeal.sig) → Buf (Elt Ideal) ℓ) (g : Dev Cert.MmDWcatRefIdeal.nD → PrngReg), Pre_MmDWcatRefIdeal m →
    θ_run (Cert.MmDWcatRefIdeal.defs (F := Ideal)) (onTc (τ := Cert.MmDWcatRefIdeal.τ) (Cert.MmDWcatRefIdeal.main (F := Ideal))) ⟨m, fun _ => 0, g⟩ (fun r => (∀ c : Dev Cert.MmDWcatRefIdeal.nD,
      r.2.mem ((c.tc : Thread Cert.MmDWcatRefIdeal.nD Cert.MmDWcatRefIdeal.τ).loc Cert.MmDWcatRefIdeal.main_arg0) = m ((c.tc : Thread Cert.MmDWcatRefIdeal.nD Cert.MmDWcatRefIdeal.τ).loc Cert.MmDWcatRefIdeal.main_arg0)
      ∧ r.2.mem ((c.tc : Thread Cert.MmDWcatRefIdeal.nD Cert.MmDWcatRefIdeal.τ).loc Cert.MmDWcatRefIdeal.main_arg1) = m ((c.tc : Thread Cert.MmDWcatRefIdeal.nD Cert.MmDWcatRefIdeal.τ).loc Cert.MmDWcatRefIdeal.main_arg1))
      ∧ r.2.sem = fun _ => 0)

def quiescent_MmDWup [hMmDWup : Cert.MmDWup.Facts] : Prop :=
  ∀ (m : (ℓ : Loc Cert.MmDWup.nD Cert.MmDWup.τ Cert.MmDWup.sig) → Buf (Elt Bits) ℓ) (g : Dev Cert.MmDWup.nD → PrngReg), Pre_MmDWup m →
    θ_run (Cert.MmDWup.defs (F := Bits)) (onTc (τ := Cert.MmDWup.τ) (Cert.MmDWup.main (F := Bits))) ⟨m, fun _ => 0, g⟩ (fun r => (∀ c : Dev Cert.MmDWup.nD,
      r.2.mem ((c.tc : Thread Cert.MmDWup.nD Cert.MmDWup.τ).loc Cert.MmDWup.main_arg0) = m ((c.tc : Thread Cert.MmDWup.nD Cert.MmDWup.τ).loc Cert.MmDWup.main_arg0)
      ∧ r.2.mem ((c.tc : Thread Cert.MmDWup.nD Cert.MmDWup.τ).loc Cert.MmDWup.main_arg1) = m ((c.tc : Thread Cert.MmDWup.nD Cert.MmDWup.τ).loc Cert.MmDWup.main_arg1))
      ∧ r.2.sem = fun _ => 0)

def quiescent_MmDWupIdeal [hMmDWupIdeal : Cert.MmDWupIdeal.Facts] : Prop :=
  ∀ (m : (ℓ : Loc Cert.MmDWupIdeal.nD Cert.MmDWupIdeal.τ Cert.MmDWupIdeal.sig) → Buf (Elt Ideal) ℓ) (g : Dev Cert.MmDWupIdeal.nD → PrngReg), Pre_MmDWupIdeal m →
    θ_run (Cert.MmDWupIdeal.defs (F := Ideal)) (onTc (τ := Cert.MmDWupIdeal.τ) (Cert.MmDWupIdeal.main (F := Ideal))) ⟨m, fun _ => 0, g⟩ (fun r => (∀ c : Dev Cert.MmDWupIdeal.nD,
      r.2.mem ((c.tc : Thread Cert.MmDWupIdeal.nD Cert.MmDWupIdeal.τ).loc Cert.MmDWupIdeal.main_arg0) = m ((c.tc : Thread Cert.MmDWupIdeal.nD Cert.MmDWupIdeal.τ).loc Cert.MmDWupIdeal.main_arg0)
      ∧ r.2.mem ((c.tc : Thread Cert.MmDWupIdeal.nD Cert.MmDWupIdeal.τ).loc Cert.MmDWupIdeal.main_arg1) = m ((c.tc : Thread Cert.MmDWupIdeal.nD Cert.MmDWupIdeal.τ).loc Cert.MmDWupIdeal.main_arg1))
      ∧ r.2.sem = fun _ => 0)

def quiescent_MmDWupRefIdeal [hMmDWupRefIdeal : Cert.MmDWupRefIdeal.Facts] : Prop :=
  ∀ (m : (ℓ : Loc Cert.MmDWupRefIdeal.nD Cert.MmDWupRefIdeal.τ Cert.MmDWupRefIdeal.sig) → Buf (Elt Ideal) ℓ) (g : Dev Cert.MmDWupRefIdeal.nD → PrngReg), Pre_MmDWupRefIdeal m →
    θ_run (Cert.MmDWupRefIdeal.defs (F := Ideal)) (onTc (τ := Cert.MmDWupRefIdeal.τ) (Cert.MmDWupRefIdeal.main (F := Ideal))) ⟨m, fun _ => 0, g⟩ (fun r => (∀ c : Dev Cert.MmDWupRefIdeal.nD,
      r.2.mem ((c.tc : Thread Cert.MmDWupRefIdeal.nD Cert.MmDWupRefIdeal.τ).loc Cert.MmDWupRefIdeal.main_arg0) = m ((c.tc : Thread Cert.MmDWupRefIdeal.nD Cert.MmDWupRefIdeal.τ).loc Cert.MmDWupRefIdeal.main_arg0)
      ∧ r.2.mem ((c.tc : Thread Cert.MmDWupRefIdeal.nD Cert.MmDWupRefIdeal.τ).loc Cert.MmDWupRefIdeal.main_arg1) = m ((c.tc : Thread Cert.MmDWupRefIdeal.nD Cert.MmDWupRefIdeal.τ).loc Cert.MmDWupRefIdeal.main_arg1))
      ∧ r.2.sem = fun _ => 0)

def quiescent_MmDAct [hMmDAct : Cert.MmDAct.Facts] : Prop :=
  ∀ (m : (ℓ : Loc Cert.MmDAct.nD Cert.MmDAct.τ Cert.MmDAct.sig) → Buf (Elt Bits) ℓ) (g : Dev Cert.MmDAct.nD → PrngReg), Pre_MmDAct m →
    θ_run (Cert.MmDAct.defs (F := Bits)) (onTc (τ := Cert.MmDAct.τ) (Cert.MmDAct.main (F := Bits))) ⟨m, fun _ => 0, g⟩ (fun r => (∀ c : Dev Cert.MmDAct.nD,
      r.2.mem ((c.tc : Thread Cert.MmDAct.nD Cert.MmDAct.τ).loc Cert.MmDAct.main_arg0) = m ((c.tc : Thread Cert.MmDAct.nD Cert.MmDAct.τ).loc Cert.MmDAct.main_arg0)
      ∧ r.2.mem ((c.tc : Thread Cert.MmDAct.nD Cert.MmDAct.τ).loc Cert.MmDAct.main_arg1) = m ((c.tc : Thread Cert.MmDAct.nD Cert.MmDAct.τ).loc Cert.MmDAct.main_arg1))
      ∧ r.2.sem = fun _ => 0)

def quiescent_MmDActIdeal [hMmDActIdeal : Cert.MmDActIdeal.Facts] : Prop :=
  ∀ (m : (ℓ : Loc Cert.MmDActIdeal.nD Cert.MmDActIdeal.τ Cert.MmDActIdeal.sig) → Buf (Elt Ideal) ℓ) (g : Dev Cert.MmDActIdeal.nD → PrngReg), Pre_MmDActIdeal m →
    θ_run (Cert.MmDActIdeal.defs (F := Ideal)) (onTc (τ := Cert.MmDActIdeal.τ) (Cert.MmDActIdeal.main (F := Ideal))) ⟨m, fun _ => 0, g⟩ (fun r => (∀ c : Dev Cert.MmDActIdeal.nD,
      r.2.mem ((c.tc : Thread Cert.MmDActIdeal.nD Cert.MmDActIdeal.τ).loc Cert.MmDActIdeal.main_arg0) = m ((c.tc : Thread Cert.MmDActIdeal.nD Cert.MmDActIdeal.τ).loc Cert.MmDActIdeal.main_arg0)
      ∧ r.2.mem ((c.tc : Thread Cert.MmDActIdeal.nD Cert.MmDActIdeal.τ).loc Cert.MmDActIdeal.main_arg1) = m ((c.tc : Thread Cert.MmDActIdeal.nD Cert.MmDActIdeal.τ).loc Cert.MmDActIdeal.main_arg1))
      ∧ r.2.sem = fun _ => 0)

def quiescent_MmDActRefIdeal [hMmDActRefIdeal : Cert.MmDActRefIdeal.Facts] : Prop :=
  ∀ (m : (ℓ : Loc Cert.MmDActRefIdeal.nD Cert.MmDActRefIdeal.τ Cert.MmDActRefIdeal.sig) → Buf (Elt Ideal) ℓ) (g : Dev Cert.MmDActRefIdeal.nD → PrngReg), Pre_MmDActRefIdeal m →
    θ_run (Cert.MmDActRefIdeal.defs (F := Ideal)) (onTc (τ := Cert.MmDActRefIdeal.τ) (Cert.MmDActRefIdeal.main (F := Ideal))) ⟨m, fun _ => 0, g⟩ (fun r => (∀ c : Dev Cert.MmDActRefIdeal.nD,
      r.2.mem ((c.tc : Thread Cert.MmDActRefIdeal.nD Cert.MmDActRefIdeal.τ).loc Cert.MmDActRefIdeal.main_arg0) = m ((c.tc : Thread Cert.MmDActRefIdeal.nD Cert.MmDActRefIdeal.τ).loc Cert.MmDActRefIdeal.main_arg0)
      ∧ r.2.mem ((c.tc : Thread Cert.MmDActRefIdeal.nD Cert.MmDActRefIdeal.τ).loc Cert.MmDActRefIdeal.main_arg1) = m ((c.tc : Thread Cert.MmDActRefIdeal.nD Cert.MmDActRefIdeal.τ).loc Cert.MmDActRefIdeal.main_arg1))
      ∧ r.2.sem = fun _ => 0)

def quiescent_MmDWdown [hMmDWdown : Cert.MmDWdown.Facts] : Prop :=
  ∀ (m : (ℓ : Loc Cert.MmDWdown.nD Cert.MmDWdown.τ Cert.MmDWdown.sig) → Buf (Elt Bits) ℓ) (g : Dev Cert.MmDWdown.nD → PrngReg), Pre_MmDWdown m →
    θ_run (Cert.MmDWdown.defs (F := Bits)) (onTc (τ := Cert.MmDWdown.τ) (Cert.MmDWdown.main (F := Bits))) ⟨m, fun _ => 0, g⟩ (fun r => (∀ c : Dev Cert.MmDWdown.nD,
      r.2.mem ((c.tc : Thread Cert.MmDWdown.nD Cert.MmDWdown.τ).loc Cert.MmDWdown.main_arg0) = m ((c.tc : Thread Cert.MmDWdown.nD Cert.MmDWdown.τ).loc Cert.MmDWdown.main_arg0)
      ∧ r.2.mem ((c.tc : Thread Cert.MmDWdown.nD Cert.MmDWdown.τ).loc Cert.MmDWdown.main_arg1) = m ((c.tc : Thread Cert.MmDWdown.nD Cert.MmDWdown.τ).loc Cert.MmDWdown.main_arg1))
      ∧ r.2.sem = fun _ => 0)

def quiescent_MmDWdownIdeal [hMmDWdownIdeal : Cert.MmDWdownIdeal.Facts] : Prop :=
  ∀ (m : (ℓ : Loc Cert.MmDWdownIdeal.nD Cert.MmDWdownIdeal.τ Cert.MmDWdownIdeal.sig) → Buf (Elt Ideal) ℓ) (g : Dev Cert.MmDWdownIdeal.nD → PrngReg), Pre_MmDWdownIdeal m →
    θ_run (Cert.MmDWdownIdeal.defs (F := Ideal)) (onTc (τ := Cert.MmDWdownIdeal.τ) (Cert.MmDWdownIdeal.main (F := Ideal))) ⟨m, fun _ => 0, g⟩ (fun r => (∀ c : Dev Cert.MmDWdownIdeal.nD,
      r.2.mem ((c.tc : Thread Cert.MmDWdownIdeal.nD Cert.MmDWdownIdeal.τ).loc Cert.MmDWdownIdeal.main_arg0) = m ((c.tc : Thread Cert.MmDWdownIdeal.nD Cert.MmDWdownIdeal.τ).loc Cert.MmDWdownIdeal.main_arg0)
      ∧ r.2.mem ((c.tc : Thread Cert.MmDWdownIdeal.nD Cert.MmDWdownIdeal.τ).loc Cert.MmDWdownIdeal.main_arg1) = m ((c.tc : Thread Cert.MmDWdownIdeal.nD Cert.MmDWdownIdeal.τ).loc Cert.MmDWdownIdeal.main_arg1))
      ∧ r.2.sem = fun _ => 0)

def quiescent_MmDWdownRefIdeal [hMmDWdownRefIdeal : Cert.MmDWdownRefIdeal.Facts] : Prop :=
  ∀ (m : (ℓ : Loc Cert.MmDWdownRefIdeal.nD Cert.MmDWdownRefIdeal.τ Cert.MmDWdownRefIdeal.sig) → Buf (Elt Ideal) ℓ) (g : Dev Cert.MmDWdownRefIdeal.nD → PrngReg), Pre_MmDWdownRefIdeal m →
    θ_run (Cert.MmDWdownRefIdeal.defs (F := Ideal)) (onTc (τ := Cert.MmDWdownRefIdeal.τ) (Cert.MmDWdownRefIdeal.main (F := Ideal))) ⟨m, fun _ => 0, g⟩ (fun r => (∀ c : Dev Cert.MmDWdownRefIdeal.nD,
      r.2.mem ((c.tc : Thread Cert.MmDWdownRefIdeal.nD Cert.MmDWdownRefIdeal.τ).loc Cert.MmDWdownRefIdeal.main_arg0) = m ((c.tc : Thread Cert.MmDWdownRefIdeal.nD Cert.MmDWdownRefIdeal.τ).loc Cert.MmDWdownRefIdeal.main_arg0)
      ∧ r.2.mem ((c.tc : Thread Cert.MmDWdownRefIdeal.nD Cert.MmDWdownRefIdeal.τ).loc Cert.MmDWdownRefIdeal.main_arg1) = m ((c.tc : Thread Cert.MmDWdownRefIdeal.nD Cert.MmDWdownRefIdeal.τ).loc Cert.MmDWdownRefIdeal.main_arg1))
      ∧ r.2.sem = fun _ => 0)

def quiescent_MmDHRms [hMmDHRms : Cert.MmDHRms.Facts] : Prop :=
  ∀ (m : (ℓ : Loc Cert.MmDHRms.nD Cert.MmDHRms.τ Cert.MmDHRms.sig) → Buf (Elt Bits) ℓ) (g : Dev Cert.MmDHRms.nD → PrngReg), Pre_MmDHRms m →
    θ_run (Cert.MmDHRms.defs (F := Bits)) (onTc (τ := Cert.MmDHRms.τ) (Cert.MmDHRms.main (F := Bits))) ⟨m, fun _ => 0, g⟩ (fun r => (∀ c : Dev Cert.MmDHRms.nD,
      r.2.mem ((c.tc : Thread Cert.MmDHRms.nD Cert.MmDHRms.τ).loc Cert.MmDHRms.main_arg0) = m ((c.tc : Thread Cert.MmDHRms.nD Cert.MmDHRms.τ).loc Cert.MmDHRms.main_arg0)
      ∧ r.2.mem ((c.tc : Thread Cert.MmDHRms.nD Cert.MmDHRms.τ).loc Cert.MmDHRms.main_arg1) = m ((c.tc : Thread Cert.MmDHRms.nD Cert.MmDHRms.τ).loc Cert.MmDHRms.main_arg1)
      ∧ r.2.mem ((c.tc : Thread Cert.MmDHRms.nD Cert.MmDHRms.τ).loc Cert.MmDHRms.main_arg2) = m ((c.tc : Thread Cert.MmDHRms.nD Cert.MmDHRms.τ).loc Cert.MmDHRms.main_arg2)
      ∧ r.2.mem ((c.tc : Thread Cert.MmDHRms.nD Cert.MmDHRms.τ).loc Cert.MmDHRms.main_arg3) = m ((c.tc : Thread Cert.MmDHRms.nD Cert.MmDHRms.τ).loc Cert.MmDHRms.main_arg3)
      ∧ r.2.mem ((c.tc : Thread Cert.MmDHRms.nD Cert.MmDHRms.τ).loc Cert.MmDHRms.main_arg4) = m ((c.tc : Thread Cert.MmDHRms.nD Cert.MmDHRms.τ).loc Cert.MmDHRms.main_arg4))
      ∧ r.2.sem = fun _ => 0)

def quiescent_MmDHRmsIdeal [hMmDHRmsIdeal : Cert.MmDHRmsIdeal.Facts] : Prop :=
  ∀ (m : (ℓ : Loc Cert.MmDHRmsIdeal.nD Cert.MmDHRmsIdeal.τ Cert.MmDHRmsIdeal.sig) → Buf (Elt Ideal) ℓ) (g : Dev Cert.MmDHRmsIdeal.nD → PrngReg), Pre_MmDHRmsIdeal m →
    θ_run (Cert.MmDHRmsIdeal.defs (F := Ideal)) (onTc (τ := Cert.MmDHRmsIdeal.τ) (Cert.MmDHRmsIdeal.main (F := Ideal))) ⟨m, fun _ => 0, g⟩ (fun r => (∀ c : Dev Cert.MmDHRmsIdeal.nD,
      r.2.mem ((c.tc : Thread Cert.MmDHRmsIdeal.nD Cert.MmDHRmsIdeal.τ).loc Cert.MmDHRmsIdeal.main_arg0) = m ((c.tc : Thread Cert.MmDHRmsIdeal.nD Cert.MmDHRmsIdeal.τ).loc Cert.MmDHRmsIdeal.main_arg0)
      ∧ r.2.mem ((c.tc : Thread Cert.MmDHRmsIdeal.nD Cert.MmDHRmsIdeal.τ).loc Cert.MmDHRmsIdeal.main_arg1) = m ((c.tc : Thread Cert.MmDHRmsIdeal.nD Cert.MmDHRmsIdeal.τ).loc Cert.MmDHRmsIdeal.main_arg1)
      ∧ r.2.mem ((c.tc : Thread Cert.MmDHRmsIdeal.nD Cert.MmDHRmsIdeal.τ).loc Cert.MmDHRmsIdeal.main_arg2) = m ((c.tc : Thread Cert.MmDHRmsIdeal.nD Cert.MmDHRmsIdeal.τ).loc Cert.MmDHRmsIdeal.main_arg2)
      ∧ r.2.mem ((c.tc : Thread Cert.MmDHRmsIdeal.nD Cert.MmDHRmsIdeal.τ).loc Cert.MmDHRmsIdeal.main_arg3) = m ((c.tc : Thread Cert.MmDHRmsIdeal.nD Cert.MmDHRmsIdeal.τ).loc Cert.MmDHRmsIdeal.main_arg3)
      ∧ r.2.mem ((c.tc : Thread Cert.MmDHRmsIdeal.nD Cert.MmDHRmsIdeal.τ).loc Cert.MmDHRmsIdeal.main_arg4) = m ((c.tc : Thread Cert.MmDHRmsIdeal.nD Cert.MmDHRmsIdeal.τ).loc Cert.MmDHRmsIdeal.main_arg4))
      ∧ r.2.sem = fun _ => 0)

def quiescent_MmDHRmsIdeal_pre_finite_7 [hMmDHRmsIdeal : Cert.MmDHRmsIdeal.Facts] [hPre_finite_7 : Cert.Pre_finite_7.Facts] : Prop :=
  ∀ (m : (ℓ : Loc Cert.MmDHRmsIdeal.nD Cert.MmDHRmsIdeal.τ Cert.MmDHRmsIdeal.sig) → Buf (Elt Ideal) ℓ) (g : Dev Cert.MmDHRmsIdeal.nD → PrngReg), Pre_MmDHRmsIdeal_finite_7 m →
    θ_run (Cert.MmDHRmsIdeal.defs (F := Ideal)) (onTc (τ := Cert.MmDHRmsIdeal.τ) (Cert.MmDHRmsIdeal.main (F := Ideal))) ⟨m, fun _ => 0, g⟩ (fun r => (∀ c : Dev Cert.MmDHRmsIdeal.nD,
      r.2.mem ((c.tc : Thread Cert.MmDHRmsIdeal.nD Cert.MmDHRmsIdeal.τ).loc Cert.MmDHRmsIdeal.main_arg0) = m ((c.tc : Thread Cert.MmDHRmsIdeal.nD Cert.MmDHRmsIdeal.τ).loc Cert.MmDHRmsIdeal.main_arg0)
      ∧ r.2.mem ((c.tc : Thread Cert.MmDHRmsIdeal.nD Cert.MmDHRmsIdeal.τ).loc Cert.MmDHRmsIdeal.main_arg1) = m ((c.tc : Thread Cert.MmDHRmsIdeal.nD Cert.MmDHRmsIdeal.τ).loc Cert.MmDHRmsIdeal.main_arg1)
      ∧ r.2.mem ((c.tc : Thread Cert.MmDHRmsIdeal.nD Cert.MmDHRmsIdeal.τ).loc Cert.MmDHRmsIdeal.main_arg2) = m ((c.tc : Thread Cert.MmDHRmsIdeal.nD Cert.MmDHRmsIdeal.τ).loc Cert.MmDHRmsIdeal.main_arg2)
      ∧ r.2.mem ((c.tc : Thread Cert.MmDHRmsIdeal.nD Cert.MmDHRmsIdeal.τ).loc Cert.MmDHRmsIdeal.main_arg3) = m ((c.tc : Thread Cert.MmDHRmsIdeal.nD Cert.MmDHRmsIdeal.τ).loc Cert.MmDHRmsIdeal.main_arg3)
      ∧ r.2.mem ((c.tc : Thread Cert.MmDHRmsIdeal.nD Cert.MmDHRmsIdeal.τ).loc Cert.MmDHRmsIdeal.main_arg4) = m ((c.tc : Thread Cert.MmDHRmsIdeal.nD Cert.MmDHRmsIdeal.τ).loc Cert.MmDHRmsIdeal.main_arg4))
      ∧ r.2.sem = fun _ => 0)

def quiescent_MmDHRmsRefIdeal [hMmDHRmsRefIdeal : Cert.MmDHRmsRefIdeal.Facts] : Prop :=
  ∀ (m : (ℓ : Loc Cert.MmDHRmsRefIdeal.nD Cert.MmDHRmsRefIdeal.τ Cert.MmDHRmsRefIdeal.sig) → Buf (Elt Ideal) ℓ) (g : Dev Cert.MmDHRmsRefIdeal.nD → PrngReg), Pre_MmDHRmsRefIdeal m →
    θ_run (Cert.MmDHRmsRefIdeal.defs (F := Ideal)) (onTc (τ := Cert.MmDHRmsRefIdeal.τ) (Cert.MmDHRmsRefIdeal.main (F := Ideal))) ⟨m, fun _ => 0, g⟩ (fun r => (∀ c : Dev Cert.MmDHRmsRefIdeal.nD,
      r.2.mem ((c.tc : Thread Cert.MmDHRmsRefIdeal.nD Cert.MmDHRmsRefIdeal.τ).loc Cert.MmDHRmsRefIdeal.main_arg0) = m ((c.tc : Thread Cert.MmDHRmsRefIdeal.nD Cert.MmDHRmsRefIdeal.τ).loc Cert.MmDHRmsRefIdeal.main_arg0)
      ∧ r.2.mem ((c.tc : Thread Cert.MmDHRmsRefIdeal.nD Cert.MmDHRmsRefIdeal.τ).loc Cert.MmDHRmsRefIdeal.main_arg1) = m ((c.tc : Thread Cert.MmDHRmsRefIdeal.nD Cert.MmDHRmsRefIdeal.τ).loc Cert.MmDHRmsRefIdeal.main_arg1)
      ∧ r.2.mem ((c.tc : Thread Cert.MmDHRmsRefIdeal.nD Cert.MmDHRmsRefIdeal.τ).loc Cert.MmDHRmsRefIdeal.main_arg2) = m ((c.tc : Thread Cert.MmDHRmsRefIdeal.nD Cert.MmDHRmsRefIdeal.τ).loc Cert.MmDHRmsRefIdeal.main_arg2)
      ∧ r.2.mem ((c.tc : Thread Cert.MmDHRmsRefIdeal.nD Cert.MmDHRmsRefIdeal.τ).loc Cert.MmDHRmsRefIdeal.main_arg3) = m ((c.tc : Thread Cert.MmDHRmsRefIdeal.nD Cert.MmDHRmsRefIdeal.τ).loc Cert.MmDHRmsRefIdeal.main_arg3)
      ∧ r.2.mem ((c.tc : Thread Cert.MmDHRmsRefIdeal.nD Cert.MmDHRmsRefIdeal.τ).loc Cert.MmDHRmsRefIdeal.main_arg4) = m ((c.tc : Thread Cert.MmDHRmsRefIdeal.nD Cert.MmDHRmsRefIdeal.τ).loc Cert.MmDHRmsRefIdeal.main_arg4))
      ∧ r.2.sem = fun _ => 0)

def quiescent_MmDHRmsRefIdeal_pre_finite_7 [hMmDHRmsRefIdeal : Cert.MmDHRmsRefIdeal.Facts] [hPre_finite_7 : Cert.Pre_finite_7.Facts] : Prop :=
  ∀ (m : (ℓ : Loc Cert.MmDHRmsRefIdeal.nD Cert.MmDHRmsRefIdeal.τ Cert.MmDHRmsRefIdeal.sig) → Buf (Elt Ideal) ℓ) (g : Dev Cert.MmDHRmsRefIdeal.nD → PrngReg), Pre_MmDHRmsRefIdeal_finite_7 m →
    θ_run (Cert.MmDHRmsRefIdeal.defs (F := Ideal)) (onTc (τ := Cert.MmDHRmsRefIdeal.τ) (Cert.MmDHRmsRefIdeal.main (F := Ideal))) ⟨m, fun _ => 0, g⟩ (fun r => (∀ c : Dev Cert.MmDHRmsRefIdeal.nD,
      r.2.mem ((c.tc : Thread Cert.MmDHRmsRefIdeal.nD Cert.MmDHRmsRefIdeal.τ).loc Cert.MmDHRmsRefIdeal.main_arg0) = m ((c.tc : Thread Cert.MmDHRmsRefIdeal.nD Cert.MmDHRmsRefIdeal.τ).loc Cert.MmDHRmsRefIdeal.main_arg0)
      ∧ r.2.mem ((c.tc : Thread Cert.MmDHRmsRefIdeal.nD Cert.MmDHRmsRefIdeal.τ).loc Cert.MmDHRmsRefIdeal.main_arg1) = m ((c.tc : Thread Cert.MmDHRmsRefIdeal.nD Cert.MmDHRmsRefIdeal.τ).loc Cert.MmDHRmsRefIdeal.main_arg1)
      ∧ r.2.mem ((c.tc : Thread Cert.MmDHRmsRefIdeal.nD Cert.MmDHRmsRefIdeal.τ).loc Cert.MmDHRmsRefIdeal.main_arg2) = m ((c.tc : Thread Cert.MmDHRmsRefIdeal.nD Cert.MmDHRmsRefIdeal.τ).loc Cert.MmDHRmsRefIdeal.main_arg2)
      ∧ r.2.mem ((c.tc : Thread Cert.MmDHRmsRefIdeal.nD Cert.MmDHRmsRefIdeal.τ).loc Cert.MmDHRmsRefIdeal.main_arg3) = m ((c.tc : Thread Cert.MmDHRmsRefIdeal.nD Cert.MmDHRmsRefIdeal.τ).loc Cert.MmDHRmsRefIdeal.main_arg3)
      ∧ r.2.mem ((c.tc : Thread Cert.MmDHRmsRefIdeal.nD Cert.MmDHRmsRefIdeal.τ).loc Cert.MmDHRmsRefIdeal.main_arg4) = m ((c.tc : Thread Cert.MmDHRmsRefIdeal.nD Cert.MmDHRmsRefIdeal.τ).loc Cert.MmDHRmsRefIdeal.main_arg4))
      ∧ r.2.sem = fun _ => 0)

def quiescent_MmDH2Rms [hMmDH2Rms : Cert.MmDH2Rms.Facts] : Prop :=
  ∀ (m : (ℓ : Loc Cert.MmDH2Rms.nD Cert.MmDH2Rms.τ Cert.MmDH2Rms.sig) → Buf (Elt Bits) ℓ) (g : Dev Cert.MmDH2Rms.nD → PrngReg), Pre_MmDH2Rms m →
    θ_run (Cert.MmDH2Rms.defs (F := Bits)) (onTc (τ := Cert.MmDH2Rms.τ) (Cert.MmDH2Rms.main (F := Bits))) ⟨m, fun _ => 0, g⟩ (fun r => (∀ c : Dev Cert.MmDH2Rms.nD,
      r.2.mem ((c.tc : Thread Cert.MmDH2Rms.nD Cert.MmDH2Rms.τ).loc Cert.MmDH2Rms.main_arg0) = m ((c.tc : Thread Cert.MmDH2Rms.nD Cert.MmDH2Rms.τ).loc Cert.MmDH2Rms.main_arg0)
      ∧ r.2.mem ((c.tc : Thread Cert.MmDH2Rms.nD Cert.MmDH2Rms.τ).loc Cert.MmDH2Rms.main_arg1) = m ((c.tc : Thread Cert.MmDH2Rms.nD Cert.MmDH2Rms.τ).loc Cert.MmDH2Rms.main_arg1)
      ∧ r.2.mem ((c.tc : Thread Cert.MmDH2Rms.nD Cert.MmDH2Rms.τ).loc Cert.MmDH2Rms.main_arg2) = m ((c.tc : Thread Cert.MmDH2Rms.nD Cert.MmDH2Rms.τ).loc Cert.MmDH2Rms.main_arg2)
      ∧ r.2.mem ((c.tc : Thread Cert.MmDH2Rms.nD Cert.MmDH2Rms.τ).loc Cert.MmDH2Rms.main_arg3) = m ((c.tc : Thread Cert.MmDH2Rms.nD Cert.MmDH2Rms.τ).loc Cert.MmDH2Rms.main_arg3)
      ∧ r.2.mem ((c.tc : Thread Cert.MmDH2Rms.nD Cert.MmDH2Rms.τ).loc Cert.MmDH2Rms.main_arg4) = m ((c.tc : Thread Cert.MmDH2Rms.nD Cert.MmDH2Rms.τ).loc Cert.MmDH2Rms.main_arg4))
      ∧ r.2.sem = fun _ => 0)

def quiescent_MmDH2RmsIdeal [hMmDH2RmsIdeal : Cert.MmDH2RmsIdeal.Facts] : Prop :=
  ∀ (m : (ℓ : Loc Cert.MmDH2RmsIdeal.nD Cert.MmDH2RmsIdeal.τ Cert.MmDH2RmsIdeal.sig) → Buf (Elt Ideal) ℓ) (g : Dev Cert.MmDH2RmsIdeal.nD → PrngReg), Pre_MmDH2RmsIdeal m →
    θ_run (Cert.MmDH2RmsIdeal.defs (F := Ideal)) (onTc (τ := Cert.MmDH2RmsIdeal.τ) (Cert.MmDH2RmsIdeal.main (F := Ideal))) ⟨m, fun _ => 0, g⟩ (fun r => (∀ c : Dev Cert.MmDH2RmsIdeal.nD,
      r.2.mem ((c.tc : Thread Cert.MmDH2RmsIdeal.nD Cert.MmDH2RmsIdeal.τ).loc Cert.MmDH2RmsIdeal.main_arg0) = m ((c.tc : Thread Cert.MmDH2RmsIdeal.nD Cert.MmDH2RmsIdeal.τ).loc Cert.MmDH2RmsIdeal.main_arg0)
      ∧ r.2.mem ((c.tc : Thread Cert.MmDH2RmsIdeal.nD Cert.MmDH2RmsIdeal.τ).loc Cert.MmDH2RmsIdeal.main_arg1) = m ((c.tc : Thread Cert.MmDH2RmsIdeal.nD Cert.MmDH2RmsIdeal.τ).loc Cert.MmDH2RmsIdeal.main_arg1)
      ∧ r.2.mem ((c.tc : Thread Cert.MmDH2RmsIdeal.nD Cert.MmDH2RmsIdeal.τ).loc Cert.MmDH2RmsIdeal.main_arg2) = m ((c.tc : Thread Cert.MmDH2RmsIdeal.nD Cert.MmDH2RmsIdeal.τ).loc Cert.MmDH2RmsIdeal.main_arg2)
      ∧ r.2.mem ((c.tc : Thread Cert.MmDH2RmsIdeal.nD Cert.MmDH2RmsIdeal.τ).loc Cert.MmDH2RmsIdeal.main_arg3) = m ((c.tc : Thread Cert.MmDH2RmsIdeal.nD Cert.MmDH2RmsIdeal.τ).loc Cert.MmDH2RmsIdeal.main_arg3)
      ∧ r.2.mem ((c.tc : Thread Cert.MmDH2RmsIdeal.nD Cert.MmDH2RmsIdeal.τ).loc Cert.MmDH2RmsIdeal.main_arg4) = m ((c.tc : Thread Cert.MmDH2RmsIdeal.nD Cert.MmDH2RmsIdeal.τ).loc Cert.MmDH2RmsIdeal.main_arg4))
      ∧ r.2.sem = fun _ => 0)

def quiescent_MmDH2RmsIdeal_pre_finite_8 [hMmDH2RmsIdeal : Cert.MmDH2RmsIdeal.Facts] [hPre_finite_8 : Cert.Pre_finite_8.Facts] : Prop :=
  ∀ (m : (ℓ : Loc Cert.MmDH2RmsIdeal.nD Cert.MmDH2RmsIdeal.τ Cert.MmDH2RmsIdeal.sig) → Buf (Elt Ideal) ℓ) (g : Dev Cert.MmDH2RmsIdeal.nD → PrngReg), Pre_MmDH2RmsIdeal_finite_8 m →
    θ_run (Cert.MmDH2RmsIdeal.defs (F := Ideal)) (onTc (τ := Cert.MmDH2RmsIdeal.τ) (Cert.MmDH2RmsIdeal.main (F := Ideal))) ⟨m, fun _ => 0, g⟩ (fun r => (∀ c : Dev Cert.MmDH2RmsIdeal.nD,
      r.2.mem ((c.tc : Thread Cert.MmDH2RmsIdeal.nD Cert.MmDH2RmsIdeal.τ).loc Cert.MmDH2RmsIdeal.main_arg0) = m ((c.tc : Thread Cert.MmDH2RmsIdeal.nD Cert.MmDH2RmsIdeal.τ).loc Cert.MmDH2RmsIdeal.main_arg0)
      ∧ r.2.mem ((c.tc : Thread Cert.MmDH2RmsIdeal.nD Cert.MmDH2RmsIdeal.τ).loc Cert.MmDH2RmsIdeal.main_arg1) = m ((c.tc : Thread Cert.MmDH2RmsIdeal.nD Cert.MmDH2RmsIdeal.τ).loc Cert.MmDH2RmsIdeal.main_arg1)
      ∧ r.2.mem ((c.tc : Thread Cert.MmDH2RmsIdeal.nD Cert.MmDH2RmsIdeal.τ).loc Cert.MmDH2RmsIdeal.main_arg2) = m ((c.tc : Thread Cert.MmDH2RmsIdeal.nD Cert.MmDH2RmsIdeal.τ).loc Cert.MmDH2RmsIdeal.main_arg2)
      ∧ r.2.mem ((c.tc : Thread Cert.MmDH2RmsIdeal.nD Cert.MmDH2RmsIdeal.τ).loc Cert.MmDH2RmsIdeal.main_arg3) = m ((c.tc : Thread Cert.MmDH2RmsIdeal.nD Cert.MmDH2RmsIdeal.τ).loc Cert.MmDH2RmsIdeal.main_arg3)
      ∧ r.2.mem ((c.tc : Thread Cert.MmDH2RmsIdeal.nD Cert.MmDH2RmsIdeal.τ).loc Cert.MmDH2RmsIdeal.main_arg4) = m ((c.tc : Thread Cert.MmDH2RmsIdeal.nD Cert.MmDH2RmsIdeal.τ).loc Cert.MmDH2RmsIdeal.main_arg4))
      ∧ r.2.sem = fun _ => 0)

def quiescent_MmDH2RmsRefIdeal [hMmDH2RmsRefIdeal : Cert.MmDH2RmsRefIdeal.Facts] : Prop :=
  ∀ (m : (ℓ : Loc Cert.MmDH2RmsRefIdeal.nD Cert.MmDH2RmsRefIdeal.τ Cert.MmDH2RmsRefIdeal.sig) → Buf (Elt Ideal) ℓ) (g : Dev Cert.MmDH2RmsRefIdeal.nD → PrngReg), Pre_MmDH2RmsRefIdeal m →
    θ_run (Cert.MmDH2RmsRefIdeal.defs (F := Ideal)) (onTc (τ := Cert.MmDH2RmsRefIdeal.τ) (Cert.MmDH2RmsRefIdeal.main (F := Ideal))) ⟨m, fun _ => 0, g⟩ (fun r => (∀ c : Dev Cert.MmDH2RmsRefIdeal.nD,
      r.2.mem ((c.tc : Thread Cert.MmDH2RmsRefIdeal.nD Cert.MmDH2RmsRefIdeal.τ).loc Cert.MmDH2RmsRefIdeal.main_arg0) = m ((c.tc : Thread Cert.MmDH2RmsRefIdeal.nD Cert.MmDH2RmsRefIdeal.τ).loc Cert.MmDH2RmsRefIdeal.main_arg0)
      ∧ r.2.mem ((c.tc : Thread Cert.MmDH2RmsRefIdeal.nD Cert.MmDH2RmsRefIdeal.τ).loc Cert.MmDH2RmsRefIdeal.main_arg1) = m ((c.tc : Thread Cert.MmDH2RmsRefIdeal.nD Cert.MmDH2RmsRefIdeal.τ).loc Cert.MmDH2RmsRefIdeal.main_arg1)
      ∧ r.2.mem ((c.tc : Thread Cert.MmDH2RmsRefIdeal.nD Cert.MmDH2RmsRefIdeal.τ).loc Cert.MmDH2RmsRefIdeal.main_arg2) = m ((c.tc : Thread Cert.MmDH2RmsRefIdeal.nD Cert.MmDH2RmsRefIdeal.τ).loc Cert.MmDH2RmsRefIdeal.main_arg2)
      ∧ r.2.mem ((c.tc : Thread Cert.MmDH2RmsRefIdeal.nD Cert.MmDH2RmsRefIdeal.τ).loc Cert.MmDH2RmsRefIdeal.main_arg3) = m ((c.tc : Thread Cert.MmDH2RmsRefIdeal.nD Cert.MmDH2RmsRefIdeal.τ).loc Cert.MmDH2RmsRefIdeal.main_arg3)
      ∧ r.2.mem ((c.tc : Thread Cert.MmDH2RmsRefIdeal.nD Cert.MmDH2RmsRefIdeal.τ).loc Cert.MmDH2RmsRefIdeal.main_arg4) = m ((c.tc : Thread Cert.MmDH2RmsRefIdeal.nD Cert.MmDH2RmsRefIdeal.τ).loc Cert.MmDH2RmsRefIdeal.main_arg4))
      ∧ r.2.sem = fun _ => 0)

def quiescent_MmDH2RmsRefIdeal_pre_finite_8 [hMmDH2RmsRefIdeal : Cert.MmDH2RmsRefIdeal.Facts] [hPre_finite_8 : Cert.Pre_finite_8.Facts] : Prop :=
  ∀ (m : (ℓ : Loc Cert.MmDH2RmsRefIdeal.nD Cert.MmDH2RmsRefIdeal.τ Cert.MmDH2RmsRefIdeal.sig) → Buf (Elt Ideal) ℓ) (g : Dev Cert.MmDH2RmsRefIdeal.nD → PrngReg), Pre_MmDH2RmsRefIdeal_finite_8 m →
    θ_run (Cert.MmDH2RmsRefIdeal.defs (F := Ideal)) (onTc (τ := Cert.MmDH2RmsRefIdeal.τ) (Cert.MmDH2RmsRefIdeal.main (F := Ideal))) ⟨m, fun _ => 0, g⟩ (fun r => (∀ c : Dev Cert.MmDH2RmsRefIdeal.nD,
      r.2.mem ((c.tc : Thread Cert.MmDH2RmsRefIdeal.nD Cert.MmDH2RmsRefIdeal.τ).loc Cert.MmDH2RmsRefIdeal.main_arg0) = m ((c.tc : Thread Cert.MmDH2RmsRefIdeal.nD Cert.MmDH2RmsRefIdeal.τ).loc Cert.MmDH2RmsRefIdeal.main_arg0)
      ∧ r.2.mem ((c.tc : Thread Cert.MmDH2RmsRefIdeal.nD Cert.MmDH2RmsRefIdeal.τ).loc Cert.MmDH2RmsRefIdeal.main_arg1) = m ((c.tc : Thread Cert.MmDH2RmsRefIdeal.nD Cert.MmDH2RmsRefIdeal.τ).loc Cert.MmDH2RmsRefIdeal.main_arg1)
      ∧ r.2.mem ((c.tc : Thread Cert.MmDH2RmsRefIdeal.nD Cert.MmDH2RmsRefIdeal.τ).loc Cert.MmDH2RmsRefIdeal.main_arg2) = m ((c.tc : Thread Cert.MmDH2RmsRefIdeal.nD Cert.MmDH2RmsRefIdeal.τ).loc Cert.MmDH2RmsRefIdeal.main_arg2)
      ∧ r.2.mem ((c.tc : Thread Cert.MmDH2RmsRefIdeal.nD Cert.MmDH2RmsRefIdeal.τ).loc Cert.MmDH2RmsRefIdeal.main_arg3) = m ((c.tc : Thread Cert.MmDH2RmsRefIdeal.nD Cert.MmDH2RmsRefIdeal.τ).loc Cert.MmDH2RmsRefIdeal.main_arg3)
      ∧ r.2.mem ((c.tc : Thread Cert.MmDH2RmsRefIdeal.nD Cert.MmDH2RmsRefIdeal.τ).loc Cert.MmDH2RmsRefIdeal.main_arg4) = m ((c.tc : Thread Cert.MmDH2RmsRefIdeal.nD Cert.MmDH2RmsRefIdeal.τ).loc Cert.MmDH2RmsRefIdeal.main_arg4))
      ∧ r.2.sem = fun _ => 0)

def quiescent_MmDownLoss [hMmDownLoss : Cert.MmDownLoss.Facts] : Prop :=
  ∀ (m : (ℓ : Loc Cert.MmDownLoss.nD Cert.MmDownLoss.τ Cert.MmDownLoss.sig) → Buf (Elt Bits) ℓ) (g : Dev Cert.MmDownLoss.nD → PrngReg), Pre_MmDownLoss m →
    θ_run (Cert.MmDownLoss.defs (F := Bits)) (onTc (τ := Cert.MmDownLoss.τ) (Cert.MmDownLoss.main (F := Bits))) ⟨m, fun _ => 0, g⟩ (fun r => (∀ c : Dev Cert.MmDownLoss.nD,
      r.2.mem ((c.tc : Thread Cert.MmDownLoss.nD Cert.MmDownLoss.τ).loc Cert.MmDownLoss.main_arg0) = m ((c.tc : Thread Cert.MmDownLoss.nD Cert.MmDownLoss.τ).loc Cert.MmDownLoss.main_arg0)
      ∧ r.2.mem ((c.tc : Thread Cert.MmDownLoss.nD Cert.MmDownLoss.τ).loc Cert.MmDownLoss.main_arg1) = m ((c.tc : Thread Cert.MmDownLoss.nD Cert.MmDownLoss.τ).loc Cert.MmDownLoss.main_arg1)
      ∧ r.2.mem ((c.tc : Thread Cert.MmDownLoss.nD Cert.MmDownLoss.τ).loc Cert.MmDownLoss.main_arg2) = m ((c.tc : Thread Cert.MmDownLoss.nD Cert.MmDownLoss.τ).loc Cert.MmDownLoss.main_arg2)
      ∧ r.2.mem ((c.tc : Thread Cert.MmDownLoss.nD Cert.MmDownLoss.τ).loc Cert.MmDownLoss.main_arg3) = m ((c.tc : Thread Cert.MmDownLoss.nD Cert.MmDownLoss.τ).loc Cert.MmDownLoss.main_arg3)
      ∧ r.2.mem ((c.tc : Thread Cert.MmDownLoss.nD Cert.MmDownLoss.τ).loc Cert.MmDownLoss.main_arg4) = m ((c.tc : Thread Cert.MmDownLoss.nD Cert.MmDownLoss.τ).loc Cert.MmDownLoss.main_arg4))
      ∧ r.2.sem = fun _ => 0)

def quiescent_MmDownLossIdeal [hMmDownLossIdeal : Cert.MmDownLossIdeal.Facts] : Prop :=
  ∀ (m : (ℓ : Loc Cert.MmDownLossIdeal.nD Cert.MmDownLossIdeal.τ Cert.MmDownLossIdeal.sig) → Buf (Elt Ideal) ℓ) (g : Dev Cert.MmDownLossIdeal.nD → PrngReg), Pre_MmDownLossIdeal m →
    θ_run (Cert.MmDownLossIdeal.defs (F := Ideal)) (onTc (τ := Cert.MmDownLossIdeal.τ) (Cert.MmDownLossIdeal.main (F := Ideal))) ⟨m, fun _ => 0, g⟩ (fun r => (∀ c : Dev Cert.MmDownLossIdeal.nD,
      r.2.mem ((c.tc : Thread Cert.MmDownLossIdeal.nD Cert.MmDownLossIdeal.τ).loc Cert.MmDownLossIdeal.main_arg0) = m ((c.tc : Thread Cert.MmDownLossIdeal.nD Cert.MmDownLossIdeal.τ).loc Cert.MmDownLossIdeal.main_arg0)
      ∧ r.2.mem ((c.tc : Thread Cert.MmDownLossIdeal.nD Cert.MmDownLossIdeal.τ).loc Cert.MmDownLossIdeal.main_arg1) = m ((c.tc : Thread Cert.MmDownLossIdeal.nD Cert.MmDownLossIdeal.τ).loc Cert.MmDownLossIdeal.main_arg1)
      ∧ r.2.mem ((c.tc : Thread Cert.MmDownLossIdeal.nD Cert.MmDownLossIdeal.τ).loc Cert.MmDownLossIdeal.main_arg2) = m ((c.tc : Thread Cert.MmDownLossIdeal.nD Cert.MmDownLossIdeal.τ).loc Cert.MmDownLossIdeal.main_arg2)
      ∧ r.2.mem ((c.tc : Thread Cert.MmDownLossIdeal.nD Cert.MmDownLossIdeal.τ).loc Cert.MmDownLossIdeal.main_arg3) = m ((c.tc : Thread Cert.MmDownLossIdeal.nD Cert.MmDownLossIdeal.τ).loc Cert.MmDownLossIdeal.main_arg3)
      ∧ r.2.mem ((c.tc : Thread Cert.MmDownLossIdeal.nD Cert.MmDownLossIdeal.τ).loc Cert.MmDownLossIdeal.main_arg4) = m ((c.tc : Thread Cert.MmDownLossIdeal.nD Cert.MmDownLossIdeal.τ).loc Cert.MmDownLossIdeal.main_arg4))
      ∧ r.2.sem = fun _ => 0)

def quiescent_MmDownLossIdeal_pre_finite_9 [hMmDownLossIdeal : Cert.MmDownLossIdeal.Facts] [hPre_finite_9 : Cert.Pre_finite_9.Facts] : Prop :=
  ∀ (m : (ℓ : Loc Cert.MmDownLossIdeal.nD Cert.MmDownLossIdeal.τ Cert.MmDownLossIdeal.sig) → Buf (Elt Ideal) ℓ) (g : Dev Cert.MmDownLossIdeal.nD → PrngReg), Pre_MmDownLossIdeal_finite_9 m →
    θ_run (Cert.MmDownLossIdeal.defs (F := Ideal)) (onTc (τ := Cert.MmDownLossIdeal.τ) (Cert.MmDownLossIdeal.main (F := Ideal))) ⟨m, fun _ => 0, g⟩ (fun r => (∀ c : Dev Cert.MmDownLossIdeal.nD,
      r.2.mem ((c.tc : Thread Cert.MmDownLossIdeal.nD Cert.MmDownLossIdeal.τ).loc Cert.MmDownLossIdeal.main_arg0) = m ((c.tc : Thread Cert.MmDownLossIdeal.nD Cert.MmDownLossIdeal.τ).loc Cert.MmDownLossIdeal.main_arg0)
      ∧ r.2.mem ((c.tc : Thread Cert.MmDownLossIdeal.nD Cert.MmDownLossIdeal.τ).loc Cert.MmDownLossIdeal.main_arg1) = m ((c.tc : Thread Cert.MmDownLossIdeal.nD Cert.MmDownLossIdeal.τ).loc Cert.MmDownLossIdeal.main_arg1)
      ∧ r.2.mem ((c.tc : Thread Cert.MmDownLossIdeal.nD Cert.MmDownLossIdeal.τ).loc Cert.MmDownLossIdeal.main_arg2) = m ((c.tc : Thread Cert.MmDownLossIdeal.nD Cert.MmDownLossIdeal.τ).loc Cert.MmDownLossIdeal.main_arg2)
      ∧ r.2.mem ((c.tc : Thread Cert.MmDownLossIdeal.nD Cert.MmDownLossIdeal.τ).loc Cert.MmDownLossIdeal.main_arg3) = m ((c.tc : Thread Cert.MmDownLossIdeal.nD Cert.MmDownLossIdeal.τ).loc Cert.MmDownLossIdeal.main_arg3)
      ∧ r.2.mem ((c.tc : Thread Cert.MmDownLossIdeal.nD Cert.MmDownLossIdeal.τ).loc Cert.MmDownLossIdeal.main_arg4) = m ((c.tc : Thread Cert.MmDownLossIdeal.nD Cert.MmDownLossIdeal.τ).loc Cert.MmDownLossIdeal.main_arg4))
      ∧ r.2.sem = fun _ => 0)

def quiescent_MmDownLossRefIdeal [hMmDownLossRefIdeal : Cert.MmDownLossRefIdeal.Facts] : Prop :=
  ∀ (m : (ℓ : Loc Cert.MmDownLossRefIdeal.nD Cert.MmDownLossRefIdeal.τ Cert.MmDownLossRefIdeal.sig) → Buf (Elt Ideal) ℓ) (g : Dev Cert.MmDownLossRefIdeal.nD → PrngReg), Pre_MmDownLossRefIdeal m →
    θ_run (Cert.MmDownLossRefIdeal.defs (F := Ideal)) (onTc (τ := Cert.MmDownLossRefIdeal.τ) (Cert.MmDownLossRefIdeal.main (F := Ideal))) ⟨m, fun _ => 0, g⟩ (fun r => (∀ c : Dev Cert.MmDownLossRefIdeal.nD,
      r.2.mem ((c.tc : Thread Cert.MmDownLossRefIdeal.nD Cert.MmDownLossRefIdeal.τ).loc Cert.MmDownLossRefIdeal.main_arg0) = m ((c.tc : Thread Cert.MmDownLossRefIdeal.nD Cert.MmDownLossRefIdeal.τ).loc Cert.MmDownLossRefIdeal.main_arg0)
      ∧ r.2.mem ((c.tc : Thread Cert.MmDownLossRefIdeal.nD Cert.MmDownLossRefIdeal.τ).loc Cert.MmDownLossRefIdeal.main_arg1) = m ((c.tc : Thread Cert.MmDownLossRefIdeal.nD Cert.MmDownLossRefIdeal.τ).loc Cert.MmDownLossRefIdeal.main_arg1)
      ∧ r.2.mem ((c.tc : Thread Cert.MmDownLossRefIdeal.nD Cert.MmDownLossRefIdeal.τ).loc Cert.MmDownLossRefIdeal.main_arg2) = m ((c.tc : Thread Cert.MmDownLossRefIdeal.nD Cert.MmDownLossRefIdeal.τ).loc Cert.MmDownLossRefIdeal.main_arg2)
      ∧ r.2.mem ((c.tc : Thread Cert.MmDownLossRefIdeal.nD Cert.MmDownLossRefIdeal.τ).loc Cert.MmDownLossRefIdeal.main_arg3) = m ((c.tc : Thread Cert.MmDownLossRefIdeal.nD Cert.MmDownLossRefIdeal.τ).loc Cert.MmDownLossRefIdeal.main_arg3)
      ∧ r.2.mem ((c.tc : Thread Cert.MmDownLossRefIdeal.nD Cert.MmDownLossRefIdeal.τ).loc Cert.MmDownLossRefIdeal.main_arg4) = m ((c.tc : Thread Cert.MmDownLossRefIdeal.nD Cert.MmDownLossRefIdeal.τ).loc Cert.MmDownLossRefIdeal.main_arg4))
      ∧ r.2.sem = fun _ => 0)

def quiescent_MmDownLossRefIdeal_pre_finite_9 [hMmDownLossRefIdeal : Cert.MmDownLossRefIdeal.Facts] [hPre_finite_9 : Cert.Pre_finite_9.Facts] : Prop :=
  ∀ (m : (ℓ : Loc Cert.MmDownLossRefIdeal.nD Cert.MmDownLossRefIdeal.τ Cert.MmDownLossRefIdeal.sig) → Buf (Elt Ideal) ℓ) (g : Dev Cert.MmDownLossRefIdeal.nD → PrngReg), Pre_MmDownLossRefIdeal_finite_9 m →
    θ_run (Cert.MmDownLossRefIdeal.defs (F := Ideal)) (onTc (τ := Cert.MmDownLossRefIdeal.τ) (Cert.MmDownLossRefIdeal.main (F := Ideal))) ⟨m, fun _ => 0, g⟩ (fun r => (∀ c : Dev Cert.MmDownLossRefIdeal.nD,
      r.2.mem ((c.tc : Thread Cert.MmDownLossRefIdeal.nD Cert.MmDownLossRefIdeal.τ).loc Cert.MmDownLossRefIdeal.main_arg0) = m ((c.tc : Thread Cert.MmDownLossRefIdeal.nD Cert.MmDownLossRefIdeal.τ).loc Cert.MmDownLossRefIdeal.main_arg0)
      ∧ r.2.mem ((c.tc : Thread Cert.MmDownLossRefIdeal.nD Cert.MmDownLossRefIdeal.τ).loc Cert.MmDownLossRefIdeal.main_arg1) = m ((c.tc : Thread Cert.MmDownLossRefIdeal.nD Cert.MmDownLossRefIdeal.τ).loc Cert.MmDownLossRefIdeal.main_arg1)
      ∧ r.2.mem ((c.tc : Thread Cert.MmDownLossRefIdeal.nD Cert.MmDownLossRefIdeal.τ).loc Cert.MmDownLossRefIdeal.main_arg2) = m ((c.tc : Thread Cert.MmDownLossRefIdeal.nD Cert.MmDownLossRefIdeal.τ).loc Cert.MmDownLossRefIdeal.main_arg2)
      ∧ r.2.mem ((c.tc : Thread Cert.MmDownLossRefIdeal.nD Cert.MmDownLossRefIdeal.τ).loc Cert.MmDownLossRefIdeal.main_arg3) = m ((c.tc : Thread Cert.MmDownLossRefIdeal.nD Cert.MmDownLossRefIdeal.τ).loc Cert.MmDownLossRefIdeal.main_arg3)
      ∧ r.2.mem ((c.tc : Thread Cert.MmDownLossRefIdeal.nD Cert.MmDownLossRefIdeal.τ).loc Cert.MmDownLossRefIdeal.main_arg4) = m ((c.tc : Thread Cert.MmDownLossRefIdeal.nD Cert.MmDownLossRefIdeal.τ).loc Cert.MmDownLossRefIdeal.main_arg4))
      ∧ r.2.sem = fun _ => 0)

def quiescent_MmDWout [hMmDWout : Cert.MmDWout.Facts] : Prop :=
  ∀ (m : (ℓ : Loc Cert.MmDWout.nD Cert.MmDWout.τ Cert.MmDWout.sig) → Buf (Elt Bits) ℓ) (g : Dev Cert.MmDWout.nD → PrngReg), Pre_MmDWout m →
    θ_run (Cert.MmDWout.defs (F := Bits)) (onTc (τ := Cert.MmDWout.τ) (Cert.MmDWout.main (F := Bits))) ⟨m, fun _ => 0, g⟩ (fun r => (∀ c : Dev Cert.MmDWout.nD,
      r.2.mem ((c.tc : Thread Cert.MmDWout.nD Cert.MmDWout.τ).loc Cert.MmDWout.main_arg0) = m ((c.tc : Thread Cert.MmDWout.nD Cert.MmDWout.τ).loc Cert.MmDWout.main_arg0)
      ∧ r.2.mem ((c.tc : Thread Cert.MmDWout.nD Cert.MmDWout.τ).loc Cert.MmDWout.main_arg1) = m ((c.tc : Thread Cert.MmDWout.nD Cert.MmDWout.τ).loc Cert.MmDWout.main_arg1))
      ∧ r.2.sem = fun _ => 0)

def quiescent_MmDWoutIdeal [hMmDWoutIdeal : Cert.MmDWoutIdeal.Facts] : Prop :=
  ∀ (m : (ℓ : Loc Cert.MmDWoutIdeal.nD Cert.MmDWoutIdeal.τ Cert.MmDWoutIdeal.sig) → Buf (Elt Ideal) ℓ) (g : Dev Cert.MmDWoutIdeal.nD → PrngReg), Pre_MmDWoutIdeal m →
    θ_run (Cert.MmDWoutIdeal.defs (F := Ideal)) (onTc (τ := Cert.MmDWoutIdeal.τ) (Cert.MmDWoutIdeal.main (F := Ideal))) ⟨m, fun _ => 0, g⟩ (fun r => (∀ c : Dev Cert.MmDWoutIdeal.nD,
      r.2.mem ((c.tc : Thread Cert.MmDWoutIdeal.nD Cert.MmDWoutIdeal.τ).loc Cert.MmDWoutIdeal.main_arg0) = m ((c.tc : Thread Cert.MmDWoutIdeal.nD Cert.MmDWoutIdeal.τ).loc Cert.MmDWoutIdeal.main_arg0)
      ∧ r.2.mem ((c.tc : Thread Cert.MmDWoutIdeal.nD Cert.MmDWoutIdeal.τ).loc Cert.MmDWoutIdeal.main_arg1) = m ((c.tc : Thread Cert.MmDWoutIdeal.nD Cert.MmDWoutIdeal.τ).loc Cert.MmDWoutIdeal.main_arg1))
      ∧ r.2.sem = fun _ => 0)

def quiescent_MmDWoutRefIdeal [hMmDWoutRefIdeal : Cert.MmDWoutRefIdeal.Facts] : Prop :=
  ∀ (m : (ℓ : Loc Cert.MmDWoutRefIdeal.nD Cert.MmDWoutRefIdeal.τ Cert.MmDWoutRefIdeal.sig) → Buf (Elt Ideal) ℓ) (g : Dev Cert.MmDWoutRefIdeal.nD → PrngReg), Pre_MmDWoutRefIdeal m →
    θ_run (Cert.MmDWoutRefIdeal.defs (F := Ideal)) (onTc (τ := Cert.MmDWoutRefIdeal.τ) (Cert.MmDWoutRefIdeal.main (F := Ideal))) ⟨m, fun _ => 0, g⟩ (fun r => (∀ c : Dev Cert.MmDWoutRefIdeal.nD,
      r.2.mem ((c.tc : Thread Cert.MmDWoutRefIdeal.nD Cert.MmDWoutRefIdeal.τ).loc Cert.MmDWoutRefIdeal.main_arg0) = m ((c.tc : Thread Cert.MmDWoutRefIdeal.nD Cert.MmDWoutRefIdeal.τ).loc Cert.MmDWoutRefIdeal.main_arg0)
      ∧ r.2.mem ((c.tc : Thread Cert.MmDWoutRefIdeal.nD Cert.MmDWoutRefIdeal.τ).loc Cert.MmDWoutRefIdeal.main_arg1) = m ((c.tc : Thread Cert.MmDWoutRefIdeal.nD Cert.MmDWoutRefIdeal.τ).loc Cert.MmDWoutRefIdeal.main_arg1))
      ∧ r.2.sem = fun _ => 0)

def quiescent_MmDWgp [hMmDWgp : Cert.MmDWgp.Facts] : Prop :=
  ∀ (m : (ℓ : Loc Cert.MmDWgp.nD Cert.MmDWgp.τ Cert.MmDWgp.sig) → Buf (Elt Bits) ℓ) (g : Dev Cert.MmDWgp.nD → PrngReg), Pre_MmDWgp m →
    θ_run (Cert.MmDWgp.defs (F := Bits)) (onTc (τ := Cert.MmDWgp.τ) (Cert.MmDWgp.main (F := Bits))) ⟨m, fun _ => 0, g⟩ (fun r => (∀ c : Dev Cert.MmDWgp.nD,
      r.2.mem ((c.tc : Thread Cert.MmDWgp.nD Cert.MmDWgp.τ).loc Cert.MmDWgp.main_arg0) = m ((c.tc : Thread Cert.MmDWgp.nD Cert.MmDWgp.τ).loc Cert.MmDWgp.main_arg0)
      ∧ r.2.mem ((c.tc : Thread Cert.MmDWgp.nD Cert.MmDWgp.τ).loc Cert.MmDWgp.main_arg1) = m ((c.tc : Thread Cert.MmDWgp.nD Cert.MmDWgp.τ).loc Cert.MmDWgp.main_arg1))
      ∧ r.2.sem = fun _ => 0)

def quiescent_MmDWgpIdeal [hMmDWgpIdeal : Cert.MmDWgpIdeal.Facts] : Prop :=
  ∀ (m : (ℓ : Loc Cert.MmDWgpIdeal.nD Cert.MmDWgpIdeal.τ Cert.MmDWgpIdeal.sig) → Buf (Elt Ideal) ℓ) (g : Dev Cert.MmDWgpIdeal.nD → PrngReg), Pre_MmDWgpIdeal m →
    θ_run (Cert.MmDWgpIdeal.defs (F := Ideal)) (onTc (τ := Cert.MmDWgpIdeal.τ) (Cert.MmDWgpIdeal.main (F := Ideal))) ⟨m, fun _ => 0, g⟩ (fun r => (∀ c : Dev Cert.MmDWgpIdeal.nD,
      r.2.mem ((c.tc : Thread Cert.MmDWgpIdeal.nD Cert.MmDWgpIdeal.τ).loc Cert.MmDWgpIdeal.main_arg0) = m ((c.tc : Thread Cert.MmDWgpIdeal.nD Cert.MmDWgpIdeal.τ).loc Cert.MmDWgpIdeal.main_arg0)
      ∧ r.2.mem ((c.tc : Thread Cert.MmDWgpIdeal.nD Cert.MmDWgpIdeal.τ).loc Cert.MmDWgpIdeal.main_arg1) = m ((c.tc : Thread Cert.MmDWgpIdeal.nD Cert.MmDWgpIdeal.τ).loc Cert.MmDWgpIdeal.main_arg1))
      ∧ r.2.sem = fun _ => 0)

def quiescent_MmDWgpRefIdeal [hMmDWgpRefIdeal : Cert.MmDWgpRefIdeal.Facts] : Prop :=
  ∀ (m : (ℓ : Loc Cert.MmDWgpRefIdeal.nD Cert.MmDWgpRefIdeal.τ Cert.MmDWgpRefIdeal.sig) → Buf (Elt Ideal) ℓ) (g : Dev Cert.MmDWgpRefIdeal.nD → PrngReg), Pre_MmDWgpRefIdeal m →
    θ_run (Cert.MmDWgpRefIdeal.defs (F := Ideal)) (onTc (τ := Cert.MmDWgpRefIdeal.τ) (Cert.MmDWgpRefIdeal.main (F := Ideal))) ⟨m, fun _ => 0, g⟩ (fun r => (∀ c : Dev Cert.MmDWgpRefIdeal.nD,
      r.2.mem ((c.tc : Thread Cert.MmDWgpRefIdeal.nD Cert.MmDWgpRefIdeal.τ).loc Cert.MmDWgpRefIdeal.main_arg0) = m ((c.tc : Thread Cert.MmDWgpRefIdeal.nD Cert.MmDWgpRefIdeal.τ).loc Cert.MmDWgpRefIdeal.main_arg0)
      ∧ r.2.mem ((c.tc : Thread Cert.MmDWgpRefIdeal.nD Cert.MmDWgpRefIdeal.τ).loc Cert.MmDWgpRefIdeal.main_arg1) = m ((c.tc : Thread Cert.MmDWgpRefIdeal.nD Cert.MmDWgpRefIdeal.τ).loc Cert.MmDWgpRefIdeal.main_arg1))
      ∧ r.2.sem = fun _ => 0)

def quiescent_MmDPs [hMmDPs : Cert.MmDPs.Facts] : Prop :=
  ∀ (m : (ℓ : Loc Cert.MmDPs.nD Cert.MmDPs.τ Cert.MmDPs.sig) → Buf (Elt Bits) ℓ) (g : Dev Cert.MmDPs.nD → PrngReg), Pre_MmDPs m →
    θ_run (Cert.MmDPs.defs (F := Bits)) (onTc (τ := Cert.MmDPs.τ) (Cert.MmDPs.main (F := Bits))) ⟨m, fun _ => 0, g⟩ (fun r => (∀ c : Dev Cert.MmDPs.nD,
      r.2.mem ((c.tc : Thread Cert.MmDPs.nD Cert.MmDPs.τ).loc Cert.MmDPs.main_arg0) = m ((c.tc : Thread Cert.MmDPs.nD Cert.MmDPs.τ).loc Cert.MmDPs.main_arg0)
      ∧ r.2.mem ((c.tc : Thread Cert.MmDPs.nD Cert.MmDPs.τ).loc Cert.MmDPs.main_arg1) = m ((c.tc : Thread Cert.MmDPs.nD Cert.MmDPs.τ).loc Cert.MmDPs.main_arg1))
      ∧ r.2.sem = fun _ => 0)

def quiescent_MmDPsIdeal [hMmDPsIdeal : Cert.MmDPsIdeal.Facts] : Prop :=
  ∀ (m : (ℓ : Loc Cert.MmDPsIdeal.nD Cert.MmDPsIdeal.τ Cert.MmDPsIdeal.sig) → Buf (Elt Ideal) ℓ) (g : Dev Cert.MmDPsIdeal.nD → PrngReg), Pre_MmDPsIdeal m →
    θ_run (Cert.MmDPsIdeal.defs (F := Ideal)) (onTc (τ := Cert.MmDPsIdeal.τ) (Cert.MmDPsIdeal.main (F := Ideal))) ⟨m, fun _ => 0, g⟩ (fun r => (∀ c : Dev Cert.MmDPsIdeal.nD,
      r.2.mem ((c.tc : Thread Cert.MmDPsIdeal.nD Cert.MmDPsIdeal.τ).loc Cert.MmDPsIdeal.main_arg0) = m ((c.tc : Thread Cert.MmDPsIdeal.nD Cert.MmDPsIdeal.τ).loc Cert.MmDPsIdeal.main_arg0)
      ∧ r.2.mem ((c.tc : Thread Cert.MmDPsIdeal.nD Cert.MmDPsIdeal.τ).loc Cert.MmDPsIdeal.main_arg1) = m ((c.tc : Thread Cert.MmDPsIdeal.nD Cert.MmDPsIdeal.τ).loc Cert.MmDPsIdeal.main_arg1))
      ∧ r.2.sem = fun _ => 0)

def quiescent_MmDPsRefIdeal [hMmDPsRefIdeal : Cert.MmDPsRefIdeal.Facts] : Prop :=
  ∀ (m : (ℓ : Loc Cert.MmDPsRefIdeal.nD Cert.MmDPsRefIdeal.τ Cert.MmDPsRefIdeal.sig) → Buf (Elt Ideal) ℓ) (g : Dev Cert.MmDPsRefIdeal.nD → PrngReg), Pre_MmDPsRefIdeal m →
    θ_run (Cert.MmDPsRefIdeal.defs (F := Ideal)) (onTc (τ := Cert.MmDPsRefIdeal.τ) (Cert.MmDPsRefIdeal.main (F := Ideal))) ⟨m, fun _ => 0, g⟩ (fun r => (∀ c : Dev Cert.MmDPsRefIdeal.nD,
      r.2.mem ((c.tc : Thread Cert.MmDPsRefIdeal.nD Cert.MmDPsRefIdeal.τ).loc Cert.MmDPsRefIdeal.main_arg0) = m ((c.tc : Thread Cert.MmDPsRefIdeal.nD Cert.MmDPsRefIdeal.τ).loc Cert.MmDPsRefIdeal.main_arg0)
      ∧ r.2.mem ((c.tc : Thread Cert.MmDPsRefIdeal.nD Cert.MmDPsRefIdeal.τ).loc Cert.MmDPsRefIdeal.main_arg1) = m ((c.tc : Thread Cert.MmDPsRefIdeal.nD Cert.MmDPsRefIdeal.τ).loc Cert.MmDPsRefIdeal.main_arg1))
      ∧ r.2.sem = fun _ => 0)

def quiescent_MmDWpp [hMmDWpp : Cert.MmDWpp.Facts] : Prop :=
  ∀ (m : (ℓ : Loc Cert.MmDWpp.nD Cert.MmDWpp.τ Cert.MmDWpp.sig) → Buf (Elt Bits) ℓ) (g : Dev Cert.MmDWpp.nD → PrngReg), Pre_MmDWpp m →
    θ_run (Cert.MmDWpp.defs (F := Bits)) (onTc (τ := Cert.MmDWpp.τ) (Cert.MmDWpp.main (F := Bits))) ⟨m, fun _ => 0, g⟩ (fun r => (∀ c : Dev Cert.MmDWpp.nD,
      r.2.mem ((c.tc : Thread Cert.MmDWpp.nD Cert.MmDWpp.τ).loc Cert.MmDWpp.main_arg0) = m ((c.tc : Thread Cert.MmDWpp.nD Cert.MmDWpp.τ).loc Cert.MmDWpp.main_arg0)
      ∧ r.2.mem ((c.tc : Thread Cert.MmDWpp.nD Cert.MmDWpp.τ).loc Cert.MmDWpp.main_arg1) = m ((c.tc : Thread Cert.MmDWpp.nD Cert.MmDWpp.τ).loc Cert.MmDWpp.main_arg1))
      ∧ r.2.sem = fun _ => 0)

def quiescent_MmDWppIdeal [hMmDWppIdeal : Cert.MmDWppIdeal.Facts] : Prop :=
  ∀ (m : (ℓ : Loc Cert.MmDWppIdeal.nD Cert.MmDWppIdeal.τ Cert.MmDWppIdeal.sig) → Buf (Elt Ideal) ℓ) (g : Dev Cert.MmDWppIdeal.nD → PrngReg), Pre_MmDWppIdeal m →
    θ_run (Cert.MmDWppIdeal.defs (F := Ideal)) (onTc (τ := Cert.MmDWppIdeal.τ) (Cert.MmDWppIdeal.main (F := Ideal))) ⟨m, fun _ => 0, g⟩ (fun r => (∀ c : Dev Cert.MmDWppIdeal.nD,
      r.2.mem ((c.tc : Thread Cert.MmDWppIdeal.nD Cert.MmDWppIdeal.τ).loc Cert.MmDWppIdeal.main_arg0) = m ((c.tc : Thread Cert.MmDWppIdeal.nD Cert.MmDWppIdeal.τ).loc Cert.MmDWppIdeal.main_arg0)
      ∧ r.2.mem ((c.tc : Thread Cert.MmDWppIdeal.nD Cert.MmDWppIdeal.τ).loc Cert.MmDWppIdeal.main_arg1) = m ((c.tc : Thread Cert.MmDWppIdeal.nD Cert.MmDWppIdeal.τ).loc Cert.MmDWppIdeal.main_arg1))
      ∧ r.2.sem = fun _ => 0)

def quiescent_MmDWppRefIdeal [hMmDWppRefIdeal : Cert.MmDWppRefIdeal.Facts] : Prop :=
  ∀ (m : (ℓ : Loc Cert.MmDWppRefIdeal.nD Cert.MmDWppRefIdeal.τ Cert.MmDWppRefIdeal.sig) → Buf (Elt Ideal) ℓ) (g : Dev Cert.MmDWppRefIdeal.nD → PrngReg), Pre_MmDWppRefIdeal m →
    θ_run (Cert.MmDWppRefIdeal.defs (F := Ideal)) (onTc (τ := Cert.MmDWppRefIdeal.τ) (Cert.MmDWppRefIdeal.main (F := Ideal))) ⟨m, fun _ => 0, g⟩ (fun r => (∀ c : Dev Cert.MmDWppRefIdeal.nD,
      r.2.mem ((c.tc : Thread Cert.MmDWppRefIdeal.nD Cert.MmDWppRefIdeal.τ).loc Cert.MmDWppRefIdeal.main_arg0) = m ((c.tc : Thread Cert.MmDWppRefIdeal.nD Cert.MmDWppRefIdeal.τ).loc Cert.MmDWppRefIdeal.main_arg0)
      ∧ r.2.mem ((c.tc : Thread Cert.MmDWppRefIdeal.nD Cert.MmDWppRefIdeal.τ).loc Cert.MmDWppRefIdeal.main_arg1) = m ((c.tc : Thread Cert.MmDWppRefIdeal.nD Cert.MmDWppRefIdeal.τ).loc Cert.MmDWppRefIdeal.main_arg1))
      ∧ r.2.sem = fun _ => 0)

def quiescent_AdamSquare [hAdamSquare : Cert.AdamSquare.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3)
      ∧ r.2.mem ((c.tc : Thread Cert.AdamSquare.nD Cert.AdamSquare.τ).loc Cert.AdamSquare.main_arg4) = m ((c.tc : Thread Cert.AdamSquare.nD Cert.AdamSquare.τ).loc Cert.AdamSquare.main_arg4))
      ∧ r.2.sem = fun _ => 0)

def quiescent_AdamSquareIdeal [hAdamSquareIdeal : Cert.AdamSquareIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3)
      ∧ r.2.mem ((c.tc : Thread Cert.AdamSquareIdeal.nD Cert.AdamSquareIdeal.τ).loc Cert.AdamSquareIdeal.main_arg4) = m ((c.tc : Thread Cert.AdamSquareIdeal.nD Cert.AdamSquareIdeal.τ).loc Cert.AdamSquareIdeal.main_arg4))
      ∧ r.2.sem = fun _ => 0)

def quiescent_AdamSquareRefIdeal [hAdamSquareRefIdeal : Cert.AdamSquareRefIdeal.Facts] : Prop :=
  ∀ (m : (ℓ : Loc Cert.AdamSquareRefIdeal.nD Cert.AdamSquareRefIdeal.τ Cert.AdamSquareRefIdeal.sig) → Buf (Elt Ideal) ℓ) (g : Dev Cert.AdamSquareRefIdeal.nD → PrngReg), Pre_AdamSquareRefIdeal m →
    θ_run (Cert.AdamSquareRefIdeal.defs (F := Ideal)) (onTc (τ := Cert.AdamSquareRefIdeal.τ) (Cert.AdamSquareRefIdeal.main (F := Ideal))) ⟨m, fun _ => 0, g⟩ (fun r => (∀ c : Dev Cert.AdamSquareRefIdeal.nD,
      r.2.mem ((c.tc : Thread Cert.AdamSquareRefIdeal.nD Cert.AdamSquareRefIdeal.τ).loc Cert.AdamSquareRefIdeal.main_arg0) = m ((c.tc : Thread Cert.AdamSquareRefIdeal.nD Cert.AdamSquareRefIdeal.τ).loc Cert.AdamSquareRefIdeal.main_arg0)
      ∧ r.2.mem ((c.tc : Thread Cert.AdamSquareRefIdeal.nD Cert.AdamSquareRefIdeal.τ).loc Cert.AdamSquareRefIdeal.main_arg1) = m ((c.tc : Thread Cert.AdamSquareRefIdeal.nD Cert.AdamSquareRefIdeal.τ).loc Cert.AdamSquareRefIdeal.main_arg1)
      ∧ r.2.mem ((c.tc : Thread Cert.AdamSquareRefIdeal.nD Cert.AdamSquareRefIdeal.τ).loc Cert.AdamSquareRefIdeal.main_arg2) = m ((c.tc : Thread Cert.AdamSquareRefIdeal.nD Cert.AdamSquareRefIdeal.τ).loc Cert.AdamSquareRefIdeal.main_arg2)
      ∧ r.2.mem ((c.tc : Thread Cert.AdamSquareRefIdeal.nD Cert.AdamSquareRefIdeal.τ).loc Cert.AdamSquareRefIdeal.main_arg3) = m ((c.tc : Thread Cert.AdamSquareRefIdeal.nD Cert.AdamSquareRefIdeal.τ).loc Cert.AdamSquareRefIdeal.main_arg3)
      ∧ r.2.mem ((c.tc : Thread Cert.AdamSquareRefIdeal.nD Cert.AdamSquareRefIdeal.τ).loc Cert.AdamSquareRefIdeal.main_arg4) = m ((c.tc : Thread Cert.AdamSquareRefIdeal.nD Cert.AdamSquareRefIdeal.τ).loc Cert.AdamSquareRefIdeal.main_arg4))
      ∧ r.2.sem = fun _ => 0)

def quiescent_AdamPool [hAdamPool : Cert.AdamPool.Facts] : Prop :=
  ∀ (m : (ℓ : Loc Cert.AdamPool.nD Cert.AdamPool.τ Cert.AdamPool.sig) → Buf (Elt Bits) ℓ) (g : Dev Cert.AdamPool.nD → PrngReg), Pre_AdamPool m →
    θ_run (Cert.AdamPool.defs (F := Bits)) (onTc (τ := Cert.AdamPool.τ) (Cert.AdamPool.main (F := Bits))) ⟨m, fun _ => 0, g⟩ (fun r => (∀ c : Dev Cert.AdamPool.nD,
      r.2.mem ((c.tc : Thread Cert.AdamPool.nD Cert.AdamPool.τ).loc Cert.AdamPool.main_arg0) = m ((c.tc : Thread Cert.AdamPool.nD Cert.AdamPool.τ).loc Cert.AdamPool.main_arg0)
      ∧ r.2.mem ((c.tc : Thread Cert.AdamPool.nD Cert.AdamPool.τ).loc Cert.AdamPool.main_arg1) = m ((c.tc : Thread Cert.AdamPool.nD Cert.AdamPool.τ).loc Cert.AdamPool.main_arg1)
      ∧ r.2.mem ((c.tc : Thread Cert.AdamPool.nD Cert.AdamPool.τ).loc Cert.AdamPool.main_arg2) = m ((c.tc : Thread Cert.AdamPool.nD Cert.AdamPool.τ).loc Cert.AdamPool.main_arg2)
      ∧ r.2.mem ((c.tc : Thread Cert.AdamPool.nD Cert.AdamPool.τ).loc Cert.AdamPool.main_arg3) = m ((c.tc : Thread Cert.AdamPool.nD Cert.AdamPool.τ).loc Cert.AdamPool.main_arg3)
      ∧ r.2.mem ((c.tc : Thread Cert.AdamPool.nD Cert.AdamPool.τ).loc Cert.AdamPool.main_arg4) = m ((c.tc : Thread Cert.AdamPool.nD Cert.AdamPool.τ).loc Cert.AdamPool.main_arg4))
      ∧ r.2.sem = fun _ => 0)

def quiescent_AdamPoolIdeal [hAdamPoolIdeal : Cert.AdamPoolIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg), Pre_AdamPoolIdeal m →
    θ_run (Cert.AdamPoolIdeal.defs (F := Ideal)) (onTc (τ := Cert.AdamPoolIdeal.τ) (Cert.AdamPoolIdeal.main (F := Ideal))) ⟨m, fun _ => 0, g⟩ (fun r => (∀ c : Dev Cert.AdamPoolIdeal.nD,
      r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
      ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
      ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
      ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3)
      ∧ r.2.mem ((c.tc : Thread Cert.AdamPoolIdeal.nD Cert.AdamPoolIdeal.τ).loc Cert.AdamPoolIdeal.main_arg4) = m ((c.tc : Thread Cert.AdamPoolIdeal.nD Cert.AdamPoolIdeal.τ).loc Cert.AdamPoolIdeal.main_arg4))
      ∧ r.2.sem = fun _ => 0)

def quiescent_AdamPoolRefIdeal [hAdamPoolRefIdeal : Cert.AdamPoolRefIdeal.Facts] : Prop :=
  ∀ (m : (ℓ : Loc Cert.AdamPoolRefIdeal.nD Cert.AdamPoolRefIdeal.τ Cert.AdamPoolRefIdeal.sig) → Buf (Elt Ideal) ℓ) (g : Dev Cert.AdamPoolRefIdeal.nD → PrngReg), Pre_AdamPoolRefIdeal m →
    θ_run (Cert.AdamPoolRefIdeal.defs (F := Ideal)) (onTc (τ := Cert.AdamPoolRefIdeal.τ) (Cert.AdamPoolRefIdeal.main (F := Ideal))) ⟨m, fun _ => 0, g⟩ (fun r => (∀ c : Dev Cert.AdamPoolRefIdeal.nD,
      r.2.mem ((c.tc : Thread Cert.AdamPoolRefIdeal.nD Cert.AdamPoolRefIdeal.τ).loc Cert.AdamPoolRefIdeal.main_arg0) = m ((c.tc : Thread Cert.AdamPoolRefIdeal.nD Cert.AdamPoolRefIdeal.τ).loc Cert.AdamPoolRefIdeal.main_arg0)
      ∧ r.2.mem ((c.tc : Thread Cert.AdamPoolRefIdeal.nD Cert.AdamPoolRefIdeal.τ).loc Cert.AdamPoolRefIdeal.main_arg1) = m ((c.tc : Thread Cert.AdamPoolRefIdeal.nD Cert.AdamPoolRefIdeal.τ).loc Cert.AdamPoolRefIdeal.main_arg1)
      ∧ r.2.mem ((c.tc : Thread Cert.AdamPoolRefIdeal.nD Cert.AdamPoolRefIdeal.τ).loc Cert.AdamPoolRefIdeal.main_arg2) = m ((c.tc : Thread Cert.AdamPoolRefIdeal.nD Cert.AdamPoolRefIdeal.τ).loc Cert.AdamPoolRefIdeal.main_arg2)
      ∧ r.2.mem ((c.tc : Thread Cert.AdamPoolRefIdeal.nD Cert.AdamPoolRefIdeal.τ).loc Cert.AdamPoolRefIdeal.main_arg3) = m ((c.tc : Thread Cert.AdamPoolRefIdeal.nD Cert.AdamPoolRefIdeal.τ).loc Cert.AdamPoolRefIdeal.main_arg3)
      ∧ r.2.mem ((c.tc : Thread Cert.AdamPoolRefIdeal.nD Cert.AdamPoolRefIdeal.τ).loc Cert.AdamPoolRefIdeal.main_arg4) = m ((c.tc : Thread Cert.AdamPoolRefIdeal.nD Cert.AdamPoolRefIdeal.τ).loc Cert.AdamPoolRefIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownRefIdeal [hAdamDownRefIdeal : Cert.AdamDownRefIdeal.Facts] : Prop :=
  ∀ (m : (ℓ : Loc Cert.AdamDownRefIdeal.nD Cert.AdamDownRefIdeal.τ Cert.AdamDownRefIdeal.sig) → Buf (Elt Ideal) ℓ) (g : Dev Cert.AdamDownRefIdeal.nD → PrngReg), Pre_AdamDownRefIdeal m →
    θ_run (Cert.AdamDownRefIdeal.defs (F := Ideal)) (onTc (τ := Cert.AdamDownRefIdeal.τ) (Cert.AdamDownRefIdeal.main (F := Ideal))) ⟨m, fun _ => 0, g⟩ (fun r => (∀ c : Dev Cert.AdamDownRefIdeal.nD,
      r.2.mem ((c.tc : Thread Cert.AdamDownRefIdeal.nD Cert.AdamDownRefIdeal.τ).loc Cert.AdamDownRefIdeal.main_arg0) = m ((c.tc : Thread Cert.AdamDownRefIdeal.nD Cert.AdamDownRefIdeal.τ).loc Cert.AdamDownRefIdeal.main_arg0)
      ∧ r.2.mem ((c.tc : Thread Cert.AdamDownRefIdeal.nD Cert.AdamDownRefIdeal.τ).loc Cert.AdamDownRefIdeal.main_arg1) = m ((c.tc : Thread Cert.AdamDownRefIdeal.nD Cert.AdamDownRefIdeal.τ).loc Cert.AdamDownRefIdeal.main_arg1)
      ∧ r.2.mem ((c.tc : Thread Cert.AdamDownRefIdeal.nD Cert.AdamDownRefIdeal.τ).loc Cert.AdamDownRefIdeal.main_arg2) = m ((c.tc : Thread Cert.AdamDownRefIdeal.nD Cert.AdamDownRefIdeal.τ).loc Cert.AdamDownRefIdeal.main_arg2)
      ∧ r.2.mem ((c.tc : Thread Cert.AdamDownRefIdeal.nD Cert.AdamDownRefIdeal.τ).loc Cert.AdamDownRefIdeal.main_arg3) = m ((c.tc : Thread Cert.AdamDownRefIdeal.nD Cert.AdamDownRefIdeal.τ).loc Cert.AdamDownRefIdeal.main_arg3)
      ∧ r.2.mem ((c.tc : Thread Cert.AdamDownRefIdeal.nD Cert.AdamDownRefIdeal.τ).loc Cert.AdamDownRefIdeal.main_arg4) = m ((c.tc : Thread Cert.AdamDownRefIdeal.nD Cert.AdamDownRefIdeal.τ).loc Cert.AdamDownRefIdeal.main_arg4))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3)
      ∧ r.2.mem ((c.tc : Thread Cert.AdamUp.nD Cert.AdamUp.τ).loc Cert.AdamUp.main_arg4) = m ((c.tc : Thread Cert.AdamUp.nD Cert.AdamUp.τ).loc Cert.AdamUp.main_arg4))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
      ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ r.2.sem = fun _ => 0)

def quiescent_AdamUpRefIdeal [hAdamUpRefIdeal : Cert.AdamUpRefIdeal.Facts] : Prop :=
  ∀ (m : (ℓ : Loc Cert.AdamUpRefIdeal.nD Cert.AdamUpRefIdeal.τ Cert.AdamUpRefIdeal.sig) → Buf (Elt Ideal) ℓ) (g : Dev Cert.AdamUpRefIdeal.nD → PrngReg), Pre_AdamUpRefIdeal m →
    θ_run (Cert.AdamUpRefIdeal.defs (F := Ideal)) (onTc (τ := Cert.AdamUpRefIdeal.τ) (Cert.AdamUpRefIdeal.main (F := Ideal))) ⟨m, fun _ => 0, g⟩ (fun r => (∀ c : Dev Cert.AdamUpRefIdeal.nD,
      r.2.mem ((c.tc : Thread Cert.AdamUpRefIdeal.nD Cert.AdamUpRefIdeal.τ).loc Cert.AdamUpRefIdeal.main_arg0) = m ((c.tc : Thread Cert.AdamUpRefIdeal.nD Cert.AdamUpRefIdeal.τ).loc Cert.AdamUpRefIdeal.main_arg0)
      ∧ r.2.mem ((c.tc : Thread Cert.AdamUpRefIdeal.nD Cert.AdamUpRefIdeal.τ).loc Cert.AdamUpRefIdeal.main_arg1) = m ((c.tc : Thread Cert.AdamUpRefIdeal.nD Cert.AdamUpRefIdeal.τ).loc Cert.AdamUpRefIdeal.main_arg1)
      ∧ r.2.mem ((c.tc : Thread Cert.AdamUpRefIdeal.nD Cert.AdamUpRefIdeal.τ).loc Cert.AdamUpRefIdeal.main_arg2) = m ((c.tc : Thread Cert.AdamUpRefIdeal.nD Cert.AdamUpRefIdeal.τ).loc Cert.AdamUpRefIdeal.main_arg2)
      ∧ r.2.mem ((c.tc : Thread Cert.AdamUpRefIdeal.nD Cert.AdamUpRefIdeal.τ).loc Cert.AdamUpRefIdeal.main_arg3) = m ((c.tc : Thread Cert.AdamUpRefIdeal.nD Cert.AdamUpRefIdeal.τ).loc Cert.AdamUpRefIdeal.main_arg3)
      ∧ r.2.mem ((c.tc : Thread Cert.AdamUpRefIdeal.nD Cert.AdamUpRefIdeal.τ).loc Cert.AdamUpRefIdeal.main_arg4) = m ((c.tc : Thread Cert.AdamUpRefIdeal.nD Cert.AdamUpRefIdeal.τ).loc Cert.AdamUpRefIdeal.main_arg4))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4))
      ∧ r.2.sem = fun _ => 0)

def quiescent_RmsMix [hRmsMix : Cert.RmsMix.Facts] : Prop :=
  ∀ (m : (ℓ : Loc Cert.RmsMix.nD Cert.RmsMix.τ Cert.RmsMix.sig) → Buf (Elt Bits) ℓ) (g : Dev Cert.RmsMix.nD → PrngReg), Pre_RmsMix m →
    θ_run (Cert.RmsMix.defs (F := Bits)) (onTc (τ := Cert.RmsMix.τ) (Cert.RmsMix.main (F := Bits))) ⟨m, fun _ => 0, g⟩ (fun r => (∀ c : Dev Cert.RmsMix.nD,
      r.2.mem ((c.tc : Thread Cert.RmsMix.nD Cert.RmsMix.τ).loc Cert.RmsMix.main_arg0) = m ((c.tc : Thread Cert.RmsMix.nD Cert.RmsMix.τ).loc Cert.RmsMix.main_arg0)
      ∧ r.2.mem ((c.tc : Thread Cert.RmsMix.nD Cert.RmsMix.τ).loc Cert.RmsMix.main_arg1) = m ((c.tc : Thread Cert.RmsMix.nD Cert.RmsMix.τ).loc Cert.RmsMix.main_arg1)
      ∧ r.2.mem ((c.tc : Thread Cert.RmsMix.nD Cert.RmsMix.τ).loc Cert.RmsMix.main_arg2) = m ((c.tc : Thread Cert.RmsMix.nD Cert.RmsMix.τ).loc Cert.RmsMix.main_arg2))
      ∧ r.2.sem = fun _ => 0)

def quiescent_RmsMixIdeal [hRmsMixIdeal : Cert.RmsMixIdeal.Facts] : Prop :=
  ∀ (m : (ℓ : Loc Cert.RmsMixIdeal.nD Cert.RmsMixIdeal.τ Cert.RmsMixIdeal.sig) → Buf (Elt Ideal) ℓ) (g : Dev Cert.RmsMixIdeal.nD → PrngReg), Pre_RmsMixIdeal m →
    θ_run (Cert.RmsMixIdeal.defs (F := Ideal)) (onTc (τ := Cert.RmsMixIdeal.τ) (Cert.RmsMixIdeal.main (F := Ideal))) ⟨m, fun _ => 0, g⟩ (fun r => (∀ c : Dev Cert.RmsMixIdeal.nD,
      r.2.mem ((c.tc : Thread Cert.RmsMixIdeal.nD Cert.RmsMixIdeal.τ).loc Cert.RmsMixIdeal.main_arg0) = m ((c.tc : Thread Cert.RmsMixIdeal.nD Cert.RmsMixIdeal.τ).loc Cert.RmsMixIdeal.main_arg0)
      ∧ r.2.mem ((c.tc : Thread Cert.RmsMixIdeal.nD Cert.RmsMixIdeal.τ).loc Cert.RmsMixIdeal.main_arg1) = m ((c.tc : Thread Cert.RmsMixIdeal.nD Cert.RmsMixIdeal.τ).loc Cert.RmsMixIdeal.main_arg1)
      ∧ r.2.mem ((c.tc : Thread Cert.RmsMixIdeal.nD Cert.RmsMixIdeal.τ).loc Cert.RmsMixIdeal.main_arg2) = m ((c.tc : Thread Cert.RmsMixIdeal.nD Cert.RmsMixIdeal.τ).loc Cert.RmsMixIdeal.main_arg2))
      ∧ r.2.sem = fun _ => 0)

def quiescent_RmsMixRefIdeal [hRmsMixRefIdeal : Cert.RmsMixRefIdeal.Facts] : Prop :=
  ∀ (m : (ℓ : Loc Cert.RmsMixRefIdeal.nD Cert.RmsMixRefIdeal.τ Cert.RmsMixRefIdeal.sig) → Buf (Elt Ideal) ℓ) (g : Dev Cert.RmsMixRefIdeal.nD → PrngReg), Pre_RmsMixRefIdeal m →
    θ_run (Cert.RmsMixRefIdeal.defs (F := Ideal)) (onTc (τ := Cert.RmsMixRefIdeal.τ) (Cert.RmsMixRefIdeal.main (F := Ideal))) ⟨m, fun _ => 0, g⟩ (fun r => (∀ c : Dev Cert.RmsMixRefIdeal.nD,
      r.2.mem ((c.tc : Thread Cert.RmsMixRefIdeal.nD Cert.RmsMixRefIdeal.τ).loc Cert.RmsMixRefIdeal.main_arg0) = m ((c.tc : Thread Cert.RmsMixRefIdeal.nD Cert.RmsMixRefIdeal.τ).loc Cert.RmsMixRefIdeal.main_arg0)
      ∧ r.2.mem ((c.tc : Thread Cert.RmsMixRefIdeal.nD Cert.RmsMixRefIdeal.τ).loc Cert.RmsMixRefIdeal.main_arg1) = m ((c.tc : Thread Cert.RmsMixRefIdeal.nD Cert.RmsMixRefIdeal.τ).loc Cert.RmsMixRefIdeal.main_arg1)
      ∧ r.2.mem ((c.tc : Thread Cert.RmsMixRefIdeal.nD Cert.RmsMixRefIdeal.τ).loc Cert.RmsMixRefIdeal.main_arg2) = m ((c.tc : Thread Cert.RmsMixRefIdeal.nD Cert.RmsMixRefIdeal.τ).loc Cert.RmsMixRefIdeal.main_arg2))
      ∧ r.2.sem = fun _ => 0)

def quiescent_GkFwd [hGkFwd : Cert.GkFwd.Facts] : Prop :=
  ∀ (m : (ℓ : Loc Cert.GkFwd.nD Cert.GkFwd.τ Cert.GkFwd.sig) → Buf (Elt Bits) ℓ) (g : Dev Cert.GkFwd.nD → PrngReg), Pre_GkFwd m →
    θ_run (Cert.GkFwd.defs (F := Bits)) (onTc (τ := Cert.GkFwd.τ) (Cert.GkFwd.main (F := Bits))) ⟨m, fun _ => 0, g⟩ (fun r => (∀ c : Dev Cert.GkFwd.nD,
      r.2.mem ((c.tc : Thread Cert.GkFwd.nD Cert.GkFwd.τ).loc Cert.GkFwd.main_arg0) = m ((c.tc : Thread Cert.GkFwd.nD Cert.GkFwd.τ).loc Cert.GkFwd.main_arg0)
      ∧ r.2.mem ((c.tc : Thread Cert.GkFwd.nD Cert.GkFwd.τ).loc Cert.GkFwd.main_arg1) = m ((c.tc : Thread Cert.GkFwd.nD Cert.GkFwd.τ).loc Cert.GkFwd.main_arg1)
      ∧ r.2.mem ((c.tc : Thread Cert.GkFwd.nD Cert.GkFwd.τ).loc Cert.GkFwd.main_arg2) = m ((c.tc : Thread Cert.GkFwd.nD Cert.GkFwd.τ).loc Cert.GkFwd.main_arg2)
      ∧ r.2.mem ((c.tc : Thread Cert.GkFwd.nD Cert.GkFwd.τ).loc Cert.GkFwd.main_arg3) = m ((c.tc : Thread Cert.GkFwd.nD Cert.GkFwd.τ).loc Cert.GkFwd.main_arg3))
      ∧ r.2.sem = fun _ => 0)

def quiescent_GkFwdIdeal [hGkFwdIdeal : Cert.GkFwdIdeal.Facts] : Prop :=
  ∀ (m : (ℓ : Loc Cert.GkFwdIdeal.nD Cert.GkFwdIdeal.τ Cert.GkFwdIdeal.sig) → Buf (Elt Ideal) ℓ) (g : Dev Cert.GkFwdIdeal.nD → PrngReg), Pre_GkFwdIdeal m →
    θ_run (Cert.GkFwdIdeal.defs (F := Ideal)) (onTc (τ := Cert.GkFwdIdeal.τ) (Cert.GkFwdIdeal.main (F := Ideal))) ⟨m, fun _ => 0, g⟩ (fun r => (∀ c : Dev Cert.GkFwdIdeal.nD,
      r.2.mem ((c.tc : Thread Cert.GkFwdIdeal.nD Cert.GkFwdIdeal.τ).loc Cert.GkFwdIdeal.main_arg0) = m ((c.tc : Thread Cert.GkFwdIdeal.nD Cert.GkFwdIdeal.τ).loc Cert.GkFwdIdeal.main_arg0)
      ∧ r.2.mem ((c.tc : Thread Cert.GkFwdIdeal.nD Cert.GkFwdIdeal.τ).loc Cert.GkFwdIdeal.main_arg1) = m ((c.tc : Thread Cert.GkFwdIdeal.nD Cert.GkFwdIdeal.τ).loc Cert.GkFwdIdeal.main_arg1)
      ∧ r.2.mem ((c.tc : Thread Cert.GkFwdIdeal.nD Cert.GkFwdIdeal.τ).loc Cert.GkFwdIdeal.main_arg2) = m ((c.tc : Thread Cert.GkFwdIdeal.nD Cert.GkFwdIdeal.τ).loc Cert.GkFwdIdeal.main_arg2)
      ∧ r.2.mem ((c.tc : Thread Cert.GkFwdIdeal.nD Cert.GkFwdIdeal.τ).loc Cert.GkFwdIdeal.main_arg3) = m ((c.tc : Thread Cert.GkFwdIdeal.nD Cert.GkFwdIdeal.τ).loc Cert.GkFwdIdeal.main_arg3))
      ∧ r.2.sem = fun _ => 0)

def quiescent_GkFwdRefIdeal [hGkFwdRefIdeal : Cert.GkFwdRefIdeal.Facts] : Prop :=
  ∀ (m : (ℓ : Loc Cert.GkFwdRefIdeal.nD Cert.GkFwdRefIdeal.τ Cert.GkFwdRefIdeal.sig) → Buf (Elt Ideal) ℓ) (g : Dev Cert.GkFwdRefIdeal.nD → PrngReg), Pre_GkFwdRefIdeal m →
    θ_run (Cert.GkFwdRefIdeal.defs (F := Ideal)) (onTc (τ := Cert.GkFwdRefIdeal.τ) (Cert.GkFwdRefIdeal.main (F := Ideal))) ⟨m, fun _ => 0, g⟩ (fun r => (∀ c : Dev Cert.GkFwdRefIdeal.nD,
      r.2.mem ((c.tc : Thread Cert.GkFwdRefIdeal.nD Cert.GkFwdRefIdeal.τ).loc Cert.GkFwdRefIdeal.main_arg0) = m ((c.tc : Thread Cert.GkFwdRefIdeal.nD Cert.GkFwdRefIdeal.τ).loc Cert.GkFwdRefIdeal.main_arg0)
      ∧ r.2.mem ((c.tc : Thread Cert.GkFwdRefIdeal.nD Cert.GkFwdRefIdeal.τ).loc Cert.GkFwdRefIdeal.main_arg1) = m ((c.tc : Thread Cert.GkFwdRefIdeal.nD Cert.GkFwdRefIdeal.τ).loc Cert.GkFwdRefIdeal.main_arg1)
      ∧ r.2.mem ((c.tc : Thread Cert.GkFwdRefIdeal.nD Cert.GkFwdRefIdeal.τ).loc Cert.GkFwdRefIdeal.main_arg2) = m ((c.tc : Thread Cert.GkFwdRefIdeal.nD Cert.GkFwdRefIdeal.τ).loc Cert.GkFwdRefIdeal.main_arg2)
      ∧ r.2.mem ((c.tc : Thread Cert.GkFwdRefIdeal.nD Cert.GkFwdRefIdeal.τ).loc Cert.GkFwdRefIdeal.main_arg3) = m ((c.tc : Thread Cert.GkFwdRefIdeal.nD Cert.GkFwdRefIdeal.τ).loc Cert.GkFwdRefIdeal.main_arg3))
      ∧ r.2.sem = fun _ => 0)

def quiescent_PairSum [hPairSum : Cert.PairSum.Facts] : Prop :=
  ∀ (m : (ℓ : Loc Cert.PairSum.nD Cert.PairSum.τ Cert.PairSum.sig) → Buf (Elt Bits) ℓ) (g : Dev Cert.PairSum.nD → PrngReg), Pre_PairSum m →
    θ_run (Cert.PairSum.defs (F := Bits)) (onTc (τ := Cert.PairSum.τ) (Cert.PairSum.main (F := Bits))) ⟨m, fun _ => 0, g⟩ (fun r => (∀ c : Dev Cert.PairSum.nD,
      r.2.mem ((c.tc : Thread Cert.PairSum.nD Cert.PairSum.τ).loc Cert.PairSum.main_arg0) = m ((c.tc : Thread Cert.PairSum.nD Cert.PairSum.τ).loc Cert.PairSum.main_arg0)
      ∧ r.2.mem ((c.tc : Thread Cert.PairSum.nD Cert.PairSum.τ).loc Cert.PairSum.main_arg1) = m ((c.tc : Thread Cert.PairSum.nD Cert.PairSum.τ).loc Cert.PairSum.main_arg1))
      ∧ r.2.sem = fun _ => 0)

def quiescent_PairSumIdeal [hPairSumIdeal : Cert.PairSumIdeal.Facts] : Prop :=
  ∀ (m : (ℓ : Loc Cert.PairSumIdeal.nD Cert.PairSumIdeal.τ Cert.PairSumIdeal.sig) → Buf (Elt Ideal) ℓ) (g : Dev Cert.PairSumIdeal.nD → PrngReg), Pre_PairSumIdeal m →
    θ_run (Cert.PairSumIdeal.defs (F := Ideal)) (onTc (τ := Cert.PairSumIdeal.τ) (Cert.PairSumIdeal.main (F := Ideal))) ⟨m, fun _ => 0, g⟩ (fun r => (∀ c : Dev Cert.PairSumIdeal.nD,
      r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
      ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1))
      ∧ r.2.sem = fun _ => 0)

def quiescent_PairSumRefIdeal [hPairSumRefIdeal : Cert.PairSumRefIdeal.Facts] : Prop :=
  ∀ (m : (ℓ : Loc Cert.PairSumRefIdeal.nD Cert.PairSumRefIdeal.τ Cert.PairSumRefIdeal.sig) → Buf (Elt Ideal) ℓ) (g : Dev Cert.PairSumRefIdeal.nD → PrngReg), Pre_PairSumRefIdeal m →
    θ_run (Cert.PairSumRefIdeal.defs (F := Ideal)) (onTc (τ := Cert.PairSumRefIdeal.τ) (Cert.PairSumRefIdeal.main (F := Ideal))) ⟨m, fun _ => 0, g⟩ (fun r => (∀ c : Dev Cert.PairSumRefIdeal.nD,
      r.2.mem ((c.tc : Thread Cert.PairSumRefIdeal.nD Cert.PairSumRefIdeal.τ).loc Cert.PairSumRefIdeal.main_arg0) = m ((c.tc : Thread Cert.PairSumRefIdeal.nD Cert.PairSumRefIdeal.τ).loc Cert.PairSumRefIdeal.main_arg0)
      ∧ r.2.mem ((c.tc : Thread Cert.PairSumRefIdeal.nD Cert.PairSumRefIdeal.τ).loc Cert.PairSumRefIdeal.main_arg1) = m ((c.tc : Thread Cert.PairSumRefIdeal.nD Cert.PairSumRefIdeal.τ).loc Cert.PairSumRefIdeal.main_arg1))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44_0)) (v1 : (c : Dev Cert.KernelIdeal.nD) → Buf (Elt Ideal) ((c.tc : Thread Cert.KernelIdeal.nD Cert.KernelIdeal.τ).loc Cert.KernelIdeal.main_v44_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44_0) = v0 c
          ∧ r.2.mem ((c.tc : Thread Cert.KernelIdeal.nD Cert.KernelIdeal.τ).loc Cert.KernelIdeal.main_v44_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v152) = v0 c
          ∧ r.2.mem ((c.tc : Thread Cert.ReferenceIdeal.nD Cert.ReferenceIdeal.τ).loc Cert.ReferenceIdeal.main_v148) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_MmIn_MmInIdeal : Prop :=
  True

def algebraic_MmInIdeal_MmInRefIdeal [hMmInIdeal : Cert.MmInIdeal.Facts] [hMmInRefIdeal : Cert.MmInRefIdeal.Facts] : Prop :=
  ∀ (m : (ℓ : Loc Cert.MmInIdeal.nD Cert.MmInIdeal.τ Cert.MmInIdeal.sig) → Buf (Elt Ideal) ℓ) (g : Dev Cert.MmInIdeal.nD → PrngReg)
    (m' : (ℓ : Loc Cert.MmInRefIdeal.nD Cert.MmInRefIdeal.τ Cert.MmInRefIdeal.sig) → Buf (Elt Ideal) ℓ) (g' : Dev Cert.MmInRefIdeal.nD → PrngReg), Pre_MmInIdeal m →
    (∀ c : Dev Cert.MmInIdeal.nD,
      m' ((c.tc : Thread Cert.MmInRefIdeal.nD Cert.MmInRefIdeal.τ).loc Cert.MmInRefIdeal.main_arg0) = m ((c.tc : Thread Cert.MmInIdeal.nD Cert.MmInIdeal.τ).loc Cert.MmInIdeal.main_arg0)
      ∧ m' ((c.tc : Thread Cert.MmInRefIdeal.nD Cert.MmInRefIdeal.τ).loc Cert.MmInRefIdeal.main_arg1) = m ((c.tc : Thread Cert.MmInIdeal.nD Cert.MmInIdeal.τ).loc Cert.MmInIdeal.main_arg1)) →
    ∃ (v0 : (c : Dev Cert.MmInIdeal.nD) → Buf (Elt Ideal) ((c.tc : Thread Cert.MmInIdeal.nD Cert.MmInIdeal.τ).loc Cert.MmInIdeal.main_v0)),
      θ_run (Cert.MmInIdeal.defs (F := Ideal)) (onTc (τ := Cert.MmInIdeal.τ) (Cert.MmInIdeal.main (F := Ideal))) ⟨m, fun _ => 0, g⟩ (fun r => ∀ c : Dev Cert.MmInIdeal.nD,
          r.2.mem ((c.tc : Thread Cert.MmInIdeal.nD Cert.MmInIdeal.τ).loc Cert.MmInIdeal.main_v0) = v0 c
          ∧ r.2.mem ((c.tc : Thread Cert.MmInIdeal.nD Cert.MmInIdeal.τ).loc Cert.MmInIdeal.main_arg0) = m ((c.tc : Thread Cert.MmInIdeal.nD Cert.MmInIdeal.τ).loc Cert.MmInIdeal.main_arg0)
          ∧ r.2.mem ((c.tc : Thread Cert.MmInIdeal.nD Cert.MmInIdeal.τ).loc Cert.MmInIdeal.main_arg1) = m ((c.tc : Thread Cert.MmInIdeal.nD Cert.MmInIdeal.τ).loc Cert.MmInIdeal.main_arg1))
      ∧ θ_run (Cert.MmInRefIdeal.defs (F := Ideal)) (onTc (τ := Cert.MmInRefIdeal.τ) (Cert.MmInRefIdeal.main (F := Ideal))) ⟨m', fun _ => 0, g'⟩ (fun r => ∀ c : Dev Cert.MmInRefIdeal.nD,
          r.2.mem ((c.tc : Thread Cert.MmInRefIdeal.nD Cert.MmInRefIdeal.τ).loc Cert.MmInRefIdeal.main_v5) = v0 c
          ∧ r.2.mem ((c.tc : Thread Cert.MmInRefIdeal.nD Cert.MmInRefIdeal.τ).loc Cert.MmInRefIdeal.main_arg0) = m' ((c.tc : Thread Cert.MmInRefIdeal.nD Cert.MmInRefIdeal.τ).loc Cert.MmInRefIdeal.main_arg0)
          ∧ r.2.mem ((c.tc : Thread Cert.MmInRefIdeal.nD Cert.MmInRefIdeal.τ).loc Cert.MmInRefIdeal.main_arg1) = m' ((c.tc : Thread Cert.MmInRefIdeal.nD Cert.MmInRefIdeal.τ).loc Cert.MmInRefIdeal.main_arg1))

def preserves_MmDWcat_MmDWcatIdeal : Prop :=
  True

def algebraic_MmDWcatIdeal_MmDWcatRefIdeal [hMmDWcatIdeal : Cert.MmDWcatIdeal.Facts] [hMmDWcatRefIdeal : Cert.MmDWcatRefIdeal.Facts] : Prop :=
  ∀ (m : (ℓ : Loc Cert.MmDWcatIdeal.nD Cert.MmDWcatIdeal.τ Cert.MmDWcatIdeal.sig) → Buf (Elt Ideal) ℓ) (g : Dev Cert.MmDWcatIdeal.nD → PrngReg)
    (m' : (ℓ : Loc Cert.MmDWcatRefIdeal.nD Cert.MmDWcatRefIdeal.τ Cert.MmDWcatRefIdeal.sig) → Buf (Elt Ideal) ℓ) (g' : Dev Cert.MmDWcatRefIdeal.nD → PrngReg), Pre_MmDWcatIdeal m →
    (∀ c : Dev Cert.MmDWcatIdeal.nD,
      m' ((c.tc : Thread Cert.MmDWcatRefIdeal.nD Cert.MmDWcatRefIdeal.τ).loc Cert.MmDWcatRefIdeal.main_arg0) = m ((c.tc : Thread Cert.MmDWcatIdeal.nD Cert.MmDWcatIdeal.τ).loc Cert.MmDWcatIdeal.main_arg0)
      ∧ m' ((c.tc : Thread Cert.MmDWcatRefIdeal.nD Cert.MmDWcatRefIdeal.τ).loc Cert.MmDWcatRefIdeal.main_arg1) = m ((c.tc : Thread Cert.MmDWcatIdeal.nD Cert.MmDWcatIdeal.τ).loc Cert.MmDWcatIdeal.main_arg1)) →
    ∃ (v0 : (c : Dev Cert.MmDWcatIdeal.nD) → Buf (Elt Ideal) ((c.tc : Thread Cert.MmDWcatIdeal.nD Cert.MmDWcatIdeal.τ).loc Cert.MmDWcatIdeal.main_v0)),
      θ_run (Cert.MmDWcatIdeal.defs (F := Ideal)) (onTc (τ := Cert.MmDWcatIdeal.τ) (Cert.MmDWcatIdeal.main (F := Ideal))) ⟨m, fun _ => 0, g⟩ (fun r => ∀ c : Dev Cert.MmDWcatIdeal.nD,
          r.2.mem ((c.tc : Thread Cert.MmDWcatIdeal.nD Cert.MmDWcatIdeal.τ).loc Cert.MmDWcatIdeal.main_v0) = v0 c
          ∧ r.2.mem ((c.tc : Thread Cert.MmDWcatIdeal.nD Cert.MmDWcatIdeal.τ).loc Cert.MmDWcatIdeal.main_arg0) = m ((c.tc : Thread Cert.MmDWcatIdeal.nD Cert.MmDWcatIdeal.τ).loc Cert.MmDWcatIdeal.main_arg0)
          ∧ r.2.mem ((c.tc : Thread Cert.MmDWcatIdeal.nD Cert.MmDWcatIdeal.τ).loc Cert.MmDWcatIdeal.main_arg1) = m ((c.tc : Thread Cert.MmDWcatIdeal.nD Cert.MmDWcatIdeal.τ).loc Cert.MmDWcatIdeal.main_arg1))
      ∧ θ_run (Cert.MmDWcatRefIdeal.defs (F := Ideal)) (onTc (τ := Cert.MmDWcatRefIdeal.τ) (Cert.MmDWcatRefIdeal.main (F := Ideal))) ⟨m', fun _ => 0, g'⟩ (fun r => ∀ c : Dev Cert.MmDWcatRefIdeal.nD,
          r.2.mem ((c.tc : Thread Cert.MmDWcatRefIdeal.nD Cert.MmDWcatRefIdeal.τ).loc Cert.MmDWcatRefIdeal.main_v8) = v0 c
          ∧ r.2.mem ((c.tc : Thread Cert.MmDWcatRefIdeal.nD Cert.MmDWcatRefIdeal.τ).loc Cert.MmDWcatRefIdeal.main_arg0) = m' ((c.tc : Thread Cert.MmDWcatRefIdeal.nD Cert.MmDWcatRefIdeal.τ).loc Cert.MmDWcatRefIdeal.main_arg0)
          ∧ r.2.mem ((c.tc : Thread Cert.MmDWcatRefIdeal.nD Cert.MmDWcatRefIdeal.τ).loc Cert.MmDWcatRefIdeal.main_arg1) = m' ((c.tc : Thread Cert.MmDWcatRefIdeal.nD Cert.MmDWcatRefIdeal.τ).loc Cert.MmDWcatRefIdeal.main_arg1))

def preserves_MmDWup_MmDWupIdeal : Prop :=
  True

def algebraic_MmDWupIdeal_MmDWupRefIdeal [hMmDWupIdeal : Cert.MmDWupIdeal.Facts] [hMmDWupRefIdeal : Cert.MmDWupRefIdeal.Facts] : Prop :=
  ∀ (m : (ℓ : Loc Cert.MmDWupIdeal.nD Cert.MmDWupIdeal.τ Cert.MmDWupIdeal.sig) → Buf (Elt Ideal) ℓ) (g : Dev Cert.MmDWupIdeal.nD → PrngReg)
    (m' : (ℓ : Loc Cert.MmDWupRefIdeal.nD Cert.MmDWupRefIdeal.τ Cert.MmDWupRefIdeal.sig) → Buf (Elt Ideal) ℓ) (g' : Dev Cert.MmDWupRefIdeal.nD → PrngReg), Pre_MmDWupIdeal m →
    (∀ c : Dev Cert.MmDWupIdeal.nD,
      m' ((c.tc : Thread Cert.MmDWupRefIdeal.nD Cert.MmDWupRefIdeal.τ).loc Cert.MmDWupRefIdeal.main_arg0) = m ((c.tc : Thread Cert.MmDWupIdeal.nD Cert.MmDWupIdeal.τ).loc Cert.MmDWupIdeal.main_arg0)
      ∧ m' ((c.tc : Thread Cert.MmDWupRefIdeal.nD Cert.MmDWupRefIdeal.τ).loc Cert.MmDWupRefIdeal.main_arg1) = m ((c.tc : Thread Cert.MmDWupIdeal.nD Cert.MmDWupIdeal.τ).loc Cert.MmDWupIdeal.main_arg1)) →
    ∃ (v0 : (c : Dev Cert.MmDWupIdeal.nD) → Buf (Elt Ideal) ((c.tc : Thread Cert.MmDWupIdeal.nD Cert.MmDWupIdeal.τ).loc Cert.MmDWupIdeal.main_v0)),
      θ_run (Cert.MmDWupIdeal.defs (F := Ideal)) (onTc (τ := Cert.MmDWupIdeal.τ) (Cert.MmDWupIdeal.main (F := Ideal))) ⟨m, fun _ => 0, g⟩ (fun r => ∀ c : Dev Cert.MmDWupIdeal.nD,
          r.2.mem ((c.tc : Thread Cert.MmDWupIdeal.nD Cert.MmDWupIdeal.τ).loc Cert.MmDWupIdeal.main_v0) = v0 c
          ∧ r.2.mem ((c.tc : Thread Cert.MmDWupIdeal.nD Cert.MmDWupIdeal.τ).loc Cert.MmDWupIdeal.main_arg0) = m ((c.tc : Thread Cert.MmDWupIdeal.nD Cert.MmDWupIdeal.τ).loc Cert.MmDWupIdeal.main_arg0)
          ∧ r.2.mem ((c.tc : Thread Cert.MmDWupIdeal.nD Cert.MmDWupIdeal.τ).loc Cert.MmDWupIdeal.main_arg1) = m ((c.tc : Thread Cert.MmDWupIdeal.nD Cert.MmDWupIdeal.τ).loc Cert.MmDWupIdeal.main_arg1))
      ∧ θ_run (Cert.MmDWupRefIdeal.defs (F := Ideal)) (onTc (τ := Cert.MmDWupRefIdeal.τ) (Cert.MmDWupRefIdeal.main (F := Ideal))) ⟨m', fun _ => 0, g'⟩ (fun r => ∀ c : Dev Cert.MmDWupRefIdeal.nD,
          r.2.mem ((c.tc : Thread Cert.MmDWupRefIdeal.nD Cert.MmDWupRefIdeal.τ).loc Cert.MmDWupRefIdeal.main_v10) = v0 c
          ∧ r.2.mem ((c.tc : Thread Cert.MmDWupRefIdeal.nD Cert.MmDWupRefIdeal.τ).loc Cert.MmDWupRefIdeal.main_arg0) = m' ((c.tc : Thread Cert.MmDWupRefIdeal.nD Cert.MmDWupRefIdeal.τ).loc Cert.MmDWupRefIdeal.main_arg0)
          ∧ r.2.mem ((c.tc : Thread Cert.MmDWupRefIdeal.nD Cert.MmDWupRefIdeal.τ).loc Cert.MmDWupRefIdeal.main_arg1) = m' ((c.tc : Thread Cert.MmDWupRefIdeal.nD Cert.MmDWupRefIdeal.τ).loc Cert.MmDWupRefIdeal.main_arg1))

def preserves_MmDAct_MmDActIdeal : Prop :=
  True

def algebraic_MmDActIdeal_MmDActRefIdeal [hMmDActIdeal : Cert.MmDActIdeal.Facts] [hMmDActRefIdeal : Cert.MmDActRefIdeal.Facts] : Prop :=
  ∀ (m : (ℓ : Loc Cert.MmDActIdeal.nD Cert.MmDActIdeal.τ Cert.MmDActIdeal.sig) → Buf (Elt Ideal) ℓ) (g : Dev Cert.MmDActIdeal.nD → PrngReg)
    (m' : (ℓ : Loc Cert.MmDActRefIdeal.nD Cert.MmDActRefIdeal.τ Cert.MmDActRefIdeal.sig) → Buf (Elt Ideal) ℓ) (g' : Dev Cert.MmDActRefIdeal.nD → PrngReg), Pre_MmDActIdeal m →
    (∀ c : Dev Cert.MmDActIdeal.nD,
      m' ((c.tc : Thread Cert.MmDActRefIdeal.nD Cert.MmDActRefIdeal.τ).loc Cert.MmDActRefIdeal.main_arg0) = m ((c.tc : Thread Cert.MmDActIdeal.nD Cert.MmDActIdeal.τ).loc Cert.MmDActIdeal.main_arg0)
      ∧ m' ((c.tc : Thread Cert.MmDActRefIdeal.nD Cert.MmDActRefIdeal.τ).loc Cert.MmDActRefIdeal.main_arg1) = m ((c.tc : Thread Cert.MmDActIdeal.nD Cert.MmDActIdeal.τ).loc Cert.MmDActIdeal.main_arg1)) →
    ∃ (v0 : (c : Dev Cert.MmDActIdeal.nD) → Buf (Elt Ideal) ((c.tc : Thread Cert.MmDActIdeal.nD Cert.MmDActIdeal.τ).loc Cert.MmDActIdeal.main_v0)),
      θ_run (Cert.MmDActIdeal.defs (F := Ideal)) (onTc (τ := Cert.MmDActIdeal.τ) (Cert.MmDActIdeal.main (F := Ideal))) ⟨m, fun _ => 0, g⟩ (fun r => ∀ c : Dev Cert.MmDActIdeal.nD,
          r.2.mem ((c.tc : Thread Cert.MmDActIdeal.nD Cert.MmDActIdeal.τ).loc Cert.MmDActIdeal.main_v0) = v0 c
          ∧ r.2.mem ((c.tc : Thread Cert.MmDActIdeal.nD Cert.MmDActIdeal.τ).loc Cert.MmDActIdeal.main_arg0) = m ((c.tc : Thread Cert.MmDActIdeal.nD Cert.MmDActIdeal.τ).loc Cert.MmDActIdeal.main_arg0)
          ∧ r.2.mem ((c.tc : Thread Cert.MmDActIdeal.nD Cert.MmDActIdeal.τ).loc Cert.MmDActIdeal.main_arg1) = m ((c.tc : Thread Cert.MmDActIdeal.nD Cert.MmDActIdeal.τ).loc Cert.MmDActIdeal.main_arg1))
      ∧ θ_run (Cert.MmDActRefIdeal.defs (F := Ideal)) (onTc (τ := Cert.MmDActRefIdeal.τ) (Cert.MmDActRefIdeal.main (F := Ideal))) ⟨m', fun _ => 0, g'⟩ (fun r => ∀ c : Dev Cert.MmDActRefIdeal.nD,
          r.2.mem ((c.tc : Thread Cert.MmDActRefIdeal.nD Cert.MmDActRefIdeal.τ).loc Cert.MmDActRefIdeal.main_v7) = v0 c
          ∧ r.2.mem ((c.tc : Thread Cert.MmDActRefIdeal.nD Cert.MmDActRefIdeal.τ).loc Cert.MmDActRefIdeal.main_arg0) = m' ((c.tc : Thread Cert.MmDActRefIdeal.nD Cert.MmDActRefIdeal.τ).loc Cert.MmDActRefIdeal.main_arg0)
          ∧ r.2.mem ((c.tc : Thread Cert.MmDActRefIdeal.nD Cert.MmDActRefIdeal.τ).loc Cert.MmDActRefIdeal.main_arg1) = m' ((c.tc : Thread Cert.MmDActRefIdeal.nD Cert.MmDActRefIdeal.τ).loc Cert.MmDActRefIdeal.main_arg1))

def preserves_MmDWdown_MmDWdownIdeal : Prop :=
  True

def algebraic_MmDWdownIdeal_MmDWdownRefIdeal [hMmDWdownIdeal : Cert.MmDWdownIdeal.Facts] [hMmDWdownRefIdeal : Cert.MmDWdownRefIdeal.Facts] : Prop :=
  ∀ (m : (ℓ : Loc Cert.MmDWdownIdeal.nD Cert.MmDWdownIdeal.τ Cert.MmDWdownIdeal.sig) → Buf (Elt Ideal) ℓ) (g : Dev Cert.MmDWdownIdeal.nD → PrngReg)
    (m' : (ℓ : Loc Cert.MmDWdownRefIdeal.nD Cert.MmDWdownRefIdeal.τ Cert.MmDWdownRefIdeal.sig) → Buf (Elt Ideal) ℓ) (g' : Dev Cert.MmDWdownRefIdeal.nD → PrngReg), Pre_MmDWdownIdeal m →
    (∀ c : Dev Cert.MmDWdownIdeal.nD,
      m' ((c.tc : Thread Cert.MmDWdownRefIdeal.nD Cert.MmDWdownRefIdeal.τ).loc Cert.MmDWdownRefIdeal.main_arg0) = m ((c.tc : Thread Cert.MmDWdownIdeal.nD Cert.MmDWdownIdeal.τ).loc Cert.MmDWdownIdeal.main_arg0)
      ∧ m' ((c.tc : Thread Cert.MmDWdownRefIdeal.nD Cert.MmDWdownRefIdeal.τ).loc Cert.MmDWdownRefIdeal.main_arg1) = m ((c.tc : Thread Cert.MmDWdownIdeal.nD Cert.MmDWdownIdeal.τ).loc Cert.MmDWdownIdeal.main_arg1)) →
    ∃ (v0 : (c : Dev Cert.MmDWdownIdeal.nD) → Buf (Elt Ideal) ((c.tc : Thread Cert.MmDWdownIdeal.nD Cert.MmDWdownIdeal.τ).loc Cert.MmDWdownIdeal.main_v0)),
      θ_run (Cert.MmDWdownIdeal.defs (F := Ideal)) (onTc (τ := Cert.MmDWdownIdeal.τ) (Cert.MmDWdownIdeal.main (F := Ideal))) ⟨m, fun _ => 0, g⟩ (fun r => ∀ c : Dev Cert.MmDWdownIdeal.nD,
          r.2.mem ((c.tc : Thread Cert.MmDWdownIdeal.nD Cert.MmDWdownIdeal.τ).loc Cert.MmDWdownIdeal.main_v0) = v0 c
          ∧ r.2.mem ((c.tc : Thread Cert.MmDWdownIdeal.nD Cert.MmDWdownIdeal.τ).loc Cert.MmDWdownIdeal.main_arg0) = m ((c.tc : Thread Cert.MmDWdownIdeal.nD Cert.MmDWdownIdeal.τ).loc Cert.MmDWdownIdeal.main_arg0)
          ∧ r.2.mem ((c.tc : Thread Cert.MmDWdownIdeal.nD Cert.MmDWdownIdeal.τ).loc Cert.MmDWdownIdeal.main_arg1) = m ((c.tc : Thread Cert.MmDWdownIdeal.nD Cert.MmDWdownIdeal.τ).loc Cert.MmDWdownIdeal.main_arg1))
      ∧ θ_run (Cert.MmDWdownRefIdeal.defs (F := Ideal)) (onTc (τ := Cert.MmDWdownRefIdeal.τ) (Cert.MmDWdownRefIdeal.main (F := Ideal))) ⟨m', fun _ => 0, g'⟩ (fun r => ∀ c : Dev Cert.MmDWdownRefIdeal.nD,
          r.2.mem ((c.tc : Thread Cert.MmDWdownRefIdeal.nD Cert.MmDWdownRefIdeal.τ).loc Cert.MmDWdownRefIdeal.main_v8) = v0 c
          ∧ r.2.mem ((c.tc : Thread Cert.MmDWdownRefIdeal.nD Cert.MmDWdownRefIdeal.τ).loc Cert.MmDWdownRefIdeal.main_arg0) = m' ((c.tc : Thread Cert.MmDWdownRefIdeal.nD Cert.MmDWdownRefIdeal.τ).loc Cert.MmDWdownRefIdeal.main_arg0)
          ∧ r.2.mem ((c.tc : Thread Cert.MmDWdownRefIdeal.nD Cert.MmDWdownRefIdeal.τ).loc Cert.MmDWdownRefIdeal.main_arg1) = m' ((c.tc : Thread Cert.MmDWdownRefIdeal.nD Cert.MmDWdownRefIdeal.τ).loc Cert.MmDWdownRefIdeal.main_arg1))

def preserves_MmDHRms_MmDHRmsIdeal : Prop :=
  True

def algebraic_MmDHRmsIdeal_MmDHRmsRefIdeal_pre_finite_7 [hMmDHRmsIdeal : Cert.MmDHRmsIdeal.Facts] [hMmDHRmsRefIdeal : Cert.MmDHRmsRefIdeal.Facts] [hPre_finite_7 : Cert.Pre_finite_7.Facts] : Prop :=
  ∀ (m : (ℓ : Loc Cert.MmDHRmsIdeal.nD Cert.MmDHRmsIdeal.τ Cert.MmDHRmsIdeal.sig) → Buf (Elt Ideal) ℓ) (g : Dev Cert.MmDHRmsIdeal.nD → PrngReg)
    (m' : (ℓ : Loc Cert.MmDHRmsRefIdeal.nD Cert.MmDHRmsRefIdeal.τ Cert.MmDHRmsRefIdeal.sig) → Buf (Elt Ideal) ℓ) (g' : Dev Cert.MmDHRmsRefIdeal.nD → PrngReg), Pre_MmDHRmsIdeal_finite_7 m →
    (∀ c : Dev Cert.MmDHRmsIdeal.nD,
      m' ((c.tc : Thread Cert.MmDHRmsRefIdeal.nD Cert.MmDHRmsRefIdeal.τ).loc Cert.MmDHRmsRefIdeal.main_arg0) = m ((c.tc : Thread Cert.MmDHRmsIdeal.nD Cert.MmDHRmsIdeal.τ).loc Cert.MmDHRmsIdeal.main_arg0)
      ∧ m' ((c.tc : Thread Cert.MmDHRmsRefIdeal.nD Cert.MmDHRmsRefIdeal.τ).loc Cert.MmDHRmsRefIdeal.main_arg1) = m ((c.tc : Thread Cert.MmDHRmsIdeal.nD Cert.MmDHRmsIdeal.τ).loc Cert.MmDHRmsIdeal.main_arg1)
      ∧ m' ((c.tc : Thread Cert.MmDHRmsRefIdeal.nD Cert.MmDHRmsRefIdeal.τ).loc Cert.MmDHRmsRefIdeal.main_arg2) = m ((c.tc : Thread Cert.MmDHRmsIdeal.nD Cert.MmDHRmsIdeal.τ).loc Cert.MmDHRmsIdeal.main_arg2)
      ∧ m' ((c.tc : Thread Cert.MmDHRmsRefIdeal.nD Cert.MmDHRmsRefIdeal.τ).loc Cert.MmDHRmsRefIdeal.main_arg3) = m ((c.tc : Thread Cert.MmDHRmsIdeal.nD Cert.MmDHRmsIdeal.τ).loc Cert.MmDHRmsIdeal.main_arg3)
      ∧ m' ((c.tc : Thread Cert.MmDHRmsRefIdeal.nD Cert.MmDHRmsRefIdeal.τ).loc Cert.MmDHRmsRefIdeal.main_arg4) = m ((c.tc : Thread Cert.MmDHRmsIdeal.nD Cert.MmDHRmsIdeal.τ).loc Cert.MmDHRmsIdeal.main_arg4)) →
    ∃ (v0 : (c : Dev Cert.MmDHRmsIdeal.nD) → Buf (Elt Ideal) ((c.tc : Thread Cert.MmDHRmsIdeal.nD Cert.MmDHRmsIdeal.τ).loc Cert.MmDHRmsIdeal.main_v0_0)) (v1 : (c : Dev Cert.MmDHRmsIdeal.nD) → Buf (Elt Ideal) ((c.tc : Thread Cert.MmDHRmsIdeal.nD Cert.MmDHRmsIdeal.τ).loc Cert.MmDHRmsIdeal.main_v0_1)),
      θ_run (Cert.MmDHRmsIdeal.defs (F := Ideal)) (onTc (τ := Cert.MmDHRmsIdeal.τ) (Cert.MmDHRmsIdeal.main (F := Ideal))) ⟨m, fun _ => 0, g⟩ (fun r => ∀ c : Dev Cert.MmDHRmsIdeal.nD,
          r.2.mem ((c.tc : Thread Cert.MmDHRmsIdeal.nD Cert.MmDHRmsIdeal.τ).loc Cert.MmDHRmsIdeal.main_v0_0) = v0 c
          ∧ r.2.mem ((c.tc : Thread Cert.MmDHRmsIdeal.nD Cert.MmDHRmsIdeal.τ).loc Cert.MmDHRmsIdeal.main_v0_1) = v1 c
          ∧ r.2.mem ((c.tc : Thread Cert.MmDHRmsIdeal.nD Cert.MmDHRmsIdeal.τ).loc Cert.MmDHRmsIdeal.main_arg0) = m ((c.tc : Thread Cert.MmDHRmsIdeal.nD Cert.MmDHRmsIdeal.τ).loc Cert.MmDHRmsIdeal.main_arg0)
          ∧ r.2.mem ((c.tc : Thread Cert.MmDHRmsIdeal.nD Cert.MmDHRmsIdeal.τ).loc Cert.MmDHRmsIdeal.main_arg1) = m ((c.tc : Thread Cert.MmDHRmsIdeal.nD Cert.MmDHRmsIdeal.τ).loc Cert.MmDHRmsIdeal.main_arg1)
          ∧ r.2.mem ((c.tc : Thread Cert.MmDHRmsIdeal.nD Cert.MmDHRmsIdeal.τ).loc Cert.MmDHRmsIdeal.main_arg2) = m ((c.tc : Thread Cert.MmDHRmsIdeal.nD Cert.MmDHRmsIdeal.τ).loc Cert.MmDHRmsIdeal.main_arg2)
          ∧ r.2.mem ((c.tc : Thread Cert.MmDHRmsIdeal.nD Cert.MmDHRmsIdeal.τ).loc Cert.MmDHRmsIdeal.main_arg3) = m ((c.tc : Thread Cert.MmDHRmsIdeal.nD Cert.MmDHRmsIdeal.τ).loc Cert.MmDHRmsIdeal.main_arg3)
          ∧ r.2.mem ((c.tc : Thread Cert.MmDHRmsIdeal.nD Cert.MmDHRmsIdeal.τ).loc Cert.MmDHRmsIdeal.main_arg4) = m ((c.tc : Thread Cert.MmDHRmsIdeal.nD Cert.MmDHRmsIdeal.τ).loc Cert.MmDHRmsIdeal.main_arg4))
      ∧ θ_run (Cert.MmDHRmsRefIdeal.defs (F := Ideal)) (onTc (τ := Cert.MmDHRmsRefIdeal.τ) (Cert.MmDHRmsRefIdeal.main (F := Ideal))) ⟨m', fun _ => 0, g'⟩ (fun r => ∀ c : Dev Cert.MmDHRmsRefIdeal.nD,
          r.2.mem ((c.tc : Thread Cert.MmDHRmsRefIdeal.nD Cert.MmDHRmsRefIdeal.τ).loc Cert.MmDHRmsRefIdeal.main_v39) = v0 c
          ∧ r.2.mem ((c.tc : Thread Cert.MmDHRmsRefIdeal.nD Cert.MmDHRmsRefIdeal.τ).loc Cert.MmDHRmsRefIdeal.main_v22) = v1 c
          ∧ r.2.mem ((c.tc : Thread Cert.MmDHRmsRefIdeal.nD Cert.MmDHRmsRefIdeal.τ).loc Cert.MmDHRmsRefIdeal.main_arg0) = m' ((c.tc : Thread Cert.MmDHRmsRefIdeal.nD Cert.MmDHRmsRefIdeal.τ).loc Cert.MmDHRmsRefIdeal.main_arg0)
          ∧ r.2.mem ((c.tc : Thread Cert.MmDHRmsRefIdeal.nD Cert.MmDHRmsRefIdeal.τ).loc Cert.MmDHRmsRefIdeal.main_arg1) = m' ((c.tc : Thread Cert.MmDHRmsRefIdeal.nD Cert.MmDHRmsRefIdeal.τ).loc Cert.MmDHRmsRefIdeal.main_arg1)
          ∧ r.2.mem ((c.tc : Thread Cert.MmDHRmsRefIdeal.nD Cert.MmDHRmsRefIdeal.τ).loc Cert.MmDHRmsRefIdeal.main_arg2) = m' ((c.tc : Thread Cert.MmDHRmsRefIdeal.nD Cert.MmDHRmsRefIdeal.τ).loc Cert.MmDHRmsRefIdeal.main_arg2)
          ∧ r.2.mem ((c.tc : Thread Cert.MmDHRmsRefIdeal.nD Cert.MmDHRmsRefIdeal.τ).loc Cert.MmDHRmsRefIdeal.main_arg3) = m' ((c.tc : Thread Cert.MmDHRmsRefIdeal.nD Cert.MmDHRmsRefIdeal.τ).loc Cert.MmDHRmsRefIdeal.main_arg3)
          ∧ r.2.mem ((c.tc : Thread Cert.MmDHRmsRefIdeal.nD Cert.MmDHRmsRefIdeal.τ).loc Cert.MmDHRmsRefIdeal.main_arg4) = m' ((c.tc : Thread Cert.MmDHRmsRefIdeal.nD Cert.MmDHRmsRefIdeal.τ).loc Cert.MmDHRmsRefIdeal.main_arg4))

def preserves_MmDH2Rms_MmDH2RmsIdeal : Prop :=
  True

def algebraic_MmDH2RmsIdeal_MmDH2RmsRefIdeal_pre_finite_8 [hMmDH2RmsIdeal : Cert.MmDH2RmsIdeal.Facts] [hMmDH2RmsRefIdeal : Cert.MmDH2RmsRefIdeal.Facts] [hPre_finite_8 : Cert.Pre_finite_8.Facts] : Prop :=
  ∀ (m : (ℓ : Loc Cert.MmDH2RmsIdeal.nD Cert.MmDH2RmsIdeal.τ Cert.MmDH2RmsIdeal.sig) → Buf (Elt Ideal) ℓ) (g : Dev Cert.MmDH2RmsIdeal.nD → PrngReg)
    (m' : (ℓ : Loc Cert.MmDH2RmsRefIdeal.nD Cert.MmDH2RmsRefIdeal.τ Cert.MmDH2RmsRefIdeal.sig) → Buf (Elt Ideal) ℓ) (g' : Dev Cert.MmDH2RmsRefIdeal.nD → PrngReg), Pre_MmDH2RmsIdeal_finite_8 m →
    (∀ c : Dev Cert.MmDH2RmsIdeal.nD,
      m' ((c.tc : Thread Cert.MmDH2RmsRefIdeal.nD Cert.MmDH2RmsRefIdeal.τ).loc Cert.MmDH2RmsRefIdeal.main_arg0) = m ((c.tc : Thread Cert.MmDH2RmsIdeal.nD Cert.MmDH2RmsIdeal.τ).loc Cert.MmDH2RmsIdeal.main_arg0)
      ∧ m' ((c.tc : Thread Cert.MmDH2RmsRefIdeal.nD Cert.MmDH2RmsRefIdeal.τ).loc Cert.MmDH2RmsRefIdeal.main_arg1) = m ((c.tc : Thread Cert.MmDH2RmsIdeal.nD Cert.MmDH2RmsIdeal.τ).loc Cert.MmDH2RmsIdeal.main_arg1)
      ∧ m' ((c.tc : Thread Cert.MmDH2RmsRefIdeal.nD Cert.MmDH2RmsRefIdeal.τ).loc Cert.MmDH2RmsRefIdeal.main_arg2) = m ((c.tc : Thread Cert.MmDH2RmsIdeal.nD Cert.MmDH2RmsIdeal.τ).loc Cert.MmDH2RmsIdeal.main_arg2)
      ∧ m' ((c.tc : Thread Cert.MmDH2RmsRefIdeal.nD Cert.MmDH2RmsRefIdeal.τ).loc Cert.MmDH2RmsRefIdeal.main_arg3) = m ((c.tc : Thread Cert.MmDH2RmsIdeal.nD Cert.MmDH2RmsIdeal.τ).loc Cert.MmDH2RmsIdeal.main_arg3)
      ∧ m' ((c.tc : Thread Cert.MmDH2RmsRefIdeal.nD Cert.MmDH2RmsRefIdeal.τ).loc Cert.MmDH2RmsRefIdeal.main_arg4) = m ((c.tc : Thread Cert.MmDH2RmsIdeal.nD Cert.MmDH2RmsIdeal.τ).loc Cert.MmDH2RmsIdeal.main_arg4)) →
    ∃ (v0 : (c : Dev Cert.MmDH2RmsIdeal.nD) → Buf (Elt Ideal) ((c.tc : Thread Cert.MmDH2RmsIdeal.nD Cert.MmDH2RmsIdeal.τ).loc Cert.MmDH2RmsIdeal.main_v0_0)) (v1 : (c : Dev Cert.MmDH2RmsIdeal.nD) → Buf (Elt Ideal) ((c.tc : Thread Cert.MmDH2RmsIdeal.nD Cert.MmDH2RmsIdeal.τ).loc Cert.MmDH2RmsIdeal.main_v0_1)),
      θ_run (Cert.MmDH2RmsIdeal.defs (F := Ideal)) (onTc (τ := Cert.MmDH2RmsIdeal.τ) (Cert.MmDH2RmsIdeal.main (F := Ideal))) ⟨m, fun _ => 0, g⟩ (fun r => ∀ c : Dev Cert.MmDH2RmsIdeal.nD,
          r.2.mem ((c.tc : Thread Cert.MmDH2RmsIdeal.nD Cert.MmDH2RmsIdeal.τ).loc Cert.MmDH2RmsIdeal.main_v0_0) = v0 c
          ∧ r.2.mem ((c.tc : Thread Cert.MmDH2RmsIdeal.nD Cert.MmDH2RmsIdeal.τ).loc Cert.MmDH2RmsIdeal.main_v0_1) = v1 c
          ∧ r.2.mem ((c.tc : Thread Cert.MmDH2RmsIdeal.nD Cert.MmDH2RmsIdeal.τ).loc Cert.MmDH2RmsIdeal.main_arg0) = m ((c.tc : Thread Cert.MmDH2RmsIdeal.nD Cert.MmDH2RmsIdeal.τ).loc Cert.MmDH2RmsIdeal.main_arg0)
          ∧ r.2.mem ((c.tc : Thread Cert.MmDH2RmsIdeal.nD Cert.MmDH2RmsIdeal.τ).loc Cert.MmDH2RmsIdeal.main_arg1) = m ((c.tc : Thread Cert.MmDH2RmsIdeal.nD Cert.MmDH2RmsIdeal.τ).loc Cert.MmDH2RmsIdeal.main_arg1)
          ∧ r.2.mem ((c.tc : Thread Cert.MmDH2RmsIdeal.nD Cert.MmDH2RmsIdeal.τ).loc Cert.MmDH2RmsIdeal.main_arg2) = m ((c.tc : Thread Cert.MmDH2RmsIdeal.nD Cert.MmDH2RmsIdeal.τ).loc Cert.MmDH2RmsIdeal.main_arg2)
          ∧ r.2.mem ((c.tc : Thread Cert.MmDH2RmsIdeal.nD Cert.MmDH2RmsIdeal.τ).loc Cert.MmDH2RmsIdeal.main_arg3) = m ((c.tc : Thread Cert.MmDH2RmsIdeal.nD Cert.MmDH2RmsIdeal.τ).loc Cert.MmDH2RmsIdeal.main_arg3)
          ∧ r.2.mem ((c.tc : Thread Cert.MmDH2RmsIdeal.nD Cert.MmDH2RmsIdeal.τ).loc Cert.MmDH2RmsIdeal.main_arg4) = m ((c.tc : Thread Cert.MmDH2RmsIdeal.nD Cert.MmDH2RmsIdeal.τ).loc Cert.MmDH2RmsIdeal.main_arg4))
      ∧ θ_run (Cert.MmDH2RmsRefIdeal.defs (F := Ideal)) (onTc (τ := Cert.MmDH2RmsRefIdeal.τ) (Cert.MmDH2RmsRefIdeal.main (F := Ideal))) ⟨m', fun _ => 0, g'⟩ (fun r => ∀ c : Dev Cert.MmDH2RmsRefIdeal.nD,
          r.2.mem ((c.tc : Thread Cert.MmDH2RmsRefIdeal.nD Cert.MmDH2RmsRefIdeal.τ).loc Cert.MmDH2RmsRefIdeal.main_v41) = v0 c
          ∧ r.2.mem ((c.tc : Thread Cert.MmDH2RmsRefIdeal.nD Cert.MmDH2RmsRefIdeal.τ).loc Cert.MmDH2RmsRefIdeal.main_v24) = v1 c
          ∧ r.2.mem ((c.tc : Thread Cert.MmDH2RmsRefIdeal.nD Cert.MmDH2RmsRefIdeal.τ).loc Cert.MmDH2RmsRefIdeal.main_arg0) = m' ((c.tc : Thread Cert.MmDH2RmsRefIdeal.nD Cert.MmDH2RmsRefIdeal.τ).loc Cert.MmDH2RmsRefIdeal.main_arg0)
          ∧ r.2.mem ((c.tc : Thread Cert.MmDH2RmsRefIdeal.nD Cert.MmDH2RmsRefIdeal.τ).loc Cert.MmDH2RmsRefIdeal.main_arg1) = m' ((c.tc : Thread Cert.MmDH2RmsRefIdeal.nD Cert.MmDH2RmsRefIdeal.τ).loc Cert.MmDH2RmsRefIdeal.main_arg1)
          ∧ r.2.mem ((c.tc : Thread Cert.MmDH2RmsRefIdeal.nD Cert.MmDH2RmsRefIdeal.τ).loc Cert.MmDH2RmsRefIdeal.main_arg2) = m' ((c.tc : Thread Cert.MmDH2RmsRefIdeal.nD Cert.MmDH2RmsRefIdeal.τ).loc Cert.MmDH2RmsRefIdeal.main_arg2)
          ∧ r.2.mem ((c.tc : Thread Cert.MmDH2RmsRefIdeal.nD Cert.MmDH2RmsRefIdeal.τ).loc Cert.MmDH2RmsRefIdeal.main_arg3) = m' ((c.tc : Thread Cert.MmDH2RmsRefIdeal.nD Cert.MmDH2RmsRefIdeal.τ).loc Cert.MmDH2RmsRefIdeal.main_arg3)
          ∧ r.2.mem ((c.tc : Thread Cert.MmDH2RmsRefIdeal.nD Cert.MmDH2RmsRefIdeal.τ).loc Cert.MmDH2RmsRefIdeal.main_arg4) = m' ((c.tc : Thread Cert.MmDH2RmsRefIdeal.nD Cert.MmDH2RmsRefIdeal.τ).loc Cert.MmDH2RmsRefIdeal.main_arg4))

def preserves_MmDownLoss_MmDownLossIdeal : Prop :=
  True

def algebraic_MmDownLossIdeal_MmDownLossRefIdeal_pre_finite_9 [hMmDownLossIdeal : Cert.MmDownLossIdeal.Facts] [hMmDownLossRefIdeal : Cert.MmDownLossRefIdeal.Facts] [hPre_finite_9 : Cert.Pre_finite_9.Facts] : Prop :=
  ∀ (m : (ℓ : Loc Cert.MmDownLossIdeal.nD Cert.MmDownLossIdeal.τ Cert.MmDownLossIdeal.sig) → Buf (Elt Ideal) ℓ) (g : Dev Cert.MmDownLossIdeal.nD → PrngReg)
    (m' : (ℓ : Loc Cert.MmDownLossRefIdeal.nD Cert.MmDownLossRefIdeal.τ Cert.MmDownLossRefIdeal.sig) → Buf (Elt Ideal) ℓ) (g' : Dev Cert.MmDownLossRefIdeal.nD → PrngReg), Pre_MmDownLossIdeal_finite_9 m →
    (∀ c : Dev Cert.MmDownLossIdeal.nD,
      m' ((c.tc : Thread Cert.MmDownLossRefIdeal.nD Cert.MmDownLossRefIdeal.τ).loc Cert.MmDownLossRefIdeal.main_arg0) = m ((c.tc : Thread Cert.MmDownLossIdeal.nD Cert.MmDownLossIdeal.τ).loc Cert.MmDownLossIdeal.main_arg0)
      ∧ m' ((c.tc : Thread Cert.MmDownLossRefIdeal.nD Cert.MmDownLossRefIdeal.τ).loc Cert.MmDownLossRefIdeal.main_arg1) = m ((c.tc : Thread Cert.MmDownLossIdeal.nD Cert.MmDownLossIdeal.τ).loc Cert.MmDownLossIdeal.main_arg1)
      ∧ m' ((c.tc : Thread Cert.MmDownLossRefIdeal.nD Cert.MmDownLossRefIdeal.τ).loc Cert.MmDownLossRefIdeal.main_arg2) = m ((c.tc : Thread Cert.MmDownLossIdeal.nD Cert.MmDownLossIdeal.τ).loc Cert.MmDownLossIdeal.main_arg2)
      ∧ m' ((c.tc : Thread Cert.MmDownLossRefIdeal.nD Cert.MmDownLossRefIdeal.τ).loc Cert.MmDownLossRefIdeal.main_arg3) = m ((c.tc : Thread Cert.MmDownLossIdeal.nD Cert.MmDownLossIdeal.τ).loc Cert.MmDownLossIdeal.main_arg3)
      ∧ m' ((c.tc : Thread Cert.MmDownLossRefIdeal.nD Cert.MmDownLossRefIdeal.τ).loc Cert.MmDownLossRefIdeal.main_arg4) = m ((c.tc : Thread Cert.MmDownLossIdeal.nD Cert.MmDownLossIdeal.τ).loc Cert.MmDownLossIdeal.main_arg4)) →
    ∃ (v0 : (c : Dev Cert.MmDownLossIdeal.nD) → Buf (Elt Ideal) ((c.tc : Thread Cert.MmDownLossIdeal.nD Cert.MmDownLossIdeal.τ).loc Cert.MmDownLossIdeal.main_v0_0)) (v1 : (c : Dev Cert.MmDownLossIdeal.nD) → Buf (Elt Ideal) ((c.tc : Thread Cert.MmDownLossIdeal.nD Cert.MmDownLossIdeal.τ).loc Cert.MmDownLossIdeal.main_v0_1)) (v2 : (c : Dev Cert.MmDownLossIdeal.nD) → Buf (Elt Ideal) ((c.tc : Thread Cert.MmDownLossIdeal.nD Cert.MmDownLossIdeal.τ).loc Cert.MmDownLossIdeal.main_v0_2)) (v3 : (c : Dev Cert.MmDownLossIdeal.nD) → Buf (Elt Ideal) ((c.tc : Thread Cert.MmDownLossIdeal.nD Cert.MmDownLossIdeal.τ).loc Cert.MmDownLossIdeal.main_v0_3)),
      θ_run (Cert.MmDownLossIdeal.defs (F := Ideal)) (onTc (τ := Cert.MmDownLossIdeal.τ) (Cert.MmDownLossIdeal.main (F := Ideal))) ⟨m, fun _ => 0, g⟩ (fun r => ∀ c : Dev Cert.MmDownLossIdeal.nD,
          r.2.mem ((c.tc : Thread Cert.MmDownLossIdeal.nD Cert.MmDownLossIdeal.τ).loc Cert.MmDownLossIdeal.main_v0_0) = v0 c
          ∧ r.2.mem ((c.tc : Thread Cert.MmDownLossIdeal.nD Cert.MmDownLossIdeal.τ).loc Cert.MmDownLossIdeal.main_v0_1) = v1 c
          ∧ r.2.mem ((c.tc : Thread Cert.MmDownLossIdeal.nD Cert.MmDownLossIdeal.τ).loc Cert.MmDownLossIdeal.main_v0_2) = v2 c
          ∧ r.2.mem ((c.tc : Thread Cert.MmDownLossIdeal.nD Cert.MmDownLossIdeal.τ).loc Cert.MmDownLossIdeal.main_v0_3) = v3 c
          ∧ r.2.mem ((c.tc : Thread Cert.MmDownLossIdeal.nD Cert.MmDownLossIdeal.τ).loc Cert.MmDownLossIdeal.main_arg0) = m ((c.tc : Thread Cert.MmDownLossIdeal.nD Cert.MmDownLossIdeal.τ).loc Cert.MmDownLossIdeal.main_arg0)
          ∧ r.2.mem ((c.tc : Thread Cert.MmDownLossIdeal.nD Cert.MmDownLossIdeal.τ).loc Cert.MmDownLossIdeal.main_arg1) = m ((c.tc : Thread Cert.MmDownLossIdeal.nD Cert.MmDownLossIdeal.τ).loc Cert.MmDownLossIdeal.main_arg1)
          ∧ r.2.mem ((c.tc : Thread Cert.MmDownLossIdeal.nD Cert.MmDownLossIdeal.τ).loc Cert.MmDownLossIdeal.main_arg2) = m ((c.tc : Thread Cert.MmDownLossIdeal.nD Cert.MmDownLossIdeal.τ).loc Cert.MmDownLossIdeal.main_arg2)
          ∧ r.2.mem ((c.tc : Thread Cert.MmDownLossIdeal.nD Cert.MmDownLossIdeal.τ).loc Cert.MmDownLossIdeal.main_arg3) = m ((c.tc : Thread Cert.MmDownLossIdeal.nD Cert.MmDownLossIdeal.τ).loc Cert.MmDownLossIdeal.main_arg3)
          ∧ r.2.mem ((c.tc : Thread Cert.MmDownLossIdeal.nD Cert.MmDownLossIdeal.τ).loc Cert.MmDownLossIdeal.main_arg4) = m ((c.tc : Thread Cert.MmDownLossIdeal.nD Cert.MmDownLossIdeal.τ).loc Cert.MmDownLossIdeal.main_arg4))
      ∧ θ_run (Cert.MmDownLossRefIdeal.defs (F := Ideal)) (onTc (τ := Cert.MmDownLossRefIdeal.τ) (Cert.MmDownLossRefIdeal.main (F := Ideal))) ⟨m', fun _ => 0, g'⟩ (fun r => ∀ c : Dev Cert.MmDownLossRefIdeal.nD,
          r.2.mem ((c.tc : Thread Cert.MmDownLossRefIdeal.nD Cert.MmDownLossRefIdeal.τ).loc Cert.MmDownLossRefIdeal.main_v55) = v0 c
          ∧ r.2.mem ((c.tc : Thread Cert.MmDownLossRefIdeal.nD Cert.MmDownLossRefIdeal.τ).loc Cert.MmDownLossRefIdeal.main_v54) = v1 c
          ∧ r.2.mem ((c.tc : Thread Cert.MmDownLossRefIdeal.nD Cert.MmDownLossRefIdeal.τ).loc Cert.MmDownLossRefIdeal.main_v56) = v2 c
          ∧ r.2.mem ((c.tc : Thread Cert.MmDownLossRefIdeal.nD Cert.MmDownLossRefIdeal.τ).loc Cert.MmDownLossRefIdeal.main_v38) = v3 c
          ∧ r.2.mem ((c.tc : Thread Cert.MmDownLossRefIdeal.nD Cert.MmDownLossRefIdeal.τ).loc Cert.MmDownLossRefIdeal.main_arg0) = m' ((c.tc : Thread Cert.MmDownLossRefIdeal.nD Cert.MmDownLossRefIdeal.τ).loc Cert.MmDownLossRefIdeal.main_arg0)
          ∧ r.2.mem ((c.tc : Thread Cert.MmDownLossRefIdeal.nD Cert.MmDownLossRefIdeal.τ).loc Cert.MmDownLossRefIdeal.main_arg1) = m' ((c.tc : Thread Cert.MmDownLossRefIdeal.nD Cert.MmDownLossRefIdeal.τ).loc Cert.MmDownLossRefIdeal.main_arg1)
          ∧ r.2.mem ((c.tc : Thread Cert.MmDownLossRefIdeal.nD Cert.MmDownLossRefIdeal.τ).loc Cert.MmDownLossRefIdeal.main_arg2) = m' ((c.tc : Thread Cert.MmDownLossRefIdeal.nD Cert.MmDownLossRefIdeal.τ).loc Cert.MmDownLossRefIdeal.main_arg2)
          ∧ r.2.mem ((c.tc : Thread Cert.MmDownLossRefIdeal.nD Cert.MmDownLossRefIdeal.τ).loc Cert.MmDownLossRefIdeal.main_arg3) = m' ((c.tc : Thread Cert.MmDownLossRefIdeal.nD Cert.MmDownLossRefIdeal.τ).loc Cert.MmDownLossRefIdeal.main_arg3)
          ∧ r.2.mem ((c.tc : Thread Cert.MmDownLossRefIdeal.nD Cert.MmDownLossRefIdeal.τ).loc Cert.MmDownLossRefIdeal.main_arg4) = m' ((c.tc : Thread Cert.MmDownLossRefIdeal.nD Cert.MmDownLossRefIdeal.τ).loc Cert.MmDownLossRefIdeal.main_arg4))

def preserves_MmDWout_MmDWoutIdeal : Prop :=
  True

def algebraic_MmDWoutIdeal_MmDWoutRefIdeal [hMmDWoutIdeal : Cert.MmDWoutIdeal.Facts] [hMmDWoutRefIdeal : Cert.MmDWoutRefIdeal.Facts] : Prop :=
  ∀ (m : (ℓ : Loc Cert.MmDWoutIdeal.nD Cert.MmDWoutIdeal.τ Cert.MmDWoutIdeal.sig) → Buf (Elt Ideal) ℓ) (g : Dev Cert.MmDWoutIdeal.nD → PrngReg)
    (m' : (ℓ : Loc Cert.MmDWoutRefIdeal.nD Cert.MmDWoutRefIdeal.τ Cert.MmDWoutRefIdeal.sig) → Buf (Elt Ideal) ℓ) (g' : Dev Cert.MmDWoutRefIdeal.nD → PrngReg), Pre_MmDWoutIdeal m →
    (∀ c : Dev Cert.MmDWoutIdeal.nD,
      m' ((c.tc : Thread Cert.MmDWoutRefIdeal.nD Cert.MmDWoutRefIdeal.τ).loc Cert.MmDWoutRefIdeal.main_arg0) = m ((c.tc : Thread Cert.MmDWoutIdeal.nD Cert.MmDWoutIdeal.τ).loc Cert.MmDWoutIdeal.main_arg0)
      ∧ m' ((c.tc : Thread Cert.MmDWoutRefIdeal.nD Cert.MmDWoutRefIdeal.τ).loc Cert.MmDWoutRefIdeal.main_arg1) = m ((c.tc : Thread Cert.MmDWoutIdeal.nD Cert.MmDWoutIdeal.τ).loc Cert.MmDWoutIdeal.main_arg1)) →
    ∃ (v0 : (c : Dev Cert.MmDWoutIdeal.nD) → Buf (Elt Ideal) ((c.tc : Thread Cert.MmDWoutIdeal.nD Cert.MmDWoutIdeal.τ).loc Cert.MmDWoutIdeal.main_v0)),
      θ_run (Cert.MmDWoutIdeal.defs (F := Ideal)) (onTc (τ := Cert.MmDWoutIdeal.τ) (Cert.MmDWoutIdeal.main (F := Ideal))) ⟨m, fun _ => 0, g⟩ (fun r => ∀ c : Dev Cert.MmDWoutIdeal.nD,
          r.2.mem ((c.tc : Thread Cert.MmDWoutIdeal.nD Cert.MmDWoutIdeal.τ).loc Cert.MmDWoutIdeal.main_v0) = v0 c
          ∧ r.2.mem ((c.tc : Thread Cert.MmDWoutIdeal.nD Cert.MmDWoutIdeal.τ).loc Cert.MmDWoutIdeal.main_arg0) = m ((c.tc : Thread Cert.MmDWoutIdeal.nD Cert.MmDWoutIdeal.τ).loc Cert.MmDWoutIdeal.main_arg0)
          ∧ r.2.mem ((c.tc : Thread Cert.MmDWoutIdeal.nD Cert.MmDWoutIdeal.τ).loc Cert.MmDWoutIdeal.main_arg1) = m ((c.tc : Thread Cert.MmDWoutIdeal.nD Cert.MmDWoutIdeal.τ).loc Cert.MmDWoutIdeal.main_arg1))
      ∧ θ_run (Cert.MmDWoutRefIdeal.defs (F := Ideal)) (onTc (τ := Cert.MmDWoutRefIdeal.τ) (Cert.MmDWoutRefIdeal.main (F := Ideal))) ⟨m', fun _ => 0, g'⟩ (fun r => ∀ c : Dev Cert.MmDWoutRefIdeal.nD,
          r.2.mem ((c.tc : Thread Cert.MmDWoutRefIdeal.nD Cert.MmDWoutRefIdeal.τ).loc Cert.MmDWoutRefIdeal.main_v5) = v0 c
          ∧ r.2.mem ((c.tc : Thread Cert.MmDWoutRefIdeal.nD Cert.MmDWoutRefIdeal.τ).loc Cert.MmDWoutRefIdeal.main_arg0) = m' ((c.tc : Thread Cert.MmDWoutRefIdeal.nD Cert.MmDWoutRefIdeal.τ).loc Cert.MmDWoutRefIdeal.main_arg0)
          ∧ r.2.mem ((c.tc : Thread Cert.MmDWoutRefIdeal.nD Cert.MmDWoutRefIdeal.τ).loc Cert.MmDWoutRefIdeal.main_arg1) = m' ((c.tc : Thread Cert.MmDWoutRefIdeal.nD Cert.MmDWoutRefIdeal.τ).loc Cert.MmDWoutRefIdeal.main_arg1))

def preserves_MmDWgp_MmDWgpIdeal : Prop :=
  True

def algebraic_MmDWgpIdeal_MmDWgpRefIdeal [hMmDWgpIdeal : Cert.MmDWgpIdeal.Facts] [hMmDWgpRefIdeal : Cert.MmDWgpRefIdeal.Facts] : Prop :=
  ∀ (m : (ℓ : Loc Cert.MmDWgpIdeal.nD Cert.MmDWgpIdeal.τ Cert.MmDWgpIdeal.sig) → Buf (Elt Ideal) ℓ) (g : Dev Cert.MmDWgpIdeal.nD → PrngReg)
    (m' : (ℓ : Loc Cert.MmDWgpRefIdeal.nD Cert.MmDWgpRefIdeal.τ Cert.MmDWgpRefIdeal.sig) → Buf (Elt Ideal) ℓ) (g' : Dev Cert.MmDWgpRefIdeal.nD → PrngReg), Pre_MmDWgpIdeal m →
    (∀ c : Dev Cert.MmDWgpIdeal.nD,
      m' ((c.tc : Thread Cert.MmDWgpRefIdeal.nD Cert.MmDWgpRefIdeal.τ).loc Cert.MmDWgpRefIdeal.main_arg0) = m ((c.tc : Thread Cert.MmDWgpIdeal.nD Cert.MmDWgpIdeal.τ).loc Cert.MmDWgpIdeal.main_arg0)
      ∧ m' ((c.tc : Thread Cert.MmDWgpRefIdeal.nD Cert.MmDWgpRefIdeal.τ).loc Cert.MmDWgpRefIdeal.main_arg1) = m ((c.tc : Thread Cert.MmDWgpIdeal.nD Cert.MmDWgpIdeal.τ).loc Cert.MmDWgpIdeal.main_arg1)) →
    ∃ (v0 : (c : Dev Cert.MmDWgpIdeal.nD) → Buf (Elt Ideal) ((c.tc : Thread Cert.MmDWgpIdeal.nD Cert.MmDWgpIdeal.τ).loc Cert.MmDWgpIdeal.main_v0)),
      θ_run (Cert.MmDWgpIdeal.defs (F := Ideal)) (onTc (τ := Cert.MmDWgpIdeal.τ) (Cert.MmDWgpIdeal.main (F := Ideal))) ⟨m, fun _ => 0, g⟩ (fun r => ∀ c : Dev Cert.MmDWgpIdeal.nD,
          r.2.mem ((c.tc : Thread Cert.MmDWgpIdeal.nD Cert.MmDWgpIdeal.τ).loc Cert.MmDWgpIdeal.main_v0) = v0 c
          ∧ r.2.mem ((c.tc : Thread Cert.MmDWgpIdeal.nD Cert.MmDWgpIdeal.τ).loc Cert.MmDWgpIdeal.main_arg0) = m ((c.tc : Thread Cert.MmDWgpIdeal.nD Cert.MmDWgpIdeal.τ).loc Cert.MmDWgpIdeal.main_arg0)
          ∧ r.2.mem ((c.tc : Thread Cert.MmDWgpIdeal.nD Cert.MmDWgpIdeal.τ).loc Cert.MmDWgpIdeal.main_arg1) = m ((c.tc : Thread Cert.MmDWgpIdeal.nD Cert.MmDWgpIdeal.τ).loc Cert.MmDWgpIdeal.main_arg1))
      ∧ θ_run (Cert.MmDWgpRefIdeal.defs (F := Ideal)) (onTc (τ := Cert.MmDWgpRefIdeal.τ) (Cert.MmDWgpRefIdeal.main (F := Ideal))) ⟨m', fun _ => 0, g'⟩ (fun r => ∀ c : Dev Cert.MmDWgpRefIdeal.nD,
          r.2.mem ((c.tc : Thread Cert.MmDWgpRefIdeal.nD Cert.MmDWgpRefIdeal.τ).loc Cert.MmDWgpRefIdeal.main_v6) = v0 c
          ∧ r.2.mem ((c.tc : Thread Cert.MmDWgpRefIdeal.nD Cert.MmDWgpRefIdeal.τ).loc Cert.MmDWgpRefIdeal.main_arg0) = m' ((c.tc : Thread Cert.MmDWgpRefIdeal.nD Cert.MmDWgpRefIdeal.τ).loc Cert.MmDWgpRefIdeal.main_arg0)
          ∧ r.2.mem ((c.tc : Thread Cert.MmDWgpRefIdeal.nD Cert.MmDWgpRefIdeal.τ).loc Cert.MmDWgpRefIdeal.main_arg1) = m' ((c.tc : Thread Cert.MmDWgpRefIdeal.nD Cert.MmDWgpRefIdeal.τ).loc Cert.MmDWgpRefIdeal.main_arg1))

def preserves_MmDPs_MmDPsIdeal : Prop :=
  True

def algebraic_MmDPsIdeal_MmDPsRefIdeal [hMmDPsIdeal : Cert.MmDPsIdeal.Facts] [hMmDPsRefIdeal : Cert.MmDPsRefIdeal.Facts] : Prop :=
  ∀ (m : (ℓ : Loc Cert.MmDPsIdeal.nD Cert.MmDPsIdeal.τ Cert.MmDPsIdeal.sig) → Buf (Elt Ideal) ℓ) (g : Dev Cert.MmDPsIdeal.nD → PrngReg)
    (m' : (ℓ : Loc Cert.MmDPsRefIdeal.nD Cert.MmDPsRefIdeal.τ Cert.MmDPsRefIdeal.sig) → Buf (Elt Ideal) ℓ) (g' : Dev Cert.MmDPsRefIdeal.nD → PrngReg), Pre_MmDPsIdeal m →
    (∀ c : Dev Cert.MmDPsIdeal.nD,
      m' ((c.tc : Thread Cert.MmDPsRefIdeal.nD Cert.MmDPsRefIdeal.τ).loc Cert.MmDPsRefIdeal.main_arg0) = m ((c.tc : Thread Cert.MmDPsIdeal.nD Cert.MmDPsIdeal.τ).loc Cert.MmDPsIdeal.main_arg0)
      ∧ m' ((c.tc : Thread Cert.MmDPsRefIdeal.nD Cert.MmDPsRefIdeal.τ).loc Cert.MmDPsRefIdeal.main_arg1) = m ((c.tc : Thread Cert.MmDPsIdeal.nD Cert.MmDPsIdeal.τ).loc Cert.MmDPsIdeal.main_arg1)) →
    ∃ (v0 : (c : Dev Cert.MmDPsIdeal.nD) → Buf (Elt Ideal) ((c.tc : Thread Cert.MmDPsIdeal.nD Cert.MmDPsIdeal.τ).loc Cert.MmDPsIdeal.main_v0)),
      θ_run (Cert.MmDPsIdeal.defs (F := Ideal)) (onTc (τ := Cert.MmDPsIdeal.τ) (Cert.MmDPsIdeal.main (F := Ideal))) ⟨m, fun _ => 0, g⟩ (fun r => ∀ c : Dev Cert.MmDPsIdeal.nD,
          r.2.mem ((c.tc : Thread Cert.MmDPsIdeal.nD Cert.MmDPsIdeal.τ).loc Cert.MmDPsIdeal.main_v0) = v0 c
          ∧ r.2.mem ((c.tc : Thread Cert.MmDPsIdeal.nD Cert.MmDPsIdeal.τ).loc Cert.MmDPsIdeal.main_arg0) = m ((c.tc : Thread Cert.MmDPsIdeal.nD Cert.MmDPsIdeal.τ).loc Cert.MmDPsIdeal.main_arg0)
          ∧ r.2.mem ((c.tc : Thread Cert.MmDPsIdeal.nD Cert.MmDPsIdeal.τ).loc Cert.MmDPsIdeal.main_arg1) = m ((c.tc : Thread Cert.MmDPsIdeal.nD Cert.MmDPsIdeal.τ).loc Cert.MmDPsIdeal.main_arg1))
      ∧ θ_run (Cert.MmDPsRefIdeal.defs (F := Ideal)) (onTc (τ := Cert.MmDPsRefIdeal.τ) (Cert.MmDPsRefIdeal.main (F := Ideal))) ⟨m', fun _ => 0, g'⟩ (fun r => ∀ c : Dev Cert.MmDPsRefIdeal.nD,
          r.2.mem ((c.tc : Thread Cert.MmDPsRefIdeal.nD Cert.MmDPsRefIdeal.τ).loc Cert.MmDPsRefIdeal.main_v4) = v0 c
          ∧ r.2.mem ((c.tc : Thread Cert.MmDPsRefIdeal.nD Cert.MmDPsRefIdeal.τ).loc Cert.MmDPsRefIdeal.main_arg0) = m' ((c.tc : Thread Cert.MmDPsRefIdeal.nD Cert.MmDPsRefIdeal.τ).loc Cert.MmDPsRefIdeal.main_arg0)
          ∧ r.2.mem ((c.tc : Thread Cert.MmDPsRefIdeal.nD Cert.MmDPsRefIdeal.τ).loc Cert.MmDPsRefIdeal.main_arg1) = m' ((c.tc : Thread Cert.MmDPsRefIdeal.nD Cert.MmDPsRefIdeal.τ).loc Cert.MmDPsRefIdeal.main_arg1))

def preserves_MmDWpp_MmDWppIdeal : Prop :=
  True

def algebraic_MmDWppIdeal_MmDWppRefIdeal [hMmDWppIdeal : Cert.MmDWppIdeal.Facts] [hMmDWppRefIdeal : Cert.MmDWppRefIdeal.Facts] : Prop :=
  ∀ (m : (ℓ : Loc Cert.MmDWppIdeal.nD Cert.MmDWppIdeal.τ Cert.MmDWppIdeal.sig) → Buf (Elt Ideal) ℓ) (g : Dev Cert.MmDWppIdeal.nD → PrngReg)
    (m' : (ℓ : Loc Cert.MmDWppRefIdeal.nD Cert.MmDWppRefIdeal.τ Cert.MmDWppRefIdeal.sig) → Buf (Elt Ideal) ℓ) (g' : Dev Cert.MmDWppRefIdeal.nD → PrngReg), Pre_MmDWppIdeal m →
    (∀ c : Dev Cert.MmDWppIdeal.nD,
      m' ((c.tc : Thread Cert.MmDWppRefIdeal.nD Cert.MmDWppRefIdeal.τ).loc Cert.MmDWppRefIdeal.main_arg0) = m ((c.tc : Thread Cert.MmDWppIdeal.nD Cert.MmDWppIdeal.τ).loc Cert.MmDWppIdeal.main_arg0)
      ∧ m' ((c.tc : Thread Cert.MmDWppRefIdeal.nD Cert.MmDWppRefIdeal.τ).loc Cert.MmDWppRefIdeal.main_arg1) = m ((c.tc : Thread Cert.MmDWppIdeal.nD Cert.MmDWppIdeal.τ).loc Cert.MmDWppIdeal.main_arg1)) →
    ∃ (v0 : (c : Dev Cert.MmDWppIdeal.nD) → Buf (Elt Ideal) ((c.tc : Thread Cert.MmDWppIdeal.nD Cert.MmDWppIdeal.τ).loc Cert.MmDWppIdeal.main_v0)),
      θ_run (Cert.MmDWppIdeal.defs (F := Ideal)) (onTc (τ := Cert.MmDWppIdeal.τ) (Cert.MmDWppIdeal.main (F := Ideal))) ⟨m, fun _ => 0, g⟩ (fun r => ∀ c : Dev Cert.MmDWppIdeal.nD,
          r.2.mem ((c.tc : Thread Cert.MmDWppIdeal.nD Cert.MmDWppIdeal.τ).loc Cert.MmDWppIdeal.main_v0) = v0 c
          ∧ r.2.mem ((c.tc : Thread Cert.MmDWppIdeal.nD Cert.MmDWppIdeal.τ).loc Cert.MmDWppIdeal.main_arg0) = m ((c.tc : Thread Cert.MmDWppIdeal.nD Cert.MmDWppIdeal.τ).loc Cert.MmDWppIdeal.main_arg0)
          ∧ r.2.mem ((c.tc : Thread Cert.MmDWppIdeal.nD Cert.MmDWppIdeal.τ).loc Cert.MmDWppIdeal.main_arg1) = m ((c.tc : Thread Cert.MmDWppIdeal.nD Cert.MmDWppIdeal.τ).loc Cert.MmDWppIdeal.main_arg1))
      ∧ θ_run (Cert.MmDWppRefIdeal.defs (F := Ideal)) (onTc (τ := Cert.MmDWppRefIdeal.τ) (Cert.MmDWppRefIdeal.main (F := Ideal))) ⟨m', fun _ => 0, g'⟩ (fun r => ∀ c : Dev Cert.MmDWppRefIdeal.nD,
          r.2.mem ((c.tc : Thread Cert.MmDWppRefIdeal.nD Cert.MmDWppRefIdeal.τ).loc Cert.MmDWppRefIdeal.main_v5) = v0 c
          ∧ r.2.mem ((c.tc : Thread Cert.MmDWppRefIdeal.nD Cert.MmDWppRefIdeal.τ).loc Cert.MmDWppRefIdeal.main_arg0) = m' ((c.tc : Thread Cert.MmDWppRefIdeal.nD Cert.MmDWppRefIdeal.τ).loc Cert.MmDWppRefIdeal.main_arg0)
          ∧ r.2.mem ((c.tc : Thread Cert.MmDWppRefIdeal.nD Cert.MmDWppRefIdeal.τ).loc Cert.MmDWppRefIdeal.main_arg1) = m' ((c.tc : Thread Cert.MmDWppRefIdeal.nD Cert.MmDWppRefIdeal.τ).loc Cert.MmDWppRefIdeal.main_arg1))

def preserves_AdamSquare_AdamSquareIdeal : Prop :=
  True

def algebraic_AdamSquareIdeal_AdamSquareRefIdeal [hAdamSquareIdeal : Cert.AdamSquareIdeal.Facts] [hAdamSquareRefIdeal : Cert.AdamSquareRefIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareRefIdeal.nD Cert.AdamSquareRefIdeal.τ Cert.AdamSquareRefIdeal.sig) → Buf (Elt Ideal) ℓ) (g' : Dev Cert.AdamSquareRefIdeal.nD → PrngReg), Pre_AdamSquareIdeal m →
    (∀ c : Dev Cert.AdamSquareIdeal.nD,
      m' ((c.tc : Thread Cert.AdamSquareRefIdeal.nD Cert.AdamSquareRefIdeal.τ).loc Cert.AdamSquareRefIdeal.main_arg0) = m ((c.tc : Thread Cert.AdamSquareIdeal.nD Cert.AdamSquareIdeal.τ).loc Cert.AdamSquareIdeal.main_arg0)
      ∧ m' ((c.tc : Thread Cert.AdamSquareRefIdeal.nD Cert.AdamSquareRefIdeal.τ).loc Cert.AdamSquareRefIdeal.main_arg1) = m ((c.tc : Thread Cert.AdamSquareIdeal.nD Cert.AdamSquareIdeal.τ).loc Cert.AdamSquareIdeal.main_arg1)
      ∧ m' ((c.tc : Thread Cert.AdamSquareRefIdeal.nD Cert.AdamSquareRefIdeal.τ).loc Cert.AdamSquareRefIdeal.main_arg2) = m ((c.tc : Thread Cert.AdamSquareIdeal.nD Cert.AdamSquareIdeal.τ).loc Cert.AdamSquareIdeal.main_arg2)
      ∧ m' ((c.tc : Thread Cert.AdamSquareRefIdeal.nD Cert.AdamSquareRefIdeal.τ).loc Cert.AdamSquareRefIdeal.main_arg3) = m ((c.tc : Thread Cert.AdamSquareIdeal.nD Cert.AdamSquareIdeal.τ).loc Cert.AdamSquareIdeal.main_arg3)
      ∧ m' ((c.tc : Thread Cert.AdamSquareRefIdeal.nD Cert.AdamSquareRefIdeal.τ).loc Cert.AdamSquareRefIdeal.main_arg4) = m ((c.tc : Thread Cert.AdamSquareIdeal.nD Cert.AdamSquareIdeal.τ).loc Cert.AdamSquareIdeal.main_arg4)) →
    ∃ (v0 : (c : Dev Cert.AdamSquareIdeal.nD) → Buf (Elt Ideal) ((c.tc : Thread Cert.AdamSquareIdeal.nD Cert.AdamSquareIdeal.τ).loc Cert.AdamSquareIdeal.main_v1_0)) (v1 : (c : Dev Cert.AdamSquareIdeal.nD) → Buf (Elt Ideal) ((c.tc : Thread Cert.AdamSquareIdeal.nD Cert.AdamSquareIdeal.τ).loc Cert.AdamSquareIdeal.main_v1_1)) (v2 : (c : Dev Cert.AdamSquareIdeal.nD) → Buf (Elt Ideal) ((c.tc : Thread Cert.AdamSquareIdeal.nD Cert.AdamSquareIdeal.τ).loc Cert.AdamSquareIdeal.main_v1_2)) (v3 : (c : Dev Cert.AdamSquareIdeal.nD) → Buf (Elt Ideal) ((c.tc : Thread Cert.AdamSquareIdeal.nD Cert.AdamSquareIdeal.τ).loc Cert.AdamSquareIdeal.main_v1_3)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v1_0) = v0 c
          ∧ r.2.mem ((c.tc : Thread Cert.AdamSquareIdeal.nD Cert.AdamSquareIdeal.τ).loc Cert.AdamSquareIdeal.main_v1_1) = v1 c
          ∧ r.2.mem ((c.tc : Thread Cert.AdamSquareIdeal.nD Cert.AdamSquareIdeal.τ).loc Cert.AdamSquareIdeal.main_v1_2) = v2 c
          ∧ r.2.mem ((c.tc : Thread Cert.AdamSquareIdeal.nD Cert.AdamSquareIdeal.τ).loc Cert.AdamSquareIdeal.main_v1_3) = v3 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3)
          ∧ r.2.mem ((c.tc : Thread Cert.AdamSquareIdeal.nD Cert.AdamSquareIdeal.τ).loc Cert.AdamSquareIdeal.main_arg4) = m ((c.tc : Thread Cert.AdamSquareIdeal.nD Cert.AdamSquareIdeal.τ).loc Cert.AdamSquareIdeal.main_arg4))
      ∧ θ_run (Cert.AdamSquareRefIdeal.defs (F := Ideal)) (onTc (τ := Cert.AdamSquareRefIdeal.τ) (Cert.AdamSquareRefIdeal.main (F := Ideal))) ⟨m', fun _ => 0, g'⟩ (fun r => ∀ c : Dev Cert.AdamSquareRefIdeal.nD,
          r.2.mem ((c.tc : Thread Cert.AdamSquareRefIdeal.nD Cert.AdamSquareRefIdeal.τ).loc Cert.AdamSquareRefIdeal.main_v5) = v0 c
          ∧ r.2.mem ((c.tc : Thread Cert.AdamSquareRefIdeal.nD Cert.AdamSquareRefIdeal.τ).loc Cert.AdamSquareRefIdeal.main_v29) = v1 c
          ∧ r.2.mem ((c.tc : Thread Cert.AdamSquareRefIdeal.nD Cert.AdamSquareRefIdeal.τ).loc Cert.AdamSquareRefIdeal.main_v10) = v2 c
          ∧ r.2.mem ((c.tc : Thread Cert.AdamSquareRefIdeal.nD Cert.AdamSquareRefIdeal.τ).loc Cert.AdamSquareRefIdeal.main_v16) = v3 c
          ∧ r.2.mem ((c.tc : Thread Cert.AdamSquareRefIdeal.nD Cert.AdamSquareRefIdeal.τ).loc Cert.AdamSquareRefIdeal.main_arg0) = m' ((c.tc : Thread Cert.AdamSquareRefIdeal.nD Cert.AdamSquareRefIdeal.τ).loc Cert.AdamSquareRefIdeal.main_arg0)
          ∧ r.2.mem ((c.tc : Thread Cert.AdamSquareRefIdeal.nD Cert.AdamSquareRefIdeal.τ).loc Cert.AdamSquareRefIdeal.main_arg1) = m' ((c.tc : Thread Cert.AdamSquareRefIdeal.nD Cert.AdamSquareRefIdeal.τ).loc Cert.AdamSquareRefIdeal.main_arg1)
          ∧ r.2.mem ((c.tc : Thread Cert.AdamSquareRefIdeal.nD Cert.AdamSquareRefIdeal.τ).loc Cert.AdamSquareRefIdeal.main_arg2) = m' ((c.tc : Thread Cert.AdamSquareRefIdeal.nD Cert.AdamSquareRefIdeal.τ).loc Cert.AdamSquareRefIdeal.main_arg2)
          ∧ r.2.mem ((c.tc : Thread Cert.AdamSquareRefIdeal.nD Cert.AdamSquareRefIdeal.τ).loc Cert.AdamSquareRefIdeal.main_arg3) = m' ((c.tc : Thread Cert.AdamSquareRefIdeal.nD Cert.AdamSquareRefIdeal.τ).loc Cert.AdamSquareRefIdeal.main_arg3)
          ∧ r.2.mem ((c.tc : Thread Cert.AdamSquareRefIdeal.nD Cert.AdamSquareRefIdeal.τ).loc Cert.AdamSquareRefIdeal.main_arg4) = m' ((c.tc : Thread Cert.AdamSquareRefIdeal.nD Cert.AdamSquareRefIdeal.τ).loc Cert.AdamSquareRefIdeal.main_arg4))

def preserves_AdamPool_AdamPoolIdeal : Prop :=
  True

def algebraic_AdamPoolIdeal_AdamPoolRefIdeal [hAdamPoolIdeal : Cert.AdamPoolIdeal.Facts] [hAdamPoolRefIdeal : Cert.AdamPoolRefIdeal.Facts] : Prop :=
  ∀ (m : (ℓ : Loc Cert.AdamPoolIdeal.nD Cert.AdamPoolIdeal.τ Cert.AdamPoolIdeal.sig) → Buf (Elt Ideal) ℓ) (g : Dev Cert.AdamPoolIdeal.nD → PrngReg)
    (m' : (ℓ : Loc Cert.AdamPoolRefIdeal.nD Cert.AdamPoolRefIdeal.τ Cert.AdamPoolRefIdeal.sig) → Buf (Elt Ideal) ℓ) (g' : Dev Cert.AdamPoolRefIdeal.nD → PrngReg), Pre_AdamPoolIdeal m →
    (∀ c : Dev Cert.AdamPoolIdeal.nD,
      m' ((c.tc : Thread Cert.AdamPoolRefIdeal.nD Cert.AdamPoolRefIdeal.τ).loc Cert.AdamPoolRefIdeal.main_arg0) = m ((c.tc : Thread Cert.AdamPoolIdeal.nD Cert.AdamPoolIdeal.τ).loc Cert.AdamPoolIdeal.main_arg0)
      ∧ m' ((c.tc : Thread Cert.AdamPoolRefIdeal.nD Cert.AdamPoolRefIdeal.τ).loc Cert.AdamPoolRefIdeal.main_arg1) = m ((c.tc : Thread Cert.AdamPoolIdeal.nD Cert.AdamPoolIdeal.τ).loc Cert.AdamPoolIdeal.main_arg1)
      ∧ m' ((c.tc : Thread Cert.AdamPoolRefIdeal.nD Cert.AdamPoolRefIdeal.τ).loc Cert.AdamPoolRefIdeal.main_arg2) = m ((c.tc : Thread Cert.AdamPoolIdeal.nD Cert.AdamPoolIdeal.τ).loc Cert.AdamPoolIdeal.main_arg2)
      ∧ m' ((c.tc : Thread Cert.AdamPoolRefIdeal.nD Cert.AdamPoolRefIdeal.τ).loc Cert.AdamPoolRefIdeal.main_arg3) = m ((c.tc : Thread Cert.AdamPoolIdeal.nD Cert.AdamPoolIdeal.τ).loc Cert.AdamPoolIdeal.main_arg3)
      ∧ m' ((c.tc : Thread Cert.AdamPoolRefIdeal.nD Cert.AdamPoolRefIdeal.τ).loc Cert.AdamPoolRefIdeal.main_arg4) = m ((c.tc : Thread Cert.AdamPoolIdeal.nD Cert.AdamPoolIdeal.τ).loc Cert.AdamPoolIdeal.main_arg4)) →
    ∃ (v0 : (c : Dev Cert.AdamPoolIdeal.nD) → Buf (Elt Ideal) ((c.tc : Thread Cert.AdamPoolIdeal.nD Cert.AdamPoolIdeal.τ).loc Cert.AdamPoolIdeal.main_v1_0)) (v1 : (c : Dev Cert.AdamPoolIdeal.nD) → Buf (Elt Ideal) ((c.tc : Thread Cert.AdamPoolIdeal.nD Cert.AdamPoolIdeal.τ).loc Cert.AdamPoolIdeal.main_v1_1)) (v2 : (c : Dev Cert.AdamPoolIdeal.nD) → Buf (Elt Ideal) ((c.tc : Thread Cert.AdamPoolIdeal.nD Cert.AdamPoolIdeal.τ).loc Cert.AdamPoolIdeal.main_v1_2)) (v3 : (c : Dev Cert.AdamPoolIdeal.nD) → Buf (Elt Ideal) ((c.tc : Thread Cert.AdamPoolIdeal.nD Cert.AdamPoolIdeal.τ).loc Cert.AdamPoolIdeal.main_v1_3)),
      θ_run (Cert.AdamPoolIdeal.defs (F := Ideal)) (onTc (τ := Cert.AdamPoolIdeal.τ) (Cert.AdamPoolIdeal.main (F := Ideal))) ⟨m, fun _ => 0, g⟩ (fun r => ∀ c : Dev Cert.AdamPoolIdeal.nD,
          r.2.mem ((c.tc : Thread Cert.AdamPoolIdeal.nD Cert.AdamPoolIdeal.τ).loc Cert.AdamPoolIdeal.main_v1_0) = v0 c
          ∧ r.2.mem ((c.tc : Thread Cert.AdamPoolIdeal.nD Cert.AdamPoolIdeal.τ).loc Cert.AdamPoolIdeal.main_v1_1) = v1 c
          ∧ r.2.mem ((c.tc : Thread Cert.AdamPoolIdeal.nD Cert.AdamPoolIdeal.τ).loc Cert.AdamPoolIdeal.main_v1_2) = v2 c
          ∧ r.2.mem ((c.tc : Thread Cert.AdamPoolIdeal.nD Cert.AdamPoolIdeal.τ).loc Cert.AdamPoolIdeal.main_v1_3) = v3 c
          ∧ r.2.mem ((c.tc : Thread Cert.AdamPoolIdeal.nD Cert.AdamPoolIdeal.τ).loc Cert.AdamPoolIdeal.main_arg0) = m ((c.tc : Thread Cert.AdamPoolIdeal.nD Cert.AdamPoolIdeal.τ).loc Cert.AdamPoolIdeal.main_arg0)
          ∧ r.2.mem ((c.tc : Thread Cert.AdamPoolIdeal.nD Cert.AdamPoolIdeal.τ).loc Cert.AdamPoolIdeal.main_arg1) = m ((c.tc : Thread Cert.AdamPoolIdeal.nD Cert.AdamPoolIdeal.τ).loc Cert.AdamPoolIdeal.main_arg1)
          ∧ r.2.mem ((c.tc : Thread Cert.AdamPoolIdeal.nD Cert.AdamPoolIdeal.τ).loc Cert.AdamPoolIdeal.main_arg2) = m ((c.tc : Thread Cert.AdamPoolIdeal.nD Cert.AdamPoolIdeal.τ).loc Cert.AdamPoolIdeal.main_arg2)
          ∧ r.2.mem ((c.tc : Thread Cert.AdamPoolIdeal.nD Cert.AdamPoolIdeal.τ).loc Cert.AdamPoolIdeal.main_arg3) = m ((c.tc : Thread Cert.AdamPoolIdeal.nD Cert.AdamPoolIdeal.τ).loc Cert.AdamPoolIdeal.main_arg3)
          ∧ r.2.mem ((c.tc : Thread Cert.AdamPoolIdeal.nD Cert.AdamPoolIdeal.τ).loc Cert.AdamPoolIdeal.main_arg4) = m ((c.tc : Thread Cert.AdamPoolIdeal.nD Cert.AdamPoolIdeal.τ).loc Cert.AdamPoolIdeal.main_arg4))
      ∧ θ_run (Cert.AdamPoolRefIdeal.defs (F := Ideal)) (onTc (τ := Cert.AdamPoolRefIdeal.τ) (Cert.AdamPoolRefIdeal.main (F := Ideal))) ⟨m', fun _ => 0, g'⟩ (fun r => ∀ c : Dev Cert.AdamPoolRefIdeal.nD,
          r.2.mem ((c.tc : Thread Cert.AdamPoolRefIdeal.nD Cert.AdamPoolRefIdeal.τ).loc Cert.AdamPoolRefIdeal.main_v5) = v0 c
          ∧ r.2.mem ((c.tc : Thread Cert.AdamPoolRefIdeal.nD Cert.AdamPoolRefIdeal.τ).loc Cert.AdamPoolRefIdeal.main_v29) = v1 c
          ∧ r.2.mem ((c.tc : Thread Cert.AdamPoolRefIdeal.nD Cert.AdamPoolRefIdeal.τ).loc Cert.AdamPoolRefIdeal.main_v10) = v2 c
          ∧ r.2.mem ((c.tc : Thread Cert.AdamPoolRefIdeal.nD Cert.AdamPoolRefIdeal.τ).loc Cert.AdamPoolRefIdeal.main_v16) = v3 c
          ∧ r.2.mem ((c.tc : Thread Cert.AdamPoolRefIdeal.nD Cert.AdamPoolRefIdeal.τ).loc Cert.AdamPoolRefIdeal.main_arg0) = m' ((c.tc : Thread Cert.AdamPoolRefIdeal.nD Cert.AdamPoolRefIdeal.τ).loc Cert.AdamPoolRefIdeal.main_arg0)
          ∧ r.2.mem ((c.tc : Thread Cert.AdamPoolRefIdeal.nD Cert.AdamPoolRefIdeal.τ).loc Cert.AdamPoolRefIdeal.main_arg1) = m' ((c.tc : Thread Cert.AdamPoolRefIdeal.nD Cert.AdamPoolRefIdeal.τ).loc Cert.AdamPoolRefIdeal.main_arg1)
          ∧ r.2.mem ((c.tc : Thread Cert.AdamPoolRefIdeal.nD Cert.AdamPoolRefIdeal.τ).loc Cert.AdamPoolRefIdeal.main_arg2) = m' ((c.tc : Thread Cert.AdamPoolRefIdeal.nD Cert.AdamPoolRefIdeal.τ).loc Cert.AdamPoolRefIdeal.main_arg2)
          ∧ r.2.mem ((c.tc : Thread Cert.AdamPoolRefIdeal.nD Cert.AdamPoolRefIdeal.τ).loc Cert.AdamPoolRefIdeal.main_arg3) = m' ((c.tc : Thread Cert.AdamPoolRefIdeal.nD Cert.AdamPoolRefIdeal.τ).loc Cert.AdamPoolRefIdeal.main_arg3)
          ∧ r.2.mem ((c.tc : Thread Cert.AdamPoolRefIdeal.nD Cert.AdamPoolRefIdeal.τ).loc Cert.AdamPoolRefIdeal.main_arg4) = m' ((c.tc : Thread Cert.AdamPoolRefIdeal.nD Cert.AdamPoolRefIdeal.τ).loc Cert.AdamPoolRefIdeal.main_arg4))

def preserves_AdamDown_AdamDownIdeal : Prop :=
  True

def algebraic_AdamDownIdeal_AdamDownRefIdeal [hAdamDownIdeal : Cert.AdamDownIdeal.Facts] [hAdamDownRefIdeal : Cert.AdamDownRefIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownRefIdeal.nD Cert.AdamDownRefIdeal.τ Cert.AdamDownRefIdeal.sig) → Buf (Elt Ideal) ℓ) (g' : Dev Cert.AdamDownRefIdeal.nD → PrngReg), Pre_AdamDownIdeal m →
    (∀ c : Dev Cert.AdamDownIdeal.nD,
      m' ((c.tc : Thread Cert.AdamDownRefIdeal.nD Cert.AdamDownRefIdeal.τ).loc Cert.AdamDownRefIdeal.main_arg0) = m ((c.tc : Thread Cert.AdamDownIdeal.nD Cert.AdamDownIdeal.τ).loc Cert.AdamDownIdeal.main_arg0)
      ∧ m' ((c.tc : Thread Cert.AdamDownRefIdeal.nD Cert.AdamDownRefIdeal.τ).loc Cert.AdamDownRefIdeal.main_arg1) = m ((c.tc : Thread Cert.AdamDownIdeal.nD Cert.AdamDownIdeal.τ).loc Cert.AdamDownIdeal.main_arg1)
      ∧ m' ((c.tc : Thread Cert.AdamDownRefIdeal.nD Cert.AdamDownRefIdeal.τ).loc Cert.AdamDownRefIdeal.main_arg2) = m ((c.tc : Thread Cert.AdamDownIdeal.nD Cert.AdamDownIdeal.τ).loc Cert.AdamDownIdeal.main_arg2)
      ∧ m' ((c.tc : Thread Cert.AdamDownRefIdeal.nD Cert.AdamDownRefIdeal.τ).loc Cert.AdamDownRefIdeal.main_arg3) = m ((c.tc : Thread Cert.AdamDownIdeal.nD Cert.AdamDownIdeal.τ).loc Cert.AdamDownIdeal.main_arg3)
      ∧ m' ((c.tc : Thread Cert.AdamDownRefIdeal.nD Cert.AdamDownRefIdeal.τ).loc Cert.AdamDownRefIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v1_0)) (v1 : (c : Dev Cert.AdamDownIdeal.nD) → Buf (Elt Ideal) ((c.tc : Thread Cert.AdamDownIdeal.nD Cert.AdamDownIdeal.τ).loc Cert.AdamDownIdeal.main_v1_1)) (v2 : (c : Dev Cert.AdamDownIdeal.nD) → Buf (Elt Ideal) ((c.tc : Thread Cert.AdamDownIdeal.nD Cert.AdamDownIdeal.τ).loc Cert.AdamDownIdeal.main_v1_2)) (v3 : (c : Dev Cert.AdamDownIdeal.nD) → Buf (Elt Ideal) ((c.tc : Thread Cert.AdamDownIdeal.nD Cert.AdamDownIdeal.τ).loc Cert.AdamDownIdeal.main_v1_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v1_0) = v0 c
          ∧ r.2.mem ((c.tc : Thread Cert.AdamDownIdeal.nD Cert.AdamDownIdeal.τ).loc Cert.AdamDownIdeal.main_v1_1) = v1 c
          ∧ r.2.mem ((c.tc : Thread Cert.AdamDownIdeal.nD Cert.AdamDownIdeal.τ).loc Cert.AdamDownIdeal.main_v1_2) = v2 c
          ∧ r.2.mem ((c.tc : Thread Cert.AdamDownIdeal.nD Cert.AdamDownIdeal.τ).loc Cert.AdamDownIdeal.main_v1_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownRefIdeal.defs (F := Ideal)) (onTc (τ := Cert.AdamDownRefIdeal.τ) (Cert.AdamDownRefIdeal.main (F := Ideal))) ⟨m', fun _ => 0, g'⟩ (fun r => ∀ c : Dev Cert.AdamDownRefIdeal.nD,
          r.2.mem ((c.tc : Thread Cert.AdamDownRefIdeal.nD Cert.AdamDownRefIdeal.τ).loc Cert.AdamDownRefIdeal.main_v5) = v0 c
          ∧ r.2.mem ((c.tc : Thread Cert.AdamDownRefIdeal.nD Cert.AdamDownRefIdeal.τ).loc Cert.AdamDownRefIdeal.main_v29) = v1 c
          ∧ r.2.mem ((c.tc : Thread Cert.AdamDownRefIdeal.nD Cert.AdamDownRefIdeal.τ).loc Cert.AdamDownRefIdeal.main_v10) = v2 c
          ∧ r.2.mem ((c.tc : Thread Cert.AdamDownRefIdeal.nD Cert.AdamDownRefIdeal.τ).loc Cert.AdamDownRefIdeal.main_v16) = v3 c
          ∧ r.2.mem ((c.tc : Thread Cert.AdamDownRefIdeal.nD Cert.AdamDownRefIdeal.τ).loc Cert.AdamDownRefIdeal.main_arg0) = m' ((c.tc : Thread Cert.AdamDownRefIdeal.nD Cert.AdamDownRefIdeal.τ).loc Cert.AdamDownRefIdeal.main_arg0)
          ∧ r.2.mem ((c.tc : Thread Cert.AdamDownRefIdeal.nD Cert.AdamDownRefIdeal.τ).loc Cert.AdamDownRefIdeal.main_arg1) = m' ((c.tc : Thread Cert.AdamDownRefIdeal.nD Cert.AdamDownRefIdeal.τ).loc Cert.AdamDownRefIdeal.main_arg1)
          ∧ r.2.mem ((c.tc : Thread Cert.AdamDownRefIdeal.nD Cert.AdamDownRefIdeal.τ).loc Cert.AdamDownRefIdeal.main_arg2) = m' ((c.tc : Thread Cert.AdamDownRefIdeal.nD Cert.AdamDownRefIdeal.τ).loc Cert.AdamDownRefIdeal.main_arg2)
          ∧ r.2.mem ((c.tc : Thread Cert.AdamDownRefIdeal.nD Cert.AdamDownRefIdeal.τ).loc Cert.AdamDownRefIdeal.main_arg3) = m' ((c.tc : Thread Cert.AdamDownRefIdeal.nD Cert.AdamDownRefIdeal.τ).loc Cert.AdamDownRefIdeal.main_arg3)
          ∧ r.2.mem ((c.tc : Thread Cert.AdamDownRefIdeal.nD Cert.AdamDownRefIdeal.τ).loc Cert.AdamDownRefIdeal.main_arg4) = m' ((c.tc : Thread Cert.AdamDownRefIdeal.nD Cert.AdamDownRefIdeal.τ).loc Cert.AdamDownRefIdeal.main_arg4))

def preserves_AdamUp_AdamUpIdeal : Prop :=
  True

def algebraic_AdamUpIdeal_AdamUpRefIdeal [hAdamUpIdeal : Cert.AdamUpIdeal.Facts] [hAdamUpRefIdeal : Cert.AdamUpRefIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpRefIdeal.nD Cert.AdamUpRefIdeal.τ Cert.AdamUpRefIdeal.sig) → Buf (Elt Ideal) ℓ) (g' : Dev Cert.AdamUpRefIdeal.nD → PrngReg), Pre_AdamUpIdeal m →
    (∀ c : Dev Cert.AdamUpIdeal.nD,
      m' ((c.tc : Thread Cert.AdamUpRefIdeal.nD Cert.AdamUpRefIdeal.τ).loc Cert.AdamUpRefIdeal.main_arg0) = m ((c.tc : Thread Cert.AdamUpIdeal.nD Cert.AdamUpIdeal.τ).loc Cert.AdamUpIdeal.main_arg0)
      ∧ m' ((c.tc : Thread Cert.AdamUpRefIdeal.nD Cert.AdamUpRefIdeal.τ).loc Cert.AdamUpRefIdeal.main_arg1) = m ((c.tc : Thread Cert.AdamUpIdeal.nD Cert.AdamUpIdeal.τ).loc Cert.AdamUpIdeal.main_arg1)
      ∧ m' ((c.tc : Thread Cert.AdamUpRefIdeal.nD Cert.AdamUpRefIdeal.τ).loc Cert.AdamUpRefIdeal.main_arg2) = m ((c.tc : Thread Cert.AdamUpIdeal.nD Cert.AdamUpIdeal.τ).loc Cert.AdamUpIdeal.main_arg2)
      ∧ m' ((c.tc : Thread Cert.AdamUpRefIdeal.nD Cert.AdamUpRefIdeal.τ).loc Cert.AdamUpRefIdeal.main_arg3) = m ((c.tc : Thread Cert.AdamUpIdeal.nD Cert.AdamUpIdeal.τ).loc Cert.AdamUpIdeal.main_arg3)
      ∧ m' ((c.tc : Thread Cert.AdamUpRefIdeal.nD Cert.AdamUpRefIdeal.τ).loc Cert.AdamUpRefIdeal.main_arg4) = m ((c.tc : Thread Cert.AdamUpIdeal.nD Cert.AdamUpIdeal.τ).loc Cert.AdamUpIdeal.main_arg4)) →
    ∃ (v0 : (c : Dev Cert.AdamUpIdeal.nD) → Buf (Elt Ideal) ((c.tc : Thread Cert.AdamUpIdeal.nD Cert.AdamUpIdeal.τ).loc Cert.AdamUpIdeal.main_v1_0)) (v1 : (c : Dev Cert.AdamUpIdeal.nD) → Buf (Elt Ideal) ((c.tc : Thread Cert.AdamUpIdeal.nD Cert.AdamUpIdeal.τ).loc Cert.AdamUpIdeal.main_v1_1)) (v2 : (c : Dev Cert.AdamUpIdeal.nD) → Buf (Elt Ideal) ((c.tc : Thread Cert.AdamUpIdeal.nD Cert.AdamUpIdeal.τ).loc Cert.AdamUpIdeal.main_v1_2)) (v3 : (c : Dev Cert.AdamUpIdeal.nD) → Buf (Elt Ideal) ((c.tc : Thread Cert.AdamUpIdeal.nD Cert.AdamUpIdeal.τ).loc Cert.AdamUpIdeal.main_v1_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v1_0) = v0 c
          ∧ r.2.mem ((c.tc : Thread Cert.AdamUpIdeal.nD Cert.AdamUpIdeal.τ).loc Cert.AdamUpIdeal.main_v1_1) = v1 c
          ∧ r.2.mem ((c.tc : Thread Cert.AdamUpIdeal.nD Cert.AdamUpIdeal.τ).loc Cert.AdamUpIdeal.main_v1_2) = v2 c
          ∧ r.2.mem ((c.tc : Thread Cert.AdamUpIdeal.nD Cert.AdamUpIdeal.τ).loc Cert.AdamUpIdeal.main_v1_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3)
          ∧ r.2.mem ((c.tc : Thread Cert.AdamUpIdeal.nD Cert.AdamUpIdeal.τ).loc Cert.AdamUpIdeal.main_arg4) = m ((c.tc : Thread Cert.AdamUpIdeal.nD Cert.AdamUpIdeal.τ).loc Cert.AdamUpIdeal.main_arg4))
      ∧ θ_run (Cert.AdamUpRefIdeal.defs (F := Ideal)) (onTc (τ := Cert.AdamUpRefIdeal.τ) (Cert.AdamUpRefIdeal.main (F := Ideal))) ⟨m', fun _ => 0, g'⟩ (fun r => ∀ c : Dev Cert.AdamUpRefIdeal.nD,
          r.2.mem ((c.tc : Thread Cert.AdamUpRefIdeal.nD Cert.AdamUpRefIdeal.τ).loc Cert.AdamUpRefIdeal.main_v5) = v0 c
          ∧ r.2.mem ((c.tc : Thread Cert.AdamUpRefIdeal.nD Cert.AdamUpRefIdeal.τ).loc Cert.AdamUpRefIdeal.main_v29) = v1 c
          ∧ r.2.mem ((c.tc : Thread Cert.AdamUpRefIdeal.nD Cert.AdamUpRefIdeal.τ).loc Cert.AdamUpRefIdeal.main_v10) = v2 c
          ∧ r.2.mem ((c.tc : Thread Cert.AdamUpRefIdeal.nD Cert.AdamUpRefIdeal.τ).loc Cert.AdamUpRefIdeal.main_v16) = v3 c
          ∧ r.2.mem ((c.tc : Thread Cert.AdamUpRefIdeal.nD Cert.AdamUpRefIdeal.τ).loc Cert.AdamUpRefIdeal.main_arg0) = m' ((c.tc : Thread Cert.AdamUpRefIdeal.nD Cert.AdamUpRefIdeal.τ).loc Cert.AdamUpRefIdeal.main_arg0)
          ∧ r.2.mem ((c.tc : Thread Cert.AdamUpRefIdeal.nD Cert.AdamUpRefIdeal.τ).loc Cert.AdamUpRefIdeal.main_arg1) = m' ((c.tc : Thread Cert.AdamUpRefIdeal.nD Cert.AdamUpRefIdeal.τ).loc Cert.AdamUpRefIdeal.main_arg1)
          ∧ r.2.mem ((c.tc : Thread Cert.AdamUpRefIdeal.nD Cert.AdamUpRefIdeal.τ).loc Cert.AdamUpRefIdeal.main_arg2) = m' ((c.tc : Thread Cert.AdamUpRefIdeal.nD Cert.AdamUpRefIdeal.τ).loc Cert.AdamUpRefIdeal.main_arg2)
          ∧ r.2.mem ((c.tc : Thread Cert.AdamUpRefIdeal.nD Cert.AdamUpRefIdeal.τ).loc Cert.AdamUpRefIdeal.main_arg3) = m' ((c.tc : Thread Cert.AdamUpRefIdeal.nD Cert.AdamUpRefIdeal.τ).loc Cert.AdamUpRefIdeal.main_arg3)
          ∧ r.2.mem ((c.tc : Thread Cert.AdamUpRefIdeal.nD Cert.AdamUpRefIdeal.τ).loc Cert.AdamUpRefIdeal.main_arg4) = m' ((c.tc : Thread Cert.AdamUpRefIdeal.nD Cert.AdamUpRefIdeal.τ).loc Cert.AdamUpRefIdeal.main_arg4))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v1_0)) (v1 : (c : Dev Cert.AdamInIdeal.nD) → Buf (Elt Ideal) ((c.tc : Thread Cert.AdamInIdeal.nD Cert.AdamInIdeal.τ).loc Cert.AdamInIdeal.main_v1_1)) (v2 : (c : Dev Cert.AdamInIdeal.nD) → Buf (Elt Ideal) ((c.tc : Thread Cert.AdamInIdeal.nD Cert.AdamInIdeal.τ).loc Cert.AdamInIdeal.main_v1_2)) (v3 : (c : Dev Cert.AdamInIdeal.nD) → Buf (Elt Ideal) ((c.tc : Thread Cert.AdamInIdeal.nD Cert.AdamInIdeal.τ).loc Cert.AdamInIdeal.main_v1_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v1_0) = v0 c
          ∧ r.2.mem ((c.tc : Thread Cert.AdamInIdeal.nD Cert.AdamInIdeal.τ).loc Cert.AdamInIdeal.main_v1_1) = v1 c
          ∧ r.2.mem ((c.tc : Thread Cert.AdamInIdeal.nD Cert.AdamInIdeal.τ).loc Cert.AdamInIdeal.main_v1_2) = v2 c
          ∧ r.2.mem ((c.tc : Thread Cert.AdamInIdeal.nD Cert.AdamInIdeal.τ).loc Cert.AdamInIdeal.main_v1_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v30) = v0 c
          ∧ r.2.mem ((c.tc : Thread Cert.AdamInRefIdeal.nD Cert.AdamInRefIdeal.τ).loc Cert.AdamInRefIdeal.main_v31) = v1 c
          ∧ r.2.mem ((c.tc : Thread Cert.AdamInRefIdeal.nD Cert.AdamInRefIdeal.τ).loc Cert.AdamInRefIdeal.main_v32) = v2 c
          ∧ r.2.mem ((c.tc : Thread Cert.AdamInRefIdeal.nD Cert.AdamInRefIdeal.τ).loc Cert.AdamInRefIdeal.main_v33) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4))

def preserves_RmsMix_RmsMixIdeal : Prop :=
  True

def algebraic_RmsMixIdeal_RmsMixRefIdeal [hRmsMixIdeal : Cert.RmsMixIdeal.Facts] [hRmsMixRefIdeal : Cert.RmsMixRefIdeal.Facts] : Prop :=
  ∀ (m : (ℓ : Loc Cert.RmsMixIdeal.nD Cert.RmsMixIdeal.τ Cert.RmsMixIdeal.sig) → Buf (Elt Ideal) ℓ) (g : Dev Cert.RmsMixIdeal.nD → PrngReg)
    (m' : (ℓ : Loc Cert.RmsMixRefIdeal.nD Cert.RmsMixRefIdeal.τ Cert.RmsMixRefIdeal.sig) → Buf (Elt Ideal) ℓ) (g' : Dev Cert.RmsMixRefIdeal.nD → PrngReg), Pre_RmsMixIdeal m →
    (∀ c : Dev Cert.RmsMixIdeal.nD,
      m' ((c.tc : Thread Cert.RmsMixRefIdeal.nD Cert.RmsMixRefIdeal.τ).loc Cert.RmsMixRefIdeal.main_arg0) = m ((c.tc : Thread Cert.RmsMixIdeal.nD Cert.RmsMixIdeal.τ).loc Cert.RmsMixIdeal.main_arg0)
      ∧ m' ((c.tc : Thread Cert.RmsMixRefIdeal.nD Cert.RmsMixRefIdeal.τ).loc Cert.RmsMixRefIdeal.main_arg1) = m ((c.tc : Thread Cert.RmsMixIdeal.nD Cert.RmsMixIdeal.τ).loc Cert.RmsMixIdeal.main_arg1)
      ∧ m' ((c.tc : Thread Cert.RmsMixRefIdeal.nD Cert.RmsMixRefIdeal.τ).loc Cert.RmsMixRefIdeal.main_arg2) = m ((c.tc : Thread Cert.RmsMixIdeal.nD Cert.RmsMixIdeal.τ).loc Cert.RmsMixIdeal.main_arg2)) →
    ∃ (v0 : (c : Dev Cert.RmsMixIdeal.nD) → Buf (Elt Ideal) ((c.tc : Thread Cert.RmsMixIdeal.nD Cert.RmsMixIdeal.τ).loc Cert.RmsMixIdeal.main_v0)),
      θ_run (Cert.RmsMixIdeal.defs (F := Ideal)) (onTc (τ := Cert.RmsMixIdeal.τ) (Cert.RmsMixIdeal.main (F := Ideal))) ⟨m, fun _ => 0, g⟩ (fun r => ∀ c : Dev Cert.RmsMixIdeal.nD,
          r.2.mem ((c.tc : Thread Cert.RmsMixIdeal.nD Cert.RmsMixIdeal.τ).loc Cert.RmsMixIdeal.main_v0) = v0 c
          ∧ r.2.mem ((c.tc : Thread Cert.RmsMixIdeal.nD Cert.RmsMixIdeal.τ).loc Cert.RmsMixIdeal.main_arg0) = m ((c.tc : Thread Cert.RmsMixIdeal.nD Cert.RmsMixIdeal.τ).loc Cert.RmsMixIdeal.main_arg0)
          ∧ r.2.mem ((c.tc : Thread Cert.RmsMixIdeal.nD Cert.RmsMixIdeal.τ).loc Cert.RmsMixIdeal.main_arg1) = m ((c.tc : Thread Cert.RmsMixIdeal.nD Cert.RmsMixIdeal.τ).loc Cert.RmsMixIdeal.main_arg1)
          ∧ r.2.mem ((c.tc : Thread Cert.RmsMixIdeal.nD Cert.RmsMixIdeal.τ).loc Cert.RmsMixIdeal.main_arg2) = m ((c.tc : Thread Cert.RmsMixIdeal.nD Cert.RmsMixIdeal.τ).loc Cert.RmsMixIdeal.main_arg2))
      ∧ θ_run (Cert.RmsMixRefIdeal.defs (F := Ideal)) (onTc (τ := Cert.RmsMixRefIdeal.τ) (Cert.RmsMixRefIdeal.main (F := Ideal))) ⟨m', fun _ => 0, g'⟩ (fun r => ∀ c : Dev Cert.RmsMixRefIdeal.nD,
          r.2.mem ((c.tc : Thread Cert.RmsMixRefIdeal.nD Cert.RmsMixRefIdeal.τ).loc Cert.RmsMixRefIdeal.main_v12) = v0 c
          ∧ r.2.mem ((c.tc : Thread Cert.RmsMixRefIdeal.nD Cert.RmsMixRefIdeal.τ).loc Cert.RmsMixRefIdeal.main_arg0) = m' ((c.tc : Thread Cert.RmsMixRefIdeal.nD Cert.RmsMixRefIdeal.τ).loc Cert.RmsMixRefIdeal.main_arg0)
          ∧ r.2.mem ((c.tc : Thread Cert.RmsMixRefIdeal.nD Cert.RmsMixRefIdeal.τ).loc Cert.RmsMixRefIdeal.main_arg1) = m' ((c.tc : Thread Cert.RmsMixRefIdeal.nD Cert.RmsMixRefIdeal.τ).loc Cert.RmsMixRefIdeal.main_arg1)
          ∧ r.2.mem ((c.tc : Thread Cert.RmsMixRefIdeal.nD Cert.RmsMixRefIdeal.τ).loc Cert.RmsMixRefIdeal.main_arg2) = m' ((c.tc : Thread Cert.RmsMixRefIdeal.nD Cert.RmsMixRefIdeal.τ).loc Cert.RmsMixRefIdeal.main_arg2))

def preserves_GkFwd_GkFwdIdeal : Prop :=
  True

def algebraic_GkFwdIdeal_GkFwdRefIdeal [hGkFwdIdeal : Cert.GkFwdIdeal.Facts] [hGkFwdRefIdeal : Cert.GkFwdRefIdeal.Facts] : Prop :=
  ∀ (m : (ℓ : Loc Cert.GkFwdIdeal.nD Cert.GkFwdIdeal.τ Cert.GkFwdIdeal.sig) → Buf (Elt Ideal) ℓ) (g : Dev Cert.GkFwdIdeal.nD → PrngReg)
    (m' : (ℓ : Loc Cert.GkFwdRefIdeal.nD Cert.GkFwdRefIdeal.τ Cert.GkFwdRefIdeal.sig) → Buf (Elt Ideal) ℓ) (g' : Dev Cert.GkFwdRefIdeal.nD → PrngReg), Pre_GkFwdIdeal m →
    (∀ c : Dev Cert.GkFwdIdeal.nD,
      m' ((c.tc : Thread Cert.GkFwdRefIdeal.nD Cert.GkFwdRefIdeal.τ).loc Cert.GkFwdRefIdeal.main_arg0) = m ((c.tc : Thread Cert.GkFwdIdeal.nD Cert.GkFwdIdeal.τ).loc Cert.GkFwdIdeal.main_arg0)
      ∧ m' ((c.tc : Thread Cert.GkFwdRefIdeal.nD Cert.GkFwdRefIdeal.τ).loc Cert.GkFwdRefIdeal.main_arg1) = m ((c.tc : Thread Cert.GkFwdIdeal.nD Cert.GkFwdIdeal.τ).loc Cert.GkFwdIdeal.main_arg1)
      ∧ m' ((c.tc : Thread Cert.GkFwdRefIdeal.nD Cert.GkFwdRefIdeal.τ).loc Cert.GkFwdRefIdeal.main_arg2) = m ((c.tc : Thread Cert.GkFwdIdeal.nD Cert.GkFwdIdeal.τ).loc Cert.GkFwdIdeal.main_arg2)
      ∧ m' ((c.tc : Thread Cert.GkFwdRefIdeal.nD Cert.GkFwdRefIdeal.τ).loc Cert.GkFwdRefIdeal.main_arg3) = m ((c.tc : Thread Cert.GkFwdIdeal.nD Cert.GkFwdIdeal.τ).loc Cert.GkFwdIdeal.main_arg3)) →
    ∃ (v0 : (c : Dev Cert.GkFwdIdeal.nD) → Buf (Elt Ideal) ((c.tc : Thread Cert.GkFwdIdeal.nD Cert.GkFwdIdeal.τ).loc Cert.GkFwdIdeal.main_v0)),
      θ_run (Cert.GkFwdIdeal.defs (F := Ideal)) (onTc (τ := Cert.GkFwdIdeal.τ) (Cert.GkFwdIdeal.main (F := Ideal))) ⟨m, fun _ => 0, g⟩ (fun r => ∀ c : Dev Cert.GkFwdIdeal.nD,
          r.2.mem ((c.tc : Thread Cert.GkFwdIdeal.nD Cert.GkFwdIdeal.τ).loc Cert.GkFwdIdeal.main_v0) = v0 c
          ∧ r.2.mem ((c.tc : Thread Cert.GkFwdIdeal.nD Cert.GkFwdIdeal.τ).loc Cert.GkFwdIdeal.main_arg0) = m ((c.tc : Thread Cert.GkFwdIdeal.nD Cert.GkFwdIdeal.τ).loc Cert.GkFwdIdeal.main_arg0)
          ∧ r.2.mem ((c.tc : Thread Cert.GkFwdIdeal.nD Cert.GkFwdIdeal.τ).loc Cert.GkFwdIdeal.main_arg1) = m ((c.tc : Thread Cert.GkFwdIdeal.nD Cert.GkFwdIdeal.τ).loc Cert.GkFwdIdeal.main_arg1)
          ∧ r.2.mem ((c.tc : Thread Cert.GkFwdIdeal.nD Cert.GkFwdIdeal.τ).loc Cert.GkFwdIdeal.main_arg2) = m ((c.tc : Thread Cert.GkFwdIdeal.nD Cert.GkFwdIdeal.τ).loc Cert.GkFwdIdeal.main_arg2)
          ∧ r.2.mem ((c.tc : Thread Cert.GkFwdIdeal.nD Cert.GkFwdIdeal.τ).loc Cert.GkFwdIdeal.main_arg3) = m ((c.tc : Thread Cert.GkFwdIdeal.nD Cert.GkFwdIdeal.τ).loc Cert.GkFwdIdeal.main_arg3))
      ∧ θ_run (Cert.GkFwdRefIdeal.defs (F := Ideal)) (onTc (τ := Cert.GkFwdRefIdeal.τ) (Cert.GkFwdRefIdeal.main (F := Ideal))) ⟨m', fun _ => 0, g'⟩ (fun r => ∀ c : Dev Cert.GkFwdRefIdeal.nD,
          r.2.mem ((c.tc : Thread Cert.GkFwdRefIdeal.nD Cert.GkFwdRefIdeal.τ).loc Cert.GkFwdRefIdeal.main_v10) = v0 c
          ∧ r.2.mem ((c.tc : Thread Cert.GkFwdRefIdeal.nD Cert.GkFwdRefIdeal.τ).loc Cert.GkFwdRefIdeal.main_arg0) = m' ((c.tc : Thread Cert.GkFwdRefIdeal.nD Cert.GkFwdRefIdeal.τ).loc Cert.GkFwdRefIdeal.main_arg0)
          ∧ r.2.mem ((c.tc : Thread Cert.GkFwdRefIdeal.nD Cert.GkFwdRefIdeal.τ).loc Cert.GkFwdRefIdeal.main_arg1) = m' ((c.tc : Thread Cert.GkFwdRefIdeal.nD Cert.GkFwdRefIdeal.τ).loc Cert.GkFwdRefIdeal.main_arg1)
          ∧ r.2.mem ((c.tc : Thread Cert.GkFwdRefIdeal.nD Cert.GkFwdRefIdeal.τ).loc Cert.GkFwdRefIdeal.main_arg2) = m' ((c.tc : Thread Cert.GkFwdRefIdeal.nD Cert.GkFwdRefIdeal.τ).loc Cert.GkFwdRefIdeal.main_arg2)
          ∧ r.2.mem ((c.tc : Thread Cert.GkFwdRefIdeal.nD Cert.GkFwdRefIdeal.τ).loc Cert.GkFwdRefIdeal.main_arg3) = m' ((c.tc : Thread Cert.GkFwdRefIdeal.nD Cert.GkFwdRefIdeal.τ).loc Cert.GkFwdRefIdeal.main_arg3))

def preserves_PairSum_PairSumIdeal : Prop :=
  True

def algebraic_PairSumIdeal_PairSumRefIdeal [hPairSumIdeal : Cert.PairSumIdeal.Facts] [hPairSumRefIdeal : Cert.PairSumRefIdeal.Facts] : Prop :=
  ∀ (m : (ℓ : Loc Cert.PairSumIdeal.nD Cert.PairSumIdeal.τ Cert.PairSumIdeal.sig) → Buf (Elt Ideal) ℓ) (g : Dev Cert.PairSumIdeal.nD → PrngReg)
    (m' : (ℓ : Loc Cert.PairSumRefIdeal.nD Cert.PairSumRefIdeal.τ Cert.PairSumRefIdeal.sig) → Buf (Elt Ideal) ℓ) (g' : Dev Cert.PairSumRefIdeal.nD → PrngReg), Pre_PairSumIdeal m →
    (∀ c : Dev Cert.PairSumIdeal.nD,
      m' ((c.tc : Thread Cert.PairSumRefIdeal.nD Cert.PairSumRefIdeal.τ).loc Cert.PairSumRefIdeal.main_arg0) = m ((c.tc : Thread Cert.PairSumIdeal.nD Cert.PairSumIdeal.τ).loc Cert.PairSumIdeal.main_arg0)
      ∧ m' ((c.tc : Thread Cert.PairSumRefIdeal.nD Cert.PairSumRefIdeal.τ).loc Cert.PairSumRefIdeal.main_arg1) = m ((c.tc : Thread Cert.PairSumIdeal.nD Cert.PairSumIdeal.τ).loc Cert.PairSumIdeal.main_arg1)) →
    ∃ (v0 : (c : Dev Cert.PairSumIdeal.nD) → Buf (Elt Ideal) ((c.tc : Thread Cert.PairSumIdeal.nD Cert.PairSumIdeal.τ).loc Cert.PairSumIdeal.main_v1)),
      θ_run (Cert.PairSumIdeal.defs (F := Ideal)) (onTc (τ := Cert.PairSumIdeal.τ) (Cert.PairSumIdeal.main (F := Ideal))) ⟨m, fun _ => 0, g⟩ (fun r => ∀ c : Dev Cert.PairSumIdeal.nD,
          r.2.mem ((c.tc : Thread Cert.PairSumIdeal.nD Cert.PairSumIdeal.τ).loc Cert.PairSumIdeal.main_v1) = v0 c
          ∧ r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
          ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1))
      ∧ θ_run (Cert.PairSumRefIdeal.defs (F := Ideal)) (onTc (τ := Cert.PairSumRefIdeal.τ) (Cert.PairSumRefIdeal.main (F := Ideal))) ⟨m', fun _ => 0, g'⟩ (fun r => ∀ c : Dev Cert.PairSumRefIdeal.nD,
          r.2.mem ((c.tc : Thread Cert.PairSumRefIdeal.nD Cert.PairSumRefIdeal.τ).loc Cert.PairSumRefIdeal.main_v5) = v0 c
          ∧ r.2.mem ((c.tc : Thread Cert.PairSumRefIdeal.nD Cert.PairSumRefIdeal.τ).loc Cert.PairSumRefIdeal.main_arg0) = m' ((c.tc : Thread Cert.PairSumRefIdeal.nD Cert.PairSumRefIdeal.τ).loc Cert.PairSumRefIdeal.main_arg0)
          ∧ r.2.mem ((c.tc : Thread Cert.PairSumRefIdeal.nD Cert.PairSumRefIdeal.τ).loc Cert.PairSumRefIdeal.main_arg1) = m' ((c.tc : Thread Cert.PairSumRefIdeal.nD Cert.PairSumRefIdeal.τ).loc Cert.PairSumRefIdeal.main_arg1))

def Claim : Prop :=
  ∃ (hKernel : Cert.Kernel.Facts) (hKernelIdeal : Cert.KernelIdeal.Facts) (hReferenceIdeal : Cert.ReferenceIdeal.Facts) (hMmIn : Cert.MmIn.Facts) (hMmInIdeal : Cert.MmInIdeal.Facts) (hMmInRefIdeal : Cert.MmInRefIdeal.Facts) (hMmDWcat : Cert.MmDWcat.Facts) (hMmDWcatIdeal : Cert.MmDWcatIdeal.Facts) (hMmDWcatRefIdeal : Cert.MmDWcatRefIdeal.Facts) (hMmDWup : Cert.MmDWup.Facts) (hMmDWupIdeal : Cert.MmDWupIdeal.Facts) (hMmDWupRefIdeal : Cert.MmDWupRefIdeal.Facts) (hMmDAct : Cert.MmDAct.Facts) (hMmDActIdeal : Cert.MmDActIdeal.Facts) (hMmDActRefIdeal : Cert.MmDActRefIdeal.Facts) (hMmDWdown : Cert.MmDWdown.Facts) (hMmDWdownIdeal : Cert.MmDWdownIdeal.Facts) (hMmDWdownRefIdeal : Cert.MmDWdownRefIdeal.Facts) (hMmDHRms : Cert.MmDHRms.Facts) (hMmDHRmsIdeal : Cert.MmDHRmsIdeal.Facts) (hMmDHRmsRefIdeal : Cert.MmDHRmsRefIdeal.Facts) (hMmDH2Rms : Cert.MmDH2Rms.Facts) (hMmDH2RmsIdeal : Cert.MmDH2RmsIdeal.Facts) (hMmDH2RmsRefIdeal : Cert.MmDH2RmsRefIdeal.Facts) (hMmDownLoss : Cert.MmDownLoss.Facts) (hMmDownLossIdeal : Cert.MmDownLossIdeal.Facts) (hMmDownLossRefIdeal : Cert.MmDownLossRefIdeal.Facts) (hMmDWout : Cert.MmDWout.Facts) (hMmDWoutIdeal : Cert.MmDWoutIdeal.Facts) (hMmDWoutRefIdeal : Cert.MmDWoutRefIdeal.Facts) (hMmDWgp : Cert.MmDWgp.Facts) (hMmDWgpIdeal : Cert.MmDWgpIdeal.Facts) (hMmDWgpRefIdeal : Cert.MmDWgpRefIdeal.Facts) (hMmDPs : Cert.MmDPs.Facts) (hMmDPsIdeal : Cert.MmDPsIdeal.Facts) (hMmDPsRefIdeal : Cert.MmDPsRefIdeal.Facts) (hMmDWpp : Cert.MmDWpp.Facts) (hMmDWppIdeal : Cert.MmDWppIdeal.Facts) (hMmDWppRefIdeal : Cert.MmDWppRefIdeal.Facts) (hAdamSquare : Cert.AdamSquare.Facts) (hAdamSquareIdeal : Cert.AdamSquareIdeal.Facts) (hAdamSquareRefIdeal : Cert.AdamSquareRefIdeal.Facts) (hAdamPool : Cert.AdamPool.Facts) (hAdamPoolIdeal : Cert.AdamPoolIdeal.Facts) (hAdamPoolRefIdeal : Cert.AdamPoolRefIdeal.Facts) (hAdamDown : Cert.AdamDown.Facts) (hAdamDownIdeal : Cert.AdamDownIdeal.Facts) (hAdamDownRefIdeal : Cert.AdamDownRefIdeal.Facts) (hAdamUp : Cert.AdamUp.Facts) (hAdamUpIdeal : Cert.AdamUpIdeal.Facts) (hAdamUpRefIdeal : Cert.AdamUpRefIdeal.Facts) (hAdamIn : Cert.AdamIn.Facts) (hAdamInIdeal : Cert.AdamInIdeal.Facts) (hAdamInRefIdeal : Cert.AdamInRefIdeal.Facts) (hRmsMix : Cert.RmsMix.Facts) (hRmsMixIdeal : Cert.RmsMixIdeal.Facts) (hRmsMixRefIdeal : Cert.RmsMixRefIdeal.Facts) (hGkFwd : Cert.GkFwd.Facts) (hGkFwdIdeal : Cert.GkFwdIdeal.Facts) (hGkFwdRefIdeal : Cert.GkFwdRefIdeal.Facts) (hPairSum : Cert.PairSum.Facts) (hPairSumIdeal : Cert.PairSumIdeal.Facts) (hPairSumRefIdeal : Cert.PairSumRefIdeal.Facts) (hPre_finite : Cert.Pre_finite.Facts) (hPre_finite_7 : Cert.Pre_finite_7.Facts) (hPre_finite_8 : Cert.Pre_finite_8.Facts) (hPre_finite_9 : Cert.Pre_finite_9.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_MmIn (hMmIn := hMmIn)
    ∧ quiescent_MmInIdeal (hMmInIdeal := hMmInIdeal)
    ∧ quiescent_MmInRefIdeal (hMmInRefIdeal := hMmInRefIdeal)
    ∧ quiescent_MmDWcat (hMmDWcat := hMmDWcat)
    ∧ quiescent_MmDWcatIdeal (hMmDWcatIdeal := hMmDWcatIdeal)
    ∧ quiescent_MmDWcatRefIdeal (hMmDWcatRefIdeal := hMmDWcatRefIdeal)
    ∧ quiescent_MmDWup (hMmDWup := hMmDWup)
    ∧ quiescent_MmDWupIdeal (hMmDWupIdeal := hMmDWupIdeal)
    ∧ quiescent_MmDWupRefIdeal (hMmDWupRefIdeal := hMmDWupRefIdeal)
    ∧ quiescent_MmDAct (hMmDAct := hMmDAct)
    ∧ quiescent_MmDActIdeal (hMmDActIdeal := hMmDActIdeal)
    ∧ quiescent_MmDActRefIdeal (hMmDActRefIdeal := hMmDActRefIdeal)
    ∧ quiescent_MmDWdown (hMmDWdown := hMmDWdown)
    ∧ quiescent_MmDWdownIdeal (hMmDWdownIdeal := hMmDWdownIdeal)
    ∧ quiescent_MmDWdownRefIdeal (hMmDWdownRefIdeal := hMmDWdownRefIdeal)
    ∧ quiescent_MmDHRms (hMmDHRms := hMmDHRms)
    ∧ quiescent_MmDHRmsIdeal (hMmDHRmsIdeal := hMmDHRmsIdeal)
    ∧ quiescent_MmDHRmsIdeal_pre_finite_7 (hMmDHRmsIdeal := hMmDHRmsIdeal) (hPre_finite_7 := hPre_finite_7)
    ∧ quiescent_MmDHRmsRefIdeal (hMmDHRmsRefIdeal := hMmDHRmsRefIdeal)
    ∧ quiescent_MmDHRmsRefIdeal_pre_finite_7 (hMmDHRmsRefIdeal := hMmDHRmsRefIdeal) (hPre_finite_7 := hPre_finite_7)
    ∧ quiescent_MmDH2Rms (hMmDH2Rms := hMmDH2Rms)
    ∧ quiescent_MmDH2RmsIdeal (hMmDH2RmsIdeal := hMmDH2RmsIdeal)
    ∧ quiescent_MmDH2RmsIdeal_pre_finite_8 (hMmDH2RmsIdeal := hMmDH2RmsIdeal) (hPre_finite_8 := hPre_finite_8)
    ∧ quiescent_MmDH2RmsRefIdeal (hMmDH2RmsRefIdeal := hMmDH2RmsRefIdeal)
    ∧ quiescent_MmDH2RmsRefIdeal_pre_finite_8 (hMmDH2RmsRefIdeal := hMmDH2RmsRefIdeal) (hPre_finite_8 := hPre_finite_8)
    ∧ quiescent_MmDownLoss (hMmDownLoss := hMmDownLoss)
    ∧ quiescent_MmDownLossIdeal (hMmDownLossIdeal := hMmDownLossIdeal)
    ∧ quiescent_MmDownLossIdeal_pre_finite_9 (hMmDownLossIdeal := hMmDownLossIdeal) (hPre_finite_9 := hPre_finite_9)
    ∧ quiescent_MmDownLossRefIdeal (hMmDownLossRefIdeal := hMmDownLossRefIdeal)
    ∧ quiescent_MmDownLossRefIdeal_pre_finite_9 (hMmDownLossRefIdeal := hMmDownLossRefIdeal) (hPre_finite_9 := hPre_finite_9)
    ∧ quiescent_MmDWout (hMmDWout := hMmDWout)
    ∧ quiescent_MmDWoutIdeal (hMmDWoutIdeal := hMmDWoutIdeal)
    ∧ quiescent_MmDWoutRefIdeal (hMmDWoutRefIdeal := hMmDWoutRefIdeal)
    ∧ quiescent_MmDWgp (hMmDWgp := hMmDWgp)
    ∧ quiescent_MmDWgpIdeal (hMmDWgpIdeal := hMmDWgpIdeal)
    ∧ quiescent_MmDWgpRefIdeal (hMmDWgpRefIdeal := hMmDWgpRefIdeal)
    ∧ quiescent_MmDPs (hMmDPs := hMmDPs)
    ∧ quiescent_MmDPsIdeal (hMmDPsIdeal := hMmDPsIdeal)
    ∧ quiescent_MmDPsRefIdeal (hMmDPsRefIdeal := hMmDPsRefIdeal)
    ∧ quiescent_MmDWpp (hMmDWpp := hMmDWpp)
    ∧ quiescent_MmDWppIdeal (hMmDWppIdeal := hMmDWppIdeal)
    ∧ quiescent_MmDWppRefIdeal (hMmDWppRefIdeal := hMmDWppRefIdeal)
    ∧ quiescent_AdamSquare (hAdamSquare := hAdamSquare)
    ∧ quiescent_AdamSquareIdeal (hAdamSquareIdeal := hAdamSquareIdeal)
    ∧ quiescent_AdamSquareRefIdeal (hAdamSquareRefIdeal := hAdamSquareRefIdeal)
    ∧ quiescent_AdamPool (hAdamPool := hAdamPool)
    ∧ quiescent_AdamPoolIdeal (hAdamPoolIdeal := hAdamPoolIdeal)
    ∧ quiescent_AdamPoolRefIdeal (hAdamPoolRefIdeal := hAdamPoolRefIdeal)
    ∧ quiescent_AdamDown (hAdamDown := hAdamDown)
    ∧ quiescent_AdamDownIdeal (hAdamDownIdeal := hAdamDownIdeal)
    ∧ quiescent_AdamDownRefIdeal (hAdamDownRefIdeal := hAdamDownRefIdeal)
    ∧ quiescent_AdamUp (hAdamUp := hAdamUp)
    ∧ quiescent_AdamUpIdeal (hAdamUpIdeal := hAdamUpIdeal)
    ∧ quiescent_AdamUpRefIdeal (hAdamUpRefIdeal := hAdamUpRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_RmsMix (hRmsMix := hRmsMix)
    ∧ quiescent_RmsMixIdeal (hRmsMixIdeal := hRmsMixIdeal)
    ∧ quiescent_RmsMixRefIdeal (hRmsMixRefIdeal := hRmsMixRefIdeal)
    ∧ quiescent_GkFwd (hGkFwd := hGkFwd)
    ∧ quiescent_GkFwdIdeal (hGkFwdIdeal := hGkFwdIdeal)
    ∧ quiescent_GkFwdRefIdeal (hGkFwdRefIdeal := hGkFwdRefIdeal)
    ∧ quiescent_PairSum (hPairSum := hPairSum)
    ∧ quiescent_PairSumIdeal (hPairSumIdeal := hPairSumIdeal)
    ∧ quiescent_PairSumRefIdeal (hPairSumRefIdeal := hPairSumRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_MmIn_MmInIdeal
    ∧ algebraic_MmInIdeal_MmInRefIdeal (hMmInIdeal := hMmInIdeal) (hMmInRefIdeal := hMmInRefIdeal)
    ∧ preserves_MmDWcat_MmDWcatIdeal
    ∧ algebraic_MmDWcatIdeal_MmDWcatRefIdeal (hMmDWcatIdeal := hMmDWcatIdeal) (hMmDWcatRefIdeal := hMmDWcatRefIdeal)
    ∧ preserves_MmDWup_MmDWupIdeal
    ∧ algebraic_MmDWupIdeal_MmDWupRefIdeal (hMmDWupIdeal := hMmDWupIdeal) (hMmDWupRefIdeal := hMmDWupRefIdeal)
    ∧ preserves_MmDAct_MmDActIdeal
    ∧ algebraic_MmDActIdeal_MmDActRefIdeal (hMmDActIdeal := hMmDActIdeal) (hMmDActRefIdeal := hMmDActRefIdeal)
    ∧ preserves_MmDWdown_MmDWdownIdeal
    ∧ algebraic_MmDWdownIdeal_MmDWdownRefIdeal (hMmDWdownIdeal := hMmDWdownIdeal) (hMmDWdownRefIdeal := hMmDWdownRefIdeal)
    ∧ preserves_MmDHRms_MmDHRmsIdeal
    ∧ algebraic_MmDHRmsIdeal_MmDHRmsRefIdeal_pre_finite_7 (hMmDHRmsIdeal := hMmDHRmsIdeal) (hMmDHRmsRefIdeal := hMmDHRmsRefIdeal) (hPre_finite_7 := hPre_finite_7)
    ∧ preserves_MmDH2Rms_MmDH2RmsIdeal
    ∧ algebraic_MmDH2RmsIdeal_MmDH2RmsRefIdeal_pre_finite_8 (hMmDH2RmsIdeal := hMmDH2RmsIdeal) (hMmDH2RmsRefIdeal := hMmDH2RmsRefIdeal) (hPre_finite_8 := hPre_finite_8)
    ∧ preserves_MmDownLoss_MmDownLossIdeal
    ∧ algebraic_MmDownLossIdeal_MmDownLossRefIdeal_pre_finite_9 (hMmDownLossIdeal := hMmDownLossIdeal) (hMmDownLossRefIdeal := hMmDownLossRefIdeal) (hPre_finite_9 := hPre_finite_9)
    ∧ preserves_MmDWout_MmDWoutIdeal
    ∧ algebraic_MmDWoutIdeal_MmDWoutRefIdeal (hMmDWoutIdeal := hMmDWoutIdeal) (hMmDWoutRefIdeal := hMmDWoutRefIdeal)
    ∧ preserves_MmDWgp_MmDWgpIdeal
    ∧ algebraic_MmDWgpIdeal_MmDWgpRefIdeal (hMmDWgpIdeal := hMmDWgpIdeal) (hMmDWgpRefIdeal := hMmDWgpRefIdeal)
    ∧ preserves_MmDPs_MmDPsIdeal
    ∧ algebraic_MmDPsIdeal_MmDPsRefIdeal (hMmDPsIdeal := hMmDPsIdeal) (hMmDPsRefIdeal := hMmDPsRefIdeal)
    ∧ preserves_MmDWpp_MmDWppIdeal
    ∧ algebraic_MmDWppIdeal_MmDWppRefIdeal (hMmDWppIdeal := hMmDWppIdeal) (hMmDWppRefIdeal := hMmDWppRefIdeal)
    ∧ preserves_AdamSquare_AdamSquareIdeal
    ∧ algebraic_AdamSquareIdeal_AdamSquareRefIdeal (hAdamSquareIdeal := hAdamSquareIdeal) (hAdamSquareRefIdeal := hAdamSquareRefIdeal)
    ∧ preserves_AdamPool_AdamPoolIdeal
    ∧ algebraic_AdamPoolIdeal_AdamPoolRefIdeal (hAdamPoolIdeal := hAdamPoolIdeal) (hAdamPoolRefIdeal := hAdamPoolRefIdeal)
    ∧ preserves_AdamDown_AdamDownIdeal
    ∧ algebraic_AdamDownIdeal_AdamDownRefIdeal (hAdamDownIdeal := hAdamDownIdeal) (hAdamDownRefIdeal := hAdamDownRefIdeal)
    ∧ preserves_AdamUp_AdamUpIdeal
    ∧ algebraic_AdamUpIdeal_AdamUpRefIdeal (hAdamUpIdeal := hAdamUpIdeal) (hAdamUpRefIdeal := hAdamUpRefIdeal)
    ∧ preserves_AdamIn_AdamInIdeal
    ∧ algebraic_AdamInIdeal_AdamInRefIdeal (hAdamInIdeal := hAdamInIdeal) (hAdamInRefIdeal := hAdamInRefIdeal)
    ∧ preserves_RmsMix_RmsMixIdeal
    ∧ algebraic_RmsMixIdeal_RmsMixRefIdeal (hRmsMixIdeal := hRmsMixIdeal) (hRmsMixRefIdeal := hRmsMixRefIdeal)
    ∧ preserves_GkFwd_GkFwdIdeal
    ∧ algebraic_GkFwdIdeal_GkFwdRefIdeal (hGkFwdIdeal := hGkFwdIdeal) (hGkFwdRefIdeal := hGkFwdRefIdeal)
    ∧ preserves_PairSum_PairSumIdeal
    ∧ algebraic_PairSumIdeal_PairSumRefIdeal (hPairSumIdeal := hPairSumIdeal) (hPairSumRefIdeal := hPairSumRefIdeal)
-- ==== Pre_finite.lean ====
abbrev S2048x5760 : Shape := ⟨2, ![2048, 5760]⟩
abbrev S2048x5632 : Shape := ⟨2, ![2048, 5632]⟩
abbrev S2048x512 : Shape := ⟨2, ![2048, 512]⟩
abbrev S2048x1024 : Shape := ⟨2, ![2048, 1024]⟩
abbrev S_ : Shape := ⟨0, ![]⟩

class Facts : Prop where
  bitsLt_bf16_f32 : FTy.bits .bf16 < FTy.bits .f32
  bcast_S_S2048x5632 : S_.BroadcastsInDim S2048x5632 (![] : Fin 0 → Fin S2048x5632.rank)
  reducesTo_S2048x5632_S_d0_1 : S2048x5632.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S2048x1024 : S_.BroadcastsInDim S2048x1024 (![] : Fin 0 → Fin S2048x1024.rank)
  reducesTo_S2048x1024_S_d0_1 : S2048x1024.ReducesTo [0, 1] S_

variable [Facts]

def fn {F : FTy → Type} [FloatOps F] (main_arg0 : FVec F S2048x5760 .bf16) (main_arg1 : FVec F S2048x5632 .bf16) (main_arg2 : FVec F S2048x512 .f32) (main_arg3 : FVec F S2048x1024 .bf16) : IVec S_ 1 :=
  let main_v0 : FVec F S2048x5632 .f32 := (extf .f32 · bitsLt_bf16_f32) main_arg1
  let main_v1 : FVec F S2048x5632 .f32 := Host.absf main_v0
  let main_cst : FVec F S_ .f32 := constant S_ .f32 0x7F800000#32
  let main_v2 : FVec F S2048x5632 .f32 := broadcastInDim S2048x5632 ![] bcast_S_S2048x5632 main_cst
  let main_v3 : IVec S2048x5632 1 := cmpf .olt main_v1 main_v2
  let main_c : IVec S_ 1 := constantI S_ 1 1#1
  let main_v4 : IVec S_ 1 := (fun x v => Host.reduce IntOp.andi x v reducesTo_S2048x5632_S_d0_1 h_S_) main_v3 main_c
  let main_v5 : FVec F S2048x512 .f32 := Host.absf main_arg2
  let main_cst_0 : FVec F S_ .f32 := constant S_ .f32 0x7F800000#32
  let main_v6 : FVec F S2048x512 .f32 := broadcastInDim S2048x512 ![] bcast_S_S2048x512 main_cst_0
  let main_v7 : IVec S2048x512 1 := cmpf .olt main_v5 main_v6
  let main_c_1 : IVec S_ 1 := constantI S_ 1 1#1
  let main_v8 : IVec S_ 1 := (fun x v => Host.reduce IntOp.andi x v reducesTo_S2048x512_S_d0_1 h_S_) main_v7 main_c_1
  let main_v9 : IVec S_ 1 := andi main_v4 main_v8
  let main_v10 : FVec F S2048x1024 .f32 := (extf .f32 · bitsLt_bf16_f32) main_arg3
  let main_v11 : FVec F S2048x1024 .f32 := Host.absf main_v10
  let main_cst_2 : FVec F S_ .f32 := constant S_ .f32 0x7F800000#32
  let main_v12 : FVec F S2048x1024 .f32 := broadcastInDim S2048x1024 ![] bcast_S_S2048x1024 main_cst_2
  let main_v13 : IVec S2048x1024 1 := cmpf .olt main_v11 main_v12
  let main_c_3 : IVec S_ 1 := constantI S_ 1 1#1
  let main_v14 : IVec S_ 1 := (fun x v => Host.reduce IntOp.andi x v reducesTo_S2048x1024_S_d0_1 h_S_) main_v13 main_c_3
  let main_v15 : IVec S_ 1 := andi main_v9 main_v14
  main_v15
-- ==== Pre_finite_7.lean ====
abbrev S2048x5760 : Shape := ⟨2, ![2048, 5760]⟩
abbrev S5760x1024 : Shape := ⟨2, ![5760, 1024]⟩
abbrev S2048x1024 : Shape := ⟨2, ![2048, 1024]⟩
abbrev S1x1024 : Shape := ⟨2, ![1, 1024]⟩
abbrev S_ : Shape := ⟨0, ![]⟩

class Facts : Prop where
  bitsLt_bf16_f32 : FTy.bits .bf16 < FTy.bits .f32
  bcast_S_S2048x5760 : S_.BroadcastsInDim S2048x5760 (![] : Fin 0 → Fin S2048x5760.rank)
  reducesTo_S2048x5760_S_d0_1 : S2048x5760.ReducesTo [0, 1] S_
  h_S_ : 0 < S_.numel
  bcast_S_S5760x1024 : S_.BroadcastsInDim S5760x1024 (![] : Fin 0 → Fin S5760x1024.rank)
  reducesTo_S5760x1024_S_d0_1 : S5760x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  main_v20

def fn {F : FTy → Type} [FloatOps F] (main_arg0 : FVec F S2048x5760 .bf16) (main_arg1 : FVec F S5760x1024 .bf16) (main_arg2 : FVec F S2048x1024 .f32) (main_arg3 : FVec F S1x1024 .f32) (main_arg4 : FVec F S2048x1024 .f32) : IVec S_ 1 :=
  let main_v0 : FVec F S2048x5760 .f32 := (extf .f32 · bitsLt_bf16_f32) main_arg0
  let main_v1 : FVec F S2048x5760 .f32 := Host.absf main_v0
  let main_cst : FVec F S_ .f32 := constant S_ .f32 0x7F800000#32
  let main_v2 : FVec F S2048x5760 .f32 := broadcastInDim S2048x5760 ![] bcast_S_S2048x5760 main_cst
  let main_v3 : IVec S2048x5760 1 := cmpf .olt main_v1 main_v2
  let main_c : IVec S_ 1 := constantI S_ 1 1#1
  let main_v4 : IVec S_ 1 := (fun x v => Host.reduce IntOp.andi x v reducesTo_S2048x5760_S_d0_1 h_S_) main_v3 main_c
  let main_v5 : FVec F S5760x1024 .f32 := (extf .f32 · bitsLt_bf16_f32) main_arg1
  let main_v6 : FVec F S5760x1024 .f32 := Host.absf main_v5
  let main_cst_0 : FVec F S_ .f32 := constant S_ .f32 0x7F800000#32
  let main_v7 : FVec F S5760x1024 .f32 := broadcastInDim S5760x1024 ![] bcast_S_S5760x1024 main_cst_0
  let main_v8 : IVec S5760x1024 1 := cmpf .olt main_v6 main_v7
  let main_c_1 : IVec S_ 1 := constantI S_ 1 1#1
  let main_v9 : IVec S_ 1 := (fun x v => Host.reduce IntOp.andi x v reducesTo_S5760x1024_S_d0_1 h_S_) main_v8 main_c_1
  let main_v10 : IVec S_ 1 := andi main_v4 main_v9
  let main_v11 : FVec F S2048x1024 .f32 := Host.absf main_arg2
  let main_cst_2 : FVec F S_ .f32 := constant S_ .f32 0x7F800000#32
  let main_v12 : FVec F S2048x1024 .f32 := broadcastInDim S2048x1024 ![] bcast_S_S2048x1024 main_cst_2
  let main_v13 : IVec S2048x1024 1 := cmpf .olt main_v11 main_v12
  let main_c_3 : IVec S_ 1 := constantI S_ 1 1#1
  let main_v14 : IVec S_ 1 := (fun x v => Host.reduce IntOp.andi x v reducesTo_S2048x1024_S_d0_1 h_S_) main_v13 main_c_3
  let main_v15 : IVec S_ 1 := andi main_v10 main_v14
  let main_v16 : FVec F S1x1024 .f32 := Host.absf main_arg3
  let main_cst_4 : FVec F S_ .f32 := constant S_ .f32 0x7F800000#32
  fn_part1 (F := F) main_v15 main_v16 main_cst_4
-- ==== Pre_finite_8.lean ====
abbrev S2x4x2048x704 : Shape := ⟨4, ![2, 4, 2048, 704]⟩
abbrev S5632x1024 : Shape := ⟨2, ![5632, 1024]⟩
abbrev S2048x1024 : Shape := ⟨2, ![2048, 1024]⟩
abbrev S1x1024 : Shape := ⟨2, ![1, 1024]⟩
abbrev S_ : Shape := ⟨0, ![]⟩

class Facts : Prop where
  bitsLt_bf16_f32 : FTy.bits .bf16 < FTy.bits .f32
  bcast_S_S2x4x2048x704 : S_.BroadcastsInDim S2x4x2048x704 (![] : Fin 0 → Fin S2x4x2048x704.rank)
  reducesTo_S2x4x2048x704_S_d0_1_2_3 : S2x4x2048x704.ReducesTo [0, 1, 2, 3] S_
  h_S_ : 0 < S_.numel
  bcast_S_S5632x1024 : S_.BroadcastsInDim S5632x1024 (![] : Fin 0 → Fin S5632x1024.rank)
  reducesTo_S5632x1024_S_d0_1 : S5632x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  main_v20

def fn {F : FTy → Type} [FloatOps F] (main_arg0 : FVec F S2x4x2048x704 .bf16) (main_arg1 : FVec F S5632x1024 .bf16) (main_arg2 : FVec F S2048x1024 .f32) (main_arg3 : FVec F S1x1024 .f32) (main_arg4 : FVec F S2048x1024 .f32) : IVec S_ 1 :=
  let main_v0 : FVec F S2x4x2048x704 .f32 := (extf .f32 · bitsLt_bf16_f32) main_arg0
  let main_v1 : FVec F S2x4x2048x704 .f32 := Host.absf main_v0
  let main_cst : FVec F S_ .f32 := constant S_ .f32 0x7F800000#32
  let main_v2 : FVec F S2x4x2048x704 .f32 := broadcastInDim S2x4x2048x704 ![] bcast_S_S2x4x2048x704 main_cst
  let main_v3 : IVec S2x4x2048x704 1 := cmpf .olt main_v1 main_v2
  let main_c : IVec S_ 1 := constantI S_ 1 1#1
  let main_v4 : IVec S_ 1 := (fun x v => Host.reduce IntOp.andi x v reducesTo_S2x4x2048x704_S_d0_1_2_3 h_S_) main_v3 main_c
  let main_v5 : FVec F S5632x1024 .f32 := (extf .f32 · bitsLt_bf16_f32) main_arg1
  let main_v6 : FVec F S5632x1024 .f32 := Host.absf main_v5
  let main_cst_0 : FVec F S_ .f32 := constant S_ .f32 0x7F800000#32
  let main_v7 : FVec F S5632x1024 .f32 := broadcastInDim S5632x1024 ![] bcast_S_S5632x1024 main_cst_0
  let main_v8 : IVec S5632x1024 1 := cmpf .olt main_v6 main_v7
  let main_c_1 : IVec S_ 1 := constantI S_ 1 1#1
  let main_v9 : IVec S_ 1 := (fun x v => Host.reduce IntOp.andi x v reducesTo_S5632x1024_S_d0_1 h_S_) main_v8 main_c_1
  let main_v10 : IVec S_ 1 := andi main_v4 main_v9
  let main_v11 : FVec F S2048x1024 .f32 := Host.absf main_arg2
  let main_cst_2 : FVec F S_ .f32 := constant S_ .f32 0x7F800000#32
  let main_v12 : FVec F S2048x1024 .f32 := broadcastInDim S2048x1024 ![] bcast_S_S2048x1024 main_cst_2
  let main_v13 : IVec S2048x1024 1 := cmpf .olt main_v11 main_v12
  let main_c_3 : IVec S_ 1 := constantI S_ 1 1#1
  let main_v14 : IVec S_ 1 := (fun x v => Host.reduce IntOp.andi x v reducesTo_S2048x1024_S_d0_1 h_S_) main_v13 main_c_3
  let main_v15 : IVec S_ 1 := andi main_v10 main_v14
  let main_v16 : FVec F S1x1024 .f32 := Host.absf main_arg3
  let main_cst_4 : FVec F S_ .f32 := constant S_ .f32 0x7F800000#32
  fn_part1 (F := F) main_v15 main_v16 main_cst_4
-- ==== Pre_finite_9.lean ====
abbrev S1x4x2048x704 : Shape := ⟨4, ![1, 4, 2048, 704]⟩
abbrev S2816x1024 : Shape := ⟨2, ![2816, 1024]⟩
abbrev S2048x1024 : Shape := ⟨2, ![2048, 1024]⟩
abbrev S1x1024 : Shape := ⟨2, ![1, 1024]⟩
abbrev S_ : Shape := ⟨0, ![]⟩

class Facts : Prop where
  bitsLt_bf16_f32 : FTy.bits .bf16 < FTy.bits .f32
  bcast_S_S1x4x2048x704 : S_.BroadcastsInDim S1x4x2048x704 (![] : Fin 0 → Fin S1x4x2048x704.rank)
  reducesTo_S1x4x2048x704_S_d0_1_2_3 : S1x4x2048x704.ReducesTo [0, 1, 2, 3] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S1x1024 : S_.BroadcastsInDim S1x1024 (![] : Fin 0 → Fin S1x1024.rank)
  reducesTo_S1x1024_S_d0_1 : S1x1024.ReducesTo [0, 1] S_

variable [Facts]

def fn_part1 {F : FTy → Type} [FloatOps F] (main_arg4 : FVec F S2048x1024 .f32) (main_v15 : IVec S_ 1) (main_v16 : FVec F S1x1024 .f32) (main_cst_4 : FVec F S_ .f32) : IVec S_ 1 :=
  let main_v17 : FVec F S1x1024 .f32 := broadcastInDim S1x1024 ![] bcast_S_S1x1024 main_cst_4
  let main_v18 : IVec S1x1024 1 := cmpf .olt main_v16 main_v17
  let main_c_5 : IVec S_ 1 := constantI S_ 1 1#1
  let main_v19 : IVec S_ 1 := (fun x v => Host.reduce IntOp.andi x v reducesTo_S1x1024_S_d0_1 h_S_) main_v18 main_c_5
  let main_v20 : IVec S_ 1 := andi main_v15 main_v19
  let main_v21 : FVec F S2048x1024 .f32 := Host.absf main_arg4
  let main_cst_6 : FVec F S_ .f32 := constant S_ .f32 0x7F800000#32
  let main_v22 : FVec F S2048x1024 .f32 := broadcastInDim S2048x1024 ![] bcast_S_S2048x1024 main_cst_6
  let main_v23 : IVec S2048x1024 1 := cmpf .olt main_v21 main_v22
  let main_c_7 : IVec S_ 1 := constantI S_ 1 1#1
  let main_v24 : IVec S_ 1 := (fun x v => Host.reduce IntOp.andi x v reducesTo_S2048x1024_S_d0_1 h_S_) main_v23 main_c_7
  let main_v25 : IVec S_ 1 := andi main_v20 main_v24
  main_v25

def fn {F : FTy → Type} [FloatOps F] (main_arg0 : FVec F S1x4x2048x704 .bf16) (main_arg1 : FVec F S2816x1024 .bf16) (main_arg2 : FVec F S2048x1024 .f32) (main_arg3 : FVec F S1x1024 .f32) (main_arg4 : FVec F S2048x1024 .f32) : IVec S_ 1 :=
  let main_v0 : FVec F S1x4x2048x704 .f32 := (extf .f32 · bitsLt_bf16_f32) main_arg0
  let main_v1 : FVec F S1x4x2048x704 .f32 := Host.absf main_v0
  let main_cst : FVec F S_ .f32 := constant S_ .f32 0x7F800000#32
  let main_v2 : FVec F S1x4x2048x704 .f32 := broadcastInDim S1x4x2048x704 ![] bcast_S_S1x4x2048x704 main_cst
  let main_v3 : IVec S1x4x2048x704 1 := cmpf .olt main_v1 main_v2
  let main_c : IVec S_ 1 := constantI S_ 1 1#1
  let main_v4 : IVec S_ 1 := (fun x v => Host.reduce IntOp.andi x v reducesTo_S1x4x2048x704_S_d0_1_2_3 h_S_) main_v3 main_c
  let main_v5 : FVec F S2816x1024 .f32 := (extf .f32 · bitsLt_bf16_f32) main_arg1
  let main_v6 : FVec F S2816x1024 .f32 := Host.absf main_v5
  let main_cst_0 : FVec F S_ .f32 := constant S_ .f32 0x7F800000#32
  let main_v7 : FVec F S2816x1024 .f32 := broadcastInDim S2816x1024 ![] bcast_S_S2816x1024 main_cst_0
  let main_v8 : IVec S2816x1024 1 := cmpf .olt main_v6 main_v7
  let main_c_1 : IVec S_ 1 := constantI S_ 1 1#1
  let main_v9 : IVec S_ 1 := (fun x v => Host.reduce IntOp.andi x v reducesTo_S2816x1024_S_d0_1 h_S_) main_v8 main_c_1
  let main_v10 : IVec S_ 1 := andi main_v4 main_v9
  let main_v11 : FVec F S2048x1024 .f32 := Host.absf main_arg2
  let main_cst_2 : FVec F S_ .f32 := constant S_ .f32 0x7F800000#32
  let main_v12 : FVec F S2048x1024 .f32 := broadcastInDim S2048x1024 ![] bcast_S_S2048x1024 main_cst_2
  let main_v13 : IVec S2048x1024 1 := cmpf .olt main_v11 main_v12
  let main_c_3 : IVec S_ 1 := constantI S_ 1 1#1
  let main_v14 : IVec S_ 1 := (fun x v => Host.reduce IntOp.andi x v reducesTo_S2048x1024_S_d0_1 h_S_) main_v13 main_c_3
  let main_v15 : IVec S_ 1 := andi main_v10 main_v14
  let main_v16 : FVec F S1x1024 .f32 := Host.absf main_arg3
  let main_cst_4 : FVec F S_ .f32 := constant S_ .f32 0x7F800000#32
  fn_part1 (F := F) main_arg4 main_v15 main_v16 main_cst_4
-- ==== Kernel.lean ====
abbrev S2048x5760 : Shape := ⟨2, ![2048, 5760]⟩
abbrev S2048x5632 : Shape := ⟨2, ![2048, 5632]⟩
abbrev S2048x512 : Shape := ⟨2, ![2048, 512]⟩
abbrev S2048x1024 : Shape := ⟨2, ![2048, 1024]⟩
abbrev S32 : Shape := ⟨1, ![32]⟩
abbrev S32x64x4x128 : Shape := ⟨4, ![32, 64, 4, 128]⟩
abbrev S_ : Shape := ⟨0, ![]⟩
abbrev S32x1x4x128 : Shape := ⟨4, ![32, 1, 4, 128]⟩
abbrev S32x4x128 : Shape := ⟨3, ![32, 4, 128]⟩
abbrev S32x64x4x256 : Shape := ⟨4, ![32, 64, 4, 256]⟩
abbrev S32x4x128x256 : Shape := ⟨4, ![32, 4, 128, 256]⟩
abbrev S1x32x1 : Shape := ⟨3, ![1, 32, 1]⟩
abbrev S1x1x32 : Shape := ⟨3, ![1, 1, 32]⟩
abbrev S1x32x32 : Shape := ⟨3, ![1, 32, 32]⟩
abbrev S32x1x1 : Shape := ⟨3, ![32, 1, 1]⟩
abbrev S32x1x32 : Shape := ⟨3, ![32, 1, 32]⟩
abbrev S32x32x32 : Shape := ⟨3, ![32, 32, 32]⟩
abbrev S32x32x32x1x1 : Shape := ⟨5, ![32, 32, 32, 1, 1]⟩
abbrev S32x32x32x4x128 : Shape := ⟨5, ![32, 32, 32, 4, 128]⟩
abbrev S32x32x4x128 : Shape := ⟨4, ![32, 32, 4, 128]⟩
abbrev S1x32 : Shape := ⟨2, ![1, 32]⟩
abbrev S32x1 : Shape := ⟨2, ![32, 1]⟩
abbrev S32x32 : Shape := ⟨2, ![32, 32]⟩
abbrev S32x32x1x1 : Shape := ⟨4, ![32, 32, 1, 1]⟩
abbrev S4x128x256x32 : Shape := ⟨4, ![4, 128, 256, 32]⟩
abbrev S32x4x256x128 : Shape := ⟨4, ![32, 4, 256, 128]⟩
abbrev S256x2048 : Shape := ⟨2, ![256, 2048]⟩
abbrev S256x512 : Shape := ⟨2, ![256, 512]⟩
abbrev S256x1024 : Shape := ⟨2, ![256, 1024]⟩
abbrev S4x4x256x128 : Shape := ⟨4, ![4, 4, 256, 128]⟩
abbrev S4x256x128 : Shape := ⟨3, ![4, 256, 128]⟩
abbrev S64x128 : Shape := ⟨2, ![64, 128]⟩
abbrev S64x64 : Shape := ⟨2, ![64, 64]⟩
abbrev S64x512 : Shape := ⟨2, ![64, 512]⟩
abbrev S64x256 : Shape := ⟨2, ![64, 256]⟩
abbrev S128 : Shape := ⟨1, ![128]⟩
abbrev S1x128 : Shape := ⟨2, ![1, 128]⟩
abbrev S1x1x256x128 : Shape := ⟨4, ![1, 1, 256, 128]⟩
abbrev S256x128 : Shape := ⟨2, ![256, 128]⟩
abbrev S1x256x128 : Shape := ⟨3, ![1, 256, 128]⟩

abbrev nBuf : Space → Nat
  | .hbm => 62
  | .vmem => 13
  | .smem => 0
  | _ => 0

abbrev bufTy : (tb : Table) → Fin (tcTables nBuf tb) → BufTy
  | .hbm, ⟨0, _⟩ => ⟨S2048x5760, .bf16⟩
  | .hbm, ⟨1, _⟩ => ⟨S2048x5632, .bf16⟩
  | .hbm, ⟨2, _⟩ => ⟨S2048x512, .f32⟩
  | .hbm, ⟨3, _⟩ => ⟨S2048x1024, .bf16⟩
  | .hbm, ⟨4, _⟩ => ⟨S2048x5632, .f32⟩
  | .hbm, ⟨5, _⟩ => ⟨S2048x512, .f32⟩
  | .hbm, ⟨6, _⟩ => ⟨S2048x512, .f32⟩
  | .hbm, ⟨7, _⟩ => ⟨S2048x1024, .f32⟩
  | .hbm, ⟨8, _⟩ => ⟨S32, .i32⟩
  | .hbm, ⟨9, _⟩ => ⟨S32x64x4x128, .f32⟩
  | .hbm, ⟨10, _⟩ => ⟨S_, .f32⟩
  | .hbm, ⟨11, _⟩ => ⟨S_, .f32⟩
  | .hbm, ⟨12, _⟩ => ⟨S32x64x4x128, .f32⟩
  | .hbm, ⟨13, _⟩ => ⟨S32x1x4x128, .f32⟩
  | .hbm, ⟨14, _⟩ => ⟨S32x4x128, .f32⟩
  | .hbm, ⟨15, _⟩ => ⟨S32x64x4x128, .f32⟩
  | .hbm, ⟨16, _⟩ => ⟨S32x1x4x128, .f32⟩
  | .hbm, ⟨17, _⟩ => ⟨S32x64x4x128, .f32⟩
  | .hbm, ⟨18, _⟩ => ⟨S32x64x4x128, .f32⟩
  | .hbm, ⟨19, _⟩ => ⟨S32x64x4x128, .f32⟩
  | .hbm, ⟨20, _⟩ => ⟨S32x64x4x128, .f32⟩
  | .hbm, ⟨21, _⟩ => ⟨S32x64x4x256, .f32⟩
  | .hbm, ⟨22, _⟩ => ⟨S32x4x128x256, .f32⟩
  | .hbm, ⟨23, _⟩ => ⟨S1x32x1, .i32⟩
  | .hbm, ⟨24, _⟩ => ⟨S1x1x32, .i32⟩
  | .hbm, ⟨25, _⟩ => ⟨S1x32x32, .i32⟩
  | .hbm, ⟨26, _⟩ => ⟨S1x32x32, .i32⟩
  | .hbm, ⟨27, _⟩ => ⟨S1x32x32, .i1⟩
  | .hbm, ⟨28, _⟩ => ⟨S1x1x32, .i32⟩
  | .hbm, ⟨29, _⟩ => ⟨S32x1x1, .i32⟩
  | .hbm, ⟨30, _⟩ => ⟨S32x1x32, .i32⟩
  | .hbm, ⟨31, _⟩ => ⟨S32x1x32, .i32⟩
  | .hbm, ⟨32, _⟩ => ⟨S32x1x32, .i1⟩
  | .hbm, ⟨33, _⟩ => ⟨S32x32x32, .i1⟩
  | .hbm, ⟨34, _⟩ => ⟨S32x32x32, .i1⟩
  | .hbm, ⟨35, _⟩ => ⟨S32x32x32, .i1⟩
  | .hbm, ⟨36, _⟩ => ⟨S32x32x32x1x1, .i1⟩
  | .hbm, ⟨37, _⟩ => ⟨S_, .f32⟩
  | .hbm, ⟨38, _⟩ => ⟨S_, .f32⟩
  | .hbm, ⟨39, _⟩ => ⟨S32x32x32x4x128, .i1⟩
  | .hbm, ⟨40, _⟩ => ⟨S32x32x32x4x128, .f32⟩
  | .hbm, ⟨41, _⟩ => ⟨S32x32x32x4x128, .f32⟩
  | .hbm, ⟨42, _⟩ => ⟨S32x32x32x4x128, .f32⟩
  | .hbm, ⟨43, _⟩ => ⟨S_, .f32⟩
  | .hbm, ⟨44, _⟩ => ⟨S32x32x4x128, .f32⟩
  | .hbm, ⟨45, _⟩ => ⟨S32x32x4x128, .f32⟩
  | .hbm, ⟨46, _⟩ => ⟨S1x32, .i32⟩
  | .hbm, ⟨47, _⟩ => ⟨S32x1, .i32⟩
  | .hbm, ⟨48, _⟩ => ⟨S32x32, .i32⟩
  | .hbm, ⟨49, _⟩ => ⟨S32x32, .i32⟩
  | .hbm, ⟨50, _⟩ => ⟨S32x32, .i1⟩
  | .hbm, ⟨51, _⟩ => ⟨S32x32x1x1, .i1⟩
  | .hbm, ⟨52, _⟩ => ⟨S_, .f32⟩
  | .hbm, ⟨53, _⟩ => ⟨S_, .f32⟩
  | .hbm, ⟨54, _⟩ => ⟨S32x32x4x128, .i1⟩
  | .hbm, ⟨55, _⟩ => ⟨S32x32x4x128, .f32⟩
  | .hbm, ⟨56, _⟩ => ⟨S32x32x4x128, .f32⟩
  | .hbm, ⟨57, _⟩ => ⟨S4x128x256x32, .f32⟩
  | .hbm, ⟨58, _⟩ => ⟨S32x4x128x256, .f32⟩
  | .hbm, ⟨59, _⟩ => ⟨S32x4x256x128, .f32⟩
  | .hbm, ⟨60, _⟩ => ⟨S2048x5760, .bf16⟩
  | .hbm, ⟨61, _⟩ => ⟨S2048x512, .f32⟩
  | .local _ .vmem, ⟨0, _⟩ => ⟨S256x2048, .bf16⟩
  | .local _ .vmem, ⟨1, _⟩ => ⟨S256x2048, .bf16⟩
  | .local _ .vmem, ⟨2, _⟩ => ⟨S256x512, .f32⟩
  | .local _ .vmem, ⟨3, _⟩ => ⟨S256x512, .f32⟩
  | .local _ .vmem, ⟨4, _⟩ => ⟨S256x1024, .bf16⟩
  | .local _ .vmem, ⟨5, _⟩ => ⟨S256x1024, .bf16⟩
  | .local _ .vmem, ⟨6, _⟩ => ⟨S4x4x256x128, .f32⟩
  | .local _ .vmem, ⟨7, _⟩ => ⟨S4x4x256x128, .f32⟩
  | .local _ .vmem, ⟨8, _⟩ => ⟨S256x2048, .bf16⟩
  | .local _ .vmem, ⟨9, _⟩ => ⟨S256x2048, .bf16⟩
  | .local _ .vmem, ⟨10, _⟩ => ⟨S256x512, .f32⟩
  | .local _ .vmem, ⟨11, _⟩ => ⟨S256x512, .f32⟩
  | .local _ .vmem, ⟨12, _⟩ => ⟨S4x256x128, .f32⟩
  | _, _ => ⟨S2048x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_call0_cst : Ref sig .tc := ⟨.hbm, 10, rfl⟩
abbrev main_call0_call0_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_call1_v3 : Ref sig .tc := ⟨.hbm, 41, rfl⟩
abbrev main_v31 : Ref sig .tc := ⟨.hbm, 42, rfl⟩
abbrev main_cst_0 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_1 : Ref sig .tc := ⟨.hbm, 52, rfl⟩
abbrev main_call2_v0 : Ref sig .tc := ⟨.hbm, 53, rfl⟩
abbrev main_call2_v1 : Ref sig .tc := ⟨.hbm, 54, rfl⟩
abbrev main_call2_v2 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44_0 : Ref sig .tc := ⟨.hbm, 60, rfl⟩
abbrev main_v44_1 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![8], ![false]⟩

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_5 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x4x256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S2048x5760 : Shape := ⟨2, ![2048, 5760]⟩
abbrev S2048x5632 : Shape := ⟨2, ![2048, 5632]⟩
abbrev S2048x512 : Shape := ⟨2, ![2048, 512]⟩
abbrev S2048x1024 : Shape := ⟨2, ![2048, 1024]⟩
abbrev S32x64x4x128 : Shape := ⟨4, ![32, 64, 4, 128]⟩
abbrev S_ : Shape := ⟨0, ![]⟩
abbrev S32x1x4x128 : Shape := ⟨4, ![32, 1, 4, 128]⟩
abbrev S32x4x128 : Shape := ⟨3, ![32, 4, 128]⟩
abbrev S32x64x4x256 : Shape := ⟨4, ![32, 64, 4, 256]⟩
abbrev S32x4x64x64 : Shape := ⟨4, ![32, 4, 64, 64]⟩
abbrev S64x64 : Shape := ⟨2, ![64, 64]⟩
abbrev S32x4x256x64 : Shape := ⟨4, ![32, 4, 256, 64]⟩
abbrev S32 : Shape := ⟨1, ![32]⟩
abbrev S32x4x128x256 : Shape := ⟨4, ![32, 4, 128, 256]⟩
abbrev S1x32x1 : Shape := ⟨3, ![1, 32, 1]⟩
abbrev S1x1x32 : Shape := ⟨3, ![1, 1, 32]⟩
abbrev S1x32x32 : Shape := ⟨3, ![1, 32, 32]⟩
abbrev S32x1x1 : Shape := ⟨3, ![32, 1, 1]⟩
abbrev S32x1x32 : Shape := ⟨3, ![32, 1, 32]⟩
abbrev S32x32x32 : Shape := ⟨3, ![32, 32, 32]⟩
abbrev S32x32x32x1x1 : Shape := ⟨5, ![32, 32, 32, 1, 1]⟩
abbrev S32x32x32x4x128 : Shape := ⟨5, ![32, 32, 32, 4, 128]⟩
abbrev S32x32x4x128 : Shape := ⟨4, ![32, 32, 4, 128]⟩
abbrev S1x32 : Shape := ⟨2, ![1, 32]⟩
abbrev S32x1 : Shape := ⟨2, ![32, 1]⟩
abbrev S32x32 : Shape := ⟨2, ![32, 32]⟩
abbrev S32x32x1x1 : Shape := ⟨4, ![32, 32, 1, 1]⟩
abbrev S4x128x256x32 : Shape := ⟨4, ![4, 128, 256, 32]⟩
abbrev S32x4x64x128 : Shape := ⟨4, ![32, 4, 64, 128]⟩
abbrev S32x4x256x128 : Shape := ⟨4, ![32, 4, 256, 128]⟩
abbrev S4x128x32x32 : Shape := ⟨4, ![4, 128, 32, 32]⟩
abbrev S32x4x128x64 : Shape := ⟨4, ![32, 4, 128, 64]⟩
abbrev S2048x2048 : Shape := ⟨2, ![2048, 2048]⟩
abbrev S2048x3712 : Shape := ⟨2, ![2048, 3712]⟩

abbrev nBuf : Space → Nat
  | .hbm => 203
  | .vmem => 0
  | .smem => 0
  | _ => 0

abbrev hbmTy0_0 (i : Nat) : BufTy := match i % 128 with
  | 0 => ⟨S2048x5760, .bf16⟩
  | 1 => ⟨S2048x5632, .bf16⟩
  | 2 => ⟨S2048x512, .f32⟩
  | 3 => ⟨S2048x1024, .bf16⟩
  | 4 => ⟨S2048x5632, .f32⟩
  | 5 => ⟨S2048x512, .f32⟩
  | 6 => ⟨S2048x512, .f32⟩
  | 7 => ⟨S2048x1024, .f32⟩
  | 8 => ⟨S32x64x4x128, .f32⟩
  | 9 => ⟨S_, .f32⟩
  | 10 => ⟨S_, .f32⟩
  | 11 => ⟨S32x64x4x128, .f32⟩
  | 12 => ⟨S32x1x4x128, .f32⟩
  | 13 => ⟨S32x4x128, .f32⟩
  | 14 => ⟨S_, .f32⟩
  | 15 => ⟨S2048x512, .f32⟩
  | 16 => ⟨S2048x512, .f32⟩
  | 17 => ⟨S32x64x4x128, .f32⟩
  | 18 => ⟨S32x64x4x128, .f32⟩
  | 19 => ⟨S32x64x4x256, .f32⟩
  | 20 => ⟨S32x64x4x128, .f32⟩
  | 21 => ⟨S32x64x4x128, .f32⟩
  | 22 => ⟨S32x64x4x128, .f32⟩
  | 23 => ⟨S32x64x4x128, .f32⟩
  | 24 => ⟨S32x64x4x128, .f32⟩
  | 25 => ⟨S32x4x64x64, .f32⟩
  | 26 => ⟨S32x64x4x128, .f32⟩
  | 27 => ⟨S32x64x4x128, .f32⟩
  | 28 => ⟨S32x4x64x64, .f32⟩
  | 29 => ⟨S_, .i1⟩
  | 30 => ⟨S64x64, .i1⟩
  | 31 => ⟨S64x64, .i32⟩
  | 32 => ⟨S_, .i32⟩
  | 33 => ⟨S64x64, .i32⟩
  | 34 => ⟨S64x64, .i32⟩
  | 35 => ⟨S64x64, .i32⟩
  | 36 => ⟨S64x64, .i1⟩
  | 37 => ⟨S_, .i1⟩
  | 38 => ⟨S64x64, .i1⟩
  | 39 => ⟨S64x64, .i1⟩
  | 40 => ⟨S32x4x64x64, .i1⟩
  | 41 => ⟨S32x4x64x64, .f32⟩
  | 42 => ⟨S32x4x256x64, .f32⟩
  | 43 => ⟨S32x64x4x256, .f32⟩
  | 44 => ⟨S32x64x4x128, .f32⟩
  | 45 => ⟨S32, .i32⟩
  | 46 => ⟨S32x64x4x128, .f32⟩
  | 47 => ⟨S_, .f32⟩
  | 48 => ⟨S_, .f32⟩
  | 49 => ⟨S32x64x4x128, .f32⟩
  | 50 => ⟨S32x1x4x128, .f32⟩
  | 51 => ⟨S32x4x128, .f32⟩
  | 52 => ⟨S32x64x4x128, .f32⟩
  | 53 => ⟨S32x1x4x128, .f32⟩
  | 54 => ⟨S32x64x4x128, .f32⟩
  | 55 => ⟨S32x64x4x128, .f32⟩
  | 56 => ⟨S32x64x4x128, .f32⟩
  | 57 => ⟨S32x64x4x128, .f32⟩
  | 58 => ⟨S32x64x4x256, .f32⟩
  | 59 => ⟨S32x4x128x256, .f32⟩
  | 60 => ⟨S1x32x1, .i32⟩
  | 61 => ⟨S1x1x32, .i32⟩
  | 62 => ⟨S1x32x32, .i32⟩
  | 63 => ⟨S1x32x32, .i32⟩
  | 64 => ⟨S1x32x32, .i1⟩
  | 65 => ⟨S1x1x32, .i32⟩
  | 66 => ⟨S32x1x1, .i32⟩
  | 67 => ⟨S32x1x32, .i32⟩
  | 68 => ⟨S32x1x32, .i32⟩
  | 69 => ⟨S32x1x32, .i1⟩
  | 70 => ⟨S32x32x32, .i1⟩
  | 71 => ⟨S32x32x32, .i1⟩
  | 72 => ⟨S32x32x32, .i1⟩
  | 73 => ⟨S32x32x32x1x1, .i1⟩
  | 74 => ⟨S_, .f32⟩
  | 75 => ⟨S_, .f32⟩
  | 76 => ⟨S32x32x32x4x128, .i1⟩
  | 77 => ⟨S32x32x32x4x128, .f32⟩
  | 78 => ⟨S32x32x32x4x128, .f32⟩
  | 79 => ⟨S32x32x32x4x128, .f32⟩
  | 80 => ⟨S_, .f32⟩
  | 81 => ⟨S32x32x32x4x128, .f32⟩
  | 82 => ⟨S_, .f32⟩
  | 83 => ⟨S32x32x4x128, .f32⟩
  | 84 => ⟨S32x32x4x128, .f32⟩
  | 85 => ⟨S1x32, .i32⟩
  | 86 => ⟨S32x1, .i32⟩
  | 87 => ⟨S32x32, .i32⟩
  | 88 => ⟨S32x32, .i32⟩
  | 89 => ⟨S32x32, .i1⟩
  | 90 => ⟨S32x32x1x1, .i1⟩
  | 91 => ⟨S_, .f32⟩
  | 92 => ⟨S_, .f32⟩
  | 93 => ⟨S32x32x4x128, .i1⟩
  | 94 => ⟨S32x32x4x128, .f32⟩
  | 95 => ⟨S32x32x4x128, .f32⟩
  | 96 => ⟨S_, .f32⟩
  | 97 => ⟨S32x32x4x128, .f32⟩
  | 98 => ⟨S4x128x256x32, .f32⟩
  | 99 => ⟨S32x4x128x256, .f32⟩
  | 100 => ⟨S32x4x256x64, .f32⟩
  | 101 => ⟨S32x64x4x256, .f32⟩
  | 102 => ⟨S32x64x4x256, .f32⟩
  | 103 => ⟨S2048x1024, .f32⟩
  | 104 => ⟨S2048x1024, .f32⟩
  | 105 => ⟨S32x64x4x256, .f32⟩
  | 106 => ⟨S32x4x256x64, .f32⟩
  | 107 => ⟨S32x4x64x128, .f32⟩
  | 108 => ⟨S32x64x4x128, .f32⟩
  | 109 => ⟨S32x4x256x128, .f32⟩
  | 110 => ⟨S32x4x128x256, .f32⟩
  | 111 => ⟨S4x128x256x32, .f32⟩
  | 112 => ⟨S4x128x32x32, .f32⟩
  | 113 => ⟨S32x32x4x128, .f32⟩
  | 114 => ⟨S4x128x256x32, .f32⟩
  | 115 => ⟨S32x4x128x256, .f32⟩
  | 116 => ⟨S_, .f32⟩
  | 117 => ⟨S32x32x4x128, .f32⟩
  | 118 => ⟨S32x32x4x128, .f32⟩
  | 119 => ⟨S32x32x4x128, .f32⟩
  | 120 => ⟨S32x32x32x4x128, .f32⟩
  | 121 => ⟨S_, .f32⟩
  | 122 => ⟨S32x32x32x4x128, .f32⟩
  | 123 => ⟨S32x32x32x4x128, .f32⟩
  | 124 => ⟨S_, .f32⟩
  | 125 => ⟨S32x4x128, .f32⟩
  | 126 => ⟨S32x4x256x64, .f32⟩
  | 127 => ⟨S32x64x4x256, .f32⟩
  | _ => ⟨S2048x5760, .bf16⟩

abbrev hbmTy0_1 (i : Nat) : BufTy := match i % 128 with
  | 0 => ⟨S32x4x128x64, .f32⟩
  | 1 => ⟨S32x64x4x128, .f32⟩
  | 2 => ⟨S2048x1024, .f32⟩
  | 3 => ⟨S32x64x4x128, .f32⟩
  | 4 => ⟨S32x64x4x128, .f32⟩
  | 5 => ⟨S32x64x4x128, .f32⟩
  | 6 => ⟨S_, .f32⟩
  | 7 => ⟨S32x4x128, .f32⟩
  | 8 => ⟨S32x1x4x128, .f32⟩
  | 9 => ⟨S32x64x4x128, .f32⟩
  | 10 => ⟨S_, .f32⟩
  | 11 => ⟨S32x4x128, .f32⟩
  | 12 => ⟨S32x4x128, .f32⟩
  | 13 => ⟨S2048x512, .f32⟩
  | 14 => ⟨S32x1x4x128, .f32⟩
  | 15 => ⟨S_, .f32⟩
  | 16 => ⟨S32x64x4x128, .f32⟩
  | 17 => ⟨S32x64x4x128, .f32⟩
  | 18 => ⟨S_, .f32⟩
  | 19 => ⟨S_, .f32⟩
  | 20 => ⟨S32x64x4x128, .f32⟩
  | 21 => ⟨S2048x512, .f32⟩
  | 22 => ⟨S32x64x4x128, .f32⟩
  | 23 => ⟨S32x64x4x128, .f32⟩
  | 24 => ⟨S32x4x256x64, .f32⟩
  | 25 => ⟨S32x4x64x64, .f32⟩
  | 26 => ⟨S32x4x256x64, .f32⟩
  | 27 => ⟨S32x64x4x256, .f32⟩
  | 28 => ⟨S_, .f32⟩
  | 29 => ⟨S32x4x64x64, .f32⟩
  | 30 => ⟨S32x4x64x64, .f32⟩
  | 31 => ⟨S32x4x64x64, .f32⟩
  | 32 => ⟨S32x4x64x128, .f32⟩
  | 33 => ⟨S32x64x4x128, .f32⟩
  | 34 => ⟨S32x4x64x128, .f32⟩
  | 35 => ⟨S32x64x4x128, .f32⟩
  | 36 => ⟨S32x64x4x128, .f32⟩
  | 37 => ⟨S32x64x4x128, .f32⟩
  | 38 => ⟨S32x64x4x128, .f32⟩
  | 39 => ⟨S32x64x4x128, .f32⟩
  | 40 => ⟨S32x64x4x128, .f32⟩
  | 41 => ⟨S32x64x4x128, .f32⟩
  | 42 => ⟨S32x4x64x128, .f32⟩
  | 43 => ⟨S32x64x4x128, .f32⟩
  | 44 => ⟨S32x4x64x128, .f32⟩
  | 45 => ⟨S32x64x4x128, .f32⟩
  | 46 => ⟨S32x64x4x128, .f32⟩
  | 47 => ⟨S32x64x4x128, .f32⟩
  | 48 => ⟨S32x64x4x128, .f32⟩
  | 49 => ⟨S32x64x4x128, .f32⟩
  | 50 => ⟨S32x64x4x128, .f32⟩
  | 51 => ⟨S32x64x4x128, .f32⟩
  | 52 => ⟨S32x64x4x128, .f32⟩
  | 53 => ⟨S32x64x4x128, .f32⟩
  | 54 => ⟨S32x64x4x128, .f32⟩
  | 55 => ⟨S32x64x4x128, .f32⟩
  | 56 => ⟨S32x64x4x128, .f32⟩
  | 57 => ⟨S32x64x4x128, .f32⟩
  | 58 => ⟨S2048x1024, .f32⟩
  | 59 => ⟨S2048x1024, .f32⟩
  | 60 => ⟨S2048x512, .f32⟩
  | 61 => ⟨S2048x512, .f32⟩
  | 62 => ⟨S2048x512, .f32⟩
  | 63 => ⟨S_, .f32⟩
  | 64 => ⟨S2048x512, .f32⟩
  | 65 => ⟨S2048x512, .f32⟩
  | 66 => ⟨S_, .f32⟩
  | 67 => ⟨S_, .f32⟩
  | 68 => ⟨S32x64x4x128, .f32⟩
  | 69 => ⟨S2048x512, .f32⟩
  | 70 => ⟨S2048x512, .f32⟩
  | 71 => ⟨S2048x2048, .f32⟩
  | 72 => ⟨S2048x2048, .bf16⟩
  | 73 => ⟨S2048x3712, .bf16⟩
  | 74 => ⟨S2048x5760, .bf16⟩
  | _ => ⟨S2048x5760, .bf16⟩

abbrev hbmTy (i : Nat) : BufTy := match i / 128 with
  | 0 => hbmTy0_0 i
  | 1 => hbmTy0_1 i
  | _ => ⟨S2048x5760, .bf16⟩

abbrev bufTy : (tb : Table) → Fin (tcTables nBuf tb) → BufTy
  | .hbm, ⟨i, _⟩ => hbmTy i
  | _, _ => ⟨S2048x5760, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_call0_cst : Ref sig .tc := ⟨.hbm, 9, rfl⟩
abbrev main_call0_call0_v0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_c : Ref sig .tc := ⟨.hbm, 29, rfl⟩
abbrev main_v22 : Ref sig .tc := ⟨.hbm, 30, rfl⟩
abbrev main_call1_v0 : Ref sig .tc := ⟨.hbm, 31, rfl⟩
abbrev main_call1_c : Ref sig .tc := ⟨.hbm, 32, rfl⟩
abbrev main_call1_v1 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_c_0 : Ref sig .tc := ⟨.hbm, 37, rfl⟩
abbrev main_call1_v5 : Ref sig .tc := ⟨.hbm, 38, rfl⟩
abbrev main_v23 : Ref sig .tc := ⟨.hbm, 39, rfl⟩
abbrev main_v24_1 : Ref sig .tc := ⟨.hbm, 40, rfl⟩
abbrev main_v24_0 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call3_call0_cst : Ref sig .tc := ⟨.hbm, 47, rfl⟩
abbrev main_call3_call0_v0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_cst_0 : Ref sig .tc := ⟨.hbm, 74, rfl⟩
abbrev main_call4_v0 : Ref sig .tc := ⟨.hbm, 75, rfl⟩
abbrev main_v55_1 : Ref sig .tc := ⟨.hbm, 76, rfl⟩
abbrev main_call4_v2 : Ref sig .tc := ⟨.hbm, 77, rfl⟩
abbrev main_call4_v3 : Ref sig .tc := ⟨.hbm, 78, rfl⟩
abbrev main_v55_0 : Ref sig .tc := ⟨.hbm, 79, rfl⟩
abbrev main_call4_cst : Ref sig .tc := ⟨.hbm, 80, rfl⟩
abbrev main_v55_2 : Ref sig .tc := ⟨.hbm, 81, rfl⟩
abbrev main_cst_1 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_cst_2 : Ref sig .tc := ⟨.hbm, 91, rfl⟩
abbrev main_call5_v0 : Ref sig .tc := ⟨.hbm, 92, rfl⟩
abbrev main_v64_1 : Ref sig .tc := ⟨.hbm, 93, rfl⟩
abbrev main_call5_v2 : Ref sig .tc := ⟨.hbm, 94, rfl⟩
abbrev main_v64_0 : Ref sig .tc := ⟨.hbm, 95, rfl⟩
abbrev main_call5_cst : Ref sig .tc := ⟨.hbm, 96, rfl⟩
abbrev main_v64_2 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_call6_cst : Ref sig .tc := ⟨.hbm, 116, rfl⟩
abbrev main_call6_v0 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_call7_cst : Ref sig .tc := ⟨.hbm, 121, rfl⟩
abbrev main_call7_v0 : Ref sig .tc := ⟨.hbm, 122, rfl⟩
abbrev main_call7_v1 : Ref sig .tc := ⟨.hbm, 123, rfl⟩
abbrev main_call7_cst_0 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_cst_3 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_cst_4 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_cst_5 : Ref sig .tc := ⟨.hbm, 143, rfl⟩
abbrev main_v102 : Ref sig .tc := ⟨.hbm, 144, rfl⟩
abbrev main_v103 : Ref sig .tc := ⟨.hbm, 145, rfl⟩
abbrev main_call8_call0_cst : Ref sig .tc := ⟨.hbm, 146, rfl⟩
abbrev main_call8_call0_v0 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_call9_cst : Ref sig .tc := ⟨.hbm, 156, rfl⟩
abbrev main_call9_v0 : Ref sig .tc := ⟨.hbm, 157, rfl⟩
abbrev main_v112_1 : Ref sig .tc := ⟨.hbm, 158, rfl⟩
abbrev main_v112_0 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137 : Ref sig .tc := ⟨.hbm, 184, rfl⟩
abbrev main_v138 : Ref sig .tc := ⟨.hbm, 185, rfl⟩
abbrev main_v139 : Ref sig .tc := ⟨.hbm, 186, rfl⟩
abbrev main_v140 : Ref sig .tc := ⟨.hbm, 187, rfl⟩
abbrev main_v141 : Ref sig .tc := ⟨.hbm, 188, rfl⟩
abbrev main_v142 : Ref sig .tc := ⟨.hbm, 189, rfl⟩
abbrev main_v143 : Ref sig .tc := ⟨.hbm, 190, rfl⟩
abbrev main_cst_6 : Ref sig .tc := ⟨.hbm, 191, rfl⟩
abbrev main_v144 : Ref sig .tc := ⟨.hbm, 192, rfl⟩
abbrev main_v145 : Ref sig .tc := ⟨.hbm, 193, rfl⟩
abbrev main_call10_call0_cst : Ref sig .tc := ⟨.hbm, 194, rfl⟩
abbrev main_call10_call0_v0 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_v150 : Ref sig .tc := ⟨.hbm, 200, rfl⟩
abbrev main_v151 : Ref sig .tc := ⟨.hbm, 201, rfl⟩
abbrev main_v152 : Ref sig .tc := ⟨.hbm, 202, rfl⟩

abbrev nD : Nat := 1
abbrev τ : Topo := Topo.v7x

variable {F : FTy → Type} [FloatOps F]
-- ==== MmIn.lean ====
abbrev S2048x1024 : Shape := ⟨2, ![2048, 1024]⟩
abbrev S5760x1024 : Shape := ⟨2, ![5760, 1024]⟩
abbrev S2048x5632 : Shape := ⟨2, ![2048, 5632]⟩
abbrev S512x1024 : Shape := ⟨2, ![512, 1024]⟩
abbrev S2048x512 : Shape := ⟨2, ![2048, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S5760x1024, .bf16⟩
  | .hbm, ⟨2, _⟩ => ⟨S2048x5632, .bf16⟩
  | .local _ .vmem, ⟨0, _⟩ => ⟨S2048x1024, .bf16⟩
  | .local _ .vmem, ⟨1, _⟩ => ⟨S512x1024, .bf16⟩
  | .local _ .vmem, ⟨2, _⟩ => ⟨S512x1024, .bf16⟩
  | .local _ .vmem, ⟨3, _⟩ => ⟨S2048x512, .bf16⟩
  | .local _ .vmem, ⟨4, _⟩ => ⟨S2048x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== MmInRefIdeal.lean ====
abbrev S2048x1024 : Shape := ⟨2, ![2048, 1024]⟩
abbrev S5760x1024 : Shape := ⟨2, ![5760, 1024]⟩
abbrev S5632x1024 : Shape := ⟨2, ![5632, 1024]⟩
abbrev S1024x5632 : Shape := ⟨2, ![1024, 5632]⟩
abbrev S2048x5632 : Shape := ⟨2, ![2048, 5632]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S5760x1024, .bf16⟩
  | .hbm, ⟨2, _⟩ => ⟨S2048x1024, .f32⟩
  | .hbm, ⟨3, _⟩ => ⟨S5632x1024, .bf16⟩
  | .hbm, ⟨4, _⟩ => ⟨S5632x1024, .f32⟩
  | .hbm, ⟨5, _⟩ => ⟨S1024x5632, .f32⟩
  | .hbm, ⟨6, _⟩ => ⟨S2048x5632, .f32⟩
  | .hbm, ⟨7, _⟩ => ⟨S2048x5632, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== MmDWcat.lean ====
abbrev S2048x5760 : Shape := ⟨2, ![2048, 5760]⟩
abbrev S2048x1024 : Shape := ⟨2, ![2048, 1024]⟩
abbrev S5760x1024 : Shape := ⟨2, ![5760, 1024]⟩
abbrev S2048x640 : Shape := ⟨2, ![2048, 640]⟩
abbrev S640x1024 : Shape := ⟨2, ![640, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x5760, .bf16⟩
  | .hbm, ⟨1, _⟩ => ⟨S2048x1024, .bf16⟩
  | .hbm, ⟨2, _⟩ => ⟨S5760x1024, .bf16⟩
  | .local _ .vmem, ⟨0, _⟩ => ⟨S2048x640, .bf16⟩
  | .local _ .vmem, ⟨1, _⟩ => ⟨S2048x640, .bf16⟩
  | .local _ .vmem, ⟨2, _⟩ => ⟨S2048x1024, .bf16⟩
  | .local _ .vmem, ⟨3, _⟩ => ⟨S640x1024, .bf16⟩
  | .local _ .vmem, ⟨4, _⟩ => ⟨S640x1024, .bf16⟩
  | _, _ => ⟨S2048x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![9, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S2048x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== MmDWcatRefIdeal.lean ====
abbrev S2048x5760 : Shape := ⟨2, ![2048, 5760]⟩
abbrev S2048x1024 : Shape := ⟨2, ![2048, 1024]⟩
abbrev S_ : Shape := ⟨0, ![]⟩
abbrev S5760x1024 : Shape := ⟨2, ![5760, 1024]⟩
abbrev S1024x5760 : Shape := ⟨2, ![1024, 5760]⟩

abbrev nBuf : Space → Nat
  | .hbm => 12
  | .vmem => 0
  | .smem => 0
  | _ => 0

abbrev bufTy : (tb : Table) → Fin (tcTables nBuf tb) → BufTy
  | .hbm, ⟨0, _⟩ => ⟨S2048x5760, .bf16⟩
  | .hbm, ⟨1, _⟩ => ⟨S2048x1024, .bf16⟩
  | .hbm, ⟨2, _⟩ => ⟨S2048x5760, .f32⟩
  | .hbm, ⟨3, _⟩ => ⟨S_, .f32⟩
  | .hbm, ⟨4, _⟩ => ⟨S5760x1024, .f32⟩
  | .hbm, ⟨5, _⟩ => ⟨S2048x1024, .f32⟩
  | .hbm, ⟨6, _⟩ => ⟨S1024x5760, .f32⟩
  | .hbm, ⟨7, _⟩ => ⟨S2048x5760, .f32⟩
  | .hbm, ⟨8, _⟩ => ⟨S5760x1024, .f32⟩
  | .hbm, ⟨9, _⟩ => ⟨S1024x5760, .f32⟩
  | .hbm, ⟨10, _⟩ => ⟨S5760x1024, .f32⟩
  | .hbm, ⟨11, _⟩ => ⟨S5760x1024, .bf16⟩
  | _, _ => ⟨S2048x5760, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== MmDWup.lean ====
abbrev S2x4x2048x704 : Shape := ⟨4, ![2, 4, 2048, 704]⟩
abbrev S2048x1024 : Shape := ⟨2, ![2048, 1024]⟩
abbrev S5632x1024 : Shape := ⟨2, ![5632, 1024]⟩
abbrev S1x1x2048x704 : Shape := ⟨4, ![1, 1, 2048, 704]⟩
abbrev S704x1024 : Shape := ⟨2, ![704, 1024]⟩
abbrev S2048x704 : Shape := ⟨2, ![2048, 704]⟩

abbrev nBuf : Space → Nat
  | .hbm => 3
  | .vmem => 5
  | .smem => 0
  | _ => 0

abbrev bufTy : (tb : Table) → Fin (tcTables nBuf tb) → BufTy
  | .hbm, ⟨0, _⟩ => ⟨S2x4x2048x704, .bf16⟩
  | .hbm, ⟨1, _⟩ => ⟨S2048x1024, .bf16⟩
  | .hbm, ⟨2, _⟩ => ⟨S5632x1024, .bf16⟩
  | .local _ .vmem, ⟨0, _⟩ => ⟨S1x1x2048x704, .bf16⟩
  | .local _ .vmem, ⟨1, _⟩ => ⟨S1x1x2048x704, .bf16⟩
  | .local _ .vmem, ⟨2, _⟩ => ⟨S2048x1024, .bf16⟩
  | .local _ .vmem, ⟨3, _⟩ => ⟨S704x1024, .bf16⟩
  | .local _ .vmem, ⟨4, _⟩ => ⟨S704x1024, .bf16⟩
  | _, _ => ⟨S2x4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== MmDWupRefIdeal.lean ====
abbrev S2x4x2048x704 : Shape := ⟨4, ![2, 4, 2048, 704]⟩
abbrev S2048x1024 : Shape := ⟨2, ![2048, 1024]⟩
abbrev S2048x2x4x704 : Shape := ⟨4, ![2048, 2, 4, 704]⟩
abbrev S2048x5632 : Shape := ⟨2, ![2048, 5632]⟩
abbrev S_ : Shape := ⟨0, ![]⟩
abbrev S5632x1024 : Shape := ⟨2, ![5632, 1024]⟩
abbrev S1024x5632 : Shape := ⟨2, ![1024, 5632]⟩

abbrev nBuf : Space → Nat
  | .hbm => 14
  | .vmem => 0
  | .smem => 0
  | _ => 0

abbrev bufTy : (tb : Table) → Fin (tcTables nBuf tb) → BufTy
  | .hbm, ⟨0, _⟩ => ⟨S2x4x2048x704, .bf16⟩
  | .hbm, ⟨1, _⟩ => ⟨S2048x1024, .bf16⟩
  | .hbm, ⟨2, _⟩ => ⟨S2x4x2048x704, .f32⟩
  | .hbm, ⟨3, _⟩ => ⟨S2048x2x4x704, .f32⟩
  | .hbm, ⟨4, _⟩ => ⟨S2048x5632, .f32⟩
  | .hbm, ⟨5, _⟩ => ⟨S_, .f32⟩
  | .hbm, ⟨6, _⟩ => ⟨S5632x1024, .f32⟩
  | .hbm, ⟨7, _⟩ => ⟨S2048x1024, .f32⟩
  | .hbm, ⟨8, _⟩ => ⟨S1024x5632, .f32⟩
  | .hbm, ⟨9, _⟩ => ⟨S2048x5632, .f32⟩
  | .hbm, ⟨10, _⟩ => ⟨S5632x1024, .f32⟩
  | .hbm, ⟨11, _⟩ => ⟨S1024x5632, .f32⟩
  | .hbm, ⟨12, _⟩ => ⟨S5632x1024, .f32⟩
  | .hbm, ⟨13, _⟩ => ⟨S5632x1024, .bf16⟩
  | _, _ => ⟨S2x4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== MmDAct.lean ====
abbrev S2048x1024 : Shape := ⟨2, ![2048, 1024]⟩
abbrev S2816x1024 : Shape := ⟨2, ![2816, 1024]⟩
abbrev S1x4x2048x704 : Shape := ⟨4, ![1, 4, 2048, 704]⟩
abbrev S704x1024 : Shape := ⟨2, ![704, 1024]⟩
abbrev S1x1x2048x704 : Shape := ⟨4, ![1, 1, 2048, 704]⟩
abbrev S2048x704 : Shape := ⟨2, ![2048, 704]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S1x4x2048x704, .bf16⟩
  | .local _ .vmem, ⟨0, _⟩ => ⟨S2048x1024, .bf16⟩
  | .local _ .vmem, ⟨1, _⟩ => ⟨S704x1024, .bf16⟩
  | .local _ .vmem, ⟨2, _⟩ => ⟨S704x1024, .bf16⟩
  | .local _ .vmem, ⟨3, _⟩ => ⟨S1x1x2048x704, .bf16⟩
  | .local _ .vmem, ⟨4, _⟩ => ⟨S1x1x2048x704, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== MmDActRefIdeal.lean ====
abbrev S2048x1024 : Shape := ⟨2, ![2048, 1024]⟩
abbrev S2816x1024 : Shape := ⟨2, ![2816, 1024]⟩
abbrev S_ : Shape := ⟨0, ![]⟩
abbrev S2048x2816 : Shape := ⟨2, ![2048, 2816]⟩
abbrev S2048x1x4x704 : Shape := ⟨4, ![2048, 1, 4, 704]⟩
abbrev S1x4x2048x704 : Shape := ⟨4, ![1, 4, 2048, 704]⟩

abbrev nBuf : Space → Nat
  | .hbm => 11
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S_, .f32⟩
  | .hbm, ⟨3, _⟩ => ⟨S2048x2816, .f32⟩
  | .hbm, ⟨4, _⟩ => ⟨S2816x1024, .f32⟩
  | .hbm, ⟨5, _⟩ => ⟨S2048x1024, .f32⟩
  | .hbm, ⟨6, _⟩ => ⟨S2048x1024, .f32⟩
  | .hbm, ⟨7, _⟩ => ⟨S2048x2816, .f32⟩
  | .hbm, ⟨8, _⟩ => ⟨S2048x1x4x704, .f32⟩
  | .hbm, ⟨9, _⟩ => ⟨S1x4x2048x704, .f32⟩
  | .hbm, ⟨10, _⟩ => ⟨S1x4x2048x704, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== MmDWdown.lean ====
abbrev S1x4x2048x704 : Shape := ⟨4, ![1, 4, 2048, 704]⟩
abbrev S2048x1024 : Shape := ⟨2, ![2048, 1024]⟩
abbrev S2816x1024 : Shape := ⟨2, ![2816, 1024]⟩
abbrev S1x1x2048x704 : Shape := ⟨4, ![1, 1, 2048, 704]⟩
abbrev S704x1024 : Shape := ⟨2, ![704, 1024]⟩
abbrev S2048x704 : Shape := ⟨2, ![2048, 704]⟩

abbrev nBuf : Space → Nat
  | .hbm => 3
  | .vmem => 5
  | .smem => 0
  | _ => 0

abbrev bufTy : (tb : Table) → Fin (tcTables nBuf tb) → BufTy
  | .hbm, ⟨0, _⟩ => ⟨S1x4x2048x704, .bf16⟩
  | .hbm, ⟨1, _⟩ => ⟨S2048x1024, .bf16⟩
  | .hbm, ⟨2, _⟩ => ⟨S2816x1024, .bf16⟩
  | .local _ .vmem, ⟨0, _⟩ => ⟨S1x1x2048x704, .bf16⟩
  | .local _ .vmem, ⟨1, _⟩ => ⟨S1x1x2048x704, .bf16⟩
  | .local _ .vmem, ⟨2, _⟩ => ⟨S2048x1024, .bf16⟩
  | .local _ .vmem, ⟨3, _⟩ => ⟨S704x1024, .bf16⟩
  | .local _ .vmem, ⟨4, _⟩ => ⟨S704x1024, .bf16⟩
  | _, _ => ⟨S1x4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S1x1x2048x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S704x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== MmDWdownRefIdeal.lean ====
abbrev S1x4x2048x704 : Shape := ⟨4, ![1, 4, 2048, 704]⟩
abbrev S2048x1024 : Shape := ⟨2, ![2048, 1024]⟩
abbrev S_ : Shape := ⟨0, ![]⟩
abbrev S2816x1024 : Shape := ⟨2, ![2816, 1024]⟩
abbrev S2048x1x4x704 : Shape := ⟨4, ![2048, 1, 4, 704]⟩
abbrev S2048x2816 : Shape := ⟨2, ![2048, 2816]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S1x4x2048x704, .bf16⟩
  | .hbm, ⟨1, _⟩ => ⟨S2048x1024, .bf16⟩
  | .hbm, ⟨2, _⟩ => ⟨S_, .f32⟩
  | .hbm, ⟨3, _⟩ => ⟨S2816x1024, .f32⟩
  | .hbm, ⟨4, _⟩ => ⟨S1x4x2048x704, .f32⟩
  | .hbm, ⟨5, _⟩ => ⟨S2048x1x4x704, .f32⟩
  | .hbm, ⟨6, _⟩ => ⟨S2048x2816, .f32⟩
  | .hbm, ⟨7, _⟩ => ⟨S2048x1024, .f32⟩
  | .hbm, ⟨8, _⟩ => ⟨S2048x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | _, _ => ⟨S1x4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== MmDHRms.lean ====
abbrev S2048x5760 : Shape := ⟨2, ![2048, 5760]⟩
abbrev S5760x1024 : Shape := ⟨2, ![5760, 1024]⟩
abbrev S2048x1024 : Shape := ⟨2, ![2048, 1024]⟩
abbrev S1x1024 : Shape := ⟨2, ![1, 1024]⟩
abbrev S256x5760 : Shape := ⟨2, ![256, 5760]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S2048x5760, .bf16⟩
  | .hbm, ⟨1, _⟩ => ⟨S5760x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S1x1024, .f32⟩
  | .local _ .vmem, ⟨0, _⟩ => ⟨S256x5760, .bf16⟩
  | .local _ .vmem, ⟨1, _⟩ => ⟨S256x5760, .bf16⟩
  | .local _ .vmem, ⟨2, _⟩ => ⟨S5760x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S2048x5760, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v36 : BitVec 32 := Scalar.extui v35
  let c0_i32_17 : BitVec 32 := 0#32
  let v37 : BitVec 1 := Scalar.cmpi .ne v36 c0_i32_17
  v37

def k0_cond2 (i : grid0.Coords) : BitVec 1 :=
  let arg0 : BitVec 32 := BitVec.ofNat 32 (i 0).val
  let c0_i32_18 : BitVec 32 := 0#32
  let v38 : BitVec 1 := Scalar.cmpi .sgt arg0 c0_i32_18
  let v39 : BitVec 32 := Scalar.extui v38
  let c0_i32_19 : BitVec 32 := 0#32
  let v40 : BitVec 1 := Scalar.cmpi .ne v39 c0_i32_19
  v40

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5760 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5760x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MmDHRmsRefIdeal.lean ====
abbrev S2048x5760 : Shape := ⟨2, ![2048, 5760]⟩
abbrev S5760x1024 : Shape := ⟨2, ![5760, 1024]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024x5760 : Shape := ⟨2, ![1024, 5760]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S2048x5760, .bf16⟩
  | .hbm, ⟨1, _⟩ => ⟨S5760x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S5760x1024, .f32⟩
  | .hbm, ⟨25, _⟩ => ⟨S1024x5760, .f32⟩
  | .hbm, ⟨26, _⟩ => ⟨S2048x5760, .f32⟩
  | .hbm, ⟨27, _⟩ => ⟨S2048x5760, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S2048, .f32⟩
  | .hbm, ⟨38, _⟩ => ⟨S2048x1, .f32⟩
  | .hbm, ⟨39, _⟩ => ⟨S2048x1024, .f32⟩
  | .hbm, ⟨40, _⟩ => ⟨S2048x1024, .f32⟩
  | .hbm, ⟨41, _⟩ => ⟨S2048x1, .f32⟩
  | .hbm, ⟨42, _⟩ => ⟨S_, .f32⟩
  | .hbm, ⟨43, _⟩ => ⟨S2048x1, .f32⟩
  | .hbm, ⟨44, _⟩ => ⟨S2048x1, .f32⟩
  | .hbm, ⟨45, _⟩ => ⟨S_, .f32⟩
  | .hbm, ⟨46, _⟩ => ⟨S2048, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | _, _ => ⟨S2048x5760, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== MmDH2Rms.lean ====
abbrev S2x4x2048x704 : Shape := ⟨4, ![2, 4, 2048, 704]⟩
abbrev S5632x1024 : Shape := ⟨2, ![5632, 1024]⟩
abbrev S2048x1024 : Shape := ⟨2, ![2048, 1024]⟩
abbrev S1x1024 : Shape := ⟨2, ![1, 1024]⟩
abbrev S2x4x256x704 : Shape := ⟨4, ![2, 4, 256, 704]⟩
abbrev S256x1024 : Shape := ⟨2, ![256, 1024]⟩
abbrev S1x1x256x704 : Shape := ⟨4, ![1, 1, 256, 704]⟩
abbrev S256x704 : Shape := ⟨2, ![256, 704]⟩
abbrev S704x1024 : Shape := ⟨2, ![704, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S2x4x2048x704, .bf16⟩
  | .hbm, ⟨1, _⟩ => ⟨S5632x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S1x1024, .f32⟩
  | .local _ .vmem, ⟨0, _⟩ => ⟨S2x4x256x704, .bf16⟩
  | .local _ .vmem, ⟨1, _⟩ => ⟨S2x4x256x704, .bf16⟩
  | .local _ .vmem, ⟨2, _⟩ => ⟨S5632x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S2x4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v71 : BitVec 1 := Scalar.cmpi .eq arg0 c0_i32
  let v72 : BitVec 32 := Scalar.extui v71
  let c0_i32_58 : BitVec 32 := 0#32
  let v73 : BitVec 1 := Scalar.cmpi .ne v72 c0_i32_58
  v73

def k0_cond2 (i : grid0.Coords) : BitVec 1 :=
  let arg0 : BitVec 32 := BitVec.ofNat 32 (i 0).val
  let c0_i32_59 : BitVec 32 := 0#32
  let v74 : BitVec 1 := Scalar.cmpi .sgt arg0 c0_i32_59
  let v75 : BitVec 32 := Scalar.extui v74
  let c0_i32_60 : BitVec 32 := 0#32
  let v76 : BitVec 1 := Scalar.cmpi .ne v75 c0_i32_60
  v76

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x4x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== MmDH2RmsRefIdeal.lean ====
abbrev S2x4x2048x704 : Shape := ⟨4, ![2, 4, 2048, 704]⟩
abbrev S5632x1024 : Shape := ⟨2, ![5632, 1024]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024x5632 : Shape := ⟨2, ![1024, 5632]⟩
abbrev S2048x5632 : Shape := ⟨2, ![2048, 5632]⟩
abbrev S2048x2x4x704 : Shape := ⟨4, ![2048, 2, 4, 704]⟩
abbrev S1024 : Shape := ⟨1, ![1024]⟩

abbrev nBuf : Space → Nat
  | .hbm => 55
  | .vmem => 0
  | .smem => 0
  | _ => 0

abbrev bufTy : (tb : Table) → Fin (tcTables nBuf tb) → BufTy
  | .hbm, ⟨0, _⟩ => ⟨S2x4x2048x704, .bf16⟩
  | .hbm, ⟨1, _⟩ => ⟨S5632x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S5632x1024, .f32⟩
  | .hbm, ⟨25, _⟩ => ⟨S1024x5632, .f32⟩
  | .hbm, ⟨26, _⟩ => ⟨S2048x5632, .f32⟩
  | .hbm, ⟨27, _⟩ => ⟨S2x4x2048x704, .f32⟩
  | .hbm, ⟨28, _⟩ => ⟨S2048x2x4x704, .f32⟩
  | .hbm, ⟨29, _⟩ => ⟨S2048x5632, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S_, .f32⟩
  | .hbm, ⟨39, _⟩ => ⟨S2048, .f32⟩
  | .hbm, ⟨40, _⟩ => ⟨S2048x1, .f32⟩
  | .hbm, ⟨41, _⟩ => ⟨S2048x1024, .f32⟩
  | .hbm, ⟨42, _⟩ => ⟨S2048x1024, .f32⟩
  | .hbm, ⟨43, _⟩ => ⟨S2048x1, .f32⟩
  | .hbm, ⟨44, _⟩ => ⟨S_, .f32⟩
  | .hbm, ⟨45, _⟩ => ⟨S2048x1, .f32⟩
  | .hbm, ⟨46, _⟩ => ⟨S2048x1, .f32⟩
  | .hbm, ⟨47, _⟩ => ⟨S_, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | _, _ => ⟨S2x4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== MmDownLoss.lean ====
abbrev S1x4x2048x704 : Shape := ⟨4, ![1, 4, 2048, 704]⟩
abbrev S2816x1024 : Shape := ⟨2, ![2816, 1024]⟩
abbrev S2048x1024 : Shape := ⟨2, ![2048, 1024]⟩
abbrev S1x1024 : Shape := ⟨2, ![1, 1024]⟩
abbrev S1x128 : Shape := ⟨2, ![1, 128]⟩
abbrev S1x4x256x704 : Shape := ⟨4, ![1, 4, 256, 704]⟩
abbrev S256x1024 : Shape := ⟨2, ![256, 1024]⟩
abbrev S1x1x256x704 : Shape := ⟨4, ![1, 1, 256, 704]⟩
abbrev S256x704 : Shape := ⟨2, ![256, 704]⟩
abbrev S704x1024 : Shape := ⟨2, ![704, 1024]⟩
abbrev S256 : Shape := ⟨1, ![256]⟩
abbrev S256x1 : Shape := ⟨2, ![256, 1]⟩
abbrev S1x256x1 : Shape := ⟨3, ![1, 256, 1]⟩
abbrev S1 : Shape := ⟨1, ![1]⟩
abbrev S1x1x1 : Shape := ⟨3, ![1, 1, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S1x4x2048x704, .bf16⟩
  | .hbm, ⟨1, _⟩ => ⟨S2816x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1x128, .f32⟩
  | .hbm, ⟨6, _⟩ => ⟨S2048x1024, .f32⟩
  | .hbm, ⟨7, _⟩ => ⟨S2048x1024, .bf16⟩
  | .hbm, ⟨8, _⟩ => ⟨S1x1024, .f32⟩
  | .local _ .vmem, ⟨0, _⟩ => ⟨S1x4x256x704, .bf16⟩
  | .local _ .vmem, ⟨1, _⟩ => ⟨S1x4x256x704, .bf16⟩
  | .local _ .vmem, ⟨2, _⟩ => ⟨S2816x1024, .bf16⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | .local _ .vmem, ⟨8, _⟩ => ⟨S1x128, .f32⟩
  | .local _ .vmem, ⟨9, _⟩ => ⟨S256x1024, .f32⟩
  | .local _ .vmem, ⟨10, _⟩ => ⟨S256x1024, .f32⟩
  | .local _ .vmem, ⟨11, _⟩ => ⟨S256x1024, .bf16⟩
  | .local _ .vmem, ⟨12, _⟩ => ⟨S256x1024, .bf16⟩
  | .local _ .vmem, ⟨13, _⟩ => ⟨S1x1024, .f32⟩
  | _, _ => ⟨S1x4x2048x704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v71 : BitVec 1 := Scalar.cmpi .eq arg0 c0_i32
  let v72 : BitVec 32 := Scalar.extui v71
  let c0_i32_41 : BitVec 32 := 0#32
  let v73 : BitVec 1 := Scalar.cmpi .ne v72 c0_i32_41
  v73

def k0_cond2 (i : grid0.Coords) : BitVec 1 :=
  let arg0 : BitVec 32 := BitVec.ofNat 32 (i 0).val
  let c0_i32_42 : BitVec 32 := 0#32
  let v74 : BitVec 1 := Scalar.cmpi .sgt arg0 c0_i32_42
  let v75 : BitVec 32 := Scalar.extui v74
  let c0_i32_43 : BitVec 32 := 0#32
  let v76 : BitVec 1 := Scalar.cmpi .ne v75 c0_i32_43
  v76

def k0_cond3 (i : grid0.Coords) : BitVec 1 :=
  let arg0 : BitVec 32 := BitVec.ofNat 32 (i 0).val
  let c0_i32_44 : BitVec 32 := 0#32
  let v77 : BitVec 1 := Scalar.cmpi .eq arg0 c0_i32_44
  let v78 : BitVec 32 := Scalar.extui v77
  let c0_i32_45 : BitVec 32 := 0#32
  let v79 : BitVec 1 := Scalar.cmpi .ne v78 c0_i32_45
  v79

def k0_cond4 (i : grid0.Coords) : BitVec 1 :=
  let arg0 : BitVec 32 := BitVec.ofNat 32 (i 0).val
  let c0_i32_46 : BitVec 32 := 0#32
  let v80 : BitVec 1 := Scalar.cmpi .sgt arg0 c0_i32_46
  let v81 : BitVec 32 := Scalar.extui v80
  let c0_i32_47 : BitVec 32 := 0#32
  let v82 : BitVec 1 := Scalar.cmpi .ne v81 c0_i32_47
  v82

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x4x256x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== MmDownLossRefIdeal.lean ====
abbrev S1x4x2048x704 : Shape := ⟨4, ![1, 4, 2048, 704]⟩
abbrev S2816x1024 : Shape := ⟨2, ![2816, 1024]⟩
abbrev S2048x1024 : Shape := ⟨2, ![2048, 1024]⟩
abbrev S1x1024 : Shape := ⟨2, ![1, 1024]⟩
abbrev S2048x1x4x704 : Shape := ⟨4, ![2048, 1, 4, 704]⟩
abbrev S2048x2816 : Shape := ⟨2, ![2048, 2816]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1x128 : Shape := ⟨2, ![1, 128]⟩

abbrev nBuf : Space → Nat
  | .hbm => 78
  | .vmem => 0
  | .smem => 0
  | _ => 0

abbrev bufTy : (tb : Table) → Fin (tcTables nBuf tb) → BufTy
  | .hbm, ⟨0, _⟩ => ⟨S1x4x2048x704, .bf16⟩
  | .hbm, ⟨1, _⟩ => ⟨S2816x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1x4x2048x704, .f32⟩
  | .hbm, ⟨6, _⟩ => ⟨S2048x1x4x704, .f32⟩
  | .hbm, ⟨7, _⟩ => ⟨S2048x2816, .f32⟩
  | .hbm, ⟨8, _⟩ => ⟨S2816x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S_, .f32⟩
  | .hbm, ⟨19, _⟩ => ⟨S2048x1, .f32⟩
  | .hbm, ⟨20, _⟩ => ⟨S2048x1, .f32⟩
  | .hbm, ⟨21, _⟩ => ⟨S2048x1, .f32⟩
  | .hbm, ⟨22, _⟩ => ⟨S2048x1, .f32⟩
  | .hbm, ⟨23, _⟩ => ⟨S_, .f32⟩
  | .hbm, ⟨24, _⟩ => ⟨S2048x1, .f32⟩
  | .hbm, ⟨25, _⟩ => ⟨S2048x1, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S_, .f32⟩
  | .hbm, ⟨36, _⟩ => ⟨S2048, .f32⟩
  | .hbm, ⟨37, _⟩ => ⟨S_, .f32⟩
  | .hbm, ⟨38, _⟩ => ⟨S2048, .f32⟩
  | .hbm, ⟨39, _⟩ => ⟨S2048, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S2048, .f32⟩
  | .hbm, ⟨48, _⟩ => ⟨S_, .f32⟩
  | .hbm, ⟨49, _⟩ => ⟨S2048, .f32⟩
  | .hbm, ⟨50, _⟩ => ⟨S2048, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S2048x1024, .f32⟩
  | .hbm, ⟨58, _⟩ => ⟨S2048x1024, .f32⟩
  | .hbm, ⟨59, _⟩ => ⟨S2048x1024, .f32⟩
  | .hbm, ⟨60, _⟩ => ⟨S_, .f32⟩
  | .hbm, ⟨61, _⟩ => ⟨S2048, .f32⟩
  | .hbm, ⟨62, _⟩ => ⟨S2048x1, .f32⟩
  | .hbm, ⟨63, _⟩ => ⟨S2048x1024, .f32⟩
  | .hbm, ⟨64, _⟩ => ⟨S2048x1024, .f32⟩
  | .hbm, ⟨65, _⟩ => ⟨S2048x1, .f32⟩
  | .hbm, ⟨66, _⟩ => ⟨S_, .f32⟩
  | .hbm, ⟨67, _⟩ => ⟨S2048x1, .f32⟩
  | .hbm, ⟨68, _⟩ => ⟨S2048x1, .f32⟩
  | .hbm, ⟨69, _⟩ => ⟨S_, .f32⟩
  | .hbm, ⟨70, _⟩ => ⟨S2048, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .f32⟩
  | .hbm, ⟨75, _⟩ => ⟨S2048x1024, .f32⟩
  | .hbm, ⟨76, _⟩ => ⟨S1x128, .f32⟩
  | .hbm, ⟨77, _⟩ => ⟨S2048x1024, .bf16⟩
  | _, _ => ⟨S1x4x2048x704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_cst_5 : Ref sig .tc := ⟨.hbm, 37, rfl⟩
abbrev main_v26 : Ref sig .tc := ⟨.hbm, 38, rfl⟩
abbrev main_v27 : Ref sig .tc := ⟨.hbm, 39, rfl⟩
abbrev main_cst_6 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_cst_8 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_cst_10 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_11 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_12 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_13 : Ref sig .tc := ⟨.hbm, 66, rfl⟩
abbrev main_v47 : Ref sig .tc := ⟨.hbm, 67, rfl⟩
abbrev main_v48 : Ref sig .tc := ⟨.hbm, 68, rfl⟩
abbrev main_cst_14 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩

abbrev nD : Nat := 1
abbrev τ : Topo := Topo.v7x

variable {F : FTy → Type} [FloatOps F]
-- ==== MmDWout.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v10 : BitVec 1 := Scalar.cmpi .eq arg2 c3_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== MmDWoutRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .f32⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MmDWgp.lean ====
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== MmDWgpRefIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== MmDPs.lean ====
abbrev S2048x1024 : Shape := ⟨2, ![2048, 1024]⟩
abbrev S512x1024 : Shape := ⟨2, ![512, 1024]⟩
abbrev S2048x512 : Shape := ⟨2, ![2048, 512]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .bf16⟩
  | .hbm, ⟨1, _⟩ => ⟨S512x1024, .bf16⟩
  | .hbm, ⟨2, _⟩ => ⟨S2048x512, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x512, .f32⟩
  | .local _ .vmem, ⟨4, _⟩ => ⟨S512x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== MmDPsRefIdeal.lean ====
abbrev S2048x1024 : Shape := ⟨2, ![2048, 1024]⟩
abbrev S512x1024 : Shape := ⟨2, ![512, 1024]⟩
abbrev S_ : Shape := ⟨0, ![]⟩
abbrev S2048x512 : Shape := ⟨2, ![2048, 512]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S512x1024, .bf16⟩
  | .hbm, ⟨2, _⟩ => ⟨S_, .f32⟩
  | .hbm, ⟨3, _⟩ => ⟨S2048x512, .f32⟩
  | .hbm, ⟨4, _⟩ => ⟨S512x1024, .f32⟩
  | .hbm, ⟨5, _⟩ => ⟨S2048x1024, .f32⟩
  | .hbm, ⟨6, _⟩ => ⟨S2048x1024, .f32⟩
  | .hbm, ⟨7, _⟩ => ⟨S2048x512, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MmDWpp.lean ====
abbrev S2048x512 : Shape := ⟨2, ![2048, 512]⟩
abbrev S2048x1024 : Shape := ⟨2, ![2048, 1024]⟩
abbrev S512x1024 : Shape := ⟨2, ![512, 1024]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S512x1024, .f32⟩
  | .local _ .vmem, ⟨0, _⟩ => ⟨S512x512, .bf16⟩
  | .local _ .vmem, ⟨1, _⟩ => ⟨S512x512, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .f32⟩
  | .local _ .vmem, ⟨5, _⟩ => ⟨S512x1024, .f32⟩
  | _, _ => ⟨S2048x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 1 → Memref sig .tc .vmem S512x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]
-- ==== MmDWppRefIdeal.lean ====
abbrev S2048x512 : Shape := ⟨2, ![2048, 512]⟩
abbrev S2048x1024 : Shape := ⟨2, ![2048, 1024]⟩
abbrev S_ : Shape := ⟨0, ![]⟩
abbrev S512x1024 : Shape := ⟨2, ![512, 1024]⟩
abbrev S1024x512 : Shape := ⟨2, ![1024, 512]⟩

abbrev nBuf : Space → Nat
  | .hbm => 9
  | .vmem => 0
  | .smem => 0
  | _ => 0

abbrev bufTy : (tb : Table) → Fin (tcTables nBuf tb) → BufTy
  | .hbm, ⟨0, _⟩ => ⟨S2048x512, .bf16⟩
  | .hbm, ⟨1, _⟩ => ⟨S2048x1024, .bf16⟩
  | .hbm, ⟨2, _⟩ => ⟨S_, .f32⟩
  | .hbm, ⟨3, _⟩ => ⟨S512x1024, .f32⟩
  | .hbm, ⟨4, _⟩ => ⟨S2048x512, .f32⟩
  | .hbm, ⟨5, _⟩ => ⟨S2048x1024, .f32⟩
  | .hbm, ⟨6, _⟩ => ⟨S2048x1024, .f32⟩
  | .hbm, ⟨7, _⟩ => ⟨S1024x512, .f32⟩
  | .hbm, ⟨8, _⟩ => ⟨S512x1024, .f32⟩
  | _, _ => ⟨S2048x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== AdamSquare.lean ====
abbrev S4x128x1024 : Shape := ⟨3, ![4, 128, 1024]⟩
abbrev S3x128x1024 : Shape := ⟨3, ![3, 128, 1024]⟩
abbrev S128x1024 : Shape := ⟨2, ![128, 1024]⟩
abbrev S_ : Shape := ⟨0, ![]⟩
abbrev S1 : Shape := ⟨1, ![1]⟩
abbrev S1x128x1024 : Shape := ⟨3, ![1, 128, 1024]⟩

abbrev nBuf : Space → Nat
  | .hbm => 10
  | .vmem => 9
  | .smem => 1
  | _ => 0

abbrev bufTy : (tb : Table) → Fin (tcTables nBuf tb) → BufTy
  | .hbm, ⟨0, _⟩ => ⟨S4x128x1024, .bf16⟩
  | .hbm, ⟨1, _⟩ => ⟨S3x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S_, .i32⟩
  | .hbm, ⟨6, _⟩ => ⟨S128x1024, .f32⟩
  | .hbm, ⟨7, _⟩ => ⟨S128x1024, .f32⟩
  | .hbm, ⟨8, _⟩ => ⟨S128x1024, .f32⟩
  | .hbm, ⟨9, _⟩ => ⟨S128x1024, .f32⟩
  | .local _ .vmem, ⟨0, _⟩ => ⟨S1x128x1024, .bf16⟩
  | .local _ .vmem, ⟨1, _⟩ => ⟨S3x128x1024, .bf16⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | .local _ .vmem, ⟨8, _⟩ => ⟨S128x1024, .f32⟩
  | .local _ .smem, ⟨0, _⟩ => ⟨S1, .i32⟩
  | _, _ => ⟨S4x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨2, ![1, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S3x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true, true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]
-- ==== AdamSquareRefIdeal.lean ====
abbrev S4x128x1024 : Shape := ⟨3, ![4, 128, 1024]⟩
abbrev S3x128x1024 : Shape := ⟨3, ![3, 128, 1024]⟩
abbrev S128x1024 : Shape := ⟨2, ![128, 1024]⟩
abbrev S1x128x1024 : Shape := ⟨3, ![1, 128, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x128x1024, .bf16⟩
  | .hbm, ⟨1, _⟩ => ⟨S3x128x1024, .bf16⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S1x128x1024, .bf16⟩
  | .hbm, ⟨6, _⟩ => ⟨S128x1024, .bf16⟩
  | .hbm, ⟨7, _⟩ => ⟨S128x1024, .f32⟩
  | .hbm, ⟨8, _⟩ => ⟨S3x128x1024, .f32⟩
  | .hbm, ⟨9, _⟩ => ⟨S_, .f32⟩
  | .hbm, ⟨10, _⟩ => ⟨S128x1024, .f32⟩
  | .hbm, ⟨11, _⟩ => ⟨S128x1024, .f32⟩
  | .hbm, ⟨12, _⟩ => ⟨S_, .f32⟩
  | .hbm, ⟨13, _⟩ => ⟨S128x1024, .f32⟩
  | .hbm, ⟨14, _⟩ => ⟨S128x1024, .f32⟩
  | .hbm, ⟨15, _⟩ => ⟨S_, .f32⟩
  | .hbm, ⟨16, _⟩ => ⟨S128x1024, .f32⟩
  | .hbm, ⟨17, _⟩ => ⟨S128x1024, .f32⟩
  | .hbm, ⟨18, _⟩ => ⟨S128x1024, .f32⟩
  | .hbm, ⟨19, _⟩ => ⟨S_, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128x1024, .f32⟩
  | .hbm, ⟨25, _⟩ => ⟨S128x1024, .f32⟩
  | .hbm, ⟨26, _⟩ => ⟨S128x1024, .f32⟩
  | .hbm, ⟨27, _⟩ => ⟨S_, .f32⟩
  | .hbm, ⟨28, _⟩ => ⟨S128x1024, .f32⟩
  | .hbm, ⟨29, _⟩ => ⟨S128x1024, .f32⟩
  | .hbm, ⟨30, _⟩ => ⟨S_, .f32⟩
  | .hbm, ⟨31, _⟩ => ⟨S128x1024, .f32⟩
  | .hbm, ⟨32, _⟩ => ⟨S128x1024, .f32⟩
  | .hbm, ⟨33, _⟩ => ⟨S128x1024, .f32⟩
  | .hbm, ⟨34, _⟩ => ⟨S_, .f32⟩
  | .hbm, ⟨35, _⟩ => ⟨S128x1024, .f32⟩
  | .hbm, ⟨36, _⟩ => ⟨S128x1024, .f32⟩
  | .hbm, ⟨37, _⟩ => ⟨S128x1024, .f32⟩
  | .hbm, ⟨38, _⟩ => ⟨S_, .f32⟩
  | .hbm, ⟨39, _⟩ => ⟨S128x1024, .f32⟩
  | .hbm, ⟨40, _⟩ => ⟨S128x1024, .f32⟩
  | .hbm, ⟨41, _⟩ => ⟨S128x1024, .f32⟩
  | .hbm, ⟨42, _⟩ => ⟨S_, .f32⟩
  | .hbm, ⟨43, _⟩ => ⟨S128x1024, .f32⟩
  | .hbm, ⟨44, _⟩ => ⟨S128x1024, .f32⟩
  | _, _ => ⟨S4x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamPool.lean ====
abbrev S4x512x128 : Shape := ⟨3, ![4, 512, 128]⟩
abbrev S3x512x128 : Shape := ⟨3, ![3, 512, 128]⟩
abbrev S512x128 : Shape := ⟨2, ![512, 128]⟩
abbrev S_ : Shape := ⟨0, ![]⟩
abbrev S1 : Shape := ⟨1, ![1]⟩
abbrev S1x256x128 : Shape := ⟨3, ![1, 256, 128]⟩
abbrev S3x256x128 : Shape := ⟨3, ![3, 256, 128]⟩
abbrev S256x128 : Shape := ⟨2, ![256, 128]⟩

abbrev nBuf : Space → Nat
  | .hbm => 10
  | .vmem => 18
  | .smem => 1
  | _ => 0

abbrev bufTy : (tb : Table) → Fin (tcTables nBuf tb) → BufTy
  | .hbm, ⟨0, _⟩ => ⟨S4x512x128, .bf16⟩
  | .hbm, ⟨1, _⟩ => ⟨S3x512x128, .bf16⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S_, .i32⟩
  | .hbm, ⟨6, _⟩ => ⟨S512x128, .f32⟩
  | .hbm, ⟨7, _⟩ => ⟨S512x128, .f32⟩
  | .hbm, ⟨8, _⟩ => ⟨S512x128, .f32⟩
  | .hbm, ⟨9, _⟩ => ⟨S512x128, .f32⟩
  | .local _ .vmem, ⟨0, _⟩ => ⟨S1x256x128, .bf16⟩
  | .local _ .vmem, ⟨1, _⟩ => ⟨S1x256x128, .bf16⟩
  | .local _ .vmem, ⟨2, _⟩ => ⟨S3x256x128, .bf16⟩
  | .local _ .vmem, ⟨3, _⟩ => ⟨S3x256x128, .bf16⟩
  | .local _ .vmem, ⟨4, _⟩ => ⟨S256x128, .f32⟩
  | .local _ .vmem, ⟨5, _⟩ => ⟨S256x128, .f32⟩
  | .local _ .vmem, ⟨6, _⟩ => ⟨S256x128, .f32⟩
  | .local _ .vmem, ⟨7, _⟩ => ⟨S256x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x128, .f32⟩
  | .local _ .vmem, ⟨17, _⟩ => ⟨S256x128, .f32⟩
  | .local _ .smem, ⟨0, _⟩ => ⟨S1, .i32⟩
  | _, _ => ⟨S4x512x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamPoolRefIdeal.lean ====
abbrev S4x512x128 : Shape := ⟨3, ![4, 512, 128]⟩
abbrev S3x512x128 : Shape := ⟨3, ![3, 512, 128]⟩
abbrev S512x128 : Shape := ⟨2, ![512, 128]⟩
abbrev S1x512x128 : Shape := ⟨3, ![1, 512, 128]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x512x128, .bf16⟩
  | .hbm, ⟨1, _⟩ => ⟨S3x512x128, .bf16⟩
  | .hbm, ⟨2, _⟩ => ⟨S512x128, .f32⟩
  | .hbm, ⟨3, _⟩ => ⟨S512x128, .f32⟩
  | .hbm, ⟨4, _⟩ => ⟨S512x128, .f32⟩
  | .hbm, ⟨5, _⟩ => ⟨S1x512x128, .bf16⟩
  | .hbm, ⟨6, _⟩ => ⟨S512x128, .bf16⟩
  | .hbm, ⟨7, _⟩ => ⟨S512x128, .f32⟩
  | .hbm, ⟨8, _⟩ => ⟨S3x512x128, .f32⟩
  | .hbm, ⟨9, _⟩ => ⟨S_, .f32⟩
  | .hbm, ⟨10, _⟩ => ⟨S512x128, .f32⟩
  | .hbm, ⟨11, _⟩ => ⟨S512x128, .f32⟩
  | .hbm, ⟨12, _⟩ => ⟨S_, .f32⟩
  | .hbm, ⟨13, _⟩ => ⟨S512x128, .f32⟩
  | .hbm, ⟨14, _⟩ => ⟨S512x128, .f32⟩
  | .hbm, ⟨15, _⟩ => ⟨S_, .f32⟩
  | .hbm, ⟨16, _⟩ => ⟨S512x128, .f32⟩
  | .hbm, ⟨17, _⟩ => ⟨S512x128, .f32⟩
  | .hbm, ⟨18, _⟩ => ⟨S512x128, .f32⟩
  | .hbm, ⟨19, _⟩ => ⟨S_, .f32⟩
  | .hbm, ⟨20, _⟩ => ⟨S512x128, .f32⟩
  | .hbm, ⟨21, _⟩ => ⟨S512x128, .f32⟩
  | .hbm, ⟨22, _⟩ => ⟨S512x128, .f32⟩
  | .hbm, ⟨23, _⟩ => ⟨S_, .f32⟩
  | .hbm, ⟨24, _⟩ => ⟨S512x128, .f32⟩
  | .hbm, ⟨25, _⟩ => ⟨S512x128, .f32⟩
  | .hbm, ⟨26, _⟩ => ⟨S512x128, .f32⟩
  | .hbm, ⟨27, _⟩ => ⟨S_, .f32⟩
  | .hbm, ⟨28, _⟩ => ⟨S512x128, .f32⟩
  | .hbm, ⟨29, _⟩ => ⟨S512x128, .f32⟩
  | .hbm, ⟨30, _⟩ => ⟨S_, .f32⟩
  | .hbm, ⟨31, _⟩ => ⟨S512x128, .f32⟩
  | .hbm, ⟨32, _⟩ => ⟨S512x128, .f32⟩
  | .hbm, ⟨33, _⟩ => ⟨S512x128, .f32⟩
  | .hbm, ⟨34, _⟩ => ⟨S_, .f32⟩
  | .hbm, ⟨35, _⟩ => ⟨S512x128, .f32⟩
  | .hbm, ⟨36, _⟩ => ⟨S512x128, .f32⟩
  | .hbm, ⟨37, _⟩ => ⟨S512x128, .f32⟩
  | .hbm, ⟨38, _⟩ => ⟨S_, .f32⟩
  | .hbm, ⟨39, _⟩ => ⟨S512x128, .f32⟩
  | .hbm, ⟨40, _⟩ => ⟨S512x128, .f32⟩
  | .hbm, ⟨41, _⟩ => ⟨S512x128, .f32⟩
  | .hbm, ⟨42, _⟩ => ⟨S_, .f32⟩
  | .hbm, ⟨43, _⟩ => ⟨S512x128, .f32⟩
  | .hbm, ⟨44, _⟩ => ⟨S512x128, .f32⟩
  | _, _ => ⟨S4x512x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamDown.lean ====
abbrev S4x352x1024 : Shape := ⟨3, ![4, 352, 1024]⟩
abbrev S3x352x1024 : Shape := ⟨3, ![3, 352, 1024]⟩
abbrev S352x1024 : Shape := ⟨2, ![352, 1024]⟩
abbrev S_ : Shape := ⟨0, ![]⟩
abbrev S1 : Shape := ⟨1, ![1]⟩
abbrev S1x176x1024 : Shape := ⟨3, ![1, 176, 1024]⟩
abbrev S3x176x1024 : Shape := ⟨3, ![3, 176, 1024]⟩
abbrev S176x1024 : Shape := ⟨2, ![176, 1024]⟩

abbrev nBuf : Space → Nat
  | .hbm => 10
  | .vmem => 18
  | .smem => 1
  | _ => 0

abbrev bufTy : (tb : Table) → Fin (tcTables nBuf tb) → BufTy
  | .hbm, ⟨0, _⟩ => ⟨S4x352x1024, .bf16⟩
  | .hbm, ⟨1, _⟩ => ⟨S3x352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S_, .i32⟩
  | .hbm, ⟨6, _⟩ => ⟨S352x1024, .f32⟩
  | .hbm, ⟨7, _⟩ => ⟨S352x1024, .f32⟩
  | .hbm, ⟨8, _⟩ => ⟨S352x1024, .f32⟩
  | .hbm, ⟨9, _⟩ => ⟨S352x1024, .f32⟩
  | .local _ .vmem, ⟨0, _⟩ => ⟨S1x176x1024, .bf16⟩
  | .local _ .vmem, ⟨1, _⟩ => ⟨S1x176x1024, .bf16⟩
  | .local _ .vmem, ⟨2, _⟩ => ⟨S3x176x1024, .bf16⟩
  | .local _ .vmem, ⟨3, _⟩ => ⟨S3x176x1024, .bf16⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .smem, ⟨0, _⟩ => ⟨S1, .i32⟩
  | _, _ => ⟨S4x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamDownRefIdeal.lean ====
abbrev S4x352x1024 : Shape := ⟨3, ![4, 352, 1024]⟩
abbrev S3x352x1024 : Shape := ⟨3, ![3, 352, 1024]⟩
abbrev S352x1024 : Shape := ⟨2, ![352, 1024]⟩
abbrev S1x352x1024 : Shape := ⟨3, ![1, 352, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x352x1024, .bf16⟩
  | .hbm, ⟨1, _⟩ => ⟨S3x352x1024, .bf16⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S1x352x1024, .bf16⟩
  | .hbm, ⟨6, _⟩ => ⟨S352x1024, .bf16⟩
  | .hbm, ⟨7, _⟩ => ⟨S352x1024, .f32⟩
  | .hbm, ⟨8, _⟩ => ⟨S3x352x1024, .f32⟩
  | .hbm, ⟨9, _⟩ => ⟨S_, .f32⟩
  | .hbm, ⟨10, _⟩ => ⟨S352x1024, .f32⟩
  | .hbm, ⟨11, _⟩ => ⟨S352x1024, .f32⟩
  | .hbm, ⟨12, _⟩ => ⟨S_, .f32⟩
  | .hbm, ⟨13, _⟩ => ⟨S352x1024, .f32⟩
  | .hbm, ⟨14, _⟩ => ⟨S352x1024, .f32⟩
  | .hbm, ⟨15, _⟩ => ⟨S_, .f32⟩
  | .hbm, ⟨16, _⟩ => ⟨S352x1024, .f32⟩
  | .hbm, ⟨17, _⟩ => ⟨S352x1024, .f32⟩
  | .hbm, ⟨18, _⟩ => ⟨S352x1024, .f32⟩
  | .hbm, ⟨19, _⟩ => ⟨S_, .f32⟩
  | .hbm, ⟨20, _⟩ => ⟨S352x1024, .f32⟩
  | .hbm, ⟨21, _⟩ => ⟨S352x1024, .f32⟩
  | .hbm, ⟨22, _⟩ => ⟨S352x1024, .f32⟩
  | .hbm, ⟨23, _⟩ => ⟨S_, .f32⟩
  | .hbm, ⟨24, _⟩ => ⟨S352x1024, .f32⟩
  | .hbm, ⟨25, _⟩ => ⟨S352x1024, .f32⟩
  | .hbm, ⟨26, _⟩ => ⟨S352x1024, .f32⟩
  | .hbm, ⟨27, _⟩ => ⟨S_, .f32⟩
  | .hbm, ⟨28, _⟩ => ⟨S352x1024, .f32⟩
  | .hbm, ⟨29, _⟩ => ⟨S352x1024, .f32⟩
  | .hbm, ⟨30, _⟩ => ⟨S_, .f32⟩
  | .hbm, ⟨31, _⟩ => ⟨S352x1024, .f32⟩
  | .hbm, ⟨32, _⟩ => ⟨S352x1024, .f32⟩
  | .hbm, ⟨33, _⟩ => ⟨S352x1024, .f32⟩
  | .hbm, ⟨34, _⟩ => ⟨S_, .f32⟩
  | .hbm, ⟨35, _⟩ => ⟨S352x1024, .f32⟩
  | .hbm, ⟨36, _⟩ => ⟨S352x1024, .f32⟩
  | .hbm, ⟨37, _⟩ => ⟨S352x1024, .f32⟩
  | .hbm, ⟨38, _⟩ => ⟨S_, .f32⟩
  | .hbm, ⟨39, _⟩ => ⟨S352x1024, .f32⟩
  | .hbm, ⟨40, _⟩ => ⟨S352x1024, .f32⟩
  | .hbm, ⟨41, _⟩ => ⟨S352x1024, .f32⟩
  | .hbm, ⟨42, _⟩ => ⟨S_, .f32⟩
  | .hbm, ⟨43, _⟩ => ⟨S352x1024, .f32⟩
  | .hbm, ⟨44, _⟩ => ⟨S352x1024, .f32⟩
  | _, _ => ⟨S4x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamUp.lean ====
abbrev S4x704x1024 : Shape := ⟨3, ![4, 704, 1024]⟩
abbrev S3x704x1024 : Shape := ⟨3, ![3, 704, 1024]⟩
abbrev S704x1024 : Shape := ⟨2, ![704, 1024]⟩
abbrev S_ : Shape := ⟨0, ![]⟩
abbrev S1 : Shape := ⟨1, ![1]⟩
abbrev S1x176x1024 : Shape := ⟨3, ![1, 176, 1024]⟩
abbrev S3x176x1024 : Shape := ⟨3, ![3, 176, 1024]⟩
abbrev S176x1024 : Shape := ⟨2, ![176, 1024]⟩

abbrev nBuf : Space → Nat
  | .hbm => 10
  | .vmem => 18
  | .smem => 1
  | _ => 0

abbrev bufTy : (tb : Table) → Fin (tcTables nBuf tb) → BufTy
  | .hbm, ⟨0, _⟩ => ⟨S4x704x1024, .bf16⟩
  | .hbm, ⟨1, _⟩ => ⟨S3x704x1024, .bf16⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S_, .i32⟩
  | .hbm, ⟨6, _⟩ => ⟨S704x1024, .f32⟩
  | .hbm, ⟨7, _⟩ => ⟨S704x1024, .f32⟩
  | .hbm, ⟨8, _⟩ => ⟨S704x1024, .f32⟩
  | .hbm, ⟨9, _⟩ => ⟨S704x1024, .f32⟩
  | .local _ .vmem, ⟨0, _⟩ => ⟨S1x176x1024, .bf16⟩
  | .local _ .vmem, ⟨1, _⟩ => ⟨S1x176x1024, .bf16⟩
  | .local _ .vmem, ⟨2, _⟩ => ⟨S3x176x1024, .bf16⟩
  | .local _ .vmem, ⟨3, _⟩ => ⟨S3x176x1024, .bf16⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | .local _ .vmem, ⟨16, _⟩ => ⟨S176x1024, .f32⟩
  | .local _ .vmem, ⟨17, _⟩ => ⟨S176x1024, .f32⟩
  | .local _ .smem, ⟨0, _⟩ => ⟨S1, .i32⟩
  | _, _ => ⟨S4x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 1], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamUpRefIdeal.lean ====
abbrev S4x704x1024 : Shape := ⟨3, ![4, 704, 1024]⟩
abbrev S3x704x1024 : Shape := ⟨3, ![3, 704, 1024]⟩
abbrev S704x1024 : Shape := ⟨2, ![704, 1024]⟩
abbrev S1x704x1024 : Shape := ⟨3, ![1, 704, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x704x1024, .bf16⟩
  | .hbm, ⟨1, _⟩ => ⟨S3x704x1024, .bf16⟩
  | .hbm, ⟨2, _⟩ => ⟨S704x1024, .f32⟩
  | .hbm, ⟨3, _⟩ => ⟨S704x1024, .f32⟩
  | .hbm, ⟨4, _⟩ => ⟨S704x1024, .f32⟩
  | .hbm, ⟨5, _⟩ => ⟨S1x704x1024, .bf16⟩
  | .hbm, ⟨6, _⟩ => ⟨S704x1024, .bf16⟩
  | .hbm, ⟨7, _⟩ => ⟨S704x1024, .f32⟩
  | .hbm, ⟨8, _⟩ => ⟨S3x704x1024, .f32⟩
  | .hbm, ⟨9, _⟩ => ⟨S_, .f32⟩
  | .hbm, ⟨10, _⟩ => ⟨S704x1024, .f32⟩
  | .hbm, ⟨11, _⟩ => ⟨S704x1024, .f32⟩
  | .hbm, ⟨12, _⟩ => ⟨S_, .f32⟩
  | .hbm, ⟨13, _⟩ => ⟨S704x1024, .f32⟩
  | .hbm, ⟨14, _⟩ => ⟨S704x1024, .f32⟩
  | .hbm, ⟨15, _⟩ => ⟨S_, .f32⟩
  | .hbm, ⟨16, _⟩ => ⟨S704x1024, .f32⟩
  | .hbm, ⟨17, _⟩ => ⟨S704x1024, .f32⟩
  | .hbm, ⟨18, _⟩ => ⟨S704x1024, .f32⟩
  | .hbm, ⟨19, _⟩ => ⟨S_, .f32⟩
  | .hbm, ⟨20, _⟩ => ⟨S704x1024, .f32⟩
  | .hbm, ⟨21, _⟩ => ⟨S704x1024, .f32⟩
  | .hbm, ⟨22, _⟩ => ⟨S704x1024, .f32⟩
  | .hbm, ⟨23, _⟩ => ⟨S_, .f32⟩
  | .hbm, ⟨24, _⟩ => ⟨S704x1024, .f32⟩
  | .hbm, ⟨25, _⟩ => ⟨S704x1024, .f32⟩
  | .hbm, ⟨26, _⟩ => ⟨S704x1024, .f32⟩
  | .hbm, ⟨27, _⟩ => ⟨S_, .f32⟩
  | .hbm, ⟨28, _⟩ => ⟨S704x1024, .f32⟩
  | .hbm, ⟨29, _⟩ => ⟨S704x1024, .f32⟩
  | .hbm, ⟨30, _⟩ => ⟨S_, .f32⟩
  | .hbm, ⟨31, _⟩ => ⟨S704x1024, .f32⟩
  | .hbm, ⟨32, _⟩ => ⟨S704x1024, .f32⟩
  | .hbm, ⟨33, _⟩ => ⟨S704x1024, .f32⟩
  | .hbm, ⟨34, _⟩ => ⟨S_, .f32⟩
  | .hbm, ⟨35, _⟩ => ⟨S704x1024, .f32⟩
  | .hbm, ⟨36, _⟩ => ⟨S704x1024, .f32⟩
  | .hbm, ⟨37, _⟩ => ⟨S704x1024, .f32⟩
  | .hbm, ⟨38, _⟩ => ⟨S_, .f32⟩
  | .hbm, ⟨39, _⟩ => ⟨S704x1024, .f32⟩
  | .hbm, ⟨40, _⟩ => ⟨S704x1024, .f32⟩
  | .hbm, ⟨41, _⟩ => ⟨S704x1024, .f32⟩
  | .hbm, ⟨42, _⟩ => ⟨S_, .f32⟩
  | .hbm, ⟨43, _⟩ => ⟨S704x1024, .f32⟩
  | .hbm, ⟨44, _⟩ => ⟨S704x1024, .f32⟩
  | _, _ => ⟨S4x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩

abbrev nD : Nat := 1
abbrev τ : Topo := Topo.v7x

variable {F : FTy → Type} [FloatOps F]
-- ==== AdamIn.lean ====
abbrev S4x706x1024 : Shape := ⟨3, ![4, 706, 1024]⟩
abbrev S3x706x1024 : Shape := ⟨3, ![3, 706, 1024]⟩
abbrev S706x1024 : Shape := ⟨2, ![706, 1024]⟩
abbrev S_ : Shape := ⟨0, ![]⟩
abbrev S1 : Shape := ⟨1, ![1]⟩
abbrev S706x1x1024 : Shape := ⟨3, ![706, 1, 1024]⟩
abbrev S1x706x256 : Shape := ⟨3, ![1, 706, 256]⟩
abbrev S3x706x256 : Shape := ⟨3, ![3, 706, 256]⟩
abbrev S706x256 : Shape := ⟨2, ![706, 256]⟩
abbrev S706x1x256 : Shape := ⟨3, ![706, 1, 256]⟩

abbrev nBuf : Space → Nat
  | .hbm => 10
  | .vmem => 18
  | .smem => 1
  | _ => 0

abbrev bufTy : (tb : Table) → Fin (tcTables nBuf tb) → BufTy
  | .hbm, ⟨0, _⟩ => ⟨S4x706x1024, .bf16⟩
  | .hbm, ⟨1, _⟩ => ⟨S3x706x1024, .bf16⟩
  | .hbm, ⟨2, _⟩ => ⟨S706x1024, .f32⟩
  | .hbm, ⟨3, _⟩ => ⟨S706x1024, .f32⟩
  | .hbm, ⟨4, _⟩ => ⟨S706x1024, .f32⟩
  | .hbm, ⟨5, _⟩ => ⟨S_, .i32⟩
  | .hbm, ⟨6, _⟩ => ⟨S706x1x1024, .f32⟩
  | .hbm, ⟨7, _⟩ => ⟨S706x1x1024, .f32⟩
  | .hbm, ⟨8, _⟩ => ⟨S706x1x1024, .f32⟩
  | .hbm, ⟨9, _⟩ => ⟨S706x1x1024, .f32⟩
  | .local _ .vmem, ⟨0, _⟩ => ⟨S1x706x256, .bf16⟩
  | .local _ .vmem, ⟨1, _⟩ => ⟨S1x706x256, .bf16⟩
  | .local _ .vmem, ⟨2, _⟩ => ⟨S3x706x256, .bf16⟩
  | .local _ .vmem, ⟨3, _⟩ => ⟨S3x706x256, .bf16⟩
  | .local _ .vmem, ⟨4, _⟩ => ⟨S706x256, .f32⟩
  | .local _ .vmem, ⟨5, _⟩ => ⟨S706x256, .f32⟩
  | .local _ .vmem, ⟨6, _⟩ => ⟨S706x256, .f32⟩
  | .local _ .vmem, ⟨7, _⟩ => ⟨S706x256, .f32⟩
  | .local _ .vmem, ⟨8, _⟩ => ⟨S706x256, .f32⟩
  | .local _ .vmem, ⟨9, _⟩ => ⟨S706x256, .f32⟩
  | .local _ .vmem, ⟨10, _⟩ => ⟨S706x1x256, .f32⟩
  | .local _ .vmem, ⟨11, _⟩ => ⟨S706x1x256, .f32⟩
  | .local _ .vmem, ⟨12, _⟩ => ⟨S706x1x256, .f32⟩
  | .local _ .vmem, ⟨13, _⟩ => ⟨S706x1x256, .f32⟩
  | .local _ .vmem, ⟨14, _⟩ => ⟨S706x1x256, .f32⟩
  | .local _ .vmem, ⟨15, _⟩ => ⟨S706x1x256, .f32⟩
  | .local _ .vmem, ⟨16, _⟩ => ⟨S706x1x256, .f32⟩
  | .local _ .vmem, ⟨17, _⟩ => ⟨S706x1x256, .f32⟩
  | .local _ .smem, ⟨0, _⟩ => ⟨S1, .i32⟩
  | _, _ => ⟨S4x706x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev main_v1_3 : Ref sig .tc := ⟨.hbm, 9, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![1, 4], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  ![v0.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x706x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x706x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S706x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S706x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S706x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S706x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S706x1x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S706x1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S706x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamInRefIdeal.lean ====
abbrev S4x706x1024 : Shape := ⟨3, ![4, 706, 1024]⟩
abbrev S3x706x1024 : Shape := ⟨3, ![3, 706, 1024]⟩
abbrev S706x1024 : Shape := ⟨2, ![706, 1024]⟩
abbrev S1x706x1024 : Shape := ⟨3, ![1, 706, 1024]⟩
abbrev S_ : Shape := ⟨0, ![]⟩
abbrev S706x1x1024 : Shape := ⟨3, ![706, 1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S4x706x1024, .bf16⟩
  | .hbm, ⟨1, _⟩ => ⟨S3x706x1024, .bf16⟩
  | .hbm, ⟨2, _⟩ => ⟨S706x1024, .f32⟩
  | .hbm, ⟨3, _⟩ => ⟨S706x1024, .f32⟩
  | .hbm, ⟨4, _⟩ => ⟨S706x1024, .f32⟩
  | .hbm, ⟨5, _⟩ => ⟨S1x706x1024, .bf16⟩
  | .hbm, ⟨6, _⟩ => ⟨S706x1024, .bf16⟩
  | .hbm, ⟨7, _⟩ => ⟨S706x1024, .f32⟩
  | .hbm, ⟨8, _⟩ => ⟨S3x706x1024, .f32⟩
  | .hbm, ⟨9, _⟩ => ⟨S_, .f32⟩
  | .hbm, ⟨10, _⟩ => ⟨S706x1024, .f32⟩
  | .hbm, ⟨11, _⟩ => ⟨S706x1024, .f32⟩
  | .hbm, ⟨12, _⟩ => ⟨S_, .f32⟩
  | .hbm, ⟨13, _⟩ => ⟨S706x1024, .f32⟩
  | .hbm, ⟨14, _⟩ => ⟨S706x1024, .f32⟩
  | .hbm, ⟨15, _⟩ => ⟨S_, .f32⟩
  | .hbm, ⟨16, _⟩ => ⟨S706x1024, .f32⟩
  | .hbm, ⟨17, _⟩ => ⟨S706x1024, .f32⟩
  | .hbm, ⟨18, _⟩ => ⟨S706x1024, .f32⟩
  | .hbm, ⟨19, _⟩ => ⟨S_, .f32⟩
  | .hbm, ⟨20, _⟩ => ⟨S706x1024, .f32⟩
  | .hbm, ⟨21, _⟩ => ⟨S706x1024, .f32⟩
  | .hbm, ⟨22, _⟩ => ⟨S706x1024, .f32⟩
  | .hbm, ⟨23, _⟩ => ⟨S_, .f32⟩
  | .hbm, ⟨24, _⟩ => ⟨S706x1024, .f32⟩
  | .hbm, ⟨25, _⟩ => ⟨S706x1024, .f32⟩
  | .hbm, ⟨26, _⟩ => ⟨S706x1024, .f32⟩
  | .hbm, ⟨27, _⟩ => ⟨S_, .f32⟩
  | .hbm, ⟨28, _⟩ => ⟨S706x1024, .f32⟩
  | .hbm, ⟨29, _⟩ => ⟨S706x1024, .f32⟩
  | .hbm, ⟨30, _⟩ => ⟨S_, .f32⟩
  | .hbm, ⟨31, _⟩ => ⟨S706x1024, .f32⟩
  | .hbm, ⟨32, _⟩ => ⟨S706x1024, .f32⟩
  | .hbm, ⟨33, _⟩ => ⟨S706x1024, .f32⟩
  | .hbm, ⟨34, _⟩ => ⟨S_, .f32⟩
  | .hbm, ⟨35, _⟩ => ⟨S706x1024, .f32⟩
  | .hbm, ⟨36, _⟩ => ⟨S706x1024, .f32⟩
  | .hbm, ⟨37, _⟩ => ⟨S706x1024, .f32⟩
  | .hbm, ⟨38, _⟩ => ⟨S_, .f32⟩
  | .hbm, ⟨39, _⟩ => ⟨S706x1024, .f32⟩
  | .hbm, ⟨40, _⟩ => ⟨S706x1024, .f32⟩
  | .hbm, ⟨41, _⟩ => ⟨S706x1024, .f32⟩
  | .hbm, ⟨42, _⟩ => ⟨S_, .f32⟩
  | .hbm, ⟨43, _⟩ => ⟨S706x1024, .f32⟩
  | .hbm, ⟨44, _⟩ => ⟨S706x1024, .f32⟩
  | .hbm, ⟨45, _⟩ => ⟨S706x1x1024, .f32⟩
  | .hbm, ⟨46, _⟩ => ⟨S706x1x1024, .f32⟩
  | .hbm, ⟨47, _⟩ => ⟨S706x1x1024, .f32⟩
  | .hbm, ⟨48, _⟩ => ⟨S706x1x1024, .f32⟩
  | _, _ => ⟨S4x706x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_3 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩

abbrev nD : Nat := 1
abbrev τ : Topo := Topo.v7x

variable {F : FTy → Type} [FloatOps F]
-- ==== RmsMix.lean ====
abbrev S2048x1024 : Shape := ⟨2, ![2048, 1024]⟩
abbrev S1x1024 : Shape := ⟨2, ![1, 1024]⟩
abbrev S8x128 : Shape := ⟨2, ![8, 128]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S8x128, .f32⟩
  | .hbm, ⟨3, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsMixRefIdeal.lean ====
abbrev S2048x1024 : Shape := ⟨2, ![2048, 1024]⟩
abbrev S1x1024 : Shape := ⟨2, ![1, 1024]⟩
abbrev S8x128 : Shape := ⟨2, ![8, 128]⟩
abbrev S_ : Shape := ⟨0, ![]⟩
abbrev S2048 : Shape := ⟨1, ![2048]⟩
abbrev S2048x1 : Shape := ⟨2, ![2048, 1]⟩

abbrev nBuf : Space → Nat
  | .hbm => 19
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S8x128, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩

abbrev nD : Nat := 1
abbrev τ : Topo := Topo.v7x

variable {F : FTy → Type} [FloatOps F]
-- ==== GkFwd.lean ====
abbrev S2048x1024 : Shape := ⟨2, ![2048, 1024]⟩
abbrev S5760x1024 : Shape := ⟨2, ![5760, 1024]⟩
abbrev S128x512 : Shape := ⟨2, ![128, 512]⟩
abbrev S1x512 : Shape := ⟨2, ![1, 512]⟩
abbrev S2048x512 : Shape := ⟨2, ![2048, 512]⟩
abbrev S512x1024 : Shape := ⟨2, ![512, 1024]⟩
abbrev S128x1024 : Shape := ⟨2, ![128, 1024]⟩
abbrev S512x512 : Shape := ⟨2, ![512, 512]⟩
abbrev S512x128 : Shape := ⟨2, ![512, 128]⟩

abbrev nBuf : Space → Nat
  | .hbm => 5
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S5760x1024, .bf16⟩
  | .hbm, ⟨2, _⟩ => ⟨S128x512, .f32⟩
  | .hbm, ⟨3, _⟩ => ⟨S1x512, .f32⟩
  | .hbm, ⟨4, _⟩ => ⟨S2048x512, .f32⟩
  | .local _ .vmem, ⟨0, _⟩ => ⟨S512x1024, .bf16⟩
  | .local _ .vmem, ⟨1, _⟩ => ⟨S512x1024, .bf16⟩
  | .local _ .vmem, ⟨2, _⟩ => ⟨S128x1024, .bf16⟩
  | .local _ .vmem, ⟨3, _⟩ => ⟨S128x512, .f32⟩
  | .local _ .vmem, ⟨4, _⟩ => ⟨S1x512, .f32⟩
  | .local _ .vmem, ⟨5, _⟩ => ⟨S512x512, .f32⟩
  | .local _ .vmem, ⟨6, _⟩ => ⟨S512x512, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c44_i32 : BitVec 32 := 44#32
  let c0_i32 : BitVec 32 := 0#32
  let c0_i32_0 : BitVec 32 := 0#32
  ![c44_i32.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GkFwdRefIdeal.lean ====
abbrev S2048x1024 : Shape := ⟨2, ![2048, 1024]⟩
abbrev S5760x1024 : Shape := ⟨2, ![5760, 1024]⟩
abbrev S128x512 : Shape := ⟨2, ![128, 512]⟩
abbrev S1x512 : Shape := ⟨2, ![1, 512]⟩
abbrev S128x1024 : Shape := ⟨2, ![128, 1024]⟩
abbrev S1024x128 : Shape := ⟨2, ![1024, 128]⟩
abbrev S2048x128 : Shape := ⟨2, ![2048, 128]⟩
abbrev S2048x512 : Shape := ⟨2, ![2048, 512]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S5760x1024, .bf16⟩
  | .hbm, ⟨2, _⟩ => ⟨S128x512, .f32⟩
  | .hbm, ⟨3, _⟩ => ⟨S1x512, .f32⟩
  | .hbm, ⟨4, _⟩ => ⟨S2048x1024, .f32⟩
  | .hbm, ⟨5, _⟩ => ⟨S128x1024, .bf16⟩
  | .hbm, ⟨6, _⟩ => ⟨S128x1024, .f32⟩
  | .hbm, ⟨7, _⟩ => ⟨S1024x128, .f32⟩
  | .hbm, ⟨8, _⟩ => ⟨S2048x128, .f32⟩
  | .hbm, ⟨9, _⟩ => ⟨S2048x512, .f32⟩
  | .hbm, ⟨10, _⟩ => ⟨S2048x512, .f32⟩
  | .hbm, ⟨11, _⟩ => ⟨S2048x512, .f32⟩
  | .hbm, ⟨12, _⟩ => ⟨S2048x512, .f32⟩
  | .hbm, ⟨13, _⟩ => ⟨S_, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S2048x512, .f32⟩
  | .hbm, ⟨18, _⟩ => ⟨S2048x512, .i1⟩
  | .hbm, ⟨19, _⟩ => ⟨S2048x512, .f32⟩
  | .hbm, ⟨20, _⟩ => ⟨S2048x512, .f32⟩
  | .hbm, ⟨21, _⟩ => ⟨S2048x512, .f32⟩
  | .hbm, ⟨22, _⟩ => ⟨S2048x512, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S2048x512, .f32⟩
  | .hbm, ⟨27, _⟩ => ⟨S2048x512, .f32⟩
  | .hbm, ⟨28, _⟩ => ⟨S_, .f32⟩
  | .hbm, ⟨29, _⟩ => ⟨S2048x512, .f32⟩
  | .hbm, ⟨30, _⟩ => ⟨S2048x512, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1 : Ref sig .tc := ⟨.hbm, 26, rfl⟩
abbrev main_v8 : Ref sig .tc := ⟨.hbm, 27, rfl⟩
abbrev main_cst : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== PairSum.lean ====
abbrev S4x2x128x1024 : Shape := ⟨4, ![4, 2, 128, 1024]⟩
abbrev S4x128x1024 : Shape := ⟨3, ![4, 128, 1024]⟩
abbrev S_ : Shape := ⟨0, ![]⟩
abbrev S1 : Shape := ⟨1, ![1]⟩
abbrev S1x1x128x1024 : Shape := ⟨4, ![1, 1, 128, 1024]⟩
abbrev S1x128x1024 : Shape := ⟨3, ![1, 128, 1024]⟩
abbrev S128x1024 : Shape := ⟨2, ![128, 1024]⟩

abbrev nBuf : Space → Nat
  | .hbm => 4
  | .vmem => 6
  | .smem => 1
  | _ => 0

abbrev bufTy : (tb : Table) → Fin (tcTables nBuf tb) → BufTy
  | .hbm, ⟨0, _⟩ => ⟨S4x2x128x1024, .bf16⟩
  | .hbm, ⟨1, _⟩ => ⟨S4x128x1024, .bf16⟩
  | .hbm, ⟨2, _⟩ => ⟨S_, .i32⟩
  | .hbm, ⟨3, _⟩ => ⟨S4x128x1024, .bf16⟩
  | .local _ .vmem, ⟨0, _⟩ => ⟨S1x1x128x1024, .bf16⟩
  | .local _ .vmem, ⟨1, _⟩ => ⟨S1x1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x1024, .bf16⟩
  | .local _ .vmem, ⟨5, _⟩ => ⟨S1x128x1024, .bf16⟩
  | .local _ .smem, ⟨0, _⟩ => ⟨S1, .i32⟩
  | _, _ => ⟨S4x2x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v1 : Ref sig .tc := ⟨.hbm, 3, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 1], ![false, false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c0_i32 : BitVec 32 := 0#32
  ![arg0.toNat, v0.toNat, arg1.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== PairSumRefIdeal.lean ====
abbrev S4x2x128x1024 : Shape := ⟨4, ![4, 2, 128, 1024]⟩
abbrev S4x128x1024 : Shape := ⟨3, ![4, 128, 1024]⟩
abbrev S4x1x128x1024 : Shape := ⟨4, ![4, 1, 128, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4x2x128x1024, .bf16⟩
  | .hbm, ⟨1, _⟩ => ⟨S4x128x1024, .bf16⟩
  | .hbm, ⟨2, _⟩ => ⟨S4x1x128x1024, .bf16⟩
  | .hbm, ⟨3, _⟩ => ⟨S4x128x1024, .bf16⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .bf16⟩
  | _, _ => ⟨S4x2x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Proof.Chunk.lean ====
/- The real-number algebra of one head of the gated linear attention's backward pass: what one chunk of 64 rows
   contributes, the gradient of the state carried from chunk to chunk, and the identities that join the two forms in which
   the running decays are written (a product of the chunks' decays, or the exponential of a sum). -/
module

public import Mathlib.Analysis.SpecialFunctions.Exp
public import Mathlib.Algebra.BigOperators.Fin
public import Mathlib.Tactic.Ring
public import Mathlib.Tactic.Linarith

@[expose] public section

noncomputable section

namespace Cert.Gla

/-- The rows of one chunk of one head: scaled queries, keys, log decays, values and the output's cotangent. -/
structure Blk where
  q : Fin 64 → Fin 128 → ℝ
  k : Fin 64 → Fin 128 → ℝ
  a : Fin 64 → Fin 128 → ℝ
  v : Fin 64 → Fin 256 → ℝ
  d : Fin 64 → Fin 256 → ℝ

/-- A state, or its gradient: key dimension by value dimension. -/
abbrev St := Fin 128 → Fin 256 → ℝ

namespace Blk

variable (b : Blk) (S G : St)

def bc (t : Fin 64) (k : Fin 128) : ℝ := ∑ j, if j ≤ t then b.a j k else 0
def bl (k : Fin 128) : ℝ := ∑ j, b.a j k
def ep (t : Fin 64) (k : Fin 128) : ℝ := Real.exp (b.bc t k)
def en (t : Fin 64) (k : Fin 128) : ℝ := Real.exp (-b.bc t k)
def dl (k : Fin 128) : ℝ := Real.exp (b.bl k)
def qf (t : Fin 64) (k : Fin 128) : ℝ := b.q t k * b.ep t k
def qb (t : Fin 64) (k : Fin 128) : ℝ := b.q t k * b.en t k
def kf (t : Fin 64) (k : Fin 128) : ℝ := b.k t k * b.en t k
def kb (t : Fin 64) (k : Fin 128) : ℝ := b.k t k * b.ep t k
def kd (t : Fin 64) (k : Fin 128) : ℝ := b.k t k * Real.exp (b.bl k - b.bc t k)
def sc (t s : Fin 64) : ℝ := if s ≤ t then ∑ k, b.qf t k * b.kf s k else ∑ k, b.qb t k * b.kb s k
def dp (t s : Fin 64) : ℝ := ∑ x, b.d t x * b.v s x
def dpf (t s : Fin 64) : ℝ := if s ≤ t then b.dp t s else 0
def dpb (t s : Fin 64) : ℝ := if s ≤ t then 0 else b.dp t s
/-- What the chunk adds to the state, and what it adds to the gradient of the state it starts from. -/
def kv (k : Fin 128) (x : Fin 256) : ℝ := ∑ s, b.kd s k * b.v s x
def dS (k : Fin 128) (x : Fin 256) : ℝ := ∑ t, b.d t x * b.qf t k
def dv (s : Fin 64) (x : Fin 256) : ℝ := (∑ t, b.sc t s * b.d t x) + ∑ k, (b.kf s k * b.dl k) * G k x
def dkd (s : Fin 64) (k : Fin 128) : ℝ := ∑ x, b.v s x * G k x
def dqf (t : Fin 64) (k : Fin 128) : ℝ := (∑ s, b.dpf t s * b.kf s k) + ∑ x, b.d t x * S k x
def dkf (s : Fin 64) (k : Fin 128) : ℝ := (∑ t, b.dpf t s * b.qf t k) + b.dkd G s k * b.dl k
def dqb (t : Fin 64) (k : Fin 128) : ℝ := ∑ s, b.dpb t s * b.kb s k
def dkb (s : Fin 64) (k : Fin 128) : ℝ := ∑ t, b.dpb t s * b.qb t k
def ddl (k : Fin 128) : ℝ := (∑ x, S k x * G k x) + ∑ t, b.kf t k * b.dkd G t k
/-- The gradient of the state before the chunk, from the gradient of the state after it. -/
def next (k : Fin 128) (x : Fin 256) : ℝ := G k x * b.dl k + b.dS k x
def dq (t : Fin 64) (k : Fin 128) : ℝ := b.dqf S t k * b.ep t k + b.dqb t k * b.en t k
def dk (t : Fin 64) (k : Fin 128) : ℝ := b.dkf G t k * b.en t k + b.dkb t k * b.ep t k
def db (t : Fin 64) (k : Fin 128) : ℝ :=
  b.dqf S t k * b.qf t k - b.dkf G t k * b.kf t k - b.dqb t k * b.qb t k + b.dkb t k * b.kb t k
    + if t = 63 then b.ddl S G k * b.dl k else 0
def dla (i : Fin 64) (k : Fin 128) : ℝ := ∑ j, if i ≤ j then b.db S G j k else 0

theorem en_mul_dl (t : Fin 64) (k : Fin 128) : b.en t k * b.dl k = Real.exp (b.bl k - b.bc t k) := by
  rw [en, dl, ← Real.exp_add]; congr 1; ring

theorem kf_mul_dl (t : Fin 64) (k : Fin 128) : b.kf t k * b.dl k = b.kd t k := by
  rw [kf, kd, ← en_mul_dl]; ring

theorem bc_last (k : Fin 128) : b.bc 63 k = b.bl k := by
  unfold bc bl
  exact Finset.sum_congr rfl fun j _ => if_pos (Fin.le_last j)

end Blk

/-! ## The chunks of one head -/

variable (B : Fin 32 → Blk)

/-- The log decay of the chunks strictly between `m` and `n`. -/
def lw (n m : Fin 32) (k : Fin 128) : ℝ := ∑ j, if m < j ∧ j < n then (B j).bl k else 0
def W (n m : Fin 32) (k : Fin 128) : ℝ := if m < n then Real.exp (lw B n m k) else 0
/-- The state chunk `n` starts from. -/
def S (n : Fin 32) : St := fun k x => ∑ m, (B m).kv k x * W B n m k
/-- The gradient of the state after chunk `n`. -/
def G (n : Fin 32) : St := fun k x => ∑ n', (B n').dS k x * W B n' n k
/-- The gradient of chunk `j`'s log decay that comes through the states. -/
def rb (j : Fin 32) (k : Fin 128) : ℝ :=
  ∑ n, ∑ m, if m < j ∧ j < n then
    (if m < n then ∑ x, (B n).dS k x * (B m).kv k x else 0) * Real.exp (lw B n m k) else 0

theorem G_last : G B 31 = fun _ _ => 0 := by
  funext k x
  unfold G
  refine Finset.sum_eq_zero fun n _ => ?_
  have : ¬ (31 : Fin 32) < n := by have := n.isLt; rw [Fin.lt_def]; show ¬ 31 < n.val; omega
  rw [W, if_neg this, mul_zero]

theorem lw_split {m j n : Fin 32} (h1 : m < j) (h2 : j < n) (k : Fin 128) :
    lw B n m k = lw B n j k + (B j).bl k + lw B j m k := by
  have hj : (B j).bl k = ∑ i, if i = j then (B i).bl k else 0 := by simp
  unfold lw
  rw [hj, ← Finset.sum_add_distrib, ← Finset.sum_add_distrib]
  refine Finset.sum_congr rfl fun i _ => ?_
  rcases lt_trichotomy i j with h | h | h
  · have a1 : ¬ (j < i ∧ i < n) := fun x => absurd (x.1.trans h) (lt_irrefl _)
    have a2 : i ≠ j := ne_of_lt h
    have a3 : i < n := h.trans h2
    simp [a1, a2, a3, h, not_lt_of_gt h]
  · subst h; simp [h1, h2]
  · have a1 : ¬ (m < i ∧ i < j) := fun x => absurd (x.2.trans h) (lt_irrefl _)
    have a2 : i ≠ j := (ne_of_lt h).symm
    have a3 : m < i := h1.trans h
    simp [a1, a2, a3, h, not_lt_of_gt h]

theorem W_split {m j n : Fin 32} (h1 : m < j) (h2 : j < n) (k : Fin 128) :
    Real.exp (lw B n m k) = W B n j k * (B j).dl k * W B j m k := by
  rw [W, if_pos h2, W, if_pos h1, lw_split B h1 h2, Real.exp_add, Real.exp_add, Blk.dl]

theorem lw_succ {m n : Fin 32} (h : n.val = m.val + 1) (k : Fin 128) : lw B n m k = 0 := by
  unfold lw
  refine Finset.sum_eq_zero fun i _ => if_neg ?_
  rintro ⟨a, b⟩
  rw [Fin.lt_def] at a b; omega

theorem G_prev {n p : Fin 32} (h : p.val = n.val + 1) : G B n = (B p).next (G B p) := by
  funext k x
  unfold Blk.next G
  have hp : (B p).dS k x = ∑ i, if i = p then (B i).dS k x else 0 := by simp
  rw [hp, Finset.sum_mul, ← Finset.sum_add_distrib]
  refine Finset.sum_congr rfl fun i _ => ?_
  have hnp : n < p := by rw [Fin.lt_def]; omega
  rcases lt_trichotomy i p with g | g | g
  · have a1 : ¬ n < i := by rw [Fin.lt_def] at g ⊢; omega
    have a2 : ¬ p < i := not_lt_of_gt g
    rw [W, W, if_neg a1, if_neg a2, if_neg (ne_of_lt g)]; ring
  · subst g
    rw [W, W, if_pos hnp, if_neg (lt_irrefl _), if_pos rfl, lw_succ B h, Real.exp_zero]; ring
  · rw [W, if_pos (hnp.trans g), W_split B hnp g, if_neg (ne_of_gt g)]
    rw [show W B p n k = 1 by rw [W, if_pos hnp, lw_succ B h, Real.exp_zero]]; ring

theorem rb_eq (j : Fin 32) (k : Fin 128) : rb B j k = (∑ x, S B j k x * G B j k x) * (B j).dl k := by
  have e : ∀ n m : Fin 32, (if m < j ∧ j < n then
      (if m < n then ∑ x, (B n).dS k x * (B m).kv k x else 0) * Real.exp (lw B n m k) else 0)
      = ∑ x, ((B m).kv k x * W B j m k) * ((B n).dS k x * W B n j k) * (B j).dl k := by
    intro n m
    split_ifs with h h'
    · rw [W_split B h.1 h.2, Finset.sum_mul]
      exact Finset.sum_congr rfl fun x _ => by ring
    · exact absurd (h.1.trans h.2) h'
    · symm
      refine Finset.sum_eq_zero fun x _ => ?_
      by_cases h1 : m < j
      · have h2 : ¬ j < n := fun x => h ⟨h1, x⟩
        rw [show W B n j k = 0 from if_neg h2]; ring
      · rw [show W B j m k = 0 from if_neg h1]; ring
  unfold rb
  simp only [e]
  rw [Finset.sum_mul]
  have : ∀ x, S B j k x * G B j k x * (B j).dl k
      = ∑ n, ∑ m, ((B m).kv k x * W B j m k) * ((B n).dS k x * W B n j k) * (B j).dl k := by
    intro x
    unfold S G
    rw [Finset.sum_mul_sum, Finset.sum_comm]
    simp only [Finset.sum_mul]
  simp only [this]
  rw [Finset.sum_comm]
  symm
  rw [Finset.sum_comm]
  symm
  rw [Finset.sum_comm]
  refine Finset.sum_congr rfl fun n _ => ?_
  rw [Finset.sum_comm]

/-! ## The reference's spelling of the results -/

namespace Blk

variable (b : Blk) (S G : St)

theorem dv_eq (s : Fin 64) (x : Fin 256) :
    (∑ k, G k x * b.kd s k) + ∑ t, b.d t x * b.sc t s = b.dv G s x := by
  unfold dv
  rw [add_comm]
  congr 1
  · exact Finset.sum_congr rfl fun _ _ => mul_comm _ _
  · exact Finset.sum_congr rfl fun k _ => by rw [kf_mul_dl, mul_comm]

theorem dk_eq (t : Fin 64) (k : Fin 128) :
    b.dkd G t k * Real.exp (b.bl k - b.bc t k)
      + (b.dkb t k * b.ep t k + (∑ s, b.dpf s t * b.qf s k) * b.en t k) = b.dk G t k := by
  rw [dk, dkf, ← en_mul_dl]; ring

/-- The log decays' gradient: the part through the chunk's total decay, and the part through the running sums. -/
theorem db_eq (t : Fin 64) (k : Fin 128) (r : ℝ) (hr : r = (∑ x, S k x * G k x) * b.dl k) :
    (-(b.k t k * b.dkd G t k * Real.exp (b.bl k - b.bc t k))
        + (if t = 63 then r + ∑ s, b.k s k * b.dkd G s k * Real.exp (b.bl k - b.bc s k) else 0))
      + (-((b.q t k * b.dqb t k + b.k t k * ∑ s, b.dpf s t * b.qf s k) * b.en t k)
        + (b.q t k * (∑ x, b.d t x * S k x) + b.k t k * b.dkb t k + b.q t k * ∑ s, b.dpf t s * b.kf s k) * b.ep t k)
      = b.db S G t k := by
  have e : (∑ s, b.k s k * b.dkd G s k * Real.exp (b.bl k - b.bc s k)) = (∑ s, b.kf s k * b.dkd G s k) * b.dl k := by
    rw [Finset.sum_mul]
    exact Finset.sum_congr rfl fun s _ => by rw [← en_mul_dl, kf]; ring
  rw [e, ← en_mul_dl, hr, db, ddl, dqf, dkf, qf, qb]
  simp only [show b.kf t k = b.k t k * b.en t k from rfl, show b.kb t k = b.k t k * b.ep t k from rfl]
  split_ifs <;> ring

theorem dla_eq (i : Fin 64) (k : Fin 128) (f g : Fin 64 → ℝ) (h : ∀ t, f t + g t = b.db S G t k) :
    (∑ j, if i ≤ j then f j else 0) + (∑ j, if i ≤ j then g j else 0) = b.dla S G i k := by
  unfold dla
  rw [← Finset.sum_add_distrib]
  refine Finset.sum_congr rfl fun j _ => ?_
  rw [← h]; split_ifs <;> simp

end Blk

end Cert.Gla

end
-- ==== Proof.HostSums.lean ====
/- The host's running sums and its sum over two axes, read at an index over the extended reals, and the extended reals'
   arithmetic on real numbers: what reads one program's arrays as arrays of reals. -/
module

public import Idealize.ShloMosaic.Lib.Pipeline.Value
public import Idealize.ShloMosaic.Lib.ValueIdx
public import Idealize.ShloMosaic.Lib.IdealHost
public import Idealize.ShloMosaic.PureOps.Ideal.Laws

@[expose] public section

noncomputable section

namespace Cert.Gla

open Idealize.ShloMosaic

/-! ## Reals among the extended reals -/

theorem sum_coe {ι : Type} [Fintype ι] (f : ι → ℝ) : (∑ k, ((f k : ℝ) : EReal)) = ((∑ k, f k : ℝ) : EReal) := by
  classical
  have : ∀ s : Finset ι, (∑ k ∈ s, ((f k : ℝ) : EReal)) = ((∑ k ∈ s, f k : ℝ) : EReal) := by
    intro s
    induction s using Finset.induction_on with
    | empty => simp
    | insert a s ha ih => rw [Finset.sum_insert ha, Finset.sum_insert ha, ih, EReal.coe_add]
  exact this _

theorem sum_mul_coe {ι : Type} [Fintype ι] (f g : ι → ℝ) :
    (∑ k, ((f k : ℝ) : EReal) * ((g k : ℝ) : EReal)) = ((∑ k, f k * g k : ℝ) : EReal) := by
  simp only [← EReal.coe_mul, sum_coe]

theorem ite_coe (p : Prop) [Decidable p] (x y : ℝ) :
    (if p then ((x : ℝ) : EReal) else ((y : ℝ) : EReal)) = ((if p then x else y : ℝ) : EReal) := by
  split <;> rfl

theorem exp_coe (x : ℝ) : Ideal.exp ((x : ℝ) : EReal) = ((Real.exp x : ℝ) : EReal) := rfl

theorem coe_toReal {x : EReal} (h : x ≠ ⊤) (h' : x ≠ ⊥) : ((x.toReal : ℝ) : EReal) = x := EReal.coe_toReal h h'

/-- The scale of the queries, the number nearest `128 ^ (-1/2)`. -/
def scale : ℝ := (Ideal.ofBits .f32 0x3DB504F3#32).toReal

theorem scale_eq : Ideal.ofBits .f32 0x3DB504F3#32 = ((scale : ℝ) : EReal) := by
  unfold scale
  simp [Ideal.ofBits, Ideal.ieee, -EReal.coe_mul]

/-! ## Running sums along the second of four axes -/

abbrev S4 : Shape := ⟨4, ![32, 64, 4, 128]⟩
abbrev Win : Shape := ⟨4, ![1, 64, 1, 1]⟩

/-- The index with its second coordinate replaced. -/
abbrev at1 (i : S4.Idx) (j : Fin 64) : S4.Idx := fun a => match a with
  | ⟨0, _⟩ => ⟨(i 0).val, (i 0).isLt⟩
  | ⟨1, _⟩ => ⟨j.val, j.isLt⟩
  | ⟨2, _⟩ => ⟨(i 2).val, (i 2).isLt⟩
  | ⟨3, _⟩ => ⟨(i 3).val, (i 3).isLt⟩

def winEquiv : Win.Idx ≃ Fin 64 where
  toFun q := ⟨(q 1).val, (q 1).isLt⟩
  invFun j := fun a => match a with
    | ⟨0, _⟩ => ⟨0, Nat.one_pos⟩
    | ⟨1, _⟩ => ⟨j.val, j.isLt⟩
    | ⟨2, _⟩ => ⟨0, Nat.one_pos⟩
    | ⟨3, _⟩ => ⟨0, Nat.one_pos⟩
  left_inv q := funext fun a => Fin.ext (by
    match a with
    | ⟨0, _⟩ => have h : (q 0).val < 1 := (q 0).isLt; show 0 = (q 0).val; omega
    | ⟨1, _⟩ => rfl
    | ⟨2, _⟩ => have h : (q 2).val < 1 := (q 2).isLt; show 0 = (q 2).val; omega
    | ⟨3, _⟩ => have h : (q 3).val < 1 := (q 3).isLt; show 0 = (q 3).val; omega)
  right_inv _ := rfl

theorem foldl_add {ι : Type} (g : ι → EReal) (l : List ι) (v : EReal) :
    l.foldl (fun r n => r + g n) v = v + (l.map g).sum := by
  induction l generalizing v with
  | nil => simp
  | cons a l ih => rw [List.foldl_cons, ih, List.map_cons, List.sum_cons, add_assoc]

theorem fold_window (f : EReal → Fin Win.numel → EReal) (g : Fin 64 → EReal)
    (hf : ∀ r n, f r n = r + g (winEquiv (Win.rowMajor.symm n))) :
    (List.finRange Win.numel).foldl f 0 = ∑ w : Fin 64, g w := by
  rw [show f = fun r n => r + g (winEquiv (Win.rowMajor.symm n)) from funext fun r => funext fun n => hf r n,
    foldl_add (fun n => g (winEquiv (Win.rowMajor.symm n))), zero_add, ← Fin.sum_univ_def,
    Equiv.sum_comp Win.rowMajor.symm (fun q => g (winEquiv q)), Equiv.sum_comp winEquiv g]

theorem cumsum_apply (h : S4.ReduceWindows (![1, 64, 1, 1] : Fin 4 → Nat) ![1, 1, 1, 1] ![0, 63, 0, 0] ![0, 0, 0, 0] S4)
    (x : S4.Idx → EReal) (i : S4.Idx) :
    Ideal.hostReduceWindowAdd ![1, 64, 1, 1] ![1, 1, 1, 1] ![0, 63, 0, 0] ![0, 0, 0, 0] h x 0 i
      = ∑ j : Fin 64, if j.val ≤ (i 1).val then x (at1 i j) else 0 := by
  have h0 : (i 0).val < 32 := (i 0).isLt
  have h1 : (i 1).val < 64 := (i 1).isLt
  have h2 : (i 2).val < 4 := (i 2).isLt
  have h3 : (i 3).val < 128 := (i 3).isLt
  unfold Ideal.hostReduceWindowAdd Host.reduceWindow
  refine (fold_window _ (fun w => if 63 ≤ (i 1).val + w.val then x (at1 i ⟨((i 1).val + w.val - 63) % 64, Nat.mod_lt _ (by decide)⟩) else 0) ?_).trans ?_
  · intro r n
    refine congrArg (r + ·) ?_
    have q0 : (Win.rowMajor.symm n 0).val < 1 := (Win.rowMajor.symm n 0).isLt
    have q1 : (Win.rowMajor.symm n 1).val < 64 := (Win.rowMajor.symm n 1).isLt
    have q2 : (Win.rowMajor.symm n 2).val < 1 := (Win.rowMajor.symm n 2).isLt
    have q3 : (Win.rowMajor.symm n 3).val < 1 := (Win.rowMajor.symm n 3).isLt
    have hw : (winEquiv (Win.rowMajor.symm n)).val = (Win.rowMajor.symm n 1).val := rfl
    rw [hw]
    split
    · next hin =>
      have hq : 63 ≤ (i 1).val * 1 + (Win.rowMajor.symm n 1).val ∧ (i 1).val * 1 + (Win.rowMajor.symm n 1).val - 63 < 64 := hin 1
      rw [if_pos (by omega)]
      refine congrArg x (funext fun a => Fin.ext ?_)
      match a with
      | ⟨0, _⟩ => show (i 0).val * 1 + (Win.rowMajor.symm n 0).val - 0 = (i 0).val; omega
      | ⟨1, _⟩ => show (i 1).val * 1 + (Win.rowMajor.symm n 1).val - 63 = ((i 1).val + (Win.rowMajor.symm n 1).val - 63) % 64; omega
      | ⟨2, _⟩ => show (i 2).val * 1 + (Win.rowMajor.symm n 2).val - 0 = (i 2).val; omega
      | ⟨3, _⟩ => show (i 3).val * 1 + (Win.rowMajor.symm n 3).val - 0 = (i 3).val; omega
    · next hin =>
      rw [if_neg fun hle => hin fun a => by
        match a with
        | ⟨0, _⟩ => show 0 ≤ (i 0).val * 1 + (Win.rowMajor.symm n 0).val ∧ (i 0).val * 1 + (Win.rowMajor.symm n 0).val - 0 < 32; omega
        | ⟨1, _⟩ => show 63 ≤ (i 1).val * 1 + (Win.rowMajor.symm n 1).val ∧ (i 1).val * 1 + (Win.rowMajor.symm n 1).val - 63 < 64; omega
        | ⟨2, _⟩ => show 0 ≤ (i 2).val * 1 + (Win.rowMajor.symm n 2).val ∧ (i 2).val * 1 + (Win.rowMajor.symm n 2).val - 0 < 4; omega
        | ⟨3, _⟩ => show 0 ≤ (i 3).val * 1 + (Win.rowMajor.symm n 3).val ∧ (i 3).val * 1 + (Win.rowMajor.symm n 3).val - 0 < 128; omega]
  · rw [← Finset.sum_filter, ← Finset.sum_filter]
    refine Finset.sum_bij' (fun w _ => ⟨((i 1).val + w.val - 63) % 64, Nat.mod_lt _ (by decide)⟩)
      (fun j _ => ⟨(j.val + 63 - (i 1).val) % 64, Nat.mod_lt _ (by decide)⟩) ?_ ?_ ?_ ?_ ?_
    · intro w hw; have := (Finset.mem_filter.mp hw).2; have := w.isLt; rw [Finset.mem_filter]
      exact ⟨Finset.mem_univ _, by show ((i 1).val + w.val - 63) % 64 ≤ (i 1).val; omega⟩
    · intro j hj; have := (Finset.mem_filter.mp hj).2; have := j.isLt; rw [Finset.mem_filter]
      exact ⟨Finset.mem_univ _, by show 63 ≤ (i 1).val + (j.val + 63 - (i 1).val) % 64; omega⟩
    · intro w hw; have := (Finset.mem_filter.mp hw).2; have := w.isLt
      exact Fin.ext (by show (((i 1).val + w.val - 63) % 64 + 63 - (i 1).val) % 64 = w.val; omega)
    · intro j hj; have := (Finset.mem_filter.mp hj).2; have := j.isLt
      exact Fin.ext (by show ((i 1).val + (j.val + 63 - (i 1).val) % 64 - 63) % 64 = j.val; omega)
    · intro w _; rfl

theorem revcumsum_apply (h : S4.ReduceWindows (![1, 64, 1, 1] : Fin 4 → Nat) ![1, 1, 1, 1] ![0, 0, 0, 0] ![0, 63, 0, 0] S4)
    (x : S4.Idx → EReal) (i : S4.Idx) :
    Ideal.hostReduceWindowAdd ![1, 64, 1, 1] ![1, 1, 1, 1] ![0, 0, 0, 0] ![0, 63, 0, 0] h x 0 i
      = ∑ j : Fin 64, if (i 1).val ≤ j.val then x (at1 i j) else 0 := by
  have h0 : (i 0).val < 32 := (i 0).isLt
  have h1 : (i 1).val < 64 := (i 1).isLt
  have h2 : (i 2).val < 4 := (i 2).isLt
  have h3 : (i 3).val < 128 := (i 3).isLt
  unfold Ideal.hostReduceWindowAdd Host.reduceWindow
  refine (fold_window _ (fun w => if (i 1).val + w.val < 64 then x (at1 i ⟨((i 1).val + w.val) % 64, Nat.mod_lt _ (by decide)⟩) else 0) ?_).trans ?_
  · intro r n
    refine congrArg (r + ·) ?_
    have q0 : (Win.rowMajor.symm n 0).val < 1 := (Win.rowMajor.symm n 0).isLt
    have q1 : (Win.rowMajor.symm n 1).val < 64 := (Win.rowMajor.symm n 1).isLt
    have q2 : (Win.rowMajor.symm n 2).val < 1 := (Win.rowMajor.symm n 2).isLt
    have q3 : (Win.rowMajor.symm n 3).val < 1 := (Win.rowMajor.symm n 3).isLt
    have hw : (winEquiv (Win.rowMajor.symm n)).val = (Win.rowMajor.symm n 1).val := rfl
    rw [hw]
    split
    · next hin =>
      have hq : 0 ≤ (i 1).val * 1 + (Win.rowMajor.symm n 1).val ∧ (i 1).val * 1 + (Win.rowMajor.symm n 1).val - 0 < 64 := hin 1
      rw [if_pos (by omega)]
      refine congrArg x (funext fun a => Fin.ext ?_)
      match a with
      | ⟨0, _⟩ => show (i 0).val * 1 + (Win.rowMajor.symm n 0).val - 0 = (i 0).val; omega
      | ⟨1, _⟩ => show (i 1).val * 1 + (Win.rowMajor.symm n 1).val - 0 = ((i 1).val + (Win.rowMajor.symm n 1).val) % 64; omega
      | ⟨2, _⟩ => show (i 2).val * 1 + (Win.rowMajor.symm n 2).val - 0 = (i 2).val; omega
      | ⟨3, _⟩ => show (i 3).val * 1 + (Win.rowMajor.symm n 3).val - 0 = (i 3).val; omega
    · next hin =>
      rw [if_neg fun hle => hin fun a => by
        match a with
        | ⟨0, _⟩ => show 0 ≤ (i 0).val * 1 + (Win.rowMajor.symm n 0).val ∧ (i 0).val * 1 + (Win.rowMajor.symm n 0).val - 0 < 32; omega
        | ⟨1, _⟩ => show 0 ≤ (i 1).val * 1 + (Win.rowMajor.symm n 1).val ∧ (i 1).val * 1 + (Win.rowMajor.symm n 1).val - 0 < 64; omega
        | ⟨2, _⟩ => show 0 ≤ (i 2).val * 1 + (Win.rowMajor.symm n 2).val ∧ (i 2).val * 1 + (Win.rowMajor.symm n 2).val - 0 < 4; omega
        | ⟨3, _⟩ => show 0 ≤ (i 3).val * 1 + (Win.rowMajor.symm n 3).val ∧ (i 3).val * 1 + (Win.rowMajor.symm n 3).val - 0 < 128; omega]
  · rw [← Finset.sum_filter, ← Finset.sum_filter]
    refine Finset.sum_bij' (fun w _ => ⟨((i 1).val + w.val) % 64, Nat.mod_lt _ (by decide)⟩)
      (fun j _ => ⟨(j.val - (i 1).val) % 64, Nat.mod_lt _ (by decide)⟩) ?_ ?_ ?_ ?_ ?_
    · intro w hw; have := (Finset.mem_filter.mp hw).2; have := w.isLt; rw [Finset.mem_filter]
      exact ⟨Finset.mem_univ _, by show (i 1).val ≤ ((i 1).val + w.val) % 64; omega⟩
    · intro j hj; have := (Finset.mem_filter.mp hj).2; have := j.isLt; rw [Finset.mem_filter]
      exact ⟨Finset.mem_univ _, by show (i 1).val + (j.val - (i 1).val) % 64 < 64; omega⟩
    · intro w hw; have := (Finset.mem_filter.mp hw).2; have := w.isLt
      exact Fin.ext (by show (((i 1).val + w.val) % 64 - (i 1).val) % 64 = w.val; omega)
    · intro j hj; have := (Finset.mem_filter.mp hj).2; have := j.isLt
      exact Fin.ext (by show ((i 1).val + (j.val - (i 1).val) % 64) % 64 = j.val; omega)
    · intro w _; rfl

/-! ## A sum over the two leading axes of five -/

abbrev S5 : Shape := ⟨5, ![32, 32, 32, 4, 128]⟩
abbrev S3 : Shape := ⟨3, ![32, 4, 128]⟩

abbrev at5 (j : S3.Idx) (n m : Fin 32) : S5.Idx := fun a => match a with
  | ⟨0, _⟩ => ⟨n.val, n.isLt⟩
  | ⟨1, _⟩ => ⟨m.val, m.isLt⟩
  | ⟨2, _⟩ => ⟨(j 0).val, (j 0).isLt⟩
  | ⟨3, _⟩ => ⟨(j 1).val, (j 1).isLt⟩
  | ⟨4, _⟩ => ⟨(j 2).val, (j 2).isLt⟩

theorem sum_two_axes (h : S5.ReducesTo [0, 1] S3) (x : S5.Idx → EReal) (j : S3.Idx) :
    Ideal.hostReduceAdd h x 0 j = ∑ n : Fin 32, ∑ m : Fin 32, x (at5 j n m) := by
  unfold Ideal.hostReduceAdd
  rw [zero_add, ← Finset.sum_product' Finset.univ Finset.univ (fun n m : Fin 32 => x (at5 j n m))]
  refine Finset.sum_bij' (fun (i : S5.Idx) _ => ((⟨(i 0).val, (i 0).isLt⟩ : Fin 32), (⟨(i 1).val, (i 1).isLt⟩ : Fin 32)))
    (fun p _ => at5 j p.1 p.2) ?_ ?_ ?_ ?_ ?_
  · intro i _; exact Finset.mem_product.mpr ⟨Finset.mem_univ _, Finset.mem_univ _⟩
  · intro p _
    rw [Finset.mem_filter]
    refine ⟨Finset.mem_univ _, funext fun a => Fin.ext ?_⟩
    match a with
    | ⟨0, _⟩ => rfl
    | ⟨1, _⟩ => rfl
    | ⟨2, _⟩ => rfl
  · intro i hi
    have e := (Finset.mem_filter.mp hi).2
    subst e
    refine funext fun a => Fin.ext ?_
    match a with
    | ⟨0, _⟩ => rfl
    | ⟨1, _⟩ => rfl
    | ⟨2, _⟩ => rfl
    | ⟨3, _⟩ => rfl
    | ⟨4, _⟩ => rfl
  · intro p _; rfl
  · intro i hi
    have e := (Finset.mem_filter.mp hi).2
    subst e
    refine congrArg x (funext fun a => Fin.ext ?_)
    match a with
    | ⟨0, _⟩ => rfl
    | ⟨1, _⟩ => rfl
    | ⟨2, _⟩ => rfl
    | ⟨3, _⟩ => rfl
    | ⟨4, _⟩ => rfl

end Cert.Gla

end
-- ==== Proof.RefRead.lean ====
/- The reference's gradient of gated linear attention, read at an index as a real number: with finite arguments every
   array of it is an array of reals, and each is one of the real expressions of `Chunk.lean` for the index's head and
   chunk. -/
module

public import proofs.«01_k».proof.Proof.Gen.ReferenceIdeal.Read
public import proofs.«01_k».proof.Proof.Chunk
public import proofs.«01_k».proof.Proof.HostSums
public import Idealize.ShloMosaic.Lib.WordCmp
public import Idealize.ShloMosaic.Lib.KernelVsHost
public import Idealize.ShloMosaic.Lib.Pointwise.ShapeOpsCore

@[expose] public section

noncomputable section

namespace Cert.Gla

open Idealize.ShloMosaic

/-! ## Sums and products of reals among the extended reals -/

theorem mul_r {a b : EReal} {x y : ℝ} (ha : a = x) (hb : b = y) : a * b = ((x * y : ℝ) : EReal) := by
  rw [ha, hb, EReal.coe_mul]
theorem add_r {a b : EReal} {x y : ℝ} (ha : a = x) (hb : b = y) : a + b = ((x + y : ℝ) : EReal) := by
  rw [ha, hb, EReal.coe_add]
theorem sub_r {a b : EReal} {x y : ℝ} (ha : a = x) (hb : b = y) : a - b = ((x - y : ℝ) : EReal) := by
  rw [ha, hb, EReal.coe_sub]
theorem neg_r {a : EReal} {x : ℝ} (ha : a = x) : -a = ((-x : ℝ) : EReal) := by
  rw [ha, EReal.coe_neg]
theorem exp_r {a : EReal} {x : ℝ} (ha : a = x) : Ideal.exp a = ((Real.exp x : ℝ) : EReal) := by
  rw [ha, exp_coe]
theorem sum_r {ι : Type} [Fintype ι] {f : ι → EReal} {x : ι → ℝ} (h : ∀ k, f k = x k) :
    (∑ k, f k) = ((∑ k, x k : ℝ) : EReal) := by
  rw [Finset.sum_congr rfl fun k _ => h k, sum_coe]
theorem dot_r {ι : Type} [Fintype ι] {f g : ι → EReal} {x y : ι → ℝ} (hf : ∀ k, f k = x k) (hg : ∀ k, g k = y k) :
    (∑ k, f k * g k) = ((∑ k, x k * y k : ℝ) : EReal) :=
  sum_r fun k => mul_r (hf k) (hg k)
theorem ite_r {p : Prop} [Decidable p] {a b : EReal} {x y : ℝ} (ha : a = x) (hb : b = y) :
    (if p then a else b) = ((if p then x else y : ℝ) : EReal) := by
  rw [ha, hb, ite_coe]
theorem select_r {p : Prop} [Decidable p] {c : BitVec 1} {a b : EReal} {x y : ℝ} (hc : c = BitVec.ofBool (decide p))
    (ha : a = x) (hb : b = y) : Scalar.select c a b = ((if p then x else y : ℝ) : EReal) := by
  unfold Scalar.select
  by_cases hp : p
  · rw [hc, if_pos (by simp [hp]), if_pos hp, ha]
  · rw [hc, if_neg (by simp [hp]), if_neg hp, hb]
theorem zero_r : Ideal.ofBits .f32 0x00000000#32 = ((0 : ℝ) : EReal) := by
  rw [Ideal.ofBits_zero_f32, EReal.coe_zero]

/-! ## The arguments as reals -/

/-- The step's arguments: the projections' output, the log decays and the output's cotangent. -/
structure Inputs where
  Z : Fin 2048 → Fin 5632 → ℝ
  A : Fin 2048 → Fin 512 → ℝ
  C : Fin 2048 → Fin 1024 → ℝ

/-- Row `t` of chunk `n`. -/
abbrev row (n : Fin 32) (t : Fin 64) : Fin 2048 := ⟨n.val * 64 + t.val, by omega⟩

/-- Head `h`'s rows of chunk `n`, the queries scaled. -/
def Inputs.blk (I : Inputs) (h : Fin 4) (n : Fin 32) : Blk where
  q := fun t k => I.Z (row n t) ⟨h.val * 128 + k.val, by omega⟩ * scale
  k := fun t k => I.Z (row n t) ⟨512 + (h.val * 128 + k.val), by omega⟩
  a := fun t k => I.A (row n t) ⟨h.val * 128 + k.val, by omega⟩
  v := fun t x => I.Z (row n t) ⟨1024 + (h.val * 256 + x.val), by omega⟩
  d := fun t x => I.C (row n t) ⟨h.val * 256 + x.val, by omega⟩

/-! ### The results -/

abbrev chunkOf (r : Fin 2048) : Fin 32 := ⟨r.val / 64, by omega⟩
abbrev rowOf (r : Fin 2048) : Fin 64 := ⟨r.val % 64, by omega⟩

/-- The gradients of the scaled queries, of the keys, of the values and of the log decays. -/
def Inputs.dq (I : Inputs) (r : Fin 2048) (c : Fin 512) : ℝ :=
  (I.blk ⟨c.val / 128, by omega⟩ (chunkOf r)).dq (S (I.blk ⟨c.val / 128, by omega⟩) (chunkOf r)) (rowOf r) ⟨c.val % 128, by omega⟩ * scale
def Inputs.dk (I : Inputs) (r : Fin 2048) (c : Fin 512) : ℝ :=
  (I.blk ⟨c.val / 128, by omega⟩ (chunkOf r)).dk (G (I.blk ⟨c.val / 128, by omega⟩) (chunkOf r)) (rowOf r) ⟨c.val % 128, by omega⟩
def Inputs.dv (I : Inputs) (r : Fin 2048) (c : Fin 1024) : ℝ :=
  (I.blk ⟨c.val / 256, by omega⟩ (chunkOf r)).dv (G (I.blk ⟨c.val / 256, by omega⟩) (chunkOf r)) (rowOf r) ⟨c.val % 256, by omega⟩
def Inputs.dla (I : Inputs) (r : Fin 2048) (c : Fin 512) : ℝ :=
  (I.blk ⟨c.val / 128, by omega⟩ (chunkOf r)).dla (S (I.blk ⟨c.val / 128, by omega⟩) (chunkOf r))
    (G (I.blk ⟨c.val / 128, by omega⟩) (chunkOf r)) (rowOf r) ⟨c.val % 128, by omega⟩

/-- The packed gradient: the queries', keys' and values' columns, then the columns of `dz` passed through. -/
def Inputs.packed (I : Inputs) (dz : (⟨2, ![2048, 5760]⟩ : Shape).Idx → EReal) (i : (⟨2, ![2048, 5760]⟩ : Shape).Idx) : EReal :=
  if c3 : (i 1).val < 2048 then
    if c1 : (i 1).val < 512 then ((I.dq (i 0) ⟨(i 1).val, c1⟩ : ℝ) : EReal)
    else if c2 : (i 1).val < 1024 then ((I.dk (i 0) ⟨(i 1).val - 512, by omega⟩ : ℝ) : EReal)
    else ((I.dv (i 0) ⟨(i 1).val - 1024, by omega⟩ : ℝ) : EReal)
  else dz i

end Cert.Gla

namespace Cert.ReferenceIdeal.Lift

open Cert.ReferenceIdeal Cert.ReferenceIdeal.Gen Cert.ReferenceIdeal.Read Cert.Gla Idealize.ShloMosaic Idealize.ShloMosaic.StableHlo

/-- The arguments hold the reals of `I`. -/
structure Reads (x1 : (⟨S2048x5632, .bf16⟩ : BufTy).Contents (Elt Ideal)) (x2 : (⟨S2048x512, .f32⟩ : BufTy).Contents (Elt Ideal))
    (x3 : (⟨S2048x1024, .bf16⟩ : BufTy).Contents (Elt Ideal)) (I : Inputs) : Prop where
  z : ∀ i : S2048x5632.Idx, (x1 i : EReal) = ((I.Z (i 0) (i 1) : ℝ) : EReal)
  a : ∀ i : S2048x512.Idx, (x2 i : EReal) = ((I.A (i 0) (i 1) : ℝ) : EReal)
  c : ∀ i : S2048x1024.Idx, (x3 i : EReal) = ((I.C (i 0) (i 1) : ℝ) : EReal)

variable {x1 : (⟨S2048x5632, .bf16⟩ : BufTy).Contents (Elt Ideal)} {x2 : (⟨S2048x512, .f32⟩ : BufTy).Contents (Elt Ideal)}
    {x3 : (⟨S2048x1024, .bf16⟩ : BufTy).Contents (Elt Ideal)} {I : Inputs} (H : Reads x1 x2 x3 I)

/-- Rows and columns of a four-axis index: the chunk and row split of the rows, the head split of the columns. -/
theorem split4 {w : Nat} {a b c d : Nat} (hb : b < 64) (hc : c < 4) (hd : d < w) (hw : 0 < w) :
    (((a * 64 + b) * 4 + c) * w + d) / (4 * w) = a * 64 + b ∧ (((a * 64 + b) * 4 + c) * w + d) % (4 * w) = c * w + d := by
  have e : ((a * 64 + b) * 4 + c) * w + d = (c * w + d) + (4 * w) * (a * 64 + b) := by ring
  have l : c * w + d < 4 * w := by
    have : (c + 1) * w ≤ 4 * w := Nat.mul_le_mul_right _ hc
    rw [Nat.add_mul, one_mul] at this; omega
  rw [e, Nat.add_mul_div_left _ _ (by omega), Nat.div_eq_of_lt l, Nat.add_mul_mod_self_left, Nat.mod_eq_of_lt l]
  exact ⟨by omega, rfl⟩

/-- The two-axis index of a row and a column. -/
abbrev col2 {w : Nat} (r : Fin 2048) (c : Fin w) : (⟨2, ![2048, w]⟩ : Shape).Idx := fun a => match a with
  | ⟨0, _⟩ => r
  | ⟨1, _⟩ => c

/-- The four-axis index of a row and a column, where a column is one of four heads of 128. -/
theorem unflat128 (i : S2048x512.Idx) (j : S32x64x4x128.Idx) (e0 : (j 0).val = ((i 0).val * 512 + (i 1).val) / 32768)
    (e1 : (j 1).val = ((i 0).val * 512 + (i 1).val) / 512 % 64) (e2 : (j 2).val = ((i 0).val * 512 + (i 1).val) / 128 % 4)
    (e3 : (j 3).val = ((i 0).val * 512 + (i 1).val) % 128) :
    j = (fun a => match a with
      | ⟨0, _⟩ => ⟨(i 0).val / 64, by have h : (i 0).val < 2048 := (i 0).isLt; show (i 0).val / 64 < 32; omega⟩
      | ⟨1, _⟩ => ⟨(i 0).val % 64, Nat.mod_lt _ (by decide)⟩
      | ⟨2, _⟩ => ⟨(i 1).val / 128, by have h : (i 1).val < 512 := (i 1).isLt; show (i 1).val / 128 < 4; omega⟩
      | ⟨3, _⟩ => ⟨(i 1).val % 128, Nat.mod_lt _ (by decide)⟩) := by
  have h1 : (i 1).val < 512 := (i 1).isLt
  refine funext fun a => Fin.ext ?_
  match a with
  | ⟨0, _⟩ => show (j 0).val = (i 0).val / 64; omega
  | ⟨1, _⟩ => show (j 1).val = (i 0).val % 64; omega
  | ⟨2, _⟩ => show (j 2).val = (i 1).val / 128; omega
  | ⟨3, _⟩ => show (j 3).val = (i 1).val % 128; omega
/-- The same where a column is one of four heads of 256. -/
theorem unflat256 (i : S2048x1024.Idx) (j : S32x64x4x256.Idx) (e0 : (j 0).val = ((i 0).val * 1024 + (i 1).val) / 65536)
    (e1 : (j 1).val = ((i 0).val * 1024 + (i 1).val) / 1024 % 64) (e2 : (j 2).val = ((i 0).val * 1024 + (i 1).val) / 256 % 4)
    (e3 : (j 3).val = ((i 0).val * 1024 + (i 1).val) % 256) :
    j = (fun a => match a with
      | ⟨0, _⟩ => ⟨(i 0).val / 64, by have h : (i 0).val < 2048 := (i 0).isLt; show (i 0).val / 64 < 32; omega⟩
      | ⟨1, _⟩ => ⟨(i 0).val % 64, Nat.mod_lt _ (by decide)⟩
      | ⟨2, _⟩ => ⟨(i 1).val / 256, by have h : (i 1).val < 1024 := (i 1).isLt; show (i 1).val / 256 < 4; omega⟩
      | ⟨3, _⟩ => ⟨(i 1).val % 256, Nat.mod_lt _ (by decide)⟩) := by
  have h1 : (i 1).val < 1024 := (i 1).isLt
  refine funext fun a => Fin.ext ?_
  match a with
  | ⟨0, _⟩ => show (j 0).val = (i 0).val / 64; omega
  | ⟨1, _⟩ => show (j 1).val = (i 0).val % 64; omega
  | ⟨2, _⟩ => show (j 2).val = (i 1).val / 256; omega
  | ⟨3, _⟩ => show (j 3).val = (i 1).val % 256; omega

include H

theorem r1 (i) : (val_main_v1 (F := Ideal) x1 i : EReal) = ((I.Z (i 0) ⟨(i 1).val, by have h : (i 1).val < 512 := (i 1).isLt; omega⟩ : ℝ) : EReal) := by
  rw [val_main_v1_apply, val_main_v0_apply]; exact H.z _
theorem r2 (i) : (val_main_v2 (F := Ideal) x1 i : EReal) = ((I.Z (i 0) ⟨512 + (i 1).val, by have h : (i 1).val < 512 := (i 1).isLt; omega⟩ : ℝ) : EReal) := by
  rw [val_main_v2_apply, val_main_v0_apply]; exact H.z _
theorem r3 (i) : (val_main_v3 (F := Ideal) x1 i : EReal) = ((I.Z (i 0) ⟨1024 + (i 1).val, by have h : (i 1).val < 1024 := (i 1).isLt; omega⟩ : ℝ) : EReal) := by
  rw [val_main_v3_apply, val_main_v0_apply]; exact H.z _

theorem a_of (i : S32x64x4x128.Idx) (j : S2048x512.Idx)
    (h0 : (j 0).val = ((((i 0).val * 64 + (i 1).val) * 4 + (i 2).val) * 128 + (i 3).val) / 512)
    (h1 : (j 1).val = ((((i 0).val * 64 + (i 1).val) * 4 + (i 2).val) * 128 + (i 3).val) % 512) :
    (x2 j : EReal) = (((I.blk (i 2) (i 0)).a (i 1) (i 3) : ℝ) : EReal) := by
  have s := split4 (a := (i 0).val) (i 1).isLt (i 2).isLt (i 3).isLt (show 0 < 128 by decide)
  rw [H.a]
  exact congrArg _ (congrArg₂ I.A (Fin.ext (h0.trans s.1)) (Fin.ext (h1.trans s.2)))

theorem r4 (i) : (val_main_v4 (F := Ideal) x2 i : EReal) = (((I.blk (i 2) (i 0)).a (i 1) (i 3) : ℝ) : EReal) := by
  rw [val_main_v4_apply]; exact a_of H i _ rfl rfl
theorem r29 (i) : (val_main_v29 (F := Ideal) x2 i : EReal) = (((I.blk (i 2) (i 0)).a (i 1) (i 3) : ℝ) : EReal) := by
  rw [val_main_v29_apply]; exact a_of H i _ rfl rfl

omit H in
theorem init0 (j) : (val_main_call0_call0_v0 (F := Ideal) j : EReal) = 0 := by
  rw [val_main_call0_call0_v0_apply, val_main_call0_call0_cst_apply]; exact Ideal.ofBits_zero_f32
omit H in
theorem init3 (j) : (val_main_call3_call0_v0 (F := Ideal) j : EReal) = 0 := by
  rw [val_main_call3_call0_v0_apply, val_main_call3_call0_cst_apply]; exact Ideal.ofBits_zero_f32
omit H in
theorem init8 (j) : (val_main_call8_call0_v0 (F := Ideal) j : EReal) = 0 := by
  rw [val_main_call8_call0_v0_apply, val_main_call8_call0_cst_apply]; exact Ideal.ofBits_zero_f32
omit H in
theorem init10 (j) : (val_main_call10_call0_v0 (F := Ideal) j : EReal) = 0 := by
  rw [val_main_call10_call0_v0_apply, val_main_call10_call0_cst_apply]; exact Ideal.ofBits_zero_f32

theorem r5 (i) : (val_main_v5 (F := Ideal) x2 i : EReal) = (((I.blk (i 2) (i 0)).bc (i 1) (i 3) : ℝ) : EReal) := by
  unfold val_main_v5 Host.reduceWindowAdd
  rw [Ideal.hostReduceWindowAdd_def, init0]
  refine (cumsum_apply _ (val_main_v4 (F := Ideal) x2) i).trans ?_
  exact sum_r fun j => ite_r (r4 H (at1 i j)) EReal.coe_zero.symm
theorem r30 (i) : (val_main_v30 (F := Ideal) x2 i : EReal) = (((I.blk (i 2) (i 0)).bc (i 1) (i 3) : ℝ) : EReal) := by
  unfold val_main_v30 Host.reduceWindowAdd
  rw [Ideal.hostReduceWindowAdd_def, init3]
  refine (cumsum_apply _ (val_main_v29 (F := Ideal) x2) i).trans ?_
  exact sum_r fun j => ite_r (r29 H (at1 i j)) EReal.coe_zero.symm

/-! ### The chunks' arrays -/

theorem z_of (f : Fin 5632 → ℝ) (r : Fin 2048) (c c' : Fin 5632) (h : c.val = c'.val) (hf : f = I.Z r) : f c = I.Z r c' := by
  rw [hf, Fin.ext h]

theorem r9 (i) : (val_main_v9 (F := Ideal) x1 i : EReal)
    = ((I.Z (i 0) ⟨(i 1).val, by have h : (i 1).val < 512 := (i 1).isLt; omega⟩ * scale : ℝ) : EReal) := by
  rw [val_main_v9_apply, val_main_v8_apply, val_main_cst_apply]
  exact mul_r (r1 H i) scale_eq
theorem r10 (i) : (val_main_v10 (F := Ideal) x1 i : EReal) = (((I.blk (i 2) (i 0)).q (i 1) (i 3) : ℝ) : EReal) := by
  have s := split4 (a := (i 0).val) (i 1).isLt (i 2).isLt (i 3).isLt (show 0 < 128 by decide)
  rw [val_main_v10_apply, r9 H]
  exact congrArg _ (congrArg (· * scale) (congrArg₂ I.Z (Fin.ext s.1) (Fin.ext s.2)))
theorem r11 (i) : (val_main_v11 (F := Ideal) x1 i : EReal) = (((I.blk (i 2) (i 0)).k (i 1) (i 3) : ℝ) : EReal) := by
  have s := split4 (a := (i 0).val) (i 1).isLt (i 2).isLt (i 3).isLt (show 0 < 128 by decide)
  rw [val_main_v11_apply, r2 H]
  exact congrArg _ (congrArg₂ I.Z (Fin.ext s.1) (Fin.ext (congrArg (512 + ·) s.2)))
theorem r33 (i) : (val_main_v33 (F := Ideal) x1 i : EReal) = (((I.blk (i 2) (i 0)).k (i 1) (i 3) : ℝ) : EReal) := by
  have s := split4 (a := (i 0).val) (i 1).isLt (i 2).isLt (i 3).isLt (show 0 < 128 by decide)
  rw [val_main_v33_apply, r2 H]
  exact congrArg _ (congrArg₂ I.Z (Fin.ext s.1) (Fin.ext (congrArg (512 + ·) s.2)))
theorem r12 (i) : (val_main_v12 (F := Ideal) x1 i : EReal) = (((I.blk (i 2) (i 0)).v (i 1) (i 3) : ℝ) : EReal) := by
  have s := split4 (a := (i 0).val) (i 1).isLt (i 2).isLt (i 3).isLt (show 0 < 256 by decide)
  rw [val_main_v12_apply, r3 H]
  exact congrArg _ (congrArg₂ I.Z (Fin.ext s.1) (Fin.ext (congrArg (1024 + ·) s.2)))
theorem r39 (i) : (val_main_v39 (F := Ideal) x1 i : EReal) = (((I.blk (i 2) (i 0)).v (i 1) (i 3) : ℝ) : EReal) := by
  have s := split4 (a := (i 0).val) (i 1).isLt (i 2).isLt (i 3).isLt (show 0 < 256 by decide)
  rw [val_main_v39_apply, r3 H]
  exact congrArg _ (congrArg₂ I.Z (Fin.ext s.1) (Fin.ext (congrArg (1024 + ·) s.2)))
theorem r72 (i) : (val_main_v72 (F := Ideal) x3 i : EReal) = (((I.blk (i 2) (i 0)).d (i 1) (i 3) : ℝ) : EReal) := by
  have s := split4 (a := (i 0).val) (i 1).isLt (i 2).isLt (i 3).isLt (show 0 < 256 by decide)
  rw [val_main_v72_apply, val_main_v71_apply]
  exact (H.c _).trans (congrArg _ (congrArg₂ I.C (Fin.ext s.1) (Fin.ext s.2)))
theorem r13 (i) : (val_main_v13 (F := Ideal) x2 i : EReal) = (((I.blk (i 2) (i 0)).ep (i 1) (i 3) : ℝ) : EReal) := by
  rw [val_main_v13_apply]; exact exp_r (r5 H i)
theorem r15 (i) : (val_main_v15 (F := Ideal) x2 i : EReal) = (((I.blk (i 2) (i 0)).en (i 1) (i 3) : ℝ) : EReal) := by
  rw [val_main_v15_apply, val_main_v14_apply]; exact exp_r (neg_r (r5 H i))
theorem r16 (i) : (val_main_v16 (F := Ideal) x1 x2 i : EReal) = (((I.blk (i 2) (i 0)).qf (i 1) (i 3) : ℝ) : EReal) := by
  rw [val_main_v16_apply]; exact mul_r (r10 H i) (r13 H i)
theorem r27 (i) : (val_main_v27 (F := Ideal) x1 x2 i : EReal) = (((I.blk (i 2) (i 0)).qf (i 1) (i 3) : ℝ) : EReal) := by
  rw [val_main_v27_apply]; exact mul_r (r10 H i) (r13 H i)
theorem r17 (i) : (val_main_v17 (F := Ideal) x1 x2 i : EReal) = (((I.blk (i 2) (i 0)).kf (i 1) (i 3) : ℝ) : EReal) := by
  rw [val_main_v17_apply]; exact mul_r (r11 H i) (r15 H i)
theorem r19 (i) : (val_main_v19 (F := Ideal) x1 x2 i : EReal) = (((I.blk (i 2) (i 0)).qb (i 1) (i 3) : ℝ) : EReal) := by
  rw [val_main_v19_apply]; exact mul_r (r10 H i) (r15 H i)
theorem r20 (i) : (val_main_v20 (F := Ideal) x1 x2 i : EReal) = (((I.blk (i 2) (i 0)).kb (i 1) (i 3) : ℝ) : EReal) := by
  rw [val_main_v20_apply]; exact mul_r (r11 H i) (r13 H i)

/-! ### The lower triangle and the chunks between two others -/

omit H in
theorem lower (i : S32x4x64x64.Idx) : val_main_v24_1 (F := Ideal) i = BitVec.ofBool (decide ((i 3 : Fin 64) ≤ i 2)) := by
  have h2 : (i 2).val < 64 := (i 2).isLt
  have h3 : (i 3).val < 64 := (i 3).isLt
  rw [val_main_v24_1_apply, val_main_v23_apply, val_main_call1_v4_apply, val_main_call1_v2_apply, val_main_call1_v0_apply,
    val_main_call1_v1_apply, val_main_call1_c_apply, val_main_call1_v3_apply, val_main_v22_apply, val_main_c_apply,
    val_main_call1_v5_apply, val_main_call1_c_0_apply]
  show Scalar.select (IntOp.cmpi .sge (BitVec.ofNat 32 (i 2).val + 0#32) (BitVec.ofNat 32 (i 3).val)) 1#1 0#1 = _
  rw [BitVec.add_zero, WordCmp.cmpi_sge_ofNat (by omega) (by omega)]
  show Scalar.select (BitVec.ofBool (decide ((i 3).val ≤ (i 2).val))) 1#1 0#1 = BitVec.ofBool (decide ((i 3).val ≤ (i 2).val))
  by_cases h : (i 3).val ≤ (i 2).val
  · rw [decide_eq_true h]; rfl
  · rw [decide_eq_false h]; rfl

omit H in
theorem before (i : S32x32x4x128.Idx) : val_main_v64_1 (F := Ideal) i = BitVec.ofBool (decide ((i 1 : Fin 32) < i 0)) := by
  have h0 : (i 0).val < 32 := (i 0).isLt
  have h1 : (i 1).val < 32 := (i 1).isLt
  rw [val_main_v64_1_apply, val_main_v63_apply, val_main_v62_apply, val_main_v60_apply, val_main_v61_apply,
    val_main_v58_apply, val_main_v59_apply, val_main_v28_apply, val_main_v28_apply]
  exact WordCmp.cmpi_slt_ofNat (w := 32) (a := (i 1).val) (b := (i 0).val) (by omega) (by omega)

omit H in
theorem between (i : S32x32x32x4x128.Idx) :
    val_main_v55_1 (F := Ideal) i = BitVec.ofBool (decide ((i 1 : Fin 32) < i 2 ∧ (i 2 : Fin 32) < i 0)) := by
  have h0 : (i 0).val < 32 := (i 0).isLt
  have h1 : (i 1).val < 32 := (i 1).isLt
  have h2 : (i 2).val < 32 := (i 2).isLt
  rw [val_main_v55_1_apply, val_main_v54_apply, val_main_v53_apply, val_main_v51_apply, val_main_v52_apply,
    val_main_v45_apply, val_main_v50_apply, val_main_v43_apply, val_main_v44_apply, val_main_v48_apply, val_main_v49_apply,
    val_main_v41_apply, val_main_v42_apply, val_main_v46_apply, val_main_v47_apply]
  simp only [val_main_v28_apply]
  have e1 : IntOp.cmpi .slt (BitVec.ofNat 32 (i 1).val) (BitVec.ofNat 32 (i 2).val) = _ :=
    WordCmp.cmpi_slt_ofNat (w := 32) (by omega) (by omega)
  have e2 : IntOp.cmpi .slt (BitVec.ofNat 32 (i 2).val) (BitVec.ofNat 32 (i 0).val) = _ :=
    WordCmp.cmpi_slt_ofNat (w := 32) (by omega) (by omega)
  refine (congrArg₂ IntOp.andi e1 e2).trans ?_
  show IntOp.andi _ _ = BitVec.ofBool (decide ((i 1).val < (i 2).val ∧ (i 2).val < (i 0).val))
  by_cases p : (i 1).val < (i 2).val <;> by_cases q : (i 2).val < (i 0).val <;> simp [p, q, IntOp.andi]

/-! ### The states and their gradient -/

theorem r32 (i) : (val_main_v32 (F := Ideal) x2 i : EReal) = (((I.blk (i 1) (i 0)).bl (i 2) : ℝ) : EReal) := by
  have h0 : (i 0).val < 32 := (i 0).isLt
  have h1 : (i 1).val < 4 := (i 1).isLt
  have h2 : (i 2).val < 128 := (i 2).isLt
  have e0 : (idx_main_v31 (idx_main_v32 i) 0 : Fin 32) = i 0 := Fin.ext (by
    show (((i 0).val * 4 + (i 1).val) * 128 + (i 2).val) / 512 = (i 0).val; omega)
  have e2 : (idx_main_v31 (idx_main_v32 i) 2 : Fin 4) = i 1 := Fin.ext (by
    show (((i 0).val * 4 + (i 1).val) * 128 + (i 2).val) / 128 % 4 = (i 1).val; omega)
  have e3 : (idx_main_v31 (idx_main_v32 i) 3 : Fin 128) = i 2 := Fin.ext (by
    show (((i 0).val * 4 + (i 1).val) * 128 + (i 2).val) % 128 = (i 2).val; omega)
  rw [val_main_v32_apply, val_main_v31_apply, r30 H, e0, e2, e3]
  exact congrArg _ (Blk.bc_last _ _)
theorem r37 (i) : (val_main_v37 (F := Ideal) x2 i : EReal)
    = ((Real.exp ((I.blk (i 2) (i 0)).bl (i 3) - (I.blk (i 2) (i 0)).bc (i 1) (i 3)) : ℝ) : EReal) := by
  rw [val_main_v37_apply, val_main_v36_apply, val_main_v35_apply, val_main_v34_apply]
  exact exp_r (sub_r (r32 H _) (r30 H i))
theorem r38 (i) : (val_main_v38 (F := Ideal) x1 x2 i : EReal) = (((I.blk (i 2) (i 0)).kd (i 1) (i 3) : ℝ) : EReal) := by
  rw [val_main_v38_apply]; exact mul_r (r33 H i) (r37 H i)
theorem r40 (i) : (val_main_v40 (F := Ideal) x1 x2 i : EReal) = (((I.blk (i 1) (i 0)).kv (i 2) (i 3) : ℝ) : EReal) := by
  rw [val_main_v40_apply]; exact dot_r (fun k => r38 H (lidx_main_v40 i k)) (fun k => r39 H (ridx_main_v40 i k))
theorem r55 (i : S32x32x32x4x128.Idx) : (val_main_v55_0 (F := Ideal) x2 i : EReal)
    = (((if (i 1 : Fin 32) < i 2 ∧ (i 2 : Fin 32) < i 0 then (I.blk (i 3) (i 2)).bl (i 4) else 0) : ℝ) : EReal) := by
  rw [val_main_v55_0_apply]
  refine select_r (between i) ?_ ?_
  · rw [val_main_call4_v2_apply]; exact r32 H _
  · rw [val_main_call4_v3_apply, val_main_call4_v0_apply, val_main_cst_0_apply]; exact zero_r
theorem r56 (i) : (val_main_v56 (F := Ideal) x2 i : EReal) = ((lw (I.blk (i 2)) (i 0) (i 1) (i 3) : ℝ) : EReal) := by
  rw [val_main_v56_apply, val_main_cst_1_apply]
  refine (add_r zero_r (sum_r fun k => r55 H (idx_main_v56 i k))).trans ?_
  rw [zero_add]; rfl
theorem r57 (i) : (val_main_v57 (F := Ideal) x2 i : EReal) = ((Real.exp (lw (I.blk (i 2)) (i 0) (i 1) (i 3)) : ℝ) : EReal) := by
  rw [val_main_v57_apply]; exact exp_r (r56 H i)
theorem r64 (i) : (val_main_v64_0 (F := Ideal) x2 i : EReal) = ((W (I.blk (i 2)) (i 0) (i 1) (i 3) : ℝ) : EReal) := by
  rw [val_main_v64_0_apply]
  refine select_r (before i) (r57 H i) ?_
  rw [val_main_call5_v2_apply, val_main_call5_v0_apply, val_main_cst_2_apply]; exact zero_r
theorem r66 (i) : (val_main_v66 (F := Ideal) x1 x2 i : EReal) = ((S (I.blk (i 1)) (i 0) (i 2) (i 3) : ℝ) : EReal) := by
  rw [val_main_v66_apply, val_main_v65_apply]
  exact dot_r (fun k => r40 H (lidx_main_v65 (idx_main_v66 i) k)) (fun k => r64 H (ridx_main_v65 (idx_main_v66 i) k))
theorem r73 (i) : (val_main_v73 (F := Ideal) x3 i : EReal) = (((I.blk (i 1) (i 0)).d (i 3) (i 2) : ℝ) : EReal) := by
  rw [val_main_v73_apply]; exact r72 H _
theorem r108 (i) : (val_main_v108 (F := Ideal) x3 i : EReal) = (((I.blk (i 1) (i 0)).d (i 3) (i 2) : ℝ) : EReal) := by
  rw [val_main_v108_apply]; exact r72 H _
theorem r75 (i) : (val_main_v75 (F := Ideal) x1 x2 x3 i : EReal)
    = ((∑ x, (I.blk (i 2) (i 0)).d (i 1) x * S (I.blk (i 2)) (i 0) (i 3) x : ℝ) : EReal) := by
  rw [val_main_v75_apply, val_main_v74_apply]
  exact dot_r (fun k => r73 H (lidx_main_v74 (idx_main_v75 i) k)) (fun k => r66 H (ridx_main_v74 (idx_main_v75 i) k))
theorem r77 (i) : (val_main_v77 (F := Ideal) x1 x2 x3 i : EReal) = (((I.blk (i 1) (i 0)).dS (i 2) (i 3) : ℝ) : EReal) := by
  rw [val_main_v77_apply, val_main_v76_apply]
  exact dot_r (fun k => r73 H (lidx_main_v76 (idx_main_v77 i) k)) (fun k => r27 H (ridx_main_v76 (idx_main_v77 i) k))
theorem r78 (i) : (val_main_v78 (F := Ideal) x1 x2 x3 i : EReal) = (((I.blk (i 0) (i 3)).dS (i 1) (i 2) : ℝ) : EReal) := by
  rw [val_main_v78_apply]; exact r77 H _
theorem r80 (i) : (val_main_v80 (F := Ideal) x1 x2 x3 i : EReal)
    = ((∑ x, (I.blk (i 2) (i 0)).dS (i 3) x * (I.blk (i 2) (i 1)).kv (i 3) x : ℝ) : EReal) := by
  rw [val_main_v80_apply, val_main_v79_apply]
  exact dot_r (fun k => r78 H (lidx_main_v79 (idx_main_v80 i) k)) (fun k => r40 H (ridx_main_v79 (idx_main_v80 i) k))
theorem r82 (i) : (val_main_v82 (F := Ideal) x1 x2 x3 i : EReal) = ((G (I.blk (i 1)) (i 0) (i 2) (i 3) : ℝ) : EReal) := by
  rw [val_main_v82_apply, val_main_v81_apply]
  exact dot_r (fun k => r78 H (lidx_main_v81 (idx_main_v82 i) k)) (fun k => r64 H (ridx_main_v81 (idx_main_v82 i) k))
theorem r84 (i) : (val_main_v84 (F := Ideal) x1 x2 x3 i : EReal)
    = (((if (i 1 : Fin 32) < i 0 then ∑ x, (I.blk (i 2) (i 0)).dS (i 3) x * (I.blk (i 2) (i 1)).kv (i 3) x else 0)
        * Real.exp (lw (I.blk (i 2)) (i 0) (i 1) (i 3)) : ℝ) : EReal) := by
  rw [val_main_v84_apply, val_main_v83_apply]
  refine mul_r (select_r (before i) (r80 H i) ?_) (r57 H i)
  rw [val_main_call6_v0_apply, val_main_call6_cst_apply]; exact zero_r
theorem r86 (i) : (val_main_v86 (F := Ideal) x1 x2 x3 i : EReal) = ((rb (I.blk (i 1)) (i 0) (i 2) : ℝ) : EReal) := by
  unfold val_main_v86
  rw [ValueIdx.hostReduceAdd_apply, val_main_call7_cst_0_apply, show FloatOps.ofBits (F := Ideal) .f32 0x00000000#32 = (0 : EReal) from Ideal.ofBits_zero_f32]
  refine (sum_two_axes _ (val_main_call7_v1 (F := Ideal) x1 x2 x3) i).trans ?_
  refine sum_r fun n => sum_r fun m => ?_
  rw [val_main_call7_v1_apply, val_main_v85_apply, val_main_call7_v0_apply, val_main_call7_cst_apply]
  exact select_r (between (at5 i n m)) (r84 H (idx_main_v85 (at5 i n m))) zero_r
theorem r88 (i) : (val_main_v88 (F := Ideal) x1 x2 x3 i : EReal)
    = ((∑ k, G (I.blk (i 2)) (i 0) k (i 3) * (I.blk (i 2) (i 0)).kd (i 1) k : ℝ) : EReal) := by
  rw [val_main_v88_apply, val_main_v87_apply]
  exact dot_r (fun k => r82 H (lidx_main_v87 (idx_main_v88 i) k)) (fun k => r38 H (ridx_main_v87 (idx_main_v88 i) k))
theorem r90 (i) : (val_main_v90 (F := Ideal) x1 x2 x3 i : EReal)
    = (((I.blk (i 2) (i 0)).dkd (G (I.blk (i 2)) (i 0)) (i 1) (i 3) : ℝ) : EReal) := by
  rw [val_main_v90_apply, val_main_v89_apply]
  refine (dot_r (fun k => r82 H (lidx_main_v89 (idx_main_v90 i) k)) (fun k => r39 H (ridx_main_v89 (idx_main_v90 i) k))).trans ?_
  exact congrArg _ (Finset.sum_congr rfl fun _ _ => mul_comm _ _)

/-- Chunk `n` of head `h`: its key's gradient through the state, times the key and the decay to the chunk's end. -/
theorem r94 (i) : (val_main_v94 (F := Ideal) x1 x2 x3 i : EReal)
    = (((I.blk (i 2) (i 0)).k (i 1) (i 3) * (I.blk (i 2) (i 0)).dkd (G (I.blk (i 2)) (i 0)) (i 1) (i 3)
        * Real.exp ((I.blk (i 2) (i 0)).bl (i 3) - (I.blk (i 2) (i 0)).bc (i 1) (i 3)) : ℝ) : EReal) := by
  rw [val_main_v94_apply, val_main_v92_apply]; exact mul_r (mul_r (r33 H i) (r90 H i)) (r37 H i)
theorem r93 (i) : (val_main_v93 (F := Ideal) x1 x2 x3 i : EReal)
    = (((I.blk (i 2) (i 0)).dkd (G (I.blk (i 2)) (i 0)) (i 1) (i 3)
        * Real.exp ((I.blk (i 2) (i 0)).bl (i 3) - (I.blk (i 2) (i 0)).bc (i 1) (i 3)) : ℝ) : EReal) := by
  rw [val_main_v93_apply]; exact mul_r (r90 H i) (r37 H i)
theorem r95 (i) : (val_main_v95 (F := Ideal) x1 x2 x3 i : EReal)
    = ((∑ s, (I.blk (i 1) (i 0)).k s (i 2) * (I.blk (i 1) (i 0)).dkd (G (I.blk (i 1)) (i 0)) s (i 2)
        * Real.exp ((I.blk (i 1) (i 0)).bl (i 2) - (I.blk (i 1) (i 0)).bc s (i 2)) : ℝ) : EReal) := by
  rw [val_main_v95_apply, val_main_cst_3_apply]
  refine (add_r zero_r (sum_r fun k => r94 H (idx_main_v95 i k))).trans ?_
  rw [zero_add]; rfl
theorem r98 (i) : (val_main_v98 (F := Ideal) x1 x2 x3 i : EReal)
    = ((∑ s, (I.blk (i 1) (i 0)).k s (i 2) * (I.blk (i 1) (i 0)).dkd (G (I.blk (i 1)) (i 0)) s (i 2)
        * Real.exp ((I.blk (i 1) (i 0)).bl (i 2) - (I.blk (i 1) (i 0)).bc s (i 2)) : ℝ) : EReal) := by
  have h0 : (i 0).val < 32 := (i 0).isLt
  have h1 : (i 1).val < 4 := (i 1).isLt
  have h2 : (i 2).val < 128 := (i 2).isLt
  have e : idx_main_v96 (idx_main_v98 i 0) = i := funext fun a => Fin.ext (by
    match a with
    | ⟨0, _⟩ => show ((((i 0).val * 1 + 0) * 4 + (i 1).val) * 128 + (i 2).val) / 512 = (i 0).val; omega
    | ⟨1, _⟩ => show ((((i 0).val * 1 + 0) * 4 + (i 1).val) * 128 + (i 2).val) / 128 % 4 = (i 1).val; omega
    | ⟨2, _⟩ => show ((((i 0).val * 1 + 0) * 4 + (i 1).val) * 128 + (i 2).val) % 128 = (i 2).val; omega)
  rw [val_main_v98_apply, val_main_cst_4_apply, Fin.sum_univ_one, val_main_v96_apply, e]
  refine (add_r zero_r (r95 H i)).trans ?_
  rw [zero_add]
/-- What the chunk's last row gets: the gradient of the chunk's total decay. -/
def total (b : Blk) (r : Fin 128 → ℝ) (Gn : St) (t : Fin 64) (k : Fin 128) : ℝ :=
  if t = 63 then r k + ∑ s, b.k s k * b.dkd Gn s k * Real.exp (b.bl k - b.bc s k) else 0
omit H in
theorem total_last (b : Blk) (r : Fin 128 → ℝ) (Gn : St) (t : Fin 64) (k : Fin 128) (h : t.val = 63) :
    total b r Gn t k = r k + ∑ s, b.k s k * b.dkd Gn s k * Real.exp (b.bl k - b.bc s k) := if_pos (Fin.ext h)
omit H in
theorem total_other (b : Blk) (r : Fin 128 → ℝ) (Gn : St) (t : Fin 64) (k : Fin 128) (h : t.val ≠ 63) :
    total b r Gn t k = 0 := if_neg fun e => h (congrArg Fin.val e)
theorem r102 (i) : (val_main_v102 (F := Ideal) x1 x2 x3 i : EReal)
    = ((total (I.blk (i 2) (i 0)) (rb (I.blk (i 2)) (i 0)) (G (I.blk (i 2)) (i 0)) (i 1) (i 3) : ℝ) : EReal) := by
  have h1 : (i 1).val < 64 := (i 1).isLt
  unfold val_main_v102
  by_cases hv : (i 1).val = 63
  · refine Eq.trans ?_ (congrArg Real.toEReal (total_last _ _ _ _ _ hv).symm)
    rw [pad_apply_of_inside (s := S32x1x4x128) (t := S32x64x4x128) _ _ _ _ _ _ _ i (fun a : Fin 4 => match a with
      | ⟨0, _⟩ => ⟨(i 0).val, (i 0).isLt⟩
      | ⟨1, _⟩ => ⟨0, Nat.one_pos⟩
      | ⟨2, _⟩ => ⟨(i 2).val, (i 2).isLt⟩
      | ⟨3, _⟩ => ⟨(i 3).val, (i 3).isLt⟩) (fun a => match a with
      | ⟨0, _⟩ => by show (i 0).val = 0 + (i 0).val * 1; omega
      | ⟨1, _⟩ => by show (i 1).val = 63 + 0 * 1; omega
      | ⟨2, _⟩ => by show (i 2).val = 0 + (i 2).val * 1; omega
      | ⟨3, _⟩ => by show (i 3).val = 0 + (i 3).val * 1; omega), val_main_v101_apply, val_main_v99_apply]
    exact add_r (r86 H _) (r98 H _)
  · refine Eq.trans ?_ (congrArg Real.toEReal (total_other _ _ _ _ _ hv).symm)
    rw [pad_apply_of_not_inside (s := S32x1x4x128) (t := S32x64x4x128) _ _ _ _ _ _ _ i (1 : Fin 4) (by
      show ¬(63 ≤ (i 1).val ∧ ((i 1).val - 63) % 1 = 0 ∧ ((i 1).val - 63) / 1 < 1); omega), val_main_cst_5_apply]
    exact zero_r
/-- The part of the running sums' gradient that comes through the states. -/
def past (b : Blk) (r : Fin 128 → ℝ) (Gn : St) (t : Fin 64) (k : Fin 128) : ℝ :=
  -(b.k t k * b.dkd Gn t k * Real.exp (b.bl k - b.bc t k))
    + total b r Gn t k
theorem r103 (i) : (val_main_v103 (F := Ideal) x1 x2 x3 i : EReal)
    = ((past (I.blk (i 2) (i 0)) (rb (I.blk (i 2)) (i 0)) (G (I.blk (i 2)) (i 0)) (i 1) (i 3) : ℝ) : EReal) := by
  rw [val_main_v103_apply, val_main_v97_apply]; exact add_r (neg_r (r94 H i)) (r102 H i)
theorem r104 (i) : (val_main_v104 (F := Ideal) x1 x2 x3 i : EReal)
    = ((∑ j, if (i 1 : Fin 64) ≤ j then past (I.blk (i 2) (i 0)) (rb (I.blk (i 2)) (i 0)) (G (I.blk (i 2)) (i 0)) j (i 3) else 0 : ℝ) : EReal) := by
  unfold val_main_v104 Host.reduceWindowAdd
  rw [Ideal.hostReduceWindowAdd_def, init8]
  refine (revcumsum_apply _ (val_main_v103 (F := Ideal) x1 x2 x3) i).trans ?_
  exact sum_r fun j => ite_r (r103 H (at1 i j)) EReal.coe_zero.symm

/-! ### Inside a chunk -/

theorem r18 (i) : (val_main_v18 (F := Ideal) x1 x2 i : EReal)
    = ((∑ k, (I.blk (i 1) (i 0)).qf (i 2) k * (I.blk (i 1) (i 0)).kf (i 3) k : ℝ) : EReal) := by
  rw [val_main_v18_apply]; exact dot_r (fun k => r16 H (lidx_main_v18 i k)) (fun k => r17 H (ridx_main_v18 i k))
theorem r21 (i) : (val_main_v21 (F := Ideal) x1 x2 i : EReal)
    = ((∑ k, (I.blk (i 1) (i 0)).qb (i 2) k * (I.blk (i 1) (i 0)).kb (i 3) k : ℝ) : EReal) := by
  rw [val_main_v21_apply]; exact dot_r (fun k => r19 H (lidx_main_v21 i k)) (fun k => r20 H (ridx_main_v21 i k))
theorem r24 (i) : (val_main_v24_0 (F := Ideal) x1 x2 i : EReal) = (((I.blk (i 1) (i 0)).sc (i 2) (i 3) : ℝ) : EReal) := by
  rw [val_main_v24_0_apply]; exact select_r (lower i) (r18 H i) (r21 H i)
theorem r109 (i) : (val_main_v109 (F := Ideal) x1 x3 i : EReal) = (((I.blk (i 1) (i 0)).dp (i 2) (i 3) : ℝ) : EReal) := by
  rw [val_main_v109_apply]; exact dot_r (fun k => r108 H (lidx_main_v109 i k)) (fun k => r12 H (ridx_main_v109 i k))
omit H in
theorem zero9 (i) : (val_main_call9_v0 (F := Ideal) i : EReal) = ((0 : ℝ) : EReal) := by
  rw [val_main_call9_v0_apply, val_main_call9_cst_apply]; exact zero_r
theorem r112_0 (i) : (val_main_v112_0 (F := Ideal) x1 x3 i : EReal) = (((I.blk (i 1) (i 0)).dpf (i 2) (i 3) : ℝ) : EReal) := by
  rw [val_main_v112_0_apply]; exact select_r (lower i) (r109 H i) (zero9 i)
theorem r112_1 (i) : (val_main_v112_1 (F := Ideal) x1 x3 i : EReal) = (((I.blk (i 1) (i 0)).dpb (i 2) (i 3) : ℝ) : EReal) := by
  rw [val_main_v112_1_apply]; exact select_r (lower i) (zero9 i) (r109 H i)
theorem r111 (i) : (val_main_v111 (F := Ideal) x1 x2 x3 i : EReal)
    = ((∑ t, (I.blk (i 2) (i 0)).d t (i 3) * (I.blk (i 2) (i 0)).sc t (i 1) : ℝ) : EReal) := by
  rw [val_main_v111_apply, val_main_v110_apply]
  exact dot_r (fun k => r108 H (lidx_main_v110 (idx_main_v111 i) k)) (fun k => r24 H (ridx_main_v110 (idx_main_v111 i) k))
theorem r114 (i) : (val_main_v114 (F := Ideal) x1 x2 x3 i : EReal) = (((I.blk (i 2) (i 0)).dkb (i 1) (i 3) : ℝ) : EReal) := by
  rw [val_main_v114_apply, val_main_v113_apply]
  exact dot_r (fun k => r112_1 H (lidx_main_v113 (idx_main_v114 i) k)) (fun k => r19 H (ridx_main_v113 (idx_main_v114 i) k))
theorem r116 (i) : (val_main_v116 (F := Ideal) x1 x2 x3 i : EReal) = (((I.blk (i 2) (i 0)).dqb (i 1) (i 3) : ℝ) : EReal) := by
  rw [val_main_v116_apply, val_main_v115_apply]
  exact dot_r (fun k => r112_1 H (lidx_main_v115 (idx_main_v116 i) k)) (fun k => r20 H (ridx_main_v115 (idx_main_v116 i) k))
theorem r124 (i) : (val_main_v124 (F := Ideal) x1 x2 x3 i : EReal)
    = ((∑ t, (I.blk (i 2) (i 0)).dpf t (i 1) * (I.blk (i 2) (i 0)).qf t (i 3) : ℝ) : EReal) := by
  rw [val_main_v124_apply, val_main_v123_apply]
  exact dot_r (fun k => r112_0 H (lidx_main_v123 (idx_main_v124 i) k)) (fun k => r16 H (ridx_main_v123 (idx_main_v124 i) k))
theorem r126 (i) : (val_main_v126 (F := Ideal) x1 x2 x3 i : EReal)
    = ((∑ s, (I.blk (i 2) (i 0)).dpf (i 1) s * (I.blk (i 2) (i 0)).kf s (i 3) : ℝ) : EReal) := by
  rw [val_main_v126_apply, val_main_v125_apply]
  exact dot_r (fun k => r112_0 H (lidx_main_v125 (idx_main_v126 i) k)) (fun k => r17 H (ridx_main_v125 (idx_main_v126 i) k))
theorem r130 (i) : (val_main_v130 (F := Ideal) x1 x2 x3 i : EReal)
    = (((I.blk (i 2) (i 0)).dkb (i 1) (i 3) * (I.blk (i 2) (i 0)).ep (i 1) (i 3)
        + (∑ t, (I.blk (i 2) (i 0)).dpf t (i 1) * (I.blk (i 2) (i 0)).qf t (i 3)) * (I.blk (i 2) (i 0)).en (i 1) (i 3) : ℝ) : EReal) := by
  rw [val_main_v130_apply, val_main_v119_apply, val_main_v129_apply]
  exact add_r (mul_r (r114 H i) (r13 H i)) (mul_r (r124 H i) (r15 H i))
theorem r134 (i) : (val_main_v134 (F := Ideal) x1 x2 x3 i : EReal)
    = (((I.blk (i 2) (i 0)).dq (S (I.blk (i 2)) (i 0)) (i 1) (i 3) : ℝ) : EReal) := by
  rw [val_main_v134_apply, val_main_v122_apply, val_main_v107_apply, val_main_v121_apply, val_main_v133_apply]
  refine (add_r (add_r (mul_r (r75 H i) (r13 H i)) (mul_r (r116 H i) (r15 H i))) (mul_r (r126 H i) (r13 H i))).trans ?_
  refine congrArg _ ?_
  unfold Blk.dq Blk.dqf
  ring
/-- The part of the running sums' gradient that stays inside the chunk. -/
def inside (b : Blk) (Sn : St) (t : Fin 64) (k : Fin 128) : ℝ :=
  -((b.q t k * b.dqb t k + b.k t k * ∑ s, b.dpf s t * b.qf s k) * b.en t k)
    + (b.q t k * (∑ x, b.d t x * Sn k x) + b.k t k * b.dkb t k + b.q t k * ∑ s, b.dpf t s * b.kf s k) * b.ep t k
theorem r138 (i) : (val_main_v138 (F := Ideal) x1 x2 x3 i : EReal)
    = ((inside (I.blk (i 2) (i 0)) (S (I.blk (i 2)) (i 0)) (i 1) (i 3) : ℝ) : EReal) := by
  rw [val_main_v138_apply, val_main_v136_apply, val_main_v135_apply, val_main_v128_apply, val_main_v120_apply, val_main_v127_apply,
    val_main_v137_apply, val_main_v132_apply, val_main_v118_apply, val_main_v106_apply, val_main_v117_apply, val_main_v131_apply]
  exact add_r (neg_r (mul_r (add_r (mul_r (r10 H i) (r116 H i)) (mul_r (r11 H i) (r124 H i))) (r15 H i)))
    (mul_r (add_r (add_r (mul_r (r10 H i) (r75 H i)) (mul_r (r11 H i) (r114 H i))) (mul_r (r10 H i) (r126 H i))) (r13 H i))
theorem r146 (i) : (val_main_v146 (F := Ideal) x1 x2 x3 i : EReal)
    = ((∑ j, if (i 1 : Fin 64) ≤ j then inside (I.blk (i 2) (i 0)) (S (I.blk (i 2)) (i 0)) j (i 3) else 0 : ℝ) : EReal) := by
  unfold val_main_v146 Host.reduceWindowAdd
  rw [Ideal.hostReduceWindowAdd_def, init10]
  refine (revcumsum_apply _ (val_main_v138 (F := Ideal) x1 x2 x3) i).trans ?_
  exact sum_r fun j => ite_r (r138 H (at1 i j)) EReal.coe_zero.symm

/-! ### The results -/

theorem r145 (i) : (val_main_v145 (F := Ideal) x1 x2 x3 i : EReal) = ((I.dq (i 0) (i 1) : ℝ) : EReal) := by
  have h0 : (i 0).val < 2048 := (i 0).isLt
  have h1 : (i 1).val < 512 := (i 1).isLt
  rw [val_main_v145_apply, val_main_v144_apply, val_main_cst_6_apply, val_main_v143_apply, r134 H, unflat128 i (idx_main_v143 i) rfl rfl rfl rfl]
  exact mul_r rfl scale_eq
theorem r142 (i) : (val_main_v142 (F := Ideal) x1 x2 x3 i : EReal) = ((I.dk (i 0) (i 1) : ℝ) : EReal) := by
  rw [val_main_v142_apply, val_main_v100_apply, val_main_v141_apply, unflat128 i (idx_main_v100 i) rfl rfl rfl rfl,
    unflat128 i (idx_main_v141 i) rfl rfl rfl rfl]
  refine (add_r (r93 H _) (r130 H _)).trans ?_
  exact congrArg _ (Blk.dk_eq _ _ _ _)
theorem r140 (i) : (val_main_v140 (F := Ideal) x1 x2 x3 i : EReal) = ((I.dv (i 0) (i 1) : ℝ) : EReal) := by
  rw [val_main_v140_apply, val_main_v91_apply, val_main_v139_apply, unflat256 i (idx_main_v91 i) rfl rfl rfl rfl,
    unflat256 i (idx_main_v139 i) rfl rfl rfl rfl]
  refine (add_r (r88 H _) (r111 H _)).trans ?_
  exact congrArg _ (Blk.dv_eq _ _ _ _)
theorem r148 (i) : (val_main_v148 (F := Ideal) x1 x2 x3 i : EReal) = ((I.dla (i 0) (i 1) : ℝ) : EReal) := by
  rw [val_main_v148_apply, val_main_v105_apply, val_main_v147_apply, unflat128 i (idx_main_v105 i) rfl rfl rfl rfl,
    unflat128 i (idx_main_v147 i) rfl rfl rfl rfl]
  refine (add_r (r104 H _) (r146 H _)).trans ?_
  exact congrArg _ (Blk.dla_eq _ _ _ _ _ _ _ fun t => Blk.db_eq _ _ _ _ _ _ (rb_eq _ _ _))

omit H in
/-- Three matrices side by side, read at an index. -/
theorem cat3 (y0 y1 : S2048x512.Idx → EReal) (y2 : S2048x1024.Idx → EReal)
    (h : Shape.Concatenates [S2048x512, S2048x512, S2048x1024] S2048x2048 1) (i : S2048x2048.Idx) :
    concatenate S2048x2048 1 [⟨S2048x512, y0⟩, ⟨S2048x512, y1⟩, ⟨S2048x1024, y2⟩] h i
      = if c1 : (i 1).val < 512 then y0 (col2 (i 0) ⟨(i 1).val, c1⟩)
        else if c2 : (i 1).val < 1024 then y1 (col2 (i 0) ⟨(i 1).val - 512, by omega⟩)
        else y2 (col2 (i 0) ⟨(i 1).val - 1024, by have h : (i 1).val < 2048 := (i 1).isLt; omega⟩) := by
  have h1 : (i 1).val < 2048 := (i 1).isLt
  by_cases c1 : (i 1).val < 512
  · rw [dif_pos c1]
    exact concatenate_apply_piece (t := S2048x2048) 1 [⟨S2048x512, y0⟩, ⟨S2048x512, y1⟩, ⟨S2048x1024, y2⟩] h i 0 (by show 0 < 3; decide)
      S2048x512 y0 rfl rfl 0 rfl (col2 (w := 512) (i 0) ⟨(i 1).val, c1⟩)
      (fun a => match a with | ⟨0, _⟩ => fun _ => rfl | ⟨1, _⟩ => fun e => absurd rfl e) (Nat.zero_add _)
  · rw [dif_neg c1]
    by_cases c2 : (i 1).val < 1024
    · rw [dif_pos c2]
      exact concatenate_apply_piece (t := S2048x2048) 1 [⟨S2048x512, y0⟩, ⟨S2048x512, y1⟩, ⟨S2048x1024, y2⟩] h i 1 (by show 1 < 3; decide)
        S2048x512 y1 rfl rfl 512 rfl (col2 (w := 512) (i 0) ⟨(i 1).val - 512, by omega⟩)
        (fun a => match a with | ⟨0, _⟩ => fun _ => rfl | ⟨1, _⟩ => fun e => absurd rfl e)
        (Nat.add_sub_of_le (Nat.le_of_not_lt c1))
    · rw [dif_neg c2]
      exact concatenate_apply_piece (t := S2048x2048) 1 [⟨S2048x512, y0⟩, ⟨S2048x512, y1⟩, ⟨S2048x1024, y2⟩] h i 2 (by show 2 < 3; decide)
        S2048x1024 y2 rfl rfl 1024 rfl (col2 (w := 1024) (i 0) ⟨(i 1).val - 1024, by omega⟩)
        (fun a => match a with | ⟨0, _⟩ => fun _ => rfl | ⟨1, _⟩ => fun e => absurd rfl e)
        (Nat.add_sub_of_le (Nat.le_of_not_lt c2))

/-- The packed gradient: queries', keys' and values' columns, then the columns passed through. -/
theorem r152 (x0 : (⟨S2048x5760, .bf16⟩ : BufTy).Contents (Elt Ideal)) (i : S2048x5760.Idx) :
    (val_main_v152 (F := Ideal) x0 x1 x2 x3 i : EReal) = I.packed x0 i := by
  have h1 : (i 1).val < 5760 := (i 1).isLt
  unfold val_main_v152 Inputs.packed
  by_cases c3 : (i 1).val < 2048
  · rw [dif_pos c3]
    refine (concatenate_pair_apply_left (s₁ := S2048x2048) (s₂ := S2048x3712) (1 : Fin 2) _ _ _ i rfl (col2 (w := 2048) (i 0) ⟨(i 1).val, c3⟩)
      (fun a => match a with | ⟨0, _⟩ => rfl | ⟨1, _⟩ => rfl)).trans ?_
    refine (cat3 (val_main_v145 (F := Ideal) x1 x2 x3) (val_main_v142 (F := Ideal) x1 x2 x3) (val_main_v140 (F := Ideal) x1 x2 x3)
      concatenates_S2048x512_S2048x512_S2048x1024_S2048x2048_d1 (col2 (i 0) ⟨(i 1).val, c3⟩)).trans ?_
    by_cases c1 : (i 1).val < 512
    · rw [dif_pos c1, dif_pos c1]; exact r145 H _
    · rw [dif_neg c1, dif_neg c1]
      by_cases c2 : (i 1).val < 1024
      · rw [dif_pos c2, dif_pos c2]; exact r142 H _
      · rw [dif_neg c2, dif_neg c2]; exact r140 H _
  · rw [dif_neg c3]
    refine (concatenate_pair_apply_right (s₁ := S2048x2048) (s₂ := S2048x3712) (1 : Fin 2) _ _ _ i rfl rfl (col2 (w := 3712) (i 0) ⟨(i 1).val - 2048, by omega⟩)
      (fun a => match a with | ⟨0, _⟩ => fun _ => rfl | ⟨1, _⟩ => fun e => absurd rfl e)
      (Nat.sub_add_cancel (Nat.le_of_not_lt c3))).trans ?_
    rw [val_main_v151_apply]
    refine congrArg x0 (funext fun a => Fin.ext ?_)
    match a with
    | ⟨0, _⟩ => rfl
    | ⟨1, _⟩ => show 2048 + ((i 1).val - 2048) = (i 1).val; omega

end Cert.ReferenceIdeal.Lift

end
-- ==== Proof.Finite.lean ====
/- The precondition, read: every element of the three arguments that the gradients depend on is a real number. -/
module

public import proofs.«01_k».proof.Pre_finite
public import proofs.«01_k».proof.Proof.RefRead
public import Idealize.ShloMosaic.Lib.ReduceAll
public import Idealize.ShloMosaic.PureOps.Ideal

@[expose] public section

noncomputable section

namespace Cert.Pre_finite

open Idealize.ShloMosaic Cert.Gla

theorem conditions : Cert.Pre_finite.Facts where
  bitsLt_bf16_f32 := by decide
  bcast_S_S2048x5632 := by decide
  reducesTo_S2048x5632_S_d0_1 := by decide
  h_S_ := by decide
  bcast_S_S2048x512 := by decide
  reducesTo_S2048x512_S_d0_1 := by decide
  bcast_S_S2048x1024 := by decide
  reducesTo_S2048x1024_S_d0_1 := by decide

instance : Subsingleton S_.Idx := ⟨fun _ _ => funext fun a => a.elim0⟩

/-- The word that the absolute values are compared with is the infinity. -/
theorem inf_eq : Ideal.ofBits .f32 0x7F800000#32 = ⊤ := by
  simp [Ideal.ofBits, Ideal.ieee]

/-- A number whose absolute value is below the infinity is its real part. -/
theorem real_of_lt (x : EReal) (h : Ideal.cmp .olt (max x (-x)) (Ideal.ofBits .f32 0x7F800000#32) = 1#1) : x = ((x.toReal : ℝ) : EReal) := by
  rw [inf_eq] at h
  have h' : max x (-x) < ⊤ := by
    by_contra n
    simp [Ideal.cmp, n] at h
  refine (coe_toReal (fun e => ?_) (fun e => ?_)).symm
  · rw [e] at h'; exact absurd h' (by simp)
  · rw [e] at h'; exact absurd h' (by simp)

/-- All three arguments hold reals where the precondition is all ones. -/
theorem real_of_fn (x0 : FVec Ideal S2048x5760 .bf16) (x1 : FVec Ideal S2048x5632 .bf16) (x2 : FVec Ideal S2048x512 .f32) (x3 : FVec Ideal S2048x1024 .bf16)
    (h : @fn conditions Ideal _ x0 x1 x2 x3 = fun _ => 1#1) :
    (∀ i, @Eq EReal (x1 i) (Real.toEReal (EReal.toReal (x1 i)))) ∧ (∀ i, @Eq EReal (x2 i) (Real.toEReal (EReal.toReal (x2 i))))
      ∧ (∀ i, @Eq EReal (x3 i) (Real.toEReal (EReal.toReal (x3 i)))) := by
  have e := congrFun h (fun a : Fin 0 => a.elim0)
  simp only [fn] at e
  obtain ⟨e, e3⟩ := IntOp.andi_eq_one.1 e
  obtain ⟨e1, e2⟩ := IntOp.andi_eq_one.1 e
  refine ⟨fun i => real_of_lt _ ?_, fun i => real_of_lt _ ?_, fun i => real_of_lt _ ?_⟩
  · exact Host.reduce_andi_all _ _ _ _ _ e1 i
  · exact Host.reduce_andi_all _ _ _ _ _ e2 i
  · exact Host.reduce_andi_all _ _ _ _ _ e3 i

end Cert.Pre_finite

end
-- ==== Proof.KerHead.lean ====
/- The kernel's work on one chunk of one head, written once over the vectors it loads, and its stores as lists of pieces
   over the sixteen chunk-and-head steps of a grid point. -/
module

public import proofs.«01_k».proof.Proof.Gen.KernelIdeal.Frame

@[expose] public section

noncomputable section

namespace Cert.KernelIdeal.Head

open Cert.KernelIdeal Cert.KernelIdeal.Gen Idealize.ShloMosaic Idealize.ShloMosaic.TcCoe

variable {F : FTy → Type} [FloatOps F]

/-! ## The masks and the running sum down a chunk -/

/-- The row is at or below the column's diagonal. -/
def lower : IVec S64x64 1 :=
  cmpi .sge (iota .tc S64x64 32 [0] iota_S64x64_d0_w32) (iota .tc S64x64 32 [1] iota_S64x64_d1_w32)
/-- The row is at or above the column's diagonal. -/
def upper : IVec S64x64 1 :=
  cmpi .sle (iota .tc S64x64 32 [0] iota_S64x64_d0_w32) (iota .tc S64x64 32 [1] iota_S64x64_d1_w32)
/-- The chunk's last row. -/
def lastRow : IVec S64x128 1 := cmpi .eq (iota .tc S64x128 32 [0] iota_S64x128_d0_w32) (broadcast S64x128 63#32)
/-- A mask as zeros and ones. -/
def ones (c : IVec S64x64 1) : FVec F S64x64 .f32 := sitofp .f32 (extui 32 c natLt_1_32)
/-- A 0/1 matrix applied to the rows of a chunk. -/
def along (c : IVec S64x64 1) (a : FVec F S64x512 .f32) : FVec F S64x512 .f32 :=
  matmul dot_S64x64_S64x512_S64x512_1_0_0_1_n_n (some .fp32) (ones c) a (constant S64x512 .f32 0x00000000#32)

/-! ## One chunk of one head -/

/-- What the body loads for one chunk of one head, and the head's columns of the running sum of the log decays. -/
structure In (F : FTy → Type) where
  bc : FVec F S64x128 .f32
  q : FVec F S64x128 .bf16
  k : FVec F S64x128 .bf16
  la : FVec F S64x128 .f32
  v : FVec F S64x256 .bf16
  d : FVec F S64x256 .bf16
  st : FVec F S1x1x256x128 .f32
  ds : FVec F S1x256x128 .f32

namespace In

variable (I : In F)

def zero {s : Shape} : FVec F s .f32 := broadcast s (Scalar.ofBits .f32 0x00000000#32)
def scaled (x : FVec F S64x128 .f32) : FVec F S64x128 .f32 := mulf x (broadcast S64x128 (Scalar.ofBits .f32 0x3DB504F3#32))
def narrow {s : Shape} (x : FVec F s .f32) : FVec F s .bf16 := truncf .bf16 x bitsLt_bf16_f32
def down (x : FVec F S64x128 .f32) : FVec F S1x128 .f32 :=
  shapeCast S1x128 (multiReduction .add [0] S128 x 0x00000000#32 reduces_S64x128_S128 (.inl rfl) rfl) shapeCasts_S128_S1x128
def down256 (x : FVec F S256x128 .f32) : FVec F S1x128 .f32 :=
  shapeCast S1x128 (multiReduction .add [0] S128 x 0x00000000#32 reduces_S256x128_S128 (.inl rfl) rfl) shapeCasts_S128_S1x128
def row64 (x : FVec F S1x128 .f32) : FVec F S64x128 .f32 := broadcastTo S64x128 x broadcasts_S1x128_S64x128
def row256 (x : FVec F S1x128 .f32) : FVec F S256x128 .f32 := broadcastTo S256x128 x broadcasts_S1x128_S256x128

def qs : FVec F S64x128 .f32 := scaled (extf .f32 I.q bitsLt_bf16_f32)
def ks : FVec F S64x128 .f32 := extf .f32 I.k bitsLt_bf16_f32
def ep : FVec F S64x128 .f32 := exp I.bc
def en : FVec F S64x128 .f32 := exp (subf zero I.bc)
def dl : FVec F S1x128 .f32 := exp (down I.la)
def qf : FVec F S64x128 .f32 := mulf I.qs I.ep
def qb : FVec F S64x128 .f32 := mulf I.qs I.en
def kf : FVec F S64x128 .f32 := mulf I.ks I.en
def kb : FVec F S64x128 .f32 := mulf I.ks I.ep
def sc : FVec F S64x64 .f32 :=
  select lower
    (matmul dot_S64x128_S64x128_S64x64_1_1_0_0_n_n none (narrow I.qf) (narrow I.kf) (constant S64x64 .f32 0x00000000#32))
    (matmul dot_S64x128_S64x128_S64x64_1_1_0_0_n_n none (narrow I.qb) (narrow I.kb) (constant S64x64 .f32 0x00000000#32))
def state : FVec F S256x128 .f32 := shapeCast S256x128 I.st shapeCasts_S1x1x256x128_S256x128
def dstate : FVec F S256x128 .f32 := shapeCast S256x128 I.ds shapeCasts_S1x256x128_S256x128
def kd : FVec F S64x128 .f32 := mulf I.kf (row64 I.dl)
def dp : FVec F S64x64 .f32 :=
  matmul dot_S64x256_S64x256_S64x64_1_1_0_0_n_n none I.d I.v (constant S64x64 .f32 0x00000000#32)
def dpf : FVec F S64x64 .f32 := select lower I.dp zero
def dpb : FVec F S64x64 .f32 := select lower zero I.dp
def dv : FVec F S64x256 .f32 :=
  addf (matmul dot_S64x64_S64x256_S64x256_0_0_1_1_n_n none (narrow I.sc) I.d (constant S64x256 .f32 0x00000000#32))
    (matmul dot_S64x128_S256x128_S64x256_1_1_0_0_n_n none (narrow I.kd) (narrow I.dstate) (constant S64x256 .f32 0x00000000#32))
def dkd : FVec F S64x128 .f32 :=
  matmul dot_S64x256_S256x128_S64x128_1_0_0_1_n_n none I.v (narrow I.dstate) (constant S64x128 .f32 0x00000000#32)
def dqf : FVec F S64x128 .f32 :=
  addf (matmul dot_S64x64_S64x128_S64x128_1_0_0_1_n_n none (narrow I.dpf) (narrow I.kf) (constant S64x128 .f32 0x00000000#32))
    (matmul dot_S64x256_S256x128_S64x128_1_0_0_1_n_n none I.d (narrow I.state) (constant S64x128 .f32 0x00000000#32))
def dkf : FVec F S64x128 .f32 :=
  addf (matmul dot_S64x64_S64x128_S64x128_0_0_1_1_n_n none (narrow I.dpf) (narrow I.qf) (constant S64x128 .f32 0x00000000#32))
    (mulf I.dkd (row64 I.dl))
def dqb : FVec F S64x128 .f32 :=
  matmul dot_S64x64_S64x128_S64x128_1_0_0_1_n_n none (narrow I.dpb) (narrow I.kb) (constant S64x128 .f32 0x00000000#32)
def dkb : FVec F S64x128 .f32 :=
  matmul dot_S64x64_S64x128_S64x128_0_0_1_1_n_n none (narrow I.dpb) (narrow I.qb) (constant S64x128 .f32 0x00000000#32)
def ddl : FVec F S1x128 .f32 := addf (down256 (mulf I.state I.dstate)) (down (mulf I.kf I.dkd))
/-- The head's state gradient before this chunk. -/
def next : FVec F S1x256x128 .f32 :=
  shapeCast S1x256x128 (addf (mulf I.dstate (row256 I.dl))
    (matmul dot_S64x256_S64x128_S256x128_0_0_1_1_n_n none I.d (narrow I.qf) (constant S256x128 .f32 0x00000000#32)))
    shapeCasts_S256x128_S1x256x128
/-- The gradient of the running sum. -/
def db : FVec F S64x128 .f32 :=
  addf (addf (subf (subf (mulf I.dqf I.qf) (mulf I.dkf I.kf)) (mulf I.dqb I.qb)) (mulf I.dkb I.kb))
    (select lastRow (row64 (shapeCast S1x128 (mulf I.ddl I.dl) shapeCasts_S1x128_S1x128)) zero)
def dqOut : FVec F S64x128 .bf16 :=
  shapeCast S64x128 (narrow (scaled (addf (mulf I.dqf I.ep) (mulf I.dqb I.en)))) shapeCasts_S64x128_S64x128
def dkOut : FVec F S64x128 .bf16 :=
  shapeCast S64x128 (narrow (addf (mulf I.dkf I.en) (mulf I.dkb I.ep))) shapeCasts_S64x128_S64x128
def dvOut : FVec F S64x256 .bf16 := shapeCast S64x256 (narrow I.dv) shapeCasts_S64x256_S64x256

end In

/-- The gradient of a chunk's log decays from the four heads' gradients of the running sum. -/
def dlaOut (x0 x1 x2 x3 : FVec F S64x128 .f32) : FVec F S64x512 .f32 :=
  shapeCast S64x512 (along upper (concatenate S64x512 1 [⟨S64x128, x0⟩, ⟨S64x128, x1⟩, ⟨S64x128, x2⟩, ⟨S64x128, x3⟩]
    concatenates_S64x128_S64x128_S64x128_S64x128_S64x512_d1)) shapeCasts_S64x512_S64x512

/-! ## The stores of a grid point -/

/-- The chunk of the point's four that step `s` of sixteen works on (last first), and its head. -/
def chunkAt (s : ℕ) : Fin 4 := ⟨3 - s / 4, by omega⟩
def headAt (s : ℕ) : Fin 4 := ⟨s % 4, by omega⟩

theorem inbQ (c h : Fin 4) (o : ℕ) (ho : o + 512 ≤ 2048) :
    ∀ a, (![64 * c.val, o + 128 * h.val] : Fin 2 → Nat) a + S64x128.size a ≤ S256x2048.size a := by
  have := c.isLt; have := h.isLt
  intro a; fin_cases a <;> simp [S64x128, S256x2048] <;> omega
theorem inbV (c h : Fin 4) : ∀ a, (![64 * c.val, 1024 + 256 * h.val] : Fin 2 → Nat) a + S64x256.size a ≤ S256x2048.size a := by
  have := c.isLt; have := h.isLt
  intro a; fin_cases a <;> simp [S64x256, S256x2048] <;> omega
theorem inbL (c : Fin 4) : ∀ a, (![64 * c.val, 0] : Fin 2 → Nat) a + S64x512.size a ≤ S256x512.size a := by
  have := c.isLt
  intro a; fin_cases a <;> simp [S64x512, S256x512] <;> omega
theorem inbA (c h : Fin 4) : ∀ a, (![64 * c.val, 128 * h.val] : Fin 2 → Nat) a + S64x128.size a ≤ S256x512.size a := by
  have := c.isLt; have := h.isLt
  intro a; fin_cases a <;> simp [S64x128, S256x512] <;> omega
theorem inbD (c h : Fin 4) : ∀ a, (![64 * c.val, 256 * h.val] : Fin 2 → Nat) a + S64x256.size a ≤ S256x1024.size a := by
  have := c.isLt; have := h.isLt
  intro a; fin_cases a <;> simp [S64x256, S256x1024] <;> omega
theorem inbS (c h : Fin 4) : ∀ a, (![c.val, h.val, 0, 0] : Fin 4 → Nat) a + S1x1x256x128.size a ≤ S4x4x256x128.size a := by
  have := c.isLt; have := h.isLt
  intro a; fin_cases a <;> simp [S1x1x256x128, S4x4x256x128] <;> omega
theorem inbG (h : Fin 4) : ∀ a, (![h.val, 0, 0] : Fin 3 → Nat) a + S1x256x128.size a ≤ S4x256x128.size a := by
  have := h.isLt
  intro a; fin_cases a <;> simp [S1x256x128, S4x256x128] <;> omega
theorem slicesAt (h : Fin 4) : S64x512.Slices ![0, 128 * h.val] S64x128 := by
  revert h; decide

abbrev rQ (c h : Fin 4) : Rect S256x2048 := Rect.unit ![64 * c.val, 0 + 128 * h.val] S64x128.size (inbQ c h 0 (by omega))
abbrev rK (c h : Fin 4) : Rect S256x2048 := Rect.unit ![64 * c.val, 512 + 128 * h.val] S64x128.size (inbQ c h 512 (by omega))
abbrev rV (c h : Fin 4) : Rect S256x2048 := Rect.unit ![64 * c.val, 1024 + 256 * h.val] S64x256.size (inbV c h)
abbrev rL (c : Fin 4) : Rect S256x512 := Rect.unit ![64 * c.val, 0] S64x512.size (inbL c)
abbrev rA (c h : Fin 4) : Rect S256x512 := Rect.unit ![64 * c.val, 128 * h.val] S64x128.size (inbA c h)
abbrev rD (c h : Fin 4) : Rect S256x1024 := Rect.unit ![64 * c.val, 256 * h.val] S64x256.size (inbD c h)
abbrev rS (c h : Fin 4) : Rect S4x4x256x128 := Rect.unit ![c.val, h.val, 0, 0] S1x1x256x128.size (inbS c h)
abbrev rG (h : Fin 4) : Rect S4x256x128 := Rect.unit ![h.val, 0, 0] S1x256x128.size (inbG h)

/-- The blocks a grid point loads from. -/
structure Bufs (F : FTy → Type) where
  a2 : Memref sig .tc .vmem S256x2048 .bf16
  h2 : a2.IsWhole
  x0 : Vec F S256x2048 .bf16
  a3 : Memref sig .tc .vmem S256x512 .f32
  h3 : a3.IsWhole
  x1 : Vec F S256x512 .f32
  a4 : Memref sig .tc .vmem S256x1024 .bf16
  h4 : a4.IsWhole
  x2 : Vec F S256x1024 .bf16
  a5 : Memref sig .tc .vmem S4x4x256x128 .f32
  h5 : a5.IsWhole
  x3 : Vec F S4x4x256x128 .f32
  a8 : Memref sig .tc .vmem S4x256x128 .f32

/-- What step `(c, h)` loads, with the head's state gradient as `ds`. -/
def Bufs.ins (b : Bufs F) (c h : Fin 4) (ds : FVec F S1x256x128 .f32) : In F where
  bc := extractStridedSlice S64x128 ![0, 128 * h.val]
    (along lower (View.readAt (Elt F) b.a3.view (rL c).toLoadRect (b.h3.unread b.x1))) (slicesAt h)
  q := View.readAt (Elt F) b.a2.view (rQ c h).toLoadRect (b.h2.unread b.x0)
  k := View.readAt (Elt F) b.a2.view (rK c h).toLoadRect (b.h2.unread b.x0)
  la := View.readAt (Elt F) b.a3.view (rA c h).toLoadRect (b.h3.unread b.x1)
  v := View.readAt (Elt F) b.a2.view (rV c h).toLoadRect (b.h2.unread b.x0)
  d := View.readAt (Elt F) b.a4.view (rD c h).toLoadRect (b.h4.unread b.x2)
  st := View.readAt (Elt F) b.a5.view (rS c h).toLoadRect (b.h5.unread b.x3)
  ds := ds

abbrev ScL (F : FTy → Type) := List (View.Piece (Elt F) S4x256x128 .f32)

/-- How a step reads the carried state gradient of a head, from the stores made so far. -/
abbrev Rd (F : FTy → Type) := Fin 4 → ScL F → FVec F S1x256x128 .f32

def Bufs.cov (b : Bufs F) : Rd F := fun h L => b.a8.view.readCov L (rG h).toLoadRect
def kept (a8 : Memref sig .tc .vmem S4x256x128 .f32) (h8 : a8.IsWhole) (xs : Vec F S4x256x128 .f32) : Rd F :=
  fun h _ => View.readAt (Elt F) a8.view (rG h).toLoadRect (h8.unread xs)

/-- The scratch's stores after `n` steps from step `k`, over the stores `L` made before. -/
def scL (b : Bufs F) (rd : Rd F) (k : ℕ) (L : ScL F) : ℕ → ScL F
  | 0 => L
  | n + 1 => ⟨rG (headAt (k + n)), (b.ins (chunkAt (k + n)) (headAt (k + n)) (rd (headAt (k + n)) (scL b rd k L n))).next⟩ :: scL b rd k L n

/-- What step `k + n` works on. -/
def at' (b : Bufs F) (rd : Rd F) (k : ℕ) (L : ScL F) (n : ℕ) : In F :=
  b.ins (chunkAt (k + n)) (headAt (k + n)) (rd (headAt (k + n)) (scL b rd k L n))

/-- The packed gradient's stores of `n` steps from step `k`. -/
def outL (b : Bufs F) (rd : Rd F) (k : ℕ) (L : ScL F) (M : List (View.Piece (Elt F) S256x2048 .bf16)) :
    ℕ → List (View.Piece (Elt F) S256x2048 .bf16)
  | 0 => M
  | n + 1 => ⟨rV (chunkAt (k + n)) (headAt (k + n)), (at' b rd k L n).dvOut⟩
      :: ⟨rK (chunkAt (k + n)) (headAt (k + n)), (at' b rd k L n).dkOut⟩
      :: ⟨rQ (chunkAt (k + n)) (headAt (k + n)), (at' b rd k L n).dqOut⟩ :: outL b rd k L M n

/-- The log decay gradient's stores of `n` chunks from step `k`. -/
def laL (b : Bufs F) (rd : Rd F) (k : ℕ) (L : ScL F) (M : List (View.Piece (Elt F) S256x512 .f32)) :
    ℕ → List (View.Piece (Elt F) S256x512 .f32)
  | 0 => M
  | n + 1 => ⟨rL (chunkAt (k + 4 * n)), dlaOut (at' b rd k L (4 * n)).db (at' b rd k L (4 * n + 1)).db
      (at' b rd k L (4 * n + 2)).db (at' b rd k L (4 * n + 3)).db⟩ :: laL b rd k L M n

end Cert.KernelIdeal.Head
-- ==== Proof.KerReal.lean ====
/- The kernel's work on one chunk of one head over the extended reals: when what it loads are the reals of a chunk, each
   vector of it is the real expression of `Chunk.lean` of the same name. -/
module

public import proofs.«01_k».proof.Proof.KerHead
public import proofs.«01_k».proof.Proof.RefRead
public import Idealize.ShloMosaic.Lib.Pointwise.Contract
public import Idealize.ShloMosaic.Lib.Pipeline.Value

@[expose] public section

noncomputable section

namespace Cert.KernelIdeal.Head

open Cert.KernelIdeal Cert.KernelIdeal.Gen Cert.Gla Idealize.ShloMosaic Idealize.ShloMosaic.TcCoe

/-- A product with one contracted axis, of two operands that hold reals. -/
theorem mm {sl sr so : Shape} {φ₁ φ₂ : FTy} (d : DotDims sl sr so) {a : Fin sl.rank} (hc : d.lhsContracting = [a]) {K : Nat}
    (hK : sl.size a = K) (prec : Option ContractPrecision) (l : FVec Ideal sl φ₁) (r : FVec Ideal sr φ₂) (j : so.Idx)
    (x y : Fin K → ℝ) (hl : ∀ k, (l (Shape.Idx.norm (d.lhsIdx j (d.contrIdx₁ hc hK k))) : EReal) = x k)
    (hr : ∀ k, (r (Shape.Idx.norm (d.rhsIdx j (d.contrIdx₁ hc hK k))) : EReal) = y k) :
    (matmul d prec l r (constant so .f32 0x00000000#32) j : EReal) = ((∑ k, x k * y k : ℝ) : EReal) := by
  show Ideal.matmul d l r (constant (F := Ideal) so .f32 0x00000000#32) j = _
  rw [Ideal.matmul_apply₁ d hc hK]
  refine Eq.trans ?_ (dot_r hl hr)
  have h0 : (constant (F := Ideal) so .f32 0x00000000#32 j : EReal) = 0 := Ideal.ofBits_zero_f32
  rw [h0, zero_add]

/-- What a step loads are the reals of the chunk `b`, of the state `S` and of the state gradient `G`. -/
structure Is (I : In Ideal) (b : Blk) (S G : St) : Prop where
  bc : ∀ j : S64x128.Idx, (I.bc j : EReal) = (b.bc (j 0) (j 1) : ℝ)
  q : ∀ j : S64x128.Idx, (I.qs j : EReal) = (b.q (j 0) (j 1) : ℝ)
  k : ∀ j : S64x128.Idx, (I.k j : EReal) = (b.k (j 0) (j 1) : ℝ)
  la : ∀ j : S64x128.Idx, (I.la j : EReal) = (b.a (j 0) (j 1) : ℝ)
  v : ∀ j : S64x256.Idx, (I.v j : EReal) = (b.v (j 0) (j 1) : ℝ)
  d : ∀ j : S64x256.Idx, (I.d j : EReal) = (b.d (j 0) (j 1) : ℝ)
  st : ∀ j : S256x128.Idx, (I.state j : EReal) = (S (j 1) (j 0) : ℝ)
  ds : ∀ j : S256x128.Idx, (I.dstate j : EReal) = (G (j 1) (j 0) : ℝ)

theorem lower_at (j : S64x64.Idx) : lower j = BitVec.ofBool (decide (j 1 ≤ j 0)) := by
  show IntOp.cmpi .sge (BitVec.ofNat 32 (0 * 64 + (j 0).val)) (BitVec.ofNat 32 (0 * 64 + (j 1).val)) = _
  have h0 : (j 0).val < 64 := (j 0).isLt
  have h1 : (j 1).val < 64 := (j 1).isLt
  rw [Nat.zero_mul, Nat.zero_add, Nat.zero_add, WordCmp.cmpi_sge_ofNat (w := 32) (by omega) (by omega)]
  rfl
theorem upper_at (j : S64x64.Idx) : upper j = BitVec.ofBool (decide (j 0 ≤ j 1)) := by
  show IntOp.cmpi .sle (BitVec.ofNat 32 (0 * 64 + (j 0).val)) (BitVec.ofNat 32 (0 * 64 + (j 1).val)) = _
  have h0 : (j 0).val < 64 := (j 0).isLt
  have h1 : (j 1).val < 64 := (j 1).isLt
  rw [Nat.zero_mul, Nat.zero_add, Nat.zero_add, WordCmp.cmpi_sle_ofNat (w := 32) (by omega) (by omega)]
  rfl
theorem eq_last : ∀ t : Fin 64, IntOp.cmpi .eq (BitVec.ofNat 32 t.val) 63#32 = BitVec.ofBool (decide (t = 63)) := by decide
theorem select_last (t : Fin 64) {c : BitVec 1} {a b : EReal} {x y : ℝ} (hc : c = BitVec.ofBool (decide (t = 63)))
    (ha : a = x) (hb : b = y) : Scalar.select c a b = ((if t = 63 then x else y : ℝ) : EReal) := select_r hc ha hb
theorem lastRow_at (j : S64x128.Idx) (t : Fin 64) (h : j 0 = t) : lastRow j = BitVec.ofBool (decide (t = 63)) := by
  show IntOp.cmpi .eq (BitVec.ofNat 32 (0 * 64 + (j 0).val)) 63#32 = _
  rw [Nat.zero_mul, Nat.zero_add, h]
  exact eq_last t

/-- A mask as zeros and ones. -/
theorem ones_at (c : IVec S64x64 1) (j : S64x64.Idx) (p : Prop) [Decidable p] (h : c j = BitVec.ofBool (decide p)) :
    (ones (F := Ideal) c j : EReal) = ((if p then 1 else 0 : ℝ) : EReal) := by
  show (((((c j).setWidth 32).toInt : ℝ)) : EReal) = _
  rw [h]
  by_cases hp : p <;> simp [hp]

theorem zero_at {s : Shape} (j : s.Idx) : (In.zero (F := Ideal) j : EReal) = ((0 : ℝ) : EReal) := zero_r

/-- A 0/1 matrix applied to the rows of a chunk sums the rows it marks. -/
theorem along_r (c : IVec S64x64 1) (w : Fin 64 → Fin 64 → ℝ) (hw : ∀ i : S64x64.Idx, (ones (F := Ideal) c i : EReal) = (w (i 0) (i 1) : ℝ))
    (a : FVec Ideal S64x512 .f32) (f : Fin 64 → Fin 512 → ℝ) (ha : ∀ i : S64x512.Idx, (a i : EReal) = (f (i 0) (i 1) : ℝ))
    (j : S64x512.Idx) : (along c a j : EReal) = ((∑ s, w (j 0) s * f s (j 1) : ℝ) : EReal) :=
  mm dot_S64x64_S64x512_S64x512_1_0_0_1_n_n rfl rfl _ _ _ j (fun k => w (j 0) k) (fun k => f k (j 1)) (fun k => hw _) (fun k => ha _)
theorem lower_r (i : S64x64.Idx) : (ones (F := Ideal) lower i : EReal) = ((if i 1 ≤ i 0 then 1 else 0 : ℝ) : EReal) :=
  ones_at lower i _ (lower_at i)
theorem upper_r (i : S64x64.Idx) : (ones (F := Ideal) upper i : EReal) = ((if i 0 ≤ i 1 then 1 else 0 : ℝ) : EReal) :=
  ones_at upper i _ (upper_at i)
theorem sum_marked (p : Fin 64 → Prop) [DecidablePred p] (f : Fin 64 → ℝ) :
    (∑ s, (if p s then 1 else 0 : ℝ) * f s) = ∑ s, if p s then f s else 0 :=
  Finset.sum_congr rfl fun s _ => by rw [ite_mul, one_mul, zero_mul]

/-- The columns' sums of a chunk's vector. -/
theorem down_r (x : FVec Ideal S64x128 .f32) (f : Fin 64 → Fin 128 → ℝ) (hx : ∀ i : S64x128.Idx, (x i : EReal) = (f (i 0) (i 1) : ℝ))
    (j : S1x128.Idx) : (In.down x j : EReal) = ((∑ t, f t (j 1) : ℝ) : EReal) := by
  unfold In.down
  refine (congrFun rfl j).trans ((shapeCast_addUnit_apply ![128] _ shapeCasts_S128_S1x128 j).trans ?_)
  exact (Ideal.multiReduction_add_single x _ _ (.inl rfl) rfl _).trans (sum_r fun k => hx _)
theorem down256_r (x : FVec Ideal S256x128 .f32) (f : Fin 256 → Fin 128 → ℝ)
    (hx : ∀ i : S256x128.Idx, (x i : EReal) = (f (i 0) (i 1) : ℝ)) (j : S1x128.Idx) :
    (In.down256 x j : EReal) = ((∑ t, f t (j 1) : ℝ) : EReal) := by
  unfold In.down256
  refine (congrFun rfl j).trans ((shapeCast_addUnit_apply ![128] _ shapeCasts_S128_S1x128 j).trans ?_)
  exact (Ideal.multiReduction_add_single x _ _ (.inl rfl) rfl _).trans (sum_r fun k => hx _)

/-- A row laid along every row. -/
theorem row64_r (x : FVec Ideal S1x128 .f32) (f : Fin 128 → ℝ) (hx : ∀ i : S1x128.Idx, (x i : EReal) = (f (i 1) : ℝ))
    (j : S64x128.Idx) : (In.row64 x j : EReal) = (f (j 1) : ℝ) := hx _
theorem row256_r (x : FVec Ideal S1x128 .f32) (f : Fin 128 → ℝ) (hx : ∀ i : S1x128.Idx, (x i : EReal) = (f (i 1) : ℝ))
    (j : S256x128.Idx) : (In.row256 x j : EReal) = (f (j 1) : ℝ) := hx _

theorem scaled_r (x : FVec Ideal S64x128 .f32) (f : Fin 64 → Fin 128 → ℝ) (hx : ∀ i : S64x128.Idx, (x i : EReal) = (f (i 0) (i 1) : ℝ))
    (j : S64x128.Idx) : (In.scaled x j : EReal) = ((f (j 0) (j 1) * scale : ℝ) : EReal) := mul_r (hx j) scale_eq

namespace Is

variable {I : In Ideal} {b : Blk} {S G : St} (H : Is I b S G)
include H

theorem ks (j : S64x128.Idx) : (I.ks j : EReal) = (b.k (j 0) (j 1) : ℝ) := H.k j
theorem ep (j : S64x128.Idx) : (I.ep j : EReal) = (b.ep (j 0) (j 1) : ℝ) := exp_r (H.bc j)
theorem en (j : S64x128.Idx) : (I.en j : EReal) = (b.en (j 0) (j 1) : ℝ) :=
  (exp_r (sub_r (zero_at j) (H.bc j))).trans (by rw [zero_sub]; rfl)
theorem qf (j : S64x128.Idx) : (I.qf j : EReal) = (b.qf (j 0) (j 1) : ℝ) := mul_r (H.q j) (H.ep j)
theorem qb (j : S64x128.Idx) : (I.qb j : EReal) = (b.qb (j 0) (j 1) : ℝ) := mul_r (H.q j) (H.en j)
theorem kf (j : S64x128.Idx) : (I.kf j : EReal) = (b.kf (j 0) (j 1) : ℝ) := mul_r (H.k j) (H.en j)
theorem kb (j : S64x128.Idx) : (I.kb j : EReal) = (b.kb (j 0) (j 1) : ℝ) := mul_r (H.k j) (H.ep j)
theorem sc (j : S64x64.Idx) : (I.sc j : EReal) = (b.sc (j 0) (j 1) : ℝ) :=
  select_r (lower_at j)
    (mm dot_S64x128_S64x128_S64x64_1_1_0_0_n_n rfl rfl none _ _ j (fun k => b.qf (j 0) k) (fun k => b.kf (j 1) k) (fun k => H.qf _) (fun k => H.kf _))
    (mm dot_S64x128_S64x128_S64x64_1_1_0_0_n_n rfl rfl none _ _ j (fun k => b.qb (j 0) k) (fun k => b.kb (j 1) k) (fun k => H.qb _) (fun k => H.kb _))

theorem dl (j : S1x128.Idx) : (I.dl j : EReal) = (b.dl (j 1) : ℝ) := exp_r (down_r _ _ H.la j)
theorem kd (j : S64x128.Idx) : (I.kd j : EReal) = (b.kf (j 0) (j 1) * b.dl (j 1) : ℝ) :=
  mul_r (H.kf j) (row64_r _ b.dl H.dl j)
theorem dp (j : S64x64.Idx) : (I.dp j : EReal) = (b.dp (j 0) (j 1) : ℝ) :=
  mm dot_S64x256_S64x256_S64x64_1_1_0_0_n_n rfl rfl none _ _ j (fun k => b.d (j 0) k) (fun k => b.v (j 1) k) (fun k => H.d _) (fun k => H.v _)
theorem dpf (j : S64x64.Idx) : (I.dpf j : EReal) = (b.dpf (j 0) (j 1) : ℝ) := select_r (lower_at j) (H.dp j) (zero_at j)
theorem dpb (j : S64x64.Idx) : (I.dpb j : EReal) = (b.dpb (j 0) (j 1) : ℝ) := select_r (lower_at j) (zero_at j) (H.dp j)
theorem dv (j : S64x256.Idx) : (I.dv j : EReal) = (b.dv G (j 0) (j 1) : ℝ) :=
  add_r
    (mm dot_S64x64_S64x256_S64x256_0_0_1_1_n_n rfl rfl none _ _ j (fun k => b.sc k (j 0)) (fun k => b.d k (j 1)) (fun k => H.sc _) (fun k => H.d _))
    (mm dot_S64x128_S256x128_S64x256_1_1_0_0_n_n rfl rfl none _ _ j (fun k => b.kf (j 0) k * b.dl k) (fun k => G k (j 1))
      (fun k => H.kd _) (fun k => H.ds _))
theorem dkd (j : S64x128.Idx) : (I.dkd j : EReal) = (b.dkd G (j 0) (j 1) : ℝ) :=
  mm dot_S64x256_S256x128_S64x128_1_0_0_1_n_n rfl rfl none _ _ j (fun k => b.v (j 0) k) (fun k => G (j 1) k) (fun k => H.v _) (fun k => H.ds _)
theorem dqf (j : S64x128.Idx) : (I.dqf j : EReal) = (b.dqf S (j 0) (j 1) : ℝ) :=
  add_r
    (mm dot_S64x64_S64x128_S64x128_1_0_0_1_n_n rfl rfl none _ _ j (fun k => b.dpf (j 0) k) (fun k => b.kf k (j 1)) (fun k => H.dpf _) (fun k => H.kf _))
    (mm dot_S64x256_S256x128_S64x128_1_0_0_1_n_n rfl rfl none _ _ j (fun k => b.d (j 0) k) (fun k => S (j 1) k) (fun k => H.d _) (fun k => H.st _))
theorem dkf (j : S64x128.Idx) : (I.dkf j : EReal) = (b.dkf G (j 0) (j 1) : ℝ) :=
  add_r
    (mm dot_S64x64_S64x128_S64x128_0_0_1_1_n_n rfl rfl none _ _ j (fun k => b.dpf k (j 0)) (fun k => b.qf k (j 1)) (fun k => H.dpf _) (fun k => H.qf _))
    (mul_r (H.dkd j) (row64_r _ b.dl H.dl j))
theorem dqb (j : S64x128.Idx) : (I.dqb j : EReal) = (b.dqb (j 0) (j 1) : ℝ) :=
  mm dot_S64x64_S64x128_S64x128_1_0_0_1_n_n rfl rfl none _ _ j (fun k => b.dpb (j 0) k) (fun k => b.kb k (j 1)) (fun k => H.dpb _) (fun k => H.kb _)
theorem dkb (j : S64x128.Idx) : (I.dkb j : EReal) = (b.dkb (j 0) (j 1) : ℝ) :=
  mm dot_S64x64_S64x128_S64x128_0_0_1_1_n_n rfl rfl none _ _ j (fun k => b.dpb k (j 0)) (fun k => b.qb k (j 1)) (fun k => H.dpb _) (fun k => H.qb _)
theorem ddl (j : S1x128.Idx) : (I.ddl j : EReal) = (b.ddl S G (j 1) : ℝ) :=
  add_r (down256_r _ (fun x k => S k x * G k x) (fun i => mul_r (H.st i) (H.ds i)) j)
    (down_r _ (fun t k => b.kf t k * b.dkd G t k) (fun i => mul_r (H.kf i) (H.dkd i)) j)
theorem next (j : S1x256x128.Idx) : (I.next j : EReal) = (b.next G (j 2) (j 1) : ℝ) := by
  unfold In.next
  refine (congrFun rfl j).trans ((shapeCast_addUnit_apply ![256, 128] _ shapeCasts_S256x128_S1x256x128 j).trans ?_)
  exact add_r (mul_r (H.ds _) (row256_r _ b.dl H.dl _))
    (mm dot_S64x256_S64x128_S256x128_0_0_1_1_n_n rfl rfl none _ _ _ (fun k => b.d k (j 1)) (fun k => b.qf k (j 2)) (fun k => H.d _) (fun k => H.qf _))
theorem db (j : S64x128.Idx) : (I.db j : EReal) = (b.db S G (j 0) (j 1) : ℝ) := by
  refine add_r (add_r (sub_r (sub_r (mul_r (H.dqf j) (H.qf j)) (mul_r (H.dkf j) (H.kf j))) (mul_r (H.dqb j) (H.qb j)))
    (mul_r (H.dkb j) (H.kb j))) (select_last (j 0) (lastRow_at j _ rfl) (row64_r _ (fun k => b.ddl S G k * b.dl k) (fun i => ?_) j) (zero_at j))
  rw [shapeCast_self]
  exact mul_r (H.ddl i) (H.dl i)
theorem dqOut (j : S64x128.Idx) : (I.dqOut j : EReal) = (b.dq S (j 0) (j 1) * scale : ℝ) := by
  unfold In.dqOut
  rw [shapeCast_self]
  exact scaled_r _ (b.dq S) (fun i => add_r (mul_r (H.dqf i) (H.ep i)) (mul_r (H.dqb i) (H.en i))) j
theorem dkOut (j : S64x128.Idx) : (I.dkOut j : EReal) = (b.dk G (j 0) (j 1) : ℝ) := by
  unfold In.dkOut
  rw [shapeCast_self]
  exact add_r (mul_r (H.dkf j) (H.en j)) (mul_r (H.dkb j) (H.ep j))
theorem dvOut (j : S64x256.Idx) : (I.dvOut j : EReal) = (b.dv G (j 0) (j 1) : ℝ) := by
  unfold In.dvOut
  rw [shapeCast_self]
  exact H.dv j

end Is
end Cert.KernelIdeal.Head
-- ==== Proof.KerRun.lean ====
/- The stores the kernel's body makes at a grid point are the sixteen chunk-and-head steps' of `KerHead.lean`. -/
module

public import proofs.«01_k».proof.Proof.KerHead

@[expose] public section

noncomputable section

namespace Cert.KernelIdeal.Head

open Cert.KernelIdeal Cert.KernelIdeal.Gen Idealize.ShloMosaic Idealize.ShloMosaic.TcCoe

variable {F : FTy → Type} [FloatOps F]
variable (c : Dev nD) (i : grid0.Coords) (arg2 : Memref sig .tc .vmem S256x2048 .bf16) (harg2 : arg2.IsWhole) (arg3 : Memref sig .tc .vmem S256x512 .f32) (harg3 : arg3.IsWhole) (arg4 : Memref sig .tc .vmem S256x1024 .bf16) (harg4 : arg4.IsWhole) (arg5 : Memref sig .tc .vmem S4x4x256x128 .f32) (harg5 : arg5.IsWhole) (arg6 : Memref sig .tc .vmem S256x2048 .bf16) (harg6 : arg6.IsWhole) (arg7 : Memref sig .tc .vmem S256x512 .f32) (harg7 : arg7.IsWhole) (arg8 : Memref sig .tc .vmem S4x256x128 .f32) (harg8 : arg8.IsWhole)
  (x0 : Vec F S256x2048 .bf16) (x1 : Vec F S256x512 .f32) (x2 : Vec F S256x1024 .bf16) (x3 : Vec F S4x4x256x128 .f32) (xs0 : Vec F S4x256x128 .f32)

abbrev bufs : Bufs F := ⟨arg2, harg2, x0, arg3, harg3, x1, arg4, harg4, x2, arg5, harg5, x3, arg8⟩

/-- The reset's store: the scratch whole, zero. -/
def cleared : ScL F := [⟨Rect.unit ![0, 0, 0] S4x256x128.size inb_S4x256x128_S4x256x128_0_0_0,
  shapeCast S4x256x128 (broadcast S4x256x128 (Scalar.ofBits .f32 0x00000000#32)) shapeCasts_S4x256x128_S4x256x128⟩]

theorem scA (hc0 : cond0_0 i) :
    (kernelRun0_A c i arg2 harg2 arg3 harg3 arg4 harg4 arg5 harg5 arg6 harg6 arg7 harg7 arg8 harg8 hc0 x0 x1 x2 x3).2.2.1
      = scL (bufs arg2 harg2 arg3 harg3 arg4 harg4 arg5 harg5 arg8 x0 x1 x2 x3) (bufs arg2 harg2 arg3 harg3 arg4 harg4 arg5 harg5 arg8 x0 x1 x2 x3).cov 0 cleared 16 := by
  sl_kernel_rfl

theorem outA (hc0 : cond0_0 i) :
    (kernelRun0_A c i arg2 harg2 arg3 harg3 arg4 harg4 arg5 harg5 arg6 harg6 arg7 harg7 arg8 harg8 hc0 x0 x1 x2 x3).1
      = outL (bufs arg2 harg2 arg3 harg3 arg4 harg4 arg5 harg5 arg8 x0 x1 x2 x3) (bufs arg2 harg2 arg3 harg3 arg4 harg4 arg5 harg5 arg8 x0 x1 x2 x3).cov 0 cleared [] 16 := by
  sl_kernel_rfl

theorem laA (hc0 : cond0_0 i) :
    (kernelRun0_A c i arg2 harg2 arg3 harg3 arg4 harg4 arg5 harg5 arg6 harg6 arg7 harg7 arg8 harg8 hc0 x0 x1 x2 x3).2.1
      = laL (bufs arg2 harg2 arg3 harg3 arg4 harg4 arg5 harg5 arg8 x0 x1 x2 x3) (bufs arg2 harg2 arg3 harg3 arg4 harg4 arg5 harg5 arg8 x0 x1 x2 x3).cov 0 cleared [] 4 := by
  sl_kernel_rfl

theorem scB (hc0 : ¬cond0_0 i) :
    (kernelRun0_B c i arg2 harg2 arg3 harg3 arg4 harg4 arg5 harg5 arg6 harg6 arg7 harg7 arg8 harg8 hc0 x0 x1 x2 x3 xs0).2.2.1
      = scL (bufs arg2 harg2 arg3 harg3 arg4 harg4 arg5 harg5 arg8 x0 x1 x2 x3) (bufs arg2 harg2 arg3 harg3 arg4 harg4 arg5 harg5 arg8 x0 x1 x2 x3).cov 4 (scL (bufs arg2 harg2 arg3 harg3 arg4 harg4 arg5 harg5 arg8 x0 x1 x2 x3) (kept arg8 harg8 xs0) 0 [] 4) 12 := by
  sl_kernel_rfl

theorem outB (hc0 : ¬cond0_0 i) :
    (kernelRun0_B c i arg2 harg2 arg3 harg3 arg4 harg4 arg5 harg5 arg6 harg6 arg7 harg7 arg8 harg8 hc0 x0 x1 x2 x3 xs0).1
      = outL (bufs arg2 harg2 arg3 harg3 arg4 harg4 arg5 harg5 arg8 x0 x1 x2 x3) (bufs arg2 harg2 arg3 harg3 arg4 harg4 arg5 harg5 arg8 x0 x1 x2 x3).cov 4 (scL (bufs arg2 harg2 arg3 harg3 arg4 harg4 arg5 harg5 arg8 x0 x1 x2 x3) (kept arg8 harg8 xs0) 0 [] 4) (outL (bufs arg2 harg2 arg3 harg3 arg4 harg4 arg5 harg5 arg8 x0 x1 x2 x3) (kept arg8 harg8 xs0) 0 [] [] 4) 12 := by
  sl_kernel_rfl

theorem laB (hc0 : ¬cond0_0 i) :
    (kernelRun0_B c i arg2 harg2 arg3 harg3 arg4 harg4 arg5 harg5 arg6 harg6 arg7 harg7 arg8 harg8 hc0 x0 x1 x2 x3 xs0).2.1
      = laL (bufs arg2 harg2 arg3 harg3 arg4 harg4 arg5 harg5 arg8 x0 x1 x2 x3) (bufs arg2 harg2 arg3 harg3 arg4 harg4 arg5 harg5 arg8 x0 x1 x2 x3).cov 4 (scL (bufs arg2 harg2 arg3 harg3 arg4 harg4 arg5 harg5 arg8 x0 x1 x2 x3) (kept arg8 harg8 xs0) 0 [] 4) (laL (bufs arg2 harg2 arg3 harg3 arg4 harg4 arg5 harg5 arg8 x0 x1 x2 x3) (kept arg8 harg8 xs0) 0 [] [] 1) 3 := by
  sl_kernel_rfl

end Cert.KernelIdeal.Head
-- ==== Proof.KerStep.lean ====
/- What a step of the kernel loads are the reals of its chunk and head, and what its stores hold are that chunk's
   gradients, once the blocks of the grid point hold the arguments' rows. -/
module

public import proofs.«01_k».proof.Proof.KerReal
public import proofs.«01_k».proof.Proof.KerRun

@[expose] public section

noncomputable section

namespace Cert.KernelIdeal.Head

open Cert.KernelIdeal Cert.KernelIdeal.Gen Cert.Gla Idealize.ShloMosaic Idealize.ShloMosaic.TcCoe

/-- Chunk `c` of the four of row block `p`. -/
abbrev chunk (p : Fin 8) (c : Fin 4) : Fin 32 := ⟨4 * p.val + c.val, by omega⟩

/-- The blocks of the grid point that works on row block `p` hold the reals of `I`, and the states of its chunks. -/
structure Holds (b : Bufs Ideal) (I : Inputs) (p : Fin 8) : Prop where
  x0 : ∀ (j : S256x2048.Idx) (r : Fin 2048) (c : Fin 5632), r.val = 256 * p.val + (j 0).val → c.val = (j 1).val →
    (b.x0 j : EReal) = (I.Z r c : ℝ)
  x1 : ∀ (j : S256x512.Idx) (r : Fin 2048) (c : Fin 512), r.val = 256 * p.val + (j 0).val → c.val = (j 1).val →
    (b.x1 j : EReal) = (I.A r c : ℝ)
  x2 : ∀ (j : S256x1024.Idx) (r : Fin 2048) (c : Fin 1024), r.val = 256 * p.val + (j 0).val → c.val = (j 1).val →
    (b.x2 j : EReal) = (I.C r c : ℝ)
  x3 : ∀ j : S4x4x256x128.Idx, (b.x3 j : EReal) = (S (I.blk (j 1)) (chunk p (j 0)) (j 3) (j 2) : ℝ)

theorem read_at {S : Shape} {e : EltTy} (a : Memref sig .tc .vmem S e) (h : a.IsWhole) (x : Vec Ideal S e) (r : Rect S) (j : r.shape.Idx) :
    View.readAt (Elt Ideal) a.view r.toLoadRect (h.unread x) j = x (r.idx j) := by
  rw [View.readAt_eq_ld, h.read_unread]

theorem idx_at {S : Shape} (off size : Fin S.rank → ℕ) (inb) (j : (Rect.unit off size inb).shape.Idx) (a : Fin S.rank) :
    ((Rect.unit off size inb).idx j a).val = off a + (j a).val := by
  show off a + 1 * (j a).val = _; omega

variable {b : Bufs Ideal} {I : Inputs} {p : Fin 8} (H : Holds b I p)
include H

theorem la_at (c : Fin 4) (j : S64x512.Idx) :
    (View.readAt (Elt Ideal) b.a3.view (rL c).toLoadRect (b.h3.unread b.x1) j : EReal) = (I.A (row (chunk p c) (j 0)) (j 1) : ℝ) := by
  rw [read_at]
  refine H.x1 _ _ _ ?_ ?_
  · rw [idx_at]; show (4 * p.val + c.val) * 64 + (j 0).val = 256 * p.val + (64 * c.val + (j 0).val); omega
  · rw [idx_at]; show (j 1).val = 0 + (j 1).val; omega

theorem ins_is (c h : Fin 4) (ds : FVec Ideal S1x256x128 .f32) (G : St)
    (hds : ∀ j : S1x256x128.Idx, (ds j : EReal) = (G (j 2) (j 1) : ℝ)) :
    Is (b.ins c h ds) (I.blk h (chunk p c)) (S (I.blk h) (chunk p c)) G where
  bc := fun j => by
    have hj0 : (j 0).val < 64 := (j 0).isLt
    have hj1 : (j 1).val < 128 := (j 1).isLt
    have hh := h.isLt
    refine (extractStridedSlice_apply ![0, 128 * h.val]
      (along (F := Ideal) lower (View.readAt (Elt Ideal) b.a3.view (rL c).toLoadRect (b.h3.unread b.x1))) (slicesAt h) j (ix2 (j 0) (⟨h.val * 128 + (j 1).val, by omega⟩ : Fin 512)) (fun a => match a with
      | ⟨0, _⟩ => (Nat.zero_add (j 0).val).symm
      | ⟨1, _⟩ => congrArg (· + (j 1).val) (Nat.mul_comm h.val 128))).trans ?_
    refine (along_r lower (fun i s => if s ≤ i then 1 else 0) lower_r _ (fun s c' => I.A (row (chunk p c) s) c') (la_at H c) _).trans ?_
    exact congrArg Real.toEReal (sum_marked (fun s => s ≤ (j 0 : Fin 64)) (fun s => I.A (row (chunk p c) s) ⟨h.val * 128 + (j 1).val, by omega⟩))
  q := fun j => by
    refine scaled_r _ (fun t k => I.Z (row (chunk p c) t) ⟨h.val * 128 + k.val, by omega⟩) (fun i => ?_) j
    refine (read_at b.a2 b.h2 b.x0 _ _).trans (H.x0 _ _ _ ?_ ?_)
    · rw [idx_at]; show (4 * p.val + c.val) * 64 + (i 0).val = 256 * p.val + (64 * c.val + (i 0).val); omega
    · rw [idx_at]; show h.val * 128 + (i 1).val = 0 + 128 * h.val + (i 1).val; omega
  k := fun i => by
    refine (read_at b.a2 b.h2 b.x0 _ _).trans (H.x0 _ _ _ ?_ ?_)
    · rw [idx_at]; show (4 * p.val + c.val) * 64 + (i 0).val = 256 * p.val + (64 * c.val + (i 0).val); omega
    · rw [idx_at]; show 512 + (h.val * 128 + (i 1).val) = 512 + 128 * h.val + (i 1).val; omega
  la := fun i => by
    refine (read_at b.a3 b.h3 b.x1 _ _).trans (H.x1 _ _ _ ?_ ?_)
    · rw [idx_at]; show (4 * p.val + c.val) * 64 + (i 0).val = 256 * p.val + (64 * c.val + (i 0).val); omega
    · rw [idx_at]; show h.val * 128 + (i 1).val = 128 * h.val + (i 1).val; omega
  v := fun i => by
    refine (read_at b.a2 b.h2 b.x0 _ _).trans (H.x0 _ _ _ ?_ ?_)
    · rw [idx_at]; show (4 * p.val + c.val) * 64 + (i 0).val = 256 * p.val + (64 * c.val + (i 0).val); omega
    · rw [idx_at]; show 1024 + (h.val * 256 + (i 1).val) = 1024 + 256 * h.val + (i 1).val; omega
  d := fun i => by
    refine (read_at b.a4 b.h4 b.x2 _ _).trans (H.x2 _ _ _ ?_ ?_)
    · rw [idx_at]; show (4 * p.val + c.val) * 64 + (i 0).val = 256 * p.val + (64 * c.val + (i 0).val); omega
    · rw [idx_at]; show h.val * 256 + (i 1).val = 256 * h.val + (i 1).val; omega
  st := fun j => by
    have hc := c.isLt
    have hh := h.isLt
    have hj0 : (j 0).val < 256 := (j 0).isLt
    have hj1 : (j 1).val < 128 := (j 1).isLt
    refine (shapeCast_apply _ shapeCasts_S1x1x256x128_S256x128 j (ix4 (0 : Fin 1) (0 : Fin 1) (j 0 : Fin 256) (j 1 : Fin 128)) ?_).trans ?_
    · refine (Shape.rowMajor_val_four _).trans (Eq.trans ?_ (Shape.rowMajor_val_two _).symm)
      show ((0 * 1 + 0) * 256 + (j 0).val) * 128 + (j 1).val = (j 0).val * 128 + (j 1).val
      omega
    refine (read_at b.a5 b.h5 b.x3 _ _).trans ((H.x3 _).trans ?_)
    have e0 : ((rS c h).idx (ix4 (0 : Fin 1) (0 : Fin 1) (j 0 : Fin 256) (j 1 : Fin 128)) 0 : Fin 4) = c := Fin.ext (idx_at _ _ _ _ _)
    have e1 : ((rS c h).idx (ix4 (0 : Fin 1) (0 : Fin 1) (j 0 : Fin 256) (j 1 : Fin 128)) 1 : Fin 4) = h := Fin.ext (idx_at _ _ _ _ _)
    have e2 : ((rS c h).idx (ix4 (0 : Fin 1) (0 : Fin 1) (j 0 : Fin 256) (j 1 : Fin 128)) 2 : Fin 256) = j 0 := Fin.ext ((idx_at _ _ _ _ _).trans (Nat.zero_add _))
    have e3 : ((rS c h).idx (ix4 (0 : Fin 1) (0 : Fin 1) (j 0 : Fin 256) (j 1 : Fin 128)) 3 : Fin 128) = j 1 := Fin.ext ((idx_at _ _ _ _ _).trans (Nat.zero_add _))
    rw [e0, e1, e2, e3]
  ds := fun j => (shapeCast_dropUnit_apply ![256, 128] ds shapeCasts_S1x256x128_S256x128 j).trans (hds _)

omit H
/-- The gradient of a chunk's log decays, column by column: the sums of the heads' gradients over the rows from each on. -/
theorem dlaOut_r (db : Fin 4 → FVec Ideal S64x128 .f32) (f : Fin 4 → Fin 64 → Fin 128 → ℝ)
    (H : ∀ h (i : S64x128.Idx), (db h i : EReal) = (f h (i 0) (i 1) : ℝ)) (j : S64x512.Idx) (h : Fin 4) (k : Fin 128)
    (e : (j 1).val = h.val * 128 + k.val) :
    (dlaOut (db 0) (db 1) (db 2) (db 3) j : EReal) = ((∑ s : Fin 64, if (j 0 : Fin 64) ≤ s then f h s k else 0 : ℝ) : EReal) := by
  have cat : ∀ i : S64x512.Idx, (concatenate S64x512 1 [⟨S64x128, db 0⟩, ⟨S64x128, db 1⟩, ⟨S64x128, db 2⟩, ⟨S64x128, db 3⟩]
      concatenates_S64x128_S64x128_S64x128_S64x128_S64x512_d1 i : EReal)
        = (f ⟨(i 1).val / 128, by have := (i 1).isLt; change _ < 512 at this; omega⟩ (i 0) ⟨(i 1).val % 128, by omega⟩ : ℝ) := fun i => by
    have lt : (i 1).val < 512 := (i 1).isLt
    obtain ⟨g, hg⟩ : ∃ g : Fin 4, (i 1).val / 128 = g.val := ⟨⟨(i 1).val / 128, by omega⟩, rfl⟩
    refine (concatenate_apply_piece (t := S64x512) (1 : Fin 2) [⟨S64x128, db 0⟩, ⟨S64x128, db 1⟩, ⟨S64x128, db 2⟩, ⟨S64x128, db 3⟩]
      concatenates_S64x128_S64x128_S64x128_S64x128_S64x512_d1 i g.val g.isLt S64x128 (db g) ?_ rfl (128 * g.val) ?_
      (ix2 (i 0 : Fin 64) (⟨(i 1).val % 128, by omega⟩ : Fin 128)) ?_ ?_).trans ((H g _).trans ?_)
    · revert g; intro g _; fin_cases g <;> rfl
    · revert g; intro g _; fin_cases g <;> rfl
    · intro a ha
      match a, ha with
      | ⟨0, _⟩, _ => rfl
      | ⟨1, _⟩, ha => exact absurd rfl ha
    · show 128 * g.val + (i 1).val % 128 = (i 1).val; omega
    · exact congrArg (fun a => ((f a (i 0) ⟨(i 1).val % 128, by omega⟩ : ℝ) : EReal)) (Fin.ext hg.symm)
  unfold dlaOut
  rw [shapeCast_self]
  refine (along_r upper (fun i s => if i ≤ s then 1 else 0) upper_r _ (fun s c => f ⟨c.val / 128, by omega⟩ s ⟨c.val % 128, by omega⟩) cat j).trans ?_
  refine (congrArg Real.toEReal (sum_marked (fun s => (j 0 : Fin 64) ≤ s)
    (fun s => f ⟨(j 1).val / 128, by omega⟩ s ⟨(j 1).val % 128, by omega⟩))).trans ?_
  have e1 : (⟨(j 1).val / 128, by omega⟩ : Fin 4) = h := Fin.ext (by show (j 1).val / 128 = h.val; omega)
  have e2 : (⟨(j 1).val % 128, by omega⟩ : Fin 128) = k := Fin.ext (by show (j 1).val % 128 = k.val; omega)
  rw [e1, e2]

end Cert.KernelIdeal.Head
-- ==== Proof.KerOut.lean ====
/- A grid point's steps: the state gradient carried from chunk to chunk and from point to point is the recursion's, and
   the point's stores hold the gradients of its 256 rows. -/
module

public import proofs.«01_k».proof.Proof.KerStep

@[expose] public section

noncomputable section

namespace Cert.Gla

/-- The state gradient after `j` chunks from the last on. -/
def Gr (B : Fin 32 → Blk) : ℕ → St
  | 0 => fun _ _ => 0
  | j + 1 => (B ⟨31 - j, by omega⟩).next (Gr B j)

theorem Gr_eq (B : Fin 32 → Blk) (j : ℕ) : ∀ n : Fin 32, n.val + j = 31 → Gr B j = G B n := by
  induction j with
  | zero => intro n h; rw [show n = 31 from Fin.ext (by show n.val = 31; omega), G_last]; rfl
  | succ j ih =>
    intro n h
    have e : (⟨31 - j, by omega⟩ : Fin 32).val = n.val + 1 := by show 31 - j = n.val + 1; omega
    rw [G_prev B e, ← ih ⟨31 - j, by omega⟩ (by show 31 - j + j = 31; omega)]
    rfl

namespace Inputs
variable (I : Inputs) (h : Fin 4) (n : Fin 32) (t : Fin 64) (r : Fin 2048)

theorem dq_at (hr : r.val = n.val * 64 + t.val) (k : Fin 128) (c : Fin 512) (hc : c.val = h.val * 128 + k.val) :
    I.dq r c = (I.blk h n).dq (S (I.blk h) n) t k * scale := by
  obtain rfl : n = chunkOf r := Fin.ext (by show n.val = r.val / 64; omega)
  obtain rfl : t = rowOf r := Fin.ext (by show t.val = r.val % 64; omega)
  obtain rfl : h = ⟨c.val / 128, Nat.div_lt_of_lt_mul c.isLt⟩ := Fin.ext (by show h.val = c.val / 128; omega)
  obtain rfl : k = ⟨c.val % 128, Nat.mod_lt _ (by decide)⟩ := Fin.ext (by show k.val = c.val % 128; omega)
  rfl

theorem dk_at (hr : r.val = n.val * 64 + t.val) (k : Fin 128) (c : Fin 512) (hc : c.val = h.val * 128 + k.val) :
    I.dk r c = (I.blk h n).dk (G (I.blk h) n) t k := by
  obtain rfl : n = chunkOf r := Fin.ext (by show n.val = r.val / 64; omega)
  obtain rfl : t = rowOf r := Fin.ext (by show t.val = r.val % 64; omega)
  obtain rfl : h = ⟨c.val / 128, Nat.div_lt_of_lt_mul c.isLt⟩ := Fin.ext (by show h.val = c.val / 128; omega)
  obtain rfl : k = ⟨c.val % 128, Nat.mod_lt _ (by decide)⟩ := Fin.ext (by show k.val = c.val % 128; omega)
  rfl

theorem dla_at (hr : r.val = n.val * 64 + t.val) (k : Fin 128) (c : Fin 512) (hc : c.val = h.val * 128 + k.val) :
    I.dla r c = (I.blk h n).dla (S (I.blk h) n) (G (I.blk h) n) t k := by
  obtain rfl : n = chunkOf r := Fin.ext (by show n.val = r.val / 64; omega)
  obtain rfl : t = rowOf r := Fin.ext (by show t.val = r.val % 64; omega)
  obtain rfl : h = ⟨c.val / 128, Nat.div_lt_of_lt_mul c.isLt⟩ := Fin.ext (by show h.val = c.val / 128; omega)
  obtain rfl : k = ⟨c.val % 128, Nat.mod_lt _ (by decide)⟩ := Fin.ext (by show k.val = c.val % 128; omega)
  rfl

theorem dv_at (hr : r.val = n.val * 64 + t.val) (k : Fin 256) (c : Fin 1024) (hc : c.val = h.val * 256 + k.val) :
    I.dv r c = (I.blk h n).dv (G (I.blk h) n) t k := by
  obtain rfl : n = chunkOf r := Fin.ext (by show n.val = r.val / 64; omega)
  obtain rfl : t = rowOf r := Fin.ext (by show t.val = r.val % 64; omega)
  obtain rfl : h = ⟨c.val / 256, Nat.div_lt_of_lt_mul c.isLt⟩ := Fin.ext (by show h.val = c.val / 256; omega)
  obtain rfl : k = ⟨c.val % 256, Nat.mod_lt _ (by decide)⟩ := Fin.ext (by show k.val = c.val % 256; omega)
  rfl

/-- The gradient of the queries', keys' and values' columns. -/
def pack (c : Fin 2048) : ℝ :=
  if c1 : c.val < 512 then I.dq r ⟨c.val, c1⟩
  else if c2 : c.val < 1024 then I.dk r ⟨c.val - 512, by omega⟩
  else I.dv r ⟨c.val - 1024, by omega⟩

theorem pack_q (c : Fin 2048) (h : c.val < 512) : I.pack r c = I.dq r ⟨c.val, h⟩ := dif_pos h
theorem pack_k (c : Fin 2048) (h : ¬ c.val < 512) (h' : c.val < 1024) : I.pack r c = I.dk r ⟨c.val - 512, by omega⟩ :=
  (dif_neg h).trans (dif_pos h')
theorem pack_v (c : Fin 2048) (h' : ¬ c.val < 1024) : I.pack r c = I.dv r ⟨c.val - 1024, by omega⟩ :=
  (dif_neg (by omega)).trans (dif_neg h')

end Inputs
end Cert.Gla

namespace Cert.KernelIdeal.Head

open Cert.KernelIdeal Cert.KernelIdeal.Gen Cert.Gla Idealize.ShloMosaic Idealize.ShloMosaic.TcCoe

/-- Row `i` of row block `p`. -/
abbrev rowIn (p : Fin 8) (i : Fin 256) : Fin 2048 := ⟨256 * p.val + i.val, by omega⟩

variable (b : Bufs Ideal) (I : Inputs) (p : Fin 8) (H : Holds b I p)

/-- Step `k + n` works on its chunk and head's reals. -/
def Step (rd : Rd Ideal) (k : ℕ) (L : ScL Ideal) (n : ℕ) : Prop :=
  Is (at' b rd k L n) (I.blk (headAt (k + n)) (chunk p (chunkAt (k + n))))
    (S (I.blk (headAt (k + n))) (chunk p (chunkAt (k + n)))) (G (I.blk (headAt (k + n))) (chunk p (chunkAt (k + n))))

/-! ## The carried state gradient -/

/-- Head `h`'s state gradient before step `s` of row block `p`. -/
def grAt (I : Inputs) (p : Fin 8) (s : ℕ) (h : Fin 4) (x : Fin 256) (k : Fin 128) : ℝ :=
  Gr (I.blk h) (4 * (7 - p.val) + (s + 3 - h.val) / 4) k x

theorem grAt_eq {I : Inputs} {p : Fin 8} {s : ℕ} {h h' : Fin 4} {x x' : Fin 256} {k k' : Fin 128} (e : h = h') (e' : x = x') (e'' : k = k') :
    grAt I p s h x k = grAt I p s h' x' k' := by rw [e, e', e'']

/-- What the scratch holds before step `s`, read through the stores made so far. -/
def Inv (I : Inputs) (p : Fin 8) (s : ℕ) (L : ScL Ideal) : Prop :=
  ∀ y : S4x256x128.Idx, (View.canon L y : EReal) = (grAt I p s (y 0) (y 1) (y 2) : ℝ)

variable {b I p}

theorem gr_step (s : ℕ) (hs : s < 16) (h : Fin 4) (e : h = headAt s) :
    Gr (I.blk h) (4 * (7 - p.val) + (s + 3 - h.val) / 4) = G (I.blk h) (chunk p (chunkAt s)) := by
  have eh : h.val = s % 4 := congrArg Fin.val e
  have hp := p.isLt
  refine Gr_eq _ _ _ ?_
  show 4 * p.val + (3 - s / 4) + (4 * (7 - p.val) + (s + 3 - h.val) / 4) = 31
  omega

theorem gr_next (s : ℕ) (hs : s < 16) (h : Fin 4) (e : h = headAt s) :
    (I.blk h (chunk p (chunkAt s))).next (G (I.blk h) (chunk p (chunkAt s)))
      = Gr (I.blk h) (4 * (7 - p.val) + (s + 1 + 3 - h.val) / 4) := by
  have eh : h.val = s % 4 := congrArg Fin.val e
  have hp := p.isLt
  rw [show 4 * (7 - p.val) + (s + 1 + 3 - h.val) / 4 = (4 * (7 - p.val) + (s + 3 - h.val) / 4) + 1 by omega]
  show _ = (I.blk h ⟨31 - (4 * (7 - p.val) + (s + 3 - h.val) / 4), _⟩).next (Gr _ _)
  rw [gr_step s hs h e]
  congr 2
  refine Fin.ext ?_
  show 4 * p.val + (3 - s / 4) = 31 - (4 * (7 - p.val) + (s + 3 - h.val) / 4)
  omega

theorem gr_next' (s : ℕ) (hs : s < 16) (h : Fin 4) (e : h = headAt s) (x : Fin 256) (k : Fin 128) :
    (I.blk h (chunk p (chunkAt s))).next (G (I.blk h) (chunk p (chunkAt s))) k x = grAt I p (s + 1) h x k := by
  unfold grAt; rw [gr_next s hs h e]

theorem mem_rG (h : Fin 4) (y : S4x256x128.Idx) : y ∈ (rG h).set ↔ (y 0 : Fin 4) = h := by
  constructor
  · intro hy
    obtain ⟨x, rfl⟩ := (rG h).exists_idx_of_mem hy
    refine Fin.ext ((idx_at (S := S4x256x128) ![h.val, 0, 0] S1x256x128.size (inbG h) x 0).trans ?_)
    have : (x 0).val < 1 := (x 0).isLt
    show h.val + (x 0).val = h.val; omega
  · intro e
    refine Rect.mem_set_unit.2 fun a => ?_
    match a with
    | ⟨0, _⟩ =>
      have : (y 0).val = h.val := congrArg Fin.val e
      exact ⟨le_of_eq this.symm, by show (y 0).val < h.val + 1; omega⟩
    | ⟨1, _⟩ => exact ⟨Nat.zero_le _, by show (y 1).val < 0 + 256; have : (y 1).val < 256 := (y 1).isLt; omega⟩
    | ⟨2, _⟩ => exact ⟨Nat.zero_le _, by show (y 2).val < 0 + 128; have : (y 2).val < 128 := (y 2).isLt; omega⟩

/-- The element of a head's rectangle that a local index names. -/
theorem rG_at (h : Fin 4) (j : S1x256x128.Idx) :
    ((rG h).idx j 0 : Fin 4) = h ∧ ((rG h).idx j 1 : Fin 256) = j 1 ∧ ((rG h).idx j 2 : Fin 128) = j 2 := by
  refine ⟨Fin.ext ((idx_at (S := S4x256x128) ![h.val, 0, 0] S1x256x128.size (inbG h) j 0).trans ?_),
    Fin.ext ((idx_at (S := S4x256x128) ![h.val, 0, 0] S1x256x128.size (inbG h) j 1).trans (Nat.zero_add _)),
    Fin.ext ((idx_at (S := S4x256x128) ![h.val, 0, 0] S1x256x128.size (inbG h) j 2).trans (Nat.zero_add _))⟩
  have : (j 0).val < 1 := (j 0).isLt
  show h.val + (j 0).val = h.val; omega

theorem cov_at (h : Fin 4) (s : ℕ) (L : ScL Ideal) (hI : Inv I p s L) (j : S1x256x128.Idx) :
    (b.cov h L j : EReal) = (grAt I p s h (j 1) (j 2) : ℝ) := by
  unfold Bufs.cov
  rw [View.readCov_eq_canon']
  obtain ⟨e0, e1, e2⟩ := rG_at h j
  exact (hI ((rG h).idx j)).trans (congrArg Real.toEReal (grAt_eq e0 e1 e2))

theorem gr_there (s : ℕ) (hs : s < 16) (h : Fin 4) (e : h = headAt s) (x : S1x256x128.Idx) :
    (I.blk h (chunk p (chunkAt s))).next (G (I.blk h) (chunk p (chunkAt s))) (x 2) (x 1)
      = grAt I p (s + 1) ((rG h).idx x 0) ((rG h).idx x 1) ((rG h).idx x 2) :=
  (gr_next' s hs h e (x 1) (x 2)).trans (grAt_eq (rG_at h x).1 (rG_at h x).2.1 (rG_at h x).2.2).symm

theorem in_rG (h : Fin 4) (y : S4x256x128.Idx) (hy : (y 0 : Fin 4) = h) : ∃ x, (rG h).emb x = y :=
  (rG h).exists_idx_of_mem ((mem_rG h y).2 hy)

theorem inv_next (s : ℕ) (hs : s < 16) (h : Fin 4) (e : h = headAt s) (L : ScL Ideal) (w : FVec Ideal S1x256x128 .f32) (hI : Inv I p s L)
    (hw : ∀ j : S1x256x128.Idx, (w j : EReal) = ((I.blk h (chunk p (chunkAt s))).next
      (G (I.blk h) (chunk p (chunkAt s))) (j 2) (j 1) : ℝ)) : Inv I p (s + 1) (⟨rG h, w⟩ :: L) := by
  intro y
  by_cases hy : (y 0 : Fin 4) = h
  · obtain ⟨x, hx⟩ := in_rG h y hy
    subst hx
    exact (View.canon_cons_emb _ w L x).trans ((hw x).trans (congrArg Real.toEReal (gr_there s hs h e x)))
  · have nm : y ∉ (rG h).set := fun hm => hy ((mem_rG h y).1 hm)
    refine (View.canon_cons_of_not_mem (⟨rG h, w⟩ : View.Piece (Elt Ideal) S4x256x128 .f32) L nm).trans ((hI y).trans ?_)
    have ne : (y 0).val ≠ s % 4 := fun hm => hy (Fin.ext (hm.trans (congrArg Fin.val e).symm))
    have lt : (y 0).val < 4 := (y 0).isLt
    exact congrArg (fun n => ((Gr (I.blk (y 0)) (4 * (7 - p.val) + n) (y 2) (y 1) : ℝ) : EReal))
      (show (s + 3 - (y 0).val) / 4 = (s + 1 + 3 - (y 0).val) / 4 by omega)

include H

theorem step_of (rd : Rd Ideal) (k n : ℕ) (L : ScL Ideal)
    (hr : ∀ j : S1x256x128.Idx, (rd (headAt (k + n)) (scL b rd k L n) j : EReal)
      = (G (I.blk (headAt (k + n))) (chunk p (chunkAt (k + n))) (j 2) (j 1) : ℝ)) : Step b I p rd k L n :=
  ins_is H _ _ _ _ hr

/-- Steps that read the scratch through the stores made before them. -/
theorem inv_cov (k : ℕ) (L : ScL Ideal) (hI : Inv I p k L) : ∀ n, k + n ≤ 16 → Inv I p (k + n) (scL b b.cov k L n)
  | 0, _ => hI
  | n + 1, h => by
    have ih := inv_cov k L hI n (by omega)
    refine inv_next (k + n) (by omega) _ rfl _ _ ih fun j => ?_
    refine (step_of H b.cov k n L fun j => ?_).next j
    exact (cov_at (b := b) _ _ _ ih j).trans (congrArg (fun g : St => ((g (j 2) (j 1) : ℝ) : EReal)) (gr_step (k + n) (by omega) _ rfl))

theorem step_cov (k : ℕ) (L : ScL Ideal) (hI : Inv I p k L) (n : ℕ) (h : k + n < 16) : Step b I p b.cov k L n :=
  step_of H b.cov k n L fun j => by
    exact (cov_at (b := b) _ _ _ (inv_cov H k L hI n (by omega)) j).trans
      (congrArg (fun g : St => ((g (j 2) (j 1) : ℝ) : EReal)) (gr_step (k + n) (by omega) _ rfl))

end Cert.KernelIdeal.Head
-- ==== Proof.KerPoint.lean ====
/- What a grid point leaves: the gradients of its 256 rows, and the state gradient for the point before. -/
module

public import proofs.«01_k».proof.Proof.KerOut

@[expose] public section

noncomputable section

namespace Cert.KernelIdeal.Head

open Cert.KernelIdeal Cert.KernelIdeal.Gen Cert.Gla Idealize.ShloMosaic Idealize.ShloMosaic.TcCoe

variable {b : Bufs Ideal} {I : Inputs} {p : Fin 8}

/-! ## The first point clears the scratch -/

theorem inv_cleared (hp : p.val = 7) : Inv I p 0 (cleared (F := Ideal)) := by
  intro y
  obtain ⟨x, hx⟩ := (Rect.unit (s := S4x256x128) ![0, 0, 0] S4x256x128.size inb_S4x256x128_S4x256x128_0_0_0).exists_idx_of_mem
    (View.mem_set_unit_zero (S := S4x256x128) (by funext a; fin_cases a <;> rfl) inb_S4x256x128_S4x256x128_0_0_0 y)
  refine ((congrArg (View.canon cleared) hx.symm).trans (View.canon_cons_emb _ _ _ x)).trans ?_
  rw [shapeCast_self]
  have e : 4 * (7 - p.val) + (0 + 3 - (y 0).val) / 4 = 0 := by omega
  refine (zero_at (s := S4x256x128) y).trans (congrArg Real.toEReal ?_)
  unfold grAt
  rw [e]; rfl

/-! ## The later points read what the point before left -/

section Kept
variable (H : Holds b I p) (h8 : b.a8.IsWhole) (xs : Vec Ideal S4x256x128 .f32)
  (hx : ∀ y : S4x256x128.Idx, (xs y : EReal) = (grAt I p 0 (y 0) (y 1) (y 2) : ℝ))
include H hx

theorem step_kept (n : ℕ) (hn : n < 4) : Step b I p (kept b.a8 h8 xs) 0 [] n :=
  step_of H _ 0 n [] fun j => by
    refine (read_at b.a8 h8 xs (rG (headAt (0 + n))) j).trans ((hx _).trans (congrArg Real.toEReal ?_))
    refine (grAt_eq (rG_at _ j).1 (rG_at _ j).2.1 (rG_at _ j).2.2).trans ?_
    refine Eq.trans ?_ (congrFun (congrFun (gr_step (I := I) (p := p) (0 + n) (by omega) _ rfl) (j 2)) (j 1))
    unfold grAt
    rw [show (0 + 3 - (headAt (0 + n)).val) / 4 = (0 + n + 3 - (headAt (0 + n)).val) / 4 by
      show (0 + 3 - (0 + n) % 4) / 4 = (0 + n + 3 - (0 + n) % 4) / 4; omega]

theorem kept_to (n : ℕ) (hn : n ≤ 4) (y : S4x256x128.Idx) (hy : (y 0).val < n) :
    (View.canon (scL b (kept b.a8 h8 xs) 0 [] n) y : EReal) = (grAt I p 4 (y 0) (y 1) (y 2) : ℝ) := by
  induction n with
  | zero => exact absurd hy (Nat.not_lt_zero _)
  | succ n ih =>
    have eh : (headAt (0 + n)).val = n := by show (0 + n) % 4 = n; omega
    by_cases e : (y 0 : Fin 4) = headAt (0 + n)
    · obtain ⟨x, ex⟩ := in_rG (headAt (0 + n)) y e
      subst ex
      refine (View.canon_cons_emb _ _ _ x).trans (((step_kept H h8 xs hx n (by omega)).next x).trans (congrArg Real.toEReal ?_))
      refine (gr_there (I := I) (p := p) (0 + n) (by omega) _ rfl x).trans ?_
      have e0 := (rG_at (headAt (0 + n)) x).1
      refine (grAt_eq e0 rfl rfl).trans (Eq.trans ?_ (grAt_eq e0 rfl rfl).symm)
      unfold grAt
      rw [show (0 + n + 1 + 3 - (headAt (0 + n)).val) / 4 = (4 + 3 - (headAt (0 + n)).val) / 4 by omega]
      rfl
    · have nm : y ∉ (rG (headAt (0 + n))).set := fun hm => e ((mem_rG _ y).1 hm)
      refine (View.canon_cons_of_not_mem (⟨rG (headAt (0 + n)), _⟩ : View.Piece (Elt Ideal) S4x256x128 .f32) _ nm).trans
        (ih (by omega) ?_)
      have : (y 0).val ≠ n := fun h => e (Fin.ext (h.trans eh.symm))
      omega

theorem inv_kept : Inv I p 4 (scL b (kept b.a8 h8 xs) 0 [] 4) :=
  fun y => kept_to H h8 xs hx 4 le_rfl y (y 0).isLt

end Kept

/-! ## The stores of the gradients -/

/-- The packed gradient's value at an element of the point's block. -/
def packAt (I : Inputs) (p : Fin 8) (y : S256x2048.Idx) : Elt Ideal .bf16 := ((I.pack (rowIn p (y 0)) (y 1) : ℝ) : EReal)
def laAt (I : Inputs) (p : Fin 8) (y : S256x512.Idx) : Elt Ideal .f32 := ((I.dla (rowIn p (y 0)) (y 1) : ℝ) : EReal)

section Pieces
variable {J : In Ideal} {c h : Fin 4}
  (T : Is J (I.blk h (chunk p c)) (S (I.blk h) (chunk p c)) (G (I.blk h) (chunk p c)))
include T

theorem dq_piece (x : S64x128.Idx) : (J.dqOut x : EReal) = packAt I p ((rQ c h).emb x) := by
  have h0 : ((rQ c h).idx x 0).val = 64 * c.val + (x 0).val := idx_at (S := S256x2048) ![64 * c.val, 0 + 128 * h.val] S64x128.size _ x 0
  have h1 : ((rQ c h).idx x 1).val = 0 + 128 * h.val + (x 1).val := idx_at (S := S256x2048) ![64 * c.val, 0 + 128 * h.val] S64x128.size _ x 1
  have x1 : (x 1).val < 128 := (x 1).isLt
  refine (T.dqOut x).trans (congrArg Real.toEReal ?_)
  refine Eq.symm ((Inputs.pack_q I _ _ (by show ((rQ c h).idx x 1).val < 512; omega)).trans
    (Inputs.dq_at I h (chunk p c) (x 0) _ ?_ (x 1) _ ?_))
  · show 256 * p.val + ((rQ c h).idx x 0).val = (4 * p.val + c.val) * 64 + (x 0).val; omega
  · show ((rQ c h).idx x 1).val = h.val * 128 + (x 1).val; omega

theorem dk_piece (x : S64x128.Idx) : (J.dkOut x : EReal) = packAt I p ((rK c h).emb x) := by
  have h0 : ((rK c h).idx x 0).val = 64 * c.val + (x 0).val := idx_at (S := S256x2048) ![64 * c.val, 512 + 128 * h.val] S64x128.size _ x 0
  have h1 : ((rK c h).idx x 1).val = 512 + 128 * h.val + (x 1).val := idx_at (S := S256x2048) ![64 * c.val, 512 + 128 * h.val] S64x128.size _ x 1
  have x1 : (x 1).val < 128 := (x 1).isLt
  refine (T.dkOut x).trans (congrArg Real.toEReal ?_)
  refine Eq.symm ((Inputs.pack_k I _ _ (by show ¬ ((rK c h).idx x 1).val < 512; omega) (by show ((rK c h).idx x 1).val < 1024; omega)).trans
    (Inputs.dk_at I h (chunk p c) (x 0) _ ?_ (x 1) _ ?_))
  · show 256 * p.val + ((rK c h).idx x 0).val = (4 * p.val + c.val) * 64 + (x 0).val; omega
  · show ((rK c h).idx x 1).val - 512 = h.val * 128 + (x 1).val; omega

theorem dv_piece (x : S64x256.Idx) : (J.dvOut x : EReal) = packAt I p ((rV c h).emb x) := by
  have h0 : ((rV c h).idx x 0).val = 64 * c.val + (x 0).val := idx_at (S := S256x2048) ![64 * c.val, 1024 + 256 * h.val] S64x256.size _ x 0
  have h1 : ((rV c h).idx x 1).val = 1024 + 256 * h.val + (x 1).val := idx_at (S := S256x2048) ![64 * c.val, 1024 + 256 * h.val] S64x256.size _ x 1
  refine (T.dvOut x).trans (congrArg Real.toEReal ?_)
  refine Eq.symm ((Inputs.pack_v I _ _ (by show ¬ ((rV c h).idx x 1).val < 1024; omega)).trans
    (Inputs.dv_at I h (chunk p c) (x 0) _ ?_ (x 1) _ ?_))
  · show 256 * p.val + ((rV c h).idx x 0).val = (4 * p.val + c.val) * 64 + (x 0).val; omega
  · show ((rV c h).idx x 1).val - 1024 = h.val * 256 + (x 1).val; omega

end Pieces

theorem out_ok (rd : Rd Ideal) (k : ℕ) (L : ScL Ideal) (M : List (View.Piece (Elt Ideal) S256x2048 .bf16))
    (hM : ∀ pc ∈ M, ∀ x, pc.2 x = packAt I p (pc.1.emb x)) :
    ∀ N, (∀ n, n < N → Step b I p rd k L n) → ∀ pc ∈ outL b rd k L M N, ∀ x, pc.2 x = packAt I p (pc.1.emb x)
  | 0, _ => hM
  | N + 1, hs => by
    have T := hs N (Nat.lt_succ_self N)
    refine List.forall_mem_cons.2 ⟨dv_piece T, List.forall_mem_cons.2 ⟨dk_piece T, List.forall_mem_cons.2 ⟨dq_piece T, ?_⟩⟩⟩
    exact out_ok rd k L M hM N fun n hn => hs n (Nat.lt_succ_of_lt hn)

theorem la_piece {c : Fin 4} (J : Fin 4 → In Ideal)
    (T : ∀ h, Is (J h) (I.blk h (chunk p c)) (S (I.blk h) (chunk p c)) (G (I.blk h) (chunk p c))) (x : S64x512.Idx) :
    (dlaOut (J 0).db (J 1).db (J 2).db (J 3).db x : EReal) = laAt I p ((rL c).emb x) := by
  have h0 : ((rL c).idx x 0).val = 64 * c.val + (x 0).val := idx_at (S := S256x512) ![64 * c.val, 0] S64x512.size _ x 0
  have h1 : ((rL c).idx x 1).val = 0 + (x 1).val := idx_at (S := S256x512) ![64 * c.val, 0] S64x512.size _ x 1
  have x1 : (x 1).val < 512 := (x 1).isLt
  have e : (x 1).val = (x 1).val / 128 * 128 + (x 1).val % 128 := by omega
  obtain ⟨h, hh⟩ : ∃ h : Fin 4, h.val = (x 1).val / 128 := ⟨⟨(x 1).val / 128, by omega⟩, rfl⟩
  obtain ⟨k, hk⟩ : ∃ k : Fin 128, k.val = (x 1).val % 128 := ⟨⟨(x 1).val % 128, by omega⟩, rfl⟩
  rw [← hh, ← hk] at e
  refine (dlaOut_r (fun h => (J h).db) (fun h s k => (I.blk h (chunk p c)).db (S (I.blk h) (chunk p c)) (G (I.blk h) (chunk p c)) s k)
    (fun h => (T h).db) x h k e).trans (congrArg Real.toEReal ?_)
  refine Eq.symm (Inputs.dla_at I h (chunk p c) (x 0) _ ?_ k _ ?_)
  · show 256 * p.val + ((rL c).idx x 0).val = (4 * p.val + c.val) * 64 + (x 0).val; omega
  · show ((rL c).idx x 1).val = h.val * 128 + k.val; omega

theorem la_ok (rd : Rd Ideal) (k : ℕ) (hk : k % 4 = 0) (L : ScL Ideal) (M : List (View.Piece (Elt Ideal) S256x512 .f32))
    (hM : ∀ pc ∈ M, ∀ x, pc.2 x = laAt I p (pc.1.emb x)) :
    ∀ N, (∀ n, n < 4 * N → Step b I p rd k L n) → ∀ pc ∈ laL b rd k L M N, ∀ x, pc.2 x = laAt I p (pc.1.emb x)
  | 0, _ => hM
  | N + 1, hs => by
    refine List.forall_mem_cons.2 ⟨la_piece (fun h => at' b rd k L (4 * N + h.val)) fun h => ?_, ?_⟩
    · have T := hs (4 * N + h.val) (by omega)
      unfold Step at T
      have e1 : headAt (k + (4 * N + h.val)) = h := Fin.ext (by show (k + (4 * N + h.val)) % 4 = h.val; omega)
      have e2 : chunkAt (k + (4 * N + h.val)) = chunkAt (k + 4 * N) :=
        Fin.ext (by show 3 - (k + (4 * N + h.val)) / 4 = 3 - (k + 4 * N) / 4; omega)
      rw [e1, e2] at T
      exact T
    · exact la_ok rd k hk L M hM N fun n hn => hs n (by omega)

/-! ## The point's results -/

section Point
variable (c : Dev nD) (i : grid0.Coords) (arg2 : Memref sig .tc .vmem S256x2048 .bf16) (harg2 : arg2.IsWhole) (arg3 : Memref sig .tc .vmem S256x512 .f32) (harg3 : arg3.IsWhole) (arg4 : Memref sig .tc .vmem S256x1024 .bf16) (harg4 : arg4.IsWhole) (arg5 : Memref sig .tc .vmem S4x4x256x128 .f32) (harg5 : arg5.IsWhole) (arg6 : Memref sig .tc .vmem S256x2048 .bf16) (harg6 : arg6.IsWhole) (arg7 : Memref sig .tc .vmem S256x512 .f32) (harg7 : arg7.IsWhole) (arg8 : Memref sig .tc .vmem S4x256x128 .f32) (harg8 : arg8.IsWhole)
  (x0 : Vec Ideal S256x2048 .bf16) (x1 : Vec Ideal S256x512 .f32) (x2 : Vec Ideal S256x1024 .bf16) (x3 : Vec Ideal S4x4x256x128 .f32) (xs0 : Vec Ideal S4x256x128 .f32)
  (H : Holds (bufs arg2 harg2 arg3 harg3 arg4 harg4 arg5 harg5 arg8 x0 x1 x2 x3) I p)

section A
variable (hc0 : cond0_0 i) (hp : p.val = 7)
include H hp

theorem pointA_4 : out0_A_4 c i arg2 harg2 arg3 harg3 arg4 harg4 arg5 harg5 arg6 harg6 arg7 harg7 arg8 harg8 hc0 x0 x1 x2 x3 = packAt I p := by
  have cov := cover0_A_4 (F := Ideal) c i arg2 harg2 arg3 harg3 arg4 harg4 arg5 harg5 arg6 harg6 arg7 harg7 arg8 harg8 hc0 x0 x1 x2 x3
  funext y
  refine (View.read_writes_junk_apply_eq_canon _ y _).trans ?_
  refine View.canon_apply_of_pieces (packAt I p) _ ?_ y (cov y)
  rw [outA]
  exact out_ok _ 0 _ [] (fun _ h => absurd h List.not_mem_nil) 16 fun n hn => step_cov H 0 _ (inv_cleared hp) n (by omega)

theorem pointA_5 : out0_A_5 c i arg2 harg2 arg3 harg3 arg4 harg4 arg5 harg5 arg6 harg6 arg7 harg7 arg8 harg8 hc0 x0 x1 x2 x3 = laAt I p := by
  have cov := cover0_A_5 (F := Ideal) c i arg2 harg2 arg3 harg3 arg4 harg4 arg5 harg5 arg6 harg6 arg7 harg7 arg8 harg8 hc0 x0 x1 x2 x3
  funext y
  refine (View.read_writes_junk_apply_eq_canon _ y _).trans ?_
  refine View.canon_apply_of_pieces (laAt I p) _ ?_ y (cov y)
  rw [laA]
  exact la_ok _ 0 rfl _ [] (fun _ h => absurd h List.not_mem_nil) 4 fun n hn => step_cov H 0 _ (inv_cleared hp) n (by omega)

theorem pointA_s (y : S4x256x128.Idx) :
    (sout0_A_0 c i arg2 harg2 arg3 harg3 arg4 harg4 arg5 harg5 arg6 harg6 arg7 harg7 arg8 harg8 hc0 x0 x1 x2 x3 y : EReal)
      = (grAt I p 16 (y 0) (y 1) (y 2) : ℝ) := by
  refine (View.read_writes_junk_apply_eq_canon _ y _).trans ?_
  rw [scA]
  exact inv_cov H 0 _ (inv_cleared hp) 16 le_rfl y

end A

section B
variable (hc0 : ¬cond0_0 i) (hx : ∀ y : S4x256x128.Idx, (xs0 y : EReal) = (grAt I p 0 (y 0) (y 1) (y 2) : ℝ))
include H hx

theorem pointB_4 : out0_B_4 c i arg2 harg2 arg3 harg3 arg4 harg4 arg5 harg5 arg6 harg6 arg7 harg7 arg8 harg8 hc0 x0 x1 x2 x3 xs0 = packAt I p := by
  have cov := cover0_B_4 (F := Ideal) c i arg2 harg2 arg3 harg3 arg4 harg4 arg5 harg5 arg6 harg6 arg7 harg7 arg8 harg8 hc0 x0 x1 x2 x3 xs0
  funext y
  refine (View.read_writes_junk_apply_eq_canon _ y _).trans ?_
  refine View.canon_apply_of_pieces (packAt I p) _ ?_ y (cov y)
  rw [outB]
  exact out_ok _ 4 _ _ (out_ok _ 0 _ [] (fun _ h => absurd h List.not_mem_nil) 4 fun n hn => step_kept H harg8 xs0 hx n hn) 12
    fun n hn => step_cov H 4 _ (inv_kept H harg8 xs0 hx) n (by omega)

theorem pointB_5 : out0_B_5 c i arg2 harg2 arg3 harg3 arg4 harg4 arg5 harg5 arg6 harg6 arg7 harg7 arg8 harg8 hc0 x0 x1 x2 x3 xs0 = laAt I p := by
  have cov := cover0_B_5 (F := Ideal) c i arg2 harg2 arg3 harg3 arg4 harg4 arg5 harg5 arg6 harg6 arg7 harg7 arg8 harg8 hc0 x0 x1 x2 x3 xs0
  funext y
  refine (View.read_writes_junk_apply_eq_canon _ y _).trans ?_
  refine View.canon_apply_of_pieces (laAt I p) _ ?_ y (cov y)
  rw [laB]
  exact la_ok _ 4 rfl _ _ (la_ok _ 0 rfl _ [] (fun _ h => absurd h List.not_mem_nil) 1 fun n hn => step_kept H harg8 xs0 hx n hn) 3
    fun n hn => step_cov H 4 _ (inv_kept H harg8 xs0 hx) n (by omega)

theorem pointB_s (y : S4x256x128.Idx) :
    (sout0_B_0 c i arg2 harg2 arg3 harg3 arg4 harg4 arg5 harg5 arg6 harg6 arg7 harg7 arg8 harg8 hc0 x0 x1 x2 x3 xs0 y : EReal)
      = (grAt I p 16 (y 0) (y 1) (y 2) : ℝ) := by
  refine (View.read_writes_junk_apply_eq_canon _ y _).trans ?_
  rw [scB]
  exact inv_cov H 4 _ (inv_kept H harg8 xs0 hx) 12 le_rfl y

end B
end Point

/-- What a point leaves is what the point before it in the rows starts from. -/
theorem grAt_carry (p q : Fin 8) (h : q.val + 1 = p.val) (a : Fin 4) (x : Fin 256) (k : Fin 128) :
    grAt I p 16 a x k = grAt I q 0 a x k := by
  unfold grAt
  rw [show 4 * (7 - p.val) + (16 + 3 - a.val) / 4 = 4 * (7 - q.val) + (0 + 3 - a.val) / 4 by omega]

end Cert.KernelIdeal.Head
-- ==== Proof.KerArr.lean ====
/- The kernel's results: every grid point's blocks hold the gradients of its rows, so the two arrays do. -/
module

public import proofs.«01_k».proof.Proof.KerPoint
public import proofs.«01_k».proof.Proof.Gen.KernelIdeal.Value

@[expose] public section

noncomputable section

namespace Cert.KernelIdeal.Head

open Cert.KernelIdeal Cert.KernelIdeal.Gen Cert.KernelIdeal.Value Cert.Gla Idealize.ShloMosaic Idealize.ShloMosaic.TcCoe
open Idealize.ShloMosaic.Pipeline (Dat)

variable (m : (ℓ : Loc nD τ sig) → Buf (Elt Ideal) ℓ) (c : Dev nD) (I : Inputs)

/-- What the region's arrays hold: the arguments' reals, and the states in between. -/
structure Entry : Prop where
  z : ∀ i : S2048x5632.Idx, @Eq EReal (m ((c : Thread nD τ).loc main_arg1) i) (Real.toEReal (I.Z (i 0) (i 1)))
  a : ∀ i : S2048x512.Idx, @Eq EReal (m ((c : Thread nD τ).loc main_arg2) i) (Real.toEReal (I.A (i 0) (i 1)))
  ct : ∀ i : S2048x1024.Idx, @Eq EReal (m ((c : Thread nD τ).loc main_arg3) i) (Real.toEReal (I.C (i 0) (i 1)))
  st : ∀ i : S32x4x256x128.Idx, @Eq EReal (V m c main_v43 i) (Real.toEReal (S (I.blk (i 1)) (i 0) (i 3) (i 2)))
  dz : ∀ i : S2048x5760.Idx, @Eq EReal (V m c main_v44_0 i) (m ((c : Thread nD τ).loc main_arg0) i)

/-- The row block of a grid point: the last first. -/
abbrev back (t : Fin cfg0.N) : Fin 8 := ⟨7 - t.val, by omega⟩

theorem index0 : ∀ t : Fin cfg0.N, win0_0.index t 0 = 7 - t.val ∧ win0_0.index t 1 = 0 :=
  (by decide +kernel : ∀ t : Fin grid0.N, win0_0.index t 0 = 7 - t.val ∧ win0_0.index t 1 = 0)
theorem index1 : ∀ t : Fin cfg0.N, win0_1.index t 0 = 7 - t.val ∧ win0_1.index t 1 = 0 :=
  (by decide +kernel : ∀ t : Fin grid0.N, win0_1.index t 0 = 7 - t.val ∧ win0_1.index t 1 = 0)
theorem index2 : ∀ t : Fin cfg0.N, win0_2.index t 0 = 7 - t.val ∧ win0_2.index t 1 = 0 :=
  (by decide +kernel : ∀ t : Fin grid0.N, win0_2.index t 0 = 7 - t.val ∧ win0_2.index t 1 = 0)
theorem index3 : ∀ t : Fin cfg0.N, win0_3.index t 0 = 7 - t.val ∧ win0_3.index t 1 = 0 ∧ win0_3.index t 2 = 0 ∧ win0_3.index t 3 = 0 :=
  (by decide +kernel : ∀ t : Fin grid0.N, win0_3.index t 0 = 7 - t.val ∧ win0_3.index t 1 = 0 ∧ win0_3.index t 2 = 0 ∧ win0_3.index t 3 = 0)
theorem index4 : ∀ t : Fin cfg0.N, win0_4.index t 0 = 7 - t.val ∧ win0_4.index t 1 = 0 :=
  (by decide +kernel : ∀ t : Fin grid0.N, win0_4.index t 0 = 7 - t.val ∧ win0_4.index t 1 = 0)
theorem index5 : ∀ t : Fin cfg0.N, win0_5.index t 0 = 7 - t.val ∧ win0_5.index t 1 = 0 :=
  (by decide +kernel : ∀ t : Fin grid0.N, win0_5.index t 0 = 7 - t.val ∧ win0_5.index t 1 = 0)

theorem flush4 : ∀ t : Fin cfg0.N, (cfg0.win 4).flush t = true := (by decide +kernel : ∀ t : Fin grid0.N, win0_4.flush t = true)
theorem flush5 : ∀ t : Fin cfg0.N, (cfg0.win 5).flush t = true := (by decide +kernel : ∀ t : Fin grid0.N, win0_5.flush t = true)
theorem xsize4 : ∀ t : Fin cfg0.N, ∀ a, (cfg0.win 4).xsize (cfg0.grid.coords t) a = (cfg0.win 4).size a := by decide +kernel

variable {m c I}

section
variable (E : Entry m c I)
include E

theorem holds_z (t : Fin cfg0.N) (j : S256x2048.Idx) (r : Fin 2048) (k : Fin 5632) (hr : r.val = 256 * (back t).val + (j 0).val)
    (hk : k.val = (j 1).val) : @Eq EReal (X0_0 m c t j) (Real.toEReal (I.Z r k)) := by
  unfold X0_0 Pipeline.Window.fill
  rw [dif_pos (moved0_0 t j)]
  unfold iblk
  rw [View.read_apply]
  show @Eq EReal (V m c main_arg1 _) _
  rw [V_main_arg1]
  refine (E.z _).trans (congrArg Real.toEReal ?_)
  refine congrArg₂ I.Z (Fin.ext ?_) (Fin.ext ?_)
  · show win0_0.index t 0 * 256 + 1 * (j 0).val = r.val; rw [(index0 t).1, hr]; show _ = 256 * (7 - t.val) + _; omega
  · show win0_0.index t 1 * 2048 + 1 * (j 1).val = k.val; rw [(index0 t).2, hk]; omega

theorem holds_a (t : Fin cfg0.N) (j : S256x512.Idx) (r : Fin 2048) (k : Fin 512) (hr : r.val = 256 * (back t).val + (j 0).val)
    (hk : k.val = (j 1).val) : @Eq EReal (iblk m c 1 t j) (Real.toEReal (I.A r k)) := by
  unfold iblk
  rw [View.read_apply]
  show @Eq EReal (V m c main_arg2 _) _
  rw [V_main_arg2]
  refine (E.a _).trans (congrArg Real.toEReal ?_)
  refine congrArg₂ I.A (Fin.ext ?_) (Fin.ext ?_)
  · show win0_1.index t 0 * 256 + 1 * (j 0).val = r.val; rw [(index1 t).1, hr]; show _ = 256 * (7 - t.val) + _; omega
  · show win0_1.index t 1 * 512 + 1 * (j 1).val = k.val; rw [(index1 t).2, hk]; omega

theorem holds_c (t : Fin cfg0.N) (j : S256x1024.Idx) (r : Fin 2048) (k : Fin 1024) (hr : r.val = 256 * (back t).val + (j 0).val)
    (hk : k.val = (j 1).val) : @Eq EReal (iblk m c 2 t j) (Real.toEReal (I.C r k)) := by
  unfold iblk
  rw [View.read_apply]
  show @Eq EReal (V m c main_arg3 _) _
  rw [V_main_arg3]
  refine (E.ct _).trans (congrArg Real.toEReal ?_)
  refine congrArg₂ I.C (Fin.ext ?_) (Fin.ext ?_)
  · show win0_2.index t 0 * 256 + 1 * (j 0).val = r.val; rw [(index2 t).1, hr]; show _ = 256 * (7 - t.val) + _; omega
  · show win0_2.index t 1 * 1024 + 1 * (j 1).val = k.val; rw [(index2 t).2, hk]; omega

theorem holds_s (t : Fin cfg0.N) (j : S4x4x256x128.Idx) :
    @Eq EReal (iblk m c 3 t j) (Real.toEReal (S (I.blk (j 1)) (chunk (back t) (j 0)) (j 3) (j 2))) := by
  unfold iblk
  rw [View.read_apply]
  refine (E.st _).trans (congrArg Real.toEReal ?_)
  obtain ⟨i0, i1, i2, i3⟩ := index3 t
  have e0 : (((cfg0.win 3).blk t).view.emb j 0 : Fin 32) = chunk (back t) (j 0) := Fin.ext (by
    show win0_3.index t 0 * 4 + 1 * (j 0).val = 4 * (7 - t.val) + (j 0).val; rw [i0]; omega)
  have e1 : (((cfg0.win 3).blk t).view.emb j 1 : Fin 4) = j 1 := Fin.ext (by
    show win0_3.index t 1 * 4 + 1 * (j 1).val = (j 1).val; rw [i1]; omega)
  have e2 : (((cfg0.win 3).blk t).view.emb j 2 : Fin 256) = j 2 := Fin.ext (by
    show win0_3.index t 2 * 256 + 1 * (j 2).val = (j 2).val; rw [i2]; omega)
  have e3 : (((cfg0.win 3).blk t).view.emb j 3 : Fin 128) = j 3 := Fin.ext (by
    show win0_3.index t 3 * 128 + 1 * (j 3).val = (j 3).val; rw [i3]; omega)
  exact congr (congr (congrArg₂ (fun h n => S (I.blk h) n) e1 e0) e3) e2

attribute [local irreducible] out0_A_4 out0_A_5 sout0_A_0 out0_B_4 out0_B_5 sout0_B_0 packAt laAt grAt

/-- The blocks point `t` loads. -/
abbrev bufsAt (m : (ℓ : Loc nD τ sig) → Buf (Elt Ideal) ℓ) (c : Dev nD) (t : Fin cfg0.N) : Bufs Ideal :=
  bufs (ms0_0 t) (hs0_0 t) (ms0_1 t) (hs0_1 t) (ms0_2 t) (hs0_2 t) (ms0_3 t) (hs0_3 t) scM0_0 (X0_0 m c t) (iblk m c 1 t) (iblk m c 2 t) (iblk m c 3 t)

theorem holds (t : Fin cfg0.N) : Holds (bufsAt m c t) I (back t) where
  x0 := holds_z E t
  x1 := holds_a E t
  x2 := holds_c E t
  x3 := holds_s E t

section A
variable (t : Fin cfg0.N) (h0 : t.val % 8 = 0)
include h0
theorem back_first : (back t).val = 7 := by
  have h8 : t.val < 8 := t.isLt
  show 7 - t.val = 7; omega
theorem first_4 : (outsAt0 m c t.val t.isLt).1 = packAt I (back t) :=
  (congrArg Prod.fst (outsAt0_A m c t h0)).trans (pointA_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (X0_0 m c t) (iblk m c 1 t) (iblk m c 2 t) (iblk m c 3 t) (holds E t) ((hcond0_0 t).mpr h0) (back_first E t h0))
theorem first_5 : (outsAt0 m c t.val t.isLt).2.1 = laAt I (back t) :=
  (congrArg (fun o => o.2.1) (outsAt0_A m c t h0)).trans (pointA_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (X0_0 m c t) (iblk m c 1 t) (iblk m c 2 t) (iblk m c 3 t) (holds E t) ((hcond0_0 t).mpr h0) (back_first E t h0))
theorem first_s (y : S4x256x128.Idx) : @Eq EReal ((outsAt0 m c t.val t.isLt).2.2 y) (Real.toEReal (grAt I (back t) 16 (y 0) (y 1) (y 2))) :=
  (congrArg (fun o => o.2.2 y) (outsAt0_A m c t h0)).trans (pointA_s c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (X0_0 m c t) (iblk m c 1 t) (iblk m c 2 t) (iblk m c 3 t) (holds E t) ((hcond0_0 t).mpr h0) (back_first E t h0) y)
end A

section B
variable (t : Fin cfg0.N) (h0 : ¬ t.val % 8 = 0) (xs : Vec Ideal S4x256x128 .f32)
  (e : (outsAt0 m c (t.val - 1) (Nat.lt_of_le_of_lt (Nat.sub_le _ _) t.isLt)).2.2 = xs)
  (hx : ∀ y : S4x256x128.Idx, @Eq EReal (xs y) (Real.toEReal (grAt I (back t) 0 (y 0) (y 1) (y 2))))
include h0 e hx
theorem later_4 : (outsAt0 m c t.val t.isLt).1 = packAt I (back t) := by
  subst e
  exact (congrArg Prod.fst (outsAt0_B m c t h0)).trans (pointB_4 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (X0_0 m c t) (iblk m c 1 t) (iblk m c 2 t) (iblk m c 3 t) _ (holds E t) (fun h => h0 ((hcond0_0 t).mp h)) hx)
theorem later_5 : (outsAt0 m c t.val t.isLt).2.1 = laAt I (back t) := by
  subst e
  exact (congrArg (fun o => o.2.1) (outsAt0_B m c t h0)).trans (pointB_5 c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (X0_0 m c t) (iblk m c 1 t) (iblk m c 2 t) (iblk m c 3 t) _ (holds E t) (fun h => h0 ((hcond0_0 t).mp h)) hx)
theorem later_s (y : S4x256x128.Idx) : @Eq EReal ((outsAt0 m c t.val t.isLt).2.2 y) (Real.toEReal (grAt I (back t) 16 (y 0) (y 1) (y 2))) := by
  subst e
  exact (congrArg (fun o => o.2.2 y) (outsAt0_B m c t h0)).trans (pointB_s c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (X0_0 m c t) (iblk m c 1 t) (iblk m c 2 t) (iblk m c 3 t) _ (holds E t) (fun h => h0 ((hcond0_0 t).mp h)) hx y)
end B

/-- What the scratch holds after point `n`. -/
theorem carried : ∀ (n : ℕ) (hn : n < cfg0.N) (y : S4x256x128.Idx),
    @Eq EReal ((outsAt0 m c n hn).2.2 y) (Real.toEReal (grAt I (back ⟨n, hn⟩) 16 (y 0) (y 1) (y 2)))
  | 0, hn, y => first_s E ⟨0, hn⟩ rfl y
  | n + 1, hn, y => by
    have h8 : n + 1 < 8 := hn
    exact later_s E ⟨n + 1, hn⟩ (by show ¬ (n + 1) % 8 = 0; omega) _ rfl (fun y =>
      (carried n (Nat.lt_of_succ_lt hn) y).trans (congrArg Real.toEReal
        (grAt_carry (back ⟨n, Nat.lt_of_succ_lt hn⟩) (back ⟨n + 1, hn⟩) (by show 7 - (n + 1) + 1 = 7 - n; omega) _ _ _))) y

theorem before (t : Fin cfg0.N) (h0 : ¬ t.val % 8 = 0) (y : S4x256x128.Idx) :
    @Eq EReal ((outsAt0 m c (t.val - 1) (Nat.lt_of_le_of_lt (Nat.sub_le _ _) t.isLt)).2.2 y) (Real.toEReal (grAt I (back t) 0 (y 0) (y 1) (y 2))) := by
  have h8 : t.val < 8 := t.isLt
  exact (carried E (t.val - 1) (Nat.lt_of_le_of_lt (Nat.sub_le _ _) t.isLt) y).trans (congrArg Real.toEReal
    (grAt_carry (back ⟨t.val - 1, Nat.lt_of_le_of_lt (Nat.sub_le _ _) t.isLt⟩) (back t) (by show 7 - t.val + 1 = 7 - (t.val - 1); omega) _ _ _))

theorem left_4 (t : Fin cfg0.N) : (outsAt0 m c t.val t.isLt).1 = packAt I (back t) :=
  if h0 : t.val % 8 = 0 then first_4 E t h0 else later_4 E t h0 _ rfl (before E t h0)
theorem left_5 (t : Fin cfg0.N) : (outsAt0 m c t.val t.isLt).2.1 = laAt I (back t) :=
  if h0 : t.val % 8 = 0 then first_5 E t h0 else later_5 E t h0 _ rfl (before E t h0)

/-! ## The arrays -/

theorem arr5 : (dats m 0 c).arrAt 5 cfg0.N = fun i : S2048x512.Idx => ((I.dla (i 0) (i 1) : ℝ) : EReal) := by
  refine (dats m 0 c).arrAt_eq_of_cover 5 _ (fun t _ => ?_) fun i => ?_
  · rw [flushed5, left_5 E t]
    funext j
    rw [View.read_apply]
    have e0 : (((cfg0.win 5).blk t).view.emb j 0 : Fin 2048) = rowIn (back t) (j 0) := Fin.ext (by
      show win0_5.index t 0 * 256 + 1 * (j 0).val = 256 * (7 - t.val) + (j 0).val; rw [(index5 t).1]; omega)
    have e1 : (((cfg0.win 5).blk t).view.emb j 1 : Fin 512) = j 1 := Fin.ext (by
      show win0_5.index t 1 * 512 + 1 * (j 1).val = (j 1).val; rw [(index5 t).2]; omega)
    show laAt I (back t) j = _
    unfold laAt
    exact (congrArg Real.toEReal (congrArg₂ I.dla e0 e1)).symm
  · have i0 : (i 0).val < 2048 := (i 0).isLt
    have i1 : (i 1).val < 512 := (i 1).isLt
    let t : Fin cfg0.N := ⟨7 - (i 0).val / 256, by show _ < 8; omega⟩
    refine ⟨t, flush5 t, ?_⟩
    have e : ((cfg0.win 5).blk t).view.emb (ix2 (⟨(i 0).val % 256, by omega⟩ : Fin 256) (⟨(i 1).val, i1⟩ : Fin 512)) = i := by
      funext a
      match a with
      | ⟨0, _⟩ =>
        refine Fin.ext ?_
        show win0_5.index t 0 * 256 + 1 * ((i 0).val % 256) = (i 0).val
        rw [(index5 t).1]; show (7 - (7 - (i 0).val / 256)) * 256 + _ = _; omega
      | ⟨1, _⟩ =>
        refine Fin.ext ?_
        show win0_5.index t 1 * 512 + 1 * (i 1).val = (i 1).val
        rw [(index5 t).2]; omega
    have h := ((cfg0.win 5).blk t).view.emb_mem_set (ix2 (⟨(i 0).val % 256, by omega⟩ : Fin 256) (⟨(i 1).val, i1⟩ : Fin 512))
    rw [e] at h
    exact h

/-- The packed columns of the first array, at an element of a block. -/
theorem packed_at (dz : S2048x5760.Idx → EReal) (p : Fin 8) (i : S2048x5760.Idx) (x : Fin 256) (k : Fin 2048)
    (e0 : (i 0 : Fin 2048) = rowIn p x) (e1 : (i 1).val = k.val) : I.packed dz i = ((I.pack (rowIn p x) k : ℝ) : EReal) := by
  unfold Inputs.packed Inputs.pack
  rw [dif_pos (show (i 1).val < 2048 by omega), e0]
  simp only [e1]
  split
  · rfl
  · split <;> rfl

omit E in
/-- An element of the first result's block of a grid point. -/
def inBlock (t : Fin cfg0.N) (x : Fin 256) (k : Fin 2048) : ((cfg0.win 4).xblock (cfg0.grid.coords t)).Idx := fun a => match a with
  | ⟨0, _⟩ => ⟨x.val, lt_of_lt_of_eq x.isLt (xsize4 t 0).symm⟩
  | ⟨1, _⟩ => ⟨k.val, lt_of_lt_of_eq k.isLt (xsize4 t 1).symm⟩

theorem arr4 : (dats m 0 c).arrAt 4 cfg0.N = I.packed (m ((c : Thread nD τ).loc main_arg0)) := by
  funext i
  refine ((dats m 0 c).arrAt_eq_piecewise 4 (I.packed (m ((c : Thread nD τ).loc main_arg0))) (fun t _ => ?_) i).trans ?_
  · rw [flushed4, left_4 E t]
    funext j
    rw [View.read_apply]
    have e0 : (((cfg0.win 4).blk t).view.emb j 0 : Fin 2048) = rowIn (back t) ((cfg0.win 4).xinj (grid0.coords t) j 0) := Fin.ext (by
      show win0_4.index t 0 * 256 + 1 * (j 0).val = 256 * (7 - t.val) + (j 0).val; rw [(index4 t).1]; omega)
    have e1 : (((cfg0.win 4).blk t).view.emb j 1 : Fin 5760).val = ((cfg0.win 4).xinj (grid0.coords t) j 1 : Fin 2048).val := by
      show win0_4.index t 1 * 2048 + 1 * (j 1).val = (j 1).val; rw [(index4 t).2]; omega
    show packAt I (back t) ((cfg0.win 4).xinj (grid0.coords t) j) = _
    unfold packAt
    exact (packed_at E _ (back t) _ _ _ e0 e1).symm
  · split
    · rfl
    · rename_i h
      rw [A_eq]
      refine (E.dz i).trans ?_
      unfold Inputs.packed
      rw [dif_neg]
      intro i1
      have i0 : (i 0).val < 2048 := (i 0).isLt
      refine h ⟨⟨7 - (i 0).val / 256, by show _ < 8; omega⟩, flush4 _, ?_⟩
      generalize ht : (⟨7 - (i 0).val / 256, by show _ < 8; omega⟩ : Fin cfg0.N) = t
      have htv : t.val = 7 - (i 0).val / 256 := by rw [← ht]
      let j := inBlock t ⟨(i 0).val % 256, by omega⟩ ⟨(i 1).val, i1⟩
      have e : ((cfg0.win 4).blk t).view.emb j = i := by
        funext a
        match a with
        | ⟨0, _⟩ =>
          refine Fin.ext ?_
          show win0_4.index t 0 * 256 + 1 * ((i 0).val % 256) = (i 0).val
          rw [(index4 t).1, htv]; omega
        | ⟨1, _⟩ =>
          refine Fin.ext ?_
          show win0_4.index t 1 * 2048 + 1 * (i 1).val = (i 1).val
          rw [(index4 t).2]; omega
      have h := ((cfg0.win 4).blk t).view.emb_mem_set j
      rw [e] at h
      exact h

end

end Cert.KernelIdeal.Head
-- ==== Proof.KerHost.lean ====
/- The states that the host hands to the kernel: the same operations as the reference's, with the last two axes exchanged. -/
module

public import proofs.«01_k».proof.Proof.RefRead
public import proofs.«01_k».proof.Proof.Gen.KernelIdeal.Value

@[expose] public section

set_option maxRecDepth 16384

noncomputable section

namespace Cert.KernelIdeal.Head

open Cert.KernelIdeal Cert.KernelIdeal.Gen Cert.KernelIdeal.Value Cert.Gla Idealize.ShloMosaic Idealize.ShloMosaic.TcCoe

variable (m : (ℓ : Loc nD τ sig) → Buf (Elt Ideal) ℓ) (c : Dev nD)

theorem host_states : V m c main_v43
    = transpose S32x4x256x128 [0, 1, 3, 2] (Cert.ReferenceIdeal.Read.val_main_v66 (F := Ideal) (m ((c : Thread nD τ).loc main_arg1)) (m ((c : Thread nD τ).loc main_arg2)))
        transposes_S32x4x128x256_S32x4x256x128_0_1_3_2 := by
  sl_kernel_rfl

theorem host_dz : V m c main_v44_0 = m ((c : Thread nD τ).loc main_arg0) := by
  sl_kernel_rfl

end Cert.KernelIdeal.Head
-- ==== Proof.Products.lean ====
/- What the step's large products share: a product with one contracted axis at an element, over the extended reals. -/
module

public import Idealize.ShloMosaic.Lib.Pointwise.Contract
public import Idealize.ShloMosaic.Lib.Pipeline.Value
public import Idealize.ShloMosaic.PureOps.Ideal.Laws

@[expose] public section

noncomputable section

namespace Cert.Products

open Idealize.ShloMosaic

/-- A kernel's product started from zero, with one contracted axis, at an element: the sum of the operands' products, the
    operands read at the indices `x` and `y`. -/
theorem mm {sl sr so : Shape} {φ₁ φ₂ : FTy} (d : DotDims sl sr so) {a : Fin sl.rank} (hc : d.lhsContracting = [a]) {K : Nat}
    (hK : sl.size a = K) (prec : Option ContractPrecision) (l : FVec Ideal sl φ₁) (r : FVec Ideal sr φ₂) (j : so.Idx)
    (x : Fin K → sl.Idx) (y : Fin K → sr.Idx) (hl : ∀ k, Shape.Idx.norm (d.lhsIdx j (d.contrIdx₁ hc hK k)) = x k)
    (hr : ∀ k, Shape.Idx.norm (d.rhsIdx j (d.contrIdx₁ hc hK k)) = y k) :
    @Eq EReal (matmul d prec l r (constant so .f32 0x00000000#32) j) (∑ k, (l (x k) : EReal) * (r (y k) : EReal)) := by
  show Ideal.matmul d l r (constant (F := Ideal) so .f32 0x00000000#32) j = _
  rw [Ideal.matmul_apply₁_of d hc hK _ _ _ _ x y hl hr]
  have h0 : (constant (F := Ideal) so .f32 0x00000000#32 j : EReal) = 0 := Ideal.ofBits_zero_f32
  rw [h0, zero_add]

theorem zeros2 : (![0, 0] : Fin 2 → Nat) = fun _ => 0 := funext fun a => match a with
  | ⟨0, _⟩ => rfl
  | ⟨1, _⟩ => rfl
theorem zeros4 : (![0, 0, 0, 0] : Fin 4 → Nat) = fun _ => 0 := funext fun a => match a with
  | ⟨0, _⟩ => rfl
  | ⟨1, _⟩ => rfl
  | ⟨2, _⟩ => rfl
  | ⟨3, _⟩ => rfl

/-- Two indices with the same coordinates are the same. -/
theorem idx2 {a b : Nat} {i j : (⟨2, ![a, b]⟩ : Shape).Idx} (h0 : (i 0).val = (j 0).val) (h1 : (i 1).val = (j 1).val) : i = j :=
  funext fun x => match x with
  | ⟨0, _⟩ => Fin.ext h0
  | ⟨1, _⟩ => Fin.ext h1
theorem idx4 {a b c d : Nat} {i j : (⟨4, ![a, b, c, d]⟩ : Shape).Idx} (h0 : (i 0).val = (j 0).val) (h1 : (i 1).val = (j 1).val)
    (h2 : (i 2).val = (j 2).val) (h3 : (i 3).val = (j 3).val) : i = j :=
  funext fun x => match x with
  | ⟨0, _⟩ => Fin.ext h0
  | ⟨1, _⟩ => Fin.ext h1
  | ⟨2, _⟩ => Fin.ext h2
  | ⟨3, _⟩ => Fin.ext h3

/-- A sum over 2048 rows, taken 512 rows at a time. -/
theorem sum_blocks4 (f : Fin 2048 → EReal) : ∑ k, f k = ((∑ k : Fin 512, f ⟨k.val, by omega⟩ + ∑ k : Fin 512, f ⟨512 + k.val, by omega⟩)
    + ∑ k : Fin 512, f ⟨1024 + k.val, by omega⟩) + ∑ k : Fin 512, f ⟨1536 + k.val, by omega⟩ := by
  rw [← (finProdFinEquiv (m := 4) (n := 512)).sum_comp, Fintype.sum_prod_type, Fin.sum_univ_four]
  refine congrArg₂ (fun a b : EReal => a + b) (congrArg₂ (fun a b : EReal => a + b) (congrArg₂ (fun a b : EReal => a + b) ?_ ?_) ?_) ?_ <;>
    exact Finset.sum_congr rfl fun k _ => congrArg f (Fin.ext (by show k.val + 512 * _ = _; simp; try omega))

end Cert.Products

end
-- ==== Proof.InValue.lean ====
/- The input projections: the kernel's array and the reference's are the same product. -/
module

public import proofs.«01_k».proof.Proof.Products
public import proofs.«01_k».proof.Proof.Gen.MmInIdeal.Value
public import proofs.«01_k».proof.Proof.Gen.MmInRefIdeal.Read

@[expose] public section

noncomputable section

namespace Cert.MmInIdeal.Head

open Cert.MmInIdeal Cert.MmInIdeal.Gen Cert.MmInIdeal.Value Cert.Products Idealize.ShloMosaic Idealize.ShloMosaic.TcCoe
open Idealize.ShloMosaic.Pipeline (Dat)

/-- The product of the rows of the activations with the first rows of the weights. -/
def prod (x : S2048x1024.Idx → EReal) (y : S5760x1024.Idx → EReal) (i : S2048x5632.Idx) : EReal :=
  ∑ k : Fin 1024, x (ix2 (i 0) k) * y (ix2 ⟨(i 1).val, by have : (i 1).val < 5632 := (i 1).isLt; omega⟩ k)

/-- What one grid point stores. -/
theorem block (c : Dev nD) (i : grid0.Coords) (a3 : Memref sig .tc .vmem S2048x1024 .bf16) (h3 : a3.IsWhole) (a4 : Memref sig .tc .vmem S512x1024 .bf16) (h4 : a4.IsWhole)
    (a5 : Memref sig .tc .vmem S2048x512 .bf16) (h5 : a5.IsWhole) (x0 : Vec Ideal S2048x1024 .bf16) (x1 : Vec Ideal S512x1024 .bf16) (j : S2048x512.Idx) :
    @Eq EReal (out0_A_2 c i a3 h3 a4 h4 a5 h5 x0 x1 j) (∑ k : Fin 1024, (x0 (ix2 (j 0) k) : EReal) * (x1 (ix2 (j 1) k) : EReal)) := by
  unfold out0_A_2
  rw [View.read_writes_eq_canon _ _ _ (cover0_A_2 c i a3 h3 a4 h4 a5 h5 x0 x1)]
  unfold kernelRun0_A
  dsimp only
  rw [View.canon_unit_zero zeros2]
  unfold k0_pay1
  simp only [View.readAt_eq_ld, h3.read_unread, h4.read_unread, View.ld_unit_zero (S := S2048x1024) zeros2, View.ld_unit_zero (S := S512x1024) zeros2, shapeCast_self]
  exact mm (φ₁ := .bf16) (φ₂ := .bf16) (K := 1024) dot_S2048x1024_S512x1024_S2048x512_1_1_0_0_n_n rfl rfl none x0 x1 j (fun k => ix2 (j 0) k) (fun k => ix2 (j 1) k)
    (fun k => idx2 rfl rfl) (fun k => idx2 rfl rfl)

theorem index0 : ∀ t : Fin cfg0.N, win0_0.index t 0 = 0 ∧ win0_0.index t 1 = 0 :=
  (by decide +kernel : ∀ t : Fin grid0.N, win0_0.index t 0 = 0 ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = 0 ∧ win0_2.index t 1 = t.val :=
  (by decide +kernel : ∀ t : Fin grid0.N, win0_2.index t 0 = 0 ∧ win0_2.index t 1 = t.val)

variable (m : (ℓ : Loc nD τ sig) → Buf (Elt Ideal) ℓ) (c : Dev nD)

theorem left (t : Fin cfg0.N) (j : S2048x1024.Idx) (i : S2048x1024.Idx) (h0 : (i 0).val = (j 0).val) (h1 : (i 1).val = (j 1).val) :
    @Eq EReal (iblk m c 0 t j) (m ((c : Thread nD τ).loc main_arg0) i) := by
  unfold iblk
  rw [View.read_apply]
  show @Eq EReal (V m c main_arg0 _) _
  rw [V_main_arg0]
  obtain ⟨e0, e1⟩ := index0 t
  refine congrArg _ (idx2 ?_ ?_)
  · show win0_0.index t 0 * 2048 + 1 * (j 0).val = (i 0).val; omega
  · show win0_0.index t 1 * 1024 + 1 * (j 1).val = (i 1).val; omega

theorem right (t : Fin cfg0.N) (j : S512x1024.Idx) (i : S5760x1024.Idx) (h0 : (i 0).val = 512 * t.val + (j 0).val) (h1 : (i 1).val = (j 1).val) :
    @Eq EReal (X0_1 m c t j) (m ((c : Thread nD τ).loc main_arg1) i) := by
  unfold X0_1 Pipeline.Window.fill
  rw [dif_pos (moved0_1 t j)]
  unfold iblk
  rw [View.read_apply]
  show @Eq EReal (V m c main_arg1 _) _
  rw [V_main_arg1]
  obtain ⟨e0, e1⟩ := index1 t
  refine congrArg _ (idx2 ?_ ?_)
  · show win0_1.index t 0 * 512 + 1 * (j 0).val = (i 0).val; omega
  · show win0_1.index t 1 * 1024 + 1 * (j 1).val = (i 1).val; omega

/-- What point `t` leaves at an element of its block is the product at that element of the array. -/
theorem at_block (t : Fin cfg0.N) (j : S2048x512.Idx) (i : S2048x5632.Idx) (h0 : (i 0).val = (j 0).val) (h1 : (i 1).val = 512 * t.val + (j 1).val) :
    @Eq EReal (outsAt0 m c t j) (prod (m ((c : Thread nD τ).loc main_arg0)) (m ((c : Thread nD τ).loc main_arg1)) i) := by
  unfold outsAt0
  exact (block ..).trans (Finset.sum_congr rfl fun k _ => congrArg₂ (fun a b : EReal => a * b) (left m c t (ix2 (j 0) k) (ix2 (i 0) k) h0 rfl)
    (right m c t (ix2 (j 1) k) (ix2 ⟨(i 1).val, by have : (i 1).val < 5632 := (i 1).isLt; omega⟩ k) h1 rfl))

theorem arr : (dats m 0 c).arrAt 2 cfg0.N = prod (m ((c : Thread nD τ).loc main_arg0)) (m ((c : Thread nD τ).loc main_arg1)) := by
  refine (dats m 0 c).arrAt_eq_of_cover 2 _ (fun t _ => ?_) fun i => ?_
  · rw [flushed2]
    funext j
    rw [View.read_apply]
    obtain ⟨e0, e1⟩ := index2 t
    have d0 : (((cfg0.win 2).blk t).view.emb j 0).val = (j 0).val := by
      show win0_2.index t 0 * 2048 + 1 * (j 0).val = _; omega
    have d1 : (((cfg0.win 2).blk t).view.emb j 1).val = 512 * t.val + (j 1).val := by
      show win0_2.index t 1 * 512 + 1 * (j 1).val = _; omega
    exact at_block m c t j _ d0 d1
  · have i0 : (i 0).val < 2048 := (i 0).isLt
    have i1 : (i 1).val < 5632 := (i 1).isLt
    let t : Fin cfg0.N := ⟨(i 1).val / 512, by show _ < 11; omega⟩
    refine ⟨t, flush0_2 t, ?_⟩
    obtain ⟨e0, e1⟩ := index2 t
    have h := ((cfg0.win 2).blk t).view.emb_mem_set (ix2 (⟨(i 0).val, i0⟩ : Fin 2048) (⟨(i 1).val % 512, by omega⟩ : Fin 512))
    refine Eq.mp (congrArg (· ∈ _) (idx2 ?_ ?_)) h
    · show win0_2.index t 0 * 2048 + 1 * (i 0).val = (i 0).val; omega
    · show win0_2.index t 1 * 512 + 1 * ((i 1).val % 512) = (i 1).val
      rw [e1]; show (i 1).val / 512 * 512 + _ = _; omega

open Cert.MmInRefIdeal.Read in
/-- The reference's stages, read back to its arguments. -/
theorem ref (x : S2048x1024.Idx → EReal) (y : S5760x1024.Idx → EReal) : Cert.MmInRefIdeal.Read.val_main_v5 (F := Ideal) x y = prod x y := by
  funext i
  rw [val_main_v5_apply]
  show val_main_v4 (F := Ideal) x y i = _
  rw [val_main_v4_apply]
  refine Finset.sum_congr rfl fun k _ => congrArg₂ (fun a b : EReal => a * b) (congrArg x (idx2 rfl rfl)) ?_
  rw [val_main_v3_apply, val_main_v2_apply]
  show val_main_v1 (F := Ideal) y _ = _
  rw [val_main_v1_apply]
  exact congrArg y (idx2 rfl rfl)

end Cert.MmInIdeal.Head

end
-- ==== Proof.WcatValue.lean ====
/- The gradient of the input projections' weights: the kernel's array and the reference's are the same product. -/
module

public import proofs.«01_k».proof.Proof.Products
public import proofs.«01_k».proof.Proof.Gen.MmDWcatIdeal.Value
public import proofs.«01_k».proof.Proof.Gen.MmDWcatRefIdeal.Read

@[expose] public section

noncomputable section

namespace Cert.MmDWcatIdeal.Head

open Cert.MmDWcatIdeal Cert.MmDWcatIdeal.Gen Cert.MmDWcatIdeal.Value Cert.Products Idealize.ShloMosaic Idealize.ShloMosaic.TcCoe
open Idealize.ShloMosaic.Pipeline (Dat)

/-- The product of the columns of the gradient with the columns of the activations. -/
def prod (x : S2048x5760.Idx → EReal) (y : S2048x1024.Idx → EReal) (i : S5760x1024.Idx) : EReal :=
  ∑ k : Fin 2048, x (ix2 k (i 0)) * y (ix2 k (i 1))

/-- What one grid point stores. -/
theorem block (x0 : Vec Ideal S2048x640 .bf16) (x1 : Vec Ideal S2048x1024 .bf16) (j : S640x1024.Idx) :
    @Eq EReal (out0_2 x0 x1 j) (∑ k : Fin 2048, (x0 (ix2 k (j 0)) : EReal) * (x1 (ix2 k (j 1)) : EReal)) := by
  unfold out0_2
  rw [View.canon_unit_zero zeros2, View.ld_unit_zero (S := S2048x640) zeros2, View.ld_unit_zero (S := S2048x1024) zeros2]
  unfold k0_pay1
  rw [shapeCast_self]
  exact mm (φ₁ := .bf16) (φ₂ := .bf16) (K := 2048) dot_S2048x640_S2048x1024_S640x1024_0_0_1_1_n_n rfl rfl none x0 x1 j (fun k => ix2 k (j 0)) (fun k => ix2 k (j 1))
    (fun k => idx2 rfl rfl) (fun k => idx2 rfl rfl)

theorem index0 : ∀ t : Fin cfg0.N, win0_0.index t 0 = 0 ∧ win0_0.index t 1 = t.val :=
  (by decide +kernel : ∀ t : Fin grid0.N, win0_0.index t 0 = 0 ∧ win0_0.index t 1 = t.val)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)

variable (m : (ℓ : Loc nD τ sig) → Buf (Elt Ideal) ℓ) (c : Dev nD)

theorem left (t : Fin cfg0.N) (j : S2048x640.Idx) (i : S2048x5760.Idx) (h0 : (i 0).val = (j 0).val) (h1 : (i 1).val = 640 * t.val + (j 1).val) :
    @Eq EReal (iblk m c 0 t j) (m ((c : Thread nD τ).loc main_arg0) i) := by
  unfold iblk
  rw [View.read_apply]
  show @Eq EReal (V m c main_arg0 _) _
  rw [V_main_arg0]
  obtain ⟨e0, e1⟩ := index0 t
  refine congrArg _ (idx2 ?_ ?_)
  · show win0_0.index t 0 * 2048 + 1 * (j 0).val = (i 0).val; omega
  · show win0_0.index t 1 * 640 + 1 * (j 1).val = (i 1).val; omega

theorem right (t : Fin cfg0.N) (j : S2048x1024.Idx) (i : S2048x1024.Idx) (h0 : (i 0).val = (j 0).val) (h1 : (i 1).val = (j 1).val) :
    @Eq EReal (iblk m c 1 t j) (m ((c : Thread nD τ).loc main_arg1) i) := by
  unfold iblk
  rw [View.read_apply]
  show @Eq EReal (V m c main_arg1 _) _
  rw [V_main_arg1]
  obtain ⟨e0, e1⟩ := index1 t
  refine congrArg _ (idx2 ?_ ?_)
  · show win0_1.index t 0 * 2048 + 1 * (j 0).val = (i 0).val; omega
  · show win0_1.index t 1 * 1024 + 1 * (j 1).val = (i 1).val; omega

/-- What point `t` leaves at an element of its block is the product at that element of the array. -/
theorem at_block (t : Fin cfg0.N) (j : S640x1024.Idx) (i : S5760x1024.Idx) (h0 : (i 0).val = 640 * t.val + (j 0).val) (h1 : (i 1).val = (j 1).val) :
    @Eq EReal (out0_2 (iblk m c 0 t) (iblk m c 1 t) j) (prod (m ((c : Thread nD τ).loc main_arg0)) (m ((c : Thread nD τ).loc main_arg1)) i) :=
  (block _ _ j).trans (Finset.sum_congr rfl fun _ _ => congrArg₂ (fun a b : EReal => a * b) (left m c t _ _ rfl h0) (right m c t _ _ rfl h1))

theorem arr : (dats m 0 c).arrAt 2 cfg0.N = prod (m ((c : Thread nD τ).loc main_arg0)) (m ((c : Thread nD τ).loc main_arg1)) := by
  refine (dats m 0 c).arrAt_eq_of_cover 2 _ (fun t _ => ?_) fun i => ?_
  · rw [flushed2]
    funext j
    rw [View.read_apply]
    obtain ⟨e0, e1⟩ := index2 t
    have d0 : (((cfg0.win 2).blk t).view.emb j 0).val = 640 * t.val + (j 0).val := by
      show win0_2.index t 0 * 640 + 1 * (j 0).val = _; omega
    have d1 : (((cfg0.win 2).blk t).view.emb j 1).val = (j 1).val := by
      show win0_2.index t 1 * 1024 + 1 * (j 1).val = _; omega
    exact at_block m c t j _ d0 d1
  · have i0 : (i 0).val < 5760 := (i 0).isLt
    have i1 : (i 1).val < 1024 := (i 1).isLt
    let t : Fin cfg0.N := ⟨(i 0).val / 640, by show _ < 9; omega⟩
    refine ⟨t, flush0_2 t, ?_⟩
    obtain ⟨e0, e1⟩ := index2 t
    have h := ((cfg0.win 2).blk t).view.emb_mem_set (ix2 (⟨(i 0).val % 640, by omega⟩ : Fin 640) (⟨(i 1).val, i1⟩ : Fin 1024))
    refine Eq.mp (congrArg (· ∈ _) (idx2 ?_ ?_)) h
    · show win0_2.index t 0 * 640 + 1 * ((i 0).val % 640) = (i 0).val
      rw [e0]; show (i 0).val / 640 * 640 + _ = _; omega
    · show win0_2.index t 1 * 1024 + 1 * (i 1).val = (i 1).val; omega

open Cert.MmDWcatRefIdeal.Read in
/-- The reference's stages, read back to its arguments. -/
theorem ref (x : S2048x5760.Idx → EReal) (y : S2048x1024.Idx → EReal) : Cert.MmDWcatRefIdeal.Read.val_main_v8 (F := Ideal) x y = prod x y := by
  funext i
  rw [val_main_v8_apply]
  show val_main_v7 (F := Ideal) x y i = _
  rw [val_main_v7_apply, val_main_v6_apply, val_main_v5_apply]
  exact Finset.sum_congr rfl fun k _ => congrArg₂ (fun a b : EReal => a * b) (congrArg x (idx2 rfl rfl)) (congrArg y (idx2 rfl rfl))

end Cert.MmDWcatIdeal.Head

end
-- ==== Proof.WupValue.lean ====
/- The gradient of the feed-forward's first weights: the kernel's array and the reference's are the same product. -/
module

public import proofs.«01_k».proof.Proof.Products
public import proofs.«01_k».proof.Proof.Gen.MmDWupIdeal.Value
public import proofs.«01_k».proof.Proof.Gen.MmDWupRefIdeal.Read

@[expose] public section

noncomputable section

namespace Cert.MmDWupIdeal.Head

open Cert.MmDWupIdeal Cert.MmDWupIdeal.Gen Cert.MmDWupIdeal.Value Cert.Products Idealize.ShloMosaic Idealize.ShloMosaic.TcCoe
open Idealize.ShloMosaic.Pipeline (Dat)

/-- The product of the columns of the gradient, block by block, with the rows. -/
def prod (x : S2x4x2048x704.Idx → EReal) (y : S2048x1024.Idx → EReal) (i : S5632x1024.Idx) : EReal :=
  ∑ k : Fin 2048, x (ix4 ⟨(i 0).val / 2816, by have : (i 0).val < 5632 := (i 0).isLt; omega⟩ ⟨(i 0).val / 704 % 4, by omega⟩ k ⟨(i 0).val % 704, by omega⟩) * y (ix2 k (i 1))

/-- What one grid point stores. -/
theorem block (x0 : Vec Ideal S1x1x2048x704 .bf16) (x1 : Vec Ideal S2048x1024 .bf16) (j : S704x1024.Idx) :
    @Eq EReal (out0_2 x0 x1 j) (∑ k : Fin 2048, (x0 (ix4 0 0 k (j 0)) : EReal) * (x1 (ix2 k (j 1)) : EReal)) := by
  unfold out0_2
  rw [View.canon_unit_zero zeros2, View.ld_unit_zero (S := S1x1x2048x704) zeros4, View.ld_unit_zero (S := S2048x1024) zeros2]
  unfold k0_pay1
  rw [shapeCast_self]
  refine (mm (φ₁ := .bf16) (φ₂ := .bf16) (K := 2048) dot_S2048x704_S2048x1024_S704x1024_0_0_1_1_n_n rfl rfl none _ x1 j (fun k => ix2 k (j 0)) (fun k => ix2 k (j 1))
    (fun k => idx2 rfl rfl) (fun k => idx2 rfl rfl)).trans (Finset.sum_congr rfl fun k _ => congrArg (fun a : EReal => a * _) ?_)
  refine shapeCast_apply x0 _ _ (ix4 0 0 k (j 0)) ?_
  rw [Shape.rowMajor_val_four, Shape.rowMajor_val_two]
  show ((0 * 1 + 0) * 2048 + k.val) * 704 + (j 0).val = k.val * 704 + (j 0).val
  omega

theorem index0 : ∀ t : Fin cfg0.N, win0_0.index t 0 = t.val / 4 ∧ win0_0.index t 1 = t.val % 4 ∧ win0_0.index t 2 = 0 ∧ win0_0.index t 3 = 0 :=
  (by decide +kernel : ∀ t : Fin grid0.N, win0_0.index t 0 = t.val / 4 ∧ win0_0.index t 1 = t.val % 4 ∧ win0_0.index t 2 = 0 ∧ win0_0.index t 3 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)

variable (m : (ℓ : Loc nD τ sig) → Buf (Elt Ideal) ℓ) (c : Dev nD)

theorem left (t : Fin cfg0.N) (j : S1x1x2048x704.Idx) (i : S2x4x2048x704.Idx) (h0 : (i 0).val = t.val / 4) (h1 : (i 1).val = t.val % 4)
    (h2 : (i 2).val = (j 2).val) (h3 : (i 3).val = (j 3).val) :
    @Eq EReal (iblk m c 0 t j) (m ((c : Thread nD τ).loc main_arg0) i) := by
  unfold iblk
  rw [View.read_apply]
  show @Eq EReal (V m c main_arg0 _) _
  rw [V_main_arg0]
  obtain ⟨e0, e1, e2, e3⟩ := index0 t
  have j0 : (j 0).val < 1 := (j 0).isLt
  have j1 : (j 1).val < 1 := (j 1).isLt
  refine congrArg _ (idx4 ?_ ?_ ?_ ?_)
  · show win0_0.index t 0 * 1 + 1 * (j 0).val = (i 0).val; omega
  · show win0_0.index t 1 * 1 + 1 * (j 1).val = (i 1).val; omega
  · show win0_0.index t 2 * 2048 + 1 * (j 2).val = (i 2).val; omega
  · show win0_0.index t 3 * 704 + 1 * (j 3).val = (i 3).val; omega

theorem right (t : Fin cfg0.N) (j : S2048x1024.Idx) : @Eq EReal (iblk m c 1 t j) (m ((c : Thread nD τ).loc main_arg1) j) := by
  unfold iblk
  rw [View.read_apply]
  show @Eq EReal (V m c main_arg1 _) _
  rw [V_main_arg1]
  obtain ⟨e0, e1⟩ := index1 t
  refine congrArg _ (idx2 ?_ ?_)
  · show win0_1.index t 0 * 2048 + 1 * (j 0).val = (j 0).val; omega
  · show win0_1.index t 1 * 1024 + 1 * (j 1).val = (j 1).val; omega

/-- What point `t` leaves at an element of its block is the product at that element of the array. -/
theorem at_block (t : Fin cfg0.N) (j : S704x1024.Idx) (i : S5632x1024.Idx) (h0 : (i 0).val = 704 * t.val + (j 0).val) (h1 : (i 1).val = (j 1).val) :
    @Eq EReal (out0_2 (iblk m c 0 t) (iblk m c 1 t) j) (prod (m ((c : Thread nD τ).loc main_arg0)) (m ((c : Thread nD τ).loc main_arg1)) i) := by
  have t8 : t.val < 8 := t.isLt
  have j0 : (j 0).val < 704 := (j 0).isLt
  refine (block _ _ j).trans (Finset.sum_congr rfl fun k _ => congrArg₂ (fun a b : EReal => a * b) ?_ ?_)
  · refine left m c t _ _ ?_ ?_ rfl ?_
    · show (i 0).val / 2816 = t.val / 4; omega
    · show (i 0).val / 704 % 4 = t.val % 4; omega
    · show (i 0).val % 704 = (j 0).val; omega
  · exact (right m c t _).trans (congrArg _ (idx2 rfl h1.symm))

theorem arr : (dats m 0 c).arrAt 2 cfg0.N = prod (m ((c : Thread nD τ).loc main_arg0)) (m ((c : Thread nD τ).loc main_arg1)) := by
  refine (dats m 0 c).arrAt_eq_of_cover 2 _ (fun t _ => ?_) fun i => ?_
  · rw [flushed2]
    funext j
    rw [View.read_apply]
    obtain ⟨e0, e1⟩ := index2 t
    have d0 : (((cfg0.win 2).blk t).view.emb j 0).val = 704 * t.val + (j 0).val := by
      show win0_2.index t 0 * 704 + 1 * (j 0).val = _; omega
    have d1 : (((cfg0.win 2).blk t).view.emb j 1).val = (j 1).val := by
      show win0_2.index t 1 * 1024 + 1 * (j 1).val = _; omega
    exact at_block m c t j _ d0 d1
  · have i0 : (i 0).val < 5632 := (i 0).isLt
    have i1 : (i 1).val < 1024 := (i 1).isLt
    let t : Fin cfg0.N := ⟨(i 0).val / 704, by show _ < 8; omega⟩
    refine ⟨t, flush0_2 t, ?_⟩
    obtain ⟨e0, e1⟩ := index2 t
    have h := ((cfg0.win 2).blk t).view.emb_mem_set (ix2 (⟨(i 0).val % 704, by omega⟩ : Fin 704) (⟨(i 1).val, i1⟩ : Fin 1024))
    refine Eq.mp (congrArg (· ∈ _) (idx2 ?_ ?_)) h
    · show win0_2.index t 0 * 704 + 1 * ((i 0).val % 704) = (i 0).val
      rw [e0]; show (i 0).val / 704 * 704 + _ = _; omega
    · show win0_2.index t 1 * 1024 + 1 * (i 1).val = (i 1).val; omega

open Cert.MmDWupRefIdeal.Read in
/-- The reference's stages, read back to its arguments. -/
theorem ref (x : S2x4x2048x704.Idx → EReal) (y : S2048x1024.Idx → EReal) : Cert.MmDWupRefIdeal.Read.val_main_v10 (F := Ideal) x y = prod x y := by
  funext i
  have i0 : (i 0).val < 5632 := (i 0).isLt
  rw [val_main_v10_apply]
  show val_main_v9 (F := Ideal) x y i = _
  rw [val_main_v9_apply, val_main_v8_apply, val_main_v7_apply]
  refine Finset.sum_congr rfl fun k _ => congrArg₂ (fun a b : EReal => a * b) ?_ (congrArg y (idx2 rfl rfl))
  refine (shapeCast_apply _ _ _ (ix4 k ⟨(i 0).val / 2816, by omega⟩ ⟨(i 0).val / 704 % 4, by omega⟩ ⟨(i 0).val % 704, by omega⟩) ?_).trans ?_
  · rw [Shape.rowMajor_val_four, Shape.rowMajor_val_two]
    show ((k.val * 2 + (i 0).val / 2816) * 4 + (i 0).val / 704 % 4) * 704 + (i 0).val % 704 = k.val * 5632 + (i 0).val
    omega
  · rw [val_main_v1_apply]
    exact congrArg x (idx4 rfl rfl rfl rfl)

end Cert.MmDWupIdeal.Head

end
-- ==== Proof.ActValue.lean ====
/- The gradient of the feed-forward's activations: the kernel's array and the reference's are the same product. -/
module

public import proofs.«01_k».proof.Proof.Products
public import proofs.«01_k».proof.Proof.Gen.MmDActIdeal.Value
public import proofs.«01_k».proof.Proof.Gen.MmDActRefIdeal.Read

@[expose] public section

noncomputable section

namespace Cert.MmDActIdeal.Head

open Cert.MmDActIdeal Cert.MmDActIdeal.Gen Cert.MmDActIdeal.Value Cert.Products Idealize.ShloMosaic Idealize.ShloMosaic.TcCoe
open Idealize.ShloMosaic.Pipeline (Dat)

/-- The product of the rows of the gradient with the rows of the weights, block by block. -/
def prod (x : S2048x1024.Idx → EReal) (y : S2816x1024.Idx → EReal) (i : S1x4x2048x704.Idx) : EReal :=
  ∑ k : Fin 1024, x (ix2 (i 2) k) * y (ix2 ⟨(i 1).val * 704 + (i 3).val, by
    have h1 : (i 1).val < 4 := (i 1).isLt
    have h3 : (i 3).val < 704 := (i 3).isLt
    omega⟩ k)

/-- What one grid point stores. -/
theorem block (x0 : Vec Ideal S2048x1024 .bf16) (x1 : Vec Ideal S704x1024 .bf16) (j : S1x1x2048x704.Idx) :
    @Eq EReal (out0_2 x0 x1 j) (∑ k : Fin 1024, (x0 (ix2 (j 2) k) : EReal) * (x1 (ix2 (j 3) k) : EReal)) := by
  have j0 : (j 0).val < 1 := (j 0).isLt
  have j1 : (j 1).val < 1 := (j 1).isLt
  unfold out0_2
  rw [View.canon_unit_zero zeros4, View.ld_unit_zero (S := S2048x1024) zeros2, View.ld_unit_zero (S := S704x1024) zeros2]
  unfold k0_pay1
  refine (shapeCast_apply _ _ _ (ix2 (j 2) (j 3)) ?_).trans
    (mm (φ₁ := .bf16) (φ₂ := .bf16) (K := 1024) dot_S2048x1024_S704x1024_S2048x704_1_1_0_0_n_n rfl rfl none x0 x1 (ix2 (j 2) (j 3)) (fun k => ix2 (j 2) k) (fun k => ix2 (j 3) k)
    (fun k => idx2 rfl rfl) (fun k => idx2 rfl rfl))
  rw [Shape.rowMajor_val_four, Shape.rowMajor_val_two]
  show (j 2).val * 704 + (j 3).val = (((j 0).val * 1 + (j 1).val) * 2048 + (j 2).val) * 704 + (j 3).val
  omega

theorem index0 : ∀ t : Fin cfg0.N, win0_0.index t 0 = 0 ∧ win0_0.index t 1 = 0 :=
  (by decide +kernel : ∀ t : Fin grid0.N, win0_0.index t 0 = 0 ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = 0 ∧ win0_2.index t 1 = t.val ∧ win0_2.index t 2 = 0 ∧ win0_2.index t 3 = 0 :=
  (by decide +kernel : ∀ t : Fin grid0.N, win0_2.index t 0 = 0 ∧ win0_2.index t 1 = t.val ∧ win0_2.index t 2 = 0 ∧ win0_2.index t 3 = 0)

variable (m : (ℓ : Loc nD τ sig) → Buf (Elt Ideal) ℓ) (c : Dev nD)

theorem left (t : Fin cfg0.N) (j : S2048x1024.Idx) (i : S2048x1024.Idx) (h0 : (i 0).val = (j 0).val) (h1 : (i 1).val = (j 1).val) :
    @Eq EReal (iblk m c 0 t j) (m ((c : Thread nD τ).loc main_arg0) i) := by
  unfold iblk
  rw [View.read_apply]
  show @Eq EReal (V m c main_arg0 _) _
  rw [V_main_arg0]
  obtain ⟨e0, e1⟩ := index0 t
  refine congrArg _ (idx2 ?_ ?_)
  · show win0_0.index t 0 * 2048 + 1 * (j 0).val = (i 0).val; omega
  · show win0_0.index t 1 * 1024 + 1 * (j 1).val = (i 1).val; omega

theorem right (t : Fin cfg0.N) (j : S704x1024.Idx) (i : S2816x1024.Idx) (h0 : (i 0).val = 704 * t.val + (j 0).val) (h1 : (i 1).val = (j 1).val) :
    @Eq EReal (iblk m c 1 t j) (m ((c : Thread nD τ).loc main_arg1) i) := by
  unfold iblk
  rw [View.read_apply]
  show @Eq EReal (V m c main_arg1 _) _
  rw [V_main_arg1]
  obtain ⟨e0, e1⟩ := index1 t
  refine congrArg _ (idx2 ?_ ?_)
  · show win0_1.index t 0 * 704 + 1 * (j 0).val = (i 0).val; omega
  · show win0_1.index t 1 * 1024 + 1 * (j 1).val = (i 1).val; omega

/-- What point `t` leaves at an element of its block is the product at that element of the array. -/
theorem at_block (t : Fin cfg0.N) (j : S1x1x2048x704.Idx) (i : S1x4x2048x704.Idx) (h1 : (i 1).val = t.val) (h2 : (i 2).val = (j 2).val) (h3 : (i 3).val = (j 3).val) :
    @Eq EReal (out0_2 (iblk m c 0 t) (iblk m c 1 t) j) (prod (m ((c : Thread nD τ).loc main_arg0)) (m ((c : Thread nD τ).loc main_arg1)) i) := by
  refine (block _ _ j).trans (Finset.sum_congr rfl fun k _ => congrArg₂ (fun a b : EReal => a * b) (left m c t _ _ h2 rfl) (right m c t _ _ ?_ rfl))
  show (i 1).val * 704 + (i 3).val = 704 * t.val + (j 3).val
  omega

theorem arr : (dats m 0 c).arrAt 2 cfg0.N = prod (m ((c : Thread nD τ).loc main_arg0)) (m ((c : Thread nD τ).loc main_arg1)) := by
  refine (dats m 0 c).arrAt_eq_of_cover 2 _ (fun t _ => ?_) fun i => ?_
  · rw [flushed2]
    funext j
    rw [View.read_apply]
    obtain ⟨e0, e1, e2, e3⟩ := index2 t
    have j0 : (j 0).val < 1 := (j 0).isLt
    have j1 : (j 1).val < 1 := (j 1).isLt
    have d0 : (((cfg0.win 2).blk t).view.emb j 0).val = 0 := by
      show win0_2.index t 0 * 1 + 1 * (j 0).val = _; omega
    have d1 : (((cfg0.win 2).blk t).view.emb j 1).val = t.val := by
      show win0_2.index t 1 * 1 + 1 * (j 1).val = _; omega
    have d2 : (((cfg0.win 2).blk t).view.emb j 2).val = (j 2).val := by
      show win0_2.index t 2 * 2048 + 1 * (j 2).val = _; omega
    have d3 : (((cfg0.win 2).blk t).view.emb j 3).val = (j 3).val := by
      show win0_2.index t 3 * 704 + 1 * (j 3).val = _; omega
    exact at_block m c t j _ d1 d2 d3
  · have i0 : (i 0).val < 1 := (i 0).isLt
    have i1 : (i 1).val < 4 := (i 1).isLt
    let t : Fin cfg0.N := ⟨(i 1).val, i1⟩
    refine ⟨t, flush0_2 t, ?_⟩
    obtain ⟨e0, e1, e2, e3⟩ := index2 t
    have h := ((cfg0.win 2).blk t).view.emb_mem_set (ix4 (0 : Fin 1) (0 : Fin 1) (⟨(i 2).val, (i 2).isLt⟩ : Fin 2048) (⟨(i 3).val, (i 3).isLt⟩ : Fin 704))
    refine Eq.mp (congrArg (· ∈ _) (idx4 ?_ ?_ ?_ ?_)) h
    · show win0_2.index t 0 * 1 + 1 * 0 = (i 0).val; omega
    · show win0_2.index t 1 * 1 + 1 * 0 = (i 1).val
      rw [e1]; show (i 1).val * 1 + _ = _; omega
    · show win0_2.index t 2 * 2048 + 1 * (i 2).val = (i 2).val; omega
    · show win0_2.index t 3 * 704 + 1 * (i 3).val = (i 3).val; omega

open Cert.MmDActRefIdeal.Read in
/-- The reference's stages, read back to its arguments. -/
theorem ref (x : S2048x1024.Idx → EReal) (y : S2816x1024.Idx → EReal) : Cert.MmDActRefIdeal.Read.val_main_v7 (F := Ideal) x y = prod x y := by
  funext i
  have i0 : (i 0).val < 1 := (i 0).isLt
  have i1 : (i 1).val < 4 := (i 1).isLt
  have i3 : (i 3).val < 704 := (i 3).isLt
  rw [val_main_v7_apply]
  show val_main_v6 (F := Ideal) x y i = _
  rw [val_main_v6_apply]
  refine (shapeCast_apply _ _ _ (ix2 (i 2) ⟨(i 1).val * 704 + (i 3).val, by omega⟩) ?_).trans ?_
  · rw [Shape.rowMajor_val_four, Shape.rowMajor_val_two]
    show (i 2).val * 2816 + ((i 1).val * 704 + (i 3).val) = (((i 2).val * 1 + (i 0).val) * 4 + (i 1).val) * 704 + (i 3).val
    omega
  · exact (val_main_v4_apply x y _).trans (Finset.sum_congr rfl fun k _ =>
      congrArg₂ (fun a b : EReal => a * b) (congrArg x (idx2 rfl rfl)) (congrArg y (idx2 rfl rfl)))

end Cert.MmDActIdeal.Head

end
-- ==== Proof.WdownValue.lean ====
/- The gradient of the feed-forward's second weights: the kernel's array and the reference's are the same product. -/
module

public import proofs.«01_k».proof.Proof.Products
public import proofs.«01_k».proof.Proof.Gen.MmDWdownIdeal.Value
public import proofs.«01_k».proof.Proof.Gen.MmDWdownRefIdeal.Read

@[expose] public section

noncomputable section

namespace Cert.MmDWdownIdeal.Head

open Cert.MmDWdownIdeal Cert.MmDWdownIdeal.Gen Cert.MmDWdownIdeal.Value Cert.Products Idealize.ShloMosaic Idealize.ShloMosaic.TcCoe
open Idealize.ShloMosaic.Pipeline (Dat)

/-- The product of the columns of the activations, block by block, with the columns of the gradient. -/
def prod (x : S1x4x2048x704.Idx → EReal) (y : S2048x1024.Idx → EReal) (i : S2816x1024.Idx) : EReal :=
  ∑ k : Fin 2048, x (ix4 0 ⟨(i 0).val / 704, by have : (i 0).val < 2816 := (i 0).isLt; omega⟩ k ⟨(i 0).val % 704, by omega⟩) * y (ix2 k (i 1))

/-- What one grid point stores. -/
theorem block (x0 : Vec Ideal S1x1x2048x704 .bf16) (x1 : Vec Ideal S2048x1024 .bf16) (j : S704x1024.Idx) :
    @Eq EReal (out0_2 x0 x1 j) (∑ k : Fin 2048, (x0 (ix4 0 0 k (j 0)) : EReal) * (x1 (ix2 k (j 1)) : EReal)) := by
  unfold out0_2
  rw [View.canon_unit_zero zeros2, View.ld_unit_zero (S := S1x1x2048x704) zeros4, View.ld_unit_zero (S := S2048x1024) zeros2]
  unfold k0_pay1
  rw [shapeCast_self]
  refine (mm (φ₁ := .bf16) (φ₂ := .bf16) (K := 2048) dot_S2048x704_S2048x1024_S704x1024_0_0_1_1_n_n rfl rfl none _ x1 j (fun k => ix2 k (j 0)) (fun k => ix2 k (j 1))
    (fun k => idx2 rfl rfl) (fun k => idx2 rfl rfl)).trans (Finset.sum_congr rfl fun k _ => congrArg (fun a : EReal => a * _) ?_)
  refine shapeCast_apply x0 _ _ (ix4 0 0 k (j 0)) ?_
  rw [Shape.rowMajor_val_four, Shape.rowMajor_val_two]
  show ((0 * 1 + 0) * 2048 + k.val) * 704 + (j 0).val = k.val * 704 + (j 0).val
  omega

theorem index0 : ∀ t : Fin cfg0.N, win0_0.index t 0 = 0 ∧ win0_0.index t 1 = t.val ∧ win0_0.index t 2 = 0 ∧ win0_0.index t 3 = 0 :=
  (by decide +kernel : ∀ t : Fin grid0.N, win0_0.index t 0 = 0 ∧ win0_0.index t 1 = t.val ∧ win0_0.index t 2 = 0 ∧ win0_0.index t 3 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)

variable (m : (ℓ : Loc nD τ sig) → Buf (Elt Ideal) ℓ) (c : Dev nD)

theorem left (t : Fin cfg0.N) (j : S1x1x2048x704.Idx) (i : S1x4x2048x704.Idx) (h0 : (i 0).val = 0) (h1 : (i 1).val = t.val) (h2 : (i 2).val = (j 2).val) (h3 : (i 3).val = (j 3).val) :
    @Eq EReal (iblk m c 0 t j) (m ((c : Thread nD τ).loc main_arg0) i) := by
  unfold iblk
  rw [View.read_apply]
  show @Eq EReal (V m c main_arg0 _) _
  rw [V_main_arg0]
  obtain ⟨e0, e1, e2, e3⟩ := index0 t
  have j0 : (j 0).val < 1 := (j 0).isLt
  have j1 : (j 1).val < 1 := (j 1).isLt
  refine congrArg _ (idx4 ?_ ?_ ?_ ?_)
  · show win0_0.index t 0 * 1 + 1 * (j 0).val = (i 0).val; omega
  · show win0_0.index t 1 * 1 + 1 * (j 1).val = (i 1).val; omega
  · show win0_0.index t 2 * 2048 + 1 * (j 2).val = (i 2).val; omega
  · show win0_0.index t 3 * 704 + 1 * (j 3).val = (i 3).val; omega

theorem right (t : Fin cfg0.N) (j : S2048x1024.Idx) (i : S2048x1024.Idx) (h0 : (i 0).val = (j 0).val) (h1 : (i 1).val = (j 1).val) :
    @Eq EReal (iblk m c 1 t j) (m ((c : Thread nD τ).loc main_arg1) i) := by
  unfold iblk
  rw [View.read_apply]
  show @Eq EReal (V m c main_arg1 _) _
  rw [V_main_arg1]
  obtain ⟨e0, e1⟩ := index1 t
  refine congrArg _ (idx2 ?_ ?_)
  · show win0_1.index t 0 * 2048 + 1 * (j 0).val = (i 0).val; omega
  · show win0_1.index t 1 * 1024 + 1 * (j 1).val = (i 1).val; omega

/-- What point `t` leaves at an element of its block is the product at that element of the array. -/
theorem at_block (t : Fin cfg0.N) (j : S704x1024.Idx) (i : S2816x1024.Idx) (h0 : (i 0).val = 704 * t.val + (j 0).val) (h1 : (i 1).val = (j 1).val) :
    @Eq EReal (out0_2 (iblk m c 0 t) (iblk m c 1 t) j) (prod (m ((c : Thread nD τ).loc main_arg0)) (m ((c : Thread nD τ).loc main_arg1)) i) := by
  have j0 : (j 0).val < 704 := (j 0).isLt
  refine (block _ _ j).trans (Finset.sum_congr rfl fun k _ => congrArg₂ (fun a b : EReal => a * b) ?_ (right m c t _ _ rfl h1))
  refine left m c t _ _ rfl ?_ rfl ?_
  · show (i 0).val / 704 = t.val; omega
  · show (i 0).val % 704 = (j 0).val; omega

theorem arr : (dats m 0 c).arrAt 2 cfg0.N = prod (m ((c : Thread nD τ).loc main_arg0)) (m ((c : Thread nD τ).loc main_arg1)) := by
  refine (dats m 0 c).arrAt_eq_of_cover 2 _ (fun t _ => ?_) fun i => ?_
  · rw [flushed2]
    funext j
    rw [View.read_apply]
    obtain ⟨e0, e1⟩ := index2 t
    have d0 : (((cfg0.win 2).blk t).view.emb j 0).val = 704 * t.val + (j 0).val := by
      show win0_2.index t 0 * 704 + 1 * (j 0).val = _; omega
    have d1 : (((cfg0.win 2).blk t).view.emb j 1).val = (j 1).val := by
      show win0_2.index t 1 * 1024 + 1 * (j 1).val = _; omega
    exact at_block m c t j _ d0 d1
  · have i0 : (i 0).val < 2816 := (i 0).isLt
    have i1 : (i 1).val < 1024 := (i 1).isLt
    let t : Fin cfg0.N := ⟨(i 0).val / 704, by show _ < 4; omega⟩
    refine ⟨t, flush0_2 t, ?_⟩
    obtain ⟨e0, e1⟩ := index2 t
    have h := ((cfg0.win 2).blk t).view.emb_mem_set (ix2 (⟨(i 0).val % 704, by omega⟩ : Fin 704) (⟨(i 1).val, i1⟩ : Fin 1024))
    refine Eq.mp (congrArg (· ∈ _) (idx2 ?_ ?_)) h
    · show win0_2.index t 0 * 704 + 1 * ((i 0).val % 704) = (i 0).val
      rw [e0]; show (i 0).val / 704 * 704 + _ = _; omega
    · show win0_2.index t 1 * 1024 + 1 * (i 1).val = (i 1).val; omega

open Cert.MmDWdownRefIdeal.Read in
/-- The reference's stages, read back to its arguments. -/
theorem ref (x : S1x4x2048x704.Idx → EReal) (y : S2048x1024.Idx → EReal) : Cert.MmDWdownRefIdeal.Read.val_main_v8 (F := Ideal) x y = prod x y := by
  funext i
  have i0 : (i 0).val < 2816 := (i 0).isLt
  rw [val_main_v8_apply]
  show val_main_v7 (F := Ideal) x y i = _
  rw [val_main_v7_apply, val_main_v6_apply]
  refine Finset.sum_congr rfl fun k _ => (mul_comm (G := EReal) _ _).trans (congrArg₂ (fun a b : EReal => a * b) ?_ (congrArg y (idx2 rfl rfl)))
  refine (shapeCast_apply _ _ _ (ix4 k 0 ⟨(i 0).val / 704, by omega⟩ ⟨(i 0).val % 704, by omega⟩) ?_).trans ?_
  · rw [Shape.rowMajor_val_four, Shape.rowMajor_val_two]
    show ((k.val * 1 + 0) * 4 + (i 0).val / 704) * 704 + (i 0).val % 704 = k.val * 2816 + (i 0).val
    omega
  · rw [val_main_v2_apply]
    exact congrArg x (idx4 rfl rfl rfl rfl)

end Cert.MmDWdownIdeal.Head

end
-- ==== Proof.WoutValue.lean ====
/- The gradient of the output projection's weights: the kernel's array and the reference's are the same product. -/
module

public import proofs.«01_k».proof.Proof.Products
public import proofs.«01_k».proof.Proof.Gen.MmDWoutIdeal.Value
public import proofs.«01_k».proof.Proof.Gen.MmDWoutRefIdeal.Read

@[expose] public section

noncomputable section

namespace Cert.MmDWoutIdeal.Head

open Cert.MmDWoutIdeal Cert.MmDWoutIdeal.Gen Cert.MmDWoutIdeal.Value Cert.Products Idealize.ShloMosaic Idealize.ShloMosaic.TcCoe
open Idealize.ShloMosaic.Pipeline (Dat)

/-- The product of the columns of the mixed activations with the columns of the gradient. -/
def prod (x : S2048x1024.Idx → EReal) (y : S2048x1024.Idx → EReal) (i : S1024x1024.Idx) : EReal :=
  ∑ k : Fin 2048, x (ix2 k (i 0)) * y (ix2 k (i 1))

/-- The product of one grid point's rows. -/
def part (x0 : Vec Ideal S512x1024 .bf16) (x1 : Vec Ideal S512x1024 .f32) (j : S1024x1024.Idx) : EReal := ∑ k : Fin 512, (x0 (ix2 k (j 0)) : EReal) * (x1 (ix2 k (j 1)) : EReal)

theorem pay (x0 : Vec Ideal S512x1024 .bf16) (x1 : Vec Ideal S512x1024 .f32) (j : S1024x1024.Idx) : @Eq EReal (k0_pay1 x0 x1 j) (part x0 x1 j) :=
  mm (φ₁ := .bf16) (φ₂ := .bf16) (K := 512) dot_S512x1024_S512x1024_S1024x1024_0_0_1_1_n_n rfl rfl none _ _ j (fun k => ix2 k (j 0)) (fun k => ix2 k (j 1))
    (fun k => idx2 rfl rfl) (fun k => idx2 rfl rfl)

/-- The first point leaves its product in the scratch. -/
theorem first (c : Dev nD) (i : grid0.Coords) (a3 : Memref sig .tc .vmem S512x1024 .bf16) (h3 : a3.IsWhole) (a4 : Memref sig .tc .vmem S512x1024 .f32) (h4 : a4.IsWhole)
    (a5 : Memref sig .tc .vmem S1024x1024 .bf16) (h5 : a5.IsWhole) (a6 : Memref sig .tc .vmem S1024x1024 .f32) (h6 : a6.IsWhole) (hc0 : cond0_0 i) (hc1 : ¬cond0_1 i) (hc2 : ¬cond0_2 i) (x0 : Vec Ideal S512x1024 .bf16) (x1 : Vec Ideal S512x1024 .f32) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zeros2]
  unfold k0_pay2
  simp only [View.readAt_eq_ld, h3.read_unread, h4.read_unread, View.ld_unit_zero (S := S512x1024) zeros2, View.ld_unit_zero (S := S512x1024) zeros2, shapeCast_self]

/-- A middle point adds its product to it. -/
theorem next (c : Dev nD) (i : grid0.Coords) (a3 : Memref sig .tc .vmem S512x1024 .bf16) (h3 : a3.IsWhole) (a4 : Memref sig .tc .vmem S512x1024 .f32) (h4 : a4.IsWhole)
    (a5 : Memref sig .tc .vmem S1024x1024 .bf16) (h5 : a5.IsWhole) (a6 : Memref sig .tc .vmem S1024x1024 .f32) (h6 : a6.IsWhole) (hc0 : ¬cond0_0 i) (hc1 : cond0_1 i) (hc2 : ¬cond0_2 i) (x0 : Vec Ideal S512x1024 .bf16) (x1 : Vec Ideal S512x1024 .f32) (xs : Vec Ideal S1024x1024 .f32) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero zeros2]
  unfold k0_pay3
  simp only [View.readAt_eq_ld, h3.read_unread, h4.read_unread, h6.read_unread, View.ld_unit_zero (S := S512x1024) zeros2, View.ld_unit_zero (S := S512x1024) zeros2, View.ld_unit_zero (S := S1024x1024) zeros2, shapeCast_self]

/-- The last point writes the sum back. -/
theorem last (c : Dev nD) (i : grid0.Coords) (a3 : Memref sig .tc .vmem S512x1024 .bf16) (h3 : a3.IsWhole) (a4 : Memref sig .tc .vmem S512x1024 .f32) (h4 : a4.IsWhole)
    (a5 : Memref sig .tc .vmem S1024x1024 .bf16) (h5 : a5.IsWhole) (a6 : Memref sig .tc .vmem S1024x1024 .f32) (h6 : a6.IsWhole) (hc0 : ¬cond0_0 i) (hc1 : cond0_1 i) (hc2 : cond0_2 i) (x0 : Vec Ideal S512x1024 .bf16) (x1 : Vec Ideal S512x1024 .f32) (xs : Vec Ideal S1024x1024 .f32) (j : S1024x1024.Idx) :
    @Eq EReal (out0_C_2 c i a3 h3 a4 h4 a5 h5 a6 h6 hc0 hc1 hc2 x0 x1 xs j) ((xs j : EReal) + part x0 x1 j) := by
  refine Eq.trans (b := addf xs (k0_pay1 x0 x1) j) (congrFun ?_ j) (congrArg (fun b : EReal => (xs j : EReal) + b) (pay x0 x1 j))
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero zeros2, View.readCov_unit_zero (S := S1024x1024) _ zeros2]
  unfold k0_pay4 k0_pay3
  simp only [View.readAt_eq_ld, h3.read_unread, h4.read_unread, h6.read_unread, View.ld_unit_zero (S := S512x1024) zeros2, View.ld_unit_zero (S := S512x1024) zeros2, View.ld_unit_zero (S := S1024x1024) zeros2, shapeCast_self]
  rfl

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)

variable (m : (ℓ : Loc nD τ sig) → Buf (Elt Ideal) ℓ) (c : Dev nD)

theorem left (t : Fin cfg0.N) (j : S512x1024.Idx) (i : S2048x1024.Idx) (h0 : (i 0).val = 512 * t.val + (j 0).val) (h1 : (i 1).val = (j 1).val) :
    @Eq EReal (iblk m c 0 t j) (m ((c : Thread nD τ).loc main_arg0) i) := by
  unfold iblk
  rw [View.read_apply]
  show @Eq EReal (V m c main_arg0 _) _
  rw [V_main_arg0]
  obtain ⟨e0, e1⟩ := index0 t
  refine congrArg _ (idx2 ?_ ?_)
  · show win0_0.index t 0 * 512 + 1 * (j 0).val = (i 0).val; omega
  · show win0_0.index t 1 * 1024 + 1 * (j 1).val = (i 1).val; omega

theorem right (t : Fin cfg0.N) (j : S512x1024.Idx) (i : S2048x1024.Idx) (h0 : (i 0).val = 512 * t.val + (j 0).val) (h1 : (i 1).val = (j 1).val) :
    @Eq EReal (iblk m c 1 t j) (m ((c : Thread nD τ).loc main_arg1) i) := by
  unfold iblk
  rw [View.read_apply]
  show @Eq EReal (V m c main_arg1 _) _
  rw [V_main_arg1]
  obtain ⟨e0, e1⟩ := index1 t
  refine congrArg _ (idx2 ?_ ?_)
  · show win0_1.index t 0 * 512 + 1 * (j 0).val = (i 0).val; omega
  · show win0_1.index t 1 * 1024 + 1 * (j 1).val = (i 1).val; omega

/-- The product of the 512 rows from row `n`. -/
def rows (x : S2048x1024.Idx → EReal) (y : S2048x1024.Idx → EReal) (n : Nat) (hb : n ≤ 1536) (j : S1024x1024.Idx) : EReal :=
  ∑ k : Fin 512, x (ix2 (⟨n + k.val, by omega⟩ : Fin 2048) (j 0)) * y (ix2 (⟨n + k.val, by omega⟩ : Fin 2048) (j 1))

theorem prod_rows (x : S2048x1024.Idx → EReal) (y : S2048x1024.Idx → EReal) (j : S1024x1024.Idx) :
    prod x y j = ((rows x y 0 (by omega) j + rows x y 512 (by omega) j) + rows x y 1024 (by omega) j) + rows x y 1536 (by omega) j := by
  refine (sum_blocks4 fun k => x (ix2 k (j 0)) * y (ix2 k (j 1))).trans ?_
  refine congrArg (fun a : EReal => ((a + _) + _) + _) (Finset.sum_congr rfl fun k _ => ?_)
  have h0 : (⟨k.val, by omega⟩ : Fin 2048) = ⟨0 + k.val, by omega⟩ := Fin.ext (Nat.zero_add _).symm
  rw [h0]

/-- Point `t`'s product, read from the arrays. -/
theorem at_point (t : Fin cfg0.N) (n : Nat) (hn : n = 512 * t.val) (hb : n ≤ 1536) (j : S1024x1024.Idx) :
    part (iblk m c 0 t) (iblk m c 1 t) j = rows (m ((c : Thread nD τ).loc main_arg0)) (m ((c : Thread nD τ).loc main_arg1)) n hb j :=
  Finset.sum_congr rfl fun k _ => congrArg₂ (fun a b : EReal => a * b)
    (left m c t (ix2 k (j 0)) (ix2 (⟨n + k.val, by omega⟩ : Fin 2048) (j 0)) (by show n + k.val = 512 * t.val + k.val; omega) rfl)
    (right m c t (ix2 k (j 1)) (ix2 (⟨n + k.val, by omega⟩ : Fin 2048) (j 1)) (by show n + k.val = 512 * t.val + k.val; omega) rfl)

theorem n3 (n : Nat) (h : n < 4) : n < cfg0.N := lt_of_lt_of_eq h N_0.symm

theorem same_point (n n' : Nat) (h : n < cfg0.N) (h' : n' < cfg0.N) (e : n = n') : outsAt0 m c n h = outsAt0 m c n' h' := by subst e; rfl

/-- What the scratch holds after each of the first three points. -/
theorem after_first (t : Fin cfg0.N) (h : t.val = 0) (j : S1024x1024.Idx) : @Eq EReal ((outsAt0 m c t.val t.isLt).2 j) (part (iblk m c 0 t) (iblk m c 1 t) j) := by
  rw [outsAt0_A m c t (by omega) (by omega) (by omega)]
  dsimp only
  rw [first]
  exact pay _ _ j

theorem after_next (t : Fin cfg0.N) (n : Nat) (hn : n < cfg0.N) (h : t.val = n + 1) (h2 : n < 2) (j : S1024x1024.Idx) :
    @Eq EReal ((outsAt0 m c t.val t.isLt).2 j) (((outsAt0 m c n hn).2 j : EReal) + part (iblk m c 0 t) (iblk m c 1 t) j) := by
  rw [outsAt0_B m c t (by omega) (by omega) (by omega)]
  dsimp only
  rw [next, same_point m c (t.val - 1) n _ hn (by omega)]
  exact congrArg (fun b : EReal => ((outsAt0 m c n hn).2 j : EReal) + b) (pay _ _ j)

/-- What the last point leaves in the output's block. -/
theorem after_last (t : Fin cfg0.N) (h : t.val = 3) (j : S1024x1024.Idx) :
    @Eq EReal ((outsAt0 m c t.val t.isLt).1 j) (((outsAt0 m c 2 (n3 2 (by omega))).2 j : EReal) + part (iblk m c 0 t) (iblk m c 1 t) j) := by
  rw [outsAt0_C m c t (by omega) (by omega) (by omega)]
  dsimp only
  rw [same_point m c (t.val - 1) 2 _ (n3 2 (by omega)) (by omega)]
  exact last ..

theorem flushed_at (t : Fin cfg0.N) (h : t.val % 4 = 3) (j : S1024x1024.Idx) (i : S1024x1024.Idx) (h0 : (i 0).val = (j 0).val) (h1 : (i 1).val = (j 1).val) :
    @Eq EReal ((outsAt0 m c t.val t.isLt).1 j) (prod (m ((c : Thread nD τ).loc main_arg0)) (m ((c : Thread nD τ).loc main_arg1)) i) := by
  have t4 : t.val < 4 := lt_of_lt_of_eq t.isLt N_0
  obtain rfl : i = j := idx2 h0 h1
  rw [prod_rows]
  refine (after_last m c t (by omega) i).trans (congrArg₂ (fun a b : EReal => a + b) ?_ (at_point m c t 1536 (by omega) (by omega) i))
  refine (after_next m c ⟨2, n3 2 (by omega)⟩ 1 (n3 1 (by omega)) rfl (by omega) i).trans (congrArg₂ (fun a b : EReal => a + b) ?_ (at_point m c ⟨2, n3 2 (by omega)⟩ 1024 rfl (by omega) i))
  refine (after_next m c ⟨1, n3 1 (by omega)⟩ 0 (n3 0 (by omega)) rfl (by omega) i).trans (congrArg₂ (fun a b : EReal => a + b) ?_ (at_point m c ⟨1, n3 1 (by omega)⟩ 512 rfl (by omega) i))
  exact (after_first m c ⟨0, n3 0 (by omega)⟩ rfl i).trans (at_point m c ⟨0, n3 0 (by omega)⟩ 0 rfl (by omega) i)

theorem arr : (dats m 0 c).arrAt 2 cfg0.N = prod (m ((c : Thread nD τ).loc main_arg0)) (m ((c : Thread nD τ).loc main_arg1)) := by
  refine (dats m 0 c).arrAt_eq_of_cover 2 _ (fun t ht => ?_) fun i => ?_
  · rw [flushed2]
    funext j
    rw [View.read_apply]
    obtain ⟨e0, e1⟩ := index2 t
    have d0 : (((cfg0.win 2).blk t).view.emb j 0).val = (j 0).val := by
      show win0_2.index t 0 * 1024 + 1 * (j 0).val = _; omega
    have d1 : (((cfg0.win 2).blk t).view.emb j 1).val = (j 1).val := by
      show win0_2.index t 1 * 1024 + 1 * (j 1).val = _; omega
    exact flushed_at m c t ((flush0_2 t).mp ht) j _ d0 d1
  · refine ⟨⟨3, n3 3 (by omega)⟩, (flush0_2 _).mpr rfl, ?_⟩
    obtain ⟨e0, e1⟩ := index2 ⟨3, n3 3 (by omega)⟩
    have h := ((cfg0.win 2).blk ⟨3, n3 3 (by omega)⟩).view.emb_mem_set (ix2 (⟨(i 0).val, (i 0).isLt⟩ : Fin 1024) (⟨(i 1).val, (i 1).isLt⟩ : Fin 1024))
    refine Eq.mp (congrArg (· ∈ _) (idx2 ?_ ?_)) h
    · show win0_2.index ⟨3, n3 3 (by omega)⟩ 0 * 1024 + 1 * (i 0).val = (i 0).val; omega
    · show win0_2.index ⟨3, n3 3 (by omega)⟩ 1 * 1024 + 1 * (i 1).val = (i 1).val; omega

open Cert.MmDWoutRefIdeal.Read in
/-- The reference's stages, read back to its arguments. -/
theorem ref (x : S2048x1024.Idx → EReal) (y : S2048x1024.Idx → EReal) : Cert.MmDWoutRefIdeal.Read.val_main_v5 (F := Ideal) x y = prod x y := by
  funext i
  rw [val_main_v5_apply]
  show val_main_v4 (F := Ideal) x y i = _
  rw [val_main_v4_apply, val_main_v3_apply]
  exact Finset.sum_congr rfl fun k _ => (mul_comm (G := EReal) _ _).trans (congrArg₂ (fun a b : EReal => a * b) (congrArg x (idx2 rfl rfl)) (congrArg y (idx2 rfl rfl)))

end Cert.MmDWoutIdeal.Head

end
-- ==== Proof.WgpValue.lean ====
/- The gradient of the gated branch's weights: the kernel's array and the reference's are the same product. -/
module

public import proofs.«01_k».proof.Proof.Products
public import proofs.«01_k».proof.Proof.Gen.MmDWgpIdeal.Value
public import proofs.«01_k».proof.Proof.Gen.MmDWgpRefIdeal.Read

@[expose] public section

noncomputable section

namespace Cert.MmDWgpIdeal.Head

open Cert.MmDWgpIdeal Cert.MmDWgpIdeal.Gen Cert.MmDWgpIdeal.Value Cert.Products Idealize.ShloMosaic Idealize.ShloMosaic.TcCoe
open Idealize.ShloMosaic.Pipeline (Dat)

/-- The product of the columns of the gated values with the columns of the gradient. -/
def prod (x : S2048x1024.Idx → EReal) (y : S2048x1024.Idx → EReal) (i : S1024x1024.Idx) : EReal :=
  ∑ k : Fin 2048, x (ix2 k (i 0)) * y (ix2 k (i 1))

/-- The product of one grid point's rows. -/
def part (x0 : Vec Ideal S512x1024 .bf16) (x1 : Vec Ideal S512x1024 .bf16) (j : S1024x1024.Idx) : EReal := ∑ k : Fin 512, (x0 (ix2 k (j 0)) : EReal) * (x1 (ix2 k (j 1)) : EReal)

theorem pay (x0 : Vec Ideal S512x1024 .bf16) (x1 : Vec Ideal S512x1024 .bf16) (j : S1024x1024.Idx) : @Eq EReal (k0_pay1 x0 x1 j) (part x0 x1 j) :=
  mm (φ₁ := .bf16) (φ₂ := .bf16) (K := 512) dot_S512x1024_S512x1024_S1024x1024_0_0_1_1_n_n rfl rfl none _ _ j (fun k => ix2 k (j 0)) (fun k => ix2 k (j 1))
    (fun k => idx2 rfl rfl) (fun k => idx2 rfl rfl)

/-- The first point leaves its product in the scratch. -/
theorem first (c : Dev nD) (i : grid0.Coords) (a3 : Memref sig .tc .vmem S512x1024 .bf16) (h3 : a3.IsWhole) (a4 : Memref sig .tc .vmem S512x1024 .bf16) (h4 : a4.IsWhole)
    (a5 : Memref sig .tc .vmem S1024x1024 .bf16) (h5 : a5.IsWhole) (a6 : Memref sig .tc .vmem S1024x1024 .f32) (h6 : a6.IsWhole) (hc0 : cond0_0 i) (hc1 : ¬cond0_1 i) (hc2 : ¬cond0_2 i) (x0 : Vec Ideal S512x1024 .bf16) (x1 : Vec Ideal S512x1024 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zeros2]
  unfold k0_pay2
  simp only [View.readAt_eq_ld, h3.read_unread, h4.read_unread, View.ld_unit_zero (S := S512x1024) zeros2, View.ld_unit_zero (S := S512x1024) zeros2, shapeCast_self]

/-- A middle point adds its product to it. -/
theorem next (c : Dev nD) (i : grid0.Coords) (a3 : Memref sig .tc .vmem S512x1024 .bf16) (h3 : a3.IsWhole) (a4 : Memref sig .tc .vmem S512x1024 .bf16) (h4 : a4.IsWhole)
    (a5 : Memref sig .tc .vmem S1024x1024 .bf16) (h5 : a5.IsWhole) (a6 : Memref sig .tc .vmem S1024x1024 .f32) (h6 : a6.IsWhole) (hc0 : ¬cond0_0 i) (hc1 : cond0_1 i) (hc2 : ¬cond0_2 i) (x0 : Vec Ideal S512x1024 .bf16) (x1 : Vec Ideal S512x1024 .bf16) (xs : Vec Ideal S1024x1024 .f32) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero zeros2]
  unfold k0_pay3
  simp only [View.readAt_eq_ld, h3.read_unread, h4.read_unread, h6.read_unread, View.ld_unit_zero (S := S512x1024) zeros2, View.ld_unit_zero (S := S512x1024) zeros2, View.ld_unit_zero (S := S1024x1024) zeros2, shapeCast_self]

/-- The last point writes the sum back. -/
theorem last (c : Dev nD) (i : grid0.Coords) (a3 : Memref sig .tc .vmem S512x1024 .bf16) (h3 : a3.IsWhole) (a4 : Memref sig .tc .vmem S512x1024 .bf16) (h4 : a4.IsWhole)
    (a5 : Memref sig .tc .vmem S1024x1024 .bf16) (h5 : a5.IsWhole) (a6 : Memref sig .tc .vmem S1024x1024 .f32) (h6 : a6.IsWhole) (hc0 : ¬cond0_0 i) (hc1 : cond0_1 i) (hc2 : cond0_2 i) (x0 : Vec Ideal S512x1024 .bf16) (x1 : Vec Ideal S512x1024 .bf16) (xs : Vec Ideal S1024x1024 .f32) (j : S1024x1024.Idx) :
    @Eq EReal (out0_C_2 c i a3 h3 a4 h4 a5 h5 a6 h6 hc0 hc1 hc2 x0 x1 xs j) ((xs j : EReal) + part x0 x1 j) := by
  refine Eq.trans (b := addf xs (k0_pay1 x0 x1) j) (congrFun ?_ j) (congrArg (fun b : EReal => (xs j : EReal) + b) (pay x0 x1 j))
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero zeros2, View.readCov_unit_zero (S := S1024x1024) _ zeros2]
  unfold k0_pay4 k0_pay3
  simp only [View.readAt_eq_ld, h3.read_unread, h4.read_unread, h6.read_unread, View.ld_unit_zero (S := S512x1024) zeros2, View.ld_unit_zero (S := S512x1024) zeros2, View.ld_unit_zero (S := S1024x1024) zeros2, shapeCast_self]
  rfl

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)

variable (m : (ℓ : Loc nD τ sig) → Buf (Elt Ideal) ℓ) (c : Dev nD)

theorem left (t : Fin cfg0.N) (j : S512x1024.Idx) (i : S2048x1024.Idx) (h0 : (i 0).val = 512 * t.val + (j 0).val) (h1 : (i 1).val = (j 1).val) :
    @Eq EReal (iblk m c 0 t j) (m ((c : Thread nD τ).loc main_arg0) i) := by
  unfold iblk
  rw [View.read_apply]
  show @Eq EReal (V m c main_arg0 _) _
  rw [V_main_arg0]
  obtain ⟨e0, e1⟩ := index0 t
  refine congrArg _ (idx2 ?_ ?_)
  · show win0_0.index t 0 * 512 + 1 * (j 0).val = (i 0).val; omega
  · show win0_0.index t 1 * 1024 + 1 * (j 1).val = (i 1).val; omega

theorem right (t : Fin cfg0.N) (j : S512x1024.Idx) (i : S2048x1024.Idx) (h0 : (i 0).val = 512 * t.val + (j 0).val) (h1 : (i 1).val = (j 1).val) :
    @Eq EReal (iblk m c 1 t j) (m ((c : Thread nD τ).loc main_arg1) i) := by
  unfold iblk
  rw [View.read_apply]
  show @Eq EReal (V m c main_arg1 _) _
  rw [V_main_arg1]
  obtain ⟨e0, e1⟩ := index1 t
  refine congrArg _ (idx2 ?_ ?_)
  · show win0_1.index t 0 * 512 + 1 * (j 0).val = (i 0).val; omega
  · show win0_1.index t 1 * 1024 + 1 * (j 1).val = (i 1).val; omega

/-- The product of the 512 rows from row `n`. -/
def rows (x : S2048x1024.Idx → EReal) (y : S2048x1024.Idx → EReal) (n : Nat) (hb : n ≤ 1536) (j : S1024x1024.Idx) : EReal :=
  ∑ k : Fin 512, x (ix2 (⟨n + k.val, by omega⟩ : Fin 2048) (j 0)) * y (ix2 (⟨n + k.val, by omega⟩ : Fin 2048) (j 1))

theorem prod_rows (x : S2048x1024.Idx → EReal) (y : S2048x1024.Idx → EReal) (j : S1024x1024.Idx) :
    prod x y j = ((rows x y 0 (by omega) j + rows x y 512 (by omega) j) + rows x y 1024 (by omega) j) + rows x y 1536 (by omega) j := by
  refine (sum_blocks4 fun k => x (ix2 k (j 0)) * y (ix2 k (j 1))).trans ?_
  refine congrArg (fun a : EReal => ((a + _) + _) + _) (Finset.sum_congr rfl fun k _ => ?_)
  have h0 : (⟨k.val, by omega⟩ : Fin 2048) = ⟨0 + k.val, by omega⟩ := Fin.ext (Nat.zero_add _).symm
  rw [h0]

/-- Point `t`'s product, read from the arrays. -/
theorem at_point (t : Fin cfg0.N) (n : Nat) (hn : n = 512 * t.val) (hb : n ≤ 1536) (j : S1024x1024.Idx) :
    part (iblk m c 0 t) (iblk m c 1 t) j = rows (m ((c : Thread nD τ).loc main_arg0)) (m ((c : Thread nD τ).loc main_arg1)) n hb j :=
  Finset.sum_congr rfl fun k _ => congrArg₂ (fun a b : EReal => a * b)
    (left m c t (ix2 k (j 0)) (ix2 (⟨n + k.val, by omega⟩ : Fin 2048) (j 0)) (by show n + k.val = 512 * t.val + k.val; omega) rfl)
    (right m c t (ix2 k (j 1)) (ix2 (⟨n + k.val, by omega⟩ : Fin 2048) (j 1)) (by show n + k.val = 512 * t.val + k.val; omega) rfl)

theorem n3 (n : Nat) (h : n < 4) : n < cfg0.N := lt_of_lt_of_eq h N_0.symm

theorem same_point (n n' : Nat) (h : n < cfg0.N) (h' : n' < cfg0.N) (e : n = n') : outsAt0 m c n h = outsAt0 m c n' h' := by subst e; rfl

/-- What the scratch holds after each of the first three points. -/
theorem after_first (t : Fin cfg0.N) (h : t.val = 0) (j : S1024x1024.Idx) : @Eq EReal ((outsAt0 m c t.val t.isLt).2 j) (part (iblk m c 0 t) (iblk m c 1 t) j) := by
  rw [outsAt0_A m c t (by omega) (by omega) (by omega)]
  dsimp only
  rw [first]
  exact pay _ _ j

theorem after_next (t : Fin cfg0.N) (n : Nat) (hn : n < cfg0.N) (h : t.val = n + 1) (h2 : n < 2) (j : S1024x1024.Idx) :
    @Eq EReal ((outsAt0 m c t.val t.isLt).2 j) (((outsAt0 m c n hn).2 j : EReal) + part (iblk m c 0 t) (iblk m c 1 t) j) := by
  rw [outsAt0_B m c t (by omega) (by omega) (by omega)]
  dsimp only
  rw [next, same_point m c (t.val - 1) n _ hn (by omega)]
  exact congrArg (fun b : EReal => ((outsAt0 m c n hn).2 j : EReal) + b) (pay _ _ j)

/-- What the last point leaves in the output's block. -/
theorem after_last (t : Fin cfg0.N) (h : t.val = 3) (j : S1024x1024.Idx) :
    @Eq EReal ((outsAt0 m c t.val t.isLt).1 j) (((outsAt0 m c 2 (n3 2 (by omega))).2 j : EReal) + part (iblk m c 0 t) (iblk m c 1 t) j) := by
  rw [outsAt0_C m c t (by omega) (by omega) (by omega)]
  dsimp only
  rw [same_point m c (t.val - 1) 2 _ (n3 2 (by omega)) (by omega)]
  exact last ..

theorem flushed_at (t : Fin cfg0.N) (h : t.val % 4 = 3) (j : S1024x1024.Idx) (i : S1024x1024.Idx) (h0 : (i 0).val = (j 0).val) (h1 : (i 1).val = (j 1).val) :
    @Eq EReal ((outsAt0 m c t.val t.isLt).1 j) (prod (m ((c : Thread nD τ).loc main_arg0)) (m ((c : Thread nD τ).loc main_arg1)) i) := by
  have t4 : t.val < 4 := lt_of_lt_of_eq t.isLt N_0
  obtain rfl : i = j := idx2 h0 h1
  rw [prod_rows]
  refine (after_last m c t (by omega) i).trans (congrArg₂ (fun a b : EReal => a + b) ?_ (at_point m c t 1536 (by omega) (by omega) i))
  refine (after_next m c ⟨2, n3 2 (by omega)⟩ 1 (n3 1 (by omega)) rfl (by omega) i).trans (congrArg₂ (fun a b : EReal => a + b) ?_ (at_point m c ⟨2, n3 2 (by omega)⟩ 1024 rfl (by omega) i))
  refine (after_next m c ⟨1, n3 1 (by omega)⟩ 0 (n3 0 (by omega)) rfl (by omega) i).trans (congrArg₂ (fun a b : EReal => a + b) ?_ (at_point m c ⟨1, n3 1 (by omega)⟩ 512 rfl (by omega) i))
  exact (after_first m c ⟨0, n3 0 (by omega)⟩ rfl i).trans (at_point m c ⟨0, n3 0 (by omega)⟩ 0 rfl (by omega) i)

theorem arr : (dats m 0 c).arrAt 2 cfg0.N = prod (m ((c : Thread nD τ).loc main_arg0)) (m ((c : Thread nD τ).loc main_arg1)) := by
  refine (dats m 0 c).arrAt_eq_of_cover 2 _ (fun t ht => ?_) fun i => ?_
  · rw [flushed2]
    funext j
    rw [View.read_apply]
    obtain ⟨e0, e1⟩ := index2 t
    have d0 : (((cfg0.win 2).blk t).view.emb j 0).val = (j 0).val := by
      show win0_2.index t 0 * 1024 + 1 * (j 0).val = _; omega
    have d1 : (((cfg0.win 2).blk t).view.emb j 1).val = (j 1).val := by
      show win0_2.index t 1 * 1024 + 1 * (j 1).val = _; omega
    exact flushed_at m c t ((flush0_2 t).mp ht) j _ d0 d1
  · refine ⟨⟨3, n3 3 (by omega)⟩, (flush0_2 _).mpr rfl, ?_⟩
    obtain ⟨e0, e1⟩ := index2 ⟨3, n3 3 (by omega)⟩
    have h := ((cfg0.win 2).blk ⟨3, n3 3 (by omega)⟩).view.emb_mem_set (ix2 (⟨(i 0).val, (i 0).isLt⟩ : Fin 1024) (⟨(i 1).val, (i 1).isLt⟩ : Fin 1024))
    refine Eq.mp (congrArg (· ∈ _) (idx2 ?_ ?_)) h
    · show win0_2.index ⟨3, n3 3 (by omega)⟩ 0 * 1024 + 1 * (i 0).val = (i 0).val; omega
    · show win0_2.index ⟨3, n3 3 (by omega)⟩ 1 * 1024 + 1 * (i 1).val = (i 1).val; omega

open Cert.MmDWgpRefIdeal.Read in
/-- The reference's stages, read back to its arguments. -/
theorem ref (x : S2048x1024.Idx → EReal) (y : S2048x1024.Idx → EReal) : Cert.MmDWgpRefIdeal.Read.val_main_v6 (F := Ideal) x y = prod x y := by
  funext i
  rw [val_main_v6_apply]
  show val_main_v5 (F := Ideal) x y i = _
  rw [val_main_v5_apply, val_main_v4_apply]
  exact Finset.sum_congr rfl fun k _ => (mul_comm (G := EReal) _ _).trans (congrArg₂ (fun a b : EReal => a * b) (congrArg x (idx2 rfl rfl)) (congrArg y (idx2 rfl rfl)))

end Cert.MmDWgpIdeal.Head

end
-- ==== Proof.PsValue.lean ====
/- The gradient of the pooled values: the kernel's array and the reference's are the same product. -/
module

public import proofs.«01_k».proof.Proof.Products
public import proofs.«01_k».proof.Proof.Gen.MmDPsIdeal.Value
public import proofs.«01_k».proof.Proof.Gen.MmDPsRefIdeal.Read

@[expose] public section

noncomputable section

namespace Cert.MmDPsIdeal.Head

open Cert.MmDPsIdeal Cert.MmDPsIdeal.Gen Cert.MmDPsIdeal.Value Cert.Products Idealize.ShloMosaic Idealize.ShloMosaic.TcCoe
open Idealize.ShloMosaic.Pipeline (Dat)

/-- The product of the rows of the gradient with the rows of the weights. -/
def prod (x : S2048x1024.Idx → EReal) (y : S512x1024.Idx → EReal) (i : S2048x512.Idx) : EReal :=
  ∑ k : Fin 1024, x (ix2 (i 0) k) * y (ix2 (i 1) k)

/-- What one grid point stores. -/
theorem block (x0 : Vec Ideal S512x1024 .bf16) (x1 : Vec Ideal S512x1024 .bf16) (j : S512x512.Idx) :
    @Eq EReal (out0_2 x0 x1 j) (∑ k : Fin 1024, (x0 (ix2 (j 0) k) : EReal) * (x1 (ix2 (j 1) k) : EReal)) := by
  unfold out0_2
  rw [View.canon_unit_zero zeros2, View.ld_unit_zero (S := S512x1024) zeros2, View.ld_unit_zero (S := S512x1024) zeros2]
  unfold k0_pay1
  rw [shapeCast_self]
  exact mm (φ₁ := .bf16) (φ₂ := .bf16) (K := 1024) dot_S512x1024_S512x1024_S512x512_1_1_0_0_n_n rfl rfl none x0 x1 j (fun k => ix2 (j 0) k) (fun k => ix2 (j 1) k)
    (fun k => idx2 rfl rfl) (fun k => idx2 rfl rfl)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)

variable (m : (ℓ : Loc nD τ sig) → Buf (Elt Ideal) ℓ) (c : Dev nD)

theorem left (t : Fin cfg0.N) (j : S512x1024.Idx) (i : S2048x1024.Idx) (h0 : (i 0).val = 512 * t.val + (j 0).val) (h1 : (i 1).val = (j 1).val) :
    @Eq EReal (iblk m c 0 t j) (m ((c : Thread nD τ).loc main_arg0) i) := by
  unfold iblk
  rw [View.read_apply]
  show @Eq EReal (V m c main_arg0 _) _
  rw [V_main_arg0]
  obtain ⟨e0, e1⟩ := index0 t
  refine congrArg _ (idx2 ?_ ?_)
  · show win0_0.index t 0 * 512 + 1 * (j 0).val = (i 0).val; omega
  · show win0_0.index t 1 * 1024 + 1 * (j 1).val = (i 1).val; omega

theorem right (t : Fin cfg0.N) (j : S512x1024.Idx) (i : S512x1024.Idx) (h0 : (i 0).val = (j 0).val) (h1 : (i 1).val = (j 1).val) :
    @Eq EReal (iblk m c 1 t j) (m ((c : Thread nD τ).loc main_arg1) i) := by
  unfold iblk
  rw [View.read_apply]
  show @Eq EReal (V m c main_arg1 _) _
  rw [V_main_arg1]
  obtain ⟨e0, e1⟩ := index1 t
  refine congrArg _ (idx2 ?_ ?_)
  · show win0_1.index t 0 * 512 + 1 * (j 0).val = (i 0).val; omega
  · show win0_1.index t 1 * 1024 + 1 * (j 1).val = (i 1).val; omega

/-- What point `t` leaves at an element of its block is the product at that element of the array. -/
theorem at_block (t : Fin cfg0.N) (j : S512x512.Idx) (i : S2048x512.Idx) (h0 : (i 0).val = 512 * t.val + (j 0).val) (h1 : (i 1).val = (j 1).val) :
    @Eq EReal (out0_2 (iblk m c 0 t) (iblk m c 1 t) j) (prod (m ((c : Thread nD τ).loc main_arg0)) (m ((c : Thread nD τ).loc main_arg1)) i) :=
  (block _ _ j).trans (Finset.sum_congr rfl fun _ _ => congrArg₂ (fun a b : EReal => a * b) (left m c t _ _ h0 rfl) (right m c t _ _ h1 rfl))

theorem arr : (dats m 0 c).arrAt 2 cfg0.N = prod (m ((c : Thread nD τ).loc main_arg0)) (m ((c : Thread nD τ).loc main_arg1)) := by
  refine (dats m 0 c).arrAt_eq_of_cover 2 _ (fun t _ => ?_) fun i => ?_
  · rw [flushed2]
    funext j
    rw [View.read_apply]
    obtain ⟨e0, e1⟩ := index2 t
    have d0 : (((cfg0.win 2).blk t).view.emb j 0).val = 512 * t.val + (j 0).val := by
      show win0_2.index t 0 * 512 + 1 * (j 0).val = _; omega
    have d1 : (((cfg0.win 2).blk t).view.emb j 1).val = (j 1).val := by
      show win0_2.index t 1 * 512 + 1 * (j 1).val = _; omega
    exact at_block m c t j _ d0 d1
  · have i0 : (i 0).val < 2048 := (i 0).isLt
    have i1 : (i 1).val < 512 := (i 1).isLt
    let t : Fin cfg0.N := ⟨(i 0).val / 512, by show _ < 4; omega⟩
    refine ⟨t, flush0_2 t, ?_⟩
    obtain ⟨e0, e1⟩ := index2 t
    have h := ((cfg0.win 2).blk t).view.emb_mem_set (ix2 (⟨(i 0).val % 512, by omega⟩ : Fin 512) (⟨(i 1).val, i1⟩ : Fin 512))
    refine Eq.mp (congrArg (· ∈ _) (idx2 ?_ ?_)) h
    · show win0_2.index t 0 * 512 + 1 * ((i 0).val % 512) = (i 0).val
      rw [e0]; show (i 0).val / 512 * 512 + _ = _; omega
    · show win0_2.index t 1 * 512 + 1 * (i 1).val = (i 1).val; omega

open Cert.MmDPsRefIdeal.Read in
/-- The reference's stages, read back to its arguments. -/
theorem ref (x : S2048x1024.Idx → EReal) (y : S512x1024.Idx → EReal) : Cert.MmDPsRefIdeal.Read.val_main_v4 (F := Ideal) x y = prod x y := by
  funext i
  rw [val_main_v4_apply]
  exact Finset.sum_congr rfl fun k _ => congrArg₂ (fun a b : EReal => a * b) (congrArg x (idx2 rfl rfl)) (congrArg y (idx2 rfl rfl))

end Cert.MmDPsIdeal.Head

end
-- ==== Proof.WppValue.lean ====
/- The gradient of the pooled branch's weights: the kernel's array and the reference's are the same product. -/
module

public import proofs.«01_k».proof.Proof.Products
public import proofs.«01_k».proof.Proof.Gen.MmDWppIdeal.Value
public import proofs.«01_k».proof.Proof.Gen.MmDWppRefIdeal.Read

@[expose] public section

noncomputable section

namespace Cert.MmDWppIdeal.Head

open Cert.MmDWppIdeal Cert.MmDWppIdeal.Gen Cert.MmDWppIdeal.Value Cert.Products Idealize.ShloMosaic Idealize.ShloMosaic.TcCoe
open Idealize.ShloMosaic.Pipeline (Dat)

/-- The product of the columns of the pooled values with the columns of the gradient. -/
def prod (x : S2048x512.Idx → EReal) (y : S2048x1024.Idx → EReal) (i : S512x1024.Idx) : EReal :=
  ∑ k : Fin 2048, x (ix2 k (i 0)) * y (ix2 k (i 1))

/-- The product of one grid point's rows. -/
def part (x0 : Vec Ideal S512x512 .bf16) (x1 : Vec Ideal S512x1024 .bf16) (j : S512x1024.Idx) : EReal := ∑ k : Fin 512, (x0 (ix2 k (j 0)) : EReal) * (x1 (ix2 k (j 1)) : EReal)

theorem pay (x0 : Vec Ideal S512x512 .bf16) (x1 : Vec Ideal S512x1024 .bf16) (j : S512x1024.Idx) : @Eq EReal (k0_pay1 x0 x1 j) (part x0 x1 j) :=
  mm (φ₁ := .bf16) (φ₂ := .bf16) (K := 512) dot_S512x512_S512x1024_S512x1024_0_0_1_1_n_n rfl rfl none _ _ j (fun k => ix2 k (j 0)) (fun k => ix2 k (j 1))
    (fun k => idx2 rfl rfl) (fun k => idx2 rfl rfl)

/-- The first point leaves its product in the scratch. -/
theorem first (c : Dev nD) (i : grid0.Coords) (a3 : Memref sig .tc .vmem S512x512 .bf16) (h3 : a3.IsWhole) (a4 : Memref sig .tc .vmem S512x1024 .bf16) (h4 : a4.IsWhole)
    (a5 : Memref sig .tc .vmem S512x1024 .f32) (h5 : a5.IsWhole) (a6 : Memref sig .tc .vmem S512x1024 .f32) (h6 : a6.IsWhole) (hc0 : cond0_0 i) (hc1 : ¬cond0_1 i) (hc2 : ¬cond0_2 i) (x0 : Vec Ideal S512x512 .bf16) (x1 : Vec Ideal S512x1024 .bf16) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero zeros2]
  unfold k0_pay2
  simp only [View.readAt_eq_ld, h3.read_unread, h4.read_unread, View.ld_unit_zero (S := S512x512) zeros2, View.ld_unit_zero (S := S512x1024) zeros2, shapeCast_self]

/-- A middle point adds its product to it. -/
theorem next (c : Dev nD) (i : grid0.Coords) (a3 : Memref sig .tc .vmem S512x512 .bf16) (h3 : a3.IsWhole) (a4 : Memref sig .tc .vmem S512x1024 .bf16) (h4 : a4.IsWhole)
    (a5 : Memref sig .tc .vmem S512x1024 .f32) (h5 : a5.IsWhole) (a6 : Memref sig .tc .vmem S512x1024 .f32) (h6 : a6.IsWhole) (hc0 : ¬cond0_0 i) (hc1 : cond0_1 i) (hc2 : ¬cond0_2 i) (x0 : Vec Ideal S512x512 .bf16) (x1 : Vec Ideal S512x1024 .bf16) (xs : Vec Ideal S512x1024 .f32) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero zeros2]
  unfold k0_pay3
  simp only [View.readAt_eq_ld, h3.read_unread, h4.read_unread, h6.read_unread, View.ld_unit_zero (S := S512x512) zeros2, View.ld_unit_zero (S := S512x1024) zeros2, View.ld_unit_zero (S := S512x1024) zeros2, shapeCast_self]

/-- The last point writes the sum back. -/
theorem last (c : Dev nD) (i : grid0.Coords) (a3 : Memref sig .tc .vmem S512x512 .bf16) (h3 : a3.IsWhole) (a4 : Memref sig .tc .vmem S512x1024 .bf16) (h4 : a4.IsWhole)
    (a5 : Memref sig .tc .vmem S512x1024 .f32) (h5 : a5.IsWhole) (a6 : Memref sig .tc .vmem S512x1024 .f32) (h6 : a6.IsWhole) (hc0 : ¬cond0_0 i) (hc1 : cond0_1 i) (hc2 : cond0_2 i) (x0 : Vec Ideal S512x512 .bf16) (x1 : Vec Ideal S512x1024 .bf16) (xs : Vec Ideal S512x1024 .f32) (j : S512x1024.Idx) :
    @Eq EReal (out0_C_2 c i a3 h3 a4 h4 a5 h5 a6 h6 hc0 hc1 hc2 x0 x1 xs j) ((xs j : EReal) + part x0 x1 j) := by
  refine Eq.trans (b := addf xs (k0_pay1 x0 x1) j) (congrFun ?_ j) (congrArg (fun b : EReal => (xs j : EReal) + b) (pay x0 x1 j))
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero zeros2, View.readCov_unit_zero (S := S512x1024) _ zeros2]
  unfold k0_pay4 k0_pay3
  simp only [View.readAt_eq_ld, h3.read_unread, h4.read_unread, h6.read_unread, View.ld_unit_zero (S := S512x512) zeros2, View.ld_unit_zero (S := S512x1024) zeros2, View.ld_unit_zero (S := S512x1024) zeros2, shapeCast_self]

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 0 :=
  (by decide +kernel : ∀ t : Fin grid0.N, win0_1.index t 0 = t.val ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)

variable (m : (ℓ : Loc nD τ sig) → Buf (Elt Ideal) ℓ) (c : Dev nD)

theorem left (t : Fin cfg0.N) (j : S512x512.Idx) (i : S2048x512.Idx) (h0 : (i 0).val = 512 * t.val + (j 0).val) (h1 : (i 1).val = (j 1).val) :
    @Eq EReal (iblk m c 0 t j) (m ((c : Thread nD τ).loc main_arg0) i) := by
  unfold iblk
  rw [View.read_apply]
  show @Eq EReal (V m c main_arg0 _) _
  rw [V_main_arg0]
  obtain ⟨e0, e1⟩ := index0 t
  refine congrArg _ (idx2 ?_ ?_)
  · show win0_0.index t 0 * 512 + 1 * (j 0).val = (i 0).val; omega
  · show win0_0.index t 1 * 512 + 1 * (j 1).val = (i 1).val; omega

theorem right (t : Fin cfg0.N) (j : S512x1024.Idx) (i : S2048x1024.Idx) (h0 : (i 0).val = 512 * t.val + (j 0).val) (h1 : (i 1).val = (j 1).val) :
    @Eq EReal (iblk m c 1 t j) (m ((c : Thread nD τ).loc main_arg1) i) := by
  unfold iblk
  rw [View.read_apply]
  show @Eq EReal (V m c main_arg1 _) _
  rw [V_main_arg1]
  obtain ⟨e0, e1⟩ := index1 t
  refine congrArg _ (idx2 ?_ ?_)
  · show win0_1.index t 0 * 512 + 1 * (j 0).val = (i 0).val; omega
  · show win0_1.index t 1 * 1024 + 1 * (j 1).val = (i 1).val; omega

/-- The product of the 512 rows from row `n`. -/
def rows (x : S2048x512.Idx → EReal) (y : S2048x1024.Idx → EReal) (n : Nat) (hb : n ≤ 1536) (j : S512x1024.Idx) : EReal :=
  ∑ k : Fin 512, x (ix2 (⟨n + k.val, by omega⟩ : Fin 2048) (j 0)) * y (ix2 (⟨n + k.val, by omega⟩ : Fin 2048) (j 1))

theorem prod_rows (x : S2048x512.Idx → EReal) (y : S2048x1024.Idx → EReal) (j : S512x1024.Idx) :
    prod x y j = ((rows x y 0 (by omega) j + rows x y 512 (by omega) j) + rows x y 1024 (by omega) j) + rows x y 1536 (by omega) j := by
  refine (sum_blocks4 fun k => x (ix2 k (j 0)) * y (ix2 k (j 1))).trans ?_
  refine congrArg (fun a : EReal => ((a + _) + _) + _) (Finset.sum_congr rfl fun k _ => ?_)
  have h0 : (⟨k.val, by omega⟩ : Fin 2048) = ⟨0 + k.val, by omega⟩ := Fin.ext (Nat.zero_add _).symm
  rw [h0]

/-- Point `t`'s product, read from the arrays. -/
theorem at_point (t : Fin cfg0.N) (n : Nat) (hn : n = 512 * t.val) (hb : n ≤ 1536) (j : S512x1024.Idx) :
    part (iblk m c 0 t) (iblk m c 1 t) j = rows (m ((c : Thread nD τ).loc main_arg0)) (m ((c : Thread nD τ).loc main_arg1)) n hb j :=
  Finset.sum_congr rfl fun k _ => congrArg₂ (fun a b : EReal => a * b)
    (left m c t (ix2 k (j 0)) (ix2 (⟨n + k.val, by omega⟩ : Fin 2048) (j 0)) (by show n + k.val = 512 * t.val + k.val; omega) rfl)
    (right m c t (ix2 k (j 1)) (ix2 (⟨n + k.val, by omega⟩ : Fin 2048) (j 1)) (by show n + k.val = 512 * t.val + k.val; omega) rfl)

theorem n3 (n : Nat) (h : n < 4) : n < cfg0.N := lt_of_lt_of_eq h N_0.symm

theorem same_point (n n' : Nat) (h : n < cfg0.N) (h' : n' < cfg0.N) (e : n = n') : outsAt0 m c n h = outsAt0 m c n' h' := by subst e; rfl

/-- What the scratch holds after each of the first three points. -/
theorem after_first (t : Fin cfg0.N) (h : t.val = 0) (j : S512x1024.Idx) : @Eq EReal ((outsAt0 m c t.val t.isLt).2 j) (part (iblk m c 0 t) (iblk m c 1 t) j) := by
  rw [outsAt0_A m c t (by omega) (by omega) (by omega)]
  dsimp only
  rw [first]
  exact pay _ _ j

theorem after_next (t : Fin cfg0.N) (n : Nat) (hn : n < cfg0.N) (h : t.val = n + 1) (h2 : n < 2) (j : S512x1024.Idx) :
    @Eq EReal ((outsAt0 m c t.val t.isLt).2 j) (((outsAt0 m c n hn).2 j : EReal) + part (iblk m c 0 t) (iblk m c 1 t) j) := by
  rw [outsAt0_B m c t (by omega) (by omega) (by omega)]
  dsimp only
  rw [next, same_point m c (t.val - 1) n _ hn (by omega)]
  exact congrArg (fun b : EReal => ((outsAt0 m c n hn).2 j : EReal) + b) (pay _ _ j)

/-- What the last point leaves in the output's block. -/
theorem after_last (t : Fin cfg0.N) (h : t.val = 3) (j : S512x1024.Idx) :
    @Eq EReal ((outsAt0 m c t.val t.isLt).1 j) (((outsAt0 m c 2 (n3 2 (by omega))).2 j : EReal) + part (iblk m c 0 t) (iblk m c 1 t) j) := by
  rw [outsAt0_C m c t (by omega) (by omega) (by omega)]
  dsimp only
  rw [same_point m c (t.val - 1) 2 _ (n3 2 (by omega)) (by omega)]
  exact last ..

theorem flushed_at (t : Fin cfg0.N) (h : t.val % 4 = 3) (j : S512x1024.Idx) (i : S512x1024.Idx) (h0 : (i 0).val = (j 0).val) (h1 : (i 1).val = (j 1).val) :
    @Eq EReal ((outsAt0 m c t.val t.isLt).1 j) (prod (m ((c : Thread nD τ).loc main_arg0)) (m ((c : Thread nD τ).loc main_arg1)) i) := by
  have t4 : t.val < 4 := lt_of_lt_of_eq t.isLt N_0
  obtain rfl : i = j := idx2 h0 h1
  rw [prod_rows]
  refine (after_last m c t (by omega) i).trans (congrArg₂ (fun a b : EReal => a + b) ?_ (at_point m c t 1536 (by omega) (by omega) i))
  refine (after_next m c ⟨2, n3 2 (by omega)⟩ 1 (n3 1 (by omega)) rfl (by omega) i).trans (congrArg₂ (fun a b : EReal => a + b) ?_ (at_point m c ⟨2, n3 2 (by omega)⟩ 1024 rfl (by omega) i))
  refine (after_next m c ⟨1, n3 1 (by omega)⟩ 0 (n3 0 (by omega)) rfl (by omega) i).trans (congrArg₂ (fun a b : EReal => a + b) ?_ (at_point m c ⟨1, n3 1 (by omega)⟩ 512 rfl (by omega) i))
  exact (after_first m c ⟨0, n3 0 (by omega)⟩ rfl i).trans (at_point m c ⟨0, n3 0 (by omega)⟩ 0 rfl (by omega) i)

theorem arr : (dats m 0 c).arrAt 2 cfg0.N = prod (m ((c : Thread nD τ).loc main_arg0)) (m ((c : Thread nD τ).loc main_arg1)) := by
  refine (dats m 0 c).arrAt_eq_of_cover 2 _ (fun t ht => ?_) fun i => ?_
  · rw [flushed2]
    funext j
    rw [View.read_apply]
    obtain ⟨e0, e1⟩ := index2 t
    have d0 : (((cfg0.win 2).blk t).view.emb j 0).val = (j 0).val := by
      show win0_2.index t 0 * 512 + 1 * (j 0).val = _; omega
    have d1 : (((cfg0.win 2).blk t).view.emb j 1).val = (j 1).val := by
      show win0_2.index t 1 * 1024 + 1 * (j 1).val = _; omega
    exact flushed_at m c t ((flush0_2 t).mp ht) j _ d0 d1
  · refine ⟨⟨3, n3 3 (by omega)⟩, (flush0_2 _).mpr rfl, ?_⟩
    obtain ⟨e0, e1⟩ := index2 ⟨3, n3 3 (by omega)⟩
    have h := ((cfg0.win 2).blk ⟨3, n3 3 (by omega)⟩).view.emb_mem_set (ix2 (⟨(i 0).val, (i 0).isLt⟩ : Fin 512) (⟨(i 1).val, (i 1).isLt⟩ : Fin 1024))
    refine Eq.mp (congrArg (· ∈ _) (idx2 ?_ ?_)) h
    · show win0_2.index ⟨3, n3 3 (by omega)⟩ 0 * 512 + 1 * (i 0).val = (i 0).val; omega
    · show win0_2.index ⟨3, n3 3 (by omega)⟩ 1 * 1024 + 1 * (i 1).val = (i 1).val; omega

open Cert.MmDWppRefIdeal.Read in
/-- The reference's stages, read back to its arguments. -/
theorem ref (x : S2048x512.Idx → EReal) (y : S2048x1024.Idx → EReal) : Cert.MmDWppRefIdeal.Read.val_main_v5 (F := Ideal) x y = prod x y := by
  funext i
  rw [val_main_v5_apply, val_main_v4_apply]
  exact Finset.sum_congr rfl fun k _ => (mul_comm (G := EReal) _ _).trans (congrArg₂ (fun a b : EReal => a * b) (congrArg x (idx2 rfl rfl)) (congrArg y (idx2 rfl rfl)))

end Cert.MmDWppIdeal.Head

end
-- ==== Proof.Calls.lean ====
/- The calls that are products of matrices: each runs, and at exact arithmetic its result is its reference's. -/
module

public import proofs.«01_k».proof.Defs
public import proofs.«01_k».proof.Proof.Gen.MmIn.Frame
public import proofs.«01_k».proof.Proof.Gen.MmInRefIdeal.Run
public import proofs.«01_k».proof.Proof.InValue
public import proofs.«01_k».proof.Proof.Gen.MmDWcat.Frame
public import proofs.«01_k».proof.Proof.Gen.MmDWcatRefIdeal.Run
public import proofs.«01_k».proof.Proof.WcatValue
public import proofs.«01_k».proof.Proof.Gen.MmDWup.Frame
public import proofs.«01_k».proof.Proof.Gen.MmDWupRefIdeal.Run
public import proofs.«01_k».proof.Proof.WupValue
public import proofs.«01_k».proof.Proof.Gen.MmDAct.Frame
public import proofs.«01_k».proof.Proof.Gen.MmDActRefIdeal.Run
public import proofs.«01_k».proof.Proof.ActValue
public import proofs.«01_k».proof.Proof.Gen.MmDWdown.Frame
public import proofs.«01_k».proof.Proof.Gen.MmDWdownRefIdeal.Run
public import proofs.«01_k».proof.Proof.WdownValue
public import proofs.«01_k».proof.Proof.Gen.MmDWout.Frame
public import proofs.«01_k».proof.Proof.Gen.MmDWoutRefIdeal.Run
public import proofs.«01_k».proof.Proof.WoutValue
public import proofs.«01_k».proof.Proof.Gen.MmDWgp.Frame
public import proofs.«01_k».proof.Proof.Gen.MmDWgpRefIdeal.Run
public import proofs.«01_k».proof.Proof.WgpValue
public import proofs.«01_k».proof.Proof.Gen.MmDPs.Frame
public import proofs.«01_k».proof.Proof.Gen.MmDPsRefIdeal.Run
public import proofs.«01_k».proof.Proof.PsValue
public import proofs.«01_k».proof.Proof.Gen.MmDWpp.Frame
public import proofs.«01_k».proof.Proof.Gen.MmDWppRefIdeal.Run
public import proofs.«01_k».proof.Proof.WppValue
public import Idealize.ShloMosaic.Adequacy
public import Idealize.ShloMosaic.Init

@[expose] public section

noncomputable section

namespace Cert.Proof

open Idealize.ShloMosaic Idealize.SL.Sem Idealize.ShloMosaic.StableHlo Idealize.ShloMosaic.TcCoe

theorem same2 {A B C : Type} (f : A → B → C) {a a' : A} {b b' : B} (ha : a = a') (hb : b = b') : f a b = f a' b' := by
  rw [ha, hb]

theorem frame_p_MmIn : Cert.quiescent_MmIn := fun m ρ _ => Cert.MmIn.Gen.frame m ρ
theorem frame_pi_MmIn : Cert.quiescent_MmInIdeal := fun m ρ _ => Cert.MmInIdeal.Gen.frame m ρ
theorem frame_ri_MmIn : Cert.quiescent_MmInRefIdeal := fun m ρ _ =>
  (θ_run Cert.MmInRefIdeal.defs _ _).mono (fun r h => ⟨fun c => (h c).2, sem_eq_zero_of_no_sems (by decide) r.2⟩)
    (Cert.MmInRefIdeal.Value.run (F := Ideal) m ρ)

/-- Both programs end with the product that is the input projections. -/
theorem algebraic_MmIn : Cert.algebraic_MmInIdeal_MmInRefIdeal := by
  intro m ρ m' ρ' _ hargs
  refine ⟨fun c => Cert.MmInIdeal.Head.prod (m ((c.tc : Thread Cert.MmInIdeal.nD Cert.MmInIdeal.τ).loc Cert.MmInIdeal.main_arg0))
    (m ((c.tc : Thread Cert.MmInIdeal.nD Cert.MmInIdeal.τ).loc Cert.MmInIdeal.main_arg1)), ?_, ?_⟩
  · refine (θ_run Cert.MmInIdeal.defs _ _).mono (fun r h c => ?_) (Cert.MmInIdeal.Value.run_blocks (F := Ideal) m ρ)
    exact ⟨(h c).1.trans (Cert.MmInIdeal.Head.arr m c), (h c).2⟩
  · refine (θ_run Cert.MmInRefIdeal.defs _ _).mono (fun r h c => ?_) (Cert.MmInRefIdeal.Value.run (F := Ideal) m' ρ')
    obtain ⟨e0, e1⟩ := hargs c
    refine ⟨(h c).1.trans ?_, (h c).2⟩
    refine (Cert.MmInRefIdeal.Read.val_main_v5_eq (F := Ideal) _ _).trans ?_
    exact (same2 (Cert.MmInRefIdeal.Read.val_main_v5 (F := Ideal)) e0 e1).trans (Cert.MmInIdeal.Head.ref _ _)

theorem frame_p_MmDWcat : Cert.quiescent_MmDWcat := fun m ρ _ => Cert.MmDWcat.Gen.frame m ρ
theorem frame_pi_MmDWcat : Cert.quiescent_MmDWcatIdeal := fun m ρ _ => Cert.MmDWcatIdeal.Gen.frame m ρ
theorem frame_ri_MmDWcat : Cert.quiescent_MmDWcatRefIdeal := fun m ρ _ =>
  (θ_run Cert.MmDWcatRefIdeal.defs _ _).mono (fun r h => ⟨fun c => (h c).2, sem_eq_zero_of_no_sems (by decide) r.2⟩)
    (Cert.MmDWcatRefIdeal.Value.run (F := Ideal) m ρ)

/-- Both programs end with the product that is the gradient of the input projections' weights. -/
theorem algebraic_MmDWcat : Cert.algebraic_MmDWcatIdeal_MmDWcatRefIdeal := by
  intro m ρ m' ρ' _ hargs
  refine ⟨fun c => Cert.MmDWcatIdeal.Head.prod (m ((c.tc : Thread Cert.MmDWcatIdeal.nD Cert.MmDWcatIdeal.τ).loc Cert.MmDWcatIdeal.main_arg0))
    (m ((c.tc : Thread Cert.MmDWcatIdeal.nD Cert.MmDWcatIdeal.τ).loc Cert.MmDWcatIdeal.main_arg1)), ?_, ?_⟩
  · refine (θ_run Cert.MmDWcatIdeal.defs _ _).mono (fun r h c => ?_) (Cert.MmDWcatIdeal.Value.run_blocks (F := Ideal) m ρ)
    exact ⟨(h c).1.trans (Cert.MmDWcatIdeal.Head.arr m c), (h c).2⟩
  · refine (θ_run Cert.MmDWcatRefIdeal.defs _ _).mono (fun r h c => ?_) (Cert.MmDWcatRefIdeal.Value.run (F := Ideal) m' ρ')
    obtain ⟨e0, e1⟩ := hargs c
    refine ⟨(h c).1.trans ?_, (h c).2⟩
    refine (Cert.MmDWcatRefIdeal.Read.val_main_v8_eq (F := Ideal) _ _).trans ?_
    exact (same2 (Cert.MmDWcatRefIdeal.Read.val_main_v8 (F := Ideal)) e0 e1).trans (Cert.MmDWcatIdeal.Head.ref _ _)

theorem frame_p_MmDWup : Cert.quiescent_MmDWup := fun m ρ _ => Cert.MmDWup.Gen.frame m ρ
theorem frame_pi_MmDWup : Cert.quiescent_MmDWupIdeal := fun m ρ _ => Cert.MmDWupIdeal.Gen.frame m ρ
theorem frame_ri_MmDWup : Cert.quiescent_MmDWupRefIdeal := fun m ρ _ =>
  (θ_run Cert.MmDWupRefIdeal.defs _ _).mono (fun r h => ⟨fun c => (h c).2, sem_eq_zero_of_no_sems (by decide) r.2⟩)
    (Cert.MmDWupRefIdeal.Value.run (F := Ideal) m ρ)

/-- Both programs end with the product that is the gradient of the up projections' weights. -/
theorem algebraic_MmDWup : Cert.algebraic_MmDWupIdeal_MmDWupRefIdeal := by
  intro m ρ m' ρ' _ hargs
  refine ⟨fun c => Cert.MmDWupIdeal.Head.prod (m ((c.tc : Thread Cert.MmDWupIdeal.nD Cert.MmDWupIdeal.τ).loc Cert.MmDWupIdeal.main_arg0))
    (m ((c.tc : Thread Cert.MmDWupIdeal.nD Cert.MmDWupIdeal.τ).loc Cert.MmDWupIdeal.main_arg1)), ?_, ?_⟩
  · refine (θ_run Cert.MmDWupIdeal.defs _ _).mono (fun r h c => ?_) (Cert.MmDWupIdeal.Value.run_blocks (F := Ideal) m ρ)
    exact ⟨(h c).1.trans (Cert.MmDWupIdeal.Head.arr m c), (h c).2⟩
  · refine (θ_run Cert.MmDWupRefIdeal.defs _ _).mono (fun r h c => ?_) (Cert.MmDWupRefIdeal.Value.run (F := Ideal) m' ρ')
    obtain ⟨e0, e1⟩ := hargs c
    refine ⟨(h c).1.trans ?_, (h c).2⟩
    refine (Cert.MmDWupRefIdeal.Read.val_main_v10_eq (F := Ideal) _ _).trans ?_
    exact (same2 (Cert.MmDWupRefIdeal.Read.val_main_v10 (F := Ideal)) e0 e1).trans (Cert.MmDWupIdeal.Head.ref _ _)

theorem frame_p_MmDAct : Cert.quiescent_MmDAct := fun m ρ _ => Cert.MmDAct.Gen.frame m ρ
theorem frame_pi_MmDAct : Cert.quiescent_MmDActIdeal := fun m ρ _ => Cert.MmDActIdeal.Gen.frame m ρ
theorem frame_ri_MmDAct : Cert.quiescent_MmDActRefIdeal := fun m ρ _ =>
  (θ_run Cert.MmDActRefIdeal.defs _ _).mono (fun r h => ⟨fun c => (h c).2, sem_eq_zero_of_no_sems (by decide) r.2⟩)
    (Cert.MmDActRefIdeal.Value.run (F := Ideal) m ρ)

/-- Both programs end with the product that is the gradient of the activations. -/
theorem algebraic_MmDAct : Cert.algebraic_MmDActIdeal_MmDActRefIdeal := by
  intro m ρ m' ρ' _ hargs
  refine ⟨fun c => Cert.MmDActIdeal.Head.prod (m ((c.tc : Thread Cert.MmDActIdeal.nD Cert.MmDActIdeal.τ).loc Cert.MmDActIdeal.main_arg0))
    (m ((c.tc : Thread Cert.MmDActIdeal.nD Cert.MmDActIdeal.τ).loc Cert.MmDActIdeal.main_arg1)), ?_, ?_⟩
  · refine (θ_run Cert.MmDActIdeal.defs _ _).mono (fun r h c => ?_) (Cert.MmDActIdeal.Value.run_blocks (F := Ideal) m ρ)
    exact ⟨(h c).1.trans (Cert.MmDActIdeal.Head.arr m c), (h c).2⟩
  · refine (θ_run Cert.MmDActRefIdeal.defs _ _).mono (fun r h c => ?_) (Cert.MmDActRefIdeal.Value.run (F := Ideal) m' ρ')
    obtain ⟨e0, e1⟩ := hargs c
    refine ⟨(h c).1.trans ?_, (h c).2⟩
    refine (Cert.MmDActRefIdeal.Read.val_main_v7_eq (F := Ideal) _ _).trans ?_
    exact (same2 (Cert.MmDActRefIdeal.Read.val_main_v7 (F := Ideal)) e0 e1).trans (Cert.MmDActIdeal.Head.ref _ _)

theorem frame_p_MmDWdown : Cert.quiescent_MmDWdown := fun m ρ _ => Cert.MmDWdown.Gen.frame m ρ
theorem frame_pi_MmDWdown : Cert.quiescent_MmDWdownIdeal := fun m ρ _ => Cert.MmDWdownIdeal.Gen.frame m ρ
theorem frame_ri_MmDWdown : Cert.quiescent_MmDWdownRefIdeal := fun m ρ _ =>
  (θ_run Cert.MmDWdownRefIdeal.defs _ _).mono (fun r h => ⟨fun c => (h c).2, sem_eq_zero_of_no_sems (by decide) r.2⟩)
    (Cert.MmDWdownRefIdeal.Value.run (F := Ideal) m ρ)

/-- Both programs end with the product that is the gradient of the down projection's weights. -/
theorem algebraic_MmDWdown : Cert.algebraic_MmDWdownIdeal_MmDWdownRefIdeal := by
  intro m ρ m' ρ' _ hargs
  refine ⟨fun c => Cert.MmDWdownIdeal.Head.prod (m ((c.tc : Thread Cert.MmDWdownIdeal.nD Cert.MmDWdownIdeal.τ).loc Cert.MmDWdownIdeal.main_arg0))
    (m ((c.tc : Thread Cert.MmDWdownIdeal.nD Cert.MmDWdownIdeal.τ).loc Cert.MmDWdownIdeal.main_arg1)), ?_, ?_⟩
  · refine (θ_run Cert.MmDWdownIdeal.defs _ _).mono (fun r h c => ?_) (Cert.MmDWdownIdeal.Value.run_blocks (F := Ideal) m ρ)
    exact ⟨(h c).1.trans (Cert.MmDWdownIdeal.Head.arr m c), (h c).2⟩
  · refine (θ_run Cert.MmDWdownRefIdeal.defs _ _).mono (fun r h c => ?_) (Cert.MmDWdownRefIdeal.Value.run (F := Ideal) m' ρ')
    obtain ⟨e0, e1⟩ := hargs c
    refine ⟨(h c).1.trans ?_, (h c).2⟩
    refine (Cert.MmDWdownRefIdeal.Read.val_main_v8_eq (F := Ideal) _ _).trans ?_
    exact (same2 (Cert.MmDWdownRefIdeal.Read.val_main_v8 (F := Ideal)) e0 e1).trans (Cert.MmDWdownIdeal.Head.ref _ _)

theorem frame_p_MmDWout : Cert.quiescent_MmDWout := fun m ρ _ => Cert.MmDWout.Gen.frame m ρ
theorem frame_pi_MmDWout : Cert.quiescent_MmDWoutIdeal := fun m ρ _ => Cert.MmDWoutIdeal.Gen.frame m ρ
theorem frame_ri_MmDWout : Cert.quiescent_MmDWoutRefIdeal := fun m ρ _ =>
  (θ_run Cert.MmDWoutRefIdeal.defs _ _).mono (fun r h => ⟨fun c => (h c).2, sem_eq_zero_of_no_sems (by decide) r.2⟩)
    (Cert.MmDWoutRefIdeal.Value.run (F := Ideal) m ρ)

/-- Both programs end with the product that is the gradient of the output projection's weights. -/
theorem algebraic_MmDWout : Cert.algebraic_MmDWoutIdeal_MmDWoutRefIdeal := by
  intro m ρ m' ρ' _ hargs
  refine ⟨fun c => Cert.MmDWoutIdeal.Head.prod (m ((c.tc : Thread Cert.MmDWoutIdeal.nD Cert.MmDWoutIdeal.τ).loc Cert.MmDWoutIdeal.main_arg0))
    (m ((c.tc : Thread Cert.MmDWoutIdeal.nD Cert.MmDWoutIdeal.τ).loc Cert.MmDWoutIdeal.main_arg1)), ?_, ?_⟩
  · refine (θ_run Cert.MmDWoutIdeal.defs _ _).mono (fun r h c => ?_) (Cert.MmDWoutIdeal.Value.run_blocks (F := Ideal) m ρ)
    exact ⟨(h c).1.trans (Cert.MmDWoutIdeal.Head.arr m c), (h c).2⟩
  · refine (θ_run Cert.MmDWoutRefIdeal.defs _ _).mono (fun r h c => ?_) (Cert.MmDWoutRefIdeal.Value.run (F := Ideal) m' ρ')
    obtain ⟨e0, e1⟩ := hargs c
    refine ⟨(h c).1.trans ?_, (h c).2⟩
    refine (Cert.MmDWoutRefIdeal.Read.val_main_v5_eq (F := Ideal) _ _).trans ?_
    exact (same2 (Cert.MmDWoutRefIdeal.Read.val_main_v5 (F := Ideal)) e0 e1).trans (Cert.MmDWoutIdeal.Head.ref _ _)

theorem frame_p_MmDWgp : Cert.quiescent_MmDWgp := fun m ρ _ => Cert.MmDWgp.Gen.frame m ρ
theorem frame_pi_MmDWgp : Cert.quiescent_MmDWgpIdeal := fun m ρ _ => Cert.MmDWgpIdeal.Gen.frame m ρ
theorem frame_ri_MmDWgp : Cert.quiescent_MmDWgpRefIdeal := fun m ρ _ =>
  (θ_run Cert.MmDWgpRefIdeal.defs _ _).mono (fun r h => ⟨fun c => (h c).2, sem_eq_zero_of_no_sems (by decide) r.2⟩)
    (Cert.MmDWgpRefIdeal.Value.run (F := Ideal) m ρ)

/-- Both programs end with the product that is the gradient of the attention's output weights. -/
theorem algebraic_MmDWgp : Cert.algebraic_MmDWgpIdeal_MmDWgpRefIdeal := by
  intro m ρ m' ρ' _ hargs
  refine ⟨fun c => Cert.MmDWgpIdeal.Head.prod (m ((c.tc : Thread Cert.MmDWgpIdeal.nD Cert.MmDWgpIdeal.τ).loc Cert.MmDWgpIdeal.main_arg0))
    (m ((c.tc : Thread Cert.MmDWgpIdeal.nD Cert.MmDWgpIdeal.τ).loc Cert.MmDWgpIdeal.main_arg1)), ?_, ?_⟩
  · refine (θ_run Cert.MmDWgpIdeal.defs _ _).mono (fun r h c => ?_) (Cert.MmDWgpIdeal.Value.run_blocks (F := Ideal) m ρ)
    exact ⟨(h c).1.trans (Cert.MmDWgpIdeal.Head.arr m c), (h c).2⟩
  · refine (θ_run Cert.MmDWgpRefIdeal.defs _ _).mono (fun r h c => ?_) (Cert.MmDWgpRefIdeal.Value.run (F := Ideal) m' ρ')
    obtain ⟨e0, e1⟩ := hargs c
    refine ⟨(h c).1.trans ?_, (h c).2⟩
    refine (Cert.MmDWgpRefIdeal.Read.val_main_v6_eq (F := Ideal) _ _).trans ?_
    exact (same2 (Cert.MmDWgpRefIdeal.Read.val_main_v6 (F := Ideal)) e0 e1).trans (Cert.MmDWgpIdeal.Head.ref _ _)

theorem frame_p_MmDPs : Cert.quiescent_MmDPs := fun m ρ _ => Cert.MmDPs.Gen.frame m ρ
theorem frame_pi_MmDPs : Cert.quiescent_MmDPsIdeal := fun m ρ _ => Cert.MmDPsIdeal.Gen.frame m ρ
theorem frame_ri_MmDPs : Cert.quiescent_MmDPsRefIdeal := fun m ρ _ =>
  (θ_run Cert.MmDPsRefIdeal.defs _ _).mono (fun r h => ⟨fun c => (h c).2, sem_eq_zero_of_no_sems (by decide) r.2⟩)
    (Cert.MmDPsRefIdeal.Value.run (F := Ideal) m ρ)

/-- Both programs end with the product that is the gradient of the pooled rows. -/
theorem algebraic_MmDPs : Cert.algebraic_MmDPsIdeal_MmDPsRefIdeal := by
  intro m ρ m' ρ' _ hargs
  refine ⟨fun c => Cert.MmDPsIdeal.Head.prod (m ((c.tc : Thread Cert.MmDPsIdeal.nD Cert.MmDPsIdeal.τ).loc Cert.MmDPsIdeal.main_arg0))
    (m ((c.tc : Thread Cert.MmDPsIdeal.nD Cert.MmDPsIdeal.τ).loc Cert.MmDPsIdeal.main_arg1)), ?_, ?_⟩
  · refine (θ_run Cert.MmDPsIdeal.defs _ _).mono (fun r h c => ?_) (Cert.MmDPsIdeal.Value.run_blocks (F := Ideal) m ρ)
    exact ⟨(h c).1.trans (Cert.MmDPsIdeal.Head.arr m c), (h c).2⟩
  · refine (θ_run Cert.MmDPsRefIdeal.defs _ _).mono (fun r h c => ?_) (Cert.MmDPsRefIdeal.Value.run (F := Ideal) m' ρ')
    obtain ⟨e0, e1⟩ := hargs c
    refine ⟨(h c).1.trans ?_, (h c).2⟩
    refine (Cert.MmDPsRefIdeal.Read.val_main_v4_eq (F := Ideal) _ _).trans ?_
    exact (same2 (Cert.MmDPsRefIdeal.Read.val_main_v4 (F := Ideal)) e0 e1).trans (Cert.MmDPsIdeal.Head.ref _ _)

theorem frame_p_MmDWpp : Cert.quiescent_MmDWpp := fun m ρ _ => Cert.MmDWpp.Gen.frame m ρ
theorem frame_pi_MmDWpp : Cert.quiescent_MmDWppIdeal := fun m ρ _ => Cert.MmDWppIdeal.Gen.frame m ρ
theorem frame_ri_MmDWpp : Cert.quiescent_MmDWppRefIdeal := fun m ρ _ =>
  (θ_run Cert.MmDWppRefIdeal.defs _ _).mono (fun r h => ⟨fun c => (h c).2, sem_eq_zero_of_no_sems (by decide) r.2⟩)
    (Cert.MmDWppRefIdeal.Value.run (F := Ideal) m ρ)

/-- Both programs end with the product that is the gradient of the pooling mixer's weights. -/
theorem algebraic_MmDWpp : Cert.algebraic_MmDWppIdeal_MmDWppRefIdeal := by
  intro m ρ m' ρ' _ hargs
  refine ⟨fun c => Cert.MmDWppIdeal.Head.prod (m ((c.tc : Thread Cert.MmDWppIdeal.nD Cert.MmDWppIdeal.τ).loc Cert.MmDWppIdeal.main_arg0))
    (m ((c.tc : Thread Cert.MmDWppIdeal.nD Cert.MmDWppIdeal.τ).loc Cert.MmDWppIdeal.main_arg1)), ?_, ?_⟩
  · refine (θ_run Cert.MmDWppIdeal.defs _ _).mono (fun r h c => ?_) (Cert.MmDWppIdeal.Value.run_blocks (F := Ideal) m ρ)
    exact ⟨(h c).1.trans (Cert.MmDWppIdeal.Head.arr m c), (h c).2⟩
  · refine (θ_run Cert.MmDWppRefIdeal.defs _ _).mono (fun r h c => ?_) (Cert.MmDWppRefIdeal.Value.run (F := Ideal) m' ρ')
    obtain ⟨e0, e1⟩ := hargs c
    refine ⟨(h c).1.trans ?_, (h c).2⟩
    refine (Cert.MmDWppRefIdeal.Read.val_main_v5_eq (F := Ideal) _ _).trans ?_
    exact (same2 (Cert.MmDWppRefIdeal.Read.val_main_v5 (F := Ideal)) e0 e1).trans (Cert.MmDWppIdeal.Head.ref _ _)

end Cert.Proof

end
-- ==== Proof.Norm.lean ====
/- The norm of a row, `x ↦ x / √(mean (x²) + ε)`, and its gradient, over the reals; and the operations that calls with the
   norm share, which take arrays that hold reals to arrays that hold reals. -/
module

public import proofs.«01_k».proof.Proof.RefRead
public import proofs.«01_k».proof.Proof.Products

@[expose] public section

noncomputable section

namespace Cert.Norm

open Idealize.ShloMosaic Cert.Gla Cert.Products

/-! ## The literals -/

/-- The number added to a row's mean square, the number nearest `10 ^ (-6)`. -/
def eps : ℝ := (Ideal.ofBits .f32 0x358637BD#32).toReal

theorem eps_eq : Ideal.ofBits .f32 0x358637BD#32 = ((eps : ℝ) : EReal) := by
  unfold eps
  simp [Ideal.ofBits, Ideal.ieee, -EReal.coe_mul]

theorem eps_pos : 0 < eps := by
  unfold eps
  simp [Ideal.ofBits, Ideal.ieee, -EReal.coe_mul]
  try positivity

theorem width_eq : Ideal.ofBits .f32 0x44800000#32 = ((1024 : ℝ) : EReal) := by
  simp [Ideal.ofBits, Ideal.ieee, -EReal.coe_mul]
  try norm_num

theorem minus_half_eq : Ideal.ofBits .f32 0xBF000000#32 = ((-(1 / 2) : ℝ) : EReal) := by
  simp [Ideal.ofBits, Ideal.ieee, -EReal.coe_mul]
  try norm_num

theorem half_eq : Ideal.ofBits .f32 0x3F000000#32 = ((1 / 2 : ℝ) : EReal) := by
  simp [Ideal.ofBits, Ideal.ieee, -EReal.coe_mul]
  try norm_num

/-! ## Quotients and roots of reals -/

theorem div_r {a b : EReal} {x y : ℝ} (ha : a = x) (hb : b = y) (hy : y ≠ 0) : Ideal.div a b = ((x / y : ℝ) : EReal) := by
  rw [ha, hb, Ideal.div_coe hy, ← EReal.coe_mul, mul_one_div]
theorem rsqrt_r {a : EReal} {x : ℝ} (ha : a = x) (hx : 0 < x) : Ideal.rsqrt a = (((Real.sqrt x)⁻¹ : ℝ) : EReal) := by
  rw [ha, Ideal.rsqrt_coe, if_neg (not_lt.mpr hx.le), if_neg hx.ne']

/-! ## The norm's gradient -/

/-- A row's mean square, and what is added to it. -/
def ms (x : Fin 1024 → ℝ) : ℝ := (∑ k, x k * x k) / 1024 + eps
theorem ms_pos (x : Fin 1024 → ℝ) : 0 < ms x :=
  add_pos_of_nonneg_of_pos (div_nonneg (Finset.sum_nonneg fun k _ => mul_self_nonneg _) (by norm_num)) eps_pos
/-- The number a row is multiplied by. -/
def rinv (x : Fin 1024 → ℝ) : ℝ := (Real.sqrt (ms x))⁻¹
theorem inv_mul_inv (x : Fin 1024 → ℝ) : rinv x * rinv x = 1 / ms x := by
  unfold rinv
  rw [← mul_inv, Real.mul_self_sqrt (ms_pos x).le, one_div]

/-- The gradient of the norm of `x` along `d`. -/
def back (x d : Fin 1024 → ℝ) (j : Fin 1024) : ℝ := rinv x * (d j - x j * rinv x * ((∑ k, d k * (x k * rinv x)) / 1024))

/-- The gradient as the chain rule writes it: through the row, and through its mean square twice. -/
theorem chain_rule (x d : Fin 1024 → ℝ) (j : Fin 1024) {q : ℝ} (hq : q = (∑ k, x k * d k) * (-(1 / 2) * (rinv x / ms x)) / 1024) :
    d j * rinv x + x j * q + q * x j = back x d j := by
  have h : ∑ k, d k * (x k * rinv x) = (∑ k, x k * d k) * rinv x := by
    rw [Finset.sum_mul]
    exact Finset.sum_congr rfl fun k _ => by ring
  have e : rinv x / ms x = rinv x * (rinv x * rinv x) := by rw [inv_mul_inv]; ring
  rw [hq, e]
  unfold back
  rw [h]
  ring

/-! ## Sums over rows, 256 at a time -/

theorem sum_rows8 (F : Fin 2048 → ℝ) : ∑ R, F R = ∑ t ∈ Finset.range 8, ∑ i : Fin 256, if h : 256 * t + i.val < 2048 then F ⟨256 * t + i.val, h⟩ else 0 := by
  rw [Finset.sum_range, ← (finProdFinEquiv (m := 8) (n := 256)).sum_comp, Fintype.sum_prod_type]
  refine Finset.sum_congr rfl fun t _ => Finset.sum_congr rfl fun i _ => ?_
  have ht := t.isLt
  have hi := i.isLt
  rw [dif_pos (by omega)]
  exact congrArg F (Fin.ext (by show i.val + 256 * t.val = 256 * t.val + i.val; omega))

/-! ## The kernels' operations on a tile of 256 rows -/

abbrev T : Shape := ⟨2, ![256, 1024]⟩
abbrev Col : Shape := ⟨2, ![256, 1]⟩
abbrev Row : Shape := ⟨2, ![1, 1024]⟩

/-- An array of extended reals holds the reals `f`. -/
abbrev Holds {a b : Nat} (x : (⟨2, ![a, b]⟩ : Shape).Idx → EReal) (f : Fin a → Fin b → ℝ) : Prop := ∀ i, x i = ((f (i 0) (i 1) : ℝ) : EReal)

theorem rowsum_r {x : FVec Ideal T .f32} {f : Fin 256 → Fin 1024 → ℝ} (hx : Holds x f) (h : T.Reduces [1] ⟨1, ![256]⟩)
    (hs : (⟨1, ![256]⟩ : Shape).ShapeCasts Col) (j : Col.Idx) :
    @Eq EReal (shapeCast Col (multiReduction (F := Ideal) .add [1] ⟨1, ![256]⟩ x 0x00000000#32 h (.inl rfl) rfl) hs j) ((∑ k, f (j 0) k : ℝ) : EReal) := by
  have j1 : (j 1).val < 1 := (j 1).isLt
  refine (shapeCast_apply _ hs j (ValueIdx.ix1 (⟨(j 0).val, (j 0).isLt⟩ : Fin 256)) ?_).trans ?_
  · rw [Shape.rowMajor_val_one, Shape.rowMajor_val_two]
    show (j 0).val = (j 0).val * 1 + (j 1).val
    omega
  · exact (Ideal.multiReduction_add_single x _ _ (.inl rfl) rfl _).trans (sum_r fun k => hx _)

theorem colsum_r {x : FVec Ideal T .f32} {f : Fin 256 → Fin 1024 → ℝ} (hx : Holds x f) (h : T.Reduces [0] ⟨1, ![1024]⟩)
    (hs : (⟨1, ![1024]⟩ : Shape).ShapeCasts Row) (j : Row.Idx) :
    @Eq EReal (shapeCast Row (multiReduction (F := Ideal) .add [0] ⟨1, ![1024]⟩ x 0x00000000#32 h (.inl rfl) rfl) hs j) ((∑ t, f t (j 1) : ℝ) : EReal) := by
  refine (shapeCast_addUnit_apply ![1024] _ hs j).trans ?_
  exact (Ideal.multiReduction_add_single x _ _ (.inl rfl) rfl _).trans (sum_r fun k => hx _)

theorem across_r {x : FVec Ideal Col .f32} {f : Fin 256 → ℝ} (hx : ∀ i : Col.Idx, @Eq EReal (x i) ((f (i 0) : ℝ) : EReal)) (h : Col.Broadcasts T) (j : T.Idx) :
    @Eq EReal (broadcastTo T x h j) ((f (j 0) : ℝ) : EReal) := hx _
theorem down_r {x : FVec Ideal Row .f32} {f : Fin 1024 → ℝ} (hx : ∀ i : Row.Idx, @Eq EReal (x i) ((f (i 1) : ℝ) : EReal)) (h : Row.Broadcasts T) (j : T.Idx) :
    @Eq EReal (broadcastTo T x h j) ((f (j 1) : ℝ) : EReal) := hx _

/-! ## The norm, its gradient and its gain's gradient, as the kernels compute them -/

theorem inv_r {x : FVec Ideal T .f32} {X : Fin 256 → Fin 1024 → ℝ} (hx : Holds x X) (h : T.Reduces [1] ⟨1, ![256]⟩)
    (hs : (⟨1, ![256]⟩ : Shape).ShapeCasts Col) (j : Col.Idx) :
    @Eq EReal (rsqrt (F := Ideal) (addf (divf (shapeCast Col (multiReduction (F := Ideal) .add [1] ⟨1, ![256]⟩ (mulf x x) 0x00000000#32 h (.inl rfl) rfl) hs)
      (broadcast Col (Scalar.ofBits .f32 0x44800000#32))) (broadcast Col (Scalar.ofBits .f32 0x358637BD#32))) j) ((rinv (X (j 0)) : ℝ) : EReal) :=
  rsqrt_r (add_r (div_r (rowsum_r (x := mulf x x) (f := fun i k => X i k * X i k) (fun i => mul_r (hx i) (hx i)) h hs j) width_eq (by norm_num)) eps_eq) (ms_pos _)

theorem normed_r {x : FVec Ideal T .f32} {v : FVec Ideal Col .f32} {X : Fin 256 → Fin 1024 → ℝ} (hx : Holds x X)
    (hv : ∀ i : Col.Idx, @Eq EReal (v i) ((rinv (X (i 0)) : ℝ) : EReal)) (hb : Col.Broadcasts T) :
    Holds (mulf x (broadcastTo T v hb)) fun i k => X i k * rinv (X i) :=
  fun j => mul_r (hx j) (across_r (f := fun i => rinv (X i)) hv hb j)

theorem gained_r {d : FVec Ideal T .f32} {g : FVec Ideal Row .f32} {D : Fin 256 → Fin 1024 → ℝ} {G : Fin 1024 → ℝ} (hd : Holds d D)
    (hg : ∀ i : Row.Idx, @Eq EReal (g i) ((G (i 1) : ℝ) : EReal)) (hb : Row.Broadcasts T) : Holds (mulf d (broadcastTo T g hb)) fun i k => D i k * G k :=
  fun j => mul_r (hd j) (down_r hg hb j)

theorem back_r {d n : FVec Ideal T .f32} {v : FVec Ideal Col .f32} {X D : Fin 256 → Fin 1024 → ℝ} (hd : Holds d D) (hn : Holds n fun i k => X i k * rinv (X i))
    (hv : ∀ i : Col.Idx, @Eq EReal (v i) ((rinv (X (i 0)) : ℝ) : EReal)) (hb hb' : Col.Broadcasts T) (h : T.Reduces [1] ⟨1, ![256]⟩)
    (hs : (⟨1, ![256]⟩ : Shape).ShapeCasts Col) (j : T.Idx) :
    @Eq EReal (mulf (F := Ideal) (broadcastTo T v hb) (subf d (mulf n (broadcastTo T (divf (shapeCast Col (multiReduction (F := Ideal) .add [1] ⟨1, ![256]⟩ (mulf d n)
      0x00000000#32 h (.inl rfl) rfl) hs) (broadcast Col (Scalar.ofBits .f32 0x44800000#32))) hb'))) j) ((back (X (j 0)) (D (j 0)) (j 1) : ℝ) : EReal) :=
  mul_r (across_r (f := fun i => rinv (X i)) hv hb j) (sub_r (hd j) (mul_r (hn j) (across_r (f := fun i => (∑ k, D i k * (X i k * rinv (X i))) / 1024)
    (fun i => div_r (rowsum_r (x := mulf d n) (f := fun i k => D i k * (X i k * rinv (X i))) (fun i => mul_r (hd i) (hn i)) h hs i) width_eq (by norm_num)) hb' j)))

theorem gain_r {d n : FVec Ideal T .f32} {X D : Fin 256 → Fin 1024 → ℝ} (hd : Holds d D) (hn : Holds n fun i k => X i k * rinv (X i))
    (h : T.Reduces [0] ⟨1, ![1024]⟩) (hs : (⟨1, ![1024]⟩ : Shape).ShapeCasts Row) (j : Row.Idx) :
    @Eq EReal (shapeCast Row (multiReduction (F := Ideal) .add [0] ⟨1, ![1024]⟩ (mulf d n) 0x00000000#32 h (.inl rfl) rfl) hs j)
      ((∑ t, D t (j 1) * (X t (j 1) * rinv (X t)) : ℝ) : EReal) :=
  colsum_r (x := mulf d n) (f := fun i k => D i k * (X i k * rinv (X i))) (fun i => mul_r (hd i) (hn i)) h hs j

end Cert.Norm

end
-- ==== Proof.HRmsValue.lean ====
/- The gradient of the frames and of the gain at the norm in front of the mixers: the kernel's arrays and the reference's are the
   same, where the arguments that enter the norm and the product hold reals. -/
module

public import proofs.«01_k».proof.Proof.Norm
public import proofs.«01_k».proof.Proof.Gen.MmDHRmsIdeal.Value
public import proofs.«01_k».proof.Proof.Gen.MmDHRmsRefIdeal.Read

@[expose] public section

noncomputable section

namespace Cert.MmDHRmsRefIdeal.Head

open Cert.MmDHRmsRefIdeal Cert.MmDHRmsRefIdeal.Read Idealize.ShloMosaic Cert.Gla Cert.Norm Cert.Products

variable {x0 : S2048x5760.Idx → EReal} {x1 : S5760x1024.Idx → EReal} {x2 : S2048x1024.Idx → EReal} {x3 : S1x1024.Idx → EReal} {x4 : S2048x1024.Idx → EReal}
variable {A : Fin 2048 → Fin 5760 → ℝ} {W : Fin 5760 → Fin 1024 → ℝ} {X : Fin 2048 → Fin 1024 → ℝ} {G : Fin 1024 → ℝ}

/-- The product of the rows' gradient with the transposed weights. -/
def prod (A : Fin 2048 → Fin 5760 → ℝ) (W : Fin 5760 → Fin 1024 → ℝ) (R : Fin 2048) (j : Fin 1024) : ℝ := ∑ k, A R k * W k j

theorem r1 (hX : Holds x2 X) (i : S2048.Idx) : @Eq EReal (val_main_v1 (F := Ideal) x2 i) ((∑ k, X (i 0) k * X (i 0) k : ℝ) : EReal) := by
  rw [val_main_v1_apply]
  exact (add_r zero_r (sum_r fun k => mul_r (hX (idx_main_v1 i k)) (hX (idx_main_v1 i k)))).trans (congrArg Real.toEReal (zero_add _))
theorem r6 (hX : Holds x2 X) (i : S2048x1.Idx) : @Eq EReal (val_main_v6 (F := Ideal) x2 i) ((ms (X (i 0)) : ℝ) : EReal) := by
  rw [val_main_v6_apply, val_main_v4_apply, val_main_v2_apply, val_main_v3_apply, val_main_cst_0_apply, val_main_v5_apply, val_main_cst_1_apply]
  exact add_r (div_r (r1 hX (idx_main_v2 i)) width_eq (by norm_num)) eps_eq
theorem r7 (hX : Holds x2 X) (i : S2048x1.Idx) : @Eq EReal (val_main_v7 (F := Ideal) x2 i) ((rinv (X (i 0)) : ℝ) : EReal) := by
  rw [val_main_v7_apply]
  exact rsqrt_r (r6 hX i) (ms_pos _)
theorem r10 (hX : Holds x2 X) (i : S2048x1.Idx) : @Eq EReal (val_main_v10 (F := Ideal) x2 i) ((-(1 / 2) * (rinv (X (i 0)) / ms (X (i 0))) : ℝ) : EReal) := by
  rw [val_main_v10_apply, val_main_v9_apply, val_main_cst_2_apply, val_main_v8_apply]
  exact mul_r minus_half_eq (div_r (r7 hX i) (r6 hX i) (ms_pos _).ne')
theorem r12 (hX : Holds x2 X) (i : S2048x1024.Idx) : @Eq EReal (val_main_v12 (F := Ideal) x2 i) ((X (i 0) (i 1) * rinv (X (i 0)) : ℝ) : EReal) := by
  rw [val_main_v12_apply, val_main_v11_apply]
  exact mul_r (hX i) (r7 hX (idx_main_v11 i))
theorem r16 (hW : Holds x1 W) (i : S1024x5760.Idx) : @Eq EReal (val_main_v16 (F := Ideal) x1 i) ((W (i 1) (i 0) : ℝ) : EReal) := by
  rw [val_main_v16_apply, val_main_v15_apply]
  exact hW (idx_main_v16 i)
theorem r19 (hA : Holds x0 A) (hW : Holds x1 W) (i : S2048x1024.Idx) : @Eq EReal (val_main_v19 (F := Ideal) x0 x1 i) ((prod A W (i 0) (i 1) : ℝ) : EReal) := by
  rw [val_main_v19_apply]
  exact dot_r (fun k => hA (lidx_main_v19 i k)) fun k => r16 hW (ridx_main_v19 i k)
/-- The gain's gradient. -/
theorem r22 (hA : Holds x0 A) (hW : Holds x1 W) (hX : Holds x2 X) (i : S1x1024.Idx) :
    @Eq EReal (val_main_v22 (F := Ideal) x0 x1 x2 i) ((∑ R, prod A W R (i 1) * (X R (i 1) * rinv (X R)) : ℝ) : EReal) := by
  rw [val_main_v22_apply, val_main_v21_apply]
  have i0 : (i 0).val < 1 := (i 0).isLt
  have i1 : (i 1).val < 1024 := (i 1).isLt
  have e : (idx_main_v22 i 0).val = (i 1).val := by
    dsimp only [idx_main_v22]; omega
  have e' : @Eq (Fin 1024) (idx_main_v22 i 0) (i 1) := Fin.ext e
  refine (add_r (x := 0) (y := ∑ R, X R (i 1) * rinv (X R) * prod A W R (i 1)) zero_r (sum_r fun k => ?_)).trans (congrArg Real.toEReal ((zero_add _).trans (Finset.sum_congr rfl fun R _ => mul_comm (X R (i 1) * rinv (X R)) (prod A W R (i 1)))))
  rw [val_main_v20_apply]
  refine (mul_r (r12 hX (idx_main_v21 (idx_main_v22 i) k)) (r19 hA hW (idx_main_v21 (idx_main_v22 i) k))).trans ?_
  exact congrArg (fun j : Fin 1024 => ((X k j * rinv (X k) * prod A W k j : ℝ) : EReal)) e'
theorem r24 (hA : Holds x0 A) (hW : Holds x1 W) (hG : ∀ i : S1x1024.Idx, @Eq EReal (x3 i) ((G (i 1) : ℝ) : EReal)) (i : S2048x1024.Idx) :
    @Eq EReal (val_main_v24 (F := Ideal) x0 x1 x3 i) ((prod A W (i 0) (i 1) * G (i 1) : ℝ) : EReal) := by
  rw [val_main_v24_apply, val_main_v23_apply]
  exact mul_r (r19 hA hW i) (hG (idx_main_v23 i))
theorem r27 (hA : Holds x0 A) (hW : Holds x1 W) (hX : Holds x2 X) (hG : ∀ i : S1x1024.Idx, @Eq EReal (x3 i) ((G (i 1) : ℝ) : EReal)) (i : S2048x1.Idx) :
    @Eq EReal (val_main_v27 (F := Ideal) x0 x1 x2 x3 i) ((∑ k, X (i 0) k * (prod A W (i 0) k * G k) : ℝ) : EReal) := by
  have i0 : (i 0).val < 2048 := (i 0).isLt
  have i1 : (i 1).val < 1 := (i 1).isLt
  have e : (idx_main_v27 i 0).val = (i 0).val := by
    dsimp only [idx_main_v27]; omega
  have e' : @Eq (Fin 2048) (idx_main_v27 i 0) (i 0) := Fin.ext e
  rw [val_main_v27_apply, val_main_v26_apply]
  refine (add_r (x := 0) (y := ∑ k, X (i 0) k * (prod A W (i 0) k * G k)) zero_r (sum_r fun k => ?_)).trans (congrArg Real.toEReal (zero_add _))
  rw [val_main_v25_apply]
  refine (mul_r (hX (idx_main_v26 (idx_main_v27 i) k)) (r24 hA hW hG (idx_main_v26 (idx_main_v27 i) k))).trans ?_
  exact congrArg (fun R : Fin 2048 => ((X R k * (prod A W R k * G k) : ℝ) : EReal)) e'
theorem r33 (hA : Holds x0 A) (hW : Holds x1 W) (hX : Holds x2 X) (hG : ∀ i : S1x1024.Idx, @Eq EReal (x3 i) ((G (i 1) : ℝ) : EReal)) (i : S2048.Idx) :
    @Eq EReal (val_main_v33 (F := Ideal) x0 x1 x2 x3 i)
      (((∑ k, X (i 0) k * (prod A W (i 0) k * G k)) * (-(1 / 2) * (rinv (X (i 0)) / ms (X (i 0)))) / 1024 : ℝ) : EReal) := by
  rw [val_main_v33_apply]
  refine (add_r (x := 0) (y := ∑ _k : Fin 1, (∑ k, X (i 0) k * (prod A W (i 0) k * G k)) * (-(1 / 2) * (rinv (X (i 0)) / ms (X (i 0)))) / 1024) zero_r (sum_r fun k => ?_)).trans
    (congrArg Real.toEReal ((zero_add _).trans (Fin.sum_univ_one _)))
  rw [val_main_v32_apply, val_main_v31_apply, val_main_cst_5_apply, val_main_v30_apply]
  exact div_r (mul_r (r27 hA hW hX hG (idx_main_v33 i k)) (r10 hX (idx_main_v33 i k))) width_eq (by norm_num)
/-- The frames' gradient. -/
theorem r39 (hA : Holds x0 A) (hW : Holds x1 W) (hX : Holds x2 X) (hG : ∀ i : S1x1024.Idx, @Eq EReal (x3 i) ((G (i 1) : ℝ) : EReal)) (i : S2048x1024.Idx) :
    @Eq EReal (val_main_v39 (F := Ideal) x0 x1 x2 x3 x4 i) ((x4 i : EReal) + ((back (X (i 0)) (fun k => prod A W (i 0) k * G k) (i 1) : ℝ) : EReal)) := by
  rw [val_main_v39_apply, val_main_v38_apply, val_main_v36_apply, val_main_v37_apply, val_main_v29_apply, val_main_v28_apply, val_main_v35_apply, val_main_v34_apply]
  refine congrArg (fun b : EReal => (x4 i : EReal) + b) ?_
  exact (add_r (add_r (mul_r (r24 hA hW hG i) (r7 hX (idx_main_v28 i))) (mul_r (hX i) (r33 hA hW hX hG (idx_main_v34 i)))) (mul_r (r33 hA hW hX hG (idx_main_v34 i)) (hX i))).trans
    (congrArg Real.toEReal (chain_rule (X (i 0)) (fun k => prod A W (i 0) k * G k) (i 1) rfl))

end Cert.MmDHRmsRefIdeal.Head

namespace Cert.MmDHRmsIdeal.Head

open Cert.MmDHRmsIdeal Cert.MmDHRmsIdeal.Gen Cert.MmDHRmsIdeal.Value Idealize.ShloMosaic Idealize.ShloMosaic.TcCoe Cert.Gla Cert.Norm Cert.Products
open Cert.MmDHRmsRefIdeal.Head (prod)
open Idealize.ShloMosaic.Pipeline (Dat)

/-! ## A grid point, on tiles that hold reals -/

section
variable {x0 : FVec Ideal S256x5760 .bf16} {x1 : FVec Ideal S5760x1024 .bf16} {x2 : FVec Ideal S256x1024 .f32} {x3 : FVec Ideal S1x1024 .f32} {x4 : FVec Ideal S256x1024 .f32}
variable {A : Fin 256 → Fin 5760 → ℝ} {W : Fin 5760 → Fin 1024 → ℝ} {X : Fin 256 → Fin 1024 → ℝ} {G : Fin 1024 → ℝ}

theorem product_r (hA : Holds x0 A) (hW : Holds x1 W) : Holds (k0_pay3 (F := Ideal) x0 x1) fun i j => ∑ k, A i k * W k j := fun j =>
  (mm (φ₁ := .bf16) (φ₂ := .bf16) (K := 5760) dot_S256x5760_S5760x1024_S256x1024_1_0_0_1_n_n rfl rfl none _ _ j (fun k => ix2 (j 0) k) (fun k => ix2 k (j 1))
    (fun k => idx2 rfl rfl) (fun k => idx2 rfl rfl)).trans (dot_r (fun k => hA (ix2 (j 0) k)) fun k => hW (ix2 k (j 1)))
theorem inverse_r (hX : Holds x2 X) (i : S256x1.Idx) : @Eq EReal (k0_pay4 (F := Ideal) x2 i) ((rinv (X (i 0)) : ℝ) : EReal) := inv_r hX _ _ i
theorem unit_r (hX : Holds x2 X) : Holds (k0_pay5 (F := Ideal) x2) fun i k => X i k * rinv (X i) := normed_r hX (inverse_r hX) _
theorem gain_at (hA : Holds x0 A) (hW : Holds x1 W) (hX : Holds x2 X) (j : S1x1024.Idx) :
    @Eq EReal (k0_pay6 (F := Ideal) x0 x1 x2 j) ((∑ t, (∑ k, A t k * W k (j 1)) * (X t (j 1) * rinv (X t)) : ℝ) : EReal) :=
  gain_r (product_r hA hW) (unit_r hX) _ _ j
theorem frames_at (hA : Holds x0 A) (hW : Holds x1 W) (hX : Holds x2 X) (hG : ∀ i : S1x1024.Idx, @Eq EReal (x3 i) ((G (i 1) : ℝ) : EReal)) (j : S256x1024.Idx) :
    @Eq EReal (k0_pay7 (F := Ideal) x0 x1 x2 x3 x4 j) ((x4 j : EReal) + ((back (X (j 0)) (fun k => (∑ l, A (j 0) l * W l k) * G k) (j 1) : ℝ) : EReal)) := by
  unfold k0_pay7
  dsimp only
  rw [shapeCast_self]
  exact congrArg (fun b : EReal => (x4 j : EReal) + b)
    (back_r (D := fun i k => (∑ l, A i l * W l k) * G k) (gained_r (product_r hA hW) hG _) (unit_r hX) (inverse_r hX) _ _ _ _ j)

theorem frames_first (c : Dev nD) (i : grid0.Coords) (a1 : Memref sig .tc .vmem S256x5760 .bf16) (h1 : a1.IsWhole) (a2 : Memref sig .tc .vmem S5760x1024 .bf16) (h2 : a2.IsWhole) (a3 : Memref sig .tc .vmem S256x1024 .f32) (h3 : a3.IsWhole) (a4 : Memref sig .tc .vmem S1x1024 .f32) (h4 : a4.IsWhole) (a5 : Memref sig .tc .vmem S256x1024 .f32) (h5 : a5.IsWhole) (a6 : Memref sig .tc .vmem S256x1024 .f32) (h6 : a6.IsWhole) (a7 : Memref sig .tc .vmem S1x1024 .f32) (h7 : a7.IsWhole) (hc0 : cond0_0 i) (hc1 : ¬cond0_1 i) (x0 : Vec Ideal S256x5760 .bf16) (x1 : Vec Ideal S5760x1024 .bf16) (x2 : Vec Ideal S256x1024 .f32) (x3 : Vec Ideal S1x1024 .f32) (x4 : Vec Ideal S256x1024 .f32) :
    out0_A_5 c i a1 h1 a2 h2 a3 h3 a4 h4 a5 h5 a6 h6 a7 h7 hc0 hc1 x0 x1 x2 x3 x4 = k0_pay7 x0 x1 x2 x3 x4 := by
  unfold out0_A_5
  rw [View.read_writes_eq_canon _ _ _ (cover0_A_5 c i a1 h1 a2 h2 a3 h3 a4 h4 a5 h5 a6 h6 a7 h7 hc0 hc1 x0 x1 x2 x3 x4)]
  unfold kernelRun0_A
  dsimp only
  sl_unfold_words
  rw [View.canon_unit_zero zeros2]
  simp only [View.readAt_eq_ld, h1.read_unread, h2.read_unread, h3.read_unread, h4.read_unread, h5.read_unread, View.ld_unit_zero (S := S256x5760) zeros2, View.ld_unit_zero (S := S5760x1024) zeros2, View.ld_unit_zero (S := S256x1024) zeros2, View.ld_unit_zero (S := S1x1024) zeros2]

theorem gain_first (c : Dev nD) (i : grid0.Coords) (a1 : Memref sig .tc .vmem S256x5760 .bf16) (h1 : a1.IsWhole) (a2 : Memref sig .tc .vmem S5760x1024 .bf16) (h2 : a2.IsWhole) (a3 : Memref sig .tc .vmem S256x1024 .f32) (h3 : a3.IsWhole) (a4 : Memref sig .tc .vmem S1x1024 .f32) (h4 : a4.IsWhole) (a5 : Memref sig .tc .vmem S256x1024 .f32) (h5 : a5.IsWhole) (a6 : Memref sig .tc .vmem S256x1024 .f32) (h6 : a6.IsWhole) (a7 : Memref sig .tc .vmem S1x1024 .f32) (h7 : a7.IsWhole) (hc0 : cond0_0 i) (hc1 : ¬cond0_1 i) (x0 : Vec Ideal S256x5760 .bf16) (x1 : Vec Ideal S5760x1024 .bf16) (x2 : Vec Ideal S256x1024 .f32) (x3 : Vec Ideal S1x1024 .f32) (x4 : Vec Ideal S256x1024 .f32) :
    out0_A_6 c i a1 h1 a2 h2 a3 h3 a4 h4 a5 h5 a6 h6 a7 h7 hc0 hc1 x0 x1 x2 x3 x4 = k0_pay6 x0 x1 x2 := by
  unfold out0_A_6
  rw [View.read_writes_eq_canon _ _ _ (cover0_A_6 c i a1 h1 a2 h2 a3 h3 a4 h4 a5 h5 a6 h6 a7 h7 hc0 hc1 x0 x1 x2 x3 x4)]
  unfold kernelRun0_A
  dsimp only
  sl_unfold_words
  rw [View.canon_unit_zero zeros2]
  unfold k0_pay1
  simp only [View.readAt_eq_ld, h1.read_unread, h2.read_unread, h3.read_unread, h4.read_unread, h5.read_unread, View.ld_unit_zero (S := S256x5760) zeros2, View.ld_unit_zero (S := S5760x1024) zeros2, View.ld_unit_zero (S := S256x1024) zeros2, View.ld_unit_zero (S := S1x1024) zeros2, h7.read_unread, shapeCast_self]

theorem frames_next (c : Dev nD) (i : grid0.Coords) (a1 : Memref sig .tc .vmem S256x5760 .bf16) (h1 : a1.IsWhole) (a2 : Memref sig .tc .vmem S5760x1024 .bf16) (h2 : a2.IsWhole) (a3 : Memref sig .tc .vmem S256x1024 .f32) (h3 : a3.IsWhole) (a4 : Memref sig .tc .vmem S1x1024 .f32) (h4 : a4.IsWhole) (a5 : Memref sig .tc .vmem S256x1024 .f32) (h5 : a5.IsWhole) (a6 : Memref sig .tc .vmem S256x1024 .f32) (h6 : a6.IsWhole) (a7 : Memref sig .tc .vmem S1x1024 .f32) (h7 : a7.IsWhole) (hc0 : ¬cond0_0 i) (hc1 : cond0_1 i) (x0 : Vec Ideal S256x5760 .bf16) (x1 : Vec Ideal S5760x1024 .bf16) (x2 : Vec Ideal S256x1024 .f32) (x3 : Vec Ideal S1x1024 .f32) (x4 : Vec Ideal S256x1024 .f32) (xo : Vec Ideal S1x1024 .f32) :
    out0_B_5 c i a1 h1 a2 h2 a3 h3 a4 h4 a5 h5 a6 h6 a7 h7 hc0 hc1 x0 x1 x2 x3 x4 xo = k0_pay7 x0 x1 x2 x3 x4 := by
  unfold out0_B_5
  rw [View.read_writes_eq_canon _ _ _ (cover0_B_5 c i a1 h1 a2 h2 a3 h3 a4 h4 a5 h5 a6 h6 a7 h7 hc0 hc1 x0 x1 x2 x3 x4 xo)]
  unfold kernelRun0_B
  dsimp only
  sl_unfold_words
  rw [View.canon_unit_zero zeros2]
  simp only [View.readAt_eq_ld, h1.read_unread, h2.read_unread, h3.read_unread, h4.read_unread, h5.read_unread, View.ld_unit_zero (S := S256x5760) zeros2, View.ld_unit_zero (S := S5760x1024) zeros2, View.ld_unit_zero (S := S256x1024) zeros2, View.ld_unit_zero (S := S1x1024) zeros2]

theorem gain_next (c : Dev nD) (i : grid0.Coords) (a1 : Memref sig .tc .vmem S256x5760 .bf16) (h1 : a1.IsWhole) (a2 : Memref sig .tc .vmem S5760x1024 .bf16) (h2 : a2.IsWhole) (a3 : Memref sig .tc .vmem S256x1024 .f32) (h3 : a3.IsWhole) (a4 : Memref sig .tc .vmem S1x1024 .f32) (h4 : a4.IsWhole) (a5 : Memref sig .tc .vmem S256x1024 .f32) (h5 : a5.IsWhole) (a6 : Memref sig .tc .vmem S256x1024 .f32) (h6 : a6.IsWhole) (a7 : Memref sig .tc .vmem S1x1024 .f32) (h7 : a7.IsWhole) (hc0 : ¬cond0_0 i) (hc1 : cond0_1 i) (x0 : Vec Ideal S256x5760 .bf16) (x1 : Vec Ideal S5760x1024 .bf16) (x2 : Vec Ideal S256x1024 .f32) (x3 : Vec Ideal S1x1024 .f32) (x4 : Vec Ideal S256x1024 .f32) (xo : Vec Ideal S1x1024 .f32) :
    out0_B_6 c i a1 h1 a2 h2 a3 h3 a4 h4 a5 h5 a6 h6 a7 h7 hc0 hc1 x0 x1 x2 x3 x4 xo = addf xo (k0_pay6 x0 x1 x2) := by
  unfold out0_B_6
  rw [View.read_writes_eq_canon _ _ _ (cover0_B_6 c i a1 h1 a2 h2 a3 h3 a4 h4 a5 h5 a6 h6 a7 h7 hc0 hc1 x0 x1 x2 x3 x4 xo)]
  unfold kernelRun0_B
  dsimp only
  sl_unfold_words
  rw [View.canon_unit_zero zeros2]
  unfold k0_pay2
  simp only [View.readAt_eq_ld, h1.read_unread, h2.read_unread, h3.read_unread, h4.read_unread, h5.read_unread, View.ld_unit_zero (S := S256x5760) zeros2, View.ld_unit_zero (S := S5760x1024) zeros2, View.ld_unit_zero (S := S256x1024) zeros2, View.ld_unit_zero (S := S1x1024) zeros2, h7.read_unread, shapeCast_self]

end

/-! ## The blocks of the arrays -/

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)

variable (m : (ℓ : Loc nD τ sig) → Buf (Elt Ideal) ℓ) (c : Dev nD)
variable {A : Fin 2048 → Fin 5760 → ℝ} {W : Fin 5760 → Fin 1024 → ℝ} {X : Fin 2048 → Fin 1024 → ℝ} {G : Fin 1024 → ℝ}

/-- The arguments hold reals: all but the gradient that is added at the end. -/
structure Reals (A : Fin 2048 → Fin 5760 → ℝ) (W : Fin 5760 → Fin 1024 → ℝ) (X : Fin 2048 → Fin 1024 → ℝ) (G : Fin 1024 → ℝ) : Prop where
  rows : Holds (m ((c : Thread nD τ).loc main_arg0)) A
  weights : Holds (m ((c : Thread nD τ).loc main_arg1)) W
  frames : Holds (m ((c : Thread nD τ).loc main_arg2)) X
  gain : ∀ i : S1x1024.Idx, @Eq EReal (m ((c : Thread nD τ).loc main_arg3) i) ((G (i 1) : ℝ) : EReal)

/-- Row `i` of point `t`'s tile. -/
def row (t : Fin cfg0.N) (i : Fin 256) : Fin 2048 := ⟨256 * t.val + i.val, by have := lt_of_lt_of_eq t.isLt N_0; omega⟩

variable {m c} (H : Reals m c A W X G)
include H

theorem rows_at (t : Fin cfg0.N) : Holds (iblk m c 0 t) fun i k => A (row t i) k := fun j => by
  unfold iblk
  rw [View.read_apply]
  show @Eq EReal (V m c main_arg0 _) _
  rw [V_main_arg0]
  obtain ⟨e0, e1⟩ := index0 t
  refine (H.rows _).trans (congrArg Real.toEReal (congrArg₂ A (Fin.ext ?_) (Fin.ext ?_)))
  · show win0_0.index t 0 * 256 + 1 * (j 0).val = 256 * t.val + (j 0).val; omega
  · show win0_0.index t 1 * 5760 + 1 * (j 1).val = (j 1).val; omega
theorem weights_at (t : Fin cfg0.N) : Holds (iblk m c 1 t) W := fun j => by
  unfold iblk
  rw [View.read_apply]
  show @Eq EReal (V m c main_arg1 _) _
  rw [V_main_arg1]
  obtain ⟨e0, e1⟩ := index1 t
  refine (H.weights _).trans (congrArg Real.toEReal (congrArg₂ W (Fin.ext ?_) (Fin.ext ?_)))
  · show win0_1.index t 0 * 5760 + 1 * (j 0).val = (j 0).val; omega
  · show win0_1.index t 1 * 1024 + 1 * (j 1).val = (j 1).val; omega
theorem frames_of (t : Fin cfg0.N) : Holds (iblk m c 2 t) fun i k => X (row t i) k := fun j => by
  unfold iblk
  rw [View.read_apply]
  show @Eq EReal (V m c main_arg2 _) _
  rw [V_main_arg2]
  obtain ⟨e0, e1⟩ := index2 t
  refine (H.frames _).trans (congrArg Real.toEReal (congrArg₂ X (Fin.ext ?_) (Fin.ext ?_)))
  · show win0_2.index t 0 * 256 + 1 * (j 0).val = 256 * t.val + (j 0).val; omega
  · show win0_2.index t 1 * 1024 + 1 * (j 1).val = (j 1).val; omega
theorem gain_of (t : Fin cfg0.N) (j : S1x1024.Idx) : @Eq EReal (iblk m c 3 t j) ((G (j 1) : ℝ) : EReal) := by
  unfold iblk
  rw [View.read_apply]
  show @Eq EReal (V m c main_arg3 _) _
  rw [V_main_arg3]
  obtain ⟨e0, e1⟩ := index3 t
  refine (H.gain _).trans (congrArg Real.toEReal (congrArg G (Fin.ext ?_)))
  show win0_3.index t 1 * 1024 + 1 * (j 1).val = (j 1).val; omega
omit H in
theorem past_of (t : Fin cfg0.N) (j : S256x1024.Idx) : @Eq EReal (iblk m c 4 t j) (m ((c : Thread nD τ).loc main_arg4) (ix2 (row t (j 0)) (j 1))) := by
  unfold iblk
  rw [View.read_apply]
  show @Eq EReal (V m c main_arg4 _) _
  rw [V_main_arg4]
  obtain ⟨e0, e1⟩ := index4 t
  refine congrArg _ (idx2 ?_ ?_)
  · show win0_4.index t 0 * 256 + 1 * (j 0).val = 256 * t.val + (j 0).val; omega
  · show win0_4.index t 1 * 1024 + 1 * (j 1).val = (j 1).val; omega

/-! ## What the points leave -/

omit H in
theorem same_point (n n' : Nat) (h : n < cfg0.N) (h' : n' < cfg0.N) (e : n = n') : outsAt0 m c n h = outsAt0 m c n' h' := by subst e; rfl

omit H in
/-- The frames' gradient, as an array. -/
def frames (past : S2048x1024.Idx → EReal) (A : Fin 2048 → Fin 5760 → ℝ) (W : Fin 5760 → Fin 1024 → ℝ) (X : Fin 2048 → Fin 1024 → ℝ) (G : Fin 1024 → ℝ) (i : S2048x1024.Idx) : EReal :=
  past i + ((back (X (i 0)) (fun k => prod A W (i 0) k * G k) (i 1) : ℝ) : EReal)
omit H in
/-- The gain's gradient, as an array. -/
def gain (A : Fin 2048 → Fin 5760 → ℝ) (W : Fin 5760 → Fin 1024 → ℝ) (X : Fin 2048 → Fin 1024 → ℝ) (i : S1x1024.Idx) : EReal :=
  ((∑ R, prod A W R (i 1) * (X R (i 1) * rinv (X R)) : ℝ) : EReal)

theorem frames_point (t : Fin cfg0.N) (j : S256x1024.Idx) : @Eq EReal ((outsAt0 m c t.val t.isLt).1 j) (frames (m ((c : Thread nD τ).loc main_arg4)) A W X G (ix2 (row t (j 0)) (j 1))) := by
  have t8 : t.val < 8 := lt_of_lt_of_eq t.isLt N_0
  have h := (frames_at (rows_at H t) (weights_at H t) (frames_of H t) (gain_of H t) (x4 := iblk m c 4 t) j).trans
    (congrArg (fun a : EReal => a + ((back (X (row t (j 0))) (fun k => prod A W (row t (j 0)) k * G k) (j 1) : ℝ) : EReal)) (past_of t j))
  by_cases h0 : t.val = 0
  · rw [outsAt0_A m c t (by omega) (by omega)]
    dsimp only
    rw [frames_first]
    exact h
  · rw [outsAt0_B m c t (by omega) (by omega)]
    dsimp only
    rw [frames_next]
    exact h

omit H in
/-- A row's part of the gain's gradient. -/
def gainRow (A : Fin 2048 → Fin 5760 → ℝ) (W : Fin 5760 → Fin 1024 → ℝ) (X : Fin 2048 → Fin 1024 → ℝ) (j : Fin 1024) (R : Fin 2048) : ℝ :=
  prod A W R j * (X R j * rinv (X R))
omit H in
/-- A tile's part of the gain's gradient. -/
def gainTile (A : Fin 2048 → Fin 5760 → ℝ) (W : Fin 5760 → Fin 1024 → ℝ) (X : Fin 2048 → Fin 1024 → ℝ) (j : Fin 1024) (t : Nat) : ℝ :=
  ∑ i : Fin 256, if h : 256 * t + i.val < 2048 then gainRow A W X j ⟨256 * t + i.val, h⟩ else 0

theorem gain_tile (t : Fin cfg0.N) (j : S1x1024.Idx) : @Eq EReal (k0_pay6 (iblk m c 0 t) (iblk m c 1 t) (iblk m c 2 t) j) ((gainTile A W X (j 1) t.val : ℝ) : EReal) := by
  have t8 : t.val < 8 := lt_of_lt_of_eq t.isLt N_0
  refine (gain_at (rows_at H t) (weights_at H t) (frames_of H t) j).trans (congrArg Real.toEReal (Finset.sum_congr rfl fun i _ => ?_))
  have hi := i.isLt
  rw [dif_pos (by omega)]
  rfl

theorem gain_point (n : Nat) : ∀ (h : n < cfg0.N) (j : S1x1024.Idx),
    @Eq EReal ((outsAt0 m c n h).2 j) ((∑ t ∈ Finset.range (n + 1), gainTile A W X (j 1) t : ℝ) : EReal) := by
  induction n with
  | zero =>
    intro h j
    have e := outsAt0_A m c ⟨0, h⟩ (by rfl) (by dsimp only; omega)
    dsimp only at e
    rw [e]
    dsimp only
    rw [gain_first, Finset.sum_range_one]
    exact gain_tile H ⟨0, h⟩ j
  | succ n ih =>
    intro h j
    have h8 : n + 1 < 8 := lt_of_lt_of_eq h N_0
    have e := outsAt0_B m c ⟨n + 1, h⟩ (by dsimp only; omega) (by dsimp only; omega)
    dsimp only at e
    rw [e]
    dsimp only
    rw [gain_next, same_point (n + 1 - 1) n _ (by omega) (by omega), Finset.sum_range_succ _ (n + 1)]
    exact add_r (ih (by omega) j) (gain_tile H ⟨n + 1, h⟩ j)

/-! ## The arrays -/

theorem arr5 : (dats m 0 c).arrAt 5 cfg0.N = frames (m ((c : Thread nD τ).loc main_arg4)) A W X G := by
  refine (dats m 0 c).arrAt_eq_of_cover 5 _ (fun t _ => ?_) fun i => ?_
  · rw [flushed5]
    funext j
    rw [View.read_apply]
    obtain ⟨e0, e1⟩ := index5 t
    refine (frames_point H t j).trans (congrArg (frames (m ((c : Thread nD τ).loc main_arg4)) A W X G) (idx2 ?_ ?_))
    · show 256 * t.val + (j 0).val = win0_5.index t 0 * 256 + 1 * (j 0).val; omega
    · show (j 1).val = win0_5.index t 1 * 1024 + 1 * (j 1).val; omega
  · have i0 : (i 0).val < 2048 := (i 0).isLt
    have i1 : (i 1).val < 1024 := (i 1).isLt
    let t : Fin cfg0.N := ⟨(i 0).val / 256, by show _ < 8; omega⟩
    refine ⟨t, flush0_5 t, ?_⟩
    obtain ⟨e0, e1⟩ := index5 t
    have h := ((cfg0.win 5).blk t).view.emb_mem_set (ix2 (⟨(i 0).val % 256, by omega⟩ : Fin 256) (⟨(i 1).val, i1⟩ : Fin 1024))
    refine Eq.mp (congrArg (· ∈ _) (idx2 ?_ ?_)) h
    · show win0_5.index t 0 * 256 + 1 * ((i 0).val % 256) = (i 0).val
      rw [e0]; show (i 0).val / 256 * 256 + _ = _; omega
    · show win0_5.index t 1 * 1024 + 1 * (i 1).val = (i 1).val; omega

theorem gain_whole (t : Fin cfg0.N) (h : t.val % 8 = 7) (j : S1x1024.Idx) : @Eq EReal ((outsAt0 m c t.val t.isLt).2 j) (gain A W X j) := by
  have t8 : t.val < 8 := lt_of_lt_of_eq t.isLt N_0
  have t7 : t.val + 1 = 8 := by omega
  refine (gain_point H t.val t.isLt j).trans (congrArg Real.toEReal ?_)
  rw [t7]
  exact (sum_rows8 (gainRow A W X (j 1))).symm

theorem arr6 : (dats m 0 c).arrAt 6 cfg0.N = gain A W X := by
  refine (dats m 0 c).arrAt_eq_of_cover 6 _ (fun t ht => ?_) fun i => ?_
  · rw [flushed6]
    funext j
    rw [View.read_apply]
    obtain ⟨e0, e1⟩ := index6 t
    refine (gain_whole H t ((flush0_6 t).mp ht) j).trans (congrArg (gain A W X) (idx2 ?_ ?_))
    · show (j 0).val = win0_6.index t 0 * 1 + 1 * (j 0).val; omega
    · show (j 1).val = win0_6.index t 1 * 1024 + 1 * (j 1).val; omega
  · have h7 : 7 < cfg0.N := lt_of_lt_of_eq (by decide) N_0.symm
    refine ⟨⟨7, h7⟩, (flush0_6 _).mpr rfl, ?_⟩
    obtain ⟨e0, e1⟩ := index6 ⟨7, h7⟩
    have h := ((cfg0.win 6).blk ⟨7, h7⟩).view.emb_mem_set (ix2 (⟨(i 0).val, (i 0).isLt⟩ : Fin 1) (⟨(i 1).val, (i 1).isLt⟩ : Fin 1024))
    refine Eq.mp (congrArg (· ∈ _) (idx2 ?_ ?_)) h
    · show win0_6.index ⟨7, h7⟩ 0 * 1 + 1 * (i 0).val = (i 0).val; omega
    · show win0_6.index ⟨7, h7⟩ 1 * 1024 + 1 * (i 1).val = (i 1).val; omega

end Cert.MmDHRmsIdeal.Head

end
-- ==== Proof.H2RmsValue.lean ====
/- The gradient of the frames and of the gain at the norm in front of the feed-forward: the kernel's arrays and the reference's are the
   same, where the arguments that enter the norm and the product hold reals. -/
module

public import proofs.«01_k».proof.Proof.Norm
public import proofs.«01_k».proof.Proof.Gen.MmDH2RmsIdeal.Value
public import proofs.«01_k».proof.Proof.Gen.MmDH2RmsRefIdeal.Read

@[expose] public section

noncomputable section

namespace Cert.MmDH2RmsRefIdeal.Head

open Cert.MmDH2RmsRefIdeal Cert.MmDH2RmsRefIdeal.Read Idealize.ShloMosaic Cert.Gla Cert.Norm Cert.Products

/-- The rows of an array of column blocks, the blocks on the first two axes, are the reals `A`. -/
abbrev Blocks {n : Nat} (x : (⟨4, ![2, 4, n, 704]⟩ : Shape).Idx → EReal) (A : Fin n → Fin 5632 → ℝ) : Prop :=
  ∀ (i : (⟨4, ![2, 4, n, 704]⟩ : Shape).Idx) (k : Fin 5632), k.val = ((i 0).val * 4 + (i 1).val) * 704 + (i 3).val → x i = ((A (i 2) k : ℝ) : EReal)

variable {x0 : S2x4x2048x704.Idx → EReal} {x1 : S5632x1024.Idx → EReal} {x2 : S2048x1024.Idx → EReal} {x3 : S1x1024.Idx → EReal} {x4 : S2048x1024.Idx → EReal}
variable {A : Fin 2048 → Fin 5632 → ℝ} {W : Fin 5632 → Fin 1024 → ℝ} {X : Fin 2048 → Fin 1024 → ℝ} {G : Fin 1024 → ℝ}

/-- The product of the rows' gradient with the transposed weights. -/
def prod (A : Fin 2048 → Fin 5632 → ℝ) (W : Fin 5632 → Fin 1024 → ℝ) (R : Fin 2048) (j : Fin 1024) : ℝ := ∑ k, A R k * W k j

theorem r1 (hX : Holds x2 X) (i : S2048.Idx) : @Eq EReal (val_main_v1 (F := Ideal) x2 i) ((∑ k, X (i 0) k * X (i 0) k : ℝ) : EReal) := by
  rw [val_main_v1_apply]
  exact (add_r zero_r (sum_r fun k => mul_r (hX (idx_main_v1 i k)) (hX (idx_main_v1 i k)))).trans (congrArg Real.toEReal (zero_add _))
theorem r6 (hX : Holds x2 X) (i : S2048x1.Idx) : @Eq EReal (val_main_v6 (F := Ideal) x2 i) ((ms (X (i 0)) : ℝ) : EReal) := by
  rw [val_main_v6_apply, val_main_v4_apply, val_main_v2_apply, val_main_v3_apply, val_main_cst_0_apply, val_main_v5_apply, val_main_cst_1_apply]
  exact add_r (div_r (r1 hX (idx_main_v2 i)) width_eq (by norm_num)) eps_eq
theorem r7 (hX : Holds x2 X) (i : S2048x1.Idx) : @Eq EReal (val_main_v7 (F := Ideal) x2 i) ((rinv (X (i 0)) : ℝ) : EReal) := by
  rw [val_main_v7_apply]
  exact rsqrt_r (r6 hX i) (ms_pos _)
theorem r10 (hX : Holds x2 X) (i : S2048x1.Idx) : @Eq EReal (val_main_v10 (F := Ideal) x2 i) ((-(1 / 2) * (rinv (X (i 0)) / ms (X (i 0))) : ℝ) : EReal) := by
  rw [val_main_v10_apply, val_main_v9_apply, val_main_cst_2_apply, val_main_v8_apply]
  exact mul_r minus_half_eq (div_r (r7 hX i) (r6 hX i) (ms_pos _).ne')
theorem r12 (hX : Holds x2 X) (i : S2048x1024.Idx) : @Eq EReal (val_main_v12 (F := Ideal) x2 i) ((X (i 0) (i 1) * rinv (X (i 0)) : ℝ) : EReal) := by
  rw [val_main_v12_apply, val_main_v11_apply]
  exact mul_r (hX i) (r7 hX (idx_main_v11 i))
theorem r16 (hW : Holds x1 W) (i : S1024x5632.Idx) : @Eq EReal (val_main_v16 (F := Ideal) x1 i) ((W (i 1) (i 0) : ℝ) : EReal) := by
  rw [val_main_v16_apply, val_main_v15_apply]
  exact hW (idx_main_v16 i)
theorem r20 (hA : Blocks x0 A) (i : S2048x5632.Idx) : @Eq EReal (val_main_v20 (F := Ideal) x0 i) ((A (i 0) (i 1) : ℝ) : EReal) := by
  rw [val_main_v20_apply, val_main_v19_apply, val_main_v18_apply]
  have i0 : (i 0).val < 2048 := (i 0).isLt
  have i1 : (i 1).val < 5632 := (i 1).isLt
  refine (hA (idx_main_v19 (idx_main_v20 i)) (i 1) ?_).trans (congrArg (fun R => ((A R (i 1) : ℝ) : EReal)) (Fin.ext ?_))
  · show (i 1).val = (((i 0).val * 5632 + (i 1).val) / 2816 % 2 * 4 + ((i 0).val * 5632 + (i 1).val) / 704 % 4) * 704 + ((i 0).val * 5632 + (i 1).val) % 704
    omega
  · show ((i 0).val * 5632 + (i 1).val) / 5632 = (i 0).val
    omega
theorem r19 (hA : Blocks x0 A) (hW : Holds x1 W) (i : S2048x1024.Idx) : @Eq EReal (val_main_v21 (F := Ideal) x0 x1 i) ((prod A W (i 0) (i 1) : ℝ) : EReal) := by
  rw [val_main_v21_apply]
  exact dot_r (fun k => r20 hA (lidx_main_v21 i k)) fun k => r16 hW (ridx_main_v21 i k)
/-- The gain's gradient. -/
theorem r22 (hA : Blocks x0 A) (hW : Holds x1 W) (hX : Holds x2 X) (i : S1x1024.Idx) :
    @Eq EReal (val_main_v24 (F := Ideal) x0 x1 x2 i) ((∑ R, prod A W R (i 1) * (X R (i 1) * rinv (X R)) : ℝ) : EReal) := by
  rw [val_main_v24_apply, val_main_v23_apply]
  have i0 : (i 0).val < 1 := (i 0).isLt
  have i1 : (i 1).val < 1024 := (i 1).isLt
  have e : (idx_main_v24 i 0).val = (i 1).val := by
    dsimp only [idx_main_v24]; omega
  have e' : @Eq (Fin 1024) (idx_main_v24 i 0) (i 1) := Fin.ext e
  refine (add_r (x := 0) (y := ∑ R, X R (i 1) * rinv (X R) * prod A W R (i 1)) zero_r (sum_r fun k => ?_)).trans (congrArg Real.toEReal ((zero_add _).trans (Finset.sum_congr rfl fun R _ => mul_comm (X R (i 1) * rinv (X R)) (prod A W R (i 1)))))
  rw [val_main_v22_apply]
  refine (mul_r (r12 hX (idx_main_v23 (idx_main_v24 i) k)) (r19 hA hW (idx_main_v23 (idx_main_v24 i) k))).trans ?_
  exact congrArg (fun j : Fin 1024 => ((X k j * rinv (X k) * prod A W k j : ℝ) : EReal)) e'
theorem r24 (hA : Blocks x0 A) (hW : Holds x1 W) (hG : ∀ i : S1x1024.Idx, @Eq EReal (x3 i) ((G (i 1) : ℝ) : EReal)) (i : S2048x1024.Idx) :
    @Eq EReal (val_main_v26 (F := Ideal) x0 x1 x3 i) ((prod A W (i 0) (i 1) * G (i 1) : ℝ) : EReal) := by
  rw [val_main_v26_apply, val_main_v25_apply]
  exact mul_r (r19 hA hW i) (hG (idx_main_v25 i))
theorem r27 (hA : Blocks x0 A) (hW : Holds x1 W) (hX : Holds x2 X) (hG : ∀ i : S1x1024.Idx, @Eq EReal (x3 i) ((G (i 1) : ℝ) : EReal)) (i : S2048x1.Idx) :
    @Eq EReal (val_main_v29 (F := Ideal) x0 x1 x2 x3 i) ((∑ k, X (i 0) k * (prod A W (i 0) k * G k) : ℝ) : EReal) := by
  have i0 : (i 0).val < 2048 := (i 0).isLt
  have i1 : (i 1).val < 1 := (i 1).isLt
  have e : (idx_main_v29 i 0).val = (i 0).val := by
    dsimp only [idx_main_v29]; omega
  have e' : @Eq (Fin 2048) (idx_main_v29 i 0) (i 0) := Fin.ext e
  rw [val_main_v29_apply, val_main_v28_apply]
  refine (add_r (x := 0) (y := ∑ k, X (i 0) k * (prod A W (i 0) k * G k)) zero_r (sum_r fun k => ?_)).trans (congrArg Real.toEReal (zero_add _))
  rw [val_main_v27_apply]
  refine (mul_r (hX (idx_main_v28 (idx_main_v29 i) k)) (r24 hA hW hG (idx_main_v28 (idx_main_v29 i) k))).trans ?_
  exact congrArg (fun R : Fin 2048 => ((X R k * (prod A W R k * G k) : ℝ) : EReal)) e'
theorem r33 (hA : Blocks x0 A) (hW : Holds x1 W) (hX : Holds x2 X) (hG : ∀ i : S1x1024.Idx, @Eq EReal (x3 i) ((G (i 1) : ℝ) : EReal)) (i : S2048.Idx) :
    @Eq EReal (val_main_v35 (F := Ideal) x0 x1 x2 x3 i)
      (((∑ k, X (i 0) k * (prod A W (i 0) k * G k)) * (-(1 / 2) * (rinv (X (i 0)) / ms (X (i 0)))) / 1024 : ℝ) : EReal) := by
  rw [val_main_v35_apply]
  refine (add_r (x := 0) (y := ∑ _k : Fin 1, (∑ k, X (i 0) k * (prod A W (i 0) k * G k)) * (-(1 / 2) * (rinv (X (i 0)) / ms (X (i 0)))) / 1024) zero_r (sum_r fun k => ?_)).trans
    (congrArg Real.toEReal ((zero_add _).trans (Fin.sum_univ_one _)))
  rw [val_main_v34_apply, val_main_v33_apply, val_main_cst_5_apply, val_main_v32_apply]
  exact div_r (mul_r (r27 hA hW hX hG (idx_main_v35 i k)) (r10 hX (idx_main_v35 i k))) width_eq (by norm_num)
/-- The frames' gradient. -/
theorem r39 (hA : Blocks x0 A) (hW : Holds x1 W) (hX : Holds x2 X) (hG : ∀ i : S1x1024.Idx, @Eq EReal (x3 i) ((G (i 1) : ℝ) : EReal)) (i : S2048x1024.Idx) :
    @Eq EReal (val_main_v41 (F := Ideal) x0 x1 x2 x3 x4 i) ((x4 i : EReal) + ((back (X (i 0)) (fun k => prod A W (i 0) k * G k) (i 1) : ℝ) : EReal)) := by
  rw [val_main_v41_apply, val_main_v40_apply, val_main_v38_apply, val_main_v39_apply, val_main_v31_apply, val_main_v30_apply, val_main_v37_apply, val_main_v36_apply]
  refine congrArg (fun b : EReal => (x4 i : EReal) + b) ?_
  exact (add_r (add_r (mul_r (r24 hA hW hG i) (r7 hX (idx_main_v30 i))) (mul_r (hX i) (r33 hA hW hX hG (idx_main_v36 i)))) (mul_r (r33 hA hW hX hG (idx_main_v36 i)) (hX i))).trans
    (congrArg Real.toEReal (chain_rule (X (i 0)) (fun k => prod A W (i 0) k * G k) (i 1) rfl))

end Cert.MmDH2RmsRefIdeal.Head

namespace Cert.MmDH2RmsIdeal.Head

open Cert.MmDH2RmsIdeal Cert.MmDH2RmsIdeal.Gen Cert.MmDH2RmsIdeal.Value Idealize.ShloMosaic Idealize.ShloMosaic.TcCoe Cert.Gla Cert.Norm Cert.Products
open Cert.MmDH2RmsRefIdeal.Head (prod Blocks)
open Idealize.ShloMosaic.Pipeline (Dat)

/-! ## A grid point, on tiles that hold reals -/

section
variable {x0 : FVec Ideal S2x4x256x704 .bf16} {x1 : FVec Ideal S5632x1024 .bf16} {x2 : FVec Ideal S256x1024 .f32} {x3 : FVec Ideal S1x1024 .f32} {x4 : FVec Ideal S256x1024 .f32}
variable {A : Fin 256 → Fin 5632 → ℝ} {W : Fin 5632 → Fin 1024 → ℝ} {X : Fin 256 → Fin 1024 → ℝ} {G : Fin 1024 → ℝ}

/-- One column block's part of the product. -/
def part {n : Nat} (A : Fin n → Fin 5632 → ℝ) (W : Fin 5632 → Fin 1024 → ℝ) (o : Nat) (ho : o + 704 ≤ 5632) (i : Fin n) (j : Fin 1024) : ℝ :=
  ∑ k : Fin 704, A i ⟨o + k.val, by omega⟩ * W ⟨o + k.val, by omega⟩ j

theorem sum_parts {n : Nat} (A : Fin n → Fin 5632 → ℝ) (W : Fin 5632 → Fin 1024 → ℝ) (i : Fin n) (j : Fin 1024) :
    (((((((part A W 0 (by omega) i j + part A W 704 (by omega) i j) + part A W 1408 (by omega) i j) + part A W 2112 (by omega) i j) + part A W 2816 (by omega) i j) + part A W 3520 (by omega) i j) + part A W 4224 (by omega) i j) + part A W 4928 (by omega) i j) = ∑ k, A i k * W k j := by
  rw [← (finProdFinEquiv (m := 8) (n := 704)).sum_comp, Fintype.sum_prod_type, Fin.sum_univ_eight]
  have h : ∀ (b : Fin 8) (o : Nat) (ho : o + 704 ≤ 5632), o = 704 * b.val →
      part A W o ho i j = ∑ k : Fin 704, A i (finProdFinEquiv (m := 8) (n := 704) (b, k)) * W (finProdFinEquiv (m := 8) (n := 704) (b, k)) j := fun b o ho e =>
    Finset.sum_congr rfl fun k _ => congrArg (fun l => A i l * W l j) (Fin.ext (by show o + k.val = k.val + 704 * b.val; omega))
  rw [h 0 0 (by omega) rfl, h 1 704 (by omega) rfl, h 2 1408 (by omega) rfl, h 3 2112 (by omega) rfl, h 4 2816 (by omega) rfl, h 5 3520 (by omega) rfl, h 6 4224 (by omega) rfl, h 7 4928 (by omega) rfl]

theorem part_r {y0 : FVec Ideal S1x1x256x704 .bf16} {y1 : FVec Ideal S704x1024 .bf16} (o : Nat) (ho : o + 704 ≤ 5632)
    (h0 : ∀ (i : S1x1x256x704.Idx) (k : Fin 5632), k.val = o + (i 3).val → @Eq EReal (y0 i) ((A (i 2) k : ℝ) : EReal))
    (h1 : ∀ (i : S704x1024.Idx) (k : Fin 5632), k.val = o + (i 0).val → @Eq EReal (y1 i) ((W k (i 1) : ℝ) : EReal)) (j : S256x1024.Idx) :
    @Eq EReal (matmul (F := Ideal) dot_S256x704_S704x1024_S256x1024_1_0_0_1_n_n none (shapeCast S256x704 y0 shapeCasts_S1x1x256x704_S256x704) y1 (constant S256x1024 .f32 0x00000000#32) j)
      ((part A W o ho (j 0) (j 1) : ℝ) : EReal) := by
  refine (mm (φ₁ := .bf16) (φ₂ := .bf16) (K := 704) dot_S256x704_S704x1024_S256x1024_1_0_0_1_n_n rfl rfl none _ _ j (fun k => ix2 (j 0) k) (fun k => ix2 k (j 1))
    (fun k => idx2 rfl rfl) (fun k => idx2 rfl rfl)).trans (dot_r (fun k => ?_) fun k => h1 (ix2 k (j 1)) ⟨o + k.val, by omega⟩ rfl)
  refine (shapeCast_apply y0 _ (ix2 (j 0) k) (ix4 (0 : Fin 1) (0 : Fin 1) (j 0) k) ?_).trans (h0 (ix4 (0 : Fin 1) (0 : Fin 1) (j 0) k) ⟨o + k.val, by omega⟩ rfl)
  rw [Shape.rowMajor_val_four, Shape.rowMajor_val_two]
  show ((0 * 1 + 0) * 256 + (j 0).val) * 704 + k.val = (j 0).val * 704 + k.val
  omega

theorem block_r (hA : Blocks x0 A) (a b o : Nat) (inb : ∀ x, (![a, b, 0, 0] : Fin 4 → Nat) x + S1x1x256x704.size x ≤ S2x4x256x704.size x) (ho : o = (a * 4 + b) * 704)
    (i : S1x1x256x704.Idx) (k : Fin 5632) (hk : k.val = o + (i 3).val) :
    @Eq EReal ((View.ld x0 (Rect.unit (s := S2x4x256x704) ![a, b, 0, 0] S1x1x256x704.size inb) : Vec Ideal S1x1x256x704 .bf16) i) ((A (i 2) k : ℝ) : EReal) := by
  have i0 : (i 0).val < 1 := (i 0).isLt
  have i1 : (i 1).val < 1 := (i 1).isLt
  refine (hA _ k ?_).trans (congrArg (fun R => ((A R k : ℝ) : EReal)) (Fin.ext ?_))
  · show k.val = ((a + 1 * (i 0).val) * 4 + (b + 1 * (i 1).val)) * 704 + (0 + 1 * (i 3).val)
    rw [hk, ho]; omega
  · show 0 + 1 * (i 2).val = (i 2).val; omega
theorem weights_r (hW : Holds x1 W) (o : Nat) (inb : ∀ x, (![o, 0] : Fin 2 → Nat) x + S704x1024.size x ≤ S5632x1024.size x)
    (i : S704x1024.Idx) (k : Fin 5632) (hk : k.val = o + (i 0).val) :
    @Eq EReal ((View.ld x1 (Rect.unit (s := S5632x1024) ![o, 0] S704x1024.size inb) : Vec Ideal S704x1024 .bf16) i) ((W k (i 1) : ℝ) : EReal) := by
  refine (hW _).trans (congrArg Real.toEReal (congrArg₂ W (Fin.ext ?_) (Fin.ext ?_)))
  · show o + 1 * (i 0).val = k.val; omega
  · show 0 + 1 * (i 1).val = (i 1).val; omega

/-- The kernel's product, column block by column block. -/
def product (x0 : FVec Ideal S2x4x256x704 .bf16) (x1 : FVec Ideal S5632x1024 .bf16) : FVec Ideal S256x1024 .f32 :=
  k0_pay6 (F := Ideal) (k0_pay5 (F := Ideal) (View.ld x0 (Rect.unit (s := S2x4x256x704) ![0, 0, 0, 0] S1x1x256x704.size inb_S2x4x256x704_S1x1x256x704_0_0_0_0)) (View.ld x1 (Rect.unit (s := S5632x1024) ![0, 0] S704x1024.size inb_S5632x1024_S704x1024_0_0))
    (View.ld x0 (Rect.unit (s := S2x4x256x704) ![0, 1, 0, 0] S1x1x256x704.size inb_S2x4x256x704_S1x1x256x704_0_1_0_0)) (View.ld x1 (Rect.unit (s := S5632x1024) ![704, 0] S704x1024.size inb_S5632x1024_S704x1024_704_0))
    (View.ld x0 (Rect.unit (s := S2x4x256x704) ![0, 2, 0, 0] S1x1x256x704.size inb_S2x4x256x704_S1x1x256x704_0_2_0_0)) (View.ld x1 (Rect.unit (s := S5632x1024) ![1408, 0] S704x1024.size inb_S5632x1024_S704x1024_1408_0))
    (View.ld x0 (Rect.unit (s := S2x4x256x704) ![0, 3, 0, 0] S1x1x256x704.size inb_S2x4x256x704_S1x1x256x704_0_3_0_0)) (View.ld x1 (Rect.unit (s := S5632x1024) ![2112, 0] S704x1024.size inb_S5632x1024_S704x1024_2112_0))
    (View.ld x0 (Rect.unit (s := S2x4x256x704) ![1, 0, 0, 0] S1x1x256x704.size inb_S2x4x256x704_S1x1x256x704_1_0_0_0)) (View.ld x1 (Rect.unit (s := S5632x1024) ![2816, 0] S704x1024.size inb_S5632x1024_S704x1024_2816_0)))
    (View.ld x0 (Rect.unit (s := S2x4x256x704) ![1, 1, 0, 0] S1x1x256x704.size inb_S2x4x256x704_S1x1x256x704_1_1_0_0)) (View.ld x1 (Rect.unit (s := S5632x1024) ![3520, 0] S704x1024.size inb_S5632x1024_S704x1024_3520_0))
    (View.ld x0 (Rect.unit (s := S2x4x256x704) ![1, 2, 0, 0] S1x1x256x704.size inb_S2x4x256x704_S1x1x256x704_1_2_0_0)) (View.ld x1 (Rect.unit (s := S5632x1024) ![4224, 0] S704x1024.size inb_S5632x1024_S704x1024_4224_0))
    (View.ld x0 (Rect.unit (s := S2x4x256x704) ![1, 3, 0, 0] S1x1x256x704.size inb_S2x4x256x704_S1x1x256x704_1_3_0_0)) (View.ld x1 (Rect.unit (s := S5632x1024) ![4928, 0] S704x1024.size inb_S5632x1024_S704x1024_4928_0))

theorem product_r (hA : Blocks x0 A) (hW : Holds x1 W) : Holds (product x0 x1) fun i j => ∑ k, A i k * W k j := fun j =>
  (add_r (add_r (add_r (add_r (add_r (add_r (add_r (part_r 0 (by omega) (block_r hA 0 0 0 _ rfl) (weights_r hW 0 _) j) (part_r 704 (by omega) (block_r hA 0 1 704 _ rfl) (weights_r hW 704 _) j)) (part_r 1408 (by omega) (block_r hA 0 2 1408 _ rfl) (weights_r hW 1408 _) j)) (part_r 2112 (by omega) (block_r hA 0 3 2112 _ rfl) (weights_r hW 2112 _) j)) (part_r 2816 (by omega) (block_r hA 1 0 2816 _ rfl) (weights_r hW 2816 _) j)) (part_r 3520 (by omega) (block_r hA 1 1 3520 _ rfl) (weights_r hW 3520 _) j)) (part_r 4224 (by omega) (block_r hA 1 2 4224 _ rfl) (weights_r hW 4224 _) j)) (part_r 4928 (by omega) (block_r hA 1 3 4928 _ rfl) (weights_r hW 4928 _) j)).trans (congrArg Real.toEReal (sum_parts A W (j 0) (j 1)))
theorem inverse_r (hX : Holds x2 X) (i : S256x1.Idx) : @Eq EReal (k0_pay7 (F := Ideal) x2 i) ((rinv (X (i 0)) : ℝ) : EReal) := inv_r hX _ _ i
theorem unit_r (hX : Holds x2 X) : Holds (k0_pay8 (F := Ideal) x2) fun i k => X i k * rinv (X i) := normed_r hX (inverse_r hX) _

/-- A point's part of the gain's gradient. -/
def gainOf (x0 : FVec Ideal S2x4x256x704 .bf16) (x1 : FVec Ideal S5632x1024 .bf16) (x2 : FVec Ideal S256x1024 .f32) : FVec Ideal S1x1024 .f32 :=
  k0_pay1 (F := Ideal) (product x0 x1) (k0_pay8 (F := Ideal) x2)
/-- A point's frames. -/
def framesOf (x0 : FVec Ideal S2x4x256x704 .bf16) (x1 : FVec Ideal S5632x1024 .bf16) (x2 : FVec Ideal S256x1024 .f32) (x3 : FVec Ideal S1x1024 .f32) (x4 : FVec Ideal S256x1024 .f32) : FVec Ideal S256x1024 .f32 :=
  k0_pay2 (F := Ideal) x4 (k0_pay7 (F := Ideal) x2) (k0_pay8 (F := Ideal) x2) (mulf (product x0 x1) (broadcastTo S256x1024 x3 broadcasts_S1x1024_S256x1024))

theorem gain_at (hA : Blocks x0 A) (hW : Holds x1 W) (hX : Holds x2 X) (j : S1x1024.Idx) :
    @Eq EReal (gainOf x0 x1 x2 j) ((∑ t, (∑ k, A t k * W k (j 1)) * (X t (j 1) * rinv (X t)) : ℝ) : EReal) :=
  gain_r (product_r hA hW) (unit_r hX) _ _ j
theorem frames_at (hA : Blocks x0 A) (hW : Holds x1 W) (hX : Holds x2 X) (hG : ∀ i : S1x1024.Idx, @Eq EReal (x3 i) ((G (i 1) : ℝ) : EReal)) (j : S256x1024.Idx) :
    @Eq EReal (framesOf x0 x1 x2 x3 x4 j) ((x4 j : EReal) + ((back (X (j 0)) (fun k => (∑ l, A (j 0) l * W l k) * G k) (j 1) : ℝ) : EReal)) := by
  unfold framesOf k0_pay2
  dsimp only
  rw [shapeCast_self]
  exact congrArg (fun b : EReal => (x4 j : EReal) + b)
    (back_r (D := fun i k => (∑ l, A i l * W l k) * G k) (gained_r (product_r hA hW) hG _) (unit_r hX) (inverse_r hX) _ _ _ _ j)

theorem frames_first (c : Dev nD) (i : grid0.Coords) (a1 : Memref sig .tc .vmem S2x4x256x704 .bf16) (h1 : a1.IsWhole) (a2 : Memref sig .tc .vmem S5632x1024 .bf16) (h2 : a2.IsWhole) (a3 : Memref sig .tc .vmem S256x1024 .f32) (h3 : a3.IsWhole) (a4 : Memref sig .tc .vmem S1x1024 .f32) (h4 : a4.IsWhole) (a5 : Memref sig .tc .vmem S256x1024 .f32) (h5 : a5.IsWhole) (a6 : Memref sig .tc .vmem S256x1024 .f32) (h6 : a6.IsWhole) (a7 : Memref sig .tc .vmem S1x1024 .f32) (h7 : a7.IsWhole) (hc0 : cond0_0 i) (hc1 : ¬cond0_1 i) (x0 : Vec Ideal S2x4x256x704 .bf16) (x1 : Vec Ideal S5632x1024 .bf16) (x2 : Vec Ideal S256x1024 .f32) (x3 : Vec Ideal S1x1024 .f32) (x4 : Vec Ideal S256x1024 .f32) :
    out0_A_5 c i a1 h1 a2 h2 a3 h3 a4 h4 a5 h5 a6 h6 a7 h7 hc0 hc1 x0 x1 x2 x3 x4 = framesOf x0 x1 x2 x3 x4 := by
  unfold out0_A_5
  rw [View.read_writes_eq_canon _ _ _ (cover0_A_5 c i a1 h1 a2 h2 a3 h3 a4 h4 a5 h5 a6 h6 a7 h7 hc0 hc1 x0 x1 x2 x3 x4)]
  unfold kernelRun0_A
  dsimp only
  sl_unfold_words
  rw [View.canon_unit_zero zeros2]
  simp only [View.readAt_eq_ld, h1.read_unread, h2.read_unread, h3.read_unread, h4.read_unread, h5.read_unread, View.ld_unit_zero (S := S256x1024) zeros2, View.ld_unit_zero (S := S1x1024) zeros2]
  rfl

theorem gain_first (c : Dev nD) (i : grid0.Coords) (a1 : Memref sig .tc .vmem S2x4x256x704 .bf16) (h1 : a1.IsWhole) (a2 : Memref sig .tc .vmem S5632x1024 .bf16) (h2 : a2.IsWhole) (a3 : Memref sig .tc .vmem S256x1024 .f32) (h3 : a3.IsWhole) (a4 : Memref sig .tc .vmem S1x1024 .f32) (h4 : a4.IsWhole) (a5 : Memref sig .tc .vmem S256x1024 .f32) (h5 : a5.IsWhole) (a6 : Memref sig .tc .vmem S256x1024 .f32) (h6 : a6.IsWhole) (a7 : Memref sig .tc .vmem S1x1024 .f32) (h7 : a7.IsWhole) (hc0 : cond0_0 i) (hc1 : ¬cond0_1 i) (x0 : Vec Ideal S2x4x256x704 .bf16) (x1 : Vec Ideal S5632x1024 .bf16) (x2 : Vec Ideal S256x1024 .f32) (x3 : Vec Ideal S1x1024 .f32) (x4 : Vec Ideal S256x1024 .f32) :
    out0_A_6 c i a1 h1 a2 h2 a3 h3 a4 h4 a5 h5 a6 h6 a7 h7 hc0 hc1 x0 x1 x2 x3 x4 = gainOf x0 x1 x2 := by
  unfold out0_A_6
  rw [View.read_writes_eq_canon _ _ _ (cover0_A_6 c i a1 h1 a2 h2 a3 h3 a4 h4 a5 h5 a6 h6 a7 h7 hc0 hc1 x0 x1 x2 x3 x4)]
  unfold kernelRun0_A
  dsimp only
  sl_unfold_words
  rw [View.canon_unit_zero zeros2]
  unfold k0_pay3
  simp only [View.readAt_eq_ld, h1.read_unread, h2.read_unread, h3.read_unread, h4.read_unread, h5.read_unread, View.ld_unit_zero (S := S256x1024) zeros2, View.ld_unit_zero (S := S1x1024) zeros2, h7.read_unread, shapeCast_self]
  rfl

theorem frames_next (c : Dev nD) (i : grid0.Coords) (a1 : Memref sig .tc .vmem S2x4x256x704 .bf16) (h1 : a1.IsWhole) (a2 : Memref sig .tc .vmem S5632x1024 .bf16) (h2 : a2.IsWhole) (a3 : Memref sig .tc .vmem S256x1024 .f32) (h3 : a3.IsWhole) (a4 : Memref sig .tc .vmem S1x1024 .f32) (h4 : a4.IsWhole) (a5 : Memref sig .tc .vmem S256x1024 .f32) (h5 : a5.IsWhole) (a6 : Memref sig .tc .vmem S256x1024 .f32) (h6 : a6.IsWhole) (a7 : Memref sig .tc .vmem S1x1024 .f32) (h7 : a7.IsWhole) (hc0 : ¬cond0_0 i) (hc1 : cond0_1 i) (x0 : Vec Ideal S2x4x256x704 .bf16) (x1 : Vec Ideal S5632x1024 .bf16) (x2 : Vec Ideal S256x1024 .f32) (x3 : Vec Ideal S1x1024 .f32) (x4 : Vec Ideal S256x1024 .f32) (xo : Vec Ideal S1x1024 .f32) :
    out0_B_5 c i a1 h1 a2 h2 a3 h3 a4 h4 a5 h5 a6 h6 a7 h7 hc0 hc1 x0 x1 x2 x3 x4 xo = framesOf x0 x1 x2 x3 x4 := by
  unfold out0_B_5
  rw [View.read_writes_eq_canon _ _ _ (cover0_B_5 c i a1 h1 a2 h2 a3 h3 a4 h4 a5 h5 a6 h6 a7 h7 hc0 hc1 x0 x1 x2 x3 x4 xo)]
  unfold kernelRun0_B
  dsimp only
  sl_unfold_words
  rw [View.canon_unit_zero zeros2]
  simp only [View.readAt_eq_ld, h1.read_unread, h2.read_unread, h3.read_unread, h4.read_unread, h5.read_unread, View.ld_unit_zero (S := S256x1024) zeros2, View.ld_unit_zero (S := S1x1024) zeros2]
  rfl

theorem gain_next (c : Dev nD) (i : grid0.Coords) (a1 : Memref sig .tc .vmem S2x4x256x704 .bf16) (h1 : a1.IsWhole) (a2 : Memref sig .tc .vmem S5632x1024 .bf16) (h2 : a2.IsWhole) (a3 : Memref sig .tc .vmem S256x1024 .f32) (h3 : a3.IsWhole) (a4 : Memref sig .tc .vmem S1x1024 .f32) (h4 : a4.IsWhole) (a5 : Memref sig .tc .vmem S256x1024 .f32) (h5 : a5.IsWhole) (a6 : Memref sig .tc .vmem S256x1024 .f32) (h6 : a6.IsWhole) (a7 : Memref sig .tc .vmem S1x1024 .f32) (h7 : a7.IsWhole) (hc0 : ¬cond0_0 i) (hc1 : cond0_1 i) (x0 : Vec Ideal S2x4x256x704 .bf16) (x1 : Vec Ideal S5632x1024 .bf16) (x2 : Vec Ideal S256x1024 .f32) (x3 : Vec Ideal S1x1024 .f32) (x4 : Vec Ideal S256x1024 .f32) (xo : Vec Ideal S1x1024 .f32) :
    out0_B_6 c i a1 h1 a2 h2 a3 h3 a4 h4 a5 h5 a6 h6 a7 h7 hc0 hc1 x0 x1 x2 x3 x4 xo = addf xo (gainOf x0 x1 x2) := by
  unfold out0_B_6
  rw [View.read_writes_eq_canon _ _ _ (cover0_B_6 c i a1 h1 a2 h2 a3 h3 a4 h4 a5 h5 a6 h6 a7 h7 hc0 hc1 x0 x1 x2 x3 x4 xo)]
  unfold kernelRun0_B
  dsimp only
  sl_unfold_words
  rw [View.canon_unit_zero zeros2]
  unfold k0_pay4
  simp only [View.readAt_eq_ld, h1.read_unread, h2.read_unread, h3.read_unread, h4.read_unread, h5.read_unread, View.ld_unit_zero (S := S256x1024) zeros2, View.ld_unit_zero (S := S1x1024) zeros2, h7.read_unread, shapeCast_self]
  rfl

end

/-! ## The blocks of the arrays -/

theorem index0 : ∀ t : Fin cfg0.N, win0_0.index t 0 = 0 ∧ win0_0.index t 1 = 0 ∧ win0_0.index t 2 = t.val ∧ win0_0.index t 3 = 0 :=
  (by decide +kernel : ∀ t : Fin grid0.N, win0_0.index t 0 = 0 ∧ win0_0.index t 1 = 0 ∧ win0_0.index t 2 = t.val ∧ win0_0.index t 3 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)

variable (m : (ℓ : Loc nD τ sig) → Buf (Elt Ideal) ℓ) (c : Dev nD)
variable {A : Fin 2048 → Fin 5632 → ℝ} {W : Fin 5632 → Fin 1024 → ℝ} {X : Fin 2048 → Fin 1024 → ℝ} {G : Fin 1024 → ℝ}

/-- The arguments hold reals: all but the gradient that is added at the end. -/
structure Reals (A : Fin 2048 → Fin 5632 → ℝ) (W : Fin 5632 → Fin 1024 → ℝ) (X : Fin 2048 → Fin 1024 → ℝ) (G : Fin 1024 → ℝ) : Prop where
  rows : Blocks (m ((c : Thread nD τ).loc main_arg0)) A
  weights : Holds (m ((c : Thread nD τ).loc main_arg1)) W
  frames : Holds (m ((c : Thread nD τ).loc main_arg2)) X
  gain : ∀ i : S1x1024.Idx, @Eq EReal (m ((c : Thread nD τ).loc main_arg3) i) ((G (i 1) : ℝ) : EReal)

/-- Row `i` of point `t`'s tile. -/
def row (t : Fin cfg0.N) (i : Fin 256) : Fin 2048 := ⟨256 * t.val + i.val, by have := lt_of_lt_of_eq t.isLt N_0; omega⟩

variable {m c} (H : Reals m c A W X G)
include H

theorem rows_at (t : Fin cfg0.N) : Blocks (iblk m c 0 t) fun i k => A (row t i) k := fun j k hk => by
  unfold iblk
  rw [View.read_apply]
  show @Eq EReal (V m c main_arg0 _) _
  rw [V_main_arg0]
  obtain ⟨e0, e1, e2, e3⟩ := index0 t
  refine (H.rows _ k ?_).trans (congrArg (fun R => ((A R k : ℝ) : EReal)) (Fin.ext ?_))
  · show k.val = ((win0_0.index t 0 * 2 + 1 * (j 0).val) * 4 + (win0_0.index t 1 * 4 + 1 * (j 1).val)) * 704 + (win0_0.index t 3 * 704 + 1 * (j 3).val)
    rw [e0, e1, e3, hk]; omega
  · show win0_0.index t 2 * 256 + 1 * (j 2).val = 256 * t.val + (j 2).val; omega
theorem weights_at (t : Fin cfg0.N) : Holds (iblk m c 1 t) W := fun j => by
  unfold iblk
  rw [View.read_apply]
  show @Eq EReal (V m c main_arg1 _) _
  rw [V_main_arg1]
  obtain ⟨e0, e1⟩ := index1 t
  refine (H.weights _).trans (congrArg Real.toEReal (congrArg₂ W (Fin.ext ?_) (Fin.ext ?_)))
  · show win0_1.index t 0 * 5632 + 1 * (j 0).val = (j 0).val; omega
  · show win0_1.index t 1 * 1024 + 1 * (j 1).val = (j 1).val; omega
theorem frames_of (t : Fin cfg0.N) : Holds (iblk m c 2 t) fun i k => X (row t i) k := fun j => by
  unfold iblk
  rw [View.read_apply]
  show @Eq EReal (V m c main_arg2 _) _
  rw [V_main_arg2]
  obtain ⟨e0, e1⟩ := index2 t
  refine (H.frames _).trans (congrArg Real.toEReal (congrArg₂ X (Fin.ext ?_) (Fin.ext ?_)))
  · show win0_2.index t 0 * 256 + 1 * (j 0).val = 256 * t.val + (j 0).val; omega
  · show win0_2.index t 1 * 1024 + 1 * (j 1).val = (j 1).val; omega
theorem gain_of (t : Fin cfg0.N) (j : S1x1024.Idx) : @Eq EReal (iblk m c 3 t j) ((G (j 1) : ℝ) : EReal) := by
  unfold iblk
  rw [View.read_apply]
  show @Eq EReal (V m c main_arg3 _) _
  rw [V_main_arg3]
  obtain ⟨e0, e1⟩ := index3 t
  refine (H.gain _).trans (congrArg Real.toEReal (congrArg G (Fin.ext ?_)))
  show win0_3.index t 1 * 1024 + 1 * (j 1).val = (j 1).val; omega
omit H in
theorem past_of (t : Fin cfg0.N) (j : S256x1024.Idx) : @Eq EReal (iblk m c 4 t j) (m ((c : Thread nD τ).loc main_arg4) (ix2 (row t (j 0)) (j 1))) := by
  unfold iblk
  rw [View.read_apply]
  show @Eq EReal (V m c main_arg4 _) _
  rw [V_main_arg4]
  obtain ⟨e0, e1⟩ := index4 t
  refine congrArg _ (idx2 ?_ ?_)
  · show win0_4.index t 0 * 256 + 1 * (j 0).val = 256 * t.val + (j 0).val; omega
  · show win0_4.index t 1 * 1024 + 1 * (j 1).val = (j 1).val; omega

/-! ## What the points leave -/

omit H in
theorem same_point (n n' : Nat) (h : n < cfg0.N) (h' : n' < cfg0.N) (e : n = n') : outsAt0 m c n h = outsAt0 m c n' h' := by subst e; rfl

omit H in
/-- The frames' gradient, as an array. -/
def frames (past : S2048x1024.Idx → EReal) (A : Fin 2048 → Fin 5632 → ℝ) (W : Fin 5632 → Fin 1024 → ℝ) (X : Fin 2048 → Fin 1024 → ℝ) (G : Fin 1024 → ℝ) (i : S2048x1024.Idx) : EReal :=
  past i + ((back (X (i 0)) (fun k => prod A W (i 0) k * G k) (i 1) : ℝ) : EReal)
omit H in
/-- The gain's gradient, as an array. -/
def gain (A : Fin 2048 → Fin 5632 → ℝ) (W : Fin 5632 → Fin 1024 → ℝ) (X : Fin 2048 → Fin 1024 → ℝ) (i : S1x1024.Idx) : EReal :=
  ((∑ R, prod A W R (i 1) * (X R (i 1) * rinv (X R)) : ℝ) : EReal)

theorem frames_point (t : Fin cfg0.N) (j : S256x1024.Idx) : @Eq EReal ((outsAt0 m c t.val t.isLt).1 j) (frames (m ((c : Thread nD τ).loc main_arg4)) A W X G (ix2 (row t (j 0)) (j 1))) := by
  have t8 : t.val < 8 := lt_of_lt_of_eq t.isLt N_0
  have h := (frames_at (rows_at H t) (weights_at H t) (frames_of H t) (gain_of H t) (x4 := iblk m c 4 t) j).trans
    (congrArg (fun a : EReal => a + ((back (X (row t (j 0))) (fun k => prod A W (row t (j 0)) k * G k) (j 1) : ℝ) : EReal)) (past_of t j))
  by_cases h0 : t.val = 0
  · rw [outsAt0_A m c t (by omega) (by omega)]
    dsimp only
    rw [frames_first]
    exact h
  · rw [outsAt0_B m c t (by omega) (by omega)]
    dsimp only
    rw [frames_next]
    exact h

omit H in
/-- A row's part of the gain's gradient. -/
def gainRow (A : Fin 2048 → Fin 5632 → ℝ) (W : Fin 5632 → Fin 1024 → ℝ) (X : Fin 2048 → Fin 1024 → ℝ) (j : Fin 1024) (R : Fin 2048) : ℝ :=
  prod A W R j * (X R j * rinv (X R))
omit H in
/-- A tile's part of the gain's gradient. -/
def gainTile (A : Fin 2048 → Fin 5632 → ℝ) (W : Fin 5632 → Fin 1024 → ℝ) (X : Fin 2048 → Fin 1024 → ℝ) (j : Fin 1024) (t : Nat) : ℝ :=
  ∑ i : Fin 256, if h : 256 * t + i.val < 2048 then gainRow A W X j ⟨256 * t + i.val, h⟩ else 0

theorem gain_tile (t : Fin cfg0.N) (j : S1x1024.Idx) : @Eq EReal (gainOf (iblk m c 0 t) (iblk m c 1 t) (iblk m c 2 t) j) ((gainTile A W X (j 1) t.val : ℝ) : EReal) := by
  have t8 : t.val < 8 := lt_of_lt_of_eq t.isLt N_0
  refine (gain_at (rows_at H t) (weights_at H t) (frames_of H t) j).trans (congrArg Real.toEReal (Finset.sum_congr rfl fun i _ => ?_))
  have hi := i.isLt
  rw [dif_pos (by omega)]
  rfl

theorem gain_point (n : Nat) : ∀ (h : n < cfg0.N) (j : S1x1024.Idx),
    @Eq EReal ((outsAt0 m c n h).2 j) ((∑ t ∈ Finset.range (n + 1), gainTile A W X (j 1) t : ℝ) : EReal) := by
  induction n with
  | zero =>
    intro h j
    have e := outsAt0_A m c ⟨0, h⟩ (by rfl) (by dsimp only; omega)
    dsimp only at e
    rw [e]
    dsimp only
    rw [gain_first, Finset.sum_range_one]
    exact gain_tile H ⟨0, h⟩ j
  | succ n ih =>
    intro h j
    have h8 : n + 1 < 8 := lt_of_lt_of_eq h N_0
    have e := outsAt0_B m c ⟨n + 1, h⟩ (by dsimp only; omega) (by dsimp only; omega)
    dsimp only at e
    rw [e]
    dsimp only
    rw [gain_next, same_point (n + 1 - 1) n _ (by omega) (by omega), Finset.sum_range_succ _ (n + 1)]
    exact add_r (ih (by omega) j) (gain_tile H ⟨n + 1, h⟩ j)

/-! ## The arrays -/

theorem arr5 : (dats m 0 c).arrAt 5 cfg0.N = frames (m ((c : Thread nD τ).loc main_arg4)) A W X G := by
  refine (dats m 0 c).arrAt_eq_of_cover 5 _ (fun t _ => ?_) fun i => ?_
  · rw [flushed5]
    funext j
    rw [View.read_apply]
    obtain ⟨e0, e1⟩ := index5 t
    refine (frames_point H t j).trans (congrArg (frames (m ((c : Thread nD τ).loc main_arg4)) A W X G) (idx2 ?_ ?_))
    · show 256 * t.val + (j 0).val = win0_5.index t 0 * 256 + 1 * (j 0).val; omega
    · show (j 1).val = win0_5.index t 1 * 1024 + 1 * (j 1).val; omega
  · have i0 : (i 0).val < 2048 := (i 0).isLt
    have i1 : (i 1).val < 1024 := (i 1).isLt
    let t : Fin cfg0.N := ⟨(i 0).val / 256, by show _ < 8; omega⟩
    refine ⟨t, flush0_5 t, ?_⟩
    obtain ⟨e0, e1⟩ := index5 t
    have h := ((cfg0.win 5).blk t).view.emb_mem_set (ix2 (⟨(i 0).val % 256, by omega⟩ : Fin 256) (⟨(i 1).val, i1⟩ : Fin 1024))
    refine Eq.mp (congrArg (· ∈ _) (idx2 ?_ ?_)) h
    · show win0_5.index t 0 * 256 + 1 * ((i 0).val % 256) = (i 0).val
      rw [e0]; show (i 0).val / 256 * 256 + _ = _; omega
    · show win0_5.index t 1 * 1024 + 1 * (i 1).val = (i 1).val; omega

theorem gain_whole (t : Fin cfg0.N) (h : t.val % 8 = 7) (j : S1x1024.Idx) : @Eq EReal ((outsAt0 m c t.val t.isLt).2 j) (gain A W X j) := by
  have t8 : t.val < 8 := lt_of_lt_of_eq t.isLt N_0
  have t7 : t.val + 1 = 8 := by omega
  refine (gain_point H t.val t.isLt j).trans (congrArg Real.toEReal ?_)
  rw [t7]
  exact (sum_rows8 (gainRow A W X (j 1))).symm

theorem arr6 : (dats m 0 c).arrAt 6 cfg0.N = gain A W X := by
  refine (dats m 0 c).arrAt_eq_of_cover 6 _ (fun t ht => ?_) fun i => ?_
  · rw [flushed6]
    funext j
    rw [View.read_apply]
    obtain ⟨e0, e1⟩ := index6 t
    refine (gain_whole H t ((flush0_6 t).mp ht) j).trans (congrArg (gain A W X) (idx2 ?_ ?_))
    · show (j 0).val = win0_6.index t 0 * 1 + 1 * (j 0).val; omega
    · show (j 1).val = win0_6.index t 1 * 1024 + 1 * (j 1).val; omega
  · have h7 : 7 < cfg0.N := lt_of_lt_of_eq (by decide) N_0.symm
    refine ⟨⟨7, h7⟩, (flush0_6 _).mpr rfl, ?_⟩
    obtain ⟨e0, e1⟩ := index6 ⟨7, h7⟩
    have h := ((cfg0.win 6).blk ⟨7, h7⟩).view.emb_mem_set (ix2 (⟨(i 0).val, (i 0).isLt⟩ : Fin 1) (⟨(i 1).val, (i 1).isLt⟩ : Fin 1024))
    refine Eq.mp (congrArg (· ∈ _) (idx2 ?_ ?_)) h
    · show win0_6.index ⟨7, h7⟩ 0 * 1 + 1 * (i 0).val = (i 0).val; omega
    · show win0_6.index ⟨7, h7⟩ 1 * 1024 + 1 * (i 1).val = (i 1).val; omega

end Cert.MmDH2RmsIdeal.Head

end
-- ==== Proof.NormCalls.lean ====
/- The two calls that take a gradient back through a norm: each runs, and where the arguments that enter its sums are finite its
   results are its reference's. -/
module

public import proofs.«01_k».proof.Defs
public import proofs.«01_k».proof.Proof.Finite
public import proofs.«01_k».proof.Proof.Gen.MmDHRms.Frame
public import proofs.«01_k».proof.Proof.Gen.MmDHRmsRefIdeal.Run
public import proofs.«01_k».proof.Proof.HRmsValue
public import proofs.«01_k».proof.Proof.Gen.MmDH2Rms.Frame
public import proofs.«01_k».proof.Proof.Gen.MmDH2RmsRefIdeal.Run
public import proofs.«01_k».proof.Proof.H2RmsValue
public import Idealize.ShloMosaic.Adequacy
public import Idealize.ShloMosaic.Init

@[expose] public section

noncomputable section

namespace Cert.Pre_finite_7

open Idealize.ShloMosaic Cert.Pre_finite

theorem conditions : Cert.Pre_finite_7.Facts where
  bitsLt_bf16_f32 := by decide
  bcast_S_S2048x5760 := by decide
  reducesTo_S2048x5760_S_d0_1 := by decide
  h_S_ := by decide
  bcast_S_S5760x1024 := by decide
  reducesTo_S5760x1024_S_d0_1 := by decide
  bcast_S_S2048x1024 := by decide
  reducesTo_S2048x1024_S_d0_1 := by decide
  bcast_S_S1x1024 := by decide
  reducesTo_S1x1024_S_d0_1 := by decide

/-- The first four arguments hold reals where the precondition is all ones. -/
theorem real_of_fn (x0 : FVec Ideal S2048x5760 .bf16) (x1 : FVec Ideal S5760x1024 .bf16) (x2 : FVec Ideal S2048x1024 .f32) (x3 : FVec Ideal S1x1024 .f32) (x4 : FVec Ideal S2048x1024 .f32)
    (h : @fn conditions Ideal _ x0 x1 x2 x3 x4 = fun _ => 1#1) :
    (∀ i, @Eq EReal (x0 i) (Real.toEReal (EReal.toReal (x0 i)))) ∧ (∀ i, @Eq EReal (x1 i) (Real.toEReal (EReal.toReal (x1 i))))
      ∧ (∀ i, @Eq EReal (x2 i) (Real.toEReal (EReal.toReal (x2 i)))) ∧ (∀ i, @Eq EReal (x3 i) (Real.toEReal (EReal.toReal (x3 i)))) := by
  have e := congrFun h (fun a : Fin 0 => a.elim0)
  simp only [fn, fn_part1] at e
  obtain ⟨e, e3⟩ := IntOp.andi_eq_one.1 e
  obtain ⟨e, e2⟩ := IntOp.andi_eq_one.1 e
  obtain ⟨e0, e1⟩ := IntOp.andi_eq_one.1 e
  refine ⟨fun i => real_of_lt _ ?_, fun i => real_of_lt _ ?_, fun i => real_of_lt _ ?_, fun i => real_of_lt _ ?_⟩
  · exact Host.reduce_andi_all _ _ _ _ _ e0 i
  · exact Host.reduce_andi_all _ _ _ _ _ e1 i
  · exact Host.reduce_andi_all _ _ _ _ _ e2 i
  · exact Host.reduce_andi_all _ _ _ _ _ e3 i

end Cert.Pre_finite_7

namespace Cert.Pre_finite_8

open Idealize.ShloMosaic Cert.Pre_finite

theorem conditions : Cert.Pre_finite_8.Facts where
  bitsLt_bf16_f32 := by decide
  bcast_S_S2x4x2048x704 := by decide
  reducesTo_S2x4x2048x704_S_d0_1_2_3 := by decide
  h_S_ := by decide
  bcast_S_S5632x1024 := by decide
  reducesTo_S5632x1024_S_d0_1 := by decide
  bcast_S_S2048x1024 := by decide
  reducesTo_S2048x1024_S_d0_1 := by decide
  bcast_S_S1x1024 := by decide
  reducesTo_S1x1024_S_d0_1 := by decide

/-- The first four arguments hold reals where the precondition is all ones. -/
theorem real_of_fn (x0 : FVec Ideal S2x4x2048x704 .bf16) (x1 : FVec Ideal S5632x1024 .bf16) (x2 : FVec Ideal S2048x1024 .f32) (x3 : FVec Ideal S1x1024 .f32) (x4 : FVec Ideal S2048x1024 .f32)
    (h : @fn conditions Ideal _ x0 x1 x2 x3 x4 = fun _ => 1#1) :
    (∀ i, @Eq EReal (x0 i) (Real.toEReal (EReal.toReal (x0 i)))) ∧ (∀ i, @Eq EReal (x1 i) (Real.toEReal (EReal.toReal (x1 i))))
      ∧ (∀ i, @Eq EReal (x2 i) (Real.toEReal (EReal.toReal (x2 i)))) ∧ (∀ i, @Eq EReal (x3 i) (Real.toEReal (EReal.toReal (x3 i)))) := by
  have e := congrFun h (fun a : Fin 0 => a.elim0)
  simp only [fn, fn_part1] at e
  obtain ⟨e, e3⟩ := IntOp.andi_eq_one.1 e
  obtain ⟨e, e2⟩ := IntOp.andi_eq_one.1 e
  obtain ⟨e0, e1⟩ := IntOp.andi_eq_one.1 e
  refine ⟨fun i => real_of_lt _ ?_, fun i => real_of_lt _ ?_, fun i => real_of_lt _ ?_, fun i => real_of_lt _ ?_⟩
  · exact Host.reduce_andi_all _ _ _ _ _ e0 i
  · exact Host.reduce_andi_all _ _ _ _ _ e1 i
  · exact Host.reduce_andi_all _ _ _ _ _ e2 i
  · exact Host.reduce_andi_all _ _ _ _ _ e3 i

end Cert.Pre_finite_8

namespace Cert.Proof

open Idealize.ShloMosaic Idealize.SL.Sem Idealize.ShloMosaic.StableHlo Idealize.ShloMosaic.TcCoe Cert.Norm

theorem all3 {A B C D : Type} (f : A → B → C → D) {a a' : A} {b b' : B} {c c' : C} (ha : a = a') (hb : b = b') (hc : c = c') : f a b c = f a' b' c' := by
  rw [ha, hb, hc]
theorem all5 {A B C D E R : Type} (f : A → B → C → D → E → R) {a a' : A} {b b' : B} {c c' : C} {d d' : D} {e e' : E}
    (ha : a = a') (hb : b = b') (hc : c = c') (hd : d = d') (he : e = e') : f a b c d e = f a' b' c' d' e' := by
  rw [ha, hb, hc, hd, he]

/-- An element of a table of reals, named by its row and its column. -/
theorem holds_of {a b : Nat} (f : Shape.Idx ⟨2, ![a, b]⟩ → EReal) (h : ∀ i, @Eq EReal (f i) (Real.toEReal (EReal.toReal (f i)))) :
    Holds f fun r k => EReal.toReal (f (ix2 r k)) := fun i =>
  (h i).trans (congrArg (fun j => Real.toEReal (EReal.toReal (f j))) (funext fun a => match a with
    | ⟨0, _⟩ => rfl
    | ⟨1, _⟩ => rfl))
/-- The same of a table of a single row. -/
theorem row_of {b : Nat} (f : Shape.Idx ⟨2, ![1, b]⟩ → EReal) (h : ∀ i, @Eq EReal (f i) (Real.toEReal (EReal.toReal (f i)))) (i : Shape.Idx ⟨2, ![1, b]⟩) :
    @Eq EReal (f i) (Real.toEReal (EReal.toReal (f (ix2 0 (i 1))))) :=
  (h i).trans (congrArg (fun j => Real.toEReal (EReal.toReal (f j))) (funext fun a => match a with
    | ⟨0, _⟩ => Subsingleton.elim (α := Fin 1) _ _
    | ⟨1, _⟩ => rfl))

theorem frame_p_MmDHRms : Cert.quiescent_MmDHRms := fun m ρ _ => Cert.MmDHRms.Gen.frame m ρ
theorem frame_pi_MmDHRms : Cert.quiescent_MmDHRmsIdeal := fun m ρ _ => Cert.MmDHRmsIdeal.Gen.frame m ρ
theorem frame_ri_MmDHRms : Cert.quiescent_MmDHRmsRefIdeal := fun m ρ _ =>
  (θ_run Cert.MmDHRmsRefIdeal.defs _ _).mono (fun r h => ⟨fun c => (h c).2.2, sem_eq_zero_of_no_sems (by decide) r.2⟩)
    (Cert.MmDHRmsRefIdeal.Value.run (F := Ideal) m ρ)

namespace MmDHRms

open Cert.MmDHRmsIdeal

/-- The reals of the four arguments on a device. -/
def rows (m : (ℓ : Loc Cert.MmDHRmsIdeal.nD Cert.MmDHRmsIdeal.τ Cert.MmDHRmsIdeal.sig) → Buf (Elt Ideal) ℓ) (c : Dev Cert.MmDHRmsIdeal.nD) (r : Fin 2048) (k : Fin 5760) : ℝ :=
  EReal.toReal (m ((c.tc : Thread nD τ).loc main_arg0) (ix2 r k))
def weights (m : (ℓ : Loc Cert.MmDHRmsIdeal.nD Cert.MmDHRmsIdeal.τ Cert.MmDHRmsIdeal.sig) → Buf (Elt Ideal) ℓ) (c : Dev Cert.MmDHRmsIdeal.nD) (r : Fin 5760) (k : Fin 1024) : ℝ :=
  EReal.toReal (m ((c.tc : Thread nD τ).loc main_arg1) (ix2 r k))
def frames (m : (ℓ : Loc Cert.MmDHRmsIdeal.nD Cert.MmDHRmsIdeal.τ Cert.MmDHRmsIdeal.sig) → Buf (Elt Ideal) ℓ) (c : Dev Cert.MmDHRmsIdeal.nD) (r : Fin 2048) (k : Fin 1024) : ℝ :=
  EReal.toReal (m ((c.tc : Thread nD τ).loc main_arg2) (ix2 r k))
def gain (m : (ℓ : Loc Cert.MmDHRmsIdeal.nD Cert.MmDHRmsIdeal.τ Cert.MmDHRmsIdeal.sig) → Buf (Elt Ideal) ℓ) (c : Dev Cert.MmDHRmsIdeal.nD) (k : Fin 1024) : ℝ :=
  EReal.toReal (m ((c.tc : Thread nD τ).loc main_arg3) (ix2 (0 : Fin 1) k))

theorem reals (m : (ℓ : Loc Cert.MmDHRmsIdeal.nD Cert.MmDHRmsIdeal.τ Cert.MmDHRmsIdeal.sig) → Buf (Elt Ideal) ℓ) (c : Dev Cert.MmDHRmsIdeal.nD) (h : Cert.Pre_MmDHRmsIdeal_finite_7 (hPre_finite_7 := Cert.Pre_finite_7.conditions) m) :
    Head.Reals m c (rows m c) (weights m c) (frames m c) (gain m c) := by
  obtain ⟨h0, h1, h2, h3⟩ := Cert.Pre_finite_7.real_of_fn _ _ _ _ _ (h c)
  exact ⟨holds_of _ h0, holds_of _ h1, holds_of _ h2, row_of _ h3⟩

end MmDHRms

/-- Both programs end with the frames' gradient and the gain's. -/
theorem algebraic_MmDHRms : Cert.algebraic_MmDHRmsIdeal_MmDHRmsRefIdeal_pre_finite_7 (hPre_finite_7 := Cert.Pre_finite_7.conditions) := by
  intro m ρ m' ρ' hpre hargs
  refine ⟨fun c => Cert.MmDHRmsIdeal.Head.frames (m ((c.tc : Thread Cert.MmDHRmsIdeal.nD Cert.MmDHRmsIdeal.τ).loc Cert.MmDHRmsIdeal.main_arg4)) (MmDHRms.rows m c) (MmDHRms.weights m c) (MmDHRms.frames m c) (MmDHRms.gain m c),
    fun c => Cert.MmDHRmsIdeal.Head.gain (MmDHRms.rows m c) (MmDHRms.weights m c) (MmDHRms.frames m c), ?_, ?_⟩
  · refine (θ_run Cert.MmDHRmsIdeal.defs _ _).mono (fun r h c => ?_) (Cert.MmDHRmsIdeal.Value.run_blocks (F := Ideal) m ρ)
    exact ⟨(h c).1.trans (Cert.MmDHRmsIdeal.Head.arr5 (MmDHRms.reals m c hpre)), (h c).2.1.trans (Cert.MmDHRmsIdeal.Head.arr6 (MmDHRms.reals m c hpre)), (h c).2.2⟩
  · refine (θ_run Cert.MmDHRmsRefIdeal.defs _ _).mono (fun r h c => ?_) (Cert.MmDHRmsRefIdeal.Value.run (F := Ideal) m' ρ')
    obtain ⟨e0, e1, e2, e3, e4⟩ := hargs c
    have H := MmDHRms.reals m c hpre
    refine ⟨(h c).1.trans ?_, (h c).2.1.trans ?_, (h c).2.2⟩
    · refine (Cert.MmDHRmsRefIdeal.Read.val_main_v39_eq (F := Ideal) m' c).trans ?_
      exact (all5 (Cert.MmDHRmsRefIdeal.Read.val_main_v39 (F := Ideal)) e0 e1 e2 e3 e4).trans (funext fun i => Cert.MmDHRmsRefIdeal.Head.r39 H.rows H.weights H.frames H.gain i)
    · refine (Cert.MmDHRmsRefIdeal.Read.val_main_v22_eq (F := Ideal) _ _ _).trans ?_
      exact (all3 (Cert.MmDHRmsRefIdeal.Read.val_main_v22 (F := Ideal)) e0 e1 e2).trans (funext fun i => Cert.MmDHRmsRefIdeal.Head.r22 H.rows H.weights H.frames i)

theorem frame_p_MmDH2Rms : Cert.quiescent_MmDH2Rms := fun m ρ _ => Cert.MmDH2Rms.Gen.frame m ρ
theorem frame_pi_MmDH2Rms : Cert.quiescent_MmDH2RmsIdeal := fun m ρ _ => Cert.MmDH2RmsIdeal.Gen.frame m ρ
theorem frame_ri_MmDH2Rms : Cert.quiescent_MmDH2RmsRefIdeal := fun m ρ _ =>
  (θ_run Cert.MmDH2RmsRefIdeal.defs _ _).mono (fun r h => ⟨fun c => (h c).2.2, sem_eq_zero_of_no_sems (by decide) r.2⟩)
    (Cert.MmDH2RmsRefIdeal.Value.run (F := Ideal) m ρ)

namespace MmDH2Rms

open Cert.MmDH2RmsIdeal

/-- The reals of the four arguments on a device. -/
def rows (m : (ℓ : Loc Cert.MmDH2RmsIdeal.nD Cert.MmDH2RmsIdeal.τ Cert.MmDH2RmsIdeal.sig) → Buf (Elt Ideal) ℓ) (c : Dev Cert.MmDH2RmsIdeal.nD) (r : Fin 2048) (k : Fin 5632) : ℝ :=
  EReal.toReal (m ((c.tc : Thread nD τ).loc main_arg0) (ix4 (⟨k.val / 2816, by omega⟩ : Fin 2) (⟨k.val / 704 % 4, by omega⟩ : Fin 4) r (⟨k.val % 704, by omega⟩ : Fin 704)))
def weights (m : (ℓ : Loc Cert.MmDH2RmsIdeal.nD Cert.MmDH2RmsIdeal.τ Cert.MmDH2RmsIdeal.sig) → Buf (Elt Ideal) ℓ) (c : Dev Cert.MmDH2RmsIdeal.nD) (r : Fin 5632) (k : Fin 1024) : ℝ :=
  EReal.toReal (m ((c.tc : Thread nD τ).loc main_arg1) (ix2 r k))
def frames (m : (ℓ : Loc Cert.MmDH2RmsIdeal.nD Cert.MmDH2RmsIdeal.τ Cert.MmDH2RmsIdeal.sig) → Buf (Elt Ideal) ℓ) (c : Dev Cert.MmDH2RmsIdeal.nD) (r : Fin 2048) (k : Fin 1024) : ℝ :=
  EReal.toReal (m ((c.tc : Thread nD τ).loc main_arg2) (ix2 r k))
def gain (m : (ℓ : Loc Cert.MmDH2RmsIdeal.nD Cert.MmDH2RmsIdeal.τ Cert.MmDH2RmsIdeal.sig) → Buf (Elt Ideal) ℓ) (c : Dev Cert.MmDH2RmsIdeal.nD) (k : Fin 1024) : ℝ :=
  EReal.toReal (m ((c.tc : Thread nD τ).loc main_arg3) (ix2 (0 : Fin 1) k))

theorem reals (m : (ℓ : Loc Cert.MmDH2RmsIdeal.nD Cert.MmDH2RmsIdeal.τ Cert.MmDH2RmsIdeal.sig) → Buf (Elt Ideal) ℓ) (c : Dev Cert.MmDH2RmsIdeal.nD) (h : Cert.Pre_MmDH2RmsIdeal_finite_8 (hPre_finite_8 := Cert.Pre_finite_8.conditions) m) :
    Head.Reals m c (rows m c) (weights m c) (frames m c) (gain m c) := by
  obtain ⟨h0, h1, h2, h3⟩ := Cert.Pre_finite_8.real_of_fn _ _ _ _ _ (h c)
  exact ⟨fun i k hk => (h0 i).trans (congrArg (fun j => Real.toEReal (EReal.toReal (m ((c.tc : Thread nD τ).loc main_arg0) j))) (funext fun a => match a with
    | ⟨0, _⟩ => Fin.ext (by
      have i1 : (i 1).val < 4 := (i 1).isLt
      have i3 : (i 3).val < 704 := (i 3).isLt
      show (i 0).val = k.val / 2816; omega)
    | ⟨1, _⟩ => Fin.ext (by
      have i1 : (i 1).val < 4 := (i 1).isLt
      have i3 : (i 3).val < 704 := (i 3).isLt
      show (i 1).val = k.val / 704 % 4; omega)
    | ⟨2, _⟩ => rfl
    | ⟨3, _⟩ => Fin.ext (by
      have i3 : (i 3).val < 704 := (i 3).isLt
      show (i 3).val = k.val % 704; omega))), holds_of _ h1, holds_of _ h2, row_of _ h3⟩

end MmDH2Rms

/-- Both programs end with the frames' gradient and the gain's. -/
theorem algebraic_MmDH2Rms : Cert.algebraic_MmDH2RmsIdeal_MmDH2RmsRefIdeal_pre_finite_8 (hPre_finite_8 := Cert.Pre_finite_8.conditions) := by
  intro m ρ m' ρ' hpre hargs
  refine ⟨fun c => Cert.MmDH2RmsIdeal.Head.frames (m ((c.tc : Thread Cert.MmDH2RmsIdeal.nD Cert.MmDH2RmsIdeal.τ).loc Cert.MmDH2RmsIdeal.main_arg4)) (MmDH2Rms.rows m c) (MmDH2Rms.weights m c) (MmDH2Rms.frames m c) (MmDH2Rms.gain m c),
    fun c => Cert.MmDH2RmsIdeal.Head.gain (MmDH2Rms.rows m c) (MmDH2Rms.weights m c) (MmDH2Rms.frames m c), ?_, ?_⟩
  · refine (θ_run Cert.MmDH2RmsIdeal.defs _ _).mono (fun r h c => ?_) (Cert.MmDH2RmsIdeal.Value.run_blocks (F := Ideal) m ρ)
    exact ⟨(h c).1.trans (Cert.MmDH2RmsIdeal.Head.arr5 (MmDH2Rms.reals m c hpre)), (h c).2.1.trans (Cert.MmDH2RmsIdeal.Head.arr6 (MmDH2Rms.reals m c hpre)), (h c).2.2⟩
  · refine (θ_run Cert.MmDH2RmsRefIdeal.defs _ _).mono (fun r h c => ?_) (Cert.MmDH2RmsRefIdeal.Value.run (F := Ideal) m' ρ')
    obtain ⟨e0, e1, e2, e3, e4⟩ := hargs c
    have H := MmDH2Rms.reals m c hpre
    refine ⟨(h c).1.trans ?_, (h c).2.1.trans ?_, (h c).2.2⟩
    · refine (Cert.MmDH2RmsRefIdeal.Read.val_main_v41_eq (F := Ideal) m' c).trans ?_
      exact (all5 (Cert.MmDH2RmsRefIdeal.Read.val_main_v41 (F := Ideal)) e0 e1 e2 e3 e4).trans (funext fun i => Cert.MmDH2RmsRefIdeal.Head.r39 H.rows H.weights H.frames H.gain i)
    · refine (Cert.MmDH2RmsRefIdeal.Read.val_main_v24_eq (F := Ideal) _ _ _).trans ?_
      exact (all3 (Cert.MmDH2RmsRefIdeal.Read.val_main_v24 (F := Ideal)) e0 e1 e2).trans (funext fun i => Cert.MmDH2RmsRefIdeal.Head.r22 H.rows H.weights H.frames i)

end Cert.Proof

end
-- ==== Proof.LossValue.lean ====
/- The last product, the norm, the loss and the loss's gradient back to the rows the norm took: the kernel's arrays and the
   reference's are the same, where the arguments hold reals. -/
module

public import proofs.«01_k».proof.Proof.Norm
public import proofs.«01_k».proof.Proof.Gen.MmDownLossIdeal.Value
public import proofs.«01_k».proof.Proof.Gen.MmDownLossRefIdeal.Read

@[expose] public section

noncomputable section

namespace Cert.Norm

open Idealize.ShloMosaic Cert.Gla

/-! ## The loss -/

theorem two_eq : Ideal.ofBits .f32 0x40000000#32 = ((2 : ℝ) : EReal) := by
  simp [Ideal.ofBits, Ideal.ieee, -EReal.coe_mul]
  try norm_num
theorem one_eq : Ideal.ofBits .f32 0x3F800000#32 = ((1 : ℝ) : EReal) := by
  simp [Ideal.ofBits, Ideal.ieee, -EReal.coe_mul]
  try norm_num
theorem one_of_width_eq : Ideal.ofBits .f32 0x3A800000#32 = ((1 / 1024 : ℝ) : EReal) := by
  simp [Ideal.ofBits, Ideal.ieee, -EReal.coe_mul]
  try norm_num

/-- What a table adds to the product of two others. -/
def plus {n K : Nat} (B : Fin n → Fin 1024 → ℝ) (A : Fin n → Fin K → ℝ) (W : Fin K → Fin 1024 → ℝ) (R : Fin n) (j : Fin 1024) : ℝ := B R j + ∑ k, A R k * W k j
/-- How far the normed rows, times the gain, are from the target. -/
def err {n : Nat} (X : Fin n → Fin 1024 → ℝ) (G : Fin 1024 → ℝ) (Y : Fin n → Fin 1024 → ℝ) (R : Fin n) (j : Fin 1024) : ℝ := X R j * rinv (X R) * G j - Y R j
/-- A row's mean squared error. -/
def rowLoss {n : Nat} (X : Fin n → Fin 1024 → ℝ) (G : Fin 1024 → ℝ) (Y : Fin n → Fin 1024 → ℝ) (R : Fin n) : ℝ := (∑ k, err X G Y R k * err X G Y R k) / 1024
/-- The gradient of half the sum of the rows' mean squared errors, along the output. -/
def lossGrad {n : Nat} (X : Fin n → Fin 1024 → ℝ) (G : Fin 1024 → ℝ) (Y : Fin n → Fin 1024 → ℝ) (R : Fin n) (j : Fin 1024) : ℝ := err X G Y R j * (1 / 1024)

/-- The sum of a column of 256 reals, taken over both of its axes at once. -/
theorem total_r {x : FVec Ideal Col .f32} {f : Fin 256 → ℝ} (hx : ∀ i : Col.Idx, @Eq EReal (x i) ((f (i 0) : ℝ) : EReal))
    (hs : Col.ShapeCasts ⟨3, ![1, 256, 1]⟩) (h : (⟨3, ![1, 256, 1]⟩ : Shape).Reduces [1, 2] ⟨1, ![1]⟩) (j : (⟨1, ![1]⟩ : Shape).Idx) :
    @Eq EReal (multiReduction (F := Ideal) .add [1, 2] ⟨1, ![1]⟩ (shapeCast ⟨3, ![1, 256, 1]⟩ x hs) 0x00000000#32 h (.inl rfl) rfl j) ((∑ i, f i : ℝ) : EReal) := by
  refine (Ideal.multiReduction_add_total (shapeCast ⟨3, ![1, 256, 1]⟩ x hs) _ h (by decide) (.inl rfl) rfl j).trans ?_
  let e : (⟨3, ![1, 256, 1]⟩ : Shape).Idx ≃ Fin 256 :=
    { toFun := fun i => i 1
      invFun := fun k a => match a with
        | ⟨0, _⟩ => (0 : Fin 1)
        | ⟨1, _⟩ => k
        | ⟨2, _⟩ => (0 : Fin 1)
      left_inv := fun i => funext fun a => match a with
        | ⟨0, _⟩ => Subsingleton.elim (α := Fin 1) _ _
        | ⟨1, _⟩ => rfl
        | ⟨2, _⟩ => Subsingleton.elim (α := Fin 1) _ _
      right_inv := fun k => rfl }
  refine (sum_r (x := fun i => f (e i)) fun i => ?_).trans (congrArg Real.toEReal (e.sum_comp f))
  have i0 : (i 0).val < 1 := (i 0).isLt
  have i2 : (i 2).val < 1 := (i 2).isLt
  refine (shapeCast_apply x hs i (ix2 (i 1) (0 : Fin 1)) ?_).trans (hx (ix2 (i 1) (0 : Fin 1)))
  rw [Shape.rowMajor_val_three, Shape.rowMajor_val_two]
  show (i 1).val * 1 + 0 = ((i 0).val * 256 + (i 1).val) * 1 + (i 2).val
  omega

end Cert.Norm

namespace Cert.MmDownLossRefIdeal.Head

open Cert.MmDownLossRefIdeal Cert.MmDownLossRefIdeal.Read Idealize.ShloMosaic Cert.Gla Cert.Norm Cert.Products

/-- The rows of an array of four column blocks are the reals `A`. -/
abbrev Blocks {n : Nat} (x : (⟨4, ![1, 4, n, 704]⟩ : Shape).Idx → EReal) (A : Fin n → Fin 2816 → ℝ) : Prop :=
  ∀ (i : (⟨4, ![1, 4, n, 704]⟩ : Shape).Idx) (k : Fin 2816), k.val = (i 1).val * 704 + (i 3).val → x i = ((A (i 2) k : ℝ) : EReal)

variable {x0 : S1x4x2048x704.Idx → EReal} {x1 : S2816x1024.Idx → EReal} {x2 : S2048x1024.Idx → EReal} {x3 : S1x1024.Idx → EReal} {x4 : S2048x1024.Idx → EReal}
variable {A : Fin 2048 → Fin 2816 → ℝ} {W : Fin 2816 → Fin 1024 → ℝ} {B X : Fin 2048 → Fin 1024 → ℝ} {G : Fin 1024 → ℝ} {Y : Fin 2048 → Fin 1024 → ℝ}

theorem r2 (hA : Blocks x0 A) (i : S2048x2816.Idx) : @Eq EReal (val_main_v2 (F := Ideal) x0 i) ((A (i 0) (i 1) : ℝ) : EReal) := by
  rw [val_main_v2_apply, val_main_v1_apply, val_main_v0_apply]
  have i0 : (i 0).val < 2048 := (i 0).isLt
  have i1 : (i 1).val < 2816 := (i 1).isLt
  refine (hA (idx_main_v1 (idx_main_v2 i)) (i 1) ?_).trans (congrArg (fun R => ((A R (i 1) : ℝ) : EReal)) (Fin.ext ?_))
  · show (i 1).val = ((i 0).val * 2816 + (i 1).val) / 704 % 4 * 704 + ((i 0).val * 2816 + (i 1).val) % 704
    omega
  · show ((i 0).val * 2816 + (i 1).val) / 2816 = (i 0).val
    omega
/-- The rows that enter the norm. -/
theorem r5 (hA : Blocks x0 A) (hW : Holds x1 W) (hB : Holds x2 B) (i : S2048x1024.Idx) : @Eq EReal (val_main_v5 (F := Ideal) x0 x1 x2 i) ((plus B A W (i 0) (i 1) : ℝ) : EReal) := by
  rw [val_main_v5_apply, val_main_v4_apply]
  refine add_r (hB i) (dot_r (fun k => r2 hA (lidx_main_v4 i k)) fun k => ?_)
  rw [val_main_v3_apply]
  exact hW (ridx_main_v4 i k)

theorem r12 (hX : ∀ i, @Eq EReal (val_main_v5 (F := Ideal) x0 x1 x2 i) ((X (i 0) (i 1) : ℝ) : EReal)) (i : S2048x1.Idx) :
    @Eq EReal (val_main_v12 (F := Ideal) x0 x1 x2 i) ((ms (X (i 0)) : ℝ) : EReal) := by
  rw [val_main_v12_apply, val_main_v10_apply, val_main_v8_apply, val_main_v7_apply, val_main_v9_apply, val_main_cst_0_apply, val_main_v11_apply, val_main_cst_1_apply]
  refine add_r (div_r ?_ width_eq (by norm_num)) eps_eq
  refine (add_r zero_r (sum_r (x := fun k => X (i 0) k * X (i 0) k) fun k => ?_)).trans (congrArg Real.toEReal (zero_add _))
  rw [val_main_v6_apply]
  exact mul_r (hX (idx_main_v7 (idx_main_v8 i) k)) (hX (idx_main_v7 (idx_main_v8 i) k))
theorem r13 (hX : ∀ i, @Eq EReal (val_main_v5 (F := Ideal) x0 x1 x2 i) ((X (i 0) (i 1) : ℝ) : EReal)) (i : S2048x1.Idx) :
    @Eq EReal (val_main_v13 (F := Ideal) x0 x1 x2 i) ((rinv (X (i 0)) : ℝ) : EReal) := by
  rw [val_main_v13_apply]
  exact rsqrt_r (r12 hX i) (ms_pos _)
theorem r16 (hX : ∀ i, @Eq EReal (val_main_v5 (F := Ideal) x0 x1 x2 i) ((X (i 0) (i 1) : ℝ) : EReal)) (i : S2048x1.Idx) :
    @Eq EReal (val_main_v16 (F := Ideal) x0 x1 x2 i) ((-(1 / 2) * (rinv (X (i 0)) / ms (X (i 0))) : ℝ) : EReal) := by
  rw [val_main_v16_apply, val_main_v15_apply, val_main_cst_2_apply, val_main_v14_apply]
  exact mul_r minus_half_eq (div_r (r13 hX i) (r12 hX i) (ms_pos _).ne')
theorem r18 (hX : ∀ i, @Eq EReal (val_main_v5 (F := Ideal) x0 x1 x2 i) ((X (i 0) (i 1) : ℝ) : EReal)) (i : S2048x1024.Idx) :
    @Eq EReal (val_main_v18 (F := Ideal) x0 x1 x2 i) ((X (i 0) (i 1) * rinv (X (i 0)) : ℝ) : EReal) := by
  rw [val_main_v18_apply, val_main_v17_apply]
  exact mul_r (hX i) (r13 hX (idx_main_v17 i))
theorem r21 (hX : ∀ i, @Eq EReal (val_main_v5 (F := Ideal) x0 x1 x2 i) ((X (i 0) (i 1) : ℝ) : EReal)) (hG : ∀ i : S1x1024.Idx, @Eq EReal (x3 i) ((G (i 1) : ℝ) : EReal)) (hY : Holds x4 Y) (i : S2048x1024.Idx) :
    @Eq EReal (val_main_v21 (F := Ideal) x0 x1 x2 x3 x4 i) ((err X G Y (i 0) (i 1) : ℝ) : EReal) := by
  rw [val_main_v21_apply, val_main_v20_apply, val_main_v19_apply]
  exact sub_r (mul_r (r18 hX i) (hG (idx_main_v19 i))) (hY i)
theorem r27 (hX : ∀ i, @Eq EReal (val_main_v5 (F := Ideal) x0 x1 x2 i) ((X (i 0) (i 1) : ℝ) : EReal)) (hG : ∀ i : S1x1024.Idx, @Eq EReal (x3 i) ((G (i 1) : ℝ) : EReal)) (hY : Holds x4 Y) (i : S2048.Idx) :
    @Eq EReal (val_main_v27 (F := Ideal) x0 x1 x2 x3 x4 i) ((rowLoss X G Y (i 0) : ℝ) : EReal) := by
  rw [val_main_v27_apply, val_main_v26_apply, val_main_cst_5_apply, val_main_v25_apply]
  refine div_r ?_ width_eq (by norm_num)
  refine (add_r zero_r (sum_r (x := fun k => err X G Y (i 0) k * err X G Y (i 0) k) fun k => ?_)).trans (congrArg Real.toEReal (zero_add _))
  rw [val_main_v22_apply]
  exact mul_r (r21 hX hG hY (idx_main_v25 i k)) (r21 hX hG hY (idx_main_v25 i k))
/-- The loss. -/
theorem r55 (hX : ∀ i, @Eq EReal (val_main_v5 (F := Ideal) x0 x1 x2 i) ((X (i 0) (i 1) : ℝ) : EReal)) (hG : ∀ i : S1x1024.Idx, @Eq EReal (x3 i) ((G (i 1) : ℝ) : EReal)) (hY : Holds x4 Y) (i : S1x128.Idx) :
    @Eq EReal (val_main_v55 (F := Ideal) x0 x1 x2 x3 x4 i) ((1 / 2 * ∑ R, rowLoss X G Y R : ℝ) : EReal) := by
  rw [val_main_v55_apply, val_main_v29_apply, val_main_cst_7_apply, val_main_v28_apply]
  let e : S2048.Idx ≃ Fin 2048 :=
    { toFun := fun j => j 0
      invFun := fun k a => match a with
        | ⟨0, _⟩ => k
      left_inv := fun j => funext fun a => match a with
        | ⟨0, _⟩ => rfl
      right_inv := fun k => rfl }
  refine mul_r half_eq ((add_r zero_r (sum_r (x := fun j => rowLoss X G Y (e j)) fun j => r27 hX hG hY j)).trans (congrArg Real.toEReal ((zero_add _).trans (e.sum_comp (rowLoss X G Y)))))
theorem r35 (hX : ∀ i, @Eq EReal (val_main_v5 (F := Ideal) x0 x1 x2 i) ((X (i 0) (i 1) : ℝ) : EReal)) (hG : ∀ i : S1x1024.Idx, @Eq EReal (x3 i) ((G (i 1) : ℝ) : EReal)) (hY : Holds x4 Y) (i : S2048x1024.Idx) :
    @Eq EReal (val_main_v35 (F := Ideal) x0 x1 x2 x3 x4 i) ((lossGrad X G Y (i 0) (i 1) : ℝ) : EReal) := by
  rw [val_main_v35_apply, val_main_v34_apply, val_main_v33_apply, val_main_v31_apply, val_main_v30_apply, val_main_cst_8_apply, val_main_cst_9_apply, val_main_v32_apply, val_main_cst_10_apply,
    val_main_v24_apply, val_main_v23_apply, val_main_cst_3_apply]
  refine (mul_r (div_r (mul_r half_eq one_eq) width_eq (by norm_num)) (mul_r two_eq (r21 hX hG hY i))).trans (congrArg Real.toEReal ?_)
  unfold lossGrad
  ring
/-- The gain's gradient. -/
theorem r38 (hX : ∀ i, @Eq EReal (val_main_v5 (F := Ideal) x0 x1 x2 i) ((X (i 0) (i 1) : ℝ) : EReal)) (hG : ∀ i : S1x1024.Idx, @Eq EReal (x3 i) ((G (i 1) : ℝ) : EReal)) (hY : Holds x4 Y) (i : S1x1024.Idx) :
    @Eq EReal (val_main_v38 (F := Ideal) x0 x1 x2 x3 x4 i) ((∑ R, lossGrad X G Y R (i 1) * (X R (i 1) * rinv (X R)) : ℝ) : EReal) := by
  rw [val_main_v38_apply, val_main_v37_apply]
  have i0 : (i 0).val < 1 := (i 0).isLt
  have i1 : (i 1).val < 1024 := (i 1).isLt
  have e : (idx_main_v38 i 0).val = (i 1).val := by
    dsimp only [idx_main_v38]; omega
  have e' : @Eq (Fin 1024) (idx_main_v38 i 0) (i 1) := Fin.ext e
  refine (add_r (x := 0) (y := ∑ R, X R (i 1) * rinv (X R) * lossGrad X G Y R (i 1)) zero_r (sum_r fun k => ?_)).trans (congrArg Real.toEReal ((zero_add _).trans (Finset.sum_congr rfl fun R _ => mul_comm (X R (i 1) * rinv (X R)) (lossGrad X G Y R (i 1)))))
  rw [val_main_v36_apply]
  refine (mul_r (r18 hX (idx_main_v37 (idx_main_v38 i) k)) (r35 hX hG hY (idx_main_v37 (idx_main_v38 i) k))).trans ?_
  exact congrArg (fun j : Fin 1024 => ((X k j * rinv (X k) * lossGrad X G Y k j : ℝ) : EReal)) e'
theorem r40 (hX : ∀ i, @Eq EReal (val_main_v5 (F := Ideal) x0 x1 x2 i) ((X (i 0) (i 1) : ℝ) : EReal)) (hG : ∀ i : S1x1024.Idx, @Eq EReal (x3 i) ((G (i 1) : ℝ) : EReal)) (hY : Holds x4 Y) (i : S2048x1024.Idx) :
    @Eq EReal (val_main_v40 (F := Ideal) x0 x1 x2 x3 x4 i) ((lossGrad X G Y (i 0) (i 1) * G (i 1) : ℝ) : EReal) := by
  rw [val_main_v40_apply, val_main_v39_apply]
  exact mul_r (r35 hX hG hY i) (hG (idx_main_v39 i))
theorem r43 (hX : ∀ i, @Eq EReal (val_main_v5 (F := Ideal) x0 x1 x2 i) ((X (i 0) (i 1) : ℝ) : EReal)) (hG : ∀ i : S1x1024.Idx, @Eq EReal (x3 i) ((G (i 1) : ℝ) : EReal)) (hY : Holds x4 Y) (i : S2048x1.Idx) :
    @Eq EReal (val_main_v43 (F := Ideal) x0 x1 x2 x3 x4 i) ((∑ k, X (i 0) k * (lossGrad X G Y (i 0) k * G k) : ℝ) : EReal) := by
  have i0 : (i 0).val < 2048 := (i 0).isLt
  have i1 : (i 1).val < 1 := (i 1).isLt
  have e : (idx_main_v43 i 0).val = (i 0).val := by
    dsimp only [idx_main_v43]; omega
  have e' : @Eq (Fin 2048) (idx_main_v43 i 0) (i 0) := Fin.ext e
  rw [val_main_v43_apply, val_main_v42_apply]
  refine (add_r (x := 0) (y := ∑ k, X (i 0) k * (lossGrad X G Y (i 0) k * G k)) zero_r (sum_r fun k => ?_)).trans (congrArg Real.toEReal (zero_add _))
  rw [val_main_v41_apply]
  refine (mul_r (hX (idx_main_v42 (idx_main_v43 i) k)) (r40 hX hG hY (idx_main_v42 (idx_main_v43 i) k))).trans ?_
  exact congrArg (fun R : Fin 2048 => ((X R k * (lossGrad X G Y R k * G k) : ℝ) : EReal)) e'
theorem r49 (hX : ∀ i, @Eq EReal (val_main_v5 (F := Ideal) x0 x1 x2 i) ((X (i 0) (i 1) : ℝ) : EReal)) (hG : ∀ i : S1x1024.Idx, @Eq EReal (x3 i) ((G (i 1) : ℝ) : EReal)) (hY : Holds x4 Y) (i : S2048.Idx) :
    @Eq EReal (val_main_v49 (F := Ideal) x0 x1 x2 x3 x4 i) (((∑ k, X (i 0) k * (lossGrad X G Y (i 0) k * G k)) * (-(1 / 2) * (rinv (X (i 0)) / ms (X (i 0)))) / 1024 : ℝ) : EReal) := by
  rw [val_main_v49_apply]
  refine (add_r (x := 0) (y := ∑ _k : Fin 1, (∑ k, X (i 0) k * (lossGrad X G Y (i 0) k * G k)) * (-(1 / 2) * (rinv (X (i 0)) / ms (X (i 0)))) / 1024) zero_r (sum_r fun k => ?_)).trans
    (congrArg Real.toEReal ((zero_add _).trans (Fin.sum_univ_one _)))
  rw [val_main_v48_apply, val_main_v47_apply, val_main_cst_13_apply, val_main_v46_apply]
  exact div_r (mul_r (r43 hX hG hY (idx_main_v49 i k)) (r16 hX (idx_main_v49 i k))) width_eq (by norm_num)
/-- The rows' gradient. -/
theorem r54 (hX : ∀ i, @Eq EReal (val_main_v5 (F := Ideal) x0 x1 x2 i) ((X (i 0) (i 1) : ℝ) : EReal)) (hG : ∀ i : S1x1024.Idx, @Eq EReal (x3 i) ((G (i 1) : ℝ) : EReal)) (hY : Holds x4 Y) (i : S2048x1024.Idx) :
    @Eq EReal (val_main_v54 (F := Ideal) x0 x1 x2 x3 x4 i) ((back (X (i 0)) (fun k => lossGrad X G Y (i 0) k * G k) (i 1) : ℝ) : EReal) := by
  rw [val_main_v54_apply, val_main_v52_apply, val_main_v53_apply, val_main_v45_apply, val_main_v44_apply, val_main_v51_apply, val_main_v50_apply]
  exact (add_r (add_r (mul_r (r40 hX hG hY i) (r13 hX (idx_main_v44 i))) (mul_r (hX i) (r49 hX hG hY (idx_main_v50 i)))) (mul_r (r49 hX hG hY (idx_main_v50 i)) (hX i))).trans
    (congrArg Real.toEReal (chain_rule (X (i 0)) (fun k => lossGrad X G Y (i 0) k * G k) (i 1) rfl))
theorem r56 (hX : ∀ i, @Eq EReal (val_main_v5 (F := Ideal) x0 x1 x2 i) ((X (i 0) (i 1) : ℝ) : EReal)) (hG : ∀ i : S1x1024.Idx, @Eq EReal (x3 i) ((G (i 1) : ℝ) : EReal)) (hY : Holds x4 Y) (i : S2048x1024.Idx) :
    @Eq EReal (val_main_v56 (F := Ideal) x0 x1 x2 x3 x4 i) ((back (X (i 0)) (fun k => lossGrad X G Y (i 0) k * G k) (i 1) : ℝ) : EReal) := by
  rw [val_main_v56_apply]
  exact r54 hX hG hY i

end Cert.MmDownLossRefIdeal.Head

namespace Cert.MmDownLossIdeal.Head

open Cert.MmDownLossIdeal Cert.MmDownLossIdeal.Gen Cert.MmDownLossIdeal.Value Idealize.ShloMosaic Idealize.ShloMosaic.TcCoe Cert.Gla Cert.Norm Cert.Products
open Cert.MmDownLossRefIdeal.Head (Blocks)
open Idealize.ShloMosaic.Pipeline (Dat)

/-! ## A grid point, on tiles that hold reals -/

section
variable {x0 : FVec Ideal S1x4x256x704 .bf16} {x1 : FVec Ideal S2816x1024 .bf16} {x2 : FVec Ideal S256x1024 .f32} {x3 : FVec Ideal S1x1024 .f32} {x4 : FVec Ideal S256x1024 .f32}
variable {A : Fin 256 → Fin 2816 → ℝ} {W : Fin 2816 → Fin 1024 → ℝ} {B X : Fin 256 → Fin 1024 → ℝ} {G : Fin 1024 → ℝ} {Y : Fin 256 → Fin 1024 → ℝ}

/-- One column block's part of the product. -/
def part {n : Nat} (A : Fin n → Fin 2816 → ℝ) (W : Fin 2816 → Fin 1024 → ℝ) (o : Nat) (ho : o + 704 ≤ 2816) (i : Fin n) (j : Fin 1024) : ℝ :=
  ∑ k : Fin 704, A i ⟨o + k.val, by omega⟩ * W ⟨o + k.val, by omega⟩ j

theorem sum_parts {n : Nat} (B : Fin n → Fin 1024 → ℝ) (A : Fin n → Fin 2816 → ℝ) (W : Fin 2816 → Fin 1024 → ℝ) (i : Fin n) (j : Fin 1024) :
    (((part A W 0 (by omega) i j + part A W 704 (by omega) i j) + part A W 1408 (by omega) i j) + part A W 2112 (by omega) i j) + B i j = plus B A W i j := by
  unfold plus
  rw [add_comm]
  refine congrArg (fun y : ℝ => B i j + y) ?_
  rw [← (finProdFinEquiv (m := 4) (n := 704)).sum_comp, Fintype.sum_prod_type, Fin.sum_univ_four]
  have h : ∀ (b : Fin 4) (o : Nat) (ho : o + 704 ≤ 2816), o = 704 * b.val →
      part A W o ho i j = ∑ k : Fin 704, A i (finProdFinEquiv (m := 4) (n := 704) (b, k)) * W (finProdFinEquiv (m := 4) (n := 704) (b, k)) j := fun b o ho e =>
    Finset.sum_congr rfl fun k _ => congrArg (fun l => A i l * W l j) (Fin.ext (by show o + k.val = k.val + 704 * b.val; omega))
  rw [h 0 0 (by omega) rfl, h 1 704 (by omega) rfl, h 2 1408 (by omega) rfl, h 3 2112 (by omega) rfl]

theorem part_r {y0 : FVec Ideal S1x1x256x704 .bf16} {y1 : FVec Ideal S704x1024 .bf16} (o : Nat) (ho : o + 704 ≤ 2816)
    (h0 : ∀ (i : S1x1x256x704.Idx) (k : Fin 2816), k.val = o + (i 3).val → @Eq EReal (y0 i) ((A (i 2) k : ℝ) : EReal))
    (h1 : ∀ (i : S704x1024.Idx) (k : Fin 2816), k.val = o + (i 0).val → @Eq EReal (y1 i) ((W k (i 1) : ℝ) : EReal)) (j : S256x1024.Idx) :
    @Eq EReal (matmul (F := Ideal) dot_S256x704_S704x1024_S256x1024_1_0_0_1_n_n none (shapeCast S256x704 y0 shapeCasts_S1x1x256x704_S256x704) y1 (constant S256x1024 .f32 0x00000000#32) j)
      ((part A W o ho (j 0) (j 1) : ℝ) : EReal) := by
  refine (mm (φ₁ := .bf16) (φ₂ := .bf16) (K := 704) dot_S256x704_S704x1024_S256x1024_1_0_0_1_n_n rfl rfl none _ _ j (fun k => ix2 (j 0) k) (fun k => ix2 k (j 1))
    (fun k => idx2 rfl rfl) (fun k => idx2 rfl rfl)).trans (dot_r (fun k => ?_) fun k => h1 (ix2 k (j 1)) ⟨o + k.val, by omega⟩ rfl)
  refine (shapeCast_apply y0 _ (ix2 (j 0) k) (ix4 (0 : Fin 1) (0 : Fin 1) (j 0) k) ?_).trans (h0 (ix4 (0 : Fin 1) (0 : Fin 1) (j 0) k) ⟨o + k.val, by omega⟩ rfl)
  rw [Shape.rowMajor_val_four, Shape.rowMajor_val_two]
  show ((0 * 1 + 0) * 256 + (j 0).val) * 704 + k.val = (j 0).val * 704 + k.val
  omega

theorem block_r (hA : Blocks x0 A) (b o : Nat) (inb : ∀ x, (![0, b, 0, 0] : Fin 4 → Nat) x + S1x1x256x704.size x ≤ S1x4x256x704.size x) (ho : o = b * 704)
    (i : S1x1x256x704.Idx) (k : Fin 2816) (hk : k.val = o + (i 3).val) :
    @Eq EReal ((View.ld x0 (Rect.unit (s := S1x4x256x704) ![0, b, 0, 0] S1x1x256x704.size inb) : Vec Ideal S1x1x256x704 .bf16) i) ((A (i 2) k : ℝ) : EReal) := by
  have i1 : (i 1).val < 1 := (i 1).isLt
  refine (hA _ k ?_).trans (congrArg (fun R => ((A R k : ℝ) : EReal)) (Fin.ext ?_))
  · show k.val = (b + 1 * (i 1).val) * 704 + (0 + 1 * (i 3).val)
    rw [hk, ho]; omega
  · show 0 + 1 * (i 2).val = (i 2).val; omega
theorem weights_r (hW : Holds x1 W) (o : Nat) (inb : ∀ x, (![o, 0] : Fin 2 → Nat) x + S704x1024.size x ≤ S2816x1024.size x)
    (i : S704x1024.Idx) (k : Fin 2816) (hk : k.val = o + (i 0).val) :
    @Eq EReal ((View.ld x1 (Rect.unit (s := S2816x1024) ![o, 0] S704x1024.size inb) : Vec Ideal S704x1024 .bf16) i) ((W k (i 1) : ℝ) : EReal) := by
  refine (hW _).trans (congrArg Real.toEReal (congrArg₂ W (Fin.ext ?_) (Fin.ext ?_)))
  · show o + 1 * (i 0).val = k.val; omega
  · show 0 + 1 * (i 1).val = (i 1).val; omega

/-- The rows that enter the norm: the product, column block by column block, and what is added to it. -/
def sum (x0 : FVec Ideal S1x4x256x704 .bf16) (x1 : FVec Ideal S2816x1024 .bf16) (x2 : FVec Ideal S256x1024 .f32) : FVec Ideal S256x1024 .f32 :=
  k0_pay6 (F := Ideal) (View.ld x0 (Rect.unit (s := S1x4x256x704) ![0, 0, 0, 0] S1x1x256x704.size inb_S1x4x256x704_S1x1x256x704_0_0_0_0)) (View.ld x1 (Rect.unit (s := S2816x1024) ![0, 0] S704x1024.size inb_S2816x1024_S704x1024_0_0))
    (View.ld x0 (Rect.unit (s := S1x4x256x704) ![0, 1, 0, 0] S1x1x256x704.size inb_S1x4x256x704_S1x1x256x704_0_1_0_0)) (View.ld x1 (Rect.unit (s := S2816x1024) ![704, 0] S704x1024.size inb_S2816x1024_S704x1024_704_0))
    (View.ld x0 (Rect.unit (s := S1x4x256x704) ![0, 2, 0, 0] S1x1x256x704.size inb_S1x4x256x704_S1x1x256x704_0_2_0_0)) (View.ld x1 (Rect.unit (s := S2816x1024) ![1408, 0] S704x1024.size inb_S2816x1024_S704x1024_1408_0))
    (View.ld x0 (Rect.unit (s := S1x4x256x704) ![0, 3, 0, 0] S1x1x256x704.size inb_S1x4x256x704_S1x1x256x704_0_3_0_0)) (View.ld x1 (Rect.unit (s := S2816x1024) ![2112, 0] S704x1024.size inb_S2816x1024_S704x1024_2112_0)) x2
/-- Their squares. -/
def squares (x0 : FVec Ideal S1x4x256x704 .bf16) (x1 : FVec Ideal S2816x1024 .bf16) (x2 : FVec Ideal S256x1024 .f32) : FVec Ideal S256x1024 .f32 :=
  k0_pay7 (F := Ideal) (View.ld x0 (Rect.unit (s := S1x4x256x704) ![0, 0, 0, 0] S1x1x256x704.size inb_S1x4x256x704_S1x1x256x704_0_0_0_0)) (View.ld x1 (Rect.unit (s := S2816x1024) ![0, 0] S704x1024.size inb_S2816x1024_S704x1024_0_0))
    (View.ld x0 (Rect.unit (s := S1x4x256x704) ![0, 1, 0, 0] S1x1x256x704.size inb_S1x4x256x704_S1x1x256x704_0_1_0_0)) (View.ld x1 (Rect.unit (s := S2816x1024) ![704, 0] S704x1024.size inb_S2816x1024_S704x1024_704_0))
    (View.ld x0 (Rect.unit (s := S1x4x256x704) ![0, 2, 0, 0] S1x1x256x704.size inb_S1x4x256x704_S1x1x256x704_0_2_0_0)) (View.ld x1 (Rect.unit (s := S2816x1024) ![1408, 0] S704x1024.size inb_S2816x1024_S704x1024_1408_0))
    (View.ld x0 (Rect.unit (s := S1x4x256x704) ![0, 3, 0, 0] S1x1x256x704.size inb_S1x4x256x704_S1x1x256x704_0_3_0_0)) (View.ld x1 (Rect.unit (s := S2816x1024) ![2112, 0] S704x1024.size inb_S2816x1024_S704x1024_2112_0)) x2

theorem sum_at (hA : Blocks x0 A) (hW : Holds x1 W) (hB : Holds x2 B) : Holds (sum x0 x1 x2) (plus B A W) := fun j =>
  (add_r (add_r (add_r (add_r (part_r 0 (by omega) (block_r hA 0 0 _ rfl) (weights_r hW 0 _) j) (part_r 704 (by omega) (block_r hA 1 704 _ rfl) (weights_r hW 704 _) j)) (part_r 1408 (by omega) (block_r hA 2 1408 _ rfl) (weights_r hW 1408 _) j)) (part_r 2112 (by omega) (block_r hA 3 2112 _ rfl) (weights_r hW 2112 _) j)) (hB j)).trans (congrArg Real.toEReal (sum_parts B A W (j 0) (j 1)))

/-- A point's part of the loss, of the gain's gradient, and its rows' gradient. -/
def lossOf (x0 : FVec Ideal S1x4x256x704 .bf16) (x1 : FVec Ideal S2816x1024 .bf16) (x2 : FVec Ideal S256x1024 .f32) (x3 : FVec Ideal S1x1024 .f32) (x4 : FVec Ideal S256x1024 .f32) : FVec Ideal S1x128 .f32 :=
  k0_pay11 (F := Ideal) (sum x0 x1 x2) x3 x4 (squares x0 x1 x2)
def gainOf (x0 : FVec Ideal S1x4x256x704 .bf16) (x1 : FVec Ideal S2816x1024 .bf16) (x2 : FVec Ideal S256x1024 .f32) (x3 : FVec Ideal S1x1024 .f32) (x4 : FVec Ideal S256x1024 .f32) : FVec Ideal S1x1024 .f32 :=
  k0_pay14 (F := Ideal) (sum x0 x1 x2) x3 x4 (squares x0 x1 x2)
def framesOf (x0 : FVec Ideal S1x4x256x704 .bf16) (x1 : FVec Ideal S2816x1024 .bf16) (x2 : FVec Ideal S256x1024 .f32) (x3 : FVec Ideal S1x1024 .f32) (x4 : FVec Ideal S256x1024 .f32) : FVec Ideal S256x1024 .f32 :=
  k0_pay13 (F := Ideal) (sum x0 x1 x2) x3 x4 (squares x0 x1 x2)

theorem inverse_r (hX : Holds (sum x0 x1 x2) X) (i : S256x1.Idx) : @Eq EReal (k0_pay8 (F := Ideal) (squares x0 x1 x2) i) ((rinv (X (i 0)) : ℝ) : EReal) := inv_r hX _ _ i
theorem unit_r (hX : Holds (sum x0 x1 x2) X) : Holds (k0_pay9 (F := Ideal) (sum x0 x1 x2) (squares x0 x1 x2)) fun i k => X i k * rinv (X i) := normed_r hX (inverse_r hX) _
variable (hX : Holds (sum x0 x1 x2) X) (hG : ∀ i : S1x1024.Idx, @Eq EReal (x3 i) ((G (i 1) : ℝ) : EReal)) (hY : Holds x4 Y)
include hX hG hY
theorem err_r : Holds (k0_pay10 (F := Ideal) (sum x0 x1 x2) x3 x4 (squares x0 x1 x2)) (err X G Y) := fun j =>
  sub_r (gained_r (unit_r hX) hG broadcasts_S1x1024_S256x1024 j) (hY j)
theorem lossGrad_r : Holds (k0_pay12 (F := Ideal) (sum x0 x1 x2) x3 x4 (squares x0 x1 x2)) (lossGrad X G Y) := fun j =>
  mul_r (err_r hX hG hY j) one_of_width_eq
theorem loss_at (j : S1x128.Idx) : @Eq EReal (lossOf x0 x1 x2 x3 x4 j) ((1 / 2 * ∑ i, rowLoss X G Y i : ℝ) : EReal) := by
  unfold lossOf k0_pay11
  dsimp only
  refine mul_r half_eq ?_
  refine (shapeCast_apply _ shapeCasts_S1_S1x1x1 _ (ValueIdx.ix1 (0 : Fin 1)) ?_).trans ?_
  · rw [Shape.rowMajor_val_one, Shape.rowMajor_val_three]
    rfl
  · refine total_r (f := rowLoss X G Y) (fun i => ?_) _ _ _
    exact div_r (rowsum_r (f := fun i k => err X G Y i k * err X G Y i k) (fun i => mul_r (err_r hX hG hY i) (err_r hX hG hY i)) _ _ i) width_eq (by norm_num)
theorem gain_at (j : S1x1024.Idx) : @Eq EReal (gainOf x0 x1 x2 x3 x4 j) ((∑ t, lossGrad X G Y t (j 1) * (X t (j 1) * rinv (X t)) : ℝ) : EReal) :=
  gain_r (lossGrad_r hX hG hY) (unit_r hX) _ _ j
theorem frames_at (j : S256x1024.Idx) : @Eq EReal (framesOf x0 x1 x2 x3 x4 j) ((back (X (j 0)) (fun k => lossGrad X G Y (j 0) k * G k) (j 1) : ℝ) : EReal) :=
  back_r (D := fun i k => lossGrad X G Y i k * G k) (gained_r (lossGrad_r hX hG hY) hG _) (unit_r hX) (inverse_r hX) _ _ _ _ j
omit hX hG hY

theorem loss_first (c : Dev nD) (i : grid0.Coords) (a1 : Memref sig .tc .vmem S1x4x256x704 .bf16) (h1 : a1.IsWhole) (a2 : Memref sig .tc .vmem S2816x1024 .bf16) (h2 : a2.IsWhole) (a3 : Memref sig .tc .vmem S256x1024 .f32) (h3 : a3.IsWhole) (a4 : Memref sig .tc .vmem S1x1024 .f32) (h4 : a4.IsWhole) (a5 : Memref sig .tc .vmem S256x1024 .f32) (h5 : a5.IsWhole) (a6 : Memref sig .tc .vmem S1x128 .f32) (h6 : a6.IsWhole) (a7 : Memref sig .tc .vmem S256x1024 .f32) (h7 : a7.IsWhole) (a8 : Memref sig .tc .vmem S256x1024 .bf16) (h8 : a8.IsWhole) (a9 : Memref sig .tc .vmem S1x1024 .f32) (h9 : a9.IsWhole) (hc0 : cond0_0 i) (hc1 : ¬cond0_1 i) (hc2 : cond0_2 i) (hc3 : ¬cond0_3 i) (x0 : Vec Ideal S1x4x256x704 .bf16) (x1 : Vec Ideal S2816x1024 .bf16) (x2 : Vec Ideal S256x1024 .f32) (x3 : Vec Ideal S1x1024 .f32) (x4 : Vec Ideal S256x1024 .f32) :
    out0_A_5 c i a1 h1 a2 h2 a3 h3 a4 h4 a5 h5 a6 h6 a7 h7 a8 h8 a9 h9 hc0 hc1 hc2 hc3 x0 x1 x2 x3 x4 = lossOf x0 x1 x2 x3 x4 := by
  unfold out0_A_5
  rw [View.read_writes_eq_canon _ _ _ (cover0_A_5 c i a1 h1 a2 h2 a3 h3 a4 h4 a5 h5 a6 h6 a7 h7 a8 h8 a9 h9 hc0 hc1 hc2 hc3 x0 x1 x2 x3 x4)]
  unfold kernelRun0_A
  dsimp only
  sl_unfold_words
  rw [View.canon_unit_zero zeros2]
  unfold k0_pay2
  simp only [View.readAt_eq_ld, h1.read_unread, h2.read_unread, h3.read_unread, h4.read_unread, h5.read_unread, h6.read_unread, h9.read_unread, View.ld_unit_zero (S := S256x1024) zeros2, View.ld_unit_zero (S := S1x1024) zeros2, View.ld_unit_zero (S := S1x128) zeros2, shapeCast_self]
  rfl
theorem frames_first (c : Dev nD) (i : grid0.Coords) (a1 : Memref sig .tc .vmem S1x4x256x704 .bf16) (h1 : a1.IsWhole) (a2 : Memref sig .tc .vmem S2816x1024 .bf16) (h2 : a2.IsWhole) (a3 : Memref sig .tc .vmem S256x1024 .f32) (h3 : a3.IsWhole) (a4 : Memref sig .tc .vmem S1x1024 .f32) (h4 : a4.IsWhole) (a5 : Memref sig .tc .vmem S256x1024 .f32) (h5 : a5.IsWhole) (a6 : Memref sig .tc .vmem S1x128 .f32) (h6 : a6.IsWhole) (a7 : Memref sig .tc .vmem S256x1024 .f32) (h7 : a7.IsWhole) (a8 : Memref sig .tc .vmem S256x1024 .bf16) (h8 : a8.IsWhole) (a9 : Memref sig .tc .vmem S1x1024 .f32) (h9 : a9.IsWhole) (hc0 : cond0_0 i) (hc1 : ¬cond0_1 i) (hc2 : cond0_2 i) (hc3 : ¬cond0_3 i) (x0 : Vec Ideal S1x4x256x704 .bf16) (x1 : Vec Ideal S2816x1024 .bf16) (x2 : Vec Ideal S256x1024 .f32) (x3 : Vec Ideal S1x1024 .f32) (x4 : Vec Ideal S256x1024 .f32) :
    out0_A_6 c i a1 h1 a2 h2 a3 h3 a4 h4 a5 h5 a6 h6 a7 h7 a8 h8 a9 h9 hc0 hc1 hc2 hc3 x0 x1 x2 x3 x4 = framesOf x0 x1 x2 x3 x4 := by
  unfold out0_A_6
  rw [View.read_writes_eq_canon _ _ _ (cover0_A_6 c i a1 h1 a2 h2 a3 h3 a4 h4 a5 h5 a6 h6 a7 h7 a8 h8 a9 h9 hc0 hc1 hc2 hc3 x0 x1 x2 x3 x4)]
  unfold kernelRun0_A
  dsimp only
  sl_unfold_words
  rw [View.canon_unit_zero zeros2]
  unfold k0_pay15
  simp only [View.readAt_eq_ld, h1.read_unread, h2.read_unread, h3.read_unread, h4.read_unread, h5.read_unread, h6.read_unread, h9.read_unread, View.ld_unit_zero (S := S256x1024) zeros2, View.ld_unit_zero (S := S1x1024) zeros2, View.ld_unit_zero (S := S1x128) zeros2, shapeCast_self]
  rfl
theorem half_first (c : Dev nD) (i : grid0.Coords) (a1 : Memref sig .tc .vmem S1x4x256x704 .bf16) (h1 : a1.IsWhole) (a2 : Memref sig .tc .vmem S2816x1024 .bf16) (h2 : a2.IsWhole) (a3 : Memref sig .tc .vmem S256x1024 .f32) (h3 : a3.IsWhole) (a4 : Memref sig .tc .vmem S1x1024 .f32) (h4 : a4.IsWhole) (a5 : Memref sig .tc .vmem S256x1024 .f32) (h5 : a5.IsWhole) (a6 : Memref sig .tc .vmem S1x128 .f32) (h6 : a6.IsWhole) (a7 : Memref sig .tc .vmem S256x1024 .f32) (h7 : a7.IsWhole) (a8 : Memref sig .tc .vmem S256x1024 .bf16) (h8 : a8.IsWhole) (a9 : Memref sig .tc .vmem S1x1024 .f32) (h9 : a9.IsWhole) (hc0 : cond0_0 i) (hc1 : ¬cond0_1 i) (hc2 : cond0_2 i) (hc3 : ¬cond0_3 i) (x0 : Vec Ideal S1x4x256x704 .bf16) (x1 : Vec Ideal S2816x1024 .bf16) (x2 : Vec Ideal S256x1024 .f32) (x3 : Vec Ideal S1x1024 .f32) (x4 : Vec Ideal S256x1024 .f32) :
    out0_A_7 c i a1 h1 a2 h2 a3 h3 a4 h4 a5 h5 a6 h6 a7 h7 a8 h8 a9 h9 hc0 hc1 hc2 hc3 x0 x1 x2 x3 x4 = framesOf x0 x1 x2 x3 x4 := by
  unfold out0_A_7
  rw [View.read_writes_eq_canon _ _ _ (cover0_A_7 c i a1 h1 a2 h2 a3 h3 a4 h4 a5 h5 a6 h6 a7 h7 a8 h8 a9 h9 hc0 hc1 hc2 hc3 x0 x1 x2 x3 x4)]
  unfold kernelRun0_A
  dsimp only
  sl_unfold_words
  rw [View.canon_unit_zero zeros2]
  unfold k0_pay1
  simp only [View.readAt_eq_ld, h1.read_unread, h2.read_unread, h3.read_unread, h4.read_unread, h5.read_unread, h6.read_unread, h9.read_unread, View.ld_unit_zero (S := S256x1024) zeros2, View.ld_unit_zero (S := S1x1024) zeros2, View.ld_unit_zero (S := S1x128) zeros2, shapeCast_self]
  rfl
theorem gain_first (c : Dev nD) (i : grid0.Coords) (a1 : Memref sig .tc .vmem S1x4x256x704 .bf16) (h1 : a1.IsWhole) (a2 : Memref sig .tc .vmem S2816x1024 .bf16) (h2 : a2.IsWhole) (a3 : Memref sig .tc .vmem S256x1024 .f32) (h3 : a3.IsWhole) (a4 : Memref sig .tc .vmem S1x1024 .f32) (h4 : a4.IsWhole) (a5 : Memref sig .tc .vmem S256x1024 .f32) (h5 : a5.IsWhole) (a6 : Memref sig .tc .vmem S1x128 .f32) (h6 : a6.IsWhole) (a7 : Memref sig .tc .vmem S256x1024 .f32) (h7 : a7.IsWhole) (a8 : Memref sig .tc .vmem S256x1024 .bf16) (h8 : a8.IsWhole) (a9 : Memref sig .tc .vmem S1x1024 .f32) (h9 : a9.IsWhole) (hc0 : cond0_0 i) (hc1 : ¬cond0_1 i) (hc2 : cond0_2 i) (hc3 : ¬cond0_3 i) (x0 : Vec Ideal S1x4x256x704 .bf16) (x1 : Vec Ideal S2816x1024 .bf16) (x2 : Vec Ideal S256x1024 .f32) (x3 : Vec Ideal S1x1024 .f32) (x4 : Vec Ideal S256x1024 .f32) :
    out0_A_8 c i a1 h1 a2 h2 a3 h3 a4 h4 a5 h5 a6 h6 a7 h7 a8 h8 a9 h9 hc0 hc1 hc2 hc3 x0 x1 x2 x3 x4 = gainOf x0 x1 x2 x3 x4 := by
  unfold out0_A_8
  rw [View.read_writes_eq_canon _ _ _ (cover0_A_8 c i a1 h1 a2 h2 a3 h3 a4 h4 a5 h5 a6 h6 a7 h7 a8 h8 a9 h9 hc0 hc1 hc2 hc3 x0 x1 x2 x3 x4)]
  unfold kernelRun0_A
  dsimp only
  sl_unfold_words
  rw [View.canon_unit_zero zeros2]
  unfold k0_pay4
  simp only [View.readAt_eq_ld, h1.read_unread, h2.read_unread, h3.read_unread, h4.read_unread, h5.read_unread, h6.read_unread, h9.read_unread, View.ld_unit_zero (S := S256x1024) zeros2, View.ld_unit_zero (S := S1x1024) zeros2, View.ld_unit_zero (S := S1x128) zeros2, shapeCast_self]
  rfl
theorem loss_next (c : Dev nD) (i : grid0.Coords) (a1 : Memref sig .tc .vmem S1x4x256x704 .bf16) (h1 : a1.IsWhole) (a2 : Memref sig .tc .vmem S2816x1024 .bf16) (h2 : a2.IsWhole) (a3 : Memref sig .tc .vmem S256x1024 .f32) (h3 : a3.IsWhole) (a4 : Memref sig .tc .vmem S1x1024 .f32) (h4 : a4.IsWhole) (a5 : Memref sig .tc .vmem S256x1024 .f32) (h5 : a5.IsWhole) (a6 : Memref sig .tc .vmem S1x128 .f32) (h6 : a6.IsWhole) (a7 : Memref sig .tc .vmem S256x1024 .f32) (h7 : a7.IsWhole) (a8 : Memref sig .tc .vmem S256x1024 .bf16) (h8 : a8.IsWhole) (a9 : Memref sig .tc .vmem S1x1024 .f32) (h9 : a9.IsWhole) (hc0 : ¬cond0_0 i) (hc1 : cond0_1 i) (hc2 : ¬cond0_2 i) (hc3 : cond0_3 i) (x0 : Vec Ideal S1x4x256x704 .bf16) (x1 : Vec Ideal S2816x1024 .bf16) (x2 : Vec Ideal S256x1024 .f32) (x3 : Vec Ideal S1x1024 .f32) (x4 : Vec Ideal S256x1024 .f32) (xo5 : Vec Ideal S1x128 .f32) (xo8 : Vec Ideal S1x1024 .f32) :
    out0_B_5 c i a1 h1 a2 h2 a3 h3 a4 h4 a5 h5 a6 h6 a7 h7 a8 h8 a9 h9 hc0 hc1 hc2 hc3 x0 x1 x2 x3 x4 xo5 xo8 = addf xo5 (lossOf x0 x1 x2 x3 x4) := by
  unfold out0_B_5
  rw [View.read_writes_eq_canon _ _ _ (cover0_B_5 c i a1 h1 a2 h2 a3 h3 a4 h4 a5 h5 a6 h6 a7 h7 a8 h8 a9 h9 hc0 hc1 hc2 hc3 x0 x1 x2 x3 x4 xo5 xo8)]
  unfold kernelRun0_B
  dsimp only
  sl_unfold_words
  rw [View.canon_unit_zero zeros2]
  unfold k0_pay3
  simp only [View.readAt_eq_ld, h1.read_unread, h2.read_unread, h3.read_unread, h4.read_unread, h5.read_unread, h6.read_unread, h9.read_unread, View.ld_unit_zero (S := S256x1024) zeros2, View.ld_unit_zero (S := S1x1024) zeros2, View.ld_unit_zero (S := S1x128) zeros2, shapeCast_self]
  rfl
theorem frames_next (c : Dev nD) (i : grid0.Coords) (a1 : Memref sig .tc .vmem S1x4x256x704 .bf16) (h1 : a1.IsWhole) (a2 : Memref sig .tc .vmem S2816x1024 .bf16) (h2 : a2.IsWhole) (a3 : Memref sig .tc .vmem S256x1024 .f32) (h3 : a3.IsWhole) (a4 : Memref sig .tc .vmem S1x1024 .f32) (h4 : a4.IsWhole) (a5 : Memref sig .tc .vmem S256x1024 .f32) (h5 : a5.IsWhole) (a6 : Memref sig .tc .vmem S1x128 .f32) (h6 : a6.IsWhole) (a7 : Memref sig .tc .vmem S256x1024 .f32) (h7 : a7.IsWhole) (a8 : Memref sig .tc .vmem S256x1024 .bf16) (h8 : a8.IsWhole) (a9 : Memref sig .tc .vmem S1x1024 .f32) (h9 : a9.IsWhole) (hc0 : ¬cond0_0 i) (hc1 : cond0_1 i) (hc2 : ¬cond0_2 i) (hc3 : cond0_3 i) (x0 : Vec Ideal S1x4x256x704 .bf16) (x1 : Vec Ideal S2816x1024 .bf16) (x2 : Vec Ideal S256x1024 .f32) (x3 : Vec Ideal S1x1024 .f32) (x4 : Vec Ideal S256x1024 .f32) (xo5 : Vec Ideal S1x128 .f32) (xo8 : Vec Ideal S1x1024 .f32) :
    out0_B_6 c i a1 h1 a2 h2 a3 h3 a4 h4 a5 h5 a6 h6 a7 h7 a8 h8 a9 h9 hc0 hc1 hc2 hc3 x0 x1 x2 x3 x4 xo5 xo8 = framesOf x0 x1 x2 x3 x4 := by
  unfold out0_B_6
  rw [View.read_writes_eq_canon _ _ _ (cover0_B_6 c i a1 h1 a2 h2 a3 h3 a4 h4 a5 h5 a6 h6 a7 h7 a8 h8 a9 h9 hc0 hc1 hc2 hc3 x0 x1 x2 x3 x4 xo5 xo8)]
  unfold kernelRun0_B
  dsimp only
  sl_unfold_words
  rw [View.canon_unit_zero zeros2]
  unfold k0_pay15
  simp only [View.readAt_eq_ld, h1.read_unread, h2.read_unread, h3.read_unread, h4.read_unread, h5.read_unread, h6.read_unread, h9.read_unread, View.ld_unit_zero (S := S256x1024) zeros2, View.ld_unit_zero (S := S1x1024) zeros2, View.ld_unit_zero (S := S1x128) zeros2, shapeCast_self]
  rfl
theorem half_next (c : Dev nD) (i : grid0.Coords) (a1 : Memref sig .tc .vmem S1x4x256x704 .bf16) (h1 : a1.IsWhole) (a2 : Memref sig .tc .vmem S2816x1024 .bf16) (h2 : a2.IsWhole) (a3 : Memref sig .tc .vmem S256x1024 .f32) (h3 : a3.IsWhole) (a4 : Memref sig .tc .vmem S1x1024 .f32) (h4 : a4.IsWhole) (a5 : Memref sig .tc .vmem S256x1024 .f32) (h5 : a5.IsWhole) (a6 : Memref sig .tc .vmem S1x128 .f32) (h6 : a6.IsWhole) (a7 : Memref sig .tc .vmem S256x1024 .f32) (h7 : a7.IsWhole) (a8 : Memref sig .tc .vmem S256x1024 .bf16) (h8 : a8.IsWhole) (a9 : Memref sig .tc .vmem S1x1024 .f32) (h9 : a9.IsWhole) (hc0 : ¬cond0_0 i) (hc1 : cond0_1 i) (hc2 : ¬cond0_2 i) (hc3 : cond0_3 i) (x0 : Vec Ideal S1x4x256x704 .bf16) (x1 : Vec Ideal S2816x1024 .bf16) (x2 : Vec Ideal S256x1024 .f32) (x3 : Vec Ideal S1x1024 .f32) (x4 : Vec Ideal S256x1024 .f32) (xo5 : Vec Ideal S1x128 .f32) (xo8 : Vec Ideal S1x1024 .f32) :
    out0_B_7 c i a1 h1 a2 h2 a3 h3 a4 h4 a5 h5 a6 h6 a7 h7 a8 h8 a9 h9 hc0 hc1 hc2 hc3 x0 x1 x2 x3 x4 xo5 xo8 = framesOf x0 x1 x2 x3 x4 := by
  unfold out0_B_7
  rw [View.read_writes_eq_canon _ _ _ (cover0_B_7 c i a1 h1 a2 h2 a3 h3 a4 h4 a5 h5 a6 h6 a7 h7 a8 h8 a9 h9 hc0 hc1 hc2 hc3 x0 x1 x2 x3 x4 xo5 xo8)]
  unfold kernelRun0_B
  dsimp only
  sl_unfold_words
  rw [View.canon_unit_zero zeros2]
  unfold k0_pay1
  simp only [View.readAt_eq_ld, h1.read_unread, h2.read_unread, h3.read_unread, h4.read_unread, h5.read_unread, h6.read_unread, h9.read_unread, View.ld_unit_zero (S := S256x1024) zeros2, View.ld_unit_zero (S := S1x1024) zeros2, View.ld_unit_zero (S := S1x128) zeros2, shapeCast_self]
  rfl
theorem gain_next (c : Dev nD) (i : grid0.Coords) (a1 : Memref sig .tc .vmem S1x4x256x704 .bf16) (h1 : a1.IsWhole) (a2 : Memref sig .tc .vmem S2816x1024 .bf16) (h2 : a2.IsWhole) (a3 : Memref sig .tc .vmem S256x1024 .f32) (h3 : a3.IsWhole) (a4 : Memref sig .tc .vmem S1x1024 .f32) (h4 : a4.IsWhole) (a5 : Memref sig .tc .vmem S256x1024 .f32) (h5 : a5.IsWhole) (a6 : Memref sig .tc .vmem S1x128 .f32) (h6 : a6.IsWhole) (a7 : Memref sig .tc .vmem S256x1024 .f32) (h7 : a7.IsWhole) (a8 : Memref sig .tc .vmem S256x1024 .bf16) (h8 : a8.IsWhole) (a9 : Memref sig .tc .vmem S1x1024 .f32) (h9 : a9.IsWhole) (hc0 : ¬cond0_0 i) (hc1 : cond0_1 i) (hc2 : ¬cond0_2 i) (hc3 : cond0_3 i) (x0 : Vec Ideal S1x4x256x704 .bf16) (x1 : Vec Ideal S2816x1024 .bf16) (x2 : Vec Ideal S256x1024 .f32) (x3 : Vec Ideal S1x1024 .f32) (x4 : Vec Ideal S256x1024 .f32) (xo5 : Vec Ideal S1x128 .f32) (xo8 : Vec Ideal S1x1024 .f32) :
    out0_B_8 c i a1 h1 a2 h2 a3 h3 a4 h4 a5 h5 a6 h6 a7 h7 a8 h8 a9 h9 hc0 hc1 hc2 hc3 x0 x1 x2 x3 x4 xo5 xo8 = addf xo8 (gainOf x0 x1 x2 x3 x4) := by
  unfold out0_B_8
  rw [View.read_writes_eq_canon _ _ _ (cover0_B_8 c i a1 h1 a2 h2 a3 h3 a4 h4 a5 h5 a6 h6 a7 h7 a8 h8 a9 h9 hc0 hc1 hc2 hc3 x0 x1 x2 x3 x4 xo5 xo8)]
  unfold kernelRun0_B
  dsimp only
  sl_unfold_words
  rw [View.canon_unit_zero zeros2]
  unfold k0_pay5
  simp only [View.readAt_eq_ld, h1.read_unread, h2.read_unread, h3.read_unread, h4.read_unread, h5.read_unread, h6.read_unread, h9.read_unread, View.ld_unit_zero (S := S256x1024) zeros2, View.ld_unit_zero (S := S1x1024) zeros2, View.ld_unit_zero (S := S1x128) zeros2, shapeCast_self]
  rfl

end

/-! ## The blocks of the arrays -/

theorem index0 : ∀ t : Fin cfg0.N, win0_0.index t 0 = 0 ∧ win0_0.index t 1 = 0 ∧ win0_0.index t 2 = t.val ∧ win0_0.index t 3 = 0 :=
  (by decide +kernel : ∀ t : Fin grid0.N, win0_0.index t 0 = 0 ∧ win0_0.index t 1 = 0 ∧ win0_0.index t 2 = t.val ∧ win0_0.index t 3 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = t.val ∧ win0_6.index t 1 = 0 :=
  (by decide +kernel : ∀ t : Fin grid0.N, win0_6.index t 0 = t.val ∧ win0_6.index t 1 = 0)
theorem index7 : ∀ t : Fin cfg0.N, win0_7.index t 0 = t.val ∧ win0_7.index t 1 = 0 :=
  (by decide +kernel : ∀ t : Fin grid0.N, win0_7.index t 0 = t.val ∧ win0_7.index t 1 = 0)
theorem index8 : ∀ t : Fin cfg0.N, win0_8.index t 0 = 0 ∧ win0_8.index t 1 = 0 :=
  (by decide +kernel : ∀ t : Fin grid0.N, win0_8.index t 0 = 0 ∧ win0_8.index t 1 = 0)

variable (m : (ℓ : Loc nD τ sig) → Buf (Elt Ideal) ℓ) (c : Dev nD)
variable {A : Fin 2048 → Fin 2816 → ℝ} {W : Fin 2816 → Fin 1024 → ℝ} {B X : Fin 2048 → Fin 1024 → ℝ} {G : Fin 1024 → ℝ} {Y : Fin 2048 → Fin 1024 → ℝ}

/-- The arguments hold reals. -/
structure Reals (A : Fin 2048 → Fin 2816 → ℝ) (W : Fin 2816 → Fin 1024 → ℝ) (B : Fin 2048 → Fin 1024 → ℝ) (G : Fin 1024 → ℝ) (Y : Fin 2048 → Fin 1024 → ℝ) : Prop where
  rows : Blocks (m ((c : Thread nD τ).loc main_arg0)) A
  weights : Holds (m ((c : Thread nD τ).loc main_arg1)) W
  added : Holds (m ((c : Thread nD τ).loc main_arg2)) B
  gain : ∀ i : S1x1024.Idx, @Eq EReal (m ((c : Thread nD τ).loc main_arg3) i) ((G (i 1) : ℝ) : EReal)
  target : Holds (m ((c : Thread nD τ).loc main_arg4)) Y

/-- Row `i` of point `t`'s tile. -/
def row (t : Fin cfg0.N) (i : Fin 256) : Fin 2048 := ⟨256 * t.val + i.val, by have := lt_of_lt_of_eq t.isLt N_0; omega⟩

variable {m c} (H : Reals m c A W B G Y)
include H

theorem rows_at (t : Fin cfg0.N) : Blocks (iblk m c 0 t) fun i k => A (row t i) k := fun j k hk => by
  unfold iblk
  rw [View.read_apply]
  show @Eq EReal (V m c main_arg0 _) _
  rw [V_main_arg0]
  obtain ⟨e0, e1, e2, e3⟩ := index0 t
  refine (H.rows _ k ?_).trans (congrArg (fun R => ((A R k : ℝ) : EReal)) (Fin.ext ?_))
  · show k.val = (win0_0.index t 1 * 4 + 1 * (j 1).val) * 704 + (win0_0.index t 3 * 704 + 1 * (j 3).val)
    rw [e1, e3, hk]; omega
  · show win0_0.index t 2 * 256 + 1 * (j 2).val = 256 * t.val + (j 2).val; omega
theorem weights_at (t : Fin cfg0.N) : Holds (iblk m c 1 t) W := fun j => by
  unfold iblk
  rw [View.read_apply]
  show @Eq EReal (V m c main_arg1 _) _
  rw [V_main_arg1]
  obtain ⟨e0, e1⟩ := index1 t
  refine (H.weights _).trans (congrArg Real.toEReal (congrArg₂ W (Fin.ext ?_) (Fin.ext ?_)))
  · show win0_1.index t 0 * 2816 + 1 * (j 0).val = (j 0).val; omega
  · show win0_1.index t 1 * 1024 + 1 * (j 1).val = (j 1).val; omega
theorem added_of (t : Fin cfg0.N) : Holds (iblk m c 2 t) fun i k => B (row t i) k := fun j => by
  unfold iblk
  rw [View.read_apply]
  show @Eq EReal (V m c main_arg2 _) _
  rw [V_main_arg2]
  obtain ⟨e0, e1⟩ := index2 t
  refine (H.added _).trans (congrArg Real.toEReal (congrArg₂ B (Fin.ext ?_) (Fin.ext ?_)))
  · show win0_2.index t 0 * 256 + 1 * (j 0).val = 256 * t.val + (j 0).val; omega
  · show win0_2.index t 1 * 1024 + 1 * (j 1).val = (j 1).val; omega
theorem target_of (t : Fin cfg0.N) : Holds (iblk m c 4 t) fun i k => Y (row t i) k := fun j => by
  unfold iblk
  rw [View.read_apply]
  show @Eq EReal (V m c main_arg4 _) _
  rw [V_main_arg4]
  obtain ⟨e0, e1⟩ := index4 t
  refine (H.target _).trans (congrArg Real.toEReal (congrArg₂ Y (Fin.ext ?_) (Fin.ext ?_)))
  · show win0_4.index t 0 * 256 + 1 * (j 0).val = 256 * t.val + (j 0).val; omega
  · show win0_4.index t 1 * 1024 + 1 * (j 1).val = (j 1).val; omega
theorem gain_of (t : Fin cfg0.N) (j : S1x1024.Idx) : @Eq EReal (iblk m c 3 t j) ((G (j 1) : ℝ) : EReal) := by
  unfold iblk
  rw [View.read_apply]
  show @Eq EReal (V m c main_arg3 _) _
  rw [V_main_arg3]
  obtain ⟨e0, e1⟩ := index3 t
  refine (H.gain _).trans (congrArg Real.toEReal (congrArg G (Fin.ext ?_)))
  show win0_3.index t 1 * 1024 + 1 * (j 1).val = (j 1).val; omega
theorem sum_of (t : Fin cfg0.N) : Holds (sum (iblk m c 0 t) (iblk m c 1 t) (iblk m c 2 t)) fun i k => plus B A W (row t i) k :=
  sum_at (rows_at H t) (weights_at H t) (added_of H t)

/-! ## What the points leave -/

omit H in
theorem same_point (n n' : Nat) (h : n < cfg0.N) (h' : n' < cfg0.N) (e : n = n') : outsAt0 m c n h = outsAt0 m c n' h' := by subst e; rfl

omit H in
/-- The loss, in every place of its row. -/
def loss (X : Fin 2048 → Fin 1024 → ℝ) (G : Fin 1024 → ℝ) (Y : Fin 2048 → Fin 1024 → ℝ) (_ : S1x128.Idx) : EReal := ((1 / 2 * ∑ R, rowLoss X G Y R : ℝ) : EReal)
omit H in
/-- The rows' gradient, as an array. -/
def frames (X : Fin 2048 → Fin 1024 → ℝ) (G : Fin 1024 → ℝ) (Y : Fin 2048 → Fin 1024 → ℝ) (i : S2048x1024.Idx) : EReal :=
  ((back (X (i 0)) (fun k => lossGrad X G Y (i 0) k * G k) (i 1) : ℝ) : EReal)
omit H in
/-- The gain's gradient, as an array. -/
def gain (X : Fin 2048 → Fin 1024 → ℝ) (G : Fin 1024 → ℝ) (Y : Fin 2048 → Fin 1024 → ℝ) (i : S1x1024.Idx) : EReal :=
  ((∑ R, lossGrad X G Y R (i 1) * (X R (i 1) * rinv (X R)) : ℝ) : EReal)

omit H in
/-- A tile's part of a sum over the rows. -/
def tile (F : Fin 2048 → ℝ) (t : Nat) : ℝ := ∑ i : Fin 256, if h : 256 * t + i.val < 2048 then F ⟨256 * t + i.val, h⟩ else 0
omit H in
theorem tile_eq (F : Fin 2048 → ℝ) (t : Fin cfg0.N) : (∑ i : Fin 256, F (row t i)) = tile F t.val := by
  have t8 : t.val < 8 := lt_of_lt_of_eq t.isLt N_0
  refine Finset.sum_congr rfl fun i _ => ?_
  have hi := i.isLt
  rw [dif_pos (by omega)]
  rfl
omit H in
theorem tiles (F : Fin 2048 → ℝ) (t : Fin cfg0.N) (h : t.val % 8 = 7) : (∑ s ∈ Finset.range (t.val + 1), tile F s) = ∑ R, F R := by
  have t8 : t.val < 8 := lt_of_lt_of_eq t.isLt N_0
  have t7 : t.val + 1 = 8 := by omega
  rw [t7]
  exact (sum_rows8 F).symm

omit H in
/-- A row's part of the loss, and of the gain's gradient. -/
def lossRow (X : Fin 2048 → Fin 1024 → ℝ) (G : Fin 1024 → ℝ) (Y : Fin 2048 → Fin 1024 → ℝ) (R : Fin 2048) : ℝ := 1 / 2 * rowLoss X G Y R
omit H in
def gainRow (X : Fin 2048 → Fin 1024 → ℝ) (G : Fin 1024 → ℝ) (Y : Fin 2048 → Fin 1024 → ℝ) (j : Fin 1024) (R : Fin 2048) : ℝ :=
  lossGrad X G Y R j * (X R j * rinv (X R))

theorem loss_tile (t : Fin cfg0.N) (j : S1x128.Idx) : @Eq EReal (lossOf (iblk m c 0 t) (iblk m c 1 t) (iblk m c 2 t) (iblk m c 3 t) (iblk m c 4 t) j) ((tile (lossRow (plus B A W) G Y) t.val : ℝ) : EReal) :=
  (loss_at (sum_of H t) (gain_of H t) (target_of H t) j).trans (congrArg Real.toEReal ((Finset.mul_sum _ _ _).trans (tile_eq (lossRow (plus B A W) G Y) t)))
theorem gain_tile (t : Fin cfg0.N) (j : S1x1024.Idx) : @Eq EReal (gainOf (iblk m c 0 t) (iblk m c 1 t) (iblk m c 2 t) (iblk m c 3 t) (iblk m c 4 t) j) ((tile (gainRow (plus B A W) G Y (j 1)) t.val : ℝ) : EReal) :=
  (gain_at (sum_of H t) (gain_of H t) (target_of H t) j).trans (congrArg Real.toEReal (tile_eq (gainRow (plus B A W) G Y (j 1)) t))
theorem frames_point (t : Fin cfg0.N) (j : S256x1024.Idx) : @Eq EReal ((outsAt0 m c t.val t.isLt).2.1 j) (frames (plus B A W) G Y (ix2 (row t (j 0)) (j 1))) := by
  have t8 : t.val < 8 := lt_of_lt_of_eq t.isLt N_0
  have h := frames_at (sum_of H t) (gain_of H t) (target_of H t) j
  by_cases h0 : t.val = 0
  · rw [outsAt0_A m c t (by omega) (by omega) (by omega) (by omega)]
    dsimp only
    rw [frames_first]
    exact h
  · rw [outsAt0_B m c t (by omega) (by omega) (by omega) (by omega)]
    dsimp only
    rw [frames_next]
    exact h
theorem half_point (t : Fin cfg0.N) (j : S256x1024.Idx) : @Eq EReal ((outsAt0 m c t.val t.isLt).2.2.1 j) (frames (plus B A W) G Y (ix2 (row t (j 0)) (j 1))) := by
  have t8 : t.val < 8 := lt_of_lt_of_eq t.isLt N_0
  have h := frames_at (sum_of H t) (gain_of H t) (target_of H t) j
  by_cases h0 : t.val = 0
  · rw [outsAt0_A m c t (by omega) (by omega) (by omega) (by omega)]
    dsimp only
    rw [half_first]
    exact h
  · rw [outsAt0_B m c t (by omega) (by omega) (by omega) (by omega)]
    dsimp only
    rw [half_next]
    exact h

theorem loss_point (n : Nat) : ∀ (h : n < cfg0.N) (j : S1x128.Idx),
    @Eq EReal ((outsAt0 m c n h).1 j) ((∑ t ∈ Finset.range (n + 1), tile (lossRow (plus B A W) G Y) t : ℝ) : EReal) := by
  induction n with
  | zero =>
    intro h j
    have e := outsAt0_A m c ⟨0, h⟩ (by rfl) (by dsimp only; omega) (by rfl) (by dsimp only; omega)
    dsimp only at e
    rw [e]
    dsimp only
    rw [loss_first, Finset.sum_range_one]
    exact loss_tile H ⟨0, h⟩ j
  | succ n ih =>
    intro h j
    have h8 : n + 1 < 8 := lt_of_lt_of_eq h N_0
    have e := outsAt0_B m c ⟨n + 1, h⟩ (by dsimp only; omega) (by dsimp only; omega) (by dsimp only; omega) (by dsimp only; omega)
    dsimp only at e
    rw [e]
    dsimp only
    rw [loss_next, same_point (n + 1 - 1) n _ (by omega) (by omega), Finset.sum_range_succ _ (n + 1)]
    exact add_r (ih (by omega) j) (loss_tile H ⟨n + 1, h⟩ j)

theorem gain_point (n : Nat) : ∀ (h : n < cfg0.N) (j : S1x1024.Idx),
    @Eq EReal ((outsAt0 m c n h).2.2.2 j) ((∑ t ∈ Finset.range (n + 1), tile (gainRow (plus B A W) G Y (j 1)) t : ℝ) : EReal) := by
  induction n with
  | zero =>
    intro h j
    have e := outsAt0_A m c ⟨0, h⟩ (by rfl) (by dsimp only; omega) (by rfl) (by dsimp only; omega)
    dsimp only at e
    rw [e]
    dsimp only
    rw [gain_first, Finset.sum_range_one]
    exact gain_tile H ⟨0, h⟩ j
  | succ n ih =>
    intro h j
    have h8 : n + 1 < 8 := lt_of_lt_of_eq h N_0
    have e := outsAt0_B m c ⟨n + 1, h⟩ (by dsimp only; omega) (by dsimp only; omega) (by dsimp only; omega) (by dsimp only; omega)
    dsimp only at e
    rw [e]
    dsimp only
    rw [gain_next, same_point (n + 1 - 1) n _ (by omega) (by omega), Finset.sum_range_succ _ (n + 1)]
    exact add_r (ih (by omega) j) (gain_tile H ⟨n + 1, h⟩ j)

theorem loss_whole (t : Fin cfg0.N) (h : t.val % 8 = 7) (j : S1x128.Idx) : @Eq EReal ((outsAt0 m c t.val t.isLt).1 j) (loss (plus B A W) G Y j) :=
  (loss_point H t.val t.isLt j).trans (congrArg Real.toEReal ((tiles (lossRow (plus B A W) G Y) t h).trans (Finset.mul_sum _ _ _).symm))
theorem gain_whole (t : Fin cfg0.N) (h : t.val % 8 = 7) (j : S1x1024.Idx) : @Eq EReal ((outsAt0 m c t.val t.isLt).2.2.2 j) (gain (plus B A W) G Y j) :=
  (gain_point H t.val t.isLt j).trans (congrArg Real.toEReal (tiles (gainRow (plus B A W) G Y (j 1)) t h))

/-! ## The arrays -/

theorem arr6 : (dats m 0 c).arrAt 6 cfg0.N = frames (plus B A W) G Y := by
  refine (dats m 0 c).arrAt_eq_of_cover 6 _ (fun t _ => ?_) fun i => ?_
  · rw [flushed6]
    funext j
    rw [View.read_apply]
    obtain ⟨e0, e1⟩ := index6 t
    refine (frames_point H t j).trans (congrArg (frames (plus B A W) G Y) (idx2 ?_ ?_))
    · show 256 * t.val + (j 0).val = win0_6.index t 0 * 256 + 1 * (j 0).val; omega
    · show (j 1).val = win0_6.index t 1 * 1024 + 1 * (j 1).val; omega
  · have i0 : (i 0).val < 2048 := (i 0).isLt
    have i1 : (i 1).val < 1024 := (i 1).isLt
    let t : Fin cfg0.N := ⟨(i 0).val / 256, by show _ < 8; omega⟩
    refine ⟨t, flush0_6 t, ?_⟩
    obtain ⟨e0, e1⟩ := index6 t
    have h := ((cfg0.win 6).blk t).view.emb_mem_set (ix2 (⟨(i 0).val % 256, by omega⟩ : Fin 256) (⟨(i 1).val, i1⟩ : Fin 1024))
    refine Eq.mp (congrArg (· ∈ _) (idx2 ?_ ?_)) h
    · show win0_6.index t 0 * 256 + 1 * ((i 0).val % 256) = (i 0).val
      rw [e0]; show (i 0).val / 256 * 256 + _ = _; omega
    · show win0_6.index t 1 * 1024 + 1 * (i 1).val = (i 1).val; omega
theorem arr7 : (dats m 0 c).arrAt 7 cfg0.N = frames (plus B A W) G Y := by
  refine (dats m 0 c).arrAt_eq_of_cover 7 _ (fun t _ => ?_) fun i => ?_
  · rw [flushed7]
    funext j
    rw [View.read_apply]
    obtain ⟨e0, e1⟩ := index7 t
    refine (half_point H t j).trans (congrArg (frames (plus B A W) G Y) (idx2 ?_ ?_))
    · show 256 * t.val + (j 0).val = win0_7.index t 0 * 256 + 1 * (j 0).val; omega
    · show (j 1).val = win0_7.index t 1 * 1024 + 1 * (j 1).val; omega
  · have i0 : (i 0).val < 2048 := (i 0).isLt
    have i1 : (i 1).val < 1024 := (i 1).isLt
    let t : Fin cfg0.N := ⟨(i 0).val / 256, by show _ < 8; omega⟩
    refine ⟨t, flush0_7 t, ?_⟩
    obtain ⟨e0, e1⟩ := index7 t
    have h := ((cfg0.win 7).blk t).view.emb_mem_set (ix2 (⟨(i 0).val % 256, by omega⟩ : Fin 256) (⟨(i 1).val, i1⟩ : Fin 1024))
    refine Eq.mp (congrArg (· ∈ _) (idx2 ?_ ?_)) h
    · show win0_7.index t 0 * 256 + 1 * ((i 0).val % 256) = (i 0).val
      rw [e0]; show (i 0).val / 256 * 256 + _ = _; omega
    · show win0_7.index t 1 * 1024 + 1 * (i 1).val = (i 1).val; omega
theorem arr5 : (dats m 0 c).arrAt 5 cfg0.N = loss (plus B A W) G Y := by
  refine (dats m 0 c).arrAt_eq_of_cover 5 _ (fun t ht => ?_) fun i => ?_
  · rw [flushed5]
    funext j
    rw [View.read_apply]
    exact loss_whole H t ((flush0_5 t).mp ht) j
  · have h7 : 7 < cfg0.N := lt_of_lt_of_eq (by decide) N_0.symm
    refine ⟨⟨7, h7⟩, (flush0_5 _).mpr rfl, ?_⟩
    obtain ⟨e0, e1⟩ := index5 ⟨7, h7⟩
    have h := ((cfg0.win 5).blk ⟨7, h7⟩).view.emb_mem_set (ix2 (⟨(i 0).val, (i 0).isLt⟩ : Fin 1) (⟨(i 1).val, (i 1).isLt⟩ : Fin 128))
    refine Eq.mp (congrArg (· ∈ _) (idx2 ?_ ?_)) h
    · show win0_5.index ⟨7, h7⟩ 0 * 1 + 1 * (i 0).val = (i 0).val; omega
    · show win0_5.index ⟨7, h7⟩ 1 * 128 + 1 * (i 1).val = (i 1).val; omega
theorem arr8 : (dats m 0 c).arrAt 8 cfg0.N = gain (plus B A W) G Y := by
  refine (dats m 0 c).arrAt_eq_of_cover 8 _ (fun t ht => ?_) fun i => ?_
  · rw [flushed8]
    funext j
    rw [View.read_apply]
    obtain ⟨e0, e1⟩ := index8 t
    refine (gain_whole H t ((flush0_8 t).mp ht) j).trans (congrArg (gain (plus B A W) G Y) (idx2 ?_ ?_))
    · show (j 0).val = win0_8.index t 0 * 1 + 1 * (j 0).val; omega
    · show (j 1).val = win0_8.index t 1 * 1024 + 1 * (j 1).val; omega
  · have h7 : 7 < cfg0.N := lt_of_lt_of_eq (by decide) N_0.symm
    refine ⟨⟨7, h7⟩, (flush0_8 _).mpr rfl, ?_⟩
    obtain ⟨e0, e1⟩ := index8 ⟨7, h7⟩
    have h := ((cfg0.win 8).blk ⟨7, h7⟩).view.emb_mem_set (ix2 (⟨(i 0).val, (i 0).isLt⟩ : Fin 1) (⟨(i 1).val, (i 1).isLt⟩ : Fin 1024))
    refine Eq.mp (congrArg (· ∈ _) (idx2 ?_ ?_)) h
    · show win0_8.index ⟨7, h7⟩ 0 * 1 + 1 * (i 0).val = (i 0).val; omega
    · show win0_8.index ⟨7, h7⟩ 1 * 1024 + 1 * (i 1).val = (i 1).val; omega

end Cert.MmDownLossIdeal.Head

end
-- ==== Proof.LossCalls.lean ====
/- The call that makes the loss: it runs, and where its arguments are finite its four results are its reference's. -/
module

public import proofs.«01_k».proof.Proof.NormCalls
public import proofs.«01_k».proof.Proof.Gen.MmDownLoss.Frame
public import proofs.«01_k».proof.Proof.Gen.MmDownLossRefIdeal.Run
public import proofs.«01_k».proof.Proof.LossValue

@[expose] public section

noncomputable section

namespace Cert.Pre_finite_9

open Idealize.ShloMosaic Cert.Pre_finite

theorem conditions : Cert.Pre_finite_9.Facts where
  bitsLt_bf16_f32 := by decide
  bcast_S_S1x4x2048x704 := by decide
  reducesTo_S1x4x2048x704_S_d0_1_2_3 := by decide
  h_S_ := by decide
  bcast_S_S2816x1024 := by decide
  reducesTo_S2816x1024_S_d0_1 := by decide
  bcast_S_S2048x1024 := by decide
  reducesTo_S2048x1024_S_d0_1 := by decide
  bcast_S_S1x1024 := by decide
  reducesTo_S1x1024_S_d0_1 := by decide

/-- The arguments hold reals where the precondition is all ones. -/
theorem real_of_fn (x0 : FVec Ideal S1x4x2048x704 .bf16) (x1 : FVec Ideal S2816x1024 .bf16) (x2 : FVec Ideal S2048x1024 .f32) (x3 : FVec Ideal S1x1024 .f32) (x4 : FVec Ideal S2048x1024 .f32)
    (h : @fn conditions Ideal _ x0 x1 x2 x3 x4 = fun _ => 1#1) :
    (∀ i, @Eq EReal (x0 i) (Real.toEReal (EReal.toReal (x0 i)))) ∧ (∀ i, @Eq EReal (x1 i) (Real.toEReal (EReal.toReal (x1 i)))) ∧ (∀ i, @Eq EReal (x2 i) (Real.toEReal (EReal.toReal (x2 i)))) ∧ (∀ i, @Eq EReal (x3 i) (Real.toEReal (EReal.toReal (x3 i)))) ∧ (∀ i, @Eq EReal (x4 i) (Real.toEReal (EReal.toReal (x4 i)))) := by
  have e := congrFun h (fun a : Fin 0 => a.elim0)
  simp only [fn, fn_part1] at e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  refine ⟨fun i => real_of_lt _ ?_, fun i => real_of_lt _ ?_, fun i => real_of_lt _ ?_, fun i => real_of_lt _ ?_, fun i => real_of_lt _ ?_⟩
  · exact Host.reduce_andi_all _ _ _ _ _ e0 i
  · exact Host.reduce_andi_all _ _ _ _ _ e1 i
  · exact Host.reduce_andi_all _ _ _ _ _ e2 i
  · exact Host.reduce_andi_all _ _ _ _ _ e3 i
  · exact Host.reduce_andi_all _ _ _ _ _ e4 i

end Cert.Pre_finite_9

namespace Cert.Proof

open Idealize.ShloMosaic Idealize.SL.Sem Idealize.ShloMosaic.StableHlo Idealize.ShloMosaic.TcCoe Cert.Norm

theorem frame_p_MmDownLoss : Cert.quiescent_MmDownLoss := fun m ρ _ => Cert.MmDownLoss.Gen.frame m ρ
theorem frame_pi_MmDownLoss : Cert.quiescent_MmDownLossIdeal := fun m ρ _ => Cert.MmDownLossIdeal.Gen.frame m ρ
theorem frame_ri_MmDownLoss : Cert.quiescent_MmDownLossRefIdeal := fun m ρ _ =>
  (θ_run Cert.MmDownLossRefIdeal.defs _ _).mono (fun r h => ⟨fun c => (h c).2.2.2.2, sem_eq_zero_of_no_sems (by decide) r.2⟩)
    (Cert.MmDownLossRefIdeal.Value.run (F := Ideal) m ρ)

namespace MmDownLoss

open Cert.MmDownLossIdeal

/-- The reals of the arguments on a device. -/
def rows (m : (ℓ : Loc Cert.MmDownLossIdeal.nD Cert.MmDownLossIdeal.τ Cert.MmDownLossIdeal.sig) → Buf (Elt Ideal) ℓ) (c : Dev Cert.MmDownLossIdeal.nD) (r : Fin 2048) (k : Fin 2816) : ℝ :=
  EReal.toReal (m ((c.tc : Thread nD τ).loc main_arg0) (ix4 (0 : Fin 1) (⟨k.val / 704, by omega⟩ : Fin 4) r (⟨k.val % 704, by omega⟩ : Fin 704)))
def weights (m : (ℓ : Loc Cert.MmDownLossIdeal.nD Cert.MmDownLossIdeal.τ Cert.MmDownLossIdeal.sig) → Buf (Elt Ideal) ℓ) (c : Dev Cert.MmDownLossIdeal.nD) (r : Fin 2816) (k : Fin 1024) : ℝ :=
  EReal.toReal (m ((c.tc : Thread nD τ).loc main_arg1) (ix2 r k))
def added (m : (ℓ : Loc Cert.MmDownLossIdeal.nD Cert.MmDownLossIdeal.τ Cert.MmDownLossIdeal.sig) → Buf (Elt Ideal) ℓ) (c : Dev Cert.MmDownLossIdeal.nD) (r : Fin 2048) (k : Fin 1024) : ℝ :=
  EReal.toReal (m ((c.tc : Thread nD τ).loc main_arg2) (ix2 r k))
def gain (m : (ℓ : Loc Cert.MmDownLossIdeal.nD Cert.MmDownLossIdeal.τ Cert.MmDownLossIdeal.sig) → Buf (Elt Ideal) ℓ) (c : Dev Cert.MmDownLossIdeal.nD) (k : Fin 1024) : ℝ :=
  EReal.toReal (m ((c.tc : Thread nD τ).loc main_arg3) (ix2 (0 : Fin 1) k))
def target (m : (ℓ : Loc Cert.MmDownLossIdeal.nD Cert.MmDownLossIdeal.τ Cert.MmDownLossIdeal.sig) → Buf (Elt Ideal) ℓ) (c : Dev Cert.MmDownLossIdeal.nD) (r : Fin 2048) (k : Fin 1024) : ℝ :=
  EReal.toReal (m ((c.tc : Thread nD τ).loc main_arg4) (ix2 r k))
/-- The reals of the rows that enter the norm. -/
def normed (m : (ℓ : Loc Cert.MmDownLossIdeal.nD Cert.MmDownLossIdeal.τ Cert.MmDownLossIdeal.sig) → Buf (Elt Ideal) ℓ) (c : Dev Cert.MmDownLossIdeal.nD) : Fin 2048 → Fin 1024 → ℝ := plus (added m c) (rows m c) (weights m c)

theorem reals (m : (ℓ : Loc Cert.MmDownLossIdeal.nD Cert.MmDownLossIdeal.τ Cert.MmDownLossIdeal.sig) → Buf (Elt Ideal) ℓ) (c : Dev Cert.MmDownLossIdeal.nD) (h : Cert.Pre_MmDownLossIdeal_finite_9 (hPre_finite_9 := Cert.Pre_finite_9.conditions) m) :
    Head.Reals m c (rows m c) (weights m c) (added m c) (gain m c) (target m c) := by
  obtain ⟨h0, h1, h2, h3, h4⟩ := Cert.Pre_finite_9.real_of_fn _ _ _ _ _ (h c)
  exact ⟨fun i k hk => (h0 i).trans (congrArg (fun j => Real.toEReal (EReal.toReal (m ((c.tc : Thread nD τ).loc main_arg0) j))) (funext fun a => match a with
    | ⟨0, _⟩ => Subsingleton.elim (α := Fin 1) _ _
    | ⟨1, _⟩ => Fin.ext (by
      have i3 : (i 3).val < 704 := (i 3).isLt
      show (i 1).val = k.val / 704; omega)
    | ⟨2, _⟩ => rfl
    | ⟨3, _⟩ => Fin.ext (by
      have i3 : (i 3).val < 704 := (i 3).isLt
      show (i 3).val = k.val % 704; omega))), holds_of _ h1, holds_of _ h2, row_of _ h3, holds_of _ h4⟩

end MmDownLoss

/-- Both programs end with the loss, the rows' gradient twice and the gain's gradient. -/
theorem algebraic_MmDownLoss : Cert.algebraic_MmDownLossIdeal_MmDownLossRefIdeal_pre_finite_9 (hPre_finite_9 := Cert.Pre_finite_9.conditions) := by
  intro m ρ m' ρ' hpre hargs
  refine ⟨fun c => Cert.MmDownLossIdeal.Head.loss (MmDownLoss.normed m c) (MmDownLoss.gain m c) (MmDownLoss.target m c),
    fun c => Cert.MmDownLossIdeal.Head.frames (MmDownLoss.normed m c) (MmDownLoss.gain m c) (MmDownLoss.target m c),
    fun c => Cert.MmDownLossIdeal.Head.frames (MmDownLoss.normed m c) (MmDownLoss.gain m c) (MmDownLoss.target m c),
    fun c => Cert.MmDownLossIdeal.Head.gain (MmDownLoss.normed m c) (MmDownLoss.gain m c) (MmDownLoss.target m c), ?_, ?_⟩
  · refine (θ_run Cert.MmDownLossIdeal.defs _ _).mono (fun r h c => ?_) (Cert.MmDownLossIdeal.Value.run_blocks (F := Ideal) m ρ)
    have H := MmDownLoss.reals m c hpre
    exact ⟨(h c).1.trans (Cert.MmDownLossIdeal.Head.arr5 H), (h c).2.1.trans (Cert.MmDownLossIdeal.Head.arr6 H), (h c).2.2.1.trans (Cert.MmDownLossIdeal.Head.arr7 H), (h c).2.2.2.1.trans (Cert.MmDownLossIdeal.Head.arr8 H), (h c).2.2.2.2⟩
  · refine (θ_run Cert.MmDownLossRefIdeal.defs _ _).mono (fun r h c => ?_) (Cert.MmDownLossRefIdeal.Value.run (F := Ideal) m' ρ')
    obtain ⟨e0, e1, e2, e3, e4⟩ := hargs c
    have H := MmDownLoss.reals m c hpre
    have hX := Cert.MmDownLossRefIdeal.Head.r5 H.rows H.weights H.added
    refine ⟨(h c).1.trans ?_, (h c).2.1.trans ?_, (h c).2.2.1.trans ?_, (h c).2.2.2.1.trans ?_, (h c).2.2.2.2⟩
    · refine (Cert.MmDownLossRefIdeal.Read.val_main_v55_eq (F := Ideal) _ _ _ _ _).trans ?_
      exact (all5 (Cert.MmDownLossRefIdeal.Read.val_main_v55 (F := Ideal)) e0 e1 e2 e3 e4).trans (funext fun i => Cert.MmDownLossRefIdeal.Head.r55 hX H.gain H.target i)
    · refine (Cert.MmDownLossRefIdeal.Read.val_main_v54_eq (F := Ideal) m' c).trans ?_
      exact (all5 (Cert.MmDownLossRefIdeal.Read.val_main_v54 (F := Ideal)) e0 e1 e2 e3 e4).trans (funext fun i => Cert.MmDownLossRefIdeal.Head.r54 hX H.gain H.target i)
    · refine (Cert.MmDownLossRefIdeal.Read.val_main_v56_eq (F := Ideal) m' c).trans ?_
      exact (all5 (Cert.MmDownLossRefIdeal.Read.val_main_v56 (F := Ideal)) e0 e1 e2 e3 e4).trans (funext fun i => Cert.MmDownLossRefIdeal.Head.r56 hX H.gain H.target i)
    · refine (Cert.MmDownLossRefIdeal.Read.val_main_v38_eq (F := Ideal) _ _ _ _ _).trans ?_
      exact (all5 (Cert.MmDownLossRefIdeal.Read.val_main_v38 (F := Ideal)) e0 e1 e2 e3 e4).trans (funext fun i => Cert.MmDownLossRefIdeal.Head.r38 hX H.gain H.target i)

end Cert.Proof

end
-- ==== Proof.AdamW.lean ====
/- The optimiser's update of one entry of a weight, over the extended reals: the sum of the partial gradients, the two
   running averages and the change of the weight. -/
module

public import proofs.«01_k».proof.Proof.Products
public import Idealize.ShloMosaic.Lib.Pipeline.ValueKit.Tiles

@[expose] public section

noncomputable section

namespace Cert.AdamW

open Idealize.ShloMosaic

/-- The gradient: a device's own part and the three it received. -/
def total (s : EReal) (r : Fin 3 → EReal) : EReal := s + ∑ k, r k
/-- The running average of the gradient. -/
def moment (m g : EReal) : EReal :=
  (Scalar.ofBits (F := Ideal) .f32 0x3F666666#32 : EReal) * m + (Scalar.ofBits (F := Ideal) .f32 0x3DCCCCCD#32 : EReal) * g
/-- The running average of the gradient's square. -/
def square (v g : EReal) : EReal :=
  (Scalar.ofBits (F := Ideal) .f32 0x3F7FBE77#32 : EReal) * v + (Scalar.ofBits (F := Ideal) .f32 0x3A83126F#32 : EReal) * (g * g)
/-- The change of the weight, from the weight and the two new averages. -/
def delta (w m v : EReal) : EReal :=
  (Scalar.ofBits (F := Ideal) .f32 0xBA83126F#32 : EReal) *
    (Ideal.div (Ideal.div m (Scalar.ofBits (F := Ideal) .f32 0x3F26BD02#32))
        ((Ideal.sqrt (Ideal.div v (Scalar.ofBits (F := Ideal) .f32 0x3C231ACC#32)) : EReal) + (Scalar.ofBits (F := Ideal) .f32 0x322BCC77#32 : EReal))
      + (Scalar.ofBits (F := Ideal) .f32 0x3C23D70A#32 : EReal) * w)

/-- The parts added one after the other. -/
theorem total_eq (s : EReal) (r : Fin 3 → EReal) : ((s + r 0) + r 1) + r 2 = total s r := by
  unfold total
  rw [Fin.sum_univ_three, add_assoc, add_assoc, add_assoc]

theorem zeros3 : (![0, 0, 0] : Fin 3 → Nat) = fun _ => 0 := funext fun a => match a with
  | ⟨0, _⟩ => rfl
  | ⟨1, _⟩ => rfl
  | ⟨2, _⟩ => rfl
/-- Two indices with the same coordinates are the same. -/
theorem idx3 {a b c : Nat} {i j : (⟨3, ![a, b, c]⟩ : Shape).Idx} (h0 : (i 0).val = (j 0).val) (h1 : (i 1).val = (j 1).val)
    (h2 : (i 2).val = (j 2).val) : i = j :=
  funext fun x => match x with
  | ⟨0, _⟩ => Fin.ext h0
  | ⟨1, _⟩ => Fin.ext h1
  | ⟨2, _⟩ => Fin.ext h2

end Cert.AdamW

end
-- ==== Proof.AdamSquareValue.lean ====
/- The optimiser's call for a square weight: each block is the update of its entries, and so is the reference's array. -/
module

public import proofs.«01_k».proof.Proof.AdamW
public import proofs.«01_k».proof.Proof.Gen.AdamSquare.Frame
public import proofs.«01_k».proof.Proof.Gen.AdamSquareIdeal.Frame
public import proofs.«01_k».proof.Proof.Gen.AdamSquareRefIdeal.Read

@[expose] public section

noncomputable section

namespace Cert.AdamSquare.Head

open Cert.AdamSquare Cert.AdamSquare.Gen Idealize.ShloMosaic Idealize.ShloMosaic.TcCoe Idealize.ShloMosaic.Tactic

variable {F : FTy → Type} [FloatOps F] (m : (ℓ : Loc nD τ sig) → Buf (Elt F) ℓ)

/-- The table holds the number of the device's own part, which is zero. -/
theorem table (x : S1.Idx) : (V m 0 main_v0 : S1.Idx → BitVec 32) x = 0#32 := by
  have h : (V m 0 main_v0 : S1.Idx → BitVec 32) = broadcastInDim S1 ![] bcast_S_S1 (constantI S_ 32 0#32) := by
    after_results_simp <;> rfl
  rw [h]
  rfl
theorem index_own (i : grid0.Coords) : cc0_transform_0 inb_S1_S1_0 numel1_S1 (tbl m) i = cc0_transform_1 i := by
  have h : (tbl m).at 0 (Rect.unit (s := S1) ![0] S1.size inb_S1_S1_0) numel1_S1 = (0#32 : BitVec 32) := table m _
  unfold cc0_transform_0
  dsimp only
  rw [h]
  rfl
theorem inside : ∀ (i : grid0.Coords) (a : Fin 3), (cc0_transform_1 i a + 1) * S1x128x1024.size a ≤ S4x128x1024.size a := by
  decide +kernel
/-- Every block the table points to lies inside its array. -/
theorem ok : Ok m := fun i => ⟨fun a => by rw [index_own]; exact inside i a, .inr (Affine.block_words_dvd (of_decide_eq_true rfl) (by decide))⟩

end Cert.AdamSquare.Head

namespace Cert.AdamSquareIdeal.Head

open Cert.AdamSquareIdeal Cert.AdamSquareIdeal.Gen Idealize.ShloMosaic Idealize.ShloMosaic.TcCoe Idealize.ShloMosaic.Tactic

variable {F : FTy → Type} [FloatOps F] (m : (ℓ : Loc nD τ sig) → Buf (Elt F) ℓ)

/-- The table holds the number of the device's own part, which is zero. -/
theorem table (x : S1.Idx) : (V m 0 main_v0 : S1.Idx → BitVec 32) x = 0#32 := by
  have h : (V m 0 main_v0 : S1.Idx → BitVec 32) = broadcastInDim S1 ![] bcast_S_S1 (constantI S_ 32 0#32) := by
    after_results_simp <;> rfl
  rw [h]
  rfl
theorem index_own (i : grid0.Coords) : cc0_transform_0 inb_S1_S1_0 numel1_S1 (tbl m) i = cc0_transform_1 i := by
  have h : (tbl m).at 0 (Rect.unit (s := S1) ![0] S1.size inb_S1_S1_0) numel1_S1 = (0#32 : BitVec 32) := table m _
  unfold cc0_transform_0
  dsimp only
  rw [h]
  rfl
theorem inside : ∀ (i : grid0.Coords) (a : Fin 3), (cc0_transform_1 i a + 1) * S1x128x1024.size a ≤ S4x128x1024.size a := by
  decide +kernel
/-- Every block the table points to lies inside its array. -/
theorem ok : Ok m := fun i => ⟨fun a => by rw [index_own]; exact inside i a, .inr (Affine.block_words_dvd (of_decide_eq_true rfl) (by decide))⟩

end Cert.AdamSquareIdeal.Head

namespace Cert.AdamSquareIdeal.Head

open Cert.AdamSquareIdeal Cert.AdamSquareIdeal.Gen Cert.Products Cert.AdamW Idealize.ShloMosaic Idealize.ShloMosaic.TcCoe Idealize.ShloMosaic.Tactic
open Idealize.ShloMosaic.Pipeline (Dat)

/-! ## The updated arrays -/

def grad (o : S4x128x1024.Idx → EReal) (r : S3x128x1024.Idx → EReal) (i : S128x1024.Idx) : EReal :=
  total (o (ix3 0 (i 0) (i 1))) fun k => r (ix3 k (i 0) (i 1))
def newM (o : S4x128x1024.Idx → EReal) (r : S3x128x1024.Idx → EReal) (μ : S128x1024.Idx → EReal) (i : S128x1024.Idx) : EReal :=
  moment (μ (ix2 (i 0) (i 1))) (grad o r i)
def newV (o : S4x128x1024.Idx → EReal) (r : S3x128x1024.Idx → EReal) (ν : S128x1024.Idx → EReal) (i : S128x1024.Idx) : EReal :=
  square (ν (ix2 (i 0) (i 1))) (grad o r i)
def change (o : S4x128x1024.Idx → EReal) (r : S3x128x1024.Idx → EReal) (w μ ν : S128x1024.Idx → EReal) (i : S128x1024.Idx) : EReal :=
  delta (w (ix2 (i 0) (i 1))) (newM o r μ i) (newV o r ν i)

/-! ## What one grid point stores -/

abbrev row0 (x : Vec Ideal S3x128x1024 .bf16) : Vec Ideal S1x128x1024 .bf16 :=
  View.ld x (Rect.unit (s := S3x128x1024) ![0, 0, 0] S1x128x1024.size inb_S3x128x1024_S1x128x1024_0_0_0)
theorem row0_at (x : Vec Ideal S3x128x1024 .bf16) (a : Fin 128) (b : Fin 1024) : row0 x (ix3 0 a b) = x (ix3 0 a b) :=
  View.ld_unit_apply_of x _ _ _ _ _ fun e => match e with
    | ⟨0, _⟩ => rfl
    | ⟨1, _⟩ => (Nat.zero_add _).symm
    | ⟨2, _⟩ => (Nat.zero_add _).symm
abbrev row1 (x : Vec Ideal S3x128x1024 .bf16) : Vec Ideal S1x128x1024 .bf16 :=
  View.ld x (Rect.unit (s := S3x128x1024) ![1, 0, 0] S1x128x1024.size inb_S3x128x1024_S1x128x1024_1_0_0)
theorem row1_at (x : Vec Ideal S3x128x1024 .bf16) (a : Fin 128) (b : Fin 1024) : row1 x (ix3 0 a b) = x (ix3 1 a b) :=
  View.ld_unit_apply_of x _ _ _ _ _ fun e => match e with
    | ⟨0, _⟩ => rfl
    | ⟨1, _⟩ => (Nat.zero_add _).symm
    | ⟨2, _⟩ => (Nat.zero_add _).symm
abbrev row2 (x : Vec Ideal S3x128x1024 .bf16) : Vec Ideal S1x128x1024 .bf16 :=
  View.ld x (Rect.unit (s := S3x128x1024) ![2, 0, 0] S1x128x1024.size inb_S3x128x1024_S1x128x1024_2_0_0)
theorem row2_at (x : Vec Ideal S3x128x1024 .bf16) (a : Fin 128) (b : Fin 1024) : row2 x (ix3 0 a b) = x (ix3 2 a b) :=
  View.ld_unit_apply_of x _ _ _ _ _ fun e => match e with
    | ⟨0, _⟩ => rfl
    | ⟨1, _⟩ => (Nat.zero_add _).symm
    | ⟨2, _⟩ => (Nat.zero_add _).symm

theorem flat (x : Vec Ideal S1x128x1024 .bf16) (j : S128x1024.Idx) :
    shapeCast S128x1024 x shapeCasts_S1x128x1024_S128x1024 j = x (ix3 0 (j 0) (j 1)) :=
  shapeCast_apply x _ _ _ (by
    rw [Shape.rowMajor_val_three, Shape.rowMajor_val_two]
    show (0 * 128 + (j 0).val) * 1024 + (j 1).val = (j 0).val * 1024 + (j 1).val
    omega)
theorem total_at (x0 : Vec Ideal S1x128x1024 .bf16) (x1 : Vec Ideal S3x128x1024 .bf16) (j : S128x1024.Idx) :
    @Eq EReal (k0_pay5 x0 (row0 x1) (row1 x1) (row2 x1) j) (total (x0 (ix3 0 (j 0) (j 1))) fun k => x1 (ix3 k (j 0) (j 1))) := by
  rw [← total_eq]
  show (((shapeCast S128x1024 x0 shapeCasts_S1x128x1024_S128x1024 j : EReal) + (shapeCast S128x1024 (row0 x1) shapeCasts_S1x128x1024_S128x1024 j : EReal))
    + (shapeCast S128x1024 (row1 x1) shapeCasts_S1x128x1024_S128x1024 j : EReal)) + (shapeCast S128x1024 (row2 x1) shapeCasts_S1x128x1024_S128x1024 j : EReal) = _
  exact congrArg₂ (fun a b : EReal => a + b) (congrArg₂ (fun a b : EReal => a + b) (congrArg₂ (fun a b : EReal => a + b) (flat x0 j)
    ((flat (row0 x1) j).trans (row0_at x1 (j 0) (j 1)))) ((flat (row1 x1) j).trans (row1_at x1 (j 0) (j 1))))
    ((flat (row2 x1) j).trans (row2_at x1 (j 0) (j 1)))

theorem stored (v : FVec Ideal S128x1024 .f32) (j : S128x1024.Idx) : shapeCast S128x1024 v shapeCasts_S128x1024_S128x1024 j = v (ix2 (j 0) (j 1)) := by
  rw [shapeCast_self]
  exact congrArg v (idx2 rfl rfl)

theorem change_at (w μ ν : FVec Ideal S128x1024 .f32) (j : S128x1024.Idx) : @Eq EReal (k0_pay2 w μ ν j)
    ((Scalar.ofBits (F := Ideal) .f32 0xBA83126F#32 : EReal) *
      (Ideal.div (μ (ix2 (j 0) (j 1))) ((ν (ix2 (j 0) (j 1)) : EReal) + (Scalar.ofBits (F := Ideal) .f32 0x322BCC77#32 : EReal))
        + (Scalar.ofBits (F := Ideal) .f32 0x3C23D70A#32 : EReal) * (w (ix2 (j 0) (j 1)) : EReal))) := by
  unfold k0_pay2
  refine (stored _ j).trans ?_
  rfl

theorem pay1_at (v : FVec Ideal S128x1024 .f32) (j : S128x1024.Idx) : k0_pay1 v j = v (ix2 (j 0) (j 1)) := by
  unfold k0_pay1
  exact stored v j

theorem pay3_at (v : FVec Ideal S128x1024 .f32) (j : S128x1024.Idx) : k0_pay3 v j = v (ix2 (j 0) (j 1)) := by
  unfold k0_pay3
  exact stored v j

theorem pay4_at (v : FVec Ideal S128x1024 .f32) (j : S128x1024.Idx) : k0_pay4 v j = v (ix2 (j 0) (j 1)) := by
  unfold k0_pay4
  exact stored v j

section
variable (c : Dev nD) (i : grid0.Coords) (a3 : Memref sig .tc .vmem S1x128x1024 .bf16) (h3 : a3.IsWhole) (a4 : Memref sig .tc .vmem S3x128x1024 .bf16) (h4 : a4.IsWhole) (a5 : Memref sig .tc .vmem S128x1024 .f32) (h5 : a5.IsWhole) (a6 : Memref sig .tc .vmem S128x1024 .f32) (h6 : a6.IsWhole) (a7 : Memref sig .tc .vmem S128x1024 .f32) (h7 : a7.IsWhole) (a8 : Memref sig .tc .vmem S128x1024 .f32) (h8 : a8.IsWhole) (a9 : Memref sig .tc .vmem S128x1024 .f32) (h9 : a9.IsWhole) (a10 : Memref sig .tc .vmem S128x1024 .f32) (h10 : a10.IsWhole) (a11 : Memref sig .tc .vmem S128x1024 .f32) (h11 : a11.IsWhole)
  (x0 : Vec Ideal S1x128x1024 .bf16) (x1 : Vec Ideal S3x128x1024 .bf16) (x2 x3 x4 : Vec Ideal S128x1024 .f32) (xt : TbBuf0 (F := Ideal) c tbM0_0)

theorem out5 : out0_A_5 c i a3 h3 a4 h4 a5 h5 a6 h6 a7 h7 a8 h8 a9 h9 a10 h10 a11 h11 x0 x1 x2 x3 x4 xt = k0_pay1 (k0_pay5 x0 (row0 x1) (row1 x1) (row2 x1)) := by
  unfold out0_A_5
  rw [View.read_writes_eq_canon _ _ _ (cover0_A_5 c i a3 h3 a4 h4 a5 h5 a6 h6 a7 h7 a8 h8 a9 h9 a10 h10 a11 h11 x0 x1 x2 x3 x4 xt)]
  unfold kernelRun0_A
  dsimp only
  sl_unfold_words
  rw [View.canon_unit_zero zeros2]
  simp only [View.readAt_eq_ld, h3.read_unread, h4.read_unread, h5.read_unread, h6.read_unread, h7.read_unread,
    View.ld_unit_zero (S := S1x128x1024) zeros3, View.ld_unit_zero (S := S128x1024) zeros2]

theorem out6 : out0_A_6 c i a3 h3 a4 h4 a5 h5 a6 h6 a7 h7 a8 h8 a9 h9 a10 h10 a11 h11 x0 x1 x2 x3 x4 xt = k0_pay2 x2 (k0_pay8 x0 (row0 x1) (row1 x1) (row2 x1) x3) (k0_pay9 x0 (row0 x1) (row1 x1) (row2 x1) x4) := by
  unfold out0_A_6
  rw [View.read_writes_eq_canon _ _ _ (cover0_A_6 c i a3 h3 a4 h4 a5 h5 a6 h6 a7 h7 a8 h8 a9 h9 a10 h10 a11 h11 x0 x1 x2 x3 x4 xt)]
  unfold kernelRun0_A
  dsimp only
  sl_unfold_words
  rw [View.canon_unit_zero zeros2]
  simp only [View.readAt_eq_ld, h3.read_unread, h4.read_unread, h5.read_unread, h6.read_unread, h7.read_unread,
    View.ld_unit_zero (S := S1x128x1024) zeros3, View.ld_unit_zero (S := S128x1024) zeros2]

theorem out7 : out0_A_7 c i a3 h3 a4 h4 a5 h5 a6 h6 a7 h7 a8 h8 a9 h9 a10 h10 a11 h11 x0 x1 x2 x3 x4 xt = k0_pay3 (k0_pay6 x0 (row0 x1) (row1 x1) (row2 x1) x3) := by
  unfold out0_A_7
  rw [View.read_writes_eq_canon _ _ _ (cover0_A_7 c i a3 h3 a4 h4 a5 h5 a6 h6 a7 h7 a8 h8 a9 h9 a10 h10 a11 h11 x0 x1 x2 x3 x4 xt)]
  unfold kernelRun0_A
  dsimp only
  sl_unfold_words
  rw [View.canon_unit_zero zeros2]
  simp only [View.readAt_eq_ld, h3.read_unread, h4.read_unread, h5.read_unread, h6.read_unread, h7.read_unread,
    View.ld_unit_zero (S := S1x128x1024) zeros3, View.ld_unit_zero (S := S128x1024) zeros2]

theorem out8 : out0_A_8 c i a3 h3 a4 h4 a5 h5 a6 h6 a7 h7 a8 h8 a9 h9 a10 h10 a11 h11 x0 x1 x2 x3 x4 xt = k0_pay4 (k0_pay7 x0 (row0 x1) (row1 x1) (row2 x1) x4) := by
  unfold out0_A_8
  rw [View.read_writes_eq_canon _ _ _ (cover0_A_8 c i a3 h3 a4 h4 a5 h5 a6 h6 a7 h7 a8 h8 a9 h9 a10 h10 a11 h11 x0 x1 x2 x3 x4 xt)]
  unfold kernelRun0_A
  dsimp only
  sl_unfold_words
  rw [View.canon_unit_zero zeros2]
  simp only [View.readAt_eq_ld, h3.read_unread, h4.read_unread, h5.read_unread, h6.read_unread, h7.read_unread,
    View.ld_unit_zero (S := S1x128x1024) zeros3, View.ld_unit_zero (S := S128x1024) zeros2]

end

/-! ## Where a point's blocks lie -/

theorem index1 : ∀ t : Fin grid0.N, cc0_transform_1 (grid0.coords t) 0 = 0 ∧ cc0_transform_1 (grid0.coords t) 1 = 0 ∧ cc0_transform_1 (grid0.coords t) 2 = 0 := by decide +kernel
theorem index2 : ∀ t : Fin grid0.N, cc0_transform_2 (grid0.coords t) 0 = 0 ∧ cc0_transform_2 (grid0.coords t) 1 = 0 := by decide +kernel
theorem index3 : ∀ t : Fin grid0.N, cc0_transform_3 (grid0.coords t) 0 = 0 ∧ cc0_transform_3 (grid0.coords t) 1 = 0 := by decide +kernel
theorem index4 : ∀ t : Fin grid0.N, cc0_transform_4 (grid0.coords t) 0 = 0 ∧ cc0_transform_4 (grid0.coords t) 1 = 0 := by decide +kernel
theorem index5 : ∀ t : Fin grid0.N, cc0_transform_5 (grid0.coords t) 0 = 0 ∧ cc0_transform_5 (grid0.coords t) 1 = 0 := by decide +kernel
theorem index6 : ∀ t : Fin grid0.N, cc0_transform_6 (grid0.coords t) 0 = 0 ∧ cc0_transform_6 (grid0.coords t) 1 = 0 := by decide +kernel
theorem index7 : ∀ t : Fin grid0.N, cc0_transform_7 (grid0.coords t) 0 = 0 ∧ cc0_transform_7 (grid0.coords t) 1 = 0 := by decide +kernel
theorem index8 : ∀ t : Fin grid0.N, cc0_transform_8 (grid0.coords t) 0 = 0 ∧ cc0_transform_8 (grid0.coords t) 1 = 0 := by decide +kernel

variable (m : (ℓ : Loc nD τ sig) → Buf (Elt Ideal) ℓ) (hO : Ok m) (c : Dev nD)

abbrev arg0 := m ((c.tc : Thread nD τ).loc main_arg0)
abbrev arg1 := m ((c.tc : Thread nD τ).loc main_arg1)
abbrev arg2 := m ((c.tc : Thread nD τ).loc main_arg2)
abbrev arg3 := m ((c.tc : Thread nD τ).loc main_arg3)
abbrev arg4 := m ((c.tc : Thread nD τ).loc main_arg4)

theorem blk0 (t : Fin (cfgM m hO).N) (a : Fin 128) (b : Fin 1024) (x : Fin 128) (y : Fin 1024) (hx : x.val = a.val) (hy : y.val = b.val) :
    iblk m hO c 0 t (ix3 0 a b) = (arg0 m c) (ix3 0 x y) := by
  obtain ⟨e0, e1, e2⟩ := index1 t
  rw [← index_own m] at e0 e1 e2
  unfold iblk
  refine (View.read_apply _ _).trans ?_
  show V m c main_arg0 _ = _
  rw [V_main_arg0]
  refine congrArg _ (idx3 ?_ ?_ ?_)
  · show cc0_transform_0 inb_S1_S1_0 numel1_S1 (tbl m) (grid0.coords t) 0 * 1 + 1 * 0 = 0; omega
  · show cc0_transform_0 inb_S1_S1_0 numel1_S1 (tbl m) (grid0.coords t) 1 * 128 + 1 * a.val = x.val; omega
  · show cc0_transform_0 inb_S1_S1_0 numel1_S1 (tbl m) (grid0.coords t) 2 * 1024 + 1 * b.val = y.val; omega
theorem blk1 (t : Fin (cfgM m hO).N) (k : Fin 3) (a : Fin 128) (b : Fin 1024) (x : Fin 128) (y : Fin 1024) (hx : x.val = a.val) (hy : y.val = b.val) :
    iblk m hO c 1 t (ix3 k a b) = (arg1 m c) (ix3 k x y) := by
  obtain ⟨e0, e1, e2⟩ := index1 t
  unfold iblk
  refine (View.read_apply _ _).trans ?_
  show V m c main_arg1 _ = _
  rw [V_main_arg1]
  refine congrArg _ (idx3 ?_ ?_ ?_)
  · show cc0_transform_1 (grid0.coords t) 0 * 3 + 1 * k.val = k.val; omega
  · show cc0_transform_1 (grid0.coords t) 1 * 128 + 1 * a.val = x.val; omega
  · show cc0_transform_1 (grid0.coords t) 2 * 1024 + 1 * b.val = y.val; omega
theorem blk2 (t : Fin (cfgM m hO).N) (a : Fin 128) (b : Fin 1024) (x : Fin 128) (y : Fin 1024) (hx : x.val = a.val) (hy : y.val = b.val) :
    iblk m hO c 2 t (ix2 a b) = (arg2 m c) (ix2 x y) := by
  obtain ⟨e0, e1⟩ := index2 t
  unfold iblk
  refine (View.read_apply _ _).trans ?_
  show V m c main_arg2 _ = _
  rw [V_main_arg2]
  refine congrArg _ (idx2 ?_ ?_)
  · show cc0_transform_2 (grid0.coords t) 0 * 128 + 1 * a.val = x.val; omega
  · show cc0_transform_2 (grid0.coords t) 1 * 1024 + 1 * b.val = y.val; omega
theorem blk3 (t : Fin (cfgM m hO).N) (a : Fin 128) (b : Fin 1024) (x : Fin 128) (y : Fin 1024) (hx : x.val = a.val) (hy : y.val = b.val) :
    iblk m hO c 3 t (ix2 a b) = (arg3 m c) (ix2 x y) := by
  obtain ⟨e0, e1⟩ := index3 t
  unfold iblk
  refine (View.read_apply _ _).trans ?_
  show V m c main_arg3 _ = _
  rw [V_main_arg3]
  refine congrArg _ (idx2 ?_ ?_)
  · show cc0_transform_3 (grid0.coords t) 0 * 128 + 1 * a.val = x.val; omega
  · show cc0_transform_3 (grid0.coords t) 1 * 1024 + 1 * b.val = y.val; omega
theorem blk4 (t : Fin (cfgM m hO).N) (a : Fin 128) (b : Fin 1024) (x : Fin 128) (y : Fin 1024) (hx : x.val = a.val) (hy : y.val = b.val) :
    iblk m hO c 4 t (ix2 a b) = (arg4 m c) (ix2 x y) := by
  obtain ⟨e0, e1⟩ := index4 t
  unfold iblk
  refine (View.read_apply _ _).trans ?_
  show V m c main_arg4 _ = _
  rw [V_main_arg4]
  refine congrArg _ (idx2 ?_ ?_)
  · show cc0_transform_4 (grid0.coords t) 0 * 128 + 1 * a.val = x.val; omega
  · show cc0_transform_4 (grid0.coords t) 1 * 1024 + 1 * b.val = y.val; omega

/-! ## What a point stores, from the arrays -/

theorem grad_point (t : Fin (cfgM m hO).N) (j : S128x1024.Idx) (i : S128x1024.Idx) (hx : (i 0).val = (j 0).val) (hy : (i 1).val = (j 1).val) :
    @Eq EReal (k0_pay5 (iblk m hO c 0 t) (row0 (iblk m hO c 1 t)) (row1 (iblk m hO c 1 t)) (row2 (iblk m hO c 1 t)) (ix2 (j 0) (j 1))) (grad (arg0 m c) (arg1 m c) i) :=
  (total_at _ _ _).trans (congrArg₂ total (blk0 m hO c t (j 0) (j 1) (i 0) (i 1) hx hy)
    (funext fun k => blk1 m hO c t k (j 0) (j 1) (i 0) (i 1) hx hy))
theorem newM_point (t : Fin (cfgM m hO).N) (j : S128x1024.Idx) (i : S128x1024.Idx) (hx : (i 0).val = (j 0).val) (hy : (i 1).val = (j 1).val) :
    @Eq EReal (k0_pay6 (iblk m hO c 0 t) (row0 (iblk m hO c 1 t)) (row1 (iblk m hO c 1 t)) (row2 (iblk m hO c 1 t)) (iblk m hO c 3 t) (ix2 (j 0) (j 1))) (newM (arg0 m c) (arg1 m c) (arg3 m c) i) :=
  congrArg₂ moment (blk3 m hO c t (j 0) (j 1) (i 0) (i 1) hx hy) (grad_point m hO c t j i hx hy)
theorem newV_point (t : Fin (cfgM m hO).N) (j : S128x1024.Idx) (i : S128x1024.Idx) (hx : (i 0).val = (j 0).val) (hy : (i 1).val = (j 1).val) :
    @Eq EReal (k0_pay7 (iblk m hO c 0 t) (row0 (iblk m hO c 1 t)) (row1 (iblk m hO c 1 t)) (row2 (iblk m hO c 1 t)) (iblk m hO c 4 t) (ix2 (j 0) (j 1))) (newV (arg0 m c) (arg1 m c) (arg4 m c) i) :=
  congrArg₂ square (blk4 m hO c t (j 0) (j 1) (i 0) (i 1) hx hy) (grad_point m hO c t j i hx hy)

theorem outs5 (t : Fin (cfgM m hO).N) : (outsAt0 m hO c t).1 = k0_pay1 (k0_pay5 (iblk m hO c 0 t) (row0 (iblk m hO c 1 t)) (row1 (iblk m hO c 1 t)) (row2 (iblk m hO c 1 t))) := by
  unfold outsAt0
  dsimp only
  exact out5 c (grid0.coords t) _ _ _ _ _ _ _ _ _ _ _ _ _ _ _ _ _ _
    (iblk m hO c 0 t) (iblk m hO c 1 t) (iblk m hO c 2 t) (iblk m hO c 3 t) (iblk m hO c 4 t) (tbl m 0)
theorem point5 (t : Fin (cfgM m hO).N) (j : S128x1024.Idx) (i : S128x1024.Idx) (hx : (i 0).val = (j 0).val) (hy : (i 1).val = (j 1).val) :
    @Eq EReal ((outsAt0 m hO c t).1 j) (grad (arg0 m c) (arg1 m c) i) := by
  refine (congrFun (outs5 m hO c t) j).trans ?_
  exact (pay1_at _ j).trans (grad_point m hO c t j i hx hy)
theorem outs6 (t : Fin (cfgM m hO).N) : (outsAt0 m hO c t).2.1 = k0_pay2 (iblk m hO c 2 t) (k0_pay8 (iblk m hO c 0 t) (row0 (iblk m hO c 1 t)) (row1 (iblk m hO c 1 t)) (row2 (iblk m hO c 1 t)) (iblk m hO c 3 t)) (k0_pay9 (iblk m hO c 0 t) (row0 (iblk m hO c 1 t)) (row1 (iblk m hO c 1 t)) (row2 (iblk m hO c 1 t)) (iblk m hO c 4 t)) := by
  unfold outsAt0
  dsimp only
  exact out6 c (grid0.coords t) _ _ _ _ _ _ _ _ _ _ _ _ _ _ _ _ _ _
    (iblk m hO c 0 t) (iblk m hO c 1 t) (iblk m hO c 2 t) (iblk m hO c 3 t) (iblk m hO c 4 t) (tbl m 0)
theorem point6 (t : Fin (cfgM m hO).N) (j : S128x1024.Idx) (i : S128x1024.Idx) (hx : (i 0).val = (j 0).val) (hy : (i 1).val = (j 1).val) :
    @Eq EReal ((outsAt0 m hO c t).2.1 j) (change (arg0 m c) (arg1 m c) (arg2 m c) (arg3 m c) (arg4 m c) i) := by
  refine (congrFun (outs6 m hO c t) j).trans ?_
  refine (change_at _ _ _ j).trans ?_
  show delta (iblk m hO c 2 t (ix2 (j 0) (j 1))) (k0_pay6 (iblk m hO c 0 t) (row0 (iblk m hO c 1 t)) (row1 (iblk m hO c 1 t)) (row2 (iblk m hO c 1 t)) (iblk m hO c 3 t) (ix2 (j 0) (j 1))) (k0_pay7 (iblk m hO c 0 t) (row0 (iblk m hO c 1 t)) (row1 (iblk m hO c 1 t)) (row2 (iblk m hO c 1 t)) (iblk m hO c 4 t) (ix2 (j 0) (j 1))) = _
  rw [newM_point m hO c t j i hx hy, newV_point m hO c t j i hx hy, blk2 m hO c t (j 0) (j 1) (i 0) (i 1) hx hy]
  rfl
theorem outs7 (t : Fin (cfgM m hO).N) : (outsAt0 m hO c t).2.2.1 = k0_pay3 (k0_pay6 (iblk m hO c 0 t) (row0 (iblk m hO c 1 t)) (row1 (iblk m hO c 1 t)) (row2 (iblk m hO c 1 t)) (iblk m hO c 3 t)) := by
  unfold outsAt0
  dsimp only
  exact out7 c (grid0.coords t) _ _ _ _ _ _ _ _ _ _ _ _ _ _ _ _ _ _
    (iblk m hO c 0 t) (iblk m hO c 1 t) (iblk m hO c 2 t) (iblk m hO c 3 t) (iblk m hO c 4 t) (tbl m 0)
theorem point7 (t : Fin (cfgM m hO).N) (j : S128x1024.Idx) (i : S128x1024.Idx) (hx : (i 0).val = (j 0).val) (hy : (i 1).val = (j 1).val) :
    @Eq EReal ((outsAt0 m hO c t).2.2.1 j) (newM (arg0 m c) (arg1 m c) (arg3 m c) i) := by
  refine (congrFun (outs7 m hO c t) j).trans ?_
  exact (pay3_at _ j).trans (newM_point m hO c t j i hx hy)
theorem outs8 (t : Fin (cfgM m hO).N) : (outsAt0 m hO c t).2.2.2 = k0_pay4 (k0_pay7 (iblk m hO c 0 t) (row0 (iblk m hO c 1 t)) (row1 (iblk m hO c 1 t)) (row2 (iblk m hO c 1 t)) (iblk m hO c 4 t)) := by
  unfold outsAt0
  dsimp only
  exact out8 c (grid0.coords t) _ _ _ _ _ _ _ _ _ _ _ _ _ _ _ _ _ _
    (iblk m hO c 0 t) (iblk m hO c 1 t) (iblk m hO c 2 t) (iblk m hO c 3 t) (iblk m hO c 4 t) (tbl m 0)
theorem point8 (t : Fin (cfgM m hO).N) (j : S128x1024.Idx) (i : S128x1024.Idx) (hx : (i 0).val = (j 0).val) (hy : (i 1).val = (j 1).val) :
    @Eq EReal ((outsAt0 m hO c t).2.2.2 j) (newV (arg0 m c) (arg1 m c) (arg4 m c) i) := by
  refine (congrFun (outs8 m hO c t) j).trans ?_
  exact (pay4_at _ j).trans (newV_point m hO c t j i hx hy)

/-! ## The arrays -/

theorem arr5 : (dats m hO 0 c).arrAt 5 (cfgM m hO).N = grad (arg0 m c) (arg1 m c) := by
  refine (dats m hO 0 c).arrAt_eq_of_cover 5 _ (fun t _ => ?_) fun (i : S128x1024.Idx) => ?_
  · show ((cfgM m hO).win 5).cut (grid0.coords t) ((dats m hO 0 c).after 5 t) = _
    rw [after0_5]
    refine funext fun (j : S128x1024.Idx) => ?_
    obtain ⟨e0, e1⟩ := index5 t
    refine point5 m hO c t j ((((cfgM m hO).win 5).blk t).view.emb j) ?_ ?_
    · show cc0_transform_5 (grid0.coords t) 0 * 128 + 1 * (j 0).val = (j 0).val; omega
    · show cc0_transform_5 (grid0.coords t) 1 * 1024 + 1 * (j 1).val = (j 1).val; omega
  · have i0 : (i 0).val < 128 := (i 0).isLt
    have i1 : (i 1).val < 1024 := (i 1).isLt
    let t : Fin (cfgM m hO).N := ⟨0, by show 0 < 1; omega⟩
    refine ⟨t, flush0_5 _ t, ?_⟩
    obtain ⟨e0, e1⟩ := index5 t
    have h := (((cfgM m hO).win 5).blk t).view.emb_mem_set (ix2 (⟨(i 0).val, i0⟩ : Fin 128) (⟨(i 1).val, i1⟩ : Fin 1024))
    refine Eq.mp (congrArg (· ∈ _) (idx2 ?_ ?_)) h
    · show cc0_transform_5 (grid0.coords t) 0 * 128 + 1 * (i 0).val = (i 0).val
      rw [e0]; omega
    · show cc0_transform_5 (grid0.coords t) 1 * 1024 + 1 * (i 1).val = (i 1).val
      rw [e1]; omega
theorem arr6 : (dats m hO 0 c).arrAt 6 (cfgM m hO).N = change (arg0 m c) (arg1 m c) (arg2 m c) (arg3 m c) (arg4 m c) := by
  refine (dats m hO 0 c).arrAt_eq_of_cover 6 _ (fun t _ => ?_) fun (i : S128x1024.Idx) => ?_
  · show ((cfgM m hO).win 6).cut (grid0.coords t) ((dats m hO 0 c).after 6 t) = _
    rw [after0_6]
    refine funext fun (j : S128x1024.Idx) => ?_
    obtain ⟨e0, e1⟩ := index6 t
    refine point6 m hO c t j ((((cfgM m hO).win 6).blk t).view.emb j) ?_ ?_
    · show cc0_transform_6 (grid0.coords t) 0 * 128 + 1 * (j 0).val = (j 0).val; omega
    · show cc0_transform_6 (grid0.coords t) 1 * 1024 + 1 * (j 1).val = (j 1).val; omega
  · have i0 : (i 0).val < 128 := (i 0).isLt
    have i1 : (i 1).val < 1024 := (i 1).isLt
    let t : Fin (cfgM m hO).N := ⟨0, by show 0 < 1; omega⟩
    refine ⟨t, flush0_6 _ t, ?_⟩
    obtain ⟨e0, e1⟩ := index6 t
    have h := (((cfgM m hO).win 6).blk t).view.emb_mem_set (ix2 (⟨(i 0).val, i0⟩ : Fin 128) (⟨(i 1).val, i1⟩ : Fin 1024))
    refine Eq.mp (congrArg (· ∈ _) (idx2 ?_ ?_)) h
    · show cc0_transform_6 (grid0.coords t) 0 * 128 + 1 * (i 0).val = (i 0).val
      rw [e0]; omega
    · show cc0_transform_6 (grid0.coords t) 1 * 1024 + 1 * (i 1).val = (i 1).val
      rw [e1]; omega
theorem arr7 : (dats m hO 0 c).arrAt 7 (cfgM m hO).N = newM (arg0 m c) (arg1 m c) (arg3 m c) := by
  refine (dats m hO 0 c).arrAt_eq_of_cover 7 _ (fun t _ => ?_) fun (i : S128x1024.Idx) => ?_
  · show ((cfgM m hO).win 7).cut (grid0.coords t) ((dats m hO 0 c).after 7 t) = _
    rw [after0_7]
    refine funext fun (j : S128x1024.Idx) => ?_
    obtain ⟨e0, e1⟩ := index7 t
    refine point7 m hO c t j ((((cfgM m hO).win 7).blk t).view.emb j) ?_ ?_
    · show cc0_transform_7 (grid0.coords t) 0 * 128 + 1 * (j 0).val = (j 0).val; omega
    · show cc0_transform_7 (grid0.coords t) 1 * 1024 + 1 * (j 1).val = (j 1).val; omega
  · have i0 : (i 0).val < 128 := (i 0).isLt
    have i1 : (i 1).val < 1024 := (i 1).isLt
    let t : Fin (cfgM m hO).N := ⟨0, by show 0 < 1; omega⟩
    refine ⟨t, flush0_7 _ t, ?_⟩
    obtain ⟨e0, e1⟩ := index7 t
    have h := (((cfgM m hO).win 7).blk t).view.emb_mem_set (ix2 (⟨(i 0).val, i0⟩ : Fin 128) (⟨(i 1).val, i1⟩ : Fin 1024))
    refine Eq.mp (congrArg (· ∈ _) (idx2 ?_ ?_)) h
    · show cc0_transform_7 (grid0.coords t) 0 * 128 + 1 * (i 0).val = (i 0).val
      rw [e0]; omega
    · show cc0_transform_7 (grid0.coords t) 1 * 1024 + 1 * (i 1).val = (i 1).val
      rw [e1]; omega
theorem arr8 : (dats m hO 0 c).arrAt 8 (cfgM m hO).N = newV (arg0 m c) (arg1 m c) (arg4 m c) := by
  refine (dats m hO 0 c).arrAt_eq_of_cover 8 _ (fun t _ => ?_) fun (i : S128x1024.Idx) => ?_
  · show ((cfgM m hO).win 8).cut (grid0.coords t) ((dats m hO 0 c).after 8 t) = _
    rw [after0_8]
    refine funext fun (j : S128x1024.Idx) => ?_
    obtain ⟨e0, e1⟩ := index8 t
    refine point8 m hO c t j ((((cfgM m hO).win 8).blk t).view.emb j) ?_ ?_
    · show cc0_transform_8 (grid0.coords t) 0 * 128 + 1 * (j 0).val = (j 0).val; omega
    · show cc0_transform_8 (grid0.coords t) 1 * 1024 + 1 * (j 1).val = (j 1).val; omega
  · have i0 : (i 0).val < 128 := (i 0).isLt
    have i1 : (i 1).val < 1024 := (i 1).isLt
    let t : Fin (cfgM m hO).N := ⟨0, by show 0 < 1; omega⟩
    refine ⟨t, flush0_8 _ t, ?_⟩
    obtain ⟨e0, e1⟩ := index8 t
    have h := (((cfgM m hO).win 8).blk t).view.emb_mem_set (ix2 (⟨(i 0).val, i0⟩ : Fin 128) (⟨(i 1).val, i1⟩ : Fin 1024))
    refine Eq.mp (congrArg (· ∈ _) (idx2 ?_ ?_)) h
    · show cc0_transform_8 (grid0.coords t) 0 * 128 + 1 * (i 0).val = (i 0).val
      rw [e0]; omega
    · show cc0_transform_8 (grid0.coords t) 1 * 1024 + 1 * (i 1).val = (i 1).val
      rw [e1]; omega

end Cert.AdamSquareIdeal.Head

/-! ## The reference's arrays -/

namespace Cert.AdamSquareRefIdeal.Head

open Cert.AdamSquareRefIdeal Cert.AdamSquareRefIdeal.Gen Cert.AdamSquareRefIdeal.Read Cert.Products Cert.AdamW Idealize.ShloMosaic Idealize.ShloMosaic.TcCoe

theorem grad_at (o : Vec Ideal S4x128x1024 .bf16) (r : Vec Ideal S3x128x1024 .bf16) (i : S128x1024.Idx) :
    @Eq EReal (val_main_v5 (F := Ideal) o r i) (total (o (ix3 0 (i 0) (i 1))) fun k => r (ix3 k (i 0) (i 1))) := by
  have i0 : (i 0).val < 128 := (i 0).isLt
  have i1 : (i 1).val < 1024 := (i 1).isLt
  show (val_main_v1 (F := Ideal) o i : EReal) + (val_main_v4 (F := Ideal) r i : EReal) = _
  have h0 : (val_main_cst (F := Ideal) (Shape.Idx.first h_S_) : EReal) = 0 := Ideal.ofBits_zero_f32
  rw [val_main_v1_apply, val_main_v0_apply, val_main_v4_apply, h0, zero_add]
  refine congrArg₂ total (congrArg o (idx3 rfl ?_ ?_)) (funext fun k => congrArg r (idx3 rfl rfl rfl))
  · show ((i 0).val * 1024 + (i 1).val) / 1024 % 128 = (i 0).val; omega
  · show ((i 0).val * 1024 + (i 1).val) % 1024 = (i 1).val; omega
theorem newM_at (o : Vec Ideal S4x128x1024 .bf16) (r : Vec Ideal S3x128x1024 .bf16) (μ : Vec Ideal S128x1024 .f32) (i : S128x1024.Idx) :
    @Eq EReal (val_main_v10 (F := Ideal) o r μ i) (moment (μ i) (total (o (ix3 0 (i 0) (i 1))) fun k => r (ix3 k (i 0) (i 1)))) := by
  show (val_main_v6 (F := Ideal) i : EReal) * (μ i : EReal) + (val_main_v8 (F := Ideal) i : EReal) * (val_main_v5 (F := Ideal) o r i : EReal) = _
  rw [grad_at, val_main_v6_apply, val_main_v8_apply]
  rfl
theorem newV_at (o : Vec Ideal S4x128x1024 .bf16) (r : Vec Ideal S3x128x1024 .bf16) (ν : Vec Ideal S128x1024 .f32) (i : S128x1024.Idx) :
    @Eq EReal (val_main_v16 (F := Ideal) o r ν i) (square (ν i) (total (o (ix3 0 (i 0) (i 1))) fun k => r (ix3 k (i 0) (i 1)))) := by
  show (val_main_v11 (F := Ideal) i : EReal) * (ν i : EReal)
    + (val_main_v14 (F := Ideal) i : EReal) * ((val_main_v5 (F := Ideal) o r i : EReal) * (val_main_v5 (F := Ideal) o r i : EReal)) = _
  rw [grad_at, val_main_v11_apply, val_main_v14_apply]
  rfl
theorem change_at (o : Vec Ideal S4x128x1024 .bf16) (r : Vec Ideal S3x128x1024 .bf16) (w μ ν : Vec Ideal S128x1024 .f32) (i : S128x1024.Idx) :
    @Eq EReal (val_main_v29 (F := Ideal) o r w μ ν i) (delta (w i) (val_main_v10 (F := Ideal) o r μ i) (val_main_v16 (F := Ideal) o r ν i)) := by
  show (val_main_v28 (F := Ideal) i : EReal) *
    (Ideal.div (Ideal.div (val_main_v10 (F := Ideal) o r μ i) (val_main_v17 (F := Ideal) i))
        ((Ideal.sqrt (Ideal.div (val_main_v16 (F := Ideal) o r ν i) (val_main_v19 (F := Ideal) i)) : EReal) + (val_main_v22 (F := Ideal) i : EReal))
      + (val_main_v25 (F := Ideal) i : EReal) * (w i : EReal)) = _
  rw [val_main_v28_apply, val_main_v17_apply, val_main_v19_apply, val_main_v22_apply, val_main_v25_apply]
  rfl

theorem grad_eq (o : Vec Ideal S4x128x1024 .bf16) (r : Vec Ideal S3x128x1024 .bf16)  :
    val_main_v5 (F := Ideal) o r = Cert.AdamSquareIdeal.Head.grad o r := by
  funext i
  obtain ⟨a, b, rfl⟩ : ∃ a b, i = ix2 a b := ⟨i 0, i 1, idx2 rfl rfl⟩
  exact grad_at _ _ _
theorem newM_eq (o : Vec Ideal S4x128x1024 .bf16) (r : Vec Ideal S3x128x1024 .bf16) (μ : Vec Ideal S128x1024 .f32) :
    val_main_v10 (F := Ideal) o r μ = Cert.AdamSquareIdeal.Head.newM o r μ := by
  funext i
  obtain ⟨a, b, rfl⟩ : ∃ a b, i = ix2 a b := ⟨i 0, i 1, idx2 rfl rfl⟩
  exact newM_at _ _ _ _
theorem newV_eq (o : Vec Ideal S4x128x1024 .bf16) (r : Vec Ideal S3x128x1024 .bf16) (ν : Vec Ideal S128x1024 .f32) :
    val_main_v16 (F := Ideal) o r ν = Cert.AdamSquareIdeal.Head.newV o r ν := by
  funext i
  obtain ⟨a, b, rfl⟩ : ∃ a b, i = ix2 a b := ⟨i 0, i 1, idx2 rfl rfl⟩
  exact newV_at _ _ _ _
theorem change_eq (o : Vec Ideal S4x128x1024 .bf16) (r : Vec Ideal S3x128x1024 .bf16) (w μ ν : Vec Ideal S128x1024 .f32) :
    val_main_v29 (F := Ideal) o r w μ ν = Cert.AdamSquareIdeal.Head.change o r w μ ν := by
  funext i
  obtain ⟨a, b, rfl⟩ : ∃ a b, i = ix2 a b := ⟨i 0, i 1, idx2 rfl rfl⟩
  rw [change_at, newM_at, newV_at]
  rfl

end Cert.AdamSquareRefIdeal.Head

end
-- ==== Proof.AdamPoolValue.lean ====
/- The optimiser's call for the pooling's projection: each block is the update of its entries, and so is the reference's array. -/
module

public import proofs.«01_k».proof.Proof.AdamW
public import proofs.«01_k».proof.Proof.Gen.AdamPool.Frame
public import proofs.«01_k».proof.Proof.Gen.AdamPoolIdeal.Frame
public import proofs.«01_k».proof.Proof.Gen.AdamPoolRefIdeal.Read

@[expose] public section

noncomputable section

namespace Cert.AdamPool.Head

open Cert.AdamPool Cert.AdamPool.Gen Idealize.ShloMosaic Idealize.ShloMosaic.TcCoe Idealize.ShloMosaic.Tactic

variable {F : FTy → Type} [FloatOps F] (m : (ℓ : Loc nD τ sig) → Buf (Elt F) ℓ)

/-- The table holds the number of the device's own part, which is zero. -/
theorem table (x : S1.Idx) : (V m 0 main_v0 : S1.Idx → BitVec 32) x = 0#32 := by
  have h : (V m 0 main_v0 : S1.Idx → BitVec 32) = broadcastInDim S1 ![] bcast_S_S1 (constantI S_ 32 0#32) := by
    after_results_simp <;> rfl
  rw [h]
  rfl
theorem index_own (i : grid0.Coords) : cc0_transform_0 inb_S1_S1_0 numel1_S1 (tbl m) i = cc0_transform_1 i := by
  have h : (tbl m).at 0 (Rect.unit (s := S1) ![0] S1.size inb_S1_S1_0) numel1_S1 = (0#32 : BitVec 32) := table m _
  unfold cc0_transform_0
  dsimp only
  rw [h]
  rfl
theorem inside : ∀ (i : grid0.Coords) (a : Fin 3), (cc0_transform_1 i a + 1) * S1x256x128.size a ≤ S4x512x128.size a := by
  decide +kernel
/-- Every block the table points to lies inside its array. -/
theorem ok : Ok m := fun i => ⟨fun a => by rw [index_own]; exact inside i a, .inr (Affine.block_words_dvd (of_decide_eq_true rfl) (by decide))⟩

end Cert.AdamPool.Head

namespace Cert.AdamPoolIdeal.Head

open Cert.AdamPoolIdeal Cert.AdamPoolIdeal.Gen Idealize.ShloMosaic Idealize.ShloMosaic.TcCoe Idealize.ShloMosaic.Tactic

variable {F : FTy → Type} [FloatOps F] (m : (ℓ : Loc nD τ sig) → Buf (Elt F) ℓ)

/-- The table holds the number of the device's own part, which is zero. -/
theorem table (x : S1.Idx) : (V m 0 main_v0 : S1.Idx → BitVec 32) x = 0#32 := by
  have h : (V m 0 main_v0 : S1.Idx → BitVec 32) = broadcastInDim S1 ![] bcast_S_S1 (constantI S_ 32 0#32) := by
    after_results_simp <;> rfl
  rw [h]
  rfl
theorem index_own (i : grid0.Coords) : cc0_transform_0 inb_S1_S1_0 numel1_S1 (tbl m) i = cc0_transform_1 i := by
  have h : (tbl m).at 0 (Rect.unit (s := S1) ![0] S1.size inb_S1_S1_0) numel1_S1 = (0#32 : BitVec 32) := table m _
  unfold cc0_transform_0
  dsimp only
  rw [h]
  rfl
theorem inside : ∀ (i : grid0.Coords) (a : Fin 3), (cc0_transform_1 i a + 1) * S1x256x128.size a ≤ S4x512x128.size a := by
  decide +kernel
/-- Every block the table points to lies inside its array. -/
theorem ok : Ok m := fun i => ⟨fun a => by rw [index_own]; exact inside i a, .inr (Affine.block_words_dvd (of_decide_eq_true rfl) (by decide))⟩

end Cert.AdamPoolIdeal.Head

namespace Cert.AdamPoolIdeal.Head

open Cert.AdamPoolIdeal Cert.AdamPoolIdeal.Gen Cert.Products Cert.AdamW Idealize.ShloMosaic Idealize.ShloMosaic.TcCoe Idealize.ShloMosaic.Tactic
open Idealize.ShloMosaic.Pipeline (Dat)

/-! ## The updated arrays -/

def grad (o : S4x512x128.Idx → EReal) (r : S3x512x128.Idx → EReal) (i : S512x128.Idx) : EReal :=
  total (o (ix3 0 (i 0) (i 1))) fun k => r (ix3 k (i 0) (i 1))
def newM (o : S4x512x128.Idx → EReal) (r : S3x512x128.Idx → EReal) (μ : S512x128.Idx → EReal) (i : S512x128.Idx) : EReal :=
  moment (μ (ix2 (i 0) (i 1))) (grad o r i)
def newV (o : S4x512x128.Idx → EReal) (r : S3x512x128.Idx → EReal) (ν : S512x128.Idx → EReal) (i : S512x128.Idx) : EReal :=
  square (ν (ix2 (i 0) (i 1))) (grad o r i)
def change (o : S4x512x128.Idx → EReal) (r : S3x512x128.Idx → EReal) (w μ ν : S512x128.Idx → EReal) (i : S512x128.Idx) : EReal :=
  delta (w (ix2 (i 0) (i 1))) (newM o r μ i) (newV o r ν i)

/-! ## What one grid point stores -/

abbrev row0 (x : Vec Ideal S3x256x128 .bf16) : Vec Ideal S1x256x128 .bf16 :=
  View.ld x (Rect.unit (s := S3x256x128) ![0, 0, 0] S1x256x128.size inb_S3x256x128_S1x256x128_0_0_0)
theorem row0_at (x : Vec Ideal S3x256x128 .bf16) (a : Fin 256) (b : Fin 128) : row0 x (ix3 0 a b) = x (ix3 0 a b) :=
  View.ld_unit_apply_of x _ _ _ _ _ fun e => match e with
    | ⟨0, _⟩ => rfl
    | ⟨1, _⟩ => (Nat.zero_add _).symm
    | ⟨2, _⟩ => (Nat.zero_add _).symm
abbrev row1 (x : Vec Ideal S3x256x128 .bf16) : Vec Ideal S1x256x128 .bf16 :=
  View.ld x (Rect.unit (s := S3x256x128) ![1, 0, 0] S1x256x128.size inb_S3x256x128_S1x256x128_1_0_0)
theorem row1_at (x : Vec Ideal S3x256x128 .bf16) (a : Fin 256) (b : Fin 128) : row1 x (ix3 0 a b) = x (ix3 1 a b) :=
  View.ld_unit_apply_of x _ _ _ _ _ fun e => match e with
    | ⟨0, _⟩ => rfl
    | ⟨1, _⟩ => (Nat.zero_add _).symm
    | ⟨2, _⟩ => (Nat.zero_add _).symm
abbrev row2 (x : Vec Ideal S3x256x128 .bf16) : Vec Ideal S1x256x128 .bf16 :=
  View.ld x (Rect.unit (s := S3x256x128) ![2, 0, 0] S1x256x128.size inb_S3x256x128_S1x256x128_2_0_0)
theorem row2_at (x : Vec Ideal S3x256x128 .bf16) (a : Fin 256) (b : Fin 128) : row2 x (ix3 0 a b) = x (ix3 2 a b) :=
  View.ld_unit_apply_of x _ _ _ _ _ fun e => match e with
    | ⟨0, _⟩ => rfl
    | ⟨1, _⟩ => (Nat.zero_add _).symm
    | ⟨2, _⟩ => (Nat.zero_add _).symm

theorem flat (x : Vec Ideal S1x256x128 .bf16) (j : S256x128.Idx) :
    shapeCast S256x128 x shapeCasts_S1x256x128_S256x128 j = x (ix3 0 (j 0) (j 1)) :=
  shapeCast_apply x _ _ _ (by
    rw [Shape.rowMajor_val_three, Shape.rowMajor_val_two]
    show (0 * 256 + (j 0).val) * 128 + (j 1).val = (j 0).val * 128 + (j 1).val
    omega)
theorem total_at (x0 : Vec Ideal S1x256x128 .bf16) (x1 : Vec Ideal S3x256x128 .bf16) (j : S256x128.Idx) :
    @Eq EReal (k0_pay5 x0 (row0 x1) (row1 x1) (row2 x1) j) (total (x0 (ix3 0 (j 0) (j 1))) fun k => x1 (ix3 k (j 0) (j 1))) := by
  rw [← total_eq]
  show (((shapeCast S256x128 x0 shapeCasts_S1x256x128_S256x128 j : EReal) + (shapeCast S256x128 (row0 x1) shapeCasts_S1x256x128_S256x128 j : EReal))
    + (shapeCast S256x128 (row1 x1) shapeCasts_S1x256x128_S256x128 j : EReal)) + (shapeCast S256x128 (row2 x1) shapeCasts_S1x256x128_S256x128 j : EReal) = _
  exact congrArg₂ (fun a b : EReal => a + b) (congrArg₂ (fun a b : EReal => a + b) (congrArg₂ (fun a b : EReal => a + b) (flat x0 j)
    ((flat (row0 x1) j).trans (row0_at x1 (j 0) (j 1)))) ((flat (row1 x1) j).trans (row1_at x1 (j 0) (j 1))))
    ((flat (row2 x1) j).trans (row2_at x1 (j 0) (j 1)))

theorem stored (v : FVec Ideal S256x128 .f32) (j : S256x128.Idx) : shapeCast S256x128 v shapeCasts_S256x128_S256x128 j = v (ix2 (j 0) (j 1)) := by
  rw [shapeCast_self]
  exact congrArg v (idx2 rfl rfl)

theorem change_at (w μ ν : FVec Ideal S256x128 .f32) (j : S256x128.Idx) : @Eq EReal (k0_pay2 w μ ν j)
    ((Scalar.ofBits (F := Ideal) .f32 0xBA83126F#32 : EReal) *
      (Ideal.div (μ (ix2 (j 0) (j 1))) ((ν (ix2 (j 0) (j 1)) : EReal) + (Scalar.ofBits (F := Ideal) .f32 0x322BCC77#32 : EReal))
        + (Scalar.ofBits (F := Ideal) .f32 0x3C23D70A#32 : EReal) * (w (ix2 (j 0) (j 1)) : EReal))) := by
  unfold k0_pay2
  refine (stored _ j).trans ?_
  rfl

theorem pay1_at (v : FVec Ideal S256x128 .f32) (j : S256x128.Idx) : k0_pay1 v j = v (ix2 (j 0) (j 1)) := by
  unfold k0_pay1
  exact stored v j

theorem pay3_at (v : FVec Ideal S256x128 .f32) (j : S256x128.Idx) : k0_pay3 v j = v (ix2 (j 0) (j 1)) := by
  unfold k0_pay3
  exact stored v j

theorem pay4_at (v : FVec Ideal S256x128 .f32) (j : S256x128.Idx) : k0_pay4 v j = v (ix2 (j 0) (j 1)) := by
  unfold k0_pay4
  exact stored v j

section
variable (c : Dev nD) (i : grid0.Coords) (a3 : Memref sig .tc .vmem S1x256x128 .bf16) (h3 : a3.IsWhole) (a4 : Memref sig .tc .vmem S3x256x128 .bf16) (h4 : a4.IsWhole) (a5 : Memref sig .tc .vmem S256x128 .f32) (h5 : a5.IsWhole) (a6 : Memref sig .tc .vmem S256x128 .f32) (h6 : a6.IsWhole) (a7 : Memref sig .tc .vmem S256x128 .f32) (h7 : a7.IsWhole) (a8 : Memref sig .tc .vmem S256x128 .f32) (h8 : a8.IsWhole) (a9 : Memref sig .tc .vmem S256x128 .f32) (h9 : a9.IsWhole) (a10 : Memref sig .tc .vmem S256x128 .f32) (h10 : a10.IsWhole) (a11 : Memref sig .tc .vmem S256x128 .f32) (h11 : a11.IsWhole)
  (x0 : Vec Ideal S1x256x128 .bf16) (x1 : Vec Ideal S3x256x128 .bf16) (x2 x3 x4 : Vec Ideal S256x128 .f32) (xt : TbBuf0 (F := Ideal) c tbM0_0)

theorem out5 : out0_A_5 c i a3 h3 a4 h4 a5 h5 a6 h6 a7 h7 a8 h8 a9 h9 a10 h10 a11 h11 x0 x1 x2 x3 x4 xt = k0_pay1 (k0_pay5 x0 (row0 x1) (row1 x1) (row2 x1)) := by
  unfold out0_A_5
  rw [View.read_writes_eq_canon _ _ _ (cover0_A_5 c i a3 h3 a4 h4 a5 h5 a6 h6 a7 h7 a8 h8 a9 h9 a10 h10 a11 h11 x0 x1 x2 x3 x4 xt)]
  unfold kernelRun0_A
  dsimp only
  sl_unfold_words
  rw [View.canon_unit_zero zeros2]
  simp only [View.readAt_eq_ld, h3.read_unread, h4.read_unread, h5.read_unread, h6.read_unread, h7.read_unread,
    View.ld_unit_zero (S := S1x256x128) zeros3, View.ld_unit_zero (S := S256x128) zeros2]

theorem out6 : out0_A_6 c i a3 h3 a4 h4 a5 h5 a6 h6 a7 h7 a8 h8 a9 h9 a10 h10 a11 h11 x0 x1 x2 x3 x4 xt = k0_pay2 x2 (k0_pay8 x0 (row0 x1) (row1 x1) (row2 x1) x3) (k0_pay9 x0 (row0 x1) (row1 x1) (row2 x1) x4) := by
  unfold out0_A_6
  rw [View.read_writes_eq_canon _ _ _ (cover0_A_6 c i a3 h3 a4 h4 a5 h5 a6 h6 a7 h7 a8 h8 a9 h9 a10 h10 a11 h11 x0 x1 x2 x3 x4 xt)]
  unfold kernelRun0_A
  dsimp only
  sl_unfold_words
  rw [View.canon_unit_zero zeros2]
  simp only [View.readAt_eq_ld, h3.read_unread, h4.read_unread, h5.read_unread, h6.read_unread, h7.read_unread,
    View.ld_unit_zero (S := S1x256x128) zeros3, View.ld_unit_zero (S := S256x128) zeros2]

theorem out7 : out0_A_7 c i a3 h3 a4 h4 a5 h5 a6 h6 a7 h7 a8 h8 a9 h9 a10 h10 a11 h11 x0 x1 x2 x3 x4 xt = k0_pay3 (k0_pay6 x0 (row0 x1) (row1 x1) (row2 x1) x3) := by
  unfold out0_A_7
  rw [View.read_writes_eq_canon _ _ _ (cover0_A_7 c i a3 h3 a4 h4 a5 h5 a6 h6 a7 h7 a8 h8 a9 h9 a10 h10 a11 h11 x0 x1 x2 x3 x4 xt)]
  unfold kernelRun0_A
  dsimp only
  sl_unfold_words
  rw [View.canon_unit_zero zeros2]
  simp only [View.readAt_eq_ld, h3.read_unread, h4.read_unread, h5.read_unread, h6.read_unread, h7.read_unread,
    View.ld_unit_zero (S := S1x256x128) zeros3, View.ld_unit_zero (S := S256x128) zeros2]

theorem out8 : out0_A_8 c i a3 h3 a4 h4 a5 h5 a6 h6 a7 h7 a8 h8 a9 h9 a10 h10 a11 h11 x0 x1 x2 x3 x4 xt = k0_pay4 (k0_pay7 x0 (row0 x1) (row1 x1) (row2 x1) x4) := by
  unfold out0_A_8
  rw [View.read_writes_eq_canon _ _ _ (cover0_A_8 c i a3 h3 a4 h4 a5 h5 a6 h6 a7 h7 a8 h8 a9 h9 a10 h10 a11 h11 x0 x1 x2 x3 x4 xt)]
  unfold kernelRun0_A
  dsimp only
  sl_unfold_words
  rw [View.canon_unit_zero zeros2]
  simp only [View.readAt_eq_ld, h3.read_unread, h4.read_unread, h5.read_unread, h6.read_unread, h7.read_unread,
    View.ld_unit_zero (S := S1x256x128) zeros3, View.ld_unit_zero (S := S256x128) zeros2]

end

/-! ## Where a point's blocks lie -/

theorem index1 : ∀ t : Fin grid0.N, cc0_transform_1 (grid0.coords t) 0 = 0 ∧ cc0_transform_1 (grid0.coords t) 1 = t.val ∧ cc0_transform_1 (grid0.coords t) 2 = 0 := by decide +kernel
theorem index2 : ∀ t : Fin grid0.N, cc0_transform_2 (grid0.coords t) 0 = t.val ∧ cc0_transform_2 (grid0.coords t) 1 = 0 := by decide +kernel
theorem index3 : ∀ t : Fin grid0.N, cc0_transform_3 (grid0.coords t) 0 = t.val ∧ cc0_transform_3 (grid0.coords t) 1 = 0 := by decide +kernel
theorem index4 : ∀ t : Fin grid0.N, cc0_transform_4 (grid0.coords t) 0 = t.val ∧ cc0_transform_4 (grid0.coords t) 1 = 0 := by decide +kernel
theorem index5 : ∀ t : Fin grid0.N, cc0_transform_5 (grid0.coords t) 0 = t.val ∧ cc0_transform_5 (grid0.coords t) 1 = 0 := by decide +kernel
theorem index6 : ∀ t : Fin grid0.N, cc0_transform_6 (grid0.coords t) 0 = t.val ∧ cc0_transform_6 (grid0.coords t) 1 = 0 := by decide +kernel
theorem index7 : ∀ t : Fin grid0.N, cc0_transform_7 (grid0.coords t) 0 = t.val ∧ cc0_transform_7 (grid0.coords t) 1 = 0 := by decide +kernel
theorem index8 : ∀ t : Fin grid0.N, cc0_transform_8 (grid0.coords t) 0 = t.val ∧ cc0_transform_8 (grid0.coords t) 1 = 0 := by decide +kernel

variable (m : (ℓ : Loc nD τ sig) → Buf (Elt Ideal) ℓ) (hO : Ok m) (c : Dev nD)

abbrev arg0 := m ((c.tc : Thread nD τ).loc main_arg0)
abbrev arg1 := m ((c.tc : Thread nD τ).loc main_arg1)
abbrev arg2 := m ((c.tc : Thread nD τ).loc main_arg2)
abbrev arg3 := m ((c.tc : Thread nD τ).loc main_arg3)
abbrev arg4 := m ((c.tc : Thread nD τ).loc main_arg4)

theorem blk0 (t : Fin (cfgM m hO).N) (a : Fin 256) (b : Fin 128) (x : Fin 512) (y : Fin 128) (hx : x.val = 256 * t.val + a.val) (hy : y.val = b.val) :
    iblk m hO c 0 t (ix3 0 a b) = (arg0 m c) (ix3 0 x y) := by
  obtain ⟨e0, e1, e2⟩ := index1 t
  rw [← index_own m] at e0 e1 e2
  unfold iblk
  refine (View.read_apply _ _).trans ?_
  show V m c main_arg0 _ = _
  rw [V_main_arg0]
  refine congrArg _ (idx3 ?_ ?_ ?_)
  · show cc0_transform_0 inb_S1_S1_0 numel1_S1 (tbl m) (grid0.coords t) 0 * 1 + 1 * 0 = 0; omega
  · show cc0_transform_0 inb_S1_S1_0 numel1_S1 (tbl m) (grid0.coords t) 1 * 256 + 1 * a.val = x.val; omega
  · show cc0_transform_0 inb_S1_S1_0 numel1_S1 (tbl m) (grid0.coords t) 2 * 128 + 1 * b.val = y.val; omega
theorem blk1 (t : Fin (cfgM m hO).N) (k : Fin 3) (a : Fin 256) (b : Fin 128) (x : Fin 512) (y : Fin 128) (hx : x.val = 256 * t.val + a.val) (hy : y.val = b.val) :
    iblk m hO c 1 t (ix3 k a b) = (arg1 m c) (ix3 k x y) := by
  obtain ⟨e0, e1, e2⟩ := index1 t
  unfold iblk
  refine (View.read_apply _ _).trans ?_
  show V m c main_arg1 _ = _
  rw [V_main_arg1]
  refine congrArg _ (idx3 ?_ ?_ ?_)
  · show cc0_transform_1 (grid0.coords t) 0 * 3 + 1 * k.val = k.val; omega
  · show cc0_transform_1 (grid0.coords t) 1 * 256 + 1 * a.val = x.val; omega
  · show cc0_transform_1 (grid0.coords t) 2 * 128 + 1 * b.val = y.val; omega
theorem blk2 (t : Fin (cfgM m hO).N) (a : Fin 256) (b : Fin 128) (x : Fin 512) (y : Fin 128) (hx : x.val = 256 * t.val + a.val) (hy : y.val = b.val) :
    iblk m hO c 2 t (ix2 a b) = (arg2 m c) (ix2 x y) := by
  obtain ⟨e0, e1⟩ := index2 t
  unfold iblk
  refine (View.read_apply _ _).trans ?_
  show V m c main_arg2 _ = _
  rw [V_main_arg2]
  refine congrArg _ (idx2 ?_ ?_)
  · show cc0_transform_2 (grid0.coords t) 0 * 256 + 1 * a.val = x.val; omega
  · show cc0_transform_2 (grid0.coords t) 1 * 128 + 1 * b.val = y.val; omega
theorem blk3 (t : Fin (cfgM m hO).N) (a : Fin 256) (b : Fin 128) (x : Fin 512) (y : Fin 128) (hx : x.val = 256 * t.val + a.val) (hy : y.val = b.val) :
    iblk m hO c 3 t (ix2 a b) = (arg3 m c) (ix2 x y) := by
  obtain ⟨e0, e1⟩ := index3 t
  unfold iblk
  refine (View.read_apply _ _).trans ?_
  show V m c main_arg3 _ = _
  rw [V_main_arg3]
  refine congrArg _ (idx2 ?_ ?_)
  · show cc0_transform_3 (grid0.coords t) 0 * 256 + 1 * a.val = x.val; omega
  · show cc0_transform_3 (grid0.coords t) 1 * 128 + 1 * b.val = y.val; omega
theorem blk4 (t : Fin (cfgM m hO).N) (a : Fin 256) (b : Fin 128) (x : Fin 512) (y : Fin 128) (hx : x.val = 256 * t.val + a.val) (hy : y.val = b.val) :
    iblk m hO c 4 t (ix2 a b) = (arg4 m c) (ix2 x y) := by
  obtain ⟨e0, e1⟩ := index4 t
  unfold iblk
  refine (View.read_apply _ _).trans ?_
  show V m c main_arg4 _ = _
  rw [V_main_arg4]
  refine congrArg _ (idx2 ?_ ?_)
  · show cc0_transform_4 (grid0.coords t) 0 * 256 + 1 * a.val = x.val; omega
  · show cc0_transform_4 (grid0.coords t) 1 * 128 + 1 * b.val = y.val; omega

/-! ## What a point stores, from the arrays -/

theorem grad_point (t : Fin (cfgM m hO).N) (j : S256x128.Idx) (i : S512x128.Idx) (hx : (i 0).val = 256 * t.val + (j 0).val) (hy : (i 1).val = (j 1).val) :
    @Eq EReal (k0_pay5 (iblk m hO c 0 t) (row0 (iblk m hO c 1 t)) (row1 (iblk m hO c 1 t)) (row2 (iblk m hO c 1 t)) (ix2 (j 0) (j 1))) (grad (arg0 m c) (arg1 m c) i) :=
  (total_at _ _ _).trans (congrArg₂ total (blk0 m hO c t (j 0) (j 1) (i 0) (i 1) hx hy)
    (funext fun k => blk1 m hO c t k (j 0) (j 1) (i 0) (i 1) hx hy))
theorem newM_point (t : Fin (cfgM m hO).N) (j : S256x128.Idx) (i : S512x128.Idx) (hx : (i 0).val = 256 * t.val + (j 0).val) (hy : (i 1).val = (j 1).val) :
    @Eq EReal (k0_pay6 (iblk m hO c 0 t) (row0 (iblk m hO c 1 t)) (row1 (iblk m hO c 1 t)) (row2 (iblk m hO c 1 t)) (iblk m hO c 3 t) (ix2 (j 0) (j 1))) (newM (arg0 m c) (arg1 m c) (arg3 m c) i) :=
  congrArg₂ moment (blk3 m hO c t (j 0) (j 1) (i 0) (i 1) hx hy) (grad_point m hO c t j i hx hy)
theorem newV_point (t : Fin (cfgM m hO).N) (j : S256x128.Idx) (i : S512x128.Idx) (hx : (i 0).val = 256 * t.val + (j 0).val) (hy : (i 1).val = (j 1).val) :
    @Eq EReal (k0_pay7 (iblk m hO c 0 t) (row0 (iblk m hO c 1 t)) (row1 (iblk m hO c 1 t)) (row2 (iblk m hO c 1 t)) (iblk m hO c 4 t) (ix2 (j 0) (j 1))) (newV (arg0 m c) (arg1 m c) (arg4 m c) i) :=
  congrArg₂ square (blk4 m hO c t (j 0) (j 1) (i 0) (i 1) hx hy) (grad_point m hO c t j i hx hy)

theorem outs5 (t : Fin (cfgM m hO).N) : (outsAt0 m hO c t).1 = k0_pay1 (k0_pay5 (iblk m hO c 0 t) (row0 (iblk m hO c 1 t)) (row1 (iblk m hO c 1 t)) (row2 (iblk m hO c 1 t))) := by
  unfold outsAt0
  dsimp only
  exact out5 c (grid0.coords t) _ _ _ _ _ _ _ _ _ _ _ _ _ _ _ _ _ _
    (iblk m hO c 0 t) (iblk m hO c 1 t) (iblk m hO c 2 t) (iblk m hO c 3 t) (iblk m hO c 4 t) (tbl m 0)
theorem point5 (t : Fin (cfgM m hO).N) (j : S256x128.Idx) (i : S512x128.Idx) (hx : (i 0).val = 256 * t.val + (j 0).val) (hy : (i 1).val = (j 1).val) :
    @Eq EReal ((outsAt0 m hO c t).1 j) (grad (arg0 m c) (arg1 m c) i) := by
  refine (congrFun (outs5 m hO c t) j).trans ?_
  exact (pay1_at _ j).trans (grad_point m hO c t j i hx hy)
theorem outs6 (t : Fin (cfgM m hO).N) : (outsAt0 m hO c t).2.1 = k0_pay2 (iblk m hO c 2 t) (k0_pay8 (iblk m hO c 0 t) (row0 (iblk m hO c 1 t)) (row1 (iblk m hO c 1 t)) (row2 (iblk m hO c 1 t)) (iblk m hO c 3 t)) (k0_pay9 (iblk m hO c 0 t) (row0 (iblk m hO c 1 t)) (row1 (iblk m hO c 1 t)) (row2 (iblk m hO c 1 t)) (iblk m hO c 4 t)) := by
  unfold outsAt0
  dsimp only
  exact out6 c (grid0.coords t) _ _ _ _ _ _ _ _ _ _ _ _ _ _ _ _ _ _
    (iblk m hO c 0 t) (iblk m hO c 1 t) (iblk m hO c 2 t) (iblk m hO c 3 t) (iblk m hO c 4 t) (tbl m 0)
theorem point6 (t : Fin (cfgM m hO).N) (j : S256x128.Idx) (i : S512x128.Idx) (hx : (i 0).val = 256 * t.val + (j 0).val) (hy : (i 1).val = (j 1).val) :
    @Eq EReal ((outsAt0 m hO c t).2.1 j) (change (arg0 m c) (arg1 m c) (arg2 m c) (arg3 m c) (arg4 m c) i) := by
  refine (congrFun (outs6 m hO c t) j).trans ?_
  refine (change_at _ _ _ j).trans ?_
  show delta (iblk m hO c 2 t (ix2 (j 0) (j 1))) (k0_pay6 (iblk m hO c 0 t) (row0 (iblk m hO c 1 t)) (row1 (iblk m hO c 1 t)) (row2 (iblk m hO c 1 t)) (iblk m hO c 3 t) (ix2 (j 0) (j 1))) (k0_pay7 (iblk m hO c 0 t) (row0 (iblk m hO c 1 t)) (row1 (iblk m hO c 1 t)) (row2 (iblk m hO c 1 t)) (iblk m hO c 4 t) (ix2 (j 0) (j 1))) = _
  rw [newM_point m hO c t j i hx hy, newV_point m hO c t j i hx hy, blk2 m hO c t (j 0) (j 1) (i 0) (i 1) hx hy]
  rfl
theorem outs7 (t : Fin (cfgM m hO).N) : (outsAt0 m hO c t).2.2.1 = k0_pay3 (k0_pay6 (iblk m hO c 0 t) (row0 (iblk m hO c 1 t)) (row1 (iblk m hO c 1 t)) (row2 (iblk m hO c 1 t)) (iblk m hO c 3 t)) := by
  unfold outsAt0
  dsimp only
  exact out7 c (grid0.coords t) _ _ _ _ _ _ _ _ _ _ _ _ _ _ _ _ _ _
    (iblk m hO c 0 t) (iblk m hO c 1 t) (iblk m hO c 2 t) (iblk m hO c 3 t) (iblk m hO c 4 t) (tbl m 0)
theorem point7 (t : Fin (cfgM m hO).N) (j : S256x128.Idx) (i : S512x128.Idx) (hx : (i 0).val = 256 * t.val + (j 0).val) (hy : (i 1).val = (j 1).val) :
    @Eq EReal ((outsAt0 m hO c t).2.2.1 j) (newM (arg0 m c) (arg1 m c) (arg3 m c) i) := by
  refine (congrFun (outs7 m hO c t) j).trans ?_
  exact (pay3_at _ j).trans (newM_point m hO c t j i hx hy)
theorem outs8 (t : Fin (cfgM m hO).N) : (outsAt0 m hO c t).2.2.2 = k0_pay4 (k0_pay7 (iblk m hO c 0 t) (row0 (iblk m hO c 1 t)) (row1 (iblk m hO c 1 t)) (row2 (iblk m hO c 1 t)) (iblk m hO c 4 t)) := by
  unfold outsAt0
  dsimp only
  exact out8 c (grid0.coords t) _ _ _ _ _ _ _ _ _ _ _ _ _ _ _ _ _ _
    (iblk m hO c 0 t) (iblk m hO c 1 t) (iblk m hO c 2 t) (iblk m hO c 3 t) (iblk m hO c 4 t) (tbl m 0)
theorem point8 (t : Fin (cfgM m hO).N) (j : S256x128.Idx) (i : S512x128.Idx) (hx : (i 0).val = 256 * t.val + (j 0).val) (hy : (i 1).val = (j 1).val) :
    @Eq EReal ((outsAt0 m hO c t).2.2.2 j) (newV (arg0 m c) (arg1 m c) (arg4 m c) i) := by
  refine (congrFun (outs8 m hO c t) j).trans ?_
  exact (pay4_at _ j).trans (newV_point m hO c t j i hx hy)

/-! ## The arrays -/

theorem arr5 : (dats m hO 0 c).arrAt 5 (cfgM m hO).N = grad (arg0 m c) (arg1 m c) := by
  refine (dats m hO 0 c).arrAt_eq_of_cover 5 _ (fun t _ => ?_) fun (i : S512x128.Idx) => ?_
  · show ((cfgM m hO).win 5).cut (grid0.coords t) ((dats m hO 0 c).after 5 t) = _
    rw [after0_5]
    refine funext fun (j : S256x128.Idx) => ?_
    obtain ⟨e0, e1⟩ := index5 t
    refine point5 m hO c t j ((((cfgM m hO).win 5).blk t).view.emb j) ?_ ?_
    · show cc0_transform_5 (grid0.coords t) 0 * 256 + 1 * (j 0).val = 256 * t.val + (j 0).val; omega
    · show cc0_transform_5 (grid0.coords t) 1 * 128 + 1 * (j 1).val = (j 1).val; omega
  · have i0 : (i 0).val < 512 := (i 0).isLt
    have i1 : (i 1).val < 128 := (i 1).isLt
    let t : Fin (cfgM m hO).N := ⟨(i 0).val / 256, by show _ < 2; omega⟩
    refine ⟨t, flush0_5 _ t, ?_⟩
    obtain ⟨e0, e1⟩ := index5 t
    have h := (((cfgM m hO).win 5).blk t).view.emb_mem_set (ix2 (⟨(i 0).val % 256, by omega⟩ : Fin 256) (⟨(i 1).val, i1⟩ : Fin 128))
    refine Eq.mp (congrArg (· ∈ _) (idx2 ?_ ?_)) h
    · show cc0_transform_5 (grid0.coords t) 0 * 256 + 1 * ((i 0).val % 256) = (i 0).val
      rw [e0]; show (i 0).val / 256 * 256 + _ = _; omega
    · show cc0_transform_5 (grid0.coords t) 1 * 128 + 1 * (i 1).val = (i 1).val
      rw [e1]; omega
theorem arr6 : (dats m hO 0 c).arrAt 6 (cfgM m hO).N = change (arg0 m c) (arg1 m c) (arg2 m c) (arg3 m c) (arg4 m c) := by
  refine (dats m hO 0 c).arrAt_eq_of_cover 6 _ (fun t _ => ?_) fun (i : S512x128.Idx) => ?_
  · show ((cfgM m hO).win 6).cut (grid0.coords t) ((dats m hO 0 c).after 6 t) = _
    rw [after0_6]
    refine funext fun (j : S256x128.Idx) => ?_
    obtain ⟨e0, e1⟩ := index6 t
    refine point6 m hO c t j ((((cfgM m hO).win 6).blk t).view.emb j) ?_ ?_
    · show cc0_transform_6 (grid0.coords t) 0 * 256 + 1 * (j 0).val = 256 * t.val + (j 0).val; omega
    · show cc0_transform_6 (grid0.coords t) 1 * 128 + 1 * (j 1).val = (j 1).val; omega
  · have i0 : (i 0).val < 512 := (i 0).isLt
    have i1 : (i 1).val < 128 := (i 1).isLt
    let t : Fin (cfgM m hO).N := ⟨(i 0).val / 256, by show _ < 2; omega⟩
    refine ⟨t, flush0_6 _ t, ?_⟩
    obtain ⟨e0, e1⟩ := index6 t
    have h := (((cfgM m hO).win 6).blk t).view.emb_mem_set (ix2 (⟨(i 0).val % 256, by omega⟩ : Fin 256) (⟨(i 1).val, i1⟩ : Fin 128))
    refine Eq.mp (congrArg (· ∈ _) (idx2 ?_ ?_)) h
    · show cc0_transform_6 (grid0.coords t) 0 * 256 + 1 * ((i 0).val % 256) = (i 0).val
      rw [e0]; show (i 0).val / 256 * 256 + _ = _; omega
    · show cc0_transform_6 (grid0.coords t) 1 * 128 + 1 * (i 1).val = (i 1).val
      rw [e1]; omega
theorem arr7 : (dats m hO 0 c).arrAt 7 (cfgM m hO).N = newM (arg0 m c) (arg1 m c) (arg3 m c) := by
  refine (dats m hO 0 c).arrAt_eq_of_cover 7 _ (fun t _ => ?_) fun (i : S512x128.Idx) => ?_
  · show ((cfgM m hO).win 7).cut (grid0.coords t) ((dats m hO 0 c).after 7 t) = _
    rw [after0_7]
    refine funext fun (j : S256x128.Idx) => ?_
    obtain ⟨e0, e1⟩ := index7 t
    refine point7 m hO c t j ((((cfgM m hO).win 7).blk t).view.emb j) ?_ ?_
    · show cc0_transform_7 (grid0.coords t) 0 * 256 + 1 * (j 0).val = 256 * t.val + (j 0).val; omega
    · show cc0_transform_7 (grid0.coords t) 1 * 128 + 1 * (j 1).val = (j 1).val; omega
  · have i0 : (i 0).val < 512 := (i 0).isLt
    have i1 : (i 1).val < 128 := (i 1).isLt
    let t : Fin (cfgM m hO).N := ⟨(i 0).val / 256, by show _ < 2; omega⟩
    refine ⟨t, flush0_7 _ t, ?_⟩
    obtain ⟨e0, e1⟩ := index7 t
    have h := (((cfgM m hO).win 7).blk t).view.emb_mem_set (ix2 (⟨(i 0).val % 256, by omega⟩ : Fin 256) (⟨(i 1).val, i1⟩ : Fin 128))
    refine Eq.mp (congrArg (· ∈ _) (idx2 ?_ ?_)) h
    · show cc0_transform_7 (grid0.coords t) 0 * 256 + 1 * ((i 0).val % 256) = (i 0).val
      rw [e0]; show (i 0).val / 256 * 256 + _ = _; omega
    · show cc0_transform_7 (grid0.coords t) 1 * 128 + 1 * (i 1).val = (i 1).val
      rw [e1]; omega
theorem arr8 : (dats m hO 0 c).arrAt 8 (cfgM m hO).N = newV (arg0 m c) (arg1 m c) (arg4 m c) := by
  refine (dats m hO 0 c).arrAt_eq_of_cover 8 _ (fun t _ => ?_) fun (i : S512x128.Idx) => ?_
  · show ((cfgM m hO).win 8).cut (grid0.coords t) ((dats m hO 0 c).after 8 t) = _
    rw [after0_8]
    refine funext fun (j : S256x128.Idx) => ?_
    obtain ⟨e0, e1⟩ := index8 t
    refine point8 m hO c t j ((((cfgM m hO).win 8).blk t).view.emb j) ?_ ?_
    · show cc0_transform_8 (grid0.coords t) 0 * 256 + 1 * (j 0).val = 256 * t.val + (j 0).val; omega
    · show cc0_transform_8 (grid0.coords t) 1 * 128 + 1 * (j 1).val = (j 1).val; omega
  · have i0 : (i 0).val < 512 := (i 0).isLt
    have i1 : (i 1).val < 128 := (i 1).isLt
    let t : Fin (cfgM m hO).N := ⟨(i 0).val / 256, by show _ < 2; omega⟩
    refine ⟨t, flush0_8 _ t, ?_⟩
    obtain ⟨e0, e1⟩ := index8 t
    have h := (((cfgM m hO).win 8).blk t).view.emb_mem_set (ix2 (⟨(i 0).val % 256, by omega⟩ : Fin 256) (⟨(i 1).val, i1⟩ : Fin 128))
    refine Eq.mp (congrArg (· ∈ _) (idx2 ?_ ?_)) h
    · show cc0_transform_8 (grid0.coords t) 0 * 256 + 1 * ((i 0).val % 256) = (i 0).val
      rw [e0]; show (i 0).val / 256 * 256 + _ = _; omega
    · show cc0_transform_8 (grid0.coords t) 1 * 128 + 1 * (i 1).val = (i 1).val
      rw [e1]; omega

end Cert.AdamPoolIdeal.Head

/-! ## The reference's arrays -/

namespace Cert.AdamPoolRefIdeal.Head

open Cert.AdamPoolRefIdeal Cert.AdamPoolRefIdeal.Gen Cert.AdamPoolRefIdeal.Read Cert.Products Cert.AdamW Idealize.ShloMosaic Idealize.ShloMosaic.TcCoe

theorem grad_at (o : Vec Ideal S4x512x128 .bf16) (r : Vec Ideal S3x512x128 .bf16) (i : S512x128.Idx) :
    @Eq EReal (val_main_v5 (F := Ideal) o r i) (total (o (ix3 0 (i 0) (i 1))) fun k => r (ix3 k (i 0) (i 1))) := by
  have i0 : (i 0).val < 512 := (i 0).isLt
  have i1 : (i 1).val < 128 := (i 1).isLt
  show (val_main_v1 (F := Ideal) o i : EReal) + (val_main_v4 (F := Ideal) r i : EReal) = _
  have h0 : (val_main_cst (F := Ideal) (Shape.Idx.first h_S_) : EReal) = 0 := Ideal.ofBits_zero_f32
  rw [val_main_v1_apply, val_main_v0_apply, val_main_v4_apply, h0, zero_add]
  refine congrArg₂ total (congrArg o (idx3 rfl ?_ ?_)) (funext fun k => congrArg r (idx3 rfl rfl rfl))
  · show ((i 0).val * 128 + (i 1).val) / 128 % 512 = (i 0).val; omega
  · show ((i 0).val * 128 + (i 1).val) % 128 = (i 1).val; omega
theorem newM_at (o : Vec Ideal S4x512x128 .bf16) (r : Vec Ideal S3x512x128 .bf16) (μ : Vec Ideal S512x128 .f32) (i : S512x128.Idx) :
    @Eq EReal (val_main_v10 (F := Ideal) o r μ i) (moment (μ i) (total (o (ix3 0 (i 0) (i 1))) fun k => r (ix3 k (i 0) (i 1)))) := by
  show (val_main_v6 (F := Ideal) i : EReal) * (μ i : EReal) + (val_main_v8 (F := Ideal) i : EReal) * (val_main_v5 (F := Ideal) o r i : EReal) = _
  rw [grad_at, val_main_v6_apply, val_main_v8_apply]
  rfl
theorem newV_at (o : Vec Ideal S4x512x128 .bf16) (r : Vec Ideal S3x512x128 .bf16) (ν : Vec Ideal S512x128 .f32) (i : S512x128.Idx) :
    @Eq EReal (val_main_v16 (F := Ideal) o r ν i) (square (ν i) (total (o (ix3 0 (i 0) (i 1))) fun k => r (ix3 k (i 0) (i 1)))) := by
  show (val_main_v11 (F := Ideal) i : EReal) * (ν i : EReal)
    + (val_main_v14 (F := Ideal) i : EReal) * ((val_main_v5 (F := Ideal) o r i : EReal) * (val_main_v5 (F := Ideal) o r i : EReal)) = _
  rw [grad_at, val_main_v11_apply, val_main_v14_apply]
  rfl
theorem change_at (o : Vec Ideal S4x512x128 .bf16) (r : Vec Ideal S3x512x128 .bf16) (w μ ν : Vec Ideal S512x128 .f32) (i : S512x128.Idx) :
    @Eq EReal (val_main_v29 (F := Ideal) o r w μ ν i) (delta (w i) (val_main_v10 (F := Ideal) o r μ i) (val_main_v16 (F := Ideal) o r ν i)) := by
  show (val_main_v28 (F := Ideal) i : EReal) *
    (Ideal.div (Ideal.div (val_main_v10 (F := Ideal) o r μ i) (val_main_v17 (F := Ideal) i))
        ((Ideal.sqrt (Ideal.div (val_main_v16 (F := Ideal) o r ν i) (val_main_v19 (F := Ideal) i)) : EReal) + (val_main_v22 (F := Ideal) i : EReal))
      + (val_main_v25 (F := Ideal) i : EReal) * (w i : EReal)) = _
  rw [val_main_v28_apply, val_main_v17_apply, val_main_v19_apply, val_main_v22_apply, val_main_v25_apply]
  rfl

theorem grad_eq (o : Vec Ideal S4x512x128 .bf16) (r : Vec Ideal S3x512x128 .bf16)  :
    val_main_v5 (F := Ideal) o r = Cert.AdamPoolIdeal.Head.grad o r := by
  funext i
  obtain ⟨a, b, rfl⟩ : ∃ a b, i = ix2 a b := ⟨i 0, i 1, idx2 rfl rfl⟩
  exact grad_at _ _ _
theorem newM_eq (o : Vec Ideal S4x512x128 .bf16) (r : Vec Ideal S3x512x128 .bf16) (μ : Vec Ideal S512x128 .f32) :
    val_main_v10 (F := Ideal) o r μ = Cert.AdamPoolIdeal.Head.newM o r μ := by
  funext i
  obtain ⟨a, b, rfl⟩ : ∃ a b, i = ix2 a b := ⟨i 0, i 1, idx2 rfl rfl⟩
  exact newM_at _ _ _ _
theorem newV_eq (o : Vec Ideal S4x512x128 .bf16) (r : Vec Ideal S3x512x128 .bf16) (ν : Vec Ideal S512x128 .f32) :
    val_main_v16 (F := Ideal) o r ν = Cert.AdamPoolIdeal.Head.newV o r ν := by
  funext i
  obtain ⟨a, b, rfl⟩ : ∃ a b, i = ix2 a b := ⟨i 0, i 1, idx2 rfl rfl⟩
  exact newV_at _ _ _ _
theorem change_eq (o : Vec Ideal S4x512x128 .bf16) (r : Vec Ideal S3x512x128 .bf16) (w μ ν : Vec Ideal S512x128 .f32) :
    val_main_v29 (F := Ideal) o r w μ ν = Cert.AdamPoolIdeal.Head.change o r w μ ν := by
  funext i
  obtain ⟨a, b, rfl⟩ : ∃ a b, i = ix2 a b := ⟨i 0, i 1, idx2 rfl rfl⟩
  rw [change_at, newM_at, newV_at]
  rfl

end Cert.AdamPoolRefIdeal.Head

end
-- ==== Proof.AdamDownValue.lean ====
/- The optimiser's call for the feed-forward's second weight: each block is the update of its entries, and so is the reference's array. -/
module

public import proofs.«01_k».proof.Proof.AdamW
public import proofs.«01_k».proof.Proof.Gen.AdamDown.Frame
public import proofs.«01_k».proof.Proof.Gen.AdamDownIdeal.Frame
public import proofs.«01_k».proof.Proof.Gen.AdamDownRefIdeal.Read

@[expose] public section

noncomputable section

namespace Cert.AdamDown.Head

open Cert.AdamDown Cert.AdamDown.Gen Idealize.ShloMosaic Idealize.ShloMosaic.TcCoe Idealize.ShloMosaic.Tactic

variable {F : FTy → Type} [FloatOps F] (m : (ℓ : Loc nD τ sig) → Buf (Elt F) ℓ)

/-- The table holds the number of the device's own part, which is zero. -/
theorem table (x : S1.Idx) : (V m 0 main_v0 : S1.Idx → BitVec 32) x = 0#32 := by
  have h : (V m 0 main_v0 : S1.Idx → BitVec 32) = broadcastInDim S1 ![] bcast_S_S1 (constantI S_ 32 0#32) := by
    after_results_simp <;> rfl
  rw [h]
  rfl
theorem index_own (i : grid0.Coords) : cc0_transform_0 inb_S1_S1_0 numel1_S1 (tbl m) i = cc0_transform_1 i := by
  have h : (tbl m).at 0 (Rect.unit (s := S1) ![0] S1.size inb_S1_S1_0) numel1_S1 = (0#32 : BitVec 32) := table m _
  unfold cc0_transform_0
  dsimp only
  rw [h]
  rfl
theorem inside : ∀ (i : grid0.Coords) (a : Fin 3), (cc0_transform_1 i a + 1) * S1x176x1024.size a ≤ S4x352x1024.size a := by
  decide +kernel
/-- Every block the table points to lies inside its array. -/
theorem ok : Ok m := fun i => ⟨fun a => by rw [index_own]; exact inside i a, .inr (Affine.block_words_dvd (of_decide_eq_true rfl) (by decide))⟩

end Cert.AdamDown.Head

namespace Cert.AdamDownIdeal.Head

open Cert.AdamDownIdeal Cert.AdamDownIdeal.Gen Idealize.ShloMosaic Idealize.ShloMosaic.TcCoe Idealize.ShloMosaic.Tactic

variable {F : FTy → Type} [FloatOps F] (m : (ℓ : Loc nD τ sig) → Buf (Elt F) ℓ)

/-- The table holds the number of the device's own part, which is zero. -/
theorem table (x : S1.Idx) : (V m 0 main_v0 : S1.Idx → BitVec 32) x = 0#32 := by
  have h : (V m 0 main_v0 : S1.Idx → BitVec 32) = broadcastInDim S1 ![] bcast_S_S1 (constantI S_ 32 0#32) := by
    after_results_simp <;> rfl
  rw [h]
  rfl
theorem index_own (i : grid0.Coords) : cc0_transform_0 inb_S1_S1_0 numel1_S1 (tbl m) i = cc0_transform_1 i := by
  have h : (tbl m).at 0 (Rect.unit (s := S1) ![0] S1.size inb_S1_S1_0) numel1_S1 = (0#32 : BitVec 32) := table m _
  unfold cc0_transform_0
  dsimp only
  rw [h]
  rfl
theorem inside : ∀ (i : grid0.Coords) (a : Fin 3), (cc0_transform_1 i a + 1) * S1x176x1024.size a ≤ S4x352x1024.size a := by
  decide +kernel
/-- Every block the table points to lies inside its array. -/
theorem ok : Ok m := fun i => ⟨fun a => by rw [index_own]; exact inside i a, .inr (Affine.block_words_dvd (of_decide_eq_true rfl) (by decide))⟩

end Cert.AdamDownIdeal.Head

namespace Cert.AdamDownIdeal.Head

open Cert.AdamDownIdeal Cert.AdamDownIdeal.Gen Cert.Products Cert.AdamW Idealize.ShloMosaic Idealize.ShloMosaic.TcCoe Idealize.ShloMosaic.Tactic
open Idealize.ShloMosaic.Pipeline (Dat)

/-! ## The updated arrays -/

def grad (o : S4x352x1024.Idx → EReal) (r : S3x352x1024.Idx → EReal) (i : S352x1024.Idx) : EReal :=
  total (o (ix3 0 (i 0) (i 1))) fun k => r (ix3 k (i 0) (i 1))
def newM (o : S4x352x1024.Idx → EReal) (r : S3x352x1024.Idx → EReal) (μ : S352x1024.Idx → EReal) (i : S352x1024.Idx) : EReal :=
  moment (μ (ix2 (i 0) (i 1))) (grad o r i)
def newV (o : S4x352x1024.Idx → EReal) (r : S3x352x1024.Idx → EReal) (ν : S352x1024.Idx → EReal) (i : S352x1024.Idx) : EReal :=
  square (ν (ix2 (i 0) (i 1))) (grad o r i)
def change (o : S4x352x1024.Idx → EReal) (r : S3x352x1024.Idx → EReal) (w μ ν : S352x1024.Idx → EReal) (i : S352x1024.Idx) : EReal :=
  delta (w (ix2 (i 0) (i 1))) (newM o r μ i) (newV o r ν i)

/-! ## What one grid point stores -/

abbrev row0 (x : Vec Ideal S3x176x1024 .bf16) : Vec Ideal S1x176x1024 .bf16 :=
  View.ld x (Rect.unit (s := S3x176x1024) ![0, 0, 0] S1x176x1024.size inb_S3x176x1024_S1x176x1024_0_0_0)
theorem row0_at (x : Vec Ideal S3x176x1024 .bf16) (a : Fin 176) (b : Fin 1024) : row0 x (ix3 0 a b) = x (ix3 0 a b) :=
  View.ld_unit_apply_of x _ _ _ _ _ fun e => match e with
    | ⟨0, _⟩ => rfl
    | ⟨1, _⟩ => (Nat.zero_add _).symm
    | ⟨2, _⟩ => (Nat.zero_add _).symm
abbrev row1 (x : Vec Ideal S3x176x1024 .bf16) : Vec Ideal S1x176x1024 .bf16 :=
  View.ld x (Rect.unit (s := S3x176x1024) ![1, 0, 0] S1x176x1024.size inb_S3x176x1024_S1x176x1024_1_0_0)
theorem row1_at (x : Vec Ideal S3x176x1024 .bf16) (a : Fin 176) (b : Fin 1024) : row1 x (ix3 0 a b) = x (ix3 1 a b) :=
  View.ld_unit_apply_of x _ _ _ _ _ fun e => match e with
    | ⟨0, _⟩ => rfl
    | ⟨1, _⟩ => (Nat.zero_add _).symm
    | ⟨2, _⟩ => (Nat.zero_add _).symm
abbrev row2 (x : Vec Ideal S3x176x1024 .bf16) : Vec Ideal S1x176x1024 .bf16 :=
  View.ld x (Rect.unit (s := S3x176x1024) ![2, 0, 0] S1x176x1024.size inb_S3x176x1024_S1x176x1024_2_0_0)
theorem row2_at (x : Vec Ideal S3x176x1024 .bf16) (a : Fin 176) (b : Fin 1024) : row2 x (ix3 0 a b) = x (ix3 2 a b) :=
  View.ld_unit_apply_of x _ _ _ _ _ fun e => match e with
    | ⟨0, _⟩ => rfl
    | ⟨1, _⟩ => (Nat.zero_add _).symm
    | ⟨2, _⟩ => (Nat.zero_add _).symm

theorem flat (x : Vec Ideal S1x176x1024 .bf16) (j : S176x1024.Idx) :
    shapeCast S176x1024 x shapeCasts_S1x176x1024_S176x1024 j = x (ix3 0 (j 0) (j 1)) :=
  shapeCast_apply x _ _ _ (by
    rw [Shape.rowMajor_val_three, Shape.rowMajor_val_two]
    show (0 * 176 + (j 0).val) * 1024 + (j 1).val = (j 0).val * 1024 + (j 1).val
    omega)
theorem total_at (x0 : Vec Ideal S1x176x1024 .bf16) (x1 : Vec Ideal S3x176x1024 .bf16) (j : S176x1024.Idx) :
    @Eq EReal (k0_pay5 x0 (row0 x1) (row1 x1) (row2 x1) j) (total (x0 (ix3 0 (j 0) (j 1))) fun k => x1 (ix3 k (j 0) (j 1))) := by
  rw [← total_eq]
  show (((shapeCast S176x1024 x0 shapeCasts_S1x176x1024_S176x1024 j : EReal) + (shapeCast S176x1024 (row0 x1) shapeCasts_S1x176x1024_S176x1024 j : EReal))
    + (shapeCast S176x1024 (row1 x1) shapeCasts_S1x176x1024_S176x1024 j : EReal)) + (shapeCast S176x1024 (row2 x1) shapeCasts_S1x176x1024_S176x1024 j : EReal) = _
  exact congrArg₂ (fun a b : EReal => a + b) (congrArg₂ (fun a b : EReal => a + b) (congrArg₂ (fun a b : EReal => a + b) (flat x0 j)
    ((flat (row0 x1) j).trans (row0_at x1 (j 0) (j 1)))) ((flat (row1 x1) j).trans (row1_at x1 (j 0) (j 1))))
    ((flat (row2 x1) j).trans (row2_at x1 (j 0) (j 1)))

theorem stored (v : FVec Ideal S176x1024 .f32) (j : S176x1024.Idx) : shapeCast S176x1024 v shapeCasts_S176x1024_S176x1024 j = v (ix2 (j 0) (j 1)) := by
  rw [shapeCast_self]
  exact congrArg v (idx2 rfl rfl)

theorem change_at (w μ ν : FVec Ideal S176x1024 .f32) (j : S176x1024.Idx) : @Eq EReal (k0_pay2 w μ ν j)
    ((Scalar.ofBits (F := Ideal) .f32 0xBA83126F#32 : EReal) *
      (Ideal.div (μ (ix2 (j 0) (j 1))) ((ν (ix2 (j 0) (j 1)) : EReal) + (Scalar.ofBits (F := Ideal) .f32 0x322BCC77#32 : EReal))
        + (Scalar.ofBits (F := Ideal) .f32 0x3C23D70A#32 : EReal) * (w (ix2 (j 0) (j 1)) : EReal))) := by
  unfold k0_pay2
  refine (stored _ j).trans ?_
  rfl

theorem pay1_at (v : FVec Ideal S176x1024 .f32) (j : S176x1024.Idx) : k0_pay1 v j = v (ix2 (j 0) (j 1)) := by
  unfold k0_pay1
  exact stored v j

theorem pay3_at (v : FVec Ideal S176x1024 .f32) (j : S176x1024.Idx) : k0_pay3 v j = v (ix2 (j 0) (j 1)) := by
  unfold k0_pay3
  exact stored v j

theorem pay4_at (v : FVec Ideal S176x1024 .f32) (j : S176x1024.Idx) : k0_pay4 v j = v (ix2 (j 0) (j 1)) := by
  unfold k0_pay4
  exact stored v j

section
variable (c : Dev nD) (i : grid0.Coords) (a3 : Memref sig .tc .vmem S1x176x1024 .bf16) (h3 : a3.IsWhole) (a4 : Memref sig .tc .vmem S3x176x1024 .bf16) (h4 : a4.IsWhole) (a5 : Memref sig .tc .vmem S176x1024 .f32) (h5 : a5.IsWhole) (a6 : Memref sig .tc .vmem S176x1024 .f32) (h6 : a6.IsWhole) (a7 : Memref sig .tc .vmem S176x1024 .f32) (h7 : a7.IsWhole) (a8 : Memref sig .tc .vmem S176x1024 .f32) (h8 : a8.IsWhole) (a9 : Memref sig .tc .vmem S176x1024 .f32) (h9 : a9.IsWhole) (a10 : Memref sig .tc .vmem S176x1024 .f32) (h10 : a10.IsWhole) (a11 : Memref sig .tc .vmem S176x1024 .f32) (h11 : a11.IsWhole)
  (x0 : Vec Ideal S1x176x1024 .bf16) (x1 : Vec Ideal S3x176x1024 .bf16) (x2 x3 x4 : Vec Ideal S176x1024 .f32) (xt : TbBuf0 (F := Ideal) c tbM0_0)

theorem out5 : out0_A_5 c i a3 h3 a4 h4 a5 h5 a6 h6 a7 h7 a8 h8 a9 h9 a10 h10 a11 h11 x0 x1 x2 x3 x4 xt = k0_pay1 (k0_pay5 x0 (row0 x1) (row1 x1) (row2 x1)) := by
  unfold out0_A_5
  rw [View.read_writes_eq_canon _ _ _ (cover0_A_5 c i a3 h3 a4 h4 a5 h5 a6 h6 a7 h7 a8 h8 a9 h9 a10 h10 a11 h11 x0 x1 x2 x3 x4 xt)]
  unfold kernelRun0_A
  dsimp only
  sl_unfold_words
  rw [View.canon_unit_zero zeros2]
  simp only [View.readAt_eq_ld, h3.read_unread, h4.read_unread, h5.read_unread, h6.read_unread, h7.read_unread,
    View.ld_unit_zero (S := S1x176x1024) zeros3, View.ld_unit_zero (S := S176x1024) zeros2]

theorem out6 : out0_A_6 c i a3 h3 a4 h4 a5 h5 a6 h6 a7 h7 a8 h8 a9 h9 a10 h10 a11 h11 x0 x1 x2 x3 x4 xt = k0_pay2 x2 (k0_pay8 x0 (row0 x1) (row1 x1) (row2 x1) x3) (k0_pay9 x0 (row0 x1) (row1 x1) (row2 x1) x4) := by
  unfold out0_A_6
  rw [View.read_writes_eq_canon _ _ _ (cover0_A_6 c i a3 h3 a4 h4 a5 h5 a6 h6 a7 h7 a8 h8 a9 h9 a10 h10 a11 h11 x0 x1 x2 x3 x4 xt)]
  unfold kernelRun0_A
  dsimp only
  sl_unfold_words
  rw [View.canon_unit_zero zeros2]
  simp only [View.readAt_eq_ld, h3.read_unread, h4.read_unread, h5.read_unread, h6.read_unread, h7.read_unread,
    View.ld_unit_zero (S := S1x176x1024) zeros3, View.ld_unit_zero (S := S176x1024) zeros2]

theorem out7 : out0_A_7 c i a3 h3 a4 h4 a5 h5 a6 h6 a7 h7 a8 h8 a9 h9 a10 h10 a11 h11 x0 x1 x2 x3 x4 xt = k0_pay3 (k0_pay6 x0 (row0 x1) (row1 x1) (row2 x1) x3) := by
  unfold out0_A_7
  rw [View.read_writes_eq_canon _ _ _ (cover0_A_7 c i a3 h3 a4 h4 a5 h5 a6 h6 a7 h7 a8 h8 a9 h9 a10 h10 a11 h11 x0 x1 x2 x3 x4 xt)]
  unfold kernelRun0_A
  dsimp only
  sl_unfold_words
  rw [View.canon_unit_zero zeros2]
  simp only [View.readAt_eq_ld, h3.read_unread, h4.read_unread, h5.read_unread, h6.read_unread, h7.read_unread,
    View.ld_unit_zero (S := S1x176x1024) zeros3, View.ld_unit_zero (S := S176x1024) zeros2]

theorem out8 : out0_A_8 c i a3 h3 a4 h4 a5 h5 a6 h6 a7 h7 a8 h8 a9 h9 a10 h10 a11 h11 x0 x1 x2 x3 x4 xt = k0_pay4 (k0_pay7 x0 (row0 x1) (row1 x1) (row2 x1) x4) := by
  unfold out0_A_8
  rw [View.read_writes_eq_canon _ _ _ (cover0_A_8 c i a3 h3 a4 h4 a5 h5 a6 h6 a7 h7 a8 h8 a9 h9 a10 h10 a11 h11 x0 x1 x2 x3 x4 xt)]
  unfold kernelRun0_A
  dsimp only
  sl_unfold_words
  rw [View.canon_unit_zero zeros2]
  simp only [View.readAt_eq_ld, h3.read_unread, h4.read_unread, h5.read_unread, h6.read_unread, h7.read_unread,
    View.ld_unit_zero (S := S1x176x1024) zeros3, View.ld_unit_zero (S := S176x1024) zeros2]

end

/-! ## Where a point's blocks lie -/

theorem index1 : ∀ t : Fin grid0.N, cc0_transform_1 (grid0.coords t) 0 = 0 ∧ cc0_transform_1 (grid0.coords t) 1 = t.val ∧ cc0_transform_1 (grid0.coords t) 2 = 0 := by decide +kernel
theorem index2 : ∀ t : Fin grid0.N, cc0_transform_2 (grid0.coords t) 0 = t.val ∧ cc0_transform_2 (grid0.coords t) 1 = 0 := by decide +kernel
theorem index3 : ∀ t : Fin grid0.N, cc0_transform_3 (grid0.coords t) 0 = t.val ∧ cc0_transform_3 (grid0.coords t) 1 = 0 := by decide +kernel
theorem index4 : ∀ t : Fin grid0.N, cc0_transform_4 (grid0.coords t) 0 = t.val ∧ cc0_transform_4 (grid0.coords t) 1 = 0 := by decide +kernel
theorem index5 : ∀ t : Fin grid0.N, cc0_transform_5 (grid0.coords t) 0 = t.val ∧ cc0_transform_5 (grid0.coords t) 1 = 0 := by decide +kernel
theorem index6 : ∀ t : Fin grid0.N, cc0_transform_6 (grid0.coords t) 0 = t.val ∧ cc0_transform_6 (grid0.coords t) 1 = 0 := by decide +kernel
theorem index7 : ∀ t : Fin grid0.N, cc0_transform_7 (grid0.coords t) 0 = t.val ∧ cc0_transform_7 (grid0.coords t) 1 = 0 := by decide +kernel
theorem index8 : ∀ t : Fin grid0.N, cc0_transform_8 (grid0.coords t) 0 = t.val ∧ cc0_transform_8 (grid0.coords t) 1 = 0 := by decide +kernel

variable (m : (ℓ : Loc nD τ sig) → Buf (Elt Ideal) ℓ) (hO : Ok m) (c : Dev nD)

abbrev arg0 := m ((c.tc : Thread nD τ).loc main_arg0)
abbrev arg1 := m ((c.tc : Thread nD τ).loc main_arg1)
abbrev arg2 := m ((c.tc : Thread nD τ).loc main_arg2)
abbrev arg3 := m ((c.tc : Thread nD τ).loc main_arg3)
abbrev arg4 := m ((c.tc : Thread nD τ).loc main_arg4)

theorem blk0 (t : Fin (cfgM m hO).N) (a : Fin 176) (b : Fin 1024) (x : Fin 352) (y : Fin 1024) (hx : x.val = 176 * t.val + a.val) (hy : y.val = b.val) :
    iblk m hO c 0 t (ix3 0 a b) = (arg0 m c) (ix3 0 x y) := by
  obtain ⟨e0, e1, e2⟩ := index1 t
  rw [← index_own m] at e0 e1 e2
  unfold iblk
  refine (View.read_apply _ _).trans ?_
  show V m c main_arg0 _ = _
  rw [V_main_arg0]
  refine congrArg _ (idx3 ?_ ?_ ?_)
  · show cc0_transform_0 inb_S1_S1_0 numel1_S1 (tbl m) (grid0.coords t) 0 * 1 + 1 * 0 = 0; omega
  · show cc0_transform_0 inb_S1_S1_0 numel1_S1 (tbl m) (grid0.coords t) 1 * 176 + 1 * a.val = x.val; omega
  · show cc0_transform_0 inb_S1_S1_0 numel1_S1 (tbl m) (grid0.coords t) 2 * 1024 + 1 * b.val = y.val; omega
theorem blk1 (t : Fin (cfgM m hO).N) (k : Fin 3) (a : Fin 176) (b : Fin 1024) (x : Fin 352) (y : Fin 1024) (hx : x.val = 176 * t.val + a.val) (hy : y.val = b.val) :
    iblk m hO c 1 t (ix3 k a b) = (arg1 m c) (ix3 k x y) := by
  obtain ⟨e0, e1, e2⟩ := index1 t
  unfold iblk
  refine (View.read_apply _ _).trans ?_
  show V m c main_arg1 _ = _
  rw [V_main_arg1]
  refine congrArg _ (idx3 ?_ ?_ ?_)
  · show cc0_transform_1 (grid0.coords t) 0 * 3 + 1 * k.val = k.val; omega
  · show cc0_transform_1 (grid0.coords t) 1 * 176 + 1 * a.val = x.val; omega
  · show cc0_transform_1 (grid0.coords t) 2 * 1024 + 1 * b.val = y.val; omega
theorem blk2 (t : Fin (cfgM m hO).N) (a : Fin 176) (b : Fin 1024) (x : Fin 352) (y : Fin 1024) (hx : x.val = 176 * t.val + a.val) (hy : y.val = b.val) :
    iblk m hO c 2 t (ix2 a b) = (arg2 m c) (ix2 x y) := by
  obtain ⟨e0, e1⟩ := index2 t
  unfold iblk
  refine (View.read_apply _ _).trans ?_
  show V m c main_arg2 _ = _
  rw [V_main_arg2]
  refine congrArg _ (idx2 ?_ ?_)
  · show cc0_transform_2 (grid0.coords t) 0 * 176 + 1 * a.val = x.val; omega
  · show cc0_transform_2 (grid0.coords t) 1 * 1024 + 1 * b.val = y.val; omega
theorem blk3 (t : Fin (cfgM m hO).N) (a : Fin 176) (b : Fin 1024) (x : Fin 352) (y : Fin 1024) (hx : x.val = 176 * t.val + a.val) (hy : y.val = b.val) :
    iblk m hO c 3 t (ix2 a b) = (arg3 m c) (ix2 x y) := by
  obtain ⟨e0, e1⟩ := index3 t
  unfold iblk
  refine (View.read_apply _ _).trans ?_
  show V m c main_arg3 _ = _
  rw [V_main_arg3]
  refine congrArg _ (idx2 ?_ ?_)
  · show cc0_transform_3 (grid0.coords t) 0 * 176 + 1 * a.val = x.val; omega
  · show cc0_transform_3 (grid0.coords t) 1 * 1024 + 1 * b.val = y.val; omega
theorem blk4 (t : Fin (cfgM m hO).N) (a : Fin 176) (b : Fin 1024) (x : Fin 352) (y : Fin 1024) (hx : x.val = 176 * t.val + a.val) (hy : y.val = b.val) :
    iblk m hO c 4 t (ix2 a b) = (arg4 m c) (ix2 x y) := by
  obtain ⟨e0, e1⟩ := index4 t
  unfold iblk
  refine (View.read_apply _ _).trans ?_
  show V m c main_arg4 _ = _
  rw [V_main_arg4]
  refine congrArg _ (idx2 ?_ ?_)
  · show cc0_transform_4 (grid0.coords t) 0 * 176 + 1 * a.val = x.val; omega
  · show cc0_transform_4 (grid0.coords t) 1 * 1024 + 1 * b.val = y.val; omega

/-! ## What a point stores, from the arrays -/

theorem grad_point (t : Fin (cfgM m hO).N) (j : S176x1024.Idx) (i : S352x1024.Idx) (hx : (i 0).val = 176 * t.val + (j 0).val) (hy : (i 1).val = (j 1).val) :
    @Eq EReal (k0_pay5 (iblk m hO c 0 t) (row0 (iblk m hO c 1 t)) (row1 (iblk m hO c 1 t)) (row2 (iblk m hO c 1 t)) (ix2 (j 0) (j 1))) (grad (arg0 m c) (arg1 m c) i) :=
  (total_at _ _ _).trans (congrArg₂ total (blk0 m hO c t (j 0) (j 1) (i 0) (i 1) hx hy)
    (funext fun k => blk1 m hO c t k (j 0) (j 1) (i 0) (i 1) hx hy))
theorem newM_point (t : Fin (cfgM m hO).N) (j : S176x1024.Idx) (i : S352x1024.Idx) (hx : (i 0).val = 176 * t.val + (j 0).val) (hy : (i 1).val = (j 1).val) :
    @Eq EReal (k0_pay6 (iblk m hO c 0 t) (row0 (iblk m hO c 1 t)) (row1 (iblk m hO c 1 t)) (row2 (iblk m hO c 1 t)) (iblk m hO c 3 t) (ix2 (j 0) (j 1))) (newM (arg0 m c) (arg1 m c) (arg3 m c) i) :=
  congrArg₂ moment (blk3 m hO c t (j 0) (j 1) (i 0) (i 1) hx hy) (grad_point m hO c t j i hx hy)
theorem newV_point (t : Fin (cfgM m hO).N) (j : S176x1024.Idx) (i : S352x1024.Idx) (hx : (i 0).val = 176 * t.val + (j 0).val) (hy : (i 1).val = (j 1).val) :
    @Eq EReal (k0_pay7 (iblk m hO c 0 t) (row0 (iblk m hO c 1 t)) (row1 (iblk m hO c 1 t)) (row2 (iblk m hO c 1 t)) (iblk m hO c 4 t) (ix2 (j 0) (j 1))) (newV (arg0 m c) (arg1 m c) (arg4 m c) i) :=
  congrArg₂ square (blk4 m hO c t (j 0) (j 1) (i 0) (i 1) hx hy) (grad_point m hO c t j i hx hy)

theorem outs5 (t : Fin (cfgM m hO).N) : (outsAt0 m hO c t).1 = k0_pay1 (k0_pay5 (iblk m hO c 0 t) (row0 (iblk m hO c 1 t)) (row1 (iblk m hO c 1 t)) (row2 (iblk m hO c 1 t))) := by
  unfold outsAt0
  dsimp only
  exact out5 c (grid0.coords t) _ _ _ _ _ _ _ _ _ _ _ _ _ _ _ _ _ _
    (iblk m hO c 0 t) (iblk m hO c 1 t) (iblk m hO c 2 t) (iblk m hO c 3 t) (iblk m hO c 4 t) (tbl m 0)
theorem point5 (t : Fin (cfgM m hO).N) (j : S176x1024.Idx) (i : S352x1024.Idx) (hx : (i 0).val = 176 * t.val + (j 0).val) (hy : (i 1).val = (j 1).val) :
    @Eq EReal ((outsAt0 m hO c t).1 j) (grad (arg0 m c) (arg1 m c) i) := by
  refine (congrFun (outs5 m hO c t) j).trans ?_
  exact (pay1_at _ j).trans (grad_point m hO c t j i hx hy)
theorem outs6 (t : Fin (cfgM m hO).N) : (outsAt0 m hO c t).2.1 = k0_pay2 (iblk m hO c 2 t) (k0_pay8 (iblk m hO c 0 t) (row0 (iblk m hO c 1 t)) (row1 (iblk m hO c 1 t)) (row2 (iblk m hO c 1 t)) (iblk m hO c 3 t)) (k0_pay9 (iblk m hO c 0 t) (row0 (iblk m hO c 1 t)) (row1 (iblk m hO c 1 t)) (row2 (iblk m hO c 1 t)) (iblk m hO c 4 t)) := by
  unfold outsAt0
  dsimp only
  exact out6 c (grid0.coords t) _ _ _ _ _ _ _ _ _ _ _ _ _ _ _ _ _ _
    (iblk m hO c 0 t) (iblk m hO c 1 t) (iblk m hO c 2 t) (iblk m hO c 3 t) (iblk m hO c 4 t) (tbl m 0)
theorem point6 (t : Fin (cfgM m hO).N) (j : S176x1024.Idx) (i : S352x1024.Idx) (hx : (i 0).val = 176 * t.val + (j 0).val) (hy : (i 1).val = (j 1).val) :
    @Eq EReal ((outsAt0 m hO c t).2.1 j) (change (arg0 m c) (arg1 m c) (arg2 m c) (arg3 m c) (arg4 m c) i) := by
  refine (congrFun (outs6 m hO c t) j).trans ?_
  refine (change_at _ _ _ j).trans ?_
  show delta (iblk m hO c 2 t (ix2 (j 0) (j 1))) (k0_pay6 (iblk m hO c 0 t) (row0 (iblk m hO c 1 t)) (row1 (iblk m hO c 1 t)) (row2 (iblk m hO c 1 t)) (iblk m hO c 3 t) (ix2 (j 0) (j 1))) (k0_pay7 (iblk m hO c 0 t) (row0 (iblk m hO c 1 t)) (row1 (iblk m hO c 1 t)) (row2 (iblk m hO c 1 t)) (iblk m hO c 4 t) (ix2 (j 0) (j 1))) = _
  rw [newM_point m hO c t j i hx hy, newV_point m hO c t j i hx hy, blk2 m hO c t (j 0) (j 1) (i 0) (i 1) hx hy]
  rfl
theorem outs7 (t : Fin (cfgM m hO).N) : (outsAt0 m hO c t).2.2.1 = k0_pay3 (k0_pay6 (iblk m hO c 0 t) (row0 (iblk m hO c 1 t)) (row1 (iblk m hO c 1 t)) (row2 (iblk m hO c 1 t)) (iblk m hO c 3 t)) := by
  unfold outsAt0
  dsimp only
  exact out7 c (grid0.coords t) _ _ _ _ _ _ _ _ _ _ _ _ _ _ _ _ _ _
    (iblk m hO c 0 t) (iblk m hO c 1 t) (iblk m hO c 2 t) (iblk m hO c 3 t) (iblk m hO c 4 t) (tbl m 0)
theorem point7 (t : Fin (cfgM m hO).N) (j : S176x1024.Idx) (i : S352x1024.Idx) (hx : (i 0).val = 176 * t.val + (j 0).val) (hy : (i 1).val = (j 1).val) :
    @Eq EReal ((outsAt0 m hO c t).2.2.1 j) (newM (arg0 m c) (arg1 m c) (arg3 m c) i) := by
  refine (congrFun (outs7 m hO c t) j).trans ?_
  exact (pay3_at _ j).trans (newM_point m hO c t j i hx hy)
theorem outs8 (t : Fin (cfgM m hO).N) : (outsAt0 m hO c t).2.2.2 = k0_pay4 (k0_pay7 (iblk m hO c 0 t) (row0 (iblk m hO c 1 t)) (row1 (iblk m hO c 1 t)) (row2 (iblk m hO c 1 t)) (iblk m hO c 4 t)) := by
  unfold outsAt0
  dsimp only
  exact out8 c (grid0.coords t) _ _ _ _ _ _ _ _ _ _ _ _ _ _ _ _ _ _
    (iblk m hO c 0 t) (iblk m hO c 1 t) (iblk m hO c 2 t) (iblk m hO c 3 t) (iblk m hO c 4 t) (tbl m 0)
theorem point8 (t : Fin (cfgM m hO).N) (j : S176x1024.Idx) (i : S352x1024.Idx) (hx : (i 0).val = 176 * t.val + (j 0).val) (hy : (i 1).val = (j 1).val) :
    @Eq EReal ((outsAt0 m hO c t).2.2.2 j) (newV (arg0 m c) (arg1 m c) (arg4 m c) i) := by
  refine (congrFun (outs8 m hO c t) j).trans ?_
  exact (pay4_at _ j).trans (newV_point m hO c t j i hx hy)

/-! ## The arrays -/

theorem arr5 : (dats m hO 0 c).arrAt 5 (cfgM m hO).N = grad (arg0 m c) (arg1 m c) := by
  refine (dats m hO 0 c).arrAt_eq_of_cover 5 _ (fun t _ => ?_) fun (i : S352x1024.Idx) => ?_
  · show ((cfgM m hO).win 5).cut (grid0.coords t) ((dats m hO 0 c).after 5 t) = _
    rw [after0_5]
    refine funext fun (j : S176x1024.Idx) => ?_
    obtain ⟨e0, e1⟩ := index5 t
    refine point5 m hO c t j ((((cfgM m hO).win 5).blk t).view.emb j) ?_ ?_
    · show cc0_transform_5 (grid0.coords t) 0 * 176 + 1 * (j 0).val = 176 * t.val + (j 0).val; omega
    · show cc0_transform_5 (grid0.coords t) 1 * 1024 + 1 * (j 1).val = (j 1).val; omega
  · have i0 : (i 0).val < 352 := (i 0).isLt
    have i1 : (i 1).val < 1024 := (i 1).isLt
    let t : Fin (cfgM m hO).N := ⟨(i 0).val / 176, by show _ < 2; omega⟩
    refine ⟨t, flush0_5 _ t, ?_⟩
    obtain ⟨e0, e1⟩ := index5 t
    have h := (((cfgM m hO).win 5).blk t).view.emb_mem_set (ix2 (⟨(i 0).val % 176, by omega⟩ : Fin 176) (⟨(i 1).val, i1⟩ : Fin 1024))
    refine Eq.mp (congrArg (· ∈ _) (idx2 ?_ ?_)) h
    · show cc0_transform_5 (grid0.coords t) 0 * 176 + 1 * ((i 0).val % 176) = (i 0).val
      rw [e0]; show (i 0).val / 176 * 176 + _ = _; omega
    · show cc0_transform_5 (grid0.coords t) 1 * 1024 + 1 * (i 1).val = (i 1).val
      rw [e1]; omega
theorem arr6 : (dats m hO 0 c).arrAt 6 (cfgM m hO).N = change (arg0 m c) (arg1 m c) (arg2 m c) (arg3 m c) (arg4 m c) := by
  refine (dats m hO 0 c).arrAt_eq_of_cover 6 _ (fun t _ => ?_) fun (i : S352x1024.Idx) => ?_
  · show ((cfgM m hO).win 6).cut (grid0.coords t) ((dats m hO 0 c).after 6 t) = _
    rw [after0_6]
    refine funext fun (j : S176x1024.Idx) => ?_
    obtain ⟨e0, e1⟩ := index6 t
    refine point6 m hO c t j ((((cfgM m hO).win 6).blk t).view.emb j) ?_ ?_
    · show cc0_transform_6 (grid0.coords t) 0 * 176 + 1 * (j 0).val = 176 * t.val + (j 0).val; omega
    · show cc0_transform_6 (grid0.coords t) 1 * 1024 + 1 * (j 1).val = (j 1).val; omega
  · have i0 : (i 0).val < 352 := (i 0).isLt
    have i1 : (i 1).val < 1024 := (i 1).isLt
    let t : Fin (cfgM m hO).N := ⟨(i 0).val / 176, by show _ < 2; omega⟩
    refine ⟨t, flush0_6 _ t, ?_⟩
    obtain ⟨e0, e1⟩ := index6 t
    have h := (((cfgM m hO).win 6).blk t).view.emb_mem_set (ix2 (⟨(i 0).val % 176, by omega⟩ : Fin 176) (⟨(i 1).val, i1⟩ : Fin 1024))
    refine Eq.mp (congrArg (· ∈ _) (idx2 ?_ ?_)) h
    · show cc0_transform_6 (grid0.coords t) 0 * 176 + 1 * ((i 0).val % 176) = (i 0).val
      rw [e0]; show (i 0).val / 176 * 176 + _ = _; omega
    · show cc0_transform_6 (grid0.coords t) 1 * 1024 + 1 * (i 1).val = (i 1).val
      rw [e1]; omega
theorem arr7 : (dats m hO 0 c).arrAt 7 (cfgM m hO).N = newM (arg0 m c) (arg1 m c) (arg3 m c) := by
  refine (dats m hO 0 c).arrAt_eq_of_cover 7 _ (fun t _ => ?_) fun (i : S352x1024.Idx) => ?_
  · show ((cfgM m hO).win 7).cut (grid0.coords t) ((dats m hO 0 c).after 7 t) = _
    rw [after0_7]
    refine funext fun (j : S176x1024.Idx) => ?_
    obtain ⟨e0, e1⟩ := index7 t
    refine point7 m hO c t j ((((cfgM m hO).win 7).blk t).view.emb j) ?_ ?_
    · show cc0_transform_7 (grid0.coords t) 0 * 176 + 1 * (j 0).val = 176 * t.val + (j 0).val; omega
    · show cc0_transform_7 (grid0.coords t) 1 * 1024 + 1 * (j 1).val = (j 1).val; omega
  · have i0 : (i 0).val < 352 := (i 0).isLt
    have i1 : (i 1).val < 1024 := (i 1).isLt
    let t : Fin (cfgM m hO).N := ⟨(i 0).val / 176, by show _ < 2; omega⟩
    refine ⟨t, flush0_7 _ t, ?_⟩
    obtain ⟨e0, e1⟩ := index7 t
    have h := (((cfgM m hO).win 7).blk t).view.emb_mem_set (ix2 (⟨(i 0).val % 176, by omega⟩ : Fin 176) (⟨(i 1).val, i1⟩ : Fin 1024))
    refine Eq.mp (congrArg (· ∈ _) (idx2 ?_ ?_)) h
    · show cc0_transform_7 (grid0.coords t) 0 * 176 + 1 * ((i 0).val % 176) = (i 0).val
      rw [e0]; show (i 0).val / 176 * 176 + _ = _; omega
    · show cc0_transform_7 (grid0.coords t) 1 * 1024 + 1 * (i 1).val = (i 1).val
      rw [e1]; omega
theorem arr8 : (dats m hO 0 c).arrAt 8 (cfgM m hO).N = newV (arg0 m c) (arg1 m c) (arg4 m c) := by
  refine (dats m hO 0 c).arrAt_eq_of_cover 8 _ (fun t _ => ?_) fun (i : S352x1024.Idx) => ?_
  · show ((cfgM m hO).win 8).cut (grid0.coords t) ((dats m hO 0 c).after 8 t) = _
    rw [after0_8]
    refine funext fun (j : S176x1024.Idx) => ?_
    obtain ⟨e0, e1⟩ := index8 t
    refine point8 m hO c t j ((((cfgM m hO).win 8).blk t).view.emb j) ?_ ?_
    · show cc0_transform_8 (grid0.coords t) 0 * 176 + 1 * (j 0).val = 176 * t.val + (j 0).val; omega
    · show cc0_transform_8 (grid0.coords t) 1 * 1024 + 1 * (j 1).val = (j 1).val; omega
  · have i0 : (i 0).val < 352 := (i 0).isLt
    have i1 : (i 1).val < 1024 := (i 1).isLt
    let t : Fin (cfgM m hO).N := ⟨(i 0).val / 176, by show _ < 2; omega⟩
    refine ⟨t, flush0_8 _ t, ?_⟩
    obtain ⟨e0, e1⟩ := index8 t
    have h := (((cfgM m hO).win 8).blk t).view.emb_mem_set (ix2 (⟨(i 0).val % 176, by omega⟩ : Fin 176) (⟨(i 1).val, i1⟩ : Fin 1024))
    refine Eq.mp (congrArg (· ∈ _) (idx2 ?_ ?_)) h
    · show cc0_transform_8 (grid0.coords t) 0 * 176 + 1 * ((i 0).val % 176) = (i 0).val
      rw [e0]; show (i 0).val / 176 * 176 + _ = _; omega
    · show cc0_transform_8 (grid0.coords t) 1 * 1024 + 1 * (i 1).val = (i 1).val
      rw [e1]; omega

end Cert.AdamDownIdeal.Head

/-! ## The reference's arrays -/

namespace Cert.AdamDownRefIdeal.Head

open Cert.AdamDownRefIdeal Cert.AdamDownRefIdeal.Gen Cert.AdamDownRefIdeal.Read Cert.Products Cert.AdamW Idealize.ShloMosaic Idealize.ShloMosaic.TcCoe

theorem grad_at (o : Vec Ideal S4x352x1024 .bf16) (r : Vec Ideal S3x352x1024 .bf16) (i : S352x1024.Idx) :
    @Eq EReal (val_main_v5 (F := Ideal) o r i) (total (o (ix3 0 (i 0) (i 1))) fun k => r (ix3 k (i 0) (i 1))) := by
  have i0 : (i 0).val < 352 := (i 0).isLt
  have i1 : (i 1).val < 1024 := (i 1).isLt
  show (val_main_v1 (F := Ideal) o i : EReal) + (val_main_v4 (F := Ideal) r i : EReal) = _
  have h0 : (val_main_cst (F := Ideal) (Shape.Idx.first h_S_) : EReal) = 0 := Ideal.ofBits_zero_f32
  rw [val_main_v1_apply, val_main_v0_apply, val_main_v4_apply, h0, zero_add]
  refine congrArg₂ total (congrArg o (idx3 rfl ?_ ?_)) (funext fun k => congrArg r (idx3 rfl rfl rfl))
  · show ((i 0).val * 1024 + (i 1).val) / 1024 % 352 = (i 0).val; omega
  · show ((i 0).val * 1024 + (i 1).val) % 1024 = (i 1).val; omega
theorem newM_at (o : Vec Ideal S4x352x1024 .bf16) (r : Vec Ideal S3x352x1024 .bf16) (μ : Vec Ideal S352x1024 .f32) (i : S352x1024.Idx) :
    @Eq EReal (val_main_v10 (F := Ideal) o r μ i) (moment (μ i) (total (o (ix3 0 (i 0) (i 1))) fun k => r (ix3 k (i 0) (i 1)))) := by
  show (val_main_v6 (F := Ideal) i : EReal) * (μ i : EReal) + (val_main_v8 (F := Ideal) i : EReal) * (val_main_v5 (F := Ideal) o r i : EReal) = _
  rw [grad_at, val_main_v6_apply, val_main_v8_apply]
  rfl
theorem newV_at (o : Vec Ideal S4x352x1024 .bf16) (r : Vec Ideal S3x352x1024 .bf16) (ν : Vec Ideal S352x1024 .f32) (i : S352x1024.Idx) :
    @Eq EReal (val_main_v16 (F := Ideal) o r ν i) (square (ν i) (total (o (ix3 0 (i 0) (i 1))) fun k => r (ix3 k (i 0) (i 1)))) := by
  show (val_main_v11 (F := Ideal) i : EReal) * (ν i : EReal)
    + (val_main_v14 (F := Ideal) i : EReal) * ((val_main_v5 (F := Ideal) o r i : EReal) * (val_main_v5 (F := Ideal) o r i : EReal)) = _
  rw [grad_at, val_main_v11_apply, val_main_v14_apply]
  rfl
theorem change_at (o : Vec Ideal S4x352x1024 .bf16) (r : Vec Ideal S3x352x1024 .bf16) (w μ ν : Vec Ideal S352x1024 .f32) (i : S352x1024.Idx) :
    @Eq EReal (val_main_v29 (F := Ideal) o r w μ ν i) (delta (w i) (val_main_v10 (F := Ideal) o r μ i) (val_main_v16 (F := Ideal) o r ν i)) := by
  show (val_main_v28 (F := Ideal) i : EReal) *
    (Ideal.div (Ideal.div (val_main_v10 (F := Ideal) o r μ i) (val_main_v17 (F := Ideal) i))
        ((Ideal.sqrt (Ideal.div (val_main_v16 (F := Ideal) o r ν i) (val_main_v19 (F := Ideal) i)) : EReal) + (val_main_v22 (F := Ideal) i : EReal))
      + (val_main_v25 (F := Ideal) i : EReal) * (w i : EReal)) = _
  rw [val_main_v28_apply, val_main_v17_apply, val_main_v19_apply, val_main_v22_apply, val_main_v25_apply]
  rfl

theorem grad_eq (o : Vec Ideal S4x352x1024 .bf16) (r : Vec Ideal S3x352x1024 .bf16)  :
    val_main_v5 (F := Ideal) o r = Cert.AdamDownIdeal.Head.grad o r := by
  funext i
  obtain ⟨a, b, rfl⟩ : ∃ a b, i = ix2 a b := ⟨i 0, i 1, idx2 rfl rfl⟩
  exact grad_at _ _ _
theorem newM_eq (o : Vec Ideal S4x352x1024 .bf16) (r : Vec Ideal S3x352x1024 .bf16) (μ : Vec Ideal S352x1024 .f32) :
    val_main_v10 (F := Ideal) o r μ = Cert.AdamDownIdeal.Head.newM o r μ := by
  funext i
  obtain ⟨a, b, rfl⟩ : ∃ a b, i = ix2 a b := ⟨i 0, i 1, idx2 rfl rfl⟩
  exact newM_at _ _ _ _
theorem newV_eq (o : Vec Ideal S4x352x1024 .bf16) (r : Vec Ideal S3x352x1024 .bf16) (ν : Vec Ideal S352x1024 .f32) :
    val_main_v16 (F := Ideal) o r ν = Cert.AdamDownIdeal.Head.newV o r ν := by
  funext i
  obtain ⟨a, b, rfl⟩ : ∃ a b, i = ix2 a b := ⟨i 0, i 1, idx2 rfl rfl⟩
  exact newV_at _ _ _ _
theorem change_eq (o : Vec Ideal S4x352x1024 .bf16) (r : Vec Ideal S3x352x1024 .bf16) (w μ ν : Vec Ideal S352x1024 .f32) :
    val_main_v29 (F := Ideal) o r w μ ν = Cert.AdamDownIdeal.Head.change o r w μ ν := by
  funext i
  obtain ⟨a, b, rfl⟩ : ∃ a b, i = ix2 a b := ⟨i 0, i 1, idx2 rfl rfl⟩
  rw [change_at, newM_at, newV_at]
  rfl

end Cert.AdamDownRefIdeal.Head

end
-- ==== Proof.AdamUpValue.lean ====
/- The optimiser's call for the feed-forward's first weight: each block is the update of its entries, and so is the reference's array. -/
module

public import proofs.«01_k».proof.Proof.AdamW
public import proofs.«01_k».proof.Proof.Gen.AdamUp.Frame
public import proofs.«01_k».proof.Proof.Gen.AdamUpIdeal.Frame
public import proofs.«01_k».proof.Proof.Gen.AdamUpRefIdeal.Read

@[expose] public section

noncomputable section

namespace Cert.AdamUp.Head

open Cert.AdamUp Cert.AdamUp.Gen Idealize.ShloMosaic Idealize.ShloMosaic.TcCoe Idealize.ShloMosaic.Tactic

variable {F : FTy → Type} [FloatOps F] (m : (ℓ : Loc nD τ sig) → Buf (Elt F) ℓ)

/-- The table holds the number of the device's own part, which is zero. -/
theorem table (x : S1.Idx) : (V m 0 main_v0 : S1.Idx → BitVec 32) x = 0#32 := by
  have h : (V m 0 main_v0 : S1.Idx → BitVec 32) = broadcastInDim S1 ![] bcast_S_S1 (constantI S_ 32 0#32) := by
    after_results_simp <;> rfl
  rw [h]
  rfl
theorem index_own (i : grid0.Coords) : cc0_transform_0 inb_S1_S1_0 numel1_S1 (tbl m) i = cc0_transform_1 i := by
  have h : (tbl m).at 0 (Rect.unit (s := S1) ![0] S1.size inb_S1_S1_0) numel1_S1 = (0#32 : BitVec 32) := table m _
  unfold cc0_transform_0
  dsimp only
  rw [h]
  rfl
theorem inside : ∀ (i : grid0.Coords) (a : Fin 3), (cc0_transform_1 i a + 1) * S1x176x1024.size a ≤ S4x704x1024.size a := by
  decide +kernel
/-- Every block the table points to lies inside its array. -/
theorem ok : Ok m := fun i => ⟨fun a => by rw [index_own]; exact inside i a, .inr (Affine.block_words_dvd (of_decide_eq_true rfl) (by decide))⟩

end Cert.AdamUp.Head

namespace Cert.AdamUpIdeal.Head

open Cert.AdamUpIdeal Cert.AdamUpIdeal.Gen Idealize.ShloMosaic Idealize.ShloMosaic.TcCoe Idealize.ShloMosaic.Tactic

variable {F : FTy → Type} [FloatOps F] (m : (ℓ : Loc nD τ sig) → Buf (Elt F) ℓ)

/-- The table holds the number of the device's own part, which is zero. -/
theorem table (x : S1.Idx) : (V m 0 main_v0 : S1.Idx → BitVec 32) x = 0#32 := by
  have h : (V m 0 main_v0 : S1.Idx → BitVec 32) = broadcastInDim S1 ![] bcast_S_S1 (constantI S_ 32 0#32) := by
    after_results_simp <;> rfl
  rw [h]
  rfl
theorem index_own (i : grid0.Coords) : cc0_transform_0 inb_S1_S1_0 numel1_S1 (tbl m) i = cc0_transform_1 i := by
  have h : (tbl m).at 0 (Rect.unit (s := S1) ![0] S1.size inb_S1_S1_0) numel1_S1 = (0#32 : BitVec 32) := table m _
  unfold cc0_transform_0
  dsimp only
  rw [h]
  rfl
theorem inside : ∀ (i : grid0.Coords) (a : Fin 3), (cc0_transform_1 i a + 1) * S1x176x1024.size a ≤ S4x704x1024.size a := by
  decide +kernel
/-- Every block the table points to lies inside its array. -/
theorem ok : Ok m := fun i => ⟨fun a => by rw [index_own]; exact inside i a, .inr (Affine.block_words_dvd (of_decide_eq_true rfl) (by decide))⟩

end Cert.AdamUpIdeal.Head

namespace Cert.AdamUpIdeal.Head

open Cert.AdamUpIdeal Cert.AdamUpIdeal.Gen Cert.Products Cert.AdamW Idealize.ShloMosaic Idealize.ShloMosaic.TcCoe Idealize.ShloMosaic.Tactic
open Idealize.ShloMosaic.Pipeline (Dat)

/-! ## The updated arrays -/

def grad (o : S4x704x1024.Idx → EReal) (r : S3x704x1024.Idx → EReal) (i : S704x1024.Idx) : EReal :=
  total (o (ix3 0 (i 0) (i 1))) fun k => r (ix3 k (i 0) (i 1))
def newM (o : S4x704x1024.Idx → EReal) (r : S3x704x1024.Idx → EReal) (μ : S704x1024.Idx → EReal) (i : S704x1024.Idx) : EReal :=
  moment (μ (ix2 (i 0) (i 1))) (grad o r i)
def newV (o : S4x704x1024.Idx → EReal) (r : S3x704x1024.Idx → EReal) (ν : S704x1024.Idx → EReal) (i : S704x1024.Idx) : EReal :=
  square (ν (ix2 (i 0) (i 1))) (grad o r i)
def change (o : S4x704x1024.Idx → EReal) (r : S3x704x1024.Idx → EReal) (w μ ν : S704x1024.Idx → EReal) (i : S704x1024.Idx) : EReal :=
  delta (w (ix2 (i 0) (i 1))) (newM o r μ i) (newV o r ν i)

/-! ## What one grid point stores -/

abbrev row0 (x : Vec Ideal S3x176x1024 .bf16) : Vec Ideal S1x176x1024 .bf16 :=
  View.ld x (Rect.unit (s := S3x176x1024) ![0, 0, 0] S1x176x1024.size inb_S3x176x1024_S1x176x1024_0_0_0)
theorem row0_at (x : Vec Ideal S3x176x1024 .bf16) (a : Fin 176) (b : Fin 1024) : row0 x (ix3 0 a b) = x (ix3 0 a b) :=
  View.ld_unit_apply_of x _ _ _ _ _ fun e => match e with
    | ⟨0, _⟩ => rfl
    | ⟨1, _⟩ => (Nat.zero_add _).symm
    | ⟨2, _⟩ => (Nat.zero_add _).symm
abbrev row1 (x : Vec Ideal S3x176x1024 .bf16) : Vec Ideal S1x176x1024 .bf16 :=
  View.ld x (Rect.unit (s := S3x176x1024) ![1, 0, 0] S1x176x1024.size inb_S3x176x1024_S1x176x1024_1_0_0)
theorem row1_at (x : Vec Ideal S3x176x1024 .bf16) (a : Fin 176) (b : Fin 1024) : row1 x (ix3 0 a b) = x (ix3 1 a b) :=
  View.ld_unit_apply_of x _ _ _ _ _ fun e => match e with
    | ⟨0, _⟩ => rfl
    | ⟨1, _⟩ => (Nat.zero_add _).symm
    | ⟨2, _⟩ => (Nat.zero_add _).symm
abbrev row2 (x : Vec Ideal S3x176x1024 .bf16) : Vec Ideal S1x176x1024 .bf16 :=
  View.ld x (Rect.unit (s := S3x176x1024) ![2, 0, 0] S1x176x1024.size inb_S3x176x1024_S1x176x1024_2_0_0)
theorem row2_at (x : Vec Ideal S3x176x1024 .bf16) (a : Fin 176) (b : Fin 1024) : row2 x (ix3 0 a b) = x (ix3 2 a b) :=
  View.ld_unit_apply_of x _ _ _ _ _ fun e => match e with
    | ⟨0, _⟩ => rfl
    | ⟨1, _⟩ => (Nat.zero_add _).symm
    | ⟨2, _⟩ => (Nat.zero_add _).symm

theorem flat (x : Vec Ideal S1x176x1024 .bf16) (j : S176x1024.Idx) :
    shapeCast S176x1024 x shapeCasts_S1x176x1024_S176x1024 j = x (ix3 0 (j 0) (j 1)) :=
  shapeCast_apply x _ _ _ (by
    rw [Shape.rowMajor_val_three, Shape.rowMajor_val_two]
    show (0 * 176 + (j 0).val) * 1024 + (j 1).val = (j 0).val * 1024 + (j 1).val
    omega)
theorem total_at (x0 : Vec Ideal S1x176x1024 .bf16) (x1 : Vec Ideal S3x176x1024 .bf16) (j : S176x1024.Idx) :
    @Eq EReal (k0_pay5 x0 (row0 x1) (row1 x1) (row2 x1) j) (total (x0 (ix3 0 (j 0) (j 1))) fun k => x1 (ix3 k (j 0) (j 1))) := by
  rw [← total_eq]
  show (((shapeCast S176x1024 x0 shapeCasts_S1x176x1024_S176x1024 j : EReal) + (shapeCast S176x1024 (row0 x1) shapeCasts_S1x176x1024_S176x1024 j : EReal))
    + (shapeCast S176x1024 (row1 x1) shapeCasts_S1x176x1024_S176x1024 j : EReal)) + (shapeCast S176x1024 (row2 x1) shapeCasts_S1x176x1024_S176x1024 j : EReal) = _
  exact congrArg₂ (fun a b : EReal => a + b) (congrArg₂ (fun a b : EReal => a + b) (congrArg₂ (fun a b : EReal => a + b) (flat x0 j)
    ((flat (row0 x1) j).trans (row0_at x1 (j 0) (j 1)))) ((flat (row1 x1) j).trans (row1_at x1 (j 0) (j 1))))
    ((flat (row2 x1) j).trans (row2_at x1 (j 0) (j 1)))

theorem stored (v : FVec Ideal S176x1024 .f32) (j : S176x1024.Idx) : shapeCast S176x1024 v shapeCasts_S176x1024_S176x1024 j = v (ix2 (j 0) (j 1)) := by
  rw [shapeCast_self]
  exact congrArg v (idx2 rfl rfl)

theorem change_at (w μ ν : FVec Ideal S176x1024 .f32) (j : S176x1024.Idx) : @Eq EReal (k0_pay2 w μ ν j)
    ((Scalar.ofBits (F := Ideal) .f32 0xBA83126F#32 : EReal) *
      (Ideal.div (μ (ix2 (j 0) (j 1))) ((ν (ix2 (j 0) (j 1)) : EReal) + (Scalar.ofBits (F := Ideal) .f32 0x322BCC77#32 : EReal))
        + (Scalar.ofBits (F := Ideal) .f32 0x3C23D70A#32 : EReal) * (w (ix2 (j 0) (j 1)) : EReal))) := by
  unfold k0_pay2
  refine (stored _ j).trans ?_
  rfl

theorem pay1_at (v : FVec Ideal S176x1024 .f32) (j : S176x1024.Idx) : k0_pay1 v j = v (ix2 (j 0) (j 1)) := by
  unfold k0_pay1
  exact stored v j

theorem pay3_at (v : FVec Ideal S176x1024 .f32) (j : S176x1024.Idx) : k0_pay3 v j = v (ix2 (j 0) (j 1)) := by
  unfold k0_pay3
  exact stored v j

theorem pay4_at (v : FVec Ideal S176x1024 .f32) (j : S176x1024.Idx) : k0_pay4 v j = v (ix2 (j 0) (j 1)) := by
  unfold k0_pay4
  exact stored v j

section
variable (c : Dev nD) (i : grid0.Coords) (a3 : Memref sig .tc .vmem S1x176x1024 .bf16) (h3 : a3.IsWhole) (a4 : Memref sig .tc .vmem S3x176x1024 .bf16) (h4 : a4.IsWhole) (a5 : Memref sig .tc .vmem S176x1024 .f32) (h5 : a5.IsWhole) (a6 : Memref sig .tc .vmem S176x1024 .f32) (h6 : a6.IsWhole) (a7 : Memref sig .tc .vmem S176x1024 .f32) (h7 : a7.IsWhole) (a8 : Memref sig .tc .vmem S176x1024 .f32) (h8 : a8.IsWhole) (a9 : Memref sig .tc .vmem S176x1024 .f32) (h9 : a9.IsWhole) (a10 : Memref sig .tc .vmem S176x1024 .f32) (h10 : a10.IsWhole) (a11 : Memref sig .tc .vmem S176x1024 .f32) (h11 : a11.IsWhole)
  (x0 : Vec Ideal S1x176x1024 .bf16) (x1 : Vec Ideal S3x176x1024 .bf16) (x2 x3 x4 : Vec Ideal S176x1024 .f32) (xt : TbBuf0 (F := Ideal) c tbM0_0)

theorem out5 : out0_A_5 c i a3 h3 a4 h4 a5 h5 a6 h6 a7 h7 a8 h8 a9 h9 a10 h10 a11 h11 x0 x1 x2 x3 x4 xt = k0_pay1 (k0_pay5 x0 (row0 x1) (row1 x1) (row2 x1)) := by
  unfold out0_A_5
  rw [View.read_writes_eq_canon _ _ _ (cover0_A_5 c i a3 h3 a4 h4 a5 h5 a6 h6 a7 h7 a8 h8 a9 h9 a10 h10 a11 h11 x0 x1 x2 x3 x4 xt)]
  unfold kernelRun0_A
  dsimp only
  sl_unfold_words
  rw [View.canon_unit_zero zeros2]
  simp only [View.readAt_eq_ld, h3.read_unread, h4.read_unread, h5.read_unread, h6.read_unread, h7.read_unread,
    View.ld_unit_zero (S := S1x176x1024) zeros3, View.ld_unit_zero (S := S176x1024) zeros2]

theorem out6 : out0_A_6 c i a3 h3 a4 h4 a5 h5 a6 h6 a7 h7 a8 h8 a9 h9 a10 h10 a11 h11 x0 x1 x2 x3 x4 xt = k0_pay2 x2 (k0_pay8 x0 (row0 x1) (row1 x1) (row2 x1) x3) (k0_pay9 x0 (row0 x1) (row1 x1) (row2 x1) x4) := by
  unfold out0_A_6
  rw [View.read_writes_eq_canon _ _ _ (cover0_A_6 c i a3 h3 a4 h4 a5 h5 a6 h6 a7 h7 a8 h8 a9 h9 a10 h10 a11 h11 x0 x1 x2 x3 x4 xt)]
  unfold kernelRun0_A
  dsimp only
  sl_unfold_words
  rw [View.canon_unit_zero zeros2]
  simp only [View.readAt_eq_ld, h3.read_unread, h4.read_unread, h5.read_unread, h6.read_unread, h7.read_unread,
    View.ld_unit_zero (S := S1x176x1024) zeros3, View.ld_unit_zero (S := S176x1024) zeros2]

theorem out7 : out0_A_7 c i a3 h3 a4 h4 a5 h5 a6 h6 a7 h7 a8 h8 a9 h9 a10 h10 a11 h11 x0 x1 x2 x3 x4 xt = k0_pay3 (k0_pay6 x0 (row0 x1) (row1 x1) (row2 x1) x3) := by
  unfold out0_A_7
  rw [View.read_writes_eq_canon _ _ _ (cover0_A_7 c i a3 h3 a4 h4 a5 h5 a6 h6 a7 h7 a8 h8 a9 h9 a10 h10 a11 h11 x0 x1 x2 x3 x4 xt)]
  unfold kernelRun0_A
  dsimp only
  sl_unfold_words
  rw [View.canon_unit_zero zeros2]
  simp only [View.readAt_eq_ld, h3.read_unread, h4.read_unread, h5.read_unread, h6.read_unread, h7.read_unread,
    View.ld_unit_zero (S := S1x176x1024) zeros3, View.ld_unit_zero (S := S176x1024) zeros2]

theorem out8 : out0_A_8 c i a3 h3 a4 h4 a5 h5 a6 h6 a7 h7 a8 h8 a9 h9 a10 h10 a11 h11 x0 x1 x2 x3 x4 xt = k0_pay4 (k0_pay7 x0 (row0 x1) (row1 x1) (row2 x1) x4) := by
  unfold out0_A_8
  rw [View.read_writes_eq_canon _ _ _ (cover0_A_8 c i a3 h3 a4 h4 a5 h5 a6 h6 a7 h7 a8 h8 a9 h9 a10 h10 a11 h11 x0 x1 x2 x3 x4 xt)]
  unfold kernelRun0_A
  dsimp only
  sl_unfold_words
  rw [View.canon_unit_zero zeros2]
  simp only [View.readAt_eq_ld, h3.read_unread, h4.read_unread, h5.read_unread, h6.read_unread, h7.read_unread,
    View.ld_unit_zero (S := S1x176x1024) zeros3, View.ld_unit_zero (S := S176x1024) zeros2]

end

/-! ## Where a point's blocks lie -/

theorem index1 : ∀ t : Fin grid0.N, cc0_transform_1 (grid0.coords t) 0 = 0 ∧ cc0_transform_1 (grid0.coords t) 1 = t.val ∧ cc0_transform_1 (grid0.coords t) 2 = 0 := by decide +kernel
theorem index2 : ∀ t : Fin grid0.N, cc0_transform_2 (grid0.coords t) 0 = t.val ∧ cc0_transform_2 (grid0.coords t) 1 = 0 := by decide +kernel
theorem index3 : ∀ t : Fin grid0.N, cc0_transform_3 (grid0.coords t) 0 = t.val ∧ cc0_transform_3 (grid0.coords t) 1 = 0 := by decide +kernel
theorem index4 : ∀ t : Fin grid0.N, cc0_transform_4 (grid0.coords t) 0 = t.val ∧ cc0_transform_4 (grid0.coords t) 1 = 0 := by decide +kernel
theorem index5 : ∀ t : Fin grid0.N, cc0_transform_5 (grid0.coords t) 0 = t.val ∧ cc0_transform_5 (grid0.coords t) 1 = 0 := by decide +kernel
theorem index6 : ∀ t : Fin grid0.N, cc0_transform_6 (grid0.coords t) 0 = t.val ∧ cc0_transform_6 (grid0.coords t) 1 = 0 := by decide +kernel
theorem index7 : ∀ t : Fin grid0.N, cc0_transform_7 (grid0.coords t) 0 = t.val ∧ cc0_transform_7 (grid0.coords t) 1 = 0 := by decide +kernel
theorem index8 : ∀ t : Fin grid0.N, cc0_transform_8 (grid0.coords t) 0 = t.val ∧ cc0_transform_8 (grid0.coords t) 1 = 0 := by decide +kernel

variable (m : (ℓ : Loc nD τ sig) → Buf (Elt Ideal) ℓ) (hO : Ok m) (c : Dev nD)

abbrev arg0 := m ((c.tc : Thread nD τ).loc main_arg0)
abbrev arg1 := m ((c.tc : Thread nD τ).loc main_arg1)
abbrev arg2 := m ((c.tc : Thread nD τ).loc main_arg2)
abbrev arg3 := m ((c.tc : Thread nD τ).loc main_arg3)
abbrev arg4 := m ((c.tc : Thread nD τ).loc main_arg4)

theorem blk0 (t : Fin (cfgM m hO).N) (a : Fin 176) (b : Fin 1024) (x : Fin 704) (y : Fin 1024) (hx : x.val = 176 * t.val + a.val) (hy : y.val = b.val) :
    iblk m hO c 0 t (ix3 0 a b) = (arg0 m c) (ix3 0 x y) := by
  obtain ⟨e0, e1, e2⟩ := index1 t
  rw [← index_own m] at e0 e1 e2
  unfold iblk
  refine (View.read_apply _ _).trans ?_
  show V m c main_arg0 _ = _
  rw [V_main_arg0]
  refine congrArg _ (idx3 ?_ ?_ ?_)
  · show cc0_transform_0 inb_S1_S1_0 numel1_S1 (tbl m) (grid0.coords t) 0 * 1 + 1 * 0 = 0; omega
  · show cc0_transform_0 inb_S1_S1_0 numel1_S1 (tbl m) (grid0.coords t) 1 * 176 + 1 * a.val = x.val; omega
  · show cc0_transform_0 inb_S1_S1_0 numel1_S1 (tbl m) (grid0.coords t) 2 * 1024 + 1 * b.val = y.val; omega
theorem blk1 (t : Fin (cfgM m hO).N) (k : Fin 3) (a : Fin 176) (b : Fin 1024) (x : Fin 704) (y : Fin 1024) (hx : x.val = 176 * t.val + a.val) (hy : y.val = b.val) :
    iblk m hO c 1 t (ix3 k a b) = (arg1 m c) (ix3 k x y) := by
  obtain ⟨e0, e1, e2⟩ := index1 t
  unfold iblk
  refine (View.read_apply _ _).trans ?_
  show V m c main_arg1 _ = _
  rw [V_main_arg1]
  refine congrArg _ (idx3 ?_ ?_ ?_)
  · show cc0_transform_1 (grid0.coords t) 0 * 3 + 1 * k.val = k.val; omega
  · show cc0_transform_1 (grid0.coords t) 1 * 176 + 1 * a.val = x.val; omega
  · show cc0_transform_1 (grid0.coords t) 2 * 1024 + 1 * b.val = y.val; omega
theorem blk2 (t : Fin (cfgM m hO).N) (a : Fin 176) (b : Fin 1024) (x : Fin 704) (y : Fin 1024) (hx : x.val = 176 * t.val + a.val) (hy : y.val = b.val) :
    iblk m hO c 2 t (ix2 a b) = (arg2 m c) (ix2 x y) := by
  obtain ⟨e0, e1⟩ := index2 t
  unfold iblk
  refine (View.read_apply _ _).trans ?_
  show V m c main_arg2 _ = _
  rw [V_main_arg2]
  refine congrArg _ (idx2 ?_ ?_)
  · show cc0_transform_2 (grid0.coords t) 0 * 176 + 1 * a.val = x.val; omega
  · show cc0_transform_2 (grid0.coords t) 1 * 1024 + 1 * b.val = y.val; omega
theorem blk3 (t : Fin (cfgM m hO).N) (a : Fin 176) (b : Fin 1024) (x : Fin 704) (y : Fin 1024) (hx : x.val = 176 * t.val + a.val) (hy : y.val = b.val) :
    iblk m hO c 3 t (ix2 a b) = (arg3 m c) (ix2 x y) := by
  obtain ⟨e0, e1⟩ := index3 t
  unfold iblk
  refine (View.read_apply _ _).trans ?_
  show V m c main_arg3 _ = _
  rw [V_main_arg3]
  refine congrArg _ (idx2 ?_ ?_)
  · show cc0_transform_3 (grid0.coords t) 0 * 176 + 1 * a.val = x.val; omega
  · show cc0_transform_3 (grid0.coords t) 1 * 1024 + 1 * b.val = y.val; omega
theorem blk4 (t : Fin (cfgM m hO).N) (a : Fin 176) (b : Fin 1024) (x : Fin 704) (y : Fin 1024) (hx : x.val = 176 * t.val + a.val) (hy : y.val = b.val) :
    iblk m hO c 4 t (ix2 a b) = (arg4 m c) (ix2 x y) := by
  obtain ⟨e0, e1⟩ := index4 t
  unfold iblk
  refine (View.read_apply _ _).trans ?_
  show V m c main_arg4 _ = _
  rw [V_main_arg4]
  refine congrArg _ (idx2 ?_ ?_)
  · show cc0_transform_4 (grid0.coords t) 0 * 176 + 1 * a.val = x.val; omega
  · show cc0_transform_4 (grid0.coords t) 1 * 1024 + 1 * b.val = y.val; omega

/-! ## What a point stores, from the arrays -/

theorem grad_point (t : Fin (cfgM m hO).N) (j : S176x1024.Idx) (i : S704x1024.Idx) (hx : (i 0).val = 176 * t.val + (j 0).val) (hy : (i 1).val = (j 1).val) :
    @Eq EReal (k0_pay5 (iblk m hO c 0 t) (row0 (iblk m hO c 1 t)) (row1 (iblk m hO c 1 t)) (row2 (iblk m hO c 1 t)) (ix2 (j 0) (j 1))) (grad (arg0 m c) (arg1 m c) i) :=
  (total_at _ _ _).trans (congrArg₂ total (blk0 m hO c t (j 0) (j 1) (i 0) (i 1) hx hy)
    (funext fun k => blk1 m hO c t k (j 0) (j 1) (i 0) (i 1) hx hy))
theorem newM_point (t : Fin (cfgM m hO).N) (j : S176x1024.Idx) (i : S704x1024.Idx) (hx : (i 0).val = 176 * t.val + (j 0).val) (hy : (i 1).val = (j 1).val) :
    @Eq EReal (k0_pay6 (iblk m hO c 0 t) (row0 (iblk m hO c 1 t)) (row1 (iblk m hO c 1 t)) (row2 (iblk m hO c 1 t)) (iblk m hO c 3 t) (ix2 (j 0) (j 1))) (newM (arg0 m c) (arg1 m c) (arg3 m c) i) :=
  congrArg₂ moment (blk3 m hO c t (j 0) (j 1) (i 0) (i 1) hx hy) (grad_point m hO c t j i hx hy)
theorem newV_point (t : Fin (cfgM m hO).N) (j : S176x1024.Idx) (i : S704x1024.Idx) (hx : (i 0).val = 176 * t.val + (j 0).val) (hy : (i 1).val = (j 1).val) :
    @Eq EReal (k0_pay7 (iblk m hO c 0 t) (row0 (iblk m hO c 1 t)) (row1 (iblk m hO c 1 t)) (row2 (iblk m hO c 1 t)) (iblk m hO c 4 t) (ix2 (j 0) (j 1))) (newV (arg0 m c) (arg1 m c) (arg4 m c) i) :=
  congrArg₂ square (blk4 m hO c t (j 0) (j 1) (i 0) (i 1) hx hy) (grad_point m hO c t j i hx hy)

theorem outs5 (t : Fin (cfgM m hO).N) : (outsAt0 m hO c t).1 = k0_pay1 (k0_pay5 (iblk m hO c 0 t) (row0 (iblk m hO c 1 t)) (row1 (iblk m hO c 1 t)) (row2 (iblk m hO c 1 t))) := by
  unfold outsAt0
  dsimp only
  exact out5 c (grid0.coords t) _ _ _ _ _ _ _ _ _ _ _ _ _ _ _ _ _ _
    (iblk m hO c 0 t) (iblk m hO c 1 t) (iblk m hO c 2 t) (iblk m hO c 3 t) (iblk m hO c 4 t) (tbl m 0)
theorem point5 (t : Fin (cfgM m hO).N) (j : S176x1024.Idx) (i : S704x1024.Idx) (hx : (i 0).val = 176 * t.val + (j 0).val) (hy : (i 1).val = (j 1).val) :
    @Eq EReal ((outsAt0 m hO c t).1 j) (grad (arg0 m c) (arg1 m c) i) := by
  refine (congrFun (outs5 m hO c t) j).trans ?_
  exact (pay1_at _ j).trans (grad_point m hO c t j i hx hy)
theorem outs6 (t : Fin (cfgM m hO).N) : (outsAt0 m hO c t).2.1 = k0_pay2 (iblk m hO c 2 t) (k0_pay8 (iblk m hO c 0 t) (row0 (iblk m hO c 1 t)) (row1 (iblk m hO c 1 t)) (row2 (iblk m hO c 1 t)) (iblk m hO c 3 t)) (k0_pay9 (iblk m hO c 0 t) (row0 (iblk m hO c 1 t)) (row1 (iblk m hO c 1 t)) (row2 (iblk m hO c 1 t)) (iblk m hO c 4 t)) := by
  unfold outsAt0
  dsimp only
  exact out6 c (grid0.coords t) _ _ _ _ _ _ _ _ _ _ _ _ _ _ _ _ _ _
    (iblk m hO c 0 t) (iblk m hO c 1 t) (iblk m hO c 2 t) (iblk m hO c 3 t) (iblk m hO c 4 t) (tbl m 0)
theorem point6 (t : Fin (cfgM m hO).N) (j : S176x1024.Idx) (i : S704x1024.Idx) (hx : (i 0).val = 176 * t.val + (j 0).val) (hy : (i 1).val = (j 1).val) :
    @Eq EReal ((outsAt0 m hO c t).2.1 j) (change (arg0 m c) (arg1 m c) (arg2 m c) (arg3 m c) (arg4 m c) i) := by
  refine (congrFun (outs6 m hO c t) j).trans ?_
  refine (change_at _ _ _ j).trans ?_
  show delta (iblk m hO c 2 t (ix2 (j 0) (j 1))) (k0_pay6 (iblk m hO c 0 t) (row0 (iblk m hO c 1 t)) (row1 (iblk m hO c 1 t)) (row2 (iblk m hO c 1 t)) (iblk m hO c 3 t) (ix2 (j 0) (j 1))) (k0_pay7 (iblk m hO c 0 t) (row0 (iblk m hO c 1 t)) (row1 (iblk m hO c 1 t)) (row2 (iblk m hO c 1 t)) (iblk m hO c 4 t) (ix2 (j 0) (j 1))) = _
  rw [newM_point m hO c t j i hx hy, newV_point m hO c t j i hx hy, blk2 m hO c t (j 0) (j 1) (i 0) (i 1) hx hy]
  rfl
theorem outs7 (t : Fin (cfgM m hO).N) : (outsAt0 m hO c t).2.2.1 = k0_pay3 (k0_pay6 (iblk m hO c 0 t) (row0 (iblk m hO c 1 t)) (row1 (iblk m hO c 1 t)) (row2 (iblk m hO c 1 t)) (iblk m hO c 3 t)) := by
  unfold outsAt0
  dsimp only
  exact out7 c (grid0.coords t) _ _ _ _ _ _ _ _ _ _ _ _ _ _ _ _ _ _
    (iblk m hO c 0 t) (iblk m hO c 1 t) (iblk m hO c 2 t) (iblk m hO c 3 t) (iblk m hO c 4 t) (tbl m 0)
theorem point7 (t : Fin (cfgM m hO).N) (j : S176x1024.Idx) (i : S704x1024.Idx) (hx : (i 0).val = 176 * t.val + (j 0).val) (hy : (i 1).val = (j 1).val) :
    @Eq EReal ((outsAt0 m hO c t).2.2.1 j) (newM (arg0 m c) (arg1 m c) (arg3 m c) i) := by
  refine (congrFun (outs7 m hO c t) j).trans ?_
  exact (pay3_at _ j).trans (newM_point m hO c t j i hx hy)
theorem outs8 (t : Fin (cfgM m hO).N) : (outsAt0 m hO c t).2.2.2 = k0_pay4 (k0_pay7 (iblk m hO c 0 t) (row0 (iblk m hO c 1 t)) (row1 (iblk m hO c 1 t)) (row2 (iblk m hO c 1 t)) (iblk m hO c 4 t)) := by
  unfold outsAt0
  dsimp only
  exact out8 c (grid0.coords t) _ _ _ _ _ _ _ _ _ _ _ _ _ _ _ _ _ _
    (iblk m hO c 0 t) (iblk m hO c 1 t) (iblk m hO c 2 t) (iblk m hO c 3 t) (iblk m hO c 4 t) (tbl m 0)
theorem point8 (t : Fin (cfgM m hO).N) (j : S176x1024.Idx) (i : S704x1024.Idx) (hx : (i 0).val = 176 * t.val + (j 0).val) (hy : (i 1).val = (j 1).val) :
    @Eq EReal ((outsAt0 m hO c t).2.2.2 j) (newV (arg0 m c) (arg1 m c) (arg4 m c) i) := by
  refine (congrFun (outs8 m hO c t) j).trans ?_
  exact (pay4_at _ j).trans (newV_point m hO c t j i hx hy)

/-! ## The arrays -/

theorem arr5 : (dats m hO 0 c).arrAt 5 (cfgM m hO).N = grad (arg0 m c) (arg1 m c) := by
  refine (dats m hO 0 c).arrAt_eq_of_cover 5 _ (fun t _ => ?_) fun (i : S704x1024.Idx) => ?_
  · show ((cfgM m hO).win 5).cut (grid0.coords t) ((dats m hO 0 c).after 5 t) = _
    rw [after0_5]
    refine funext fun (j : S176x1024.Idx) => ?_
    obtain ⟨e0, e1⟩ := index5 t
    refine point5 m hO c t j ((((cfgM m hO).win 5).blk t).view.emb j) ?_ ?_
    · show cc0_transform_5 (grid0.coords t) 0 * 176 + 1 * (j 0).val = 176 * t.val + (j 0).val; omega
    · show cc0_transform_5 (grid0.coords t) 1 * 1024 + 1 * (j 1).val = (j 1).val; omega
  · have i0 : (i 0).val < 704 := (i 0).isLt
    have i1 : (i 1).val < 1024 := (i 1).isLt
    let t : Fin (cfgM m hO).N := ⟨(i 0).val / 176, by show _ < 4; omega⟩
    refine ⟨t, flush0_5 _ t, ?_⟩
    obtain ⟨e0, e1⟩ := index5 t
    have h := (((cfgM m hO).win 5).blk t).view.emb_mem_set (ix2 (⟨(i 0).val % 176, by omega⟩ : Fin 176) (⟨(i 1).val, i1⟩ : Fin 1024))
    refine Eq.mp (congrArg (· ∈ _) (idx2 ?_ ?_)) h
    · show cc0_transform_5 (grid0.coords t) 0 * 176 + 1 * ((i 0).val % 176) = (i 0).val
      rw [e0]; show (i 0).val / 176 * 176 + _ = _; omega
    · show cc0_transform_5 (grid0.coords t) 1 * 1024 + 1 * (i 1).val = (i 1).val
      rw [e1]; omega
theorem arr6 : (dats m hO 0 c).arrAt 6 (cfgM m hO).N = change (arg0 m c) (arg1 m c) (arg2 m c) (arg3 m c) (arg4 m c) := by
  refine (dats m hO 0 c).arrAt_eq_of_cover 6 _ (fun t _ => ?_) fun (i : S704x1024.Idx) => ?_
  · show ((cfgM m hO).win 6).cut (grid0.coords t) ((dats m hO 0 c).after 6 t) = _
    rw [after0_6]
    refine funext fun (j : S176x1024.Idx) => ?_
    obtain ⟨e0, e1⟩ := index6 t
    refine point6 m hO c t j ((((cfgM m hO).win 6).blk t).view.emb j) ?_ ?_
    · show cc0_transform_6 (grid0.coords t) 0 * 176 + 1 * (j 0).val = 176 * t.val + (j 0).val; omega
    · show cc0_transform_6 (grid0.coords t) 1 * 1024 + 1 * (j 1).val = (j 1).val; omega
  · have i0 : (i 0).val < 704 := (i 0).isLt
    have i1 : (i 1).val < 1024 := (i 1).isLt
    let t : Fin (cfgM m hO).N := ⟨(i 0).val / 176, by show _ < 4; omega⟩
    refine ⟨t, flush0_6 _ t, ?_⟩
    obtain ⟨e0, e1⟩ := index6 t
    have h := (((cfgM m hO).win 6).blk t).view.emb_mem_set (ix2 (⟨(i 0).val % 176, by omega⟩ : Fin 176) (⟨(i 1).val, i1⟩ : Fin 1024))
    refine Eq.mp (congrArg (· ∈ _) (idx2 ?_ ?_)) h
    · show cc0_transform_6 (grid0.coords t) 0 * 176 + 1 * ((i 0).val % 176) = (i 0).val
      rw [e0]; show (i 0).val / 176 * 176 + _ = _; omega
    · show cc0_transform_6 (grid0.coords t) 1 * 1024 + 1 * (i 1).val = (i 1).val
      rw [e1]; omega
theorem arr7 : (dats m hO 0 c).arrAt 7 (cfgM m hO).N = newM (arg0 m c) (arg1 m c) (arg3 m c) := by
  refine (dats m hO 0 c).arrAt_eq_of_cover 7 _ (fun t _ => ?_) fun (i : S704x1024.Idx) => ?_
  · show ((cfgM m hO).win 7).cut (grid0.coords t) ((dats m hO 0 c).after 7 t) = _
    rw [after0_7]
    refine funext fun (j : S176x1024.Idx) => ?_
    obtain ⟨e0, e1⟩ := index7 t
    refine point7 m hO c t j ((((cfgM m hO).win 7).blk t).view.emb j) ?_ ?_
    · show cc0_transform_7 (grid0.coords t) 0 * 176 + 1 * (j 0).val = 176 * t.val + (j 0).val; omega
    · show cc0_transform_7 (grid0.coords t) 1 * 1024 + 1 * (j 1).val = (j 1).val; omega
  · have i0 : (i 0).val < 704 := (i 0).isLt
    have i1 : (i 1).val < 1024 := (i 1).isLt
    let t : Fin (cfgM m hO).N := ⟨(i 0).val / 176, by show _ < 4; omega⟩
    refine ⟨t, flush0_7 _ t, ?_⟩
    obtain ⟨e0, e1⟩ := index7 t
    have h := (((cfgM m hO).win 7).blk t).view.emb_mem_set (ix2 (⟨(i 0).val % 176, by omega⟩ : Fin 176) (⟨(i 1).val, i1⟩ : Fin 1024))
    refine Eq.mp (congrArg (· ∈ _) (idx2 ?_ ?_)) h
    · show cc0_transform_7 (grid0.coords t) 0 * 176 + 1 * ((i 0).val % 176) = (i 0).val
      rw [e0]; show (i 0).val / 176 * 176 + _ = _; omega
    · show cc0_transform_7 (grid0.coords t) 1 * 1024 + 1 * (i 1).val = (i 1).val
      rw [e1]; omega
theorem arr8 : (dats m hO 0 c).arrAt 8 (cfgM m hO).N = newV (arg0 m c) (arg1 m c) (arg4 m c) := by
  refine (dats m hO 0 c).arrAt_eq_of_cover 8 _ (fun t _ => ?_) fun (i : S704x1024.Idx) => ?_
  · show ((cfgM m hO).win 8).cut (grid0.coords t) ((dats m hO 0 c).after 8 t) = _
    rw [after0_8]
    refine funext fun (j : S176x1024.Idx) => ?_
    obtain ⟨e0, e1⟩ := index8 t
    refine point8 m hO c t j ((((cfgM m hO).win 8).blk t).view.emb j) ?_ ?_
    · show cc0_transform_8 (grid0.coords t) 0 * 176 + 1 * (j 0).val = 176 * t.val + (j 0).val; omega
    · show cc0_transform_8 (grid0.coords t) 1 * 1024 + 1 * (j 1).val = (j 1).val; omega
  · have i0 : (i 0).val < 704 := (i 0).isLt
    have i1 : (i 1).val < 1024 := (i 1).isLt
    let t : Fin (cfgM m hO).N := ⟨(i 0).val / 176, by show _ < 4; omega⟩
    refine ⟨t, flush0_8 _ t, ?_⟩
    obtain ⟨e0, e1⟩ := index8 t
    have h := (((cfgM m hO).win 8).blk t).view.emb_mem_set (ix2 (⟨(i 0).val % 176, by omega⟩ : Fin 176) (⟨(i 1).val, i1⟩ : Fin 1024))
    refine Eq.mp (congrArg (· ∈ _) (idx2 ?_ ?_)) h
    · show cc0_transform_8 (grid0.coords t) 0 * 176 + 1 * ((i 0).val % 176) = (i 0).val
      rw [e0]; show (i 0).val / 176 * 176 + _ = _; omega
    · show cc0_transform_8 (grid0.coords t) 1 * 1024 + 1 * (i 1).val = (i 1).val
      rw [e1]; omega

end Cert.AdamUpIdeal.Head

/-! ## The reference's arrays -/

namespace Cert.AdamUpRefIdeal.Head

open Cert.AdamUpRefIdeal Cert.AdamUpRefIdeal.Gen Cert.AdamUpRefIdeal.Read Cert.Products Cert.AdamW Idealize.ShloMosaic Idealize.ShloMosaic.TcCoe

theorem grad_at (o : Vec Ideal S4x704x1024 .bf16) (r : Vec Ideal S3x704x1024 .bf16) (i : S704x1024.Idx) :
    @Eq EReal (val_main_v5 (F := Ideal) o r i) (total (o (ix3 0 (i 0) (i 1))) fun k => r (ix3 k (i 0) (i 1))) := by
  have i0 : (i 0).val < 704 := (i 0).isLt
  have i1 : (i 1).val < 1024 := (i 1).isLt
  show (val_main_v1 (F := Ideal) o i : EReal) + (val_main_v4 (F := Ideal) r i : EReal) = _
  have h0 : (val_main_cst (F := Ideal) (Shape.Idx.first h_S_) : EReal) = 0 := Ideal.ofBits_zero_f32
  rw [val_main_v1_apply, val_main_v0_apply, val_main_v4_apply, h0, zero_add]
  refine congrArg₂ total (congrArg o (idx3 rfl ?_ ?_)) (funext fun k => congrArg r (idx3 rfl rfl rfl))
  · show ((i 0).val * 1024 + (i 1).val) / 1024 % 704 = (i 0).val; omega
  · show ((i 0).val * 1024 + (i 1).val) % 1024 = (i 1).val; omega
theorem newM_at (o : Vec Ideal S4x704x1024 .bf16) (r : Vec Ideal S3x704x1024 .bf16) (μ : Vec Ideal S704x1024 .f32) (i : S704x1024.Idx) :
    @Eq EReal (val_main_v10 (F := Ideal) o r μ i) (moment (μ i) (total (o (ix3 0 (i 0) (i 1))) fun k => r (ix3 k (i 0) (i 1)))) := by
  show (val_main_v6 (F := Ideal) i : EReal) * (μ i : EReal) + (val_main_v8 (F := Ideal) i : EReal) * (val_main_v5 (F := Ideal) o r i : EReal) = _
  rw [grad_at, val_main_v6_apply, val_main_v8_apply]
  rfl
theorem newV_at (o : Vec Ideal S4x704x1024 .bf16) (r : Vec Ideal S3x704x1024 .bf16) (ν : Vec Ideal S704x1024 .f32) (i : S704x1024.Idx) :
    @Eq EReal (val_main_v16 (F := Ideal) o r ν i) (square (ν i) (total (o (ix3 0 (i 0) (i 1))) fun k => r (ix3 k (i 0) (i 1)))) := by
  show (val_main_v11 (F := Ideal) i : EReal) * (ν i : EReal)
    + (val_main_v14 (F := Ideal) i : EReal) * ((val_main_v5 (F := Ideal) o r i : EReal) * (val_main_v5 (F := Ideal) o r i : EReal)) = _
  rw [grad_at, val_main_v11_apply, val_main_v14_apply]
  rfl
theorem change_at (o : Vec Ideal S4x704x1024 .bf16) (r : Vec Ideal S3x704x1024 .bf16) (w μ ν : Vec Ideal S704x1024 .f32) (i : S704x1024.Idx) :
    @Eq EReal (val_main_v29 (F := Ideal) o r w μ ν i) (delta (w i) (val_main_v10 (F := Ideal) o r μ i) (val_main_v16 (F := Ideal) o r ν i)) := by
  show (val_main_v28 (F := Ideal) i : EReal) *
    (Ideal.div (Ideal.div (val_main_v10 (F := Ideal) o r μ i) (val_main_v17 (F := Ideal) i))
        ((Ideal.sqrt (Ideal.div (val_main_v16 (F := Ideal) o r ν i) (val_main_v19 (F := Ideal) i)) : EReal) + (val_main_v22 (F := Ideal) i : EReal))
      + (val_main_v25 (F := Ideal) i : EReal) * (w i : EReal)) = _
  rw [val_main_v28_apply, val_main_v17_apply, val_main_v19_apply, val_main_v22_apply, val_main_v25_apply]
  rfl

theorem grad_eq (o : Vec Ideal S4x704x1024 .bf16) (r : Vec Ideal S3x704x1024 .bf16)  :
    val_main_v5 (F := Ideal) o r = Cert.AdamUpIdeal.Head.grad o r := by
  funext i
  obtain ⟨a, b, rfl⟩ : ∃ a b, i = ix2 a b := ⟨i 0, i 1, idx2 rfl rfl⟩
  exact grad_at _ _ _
theorem newM_eq (o : Vec Ideal S4x704x1024 .bf16) (r : Vec Ideal S3x704x1024 .bf16) (μ : Vec Ideal S704x1024 .f32) :
    val_main_v10 (F := Ideal) o r μ = Cert.AdamUpIdeal.Head.newM o r μ := by
  funext i
  obtain ⟨a, b, rfl⟩ : ∃ a b, i = ix2 a b := ⟨i 0, i 1, idx2 rfl rfl⟩
  exact newM_at _ _ _ _
theorem newV_eq (o : Vec Ideal S4x704x1024 .bf16) (r : Vec Ideal S3x704x1024 .bf16) (ν : Vec Ideal S704x1024 .f32) :
    val_main_v16 (F := Ideal) o r ν = Cert.AdamUpIdeal.Head.newV o r ν := by
  funext i
  obtain ⟨a, b, rfl⟩ : ∃ a b, i = ix2 a b := ⟨i 0, i 1, idx2 rfl rfl⟩
  exact newV_at _ _ _ _
theorem change_eq (o : Vec Ideal S4x704x1024 .bf16) (r : Vec Ideal S3x704x1024 .bf16) (w μ ν : Vec Ideal S704x1024 .f32) :
    val_main_v29 (F := Ideal) o r w μ ν = Cert.AdamUpIdeal.Head.change o r w μ ν := by
  funext i
  obtain ⟨a, b, rfl⟩ : ∃ a b, i = ix2 a b := ⟨i 0, i 1, idx2 rfl rfl⟩
  rw [change_at, newM_at, newV_at]
  rfl

end Cert.AdamUpRefIdeal.Head

end
-- ==== Proof.AdamInValue.lean ====
/- The optimiser's call for the input projections' weights: each block is the update of its entries, and so is the reference's array. -/
module

public import proofs.«01_k».proof.Proof.AdamW
public import proofs.«01_k».proof.Proof.Gen.AdamIn.Frame
public import proofs.«01_k».proof.Proof.Gen.AdamInIdeal.Frame
public import proofs.«01_k».proof.Proof.Gen.AdamInRefIdeal.Read

@[expose] public section

noncomputable section

namespace Cert.AdamIn.Head

open Cert.AdamIn Cert.AdamIn.Gen Idealize.ShloMosaic Idealize.ShloMosaic.TcCoe Idealize.ShloMosaic.Tactic

variable {F : FTy → Type} [FloatOps F] (m : (ℓ : Loc nD τ sig) → Buf (Elt F) ℓ)

/-- The table holds the number of the device's own part, which is zero. -/
theorem table (x : S1.Idx) : (V m 0 main_v0 : S1.Idx → BitVec 32) x = 0#32 := by
  have h : (V m 0 main_v0 : S1.Idx → BitVec 32) = broadcastInDim S1 ![] bcast_S_S1 (constantI S_ 32 0#32) := by
    after_results_simp <;> rfl
  rw [h]
  rfl
theorem index_own (i : grid0.Coords) : cc0_transform_0 inb_S1_S1_0 numel1_S1 (tbl m) i = cc0_transform_1 i := by
  have h : (tbl m).at 0 (Rect.unit (s := S1) ![0] S1.size inb_S1_S1_0) numel1_S1 = (0#32 : BitVec 32) := table m _
  unfold cc0_transform_0
  dsimp only
  rw [h]
  rfl
theorem inside : ∀ (i : grid0.Coords) (a : Fin 3), (cc0_transform_1 i a + 1) * S1x706x256.size a ≤ S4x706x1024.size a := by
  decide +kernel
/-- Every block the table points to lies inside its array. -/
theorem ok : Ok m := fun i => ⟨fun a => by rw [index_own]; exact inside i a, .inr (Affine.block_words_dvd (of_decide_eq_true rfl) (by decide))⟩

end Cert.AdamIn.Head

namespace Cert.AdamInIdeal.Head

open Cert.AdamInIdeal Cert.AdamInIdeal.Gen Idealize.ShloMosaic Idealize.ShloMosaic.TcCoe Idealize.ShloMosaic.Tactic

variable {F : FTy → Type} [FloatOps F] (m : (ℓ : Loc nD τ sig) → Buf (Elt F) ℓ)

/-- The table holds the number of the device's own part, which is zero. -/
theorem table (x : S1.Idx) : (V m 0 main_v0 : S1.Idx → BitVec 32) x = 0#32 := by
  have h : (V m 0 main_v0 : S1.Idx → BitVec 32) = broadcastInDim S1 ![] bcast_S_S1 (constantI S_ 32 0#32) := by
    after_results_simp <;> rfl
  rw [h]
  rfl
theorem index_own (i : grid0.Coords) : cc0_transform_0 inb_S1_S1_0 numel1_S1 (tbl m) i = cc0_transform_1 i := by
  have h : (tbl m).at 0 (Rect.unit (s := S1) ![0] S1.size inb_S1_S1_0) numel1_S1 = (0#32 : BitVec 32) := table m _
  unfold cc0_transform_0
  dsimp only
  rw [h]
  rfl
theorem inside : ∀ (i : grid0.Coords) (a : Fin 3), (cc0_transform_1 i a + 1) * S1x706x256.size a ≤ S4x706x1024.size a := by
  decide +kernel
/-- Every block the table points to lies inside its array. -/
theorem ok : Ok m := fun i => ⟨fun a => by rw [index_own]; exact inside i a, .inr (Affine.block_words_dvd (of_decide_eq_true rfl) (by decide))⟩

end Cert.AdamInIdeal.Head

namespace Cert.AdamInIdeal.Head

open Cert.AdamInIdeal Cert.AdamInIdeal.Gen Cert.Products Cert.AdamW Idealize.ShloMosaic Idealize.ShloMosaic.TcCoe Idealize.ShloMosaic.Tactic
open Idealize.ShloMosaic.Pipeline (Dat)

/-! ## The updated arrays -/

def grad (o : S4x706x1024.Idx → EReal) (r : S3x706x1024.Idx → EReal) (i : S706x1x1024.Idx) : EReal :=
  total (o (ix3 0 (i 0) (i 2))) fun k => r (ix3 k (i 0) (i 2))
def newM (o : S4x706x1024.Idx → EReal) (r : S3x706x1024.Idx → EReal) (μ : S706x1024.Idx → EReal) (i : S706x1x1024.Idx) : EReal :=
  moment (μ (ix2 (i 0) (i 2))) (grad o r i)
def newV (o : S4x706x1024.Idx → EReal) (r : S3x706x1024.Idx → EReal) (ν : S706x1024.Idx → EReal) (i : S706x1x1024.Idx) : EReal :=
  square (ν (ix2 (i 0) (i 2))) (grad o r i)
def change (o : S4x706x1024.Idx → EReal) (r : S3x706x1024.Idx → EReal) (w μ ν : S706x1024.Idx → EReal) (i : S706x1x1024.Idx) : EReal :=
  delta (w (ix2 (i 0) (i 2))) (newM o r μ i) (newV o r ν i)

/-! ## What one grid point stores -/

abbrev row0 (x : Vec Ideal S3x706x256 .bf16) : Vec Ideal S1x706x256 .bf16 :=
  View.ld x (Rect.unit (s := S3x706x256) ![0, 0, 0] S1x706x256.size inb_S3x706x256_S1x706x256_0_0_0)
theorem row0_at (x : Vec Ideal S3x706x256 .bf16) (a : Fin 706) (b : Fin 256) : row0 x (ix3 0 a b) = x (ix3 0 a b) :=
  View.ld_unit_apply_of x _ _ _ _ _ fun e => match e with
    | ⟨0, _⟩ => rfl
    | ⟨1, _⟩ => (Nat.zero_add _).symm
    | ⟨2, _⟩ => (Nat.zero_add _).symm
abbrev row1 (x : Vec Ideal S3x706x256 .bf16) : Vec Ideal S1x706x256 .bf16 :=
  View.ld x (Rect.unit (s := S3x706x256) ![1, 0, 0] S1x706x256.size inb_S3x706x256_S1x706x256_1_0_0)
theorem row1_at (x : Vec Ideal S3x706x256 .bf16) (a : Fin 706) (b : Fin 256) : row1 x (ix3 0 a b) = x (ix3 1 a b) :=
  View.ld_unit_apply_of x _ _ _ _ _ fun e => match e with
    | ⟨0, _⟩ => rfl
    | ⟨1, _⟩ => (Nat.zero_add _).symm
    | ⟨2, _⟩ => (Nat.zero_add _).symm
abbrev row2 (x : Vec Ideal S3x706x256 .bf16) : Vec Ideal S1x706x256 .bf16 :=
  View.ld x (Rect.unit (s := S3x706x256) ![2, 0, 0] S1x706x256.size inb_S3x706x256_S1x706x256_2_0_0)
theorem row2_at (x : Vec Ideal S3x706x256 .bf16) (a : Fin 706) (b : Fin 256) : row2 x (ix3 0 a b) = x (ix3 2 a b) :=
  View.ld_unit_apply_of x _ _ _ _ _ fun e => match e with
    | ⟨0, _⟩ => rfl
    | ⟨1, _⟩ => (Nat.zero_add _).symm
    | ⟨2, _⟩ => (Nat.zero_add _).symm

theorem flat (x : Vec Ideal S1x706x256 .bf16) (j : S706x256.Idx) :
    shapeCast S706x256 x shapeCasts_S1x706x256_S706x256 j = x (ix3 0 (j 0) (j 1)) :=
  shapeCast_apply x _ _ _ (by
    rw [Shape.rowMajor_val_three, Shape.rowMajor_val_two]
    show (0 * 706 + (j 0).val) * 256 + (j 1).val = (j 0).val * 256 + (j 1).val
    omega)
theorem total_at (x0 : Vec Ideal S1x706x256 .bf16) (x1 : Vec Ideal S3x706x256 .bf16) (j : S706x256.Idx) :
    @Eq EReal (k0_pay5 x0 (row0 x1) (row1 x1) (row2 x1) j) (total (x0 (ix3 0 (j 0) (j 1))) fun k => x1 (ix3 k (j 0) (j 1))) := by
  rw [← total_eq]
  show (((shapeCast S706x256 x0 shapeCasts_S1x706x256_S706x256 j : EReal) + (shapeCast S706x256 (row0 x1) shapeCasts_S1x706x256_S706x256 j : EReal))
    + (shapeCast S706x256 (row1 x1) shapeCasts_S1x706x256_S706x256 j : EReal)) + (shapeCast S706x256 (row2 x1) shapeCasts_S1x706x256_S706x256 j : EReal) = _
  exact congrArg₂ (fun a b : EReal => a + b) (congrArg₂ (fun a b : EReal => a + b) (congrArg₂ (fun a b : EReal => a + b) (flat x0 j)
    ((flat (row0 x1) j).trans (row0_at x1 (j 0) (j 1)))) ((flat (row1 x1) j).trans (row1_at x1 (j 0) (j 1))))
    ((flat (row2 x1) j).trans (row2_at x1 (j 0) (j 1)))

theorem stored (v : FVec Ideal S706x256 .f32) (j : S706x1x256.Idx) :
    shapeCast S706x1x256 (shapeCast S706x1x256 v shapeCasts_S706x256_S706x1x256) shapeCasts_S706x1x256_S706x1x256 j = v (ix2 (j 0) (j 2)) :=
  (congrFun (shapeCast_self _ _) j).trans (shapeCast_apply v _ _ _ (by
    have j1 : (j 1).val < 1 := (j 1).isLt
    rw [Shape.rowMajor_val_three, Shape.rowMajor_val_two]
    show (j 0).val * 256 + (j 2).val = ((j 0).val * 1 + (j 1).val) * 256 + (j 2).val
    omega))

theorem change_at (w μ ν : FVec Ideal S706x256 .f32) (j : S706x1x256.Idx) : @Eq EReal (k0_pay2 w μ ν j)
    ((Scalar.ofBits (F := Ideal) .f32 0xBA83126F#32 : EReal) *
      (Ideal.div (μ (ix2 (j 0) (j 2))) ((ν (ix2 (j 0) (j 2)) : EReal) + (Scalar.ofBits (F := Ideal) .f32 0x322BCC77#32 : EReal))
        + (Scalar.ofBits (F := Ideal) .f32 0x3C23D70A#32 : EReal) * (w (ix2 (j 0) (j 2)) : EReal))) := by
  unfold k0_pay2
  refine (stored _ j).trans ?_
  rfl

theorem pay1_at (v : FVec Ideal S706x256 .f32) (j : S706x1x256.Idx) : k0_pay1 v j = v (ix2 (j 0) (j 2)) := by
  unfold k0_pay1
  exact stored v j

theorem pay3_at (v : FVec Ideal S706x256 .f32) (j : S706x1x256.Idx) : k0_pay3 v j = v (ix2 (j 0) (j 2)) := by
  unfold k0_pay3
  exact stored v j

theorem pay4_at (v : FVec Ideal S706x256 .f32) (j : S706x1x256.Idx) : k0_pay4 v j = v (ix2 (j 0) (j 2)) := by
  unfold k0_pay4
  exact stored v j

section
variable (c : Dev nD) (i : grid0.Coords) (a3 : Memref sig .tc .vmem S1x706x256 .bf16) (h3 : a3.IsWhole) (a4 : Memref sig .tc .vmem S3x706x256 .bf16) (h4 : a4.IsWhole) (a5 : Memref sig .tc .vmem S706x256 .f32) (h5 : a5.IsWhole) (a6 : Memref sig .tc .vmem S706x256 .f32) (h6 : a6.IsWhole) (a7 : Memref sig .tc .vmem S706x256 .f32) (h7 : a7.IsWhole) (a8 : Memref sig .tc .vmem S706x1x256 .f32) (h8 : a8.IsWhole) (a9 : Memref sig .tc .vmem S706x1x256 .f32) (h9 : a9.IsWhole) (a10 : Memref sig .tc .vmem S706x1x256 .f32) (h10 : a10.IsWhole) (a11 : Memref sig .tc .vmem S706x1x256 .f32) (h11 : a11.IsWhole)
  (x0 : Vec Ideal S1x706x256 .bf16) (x1 : Vec Ideal S3x706x256 .bf16) (x2 x3 x4 : Vec Ideal S706x256 .f32) (xt : TbBuf0 (F := Ideal) c tbM0_0)

theorem out5 : out0_A_5 c i a3 h3 a4 h4 a5 h5 a6 h6 a7 h7 a8 h8 a9 h9 a10 h10 a11 h11 x0 x1 x2 x3 x4 xt = k0_pay1 (k0_pay5 x0 (row0 x1) (row1 x1) (row2 x1)) := by
  unfold out0_A_5
  rw [View.read_writes_eq_canon _ _ _ (cover0_A_5 c i a3 h3 a4 h4 a5 h5 a6 h6 a7 h7 a8 h8 a9 h9 a10 h10 a11 h11 x0 x1 x2 x3 x4 xt)]
  unfold kernelRun0_A
  dsimp only
  sl_unfold_words
  rw [View.canon_unit_zero zeros3]
  simp only [View.readAt_eq_ld, h3.read_unread, h4.read_unread, h5.read_unread, h6.read_unread, h7.read_unread,
    View.ld_unit_zero (S := S1x706x256) zeros3, View.ld_unit_zero (S := S706x256) zeros2]

theorem out6 : out0_A_6 c i a3 h3 a4 h4 a5 h5 a6 h6 a7 h7 a8 h8 a9 h9 a10 h10 a11 h11 x0 x1 x2 x3 x4 xt = k0_pay2 x2 (k0_pay8 x0 (row0 x1) (row1 x1) (row2 x1) x3) (k0_pay9 x0 (row0 x1) (row1 x1) (row2 x1) x4) := by
  unfold out0_A_6
  rw [View.read_writes_eq_canon _ _ _ (cover0_A_6 c i a3 h3 a4 h4 a5 h5 a6 h6 a7 h7 a8 h8 a9 h9 a10 h10 a11 h11 x0 x1 x2 x3 x4 xt)]
  unfold kernelRun0_A
  dsimp only
  sl_unfold_words
  rw [View.canon_unit_zero zeros3]
  simp only [View.readAt_eq_ld, h3.read_unread, h4.read_unread, h5.read_unread, h6.read_unread, h7.read_unread,
    View.ld_unit_zero (S := S1x706x256) zeros3, View.ld_unit_zero (S := S706x256) zeros2]

theorem out7 : out0_A_7 c i a3 h3 a4 h4 a5 h5 a6 h6 a7 h7 a8 h8 a9 h9 a10 h10 a11 h11 x0 x1 x2 x3 x4 xt = k0_pay3 (k0_pay6 x0 (row0 x1) (row1 x1) (row2 x1) x3) := by
  unfold out0_A_7
  rw [View.read_writes_eq_canon _ _ _ (cover0_A_7 c i a3 h3 a4 h4 a5 h5 a6 h6 a7 h7 a8 h8 a9 h9 a10 h10 a11 h11 x0 x1 x2 x3 x4 xt)]
  unfold kernelRun0_A
  dsimp only
  sl_unfold_words
  rw [View.canon_unit_zero zeros3]
  simp only [View.readAt_eq_ld, h3.read_unread, h4.read_unread, h5.read_unread, h6.read_unread, h7.read_unread,
    View.ld_unit_zero (S := S1x706x256) zeros3, View.ld_unit_zero (S := S706x256) zeros2]

theorem out8 : out0_A_8 c i a3 h3 a4 h4 a5 h5 a6 h6 a7 h7 a8 h8 a9 h9 a10 h10 a11 h11 x0 x1 x2 x3 x4 xt = k0_pay4 (k0_pay7 x0 (row0 x1) (row1 x1) (row2 x1) x4) := by
  unfold out0_A_8
  rw [View.read_writes_eq_canon _ _ _ (cover0_A_8 c i a3 h3 a4 h4 a5 h5 a6 h6 a7 h7 a8 h8 a9 h9 a10 h10 a11 h11 x0 x1 x2 x3 x4 xt)]
  unfold kernelRun0_A
  dsimp only
  sl_unfold_words
  rw [View.canon_unit_zero zeros3]
  simp only [View.readAt_eq_ld, h3.read_unread, h4.read_unread, h5.read_unread, h6.read_unread, h7.read_unread,
    View.ld_unit_zero (S := S1x706x256) zeros3, View.ld_unit_zero (S := S706x256) zeros2]

end

/-! ## Where a point's blocks lie -/

theorem index1 : ∀ t : Fin grid0.N, cc0_transform_1 (grid0.coords t) 0 = 0 ∧ cc0_transform_1 (grid0.coords t) 1 = 0 ∧ cc0_transform_1 (grid0.coords t) 2 = t.val := by decide +kernel
theorem index2 : ∀ t : Fin grid0.N, cc0_transform_2 (grid0.coords t) 0 = 0 ∧ cc0_transform_2 (grid0.coords t) 1 = t.val := by decide +kernel
theorem index3 : ∀ t : Fin grid0.N, cc0_transform_3 (grid0.coords t) 0 = 0 ∧ cc0_transform_3 (grid0.coords t) 1 = t.val := by decide +kernel
theorem index4 : ∀ t : Fin grid0.N, cc0_transform_4 (grid0.coords t) 0 = 0 ∧ cc0_transform_4 (grid0.coords t) 1 = t.val := by decide +kernel
theorem index5 : ∀ t : Fin grid0.N, cc0_transform_5 (grid0.coords t) 0 = 0 ∧ cc0_transform_5 (grid0.coords t) 1 = 0 ∧ cc0_transform_5 (grid0.coords t) 2 = t.val := by decide +kernel
theorem index6 : ∀ t : Fin grid0.N, cc0_transform_6 (grid0.coords t) 0 = 0 ∧ cc0_transform_6 (grid0.coords t) 1 = 0 ∧ cc0_transform_6 (grid0.coords t) 2 = t.val := by decide +kernel
theorem index7 : ∀ t : Fin grid0.N, cc0_transform_7 (grid0.coords t) 0 = 0 ∧ cc0_transform_7 (grid0.coords t) 1 = 0 ∧ cc0_transform_7 (grid0.coords t) 2 = t.val := by decide +kernel
theorem index8 : ∀ t : Fin grid0.N, cc0_transform_8 (grid0.coords t) 0 = 0 ∧ cc0_transform_8 (grid0.coords t) 1 = 0 ∧ cc0_transform_8 (grid0.coords t) 2 = t.val := by decide +kernel

variable (m : (ℓ : Loc nD τ sig) → Buf (Elt Ideal) ℓ) (hO : Ok m) (c : Dev nD)

abbrev arg0 := m ((c.tc : Thread nD τ).loc main_arg0)
abbrev arg1 := m ((c.tc : Thread nD τ).loc main_arg1)
abbrev arg2 := m ((c.tc : Thread nD τ).loc main_arg2)
abbrev arg3 := m ((c.tc : Thread nD τ).loc main_arg3)
abbrev arg4 := m ((c.tc : Thread nD τ).loc main_arg4)

theorem blk0 (t : Fin (cfgM m hO).N) (a : Fin 706) (b : Fin 256) (x : Fin 706) (y : Fin 1024) (hx : x.val = a.val) (hy : y.val = 256 * t.val + b.val) :
    iblk m hO c 0 t (ix3 0 a b) = (arg0 m c) (ix3 0 x y) := by
  obtain ⟨e0, e1, e2⟩ := index1 t
  rw [← index_own m] at e0 e1 e2
  unfold iblk
  refine (View.read_apply _ _).trans ?_
  show V m c main_arg0 _ = _
  rw [V_main_arg0]
  refine congrArg _ (idx3 ?_ ?_ ?_)
  · show cc0_transform_0 inb_S1_S1_0 numel1_S1 (tbl m) (grid0.coords t) 0 * 1 + 1 * 0 = 0; omega
  · show cc0_transform_0 inb_S1_S1_0 numel1_S1 (tbl m) (grid0.coords t) 1 * 706 + 1 * a.val = x.val; omega
  · show cc0_transform_0 inb_S1_S1_0 numel1_S1 (tbl m) (grid0.coords t) 2 * 256 + 1 * b.val = y.val; omega
theorem blk1 (t : Fin (cfgM m hO).N) (k : Fin 3) (a : Fin 706) (b : Fin 256) (x : Fin 706) (y : Fin 1024) (hx : x.val = a.val) (hy : y.val = 256 * t.val + b.val) :
    iblk m hO c 1 t (ix3 k a b) = (arg1 m c) (ix3 k x y) := by
  obtain ⟨e0, e1, e2⟩ := index1 t
  unfold iblk
  refine (View.read_apply _ _).trans ?_
  show V m c main_arg1 _ = _
  rw [V_main_arg1]
  refine congrArg _ (idx3 ?_ ?_ ?_)
  · show cc0_transform_1 (grid0.coords t) 0 * 3 + 1 * k.val = k.val; omega
  · show cc0_transform_1 (grid0.coords t) 1 * 706 + 1 * a.val = x.val; omega
  · show cc0_transform_1 (grid0.coords t) 2 * 256 + 1 * b.val = y.val; omega
theorem blk2 (t : Fin (cfgM m hO).N) (a : Fin 706) (b : Fin 256) (x : Fin 706) (y : Fin 1024) (hx : x.val = a.val) (hy : y.val = 256 * t.val + b.val) :
    iblk m hO c 2 t (ix2 a b) = (arg2 m c) (ix2 x y) := by
  obtain ⟨e0, e1⟩ := index2 t
  unfold iblk
  refine (View.read_apply _ _).trans ?_
  show V m c main_arg2 _ = _
  rw [V_main_arg2]
  refine congrArg _ (idx2 ?_ ?_)
  · show cc0_transform_2 (grid0.coords t) 0 * 706 + 1 * a.val = x.val; omega
  · show cc0_transform_2 (grid0.coords t) 1 * 256 + 1 * b.val = y.val; omega
theorem blk3 (t : Fin (cfgM m hO).N) (a : Fin 706) (b : Fin 256) (x : Fin 706) (y : Fin 1024) (hx : x.val = a.val) (hy : y.val = 256 * t.val + b.val) :
    iblk m hO c 3 t (ix2 a b) = (arg3 m c) (ix2 x y) := by
  obtain ⟨e0, e1⟩ := index3 t
  unfold iblk
  refine (View.read_apply _ _).trans ?_
  show V m c main_arg3 _ = _
  rw [V_main_arg3]
  refine congrArg _ (idx2 ?_ ?_)
  · show cc0_transform_3 (grid0.coords t) 0 * 706 + 1 * a.val = x.val; omega
  · show cc0_transform_3 (grid0.coords t) 1 * 256 + 1 * b.val = y.val; omega
theorem blk4 (t : Fin (cfgM m hO).N) (a : Fin 706) (b : Fin 256) (x : Fin 706) (y : Fin 1024) (hx : x.val = a.val) (hy : y.val = 256 * t.val + b.val) :
    iblk m hO c 4 t (ix2 a b) = (arg4 m c) (ix2 x y) := by
  obtain ⟨e0, e1⟩ := index4 t
  unfold iblk
  refine (View.read_apply _ _).trans ?_
  show V m c main_arg4 _ = _
  rw [V_main_arg4]
  refine congrArg _ (idx2 ?_ ?_)
  · show cc0_transform_4 (grid0.coords t) 0 * 706 + 1 * a.val = x.val; omega
  · show cc0_transform_4 (grid0.coords t) 1 * 256 + 1 * b.val = y.val; omega

/-! ## What a point stores, from the arrays -/

theorem grad_point (t : Fin (cfgM m hO).N) (j : S706x1x256.Idx) (i : S706x1x1024.Idx) (hx : (i 0).val = (j 0).val) (hy : (i 2).val = 256 * t.val + (j 2).val) :
    @Eq EReal (k0_pay5 (iblk m hO c 0 t) (row0 (iblk m hO c 1 t)) (row1 (iblk m hO c 1 t)) (row2 (iblk m hO c 1 t)) (ix2 (j 0) (j 2))) (grad (arg0 m c) (arg1 m c) i) :=
  (total_at _ _ _).trans (congrArg₂ total (blk0 m hO c t (j 0) (j 2) (i 0) (i 2) hx hy)
    (funext fun k => blk1 m hO c t k (j 0) (j 2) (i 0) (i 2) hx hy))
theorem newM_point (t : Fin (cfgM m hO).N) (j : S706x1x256.Idx) (i : S706x1x1024.Idx) (hx : (i 0).val = (j 0).val) (hy : (i 2).val = 256 * t.val + (j 2).val) :
    @Eq EReal (k0_pay6 (iblk m hO c 0 t) (row0 (iblk m hO c 1 t)) (row1 (iblk m hO c 1 t)) (row2 (iblk m hO c 1 t)) (iblk m hO c 3 t) (ix2 (j 0) (j 2))) (newM (arg0 m c) (arg1 m c) (arg3 m c) i) :=
  congrArg₂ moment (blk3 m hO c t (j 0) (j 2) (i 0) (i 2) hx hy) (grad_point m hO c t j i hx hy)
theorem newV_point (t : Fin (cfgM m hO).N) (j : S706x1x256.Idx) (i : S706x1x1024.Idx) (hx : (i 0).val = (j 0).val) (hy : (i 2).val = 256 * t.val + (j 2).val) :
    @Eq EReal (k0_pay7 (iblk m hO c 0 t) (row0 (iblk m hO c 1 t)) (row1 (iblk m hO c 1 t)) (row2 (iblk m hO c 1 t)) (iblk m hO c 4 t) (ix2 (j 0) (j 2))) (newV (arg0 m c) (arg1 m c) (arg4 m c) i) :=
  congrArg₂ square (blk4 m hO c t (j 0) (j 2) (i 0) (i 2) hx hy) (grad_point m hO c t j i hx hy)

theorem outs5 (t : Fin (cfgM m hO).N) : (outsAt0 m hO c t).1 = k0_pay1 (k0_pay5 (iblk m hO c 0 t) (row0 (iblk m hO c 1 t)) (row1 (iblk m hO c 1 t)) (row2 (iblk m hO c 1 t))) := by
  unfold outsAt0
  dsimp only
  exact out5 c (grid0.coords t) _ _ _ _ _ _ _ _ _ _ _ _ _ _ _ _ _ _
    (iblk m hO c 0 t) (iblk m hO c 1 t) (iblk m hO c 2 t) (iblk m hO c 3 t) (iblk m hO c 4 t) (tbl m 0)
theorem point5 (t : Fin (cfgM m hO).N) (j : S706x1x256.Idx) (i : S706x1x1024.Idx) (hx : (i 0).val = (j 0).val) (hy : (i 2).val = 256 * t.val + (j 2).val) :
    @Eq EReal ((outsAt0 m hO c t).1 j) (grad (arg0 m c) (arg1 m c) i) := by
  refine (congrFun (outs5 m hO c t) j).trans ?_
  exact (pay1_at _ j).trans (grad_point m hO c t j i hx hy)
theorem outs6 (t : Fin (cfgM m hO).N) : (outsAt0 m hO c t).2.1 = k0_pay2 (iblk m hO c 2 t) (k0_pay8 (iblk m hO c 0 t) (row0 (iblk m hO c 1 t)) (row1 (iblk m hO c 1 t)) (row2 (iblk m hO c 1 t)) (iblk m hO c 3 t)) (k0_pay9 (iblk m hO c 0 t) (row0 (iblk m hO c 1 t)) (row1 (iblk m hO c 1 t)) (row2 (iblk m hO c 1 t)) (iblk m hO c 4 t)) := by
  unfold outsAt0
  dsimp only
  exact out6 c (grid0.coords t) _ _ _ _ _ _ _ _ _ _ _ _ _ _ _ _ _ _
    (iblk m hO c 0 t) (iblk m hO c 1 t) (iblk m hO c 2 t) (iblk m hO c 3 t) (iblk m hO c 4 t) (tbl m 0)
theorem point6 (t : Fin (cfgM m hO).N) (j : S706x1x256.Idx) (i : S706x1x1024.Idx) (hx : (i 0).val = (j 0).val) (hy : (i 2).val = 256 * t.val + (j 2).val) :
    @Eq EReal ((outsAt0 m hO c t).2.1 j) (change (arg0 m c) (arg1 m c) (arg2 m c) (arg3 m c) (arg4 m c) i) := by
  refine (congrFun (outs6 m hO c t) j).trans ?_
  refine (change_at _ _ _ j).trans ?_
  show delta (iblk m hO c 2 t (ix2 (j 0) (j 2))) (k0_pay6 (iblk m hO c 0 t) (row0 (iblk m hO c 1 t)) (row1 (iblk m hO c 1 t)) (row2 (iblk m hO c 1 t)) (iblk m hO c 3 t) (ix2 (j 0) (j 2))) (k0_pay7 (iblk m hO c 0 t) (row0 (iblk m hO c 1 t)) (row1 (iblk m hO c 1 t)) (row2 (iblk m hO c 1 t)) (iblk m hO c 4 t) (ix2 (j 0) (j 2))) = _
  rw [newM_point m hO c t j i hx hy, newV_point m hO c t j i hx hy, blk2 m hO c t (j 0) (j 2) (i 0) (i 2) hx hy]
  rfl
theorem outs7 (t : Fin (cfgM m hO).N) : (outsAt0 m hO c t).2.2.1 = k0_pay3 (k0_pay6 (iblk m hO c 0 t) (row0 (iblk m hO c 1 t)) (row1 (iblk m hO c 1 t)) (row2 (iblk m hO c 1 t)) (iblk m hO c 3 t)) := by
  unfold outsAt0
  dsimp only
  exact out7 c (grid0.coords t) _ _ _ _ _ _ _ _ _ _ _ _ _ _ _ _ _ _
    (iblk m hO c 0 t) (iblk m hO c 1 t) (iblk m hO c 2 t) (iblk m hO c 3 t) (iblk m hO c 4 t) (tbl m 0)
theorem point7 (t : Fin (cfgM m hO).N) (j : S706x1x256.Idx) (i : S706x1x1024.Idx) (hx : (i 0).val = (j 0).val) (hy : (i 2).val = 256 * t.val + (j 2).val) :
    @Eq EReal ((outsAt0 m hO c t).2.2.1 j) (newM (arg0 m c) (arg1 m c) (arg3 m c) i) := by
  refine (congrFun (outs7 m hO c t) j).trans ?_
  exact (pay3_at _ j).trans (newM_point m hO c t j i hx hy)
theorem outs8 (t : Fin (cfgM m hO).N) : (outsAt0 m hO c t).2.2.2 = k0_pay4 (k0_pay7 (iblk m hO c 0 t) (row0 (iblk m hO c 1 t)) (row1 (iblk m hO c 1 t)) (row2 (iblk m hO c 1 t)) (iblk m hO c 4 t)) := by
  unfold outsAt0
  dsimp only
  exact out8 c (grid0.coords t) _ _ _ _ _ _ _ _ _ _ _ _ _ _ _ _ _ _
    (iblk m hO c 0 t) (iblk m hO c 1 t) (iblk m hO c 2 t) (iblk m hO c 3 t) (iblk m hO c 4 t) (tbl m 0)
theorem point8 (t : Fin (cfgM m hO).N) (j : S706x1x256.Idx) (i : S706x1x1024.Idx) (hx : (i 0).val = (j 0).val) (hy : (i 2).val = 256 * t.val + (j 2).val) :
    @Eq EReal ((outsAt0 m hO c t).2.2.2 j) (newV (arg0 m c) (arg1 m c) (arg4 m c) i) := by
  refine (congrFun (outs8 m hO c t) j).trans ?_
  exact (pay4_at _ j).trans (newV_point m hO c t j i hx hy)

/-! ## The arrays -/

theorem arr5 : (dats m hO 0 c).arrAt 5 (cfgM m hO).N = grad (arg0 m c) (arg1 m c) := by
  refine (dats m hO 0 c).arrAt_eq_of_cover 5 _ (fun t _ => ?_) fun (i : S706x1x1024.Idx) => ?_
  · show ((cfgM m hO).win 5).cut (grid0.coords t) ((dats m hO 0 c).after 5 t) = _
    rw [after0_5]
    refine funext fun (j : S706x1x256.Idx) => ?_
    obtain ⟨e0, e1, e2⟩ := index5 t
    refine point5 m hO c t j ((((cfgM m hO).win 5).blk t).view.emb j) ?_ ?_
    · show cc0_transform_5 (grid0.coords t) 0 * 706 + 1 * (j 0).val = (j 0).val; omega
    · show cc0_transform_5 (grid0.coords t) 2 * 256 + 1 * (j 2).val = 256 * t.val + (j 2).val; omega
  · have i0 : (i 0).val < 706 := (i 0).isLt
    have i2 : (i 2).val < 1024 := (i 2).isLt
    have i1 : (i 1).val < 1 := (i 1).isLt
    let t : Fin (cfgM m hO).N := ⟨(i 2).val / 256, by show _ < 4; omega⟩
    refine ⟨t, flush0_5 _ t, ?_⟩
    obtain ⟨e0, e1, e2⟩ := index5 t
    have h := (((cfgM m hO).win 5).blk t).view.emb_mem_set (ix3 (⟨(i 0).val, i0⟩ : Fin 706) (0 : Fin 1) (⟨(i 2).val % 256, by omega⟩ : Fin 256))
    refine Eq.mp (congrArg (· ∈ _) (idx3 ?_ ?_ ?_)) h
    · show cc0_transform_5 (grid0.coords t) 0 * 706 + 1 * (i 0).val = (i 0).val
      rw [e0]; omega
    · show cc0_transform_5 (grid0.coords t) 1 * 1 + 1 * 0 = (i 1).val; omega
    · show cc0_transform_5 (grid0.coords t) 2 * 256 + 1 * ((i 2).val % 256) = (i 2).val
      rw [e2]; show (i 2).val / 256 * 256 + _ = _; omega
theorem arr6 : (dats m hO 0 c).arrAt 6 (cfgM m hO).N = change (arg0 m c) (arg1 m c) (arg2 m c) (arg3 m c) (arg4 m c) := by
  refine (dats m hO 0 c).arrAt_eq_of_cover 6 _ (fun t _ => ?_) fun (i : S706x1x1024.Idx) => ?_
  · show ((cfgM m hO).win 6).cut (grid0.coords t) ((dats m hO 0 c).after 6 t) = _
    rw [after0_6]
    refine funext fun (j : S706x1x256.Idx) => ?_
    obtain ⟨e0, e1, e2⟩ := index6 t
    refine point6 m hO c t j ((((cfgM m hO).win 6).blk t).view.emb j) ?_ ?_
    · show cc0_transform_6 (grid0.coords t) 0 * 706 + 1 * (j 0).val = (j 0).val; omega
    · show cc0_transform_6 (grid0.coords t) 2 * 256 + 1 * (j 2).val = 256 * t.val + (j 2).val; omega
  · have i0 : (i 0).val < 706 := (i 0).isLt
    have i2 : (i 2).val < 1024 := (i 2).isLt
    have i1 : (i 1).val < 1 := (i 1).isLt
    let t : Fin (cfgM m hO).N := ⟨(i 2).val / 256, by show _ < 4; omega⟩
    refine ⟨t, flush0_6 _ t, ?_⟩
    obtain ⟨e0, e1, e2⟩ := index6 t
    have h := (((cfgM m hO).win 6).blk t).view.emb_mem_set (ix3 (⟨(i 0).val, i0⟩ : Fin 706) (0 : Fin 1) (⟨(i 2).val % 256, by omega⟩ : Fin 256))
    refine Eq.mp (congrArg (· ∈ _) (idx3 ?_ ?_ ?_)) h
    · show cc0_transform_6 (grid0.coords t) 0 * 706 + 1 * (i 0).val = (i 0).val
      rw [e0]; omega
    · show cc0_transform_6 (grid0.coords t) 1 * 1 + 1 * 0 = (i 1).val; omega
    · show cc0_transform_6 (grid0.coords t) 2 * 256 + 1 * ((i 2).val % 256) = (i 2).val
      rw [e2]; show (i 2).val / 256 * 256 + _ = _; omega
theorem arr7 : (dats m hO 0 c).arrAt 7 (cfgM m hO).N = newM (arg0 m c) (arg1 m c) (arg3 m c) := by
  refine (dats m hO 0 c).arrAt_eq_of_cover 7 _ (fun t _ => ?_) fun (i : S706x1x1024.Idx) => ?_
  · show ((cfgM m hO).win 7).cut (grid0.coords t) ((dats m hO 0 c).after 7 t) = _
    rw [after0_7]
    refine funext fun (j : S706x1x256.Idx) => ?_
    obtain ⟨e0, e1, e2⟩ := index7 t
    refine point7 m hO c t j ((((cfgM m hO).win 7).blk t).view.emb j) ?_ ?_
    · show cc0_transform_7 (grid0.coords t) 0 * 706 + 1 * (j 0).val = (j 0).val; omega
    · show cc0_transform_7 (grid0.coords t) 2 * 256 + 1 * (j 2).val = 256 * t.val + (j 2).val; omega
  · have i0 : (i 0).val < 706 := (i 0).isLt
    have i2 : (i 2).val < 1024 := (i 2).isLt
    have i1 : (i 1).val < 1 := (i 1).isLt
    let t : Fin (cfgM m hO).N := ⟨(i 2).val / 256, by show _ < 4; omega⟩
    refine ⟨t, flush0_7 _ t, ?_⟩
    obtain ⟨e0, e1, e2⟩ := index7 t
    have h := (((cfgM m hO).win 7).blk t).view.emb_mem_set (ix3 (⟨(i 0).val, i0⟩ : Fin 706) (0 : Fin 1) (⟨(i 2).val % 256, by omega⟩ : Fin 256))
    refine Eq.mp (congrArg (· ∈ _) (idx3 ?_ ?_ ?_)) h
    · show cc0_transform_7 (grid0.coords t) 0 * 706 + 1 * (i 0).val = (i 0).val
      rw [e0]; omega
    · show cc0_transform_7 (grid0.coords t) 1 * 1 + 1 * 0 = (i 1).val; omega
    · show cc0_transform_7 (grid0.coords t) 2 * 256 + 1 * ((i 2).val % 256) = (i 2).val
      rw [e2]; show (i 2).val / 256 * 256 + _ = _; omega
theorem arr8 : (dats m hO 0 c).arrAt 8 (cfgM m hO).N = newV (arg0 m c) (arg1 m c) (arg4 m c) := by
  refine (dats m hO 0 c).arrAt_eq_of_cover 8 _ (fun t _ => ?_) fun (i : S706x1x1024.Idx) => ?_
  · show ((cfgM m hO).win 8).cut (grid0.coords t) ((dats m hO 0 c).after 8 t) = _
    rw [after0_8]
    refine funext fun (j : S706x1x256.Idx) => ?_
    obtain ⟨e0, e1, e2⟩ := index8 t
    refine point8 m hO c t j ((((cfgM m hO).win 8).blk t).view.emb j) ?_ ?_
    · show cc0_transform_8 (grid0.coords t) 0 * 706 + 1 * (j 0).val = (j 0).val; omega
    · show cc0_transform_8 (grid0.coords t) 2 * 256 + 1 * (j 2).val = 256 * t.val + (j 2).val; omega
  · have i0 : (i 0).val < 706 := (i 0).isLt
    have i2 : (i 2).val < 1024 := (i 2).isLt
    have i1 : (i 1).val < 1 := (i 1).isLt
    let t : Fin (cfgM m hO).N := ⟨(i 2).val / 256, by show _ < 4; omega⟩
    refine ⟨t, flush0_8 _ t, ?_⟩
    obtain ⟨e0, e1, e2⟩ := index8 t
    have h := (((cfgM m hO).win 8).blk t).view.emb_mem_set (ix3 (⟨(i 0).val, i0⟩ : Fin 706) (0 : Fin 1) (⟨(i 2).val % 256, by omega⟩ : Fin 256))
    refine Eq.mp (congrArg (· ∈ _) (idx3 ?_ ?_ ?_)) h
    · show cc0_transform_8 (grid0.coords t) 0 * 706 + 1 * (i 0).val = (i 0).val
      rw [e0]; omega
    · show cc0_transform_8 (grid0.coords t) 1 * 1 + 1 * 0 = (i 1).val; omega
    · show cc0_transform_8 (grid0.coords t) 2 * 256 + 1 * ((i 2).val % 256) = (i 2).val
      rw [e2]; show (i 2).val / 256 * 256 + _ = _; omega

end Cert.AdamInIdeal.Head

/-! ## The reference's arrays -/

namespace Cert.AdamInRefIdeal.Head

open Cert.AdamInRefIdeal Cert.AdamInRefIdeal.Gen Cert.AdamInRefIdeal.Read Cert.Products Cert.AdamW Idealize.ShloMosaic Idealize.ShloMosaic.TcCoe

theorem grad_at (o : Vec Ideal S4x706x1024 .bf16) (r : Vec Ideal S3x706x1024 .bf16) (i : S706x1024.Idx) :
    @Eq EReal (val_main_v5 (F := Ideal) o r i) (total (o (ix3 0 (i 0) (i 1))) fun k => r (ix3 k (i 0) (i 1))) := by
  have i0 : (i 0).val < 706 := (i 0).isLt
  have i1 : (i 1).val < 1024 := (i 1).isLt
  show (val_main_v1 (F := Ideal) o i : EReal) + (val_main_v4 (F := Ideal) r i : EReal) = _
  have h0 : (val_main_cst (F := Ideal) (Shape.Idx.first h_S_) : EReal) = 0 := Ideal.ofBits_zero_f32
  rw [val_main_v1_apply, val_main_v0_apply, val_main_v4_apply, h0, zero_add]
  refine congrArg₂ total (congrArg o (idx3 rfl ?_ ?_)) (funext fun k => congrArg r (idx3 rfl rfl rfl))
  · show ((i 0).val * 1024 + (i 1).val) / 1024 % 706 = (i 0).val; omega
  · show ((i 0).val * 1024 + (i 1).val) % 1024 = (i 1).val; omega
theorem newM_at (o : Vec Ideal S4x706x1024 .bf16) (r : Vec Ideal S3x706x1024 .bf16) (μ : Vec Ideal S706x1024 .f32) (i : S706x1024.Idx) :
    @Eq EReal (val_main_v10 (F := Ideal) o r μ i) (moment (μ i) (total (o (ix3 0 (i 0) (i 1))) fun k => r (ix3 k (i 0) (i 1)))) := by
  show (val_main_v6 (F := Ideal) i : EReal) * (μ i : EReal) + (val_main_v8 (F := Ideal) i : EReal) * (val_main_v5 (F := Ideal) o r i : EReal) = _
  rw [grad_at, val_main_v6_apply, val_main_v8_apply]
  rfl
theorem newV_at (o : Vec Ideal S4x706x1024 .bf16) (r : Vec Ideal S3x706x1024 .bf16) (ν : Vec Ideal S706x1024 .f32) (i : S706x1024.Idx) :
    @Eq EReal (val_main_v16 (F := Ideal) o r ν i) (square (ν i) (total (o (ix3 0 (i 0) (i 1))) fun k => r (ix3 k (i 0) (i 1)))) := by
  show (val_main_v11 (F := Ideal) i : EReal) * (ν i : EReal)
    + (val_main_v14 (F := Ideal) i : EReal) * ((val_main_v5 (F := Ideal) o r i : EReal) * (val_main_v5 (F := Ideal) o r i : EReal)) = _
  rw [grad_at, val_main_v11_apply, val_main_v14_apply]
  rfl
theorem change_at (o : Vec Ideal S4x706x1024 .bf16) (r : Vec Ideal S3x706x1024 .bf16) (w μ ν : Vec Ideal S706x1024 .f32) (i : S706x1024.Idx) :
    @Eq EReal (val_main_v29 (F := Ideal) o r w μ ν i) (delta (w i) (val_main_v10 (F := Ideal) o r μ i) (val_main_v16 (F := Ideal) o r ν i)) := by
  show (val_main_v28 (F := Ideal) i : EReal) *
    (Ideal.div (Ideal.div (val_main_v10 (F := Ideal) o r μ i) (val_main_v17 (F := Ideal) i))
        ((Ideal.sqrt (Ideal.div (val_main_v16 (F := Ideal) o r ν i) (val_main_v19 (F := Ideal) i)) : EReal) + (val_main_v22 (F := Ideal) i : EReal))
      + (val_main_v25 (F := Ideal) i : EReal) * (w i : EReal)) = _
  rw [val_main_v28_apply, val_main_v17_apply, val_main_v19_apply, val_main_v22_apply, val_main_v25_apply]
  rfl

theorem grad_eq (o : Vec Ideal S4x706x1024 .bf16) (r : Vec Ideal S3x706x1024 .bf16)  :
    val_main_v30 (F := Ideal) o r = Cert.AdamInIdeal.Head.grad o r := by
  funext i
  refine (val_main_v30_apply _ _ i).trans ?_
  obtain ⟨a, z, b, rfl⟩ : ∃ a z b, i = (ix3 a z b : S706x1x1024.Idx) := ⟨i 0, i 1, i 2, idx3 rfl rfl rfl⟩
  rw [show idx_main_v30 (ix3 a z b : S706x1x1024.Idx) = (ix2 a b : S706x1024.Idx) from idx2 rfl rfl]
  exact grad_at _ _ _
theorem newM_eq (o : Vec Ideal S4x706x1024 .bf16) (r : Vec Ideal S3x706x1024 .bf16) (μ : Vec Ideal S706x1024 .f32) :
    val_main_v32 (F := Ideal) o r μ = Cert.AdamInIdeal.Head.newM o r μ := by
  funext i
  refine (val_main_v32_apply _ _ _ i).trans ?_
  obtain ⟨a, z, b, rfl⟩ : ∃ a z b, i = (ix3 a z b : S706x1x1024.Idx) := ⟨i 0, i 1, i 2, idx3 rfl rfl rfl⟩
  rw [show idx_main_v32 (ix3 a z b : S706x1x1024.Idx) = (ix2 a b : S706x1024.Idx) from idx2 rfl rfl]
  exact newM_at _ _ _ _
theorem newV_eq (o : Vec Ideal S4x706x1024 .bf16) (r : Vec Ideal S3x706x1024 .bf16) (ν : Vec Ideal S706x1024 .f32) :
    val_main_v33 (F := Ideal) o r ν = Cert.AdamInIdeal.Head.newV o r ν := by
  funext i
  refine (val_main_v33_apply _ _ _ i).trans ?_
  obtain ⟨a, z, b, rfl⟩ : ∃ a z b, i = (ix3 a z b : S706x1x1024.Idx) := ⟨i 0, i 1, i 2, idx3 rfl rfl rfl⟩
  rw [show idx_main_v33 (ix3 a z b : S706x1x1024.Idx) = (ix2 a b : S706x1024.Idx) from idx2 rfl rfl]
  exact newV_at _ _ _ _
theorem change_eq (o : Vec Ideal S4x706x1024 .bf16) (r : Vec Ideal S3x706x1024 .bf16) (w μ ν : Vec Ideal S706x1024 .f32) :
    val_main_v31 (F := Ideal) o r w μ ν = Cert.AdamInIdeal.Head.change o r w μ ν := by
  funext i
  refine (val_main_v31_apply _ _ _ _ _ i).trans ?_
  obtain ⟨a, z, b, rfl⟩ : ∃ a z b, i = (ix3 a z b : S706x1x1024.Idx) := ⟨i 0, i 1, i 2, idx3 rfl rfl rfl⟩
  rw [show idx_main_v31 (ix3 a z b : S706x1x1024.Idx) = (ix2 a b : S706x1024.Idx) from idx2 rfl rfl]
  rw [change_at, newM_at, newV_at]
  rfl

end Cert.AdamInRefIdeal.Head

end
-- ==== Proof.AdamCalls.lean ====
/- The optimiser's calls: each runs, and at exact arithmetic its four results are its reference's. -/
module

public import proofs.«01_k».proof.Defs
public import proofs.«01_k».proof.Proof.AdamSquareValue
public import proofs.«01_k».proof.Proof.Gen.AdamSquareRefIdeal.Run
public import proofs.«01_k».proof.Proof.AdamPoolValue
public import proofs.«01_k».proof.Proof.Gen.AdamPoolRefIdeal.Run
public import proofs.«01_k».proof.Proof.AdamDownValue
public import proofs.«01_k».proof.Proof.Gen.AdamDownRefIdeal.Run
public import proofs.«01_k».proof.Proof.AdamUpValue
public import proofs.«01_k».proof.Proof.Gen.AdamUpRefIdeal.Run
public import proofs.«01_k».proof.Proof.AdamInValue
public import proofs.«01_k».proof.Proof.Gen.AdamInRefIdeal.Run
public import Idealize.ShloMosaic.Adequacy
public import Idealize.ShloMosaic.Init

@[expose] public section

noncomputable section

namespace Cert.Proof

open Idealize.ShloMosaic Idealize.SL.Sem Idealize.ShloMosaic.StableHlo Idealize.ShloMosaic.TcCoe

theorem frame_p_AdamSquare : Cert.quiescent_AdamSquare := fun m ρ _ => Cert.AdamSquare.Gen.frame m ρ (Cert.AdamSquare.Head.ok m)
theorem frame_pi_AdamSquare : Cert.quiescent_AdamSquareIdeal := fun m ρ _ => Cert.AdamSquareIdeal.Gen.frame m ρ (Cert.AdamSquareIdeal.Head.ok m)
theorem frame_ri_AdamSquare : Cert.quiescent_AdamSquareRefIdeal := fun m ρ _ =>
  (θ_run Cert.AdamSquareRefIdeal.defs _ _).mono (fun r h => ⟨fun c => (h c).2.2.2.2, sem_eq_zero_of_no_sems (by decide) r.2⟩)
    (Cert.AdamSquareRefIdeal.Value.run (F := Ideal) m ρ)

open Cert.AdamSquareIdeal Cert.AdamSquareIdeal.Gen in
/-- Both programs end with the gradient, the change and the two averages of a square weight. -/
theorem algebraic_AdamSquare : Cert.algebraic_AdamSquareIdeal_AdamSquareRefIdeal := by
  intro m ρ m' ρ' _ hargs
  have hO := Head.ok m
  refine ⟨fun c => Head.grad (Head.arg0 m c) (Head.arg1 m c),
    fun c => Head.change (Head.arg0 m c) (Head.arg1 m c) (Head.arg2 m c) (Head.arg3 m c) (Head.arg4 m c),
    fun c => Head.newM (Head.arg0 m c) (Head.arg1 m c) (Head.arg3 m c),
    fun c => Head.newV (Head.arg0 m c) (Head.arg1 m c) (Head.arg4 m c),
    ?_, ?_⟩
  · refine (θ_run Cert.AdamSquareIdeal.defs _ _).mono (fun r h c => ?_) (run_main (F := Ideal) m ρ hO)
    exact ⟨((h c).1 5).trans (Head.arr5 m hO c),
      ((h c).1 6).trans (Head.arr6 m hO c),
      ((h c).1 7).trans (Head.arr7 m hO c),
      ((h c).1 8).trans (Head.arr8 m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).1 2).trans (((dats m hO 0 c).arrAt_in 2 rfl _).trans ((A_eq m hO c 2).trans (V_main_arg2 m c))),
      ((h c).1 3).trans (((dats m hO 0 c).arrAt_in 3 rfl _).trans ((A_eq m hO c 3).trans (V_main_arg3 m c))),
      ((h c).1 4).trans (((dats m hO 0 c).arrAt_in 4 rfl _).trans ((A_eq m hO c 4).trans (V_main_arg4 m c)))⟩
  · refine (θ_run Cert.AdamSquareRefIdeal.defs _ _).mono (fun r h c => ?_) (Cert.AdamSquareRefIdeal.Value.run (F := Ideal) m' ρ')
    obtain ⟨e0, e1, e2, e3, e4⟩ := hargs c
    obtain ⟨h0, h1, h2, h3, ha⟩ := h c
    refine ⟨h0.trans ?_, h1.trans ?_, h2.trans ?_, h3.trans ?_, ha⟩
    · refine (Cert.AdamSquareRefIdeal.Read.val_main_v5_eq (F := Ideal) _ _).trans ((Cert.AdamSquareRefIdeal.Head.grad_eq _ _).trans ?_)
      rw [e0, e1]
    · refine (Cert.AdamSquareRefIdeal.Read.val_main_v29_eq (F := Ideal) _ _ _ _ _).trans ((Cert.AdamSquareRefIdeal.Head.change_eq _ _ _ _ _).trans ?_)
      rw [e0, e1, e2, e3, e4]
    · refine (Cert.AdamSquareRefIdeal.Read.val_main_v10_eq (F := Ideal) _ _ _).trans ((Cert.AdamSquareRefIdeal.Head.newM_eq _ _ _).trans ?_)
      rw [e0, e1, e3]
    · refine (Cert.AdamSquareRefIdeal.Read.val_main_v16_eq (F := Ideal) _ _ _).trans ((Cert.AdamSquareRefIdeal.Head.newV_eq _ _ _).trans ?_)
      rw [e0, e1, e4]

theorem frame_p_AdamPool : Cert.quiescent_AdamPool := fun m ρ _ => Cert.AdamPool.Gen.frame m ρ (Cert.AdamPool.Head.ok m)
theorem frame_pi_AdamPool : Cert.quiescent_AdamPoolIdeal := fun m ρ _ => Cert.AdamPoolIdeal.Gen.frame m ρ (Cert.AdamPoolIdeal.Head.ok m)
theorem frame_ri_AdamPool : Cert.quiescent_AdamPoolRefIdeal := fun m ρ _ =>
  (θ_run Cert.AdamPoolRefIdeal.defs _ _).mono (fun r h => ⟨fun c => (h c).2.2.2.2, sem_eq_zero_of_no_sems (by decide) r.2⟩)
    (Cert.AdamPoolRefIdeal.Value.run (F := Ideal) m ρ)

open Cert.AdamPoolIdeal Cert.AdamPoolIdeal.Gen in
/-- Both programs end with the gradient, the change and the two averages of the pooling's projection. -/
theorem algebraic_AdamPool : Cert.algebraic_AdamPoolIdeal_AdamPoolRefIdeal := by
  intro m ρ m' ρ' _ hargs
  have hO := Head.ok m
  refine ⟨fun c => Head.grad (Head.arg0 m c) (Head.arg1 m c),
    fun c => Head.change (Head.arg0 m c) (Head.arg1 m c) (Head.arg2 m c) (Head.arg3 m c) (Head.arg4 m c),
    fun c => Head.newM (Head.arg0 m c) (Head.arg1 m c) (Head.arg3 m c),
    fun c => Head.newV (Head.arg0 m c) (Head.arg1 m c) (Head.arg4 m c),
    ?_, ?_⟩
  · refine (θ_run Cert.AdamPoolIdeal.defs _ _).mono (fun r h c => ?_) (run_main (F := Ideal) m ρ hO)
    exact ⟨((h c).1 5).trans (Head.arr5 m hO c),
      ((h c).1 6).trans (Head.arr6 m hO c),
      ((h c).1 7).trans (Head.arr7 m hO c),
      ((h c).1 8).trans (Head.arr8 m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).1 2).trans (((dats m hO 0 c).arrAt_in 2 rfl _).trans ((A_eq m hO c 2).trans (V_main_arg2 m c))),
      ((h c).1 3).trans (((dats m hO 0 c).arrAt_in 3 rfl _).trans ((A_eq m hO c 3).trans (V_main_arg3 m c))),
      ((h c).1 4).trans (((dats m hO 0 c).arrAt_in 4 rfl _).trans ((A_eq m hO c 4).trans (V_main_arg4 m c)))⟩
  · refine (θ_run Cert.AdamPoolRefIdeal.defs _ _).mono (fun r h c => ?_) (Cert.AdamPoolRefIdeal.Value.run (F := Ideal) m' ρ')
    obtain ⟨e0, e1, e2, e3, e4⟩ := hargs c
    obtain ⟨h0, h1, h2, h3, ha⟩ := h c
    refine ⟨h0.trans ?_, h1.trans ?_, h2.trans ?_, h3.trans ?_, ha⟩
    · refine (Cert.AdamPoolRefIdeal.Read.val_main_v5_eq (F := Ideal) _ _).trans ((Cert.AdamPoolRefIdeal.Head.grad_eq _ _).trans ?_)
      rw [e0, e1]
    · refine (Cert.AdamPoolRefIdeal.Read.val_main_v29_eq (F := Ideal) _ _ _ _ _).trans ((Cert.AdamPoolRefIdeal.Head.change_eq _ _ _ _ _).trans ?_)
      rw [e0, e1, e2, e3, e4]
    · refine (Cert.AdamPoolRefIdeal.Read.val_main_v10_eq (F := Ideal) _ _ _).trans ((Cert.AdamPoolRefIdeal.Head.newM_eq _ _ _).trans ?_)
      rw [e0, e1, e3]
    · refine (Cert.AdamPoolRefIdeal.Read.val_main_v16_eq (F := Ideal) _ _ _).trans ((Cert.AdamPoolRefIdeal.Head.newV_eq _ _ _).trans ?_)
      rw [e0, e1, e4]

theorem frame_p_AdamDown : Cert.quiescent_AdamDown := fun m ρ _ => Cert.AdamDown.Gen.frame m ρ (Cert.AdamDown.Head.ok m)
theorem frame_pi_AdamDown : Cert.quiescent_AdamDownIdeal := fun m ρ _ => Cert.AdamDownIdeal.Gen.frame m ρ (Cert.AdamDownIdeal.Head.ok m)
theorem frame_ri_AdamDown : Cert.quiescent_AdamDownRefIdeal := fun m ρ _ =>
  (θ_run Cert.AdamDownRefIdeal.defs _ _).mono (fun r h => ⟨fun c => (h c).2.2.2.2, sem_eq_zero_of_no_sems (by decide) r.2⟩)
    (Cert.AdamDownRefIdeal.Value.run (F := Ideal) m ρ)

open Cert.AdamDownIdeal Cert.AdamDownIdeal.Gen in
/-- Both programs end with the gradient, the change and the two averages of the feed-forward's second weight. -/
theorem algebraic_AdamDown : Cert.algebraic_AdamDownIdeal_AdamDownRefIdeal := by
  intro m ρ m' ρ' _ hargs
  have hO := Head.ok m
  refine ⟨fun c => Head.grad (Head.arg0 m c) (Head.arg1 m c),
    fun c => Head.change (Head.arg0 m c) (Head.arg1 m c) (Head.arg2 m c) (Head.arg3 m c) (Head.arg4 m c),
    fun c => Head.newM (Head.arg0 m c) (Head.arg1 m c) (Head.arg3 m c),
    fun c => Head.newV (Head.arg0 m c) (Head.arg1 m c) (Head.arg4 m c),
    ?_, ?_⟩
  · refine (θ_run Cert.AdamDownIdeal.defs _ _).mono (fun r h c => ?_) (run_main (F := Ideal) m ρ hO)
    exact ⟨((h c).1 5).trans (Head.arr5 m hO c),
      ((h c).1 6).trans (Head.arr6 m hO c),
      ((h c).1 7).trans (Head.arr7 m hO c),
      ((h c).1 8).trans (Head.arr8 m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).1 2).trans (((dats m hO 0 c).arrAt_in 2 rfl _).trans ((A_eq m hO c 2).trans (V_main_arg2 m c))),
      ((h c).1 3).trans (((dats m hO 0 c).arrAt_in 3 rfl _).trans ((A_eq m hO c 3).trans (V_main_arg3 m c))),
      ((h c).1 4).trans (((dats m hO 0 c).arrAt_in 4 rfl _).trans ((A_eq m hO c 4).trans (V_main_arg4 m c)))⟩
  · refine (θ_run Cert.AdamDownRefIdeal.defs _ _).mono (fun r h c => ?_) (Cert.AdamDownRefIdeal.Value.run (F := Ideal) m' ρ')
    obtain ⟨e0, e1, e2, e3, e4⟩ := hargs c
    obtain ⟨h0, h1, h2, h3, ha⟩ := h c
    refine ⟨h0.trans ?_, h1.trans ?_, h2.trans ?_, h3.trans ?_, ha⟩
    · refine (Cert.AdamDownRefIdeal.Read.val_main_v5_eq (F := Ideal) _ _).trans ((Cert.AdamDownRefIdeal.Head.grad_eq _ _).trans ?_)
      rw [e0, e1]
    · refine (Cert.AdamDownRefIdeal.Read.val_main_v29_eq (F := Ideal) _ _ _ _ _).trans ((Cert.AdamDownRefIdeal.Head.change_eq _ _ _ _ _).trans ?_)
      rw [e0, e1, e2, e3, e4]
    · refine (Cert.AdamDownRefIdeal.Read.val_main_v10_eq (F := Ideal) _ _ _).trans ((Cert.AdamDownRefIdeal.Head.newM_eq _ _ _).trans ?_)
      rw [e0, e1, e3]
    · refine (Cert.AdamDownRefIdeal.Read.val_main_v16_eq (F := Ideal) _ _ _).trans ((Cert.AdamDownRefIdeal.Head.newV_eq _ _ _).trans ?_)
      rw [e0, e1, e4]

theorem frame_p_AdamUp : Cert.quiescent_AdamUp := fun m ρ _ => Cert.AdamUp.Gen.frame m ρ (Cert.AdamUp.Head.ok m)
theorem frame_pi_AdamUp : Cert.quiescent_AdamUpIdeal := fun m ρ _ => Cert.AdamUpIdeal.Gen.frame m ρ (Cert.AdamUpIdeal.Head.ok m)
theorem frame_ri_AdamUp : Cert.quiescent_AdamUpRefIdeal := fun m ρ _ =>
  (θ_run Cert.AdamUpRefIdeal.defs _ _).mono (fun r h => ⟨fun c => (h c).2.2.2.2, sem_eq_zero_of_no_sems (by decide) r.2⟩)
    (Cert.AdamUpRefIdeal.Value.run (F := Ideal) m ρ)

open Cert.AdamUpIdeal Cert.AdamUpIdeal.Gen in
/-- Both programs end with the gradient, the change and the two averages of the feed-forward's first weight. -/
theorem algebraic_AdamUp : Cert.algebraic_AdamUpIdeal_AdamUpRefIdeal := by
  intro m ρ m' ρ' _ hargs
  have hO := Head.ok m
  refine ⟨fun c => Head.grad (Head.arg0 m c) (Head.arg1 m c),
    fun c => Head.change (Head.arg0 m c) (Head.arg1 m c) (Head.arg2 m c) (Head.arg3 m c) (Head.arg4 m c),
    fun c => Head.newM (Head.arg0 m c) (Head.arg1 m c) (Head.arg3 m c),
    fun c => Head.newV (Head.arg0 m c) (Head.arg1 m c) (Head.arg4 m c),
    ?_, ?_⟩
  · refine (θ_run Cert.AdamUpIdeal.defs _ _).mono (fun r h c => ?_) (run_main (F := Ideal) m ρ hO)
    exact ⟨((h c).1 5).trans (Head.arr5 m hO c),
      ((h c).1 6).trans (Head.arr6 m hO c),
      ((h c).1 7).trans (Head.arr7 m hO c),
      ((h c).1 8).trans (Head.arr8 m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).1 2).trans (((dats m hO 0 c).arrAt_in 2 rfl _).trans ((A_eq m hO c 2).trans (V_main_arg2 m c))),
      ((h c).1 3).trans (((dats m hO 0 c).arrAt_in 3 rfl _).trans ((A_eq m hO c 3).trans (V_main_arg3 m c))),
      ((h c).1 4).trans (((dats m hO 0 c).arrAt_in 4 rfl _).trans ((A_eq m hO c 4).trans (V_main_arg4 m c)))⟩
  · refine (θ_run Cert.AdamUpRefIdeal.defs _ _).mono (fun r h c => ?_) (Cert.AdamUpRefIdeal.Value.run (F := Ideal) m' ρ')
    obtain ⟨e0, e1, e2, e3, e4⟩ := hargs c
    obtain ⟨h0, h1, h2, h3, ha⟩ := h c
    refine ⟨h0.trans ?_, h1.trans ?_, h2.trans ?_, h3.trans ?_, ha⟩
    · refine (Cert.AdamUpRefIdeal.Read.val_main_v5_eq (F := Ideal) _ _).trans ((Cert.AdamUpRefIdeal.Head.grad_eq _ _).trans ?_)
      rw [e0, e1]
    · refine (Cert.AdamUpRefIdeal.Read.val_main_v29_eq (F := Ideal) _ _ _ _ _).trans ((Cert.AdamUpRefIdeal.Head.change_eq _ _ _ _ _).trans ?_)
      rw [e0, e1, e2, e3, e4]
    · refine (Cert.AdamUpRefIdeal.Read.val_main_v10_eq (F := Ideal) _ _ _).trans ((Cert.AdamUpRefIdeal.Head.newM_eq _ _ _).trans ?_)
      rw [e0, e1, e3]
    · refine (Cert.AdamUpRefIdeal.Read.val_main_v16_eq (F := Ideal) _ _ _).trans ((Cert.AdamUpRefIdeal.Head.newV_eq _ _ _).trans ?_)
      rw [e0, e1, e4]

theorem frame_p_AdamIn : Cert.quiescent_AdamIn := fun m ρ _ => Cert.AdamIn.Gen.frame m ρ (Cert.AdamIn.Head.ok m)
theorem frame_pi_AdamIn : Cert.quiescent_AdamInIdeal := fun m ρ _ => Cert.AdamInIdeal.Gen.frame m ρ (Cert.AdamInIdeal.Head.ok m)
theorem frame_ri_AdamIn : Cert.quiescent_AdamInRefIdeal := fun m ρ _ =>
  (θ_run Cert.AdamInRefIdeal.defs _ _).mono (fun r h => ⟨fun c => (h c).2.2.2.2, sem_eq_zero_of_no_sems (by decide) r.2⟩)
    (Cert.AdamInRefIdeal.Value.run (F := Ideal) m ρ)

open Cert.AdamInIdeal Cert.AdamInIdeal.Gen in
/-- Both programs end with the gradient, the change and the two averages of the input projections' weights. -/
theorem algebraic_AdamIn : Cert.algebraic_AdamInIdeal_AdamInRefIdeal := by
  intro m ρ m' ρ' _ hargs
  have hO := Head.ok m
  refine ⟨fun c => Head.grad (Head.arg0 m c) (Head.arg1 m c),
    fun c => Head.change (Head.arg0 m c) (Head.arg1 m c) (Head.arg2 m c) (Head.arg3 m c) (Head.arg4 m c),
    fun c => Head.newM (Head.arg0 m c) (Head.arg1 m c) (Head.arg3 m c),
    fun c => Head.newV (Head.arg0 m c) (Head.arg1 m c) (Head.arg4 m c),
    ?_, ?_⟩
  · refine (θ_run Cert.AdamInIdeal.defs _ _).mono (fun r h c => ?_) (run_main (F := Ideal) m ρ hO)
    exact ⟨((h c).1 5).trans (Head.arr5 m hO c),
      ((h c).1 6).trans (Head.arr6 m hO c),
      ((h c).1 7).trans (Head.arr7 m hO c),
      ((h c).1 8).trans (Head.arr8 m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).1 2).trans (((dats m hO 0 c).arrAt_in 2 rfl _).trans ((A_eq m hO c 2).trans (V_main_arg2 m c))),
      ((h c).1 3).trans (((dats m hO 0 c).arrAt_in 3 rfl _).trans ((A_eq m hO c 3).trans (V_main_arg3 m c))),
      ((h c).1 4).trans (((dats m hO 0 c).arrAt_in 4 rfl _).trans ((A_eq m hO c 4).trans (V_main_arg4 m c)))⟩
  · refine (θ_run Cert.AdamInRefIdeal.defs _ _).mono (fun r h c => ?_) (Cert.AdamInRefIdeal.Value.run (F := Ideal) m' ρ')
    obtain ⟨e0, e1, e2, e3, e4⟩ := hargs c
    obtain ⟨h0, h1, h2, h3, ha⟩ := h c
    refine ⟨h0.trans ?_, h1.trans ?_, h2.trans ?_, h3.trans ?_, ha⟩
    · refine (Cert.AdamInRefIdeal.Read.val_main_v30_eq (F := Ideal) _ _).trans ((Cert.AdamInRefIdeal.Head.grad_eq _ _).trans ?_)
      rw [e0, e1]
    · refine (Cert.AdamInRefIdeal.Read.val_main_v31_eq (F := Ideal) _ _ _ _ _).trans ((Cert.AdamInRefIdeal.Head.change_eq _ _ _ _ _).trans ?_)
      rw [e0, e1, e2, e3, e4]
    · refine (Cert.AdamInRefIdeal.Read.val_main_v32_eq (F := Ideal) _ _ _).trans ((Cert.AdamInRefIdeal.Head.newM_eq _ _ _).trans ?_)
      rw [e0, e1, e3]
    · refine (Cert.AdamInRefIdeal.Read.val_main_v33_eq (F := Ideal) _ _ _).trans ((Cert.AdamInRefIdeal.Head.newV_eq _ _ _).trans ?_)
      rw [e0, e1, e4]

end Cert.Proof

end
-- ==== Proof.RmsMixValue.lean ====
/- The norm in front of a mixer: each tile of rows is scaled by its rows' root mean squares and by the gain, and so is the
   reference's array. -/
module

public import proofs.«01_k».proof.Proof.Products
public import proofs.«01_k».proof.Proof.Gen.RmsMixIdeal.Frame
public import proofs.«01_k».proof.Proof.Gen.RmsMixRefIdeal.Read
public import Idealize.ShloMosaic.Lib.Pipeline.ValueKit.Tiles
public import Idealize.ShloMosaic.Lib.ValueIdxCore

@[expose] public section

noncomputable section

namespace Cert.RmsMixIdeal.Head

open Cert.RmsMixIdeal Cert.RmsMixIdeal.Gen Cert.Products Idealize.ShloMosaic Idealize.ShloMosaic.TcCoe Idealize.ShloMosaic.Tactic
open Idealize.ShloMosaic.Pipeline (Dat)

/-- An entry of a normed row, from the row, the entry and its gain. -/
def normed (row : Fin 1024 → EReal) (x g : EReal) : EReal :=
  x * Ideal.rsqrt (Ideal.div (∑ k, row k * row k) (Scalar.ofBits (F := Ideal) .f32 0x44800000#32)
    + (Scalar.ofBits (F := Ideal) .f32 0x358637BD#32 : EReal)) * g
/-- The normed array. -/
def whole (x : S2048x1024.Idx → EReal) (g : S1x1024.Idx → EReal) (i : S2048x1024.Idx) : EReal :=
  normed (fun k => x (ix2 (i 0) k)) (x (ix2 (i 0) (i 1))) (g (ix2 0 (i 1)))

theorem rowsum (x : FVec Ideal S256x1024 .f32) (j : S256x1.Idx) :
    @Eq EReal (shapeCast S256x1 (multiReduction (F := Ideal) .add [1] S256 x 0x00000000#32 reduces_S256x1024_S256 (.inl rfl) rfl) shapeCasts_S256_S256x1 j)
      (∑ k : Fin 1024, (x (ix2 (j 0) k) : EReal)) := by
  have j1 : (j 1).val < 1 := (j 1).isLt
  refine (shapeCast_apply _ shapeCasts_S256_S256x1 j (ValueIdx.ix1 (⟨(j 0).val, (j 0).isLt⟩ : Fin 256)) ?_).trans ?_
  · rw [Shape.rowMajor_val_one, Shape.rowMajor_val_two]
    show (j 0).val = (j 0).val * 1 + (j 1).val
    omega
  · exact (Ideal.multiReduction_add_single x _ _ (.inl rfl) rfl _).trans (Finset.sum_congr rfl fun k _ => congrArg x (idx2 rfl rfl))

/-- What one grid point stores. -/
theorem stored (x : FVec Ideal S256x1024 .f32) (g : FVec Ideal S1x1024 .f32) (j : S256x1024.Idx) :
    @Eq EReal (k0_pay1 (F := Ideal) x g j) (normed (fun k => x (ix2 (j 0) k)) (x (ix2 (j 0) (j 1))) (g (ix2 0 (j 1)))) := by
  unfold k0_pay1
  rw [shapeCast_self]
  refine congrArg₂ (fun a b : EReal => a * b) (congrArg₂ (fun a b : EReal => a * b) (congrArg x (idx2 rfl rfl)) ?_) (congrArg g (idx2 rfl rfl))
  refine congrArg (fun s : EReal => Ideal.rsqrt (Ideal.div s (Scalar.ofBits (F := Ideal) .f32 0x44800000#32) + (Scalar.ofBits (F := Ideal) .f32 0x358637BD#32 : EReal)))
    ((rowsum _ _).trans ?_)
  rfl

section
variable (c : Dev nD) (i : grid0.Coords) (a1 : Memref sig .tc .vmem S256x1024 .f32) (h1 : a1.IsWhole) (a2 : Memref sig .tc .vmem S1x1024 .f32) (h2 : a2.IsWhole)
  (a4 : Memref sig .tc .vmem S256x1024 .bf16) (h4 : a4.IsWhole) (x0 : Vec Ideal S256x1024 .f32) (x1 : Vec Ideal S1x1024 .f32)

theorem out2 : out0_A_2 c i a1 h1 a2 h2 a4 h4 x0 x1 = k0_pay1 x0 x1 := by
  unfold out0_A_2
  rw [View.read_writes_eq_canon _ _ _ (cover0_A_2 c i a1 h1 a2 h2 a4 h4 x0 x1)]
  unfold kernelRun0_A
  dsimp only
  sl_unfold_words
  rw [View.canon_unit_zero zeros2]
  simp only [View.readAt_eq_ld, h1.read_unread, h2.read_unread, View.ld_unit_zero (S := S256x1024) zeros2, View.ld_unit_zero (S := S1x1024) zeros2]
end

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 0 ∧ win0_1.index t 1 = 0 :=
  (by decide +kernel : ∀ t : Fin grid0.N, win0_1.index t 0 = 0 ∧ win0_1.index t 1 = 0)
theorem index2 : ∀ t : Fin cfg0.N, win0_2.index t 0 = t.val ∧ win0_2.index t 1 = 0 :=
  (by decide +kernel : ∀ t : Fin grid0.N, win0_2.index t 0 = t.val ∧ win0_2.index t 1 = 0)

variable (m : (ℓ : Loc nD τ sig) → Buf (Elt Ideal) ℓ) (c : Dev nD)

theorem rows (t : Fin cfg0.N) (j : S256x1024.Idx) (i : S2048x1024.Idx) (h0 : (i 0).val = 256 * t.val + (j 0).val) (h1 : (i 1).val = (j 1).val) :
    @Eq EReal (iblk m c 0 t j) (m ((c : Thread nD τ).loc main_arg0) i) := by
  unfold iblk
  refine (View.read_apply _ _).trans ?_
  show @Eq EReal (V m c main_arg0 _) _
  rw [V_main_arg0]
  obtain ⟨e0, e1⟩ := index0 t
  refine congrArg _ (idx2 ?_ ?_)
  · show win0_0.index t 0 * 256 + 1 * (j 0).val = (i 0).val; omega
  · show win0_0.index t 1 * 1024 + 1 * (j 1).val = (i 1).val; omega

theorem gain (t : Fin cfg0.N) (j i : S1x1024.Idx) (h1 : (i 1).val = (j 1).val) :
    @Eq EReal (iblk m c 1 t j) (m ((c : Thread nD τ).loc main_arg1) i) := by
  unfold iblk
  refine (View.read_apply _ _).trans ?_
  show @Eq EReal (V m c main_arg1 _) _
  rw [V_main_arg1]
  obtain ⟨e0, e1⟩ := index1 t
  have j0 : (j 0).val < 1 := (j 0).isLt
  have i0 : (i 0).val < 1 := (i 0).isLt
  refine congrArg _ (idx2 ?_ ?_)
  · show win0_1.index t 0 * 1 + 1 * (j 0).val = (i 0).val; omega
  · show win0_1.index t 1 * 1024 + 1 * (j 1).val = (i 1).val; omega

theorem outs (t : Fin cfg0.N) : outsAt0 m c t = k0_pay1 (iblk m c 0 t) (iblk m c 1 t) := by
  unfold outsAt0
  exact out2 c (grid0.coords t) (ms0_0 t) (hs0_0 t) (ms0_1 t) (hs0_1 t) (ms0_2 t) (hs0_2 t) (iblk m c 0 t) (iblk m c 1 t)

/-- What point `t` leaves at an element of its block is the normed array there. -/
theorem point (t : Fin cfg0.N) (j : S256x1024.Idx) (i : S2048x1024.Idx) (h0 : (i 0).val = 256 * t.val + (j 0).val) (h1 : (i 1).val = (j 1).val) :
    @Eq EReal (outsAt0 m c t j) (whole (m ((c : Thread nD τ).loc main_arg0)) (m ((c : Thread nD τ).loc main_arg1)) i) := by
  refine (congrFun (outs m c t) j).trans ((stored _ _ j).trans ?_)
  unfold whole
  rw [gain m c t (ix2 0 (j 1)) (ix2 0 (i 1)) h1, rows m c t (ix2 (j 0) (j 1)) (ix2 (i 0) (i 1)) h0 h1]
  exact congrArg (fun f => normed f _ _) (funext fun k => rows m c t (ix2 (j 0) k) (ix2 (i 0) k) h0 rfl)

theorem arr : (dats m 0 c).arrAt 2 cfg0.N = whole (m ((c : Thread nD τ).loc main_arg0)) (m ((c : Thread nD τ).loc main_arg1)) := by
  refine (dats m 0 c).arrAt_eq_of_cover 2 _ (fun t _ => ?_) fun (i : S2048x1024.Idx) => ?_
  · show (cfg0.win 2).cut (grid0.coords t) ((dats m 0 c).after 2 t) = _
    rw [after0_2]
    refine funext fun (j : S256x1024.Idx) => ?_
    obtain ⟨e0, e1⟩ := index2 t
    refine point m c t j (((cfg0.win 2).blk t).view.emb j) ?_ ?_
    · show win0_2.index t 0 * 256 + 1 * (j 0).val = _; omega
    · show win0_2.index t 1 * 1024 + 1 * (j 1).val = _; omega
  · have i0 : (i 0).val < 2048 := (i 0).isLt
    have i1 : (i 1).val < 1024 := (i 1).isLt
    let t : Fin cfg0.N := ⟨(i 0).val / 256, by show _ < 8; omega⟩
    refine ⟨t, flush0_2 t, ?_⟩
    obtain ⟨e0, e1⟩ := index2 t
    have h := ((cfg0.win 2).blk t).view.emb_mem_set (ix2 (⟨(i 0).val % 256, by omega⟩ : Fin 256) (⟨(i 1).val, i1⟩ : Fin 1024))
    refine Eq.mp (congrArg (· ∈ _) (idx2 ?_ ?_)) h
    · show win0_2.index t 0 * 256 + 1 * ((i 0).val % 256) = (i 0).val
      rw [e0]; show (i 0).val / 256 * 256 + _ = _; omega
    · show win0_2.index t 1 * 1024 + 1 * (i 1).val = (i 1).val; omega

open Cert.RmsMixRefIdeal.Read in
/-- The reference's stages, read back to its arguments. -/
theorem ref (x : S2048x1024.Idx → EReal) (g : S1x1024.Idx → EReal) : Cert.RmsMixRefIdeal.Read.val_main_v12 (F := Ideal) x g = whole x g := by
  funext i
  have h0 : (val_main_cst (F := Ideal) (Shape.Idx.first Cert.RmsMixRefIdeal.Gen.h_S_) : EReal) = 0 := Ideal.ofBits_zero_f32
  refine congrArg₂ (fun a b : EReal => a * b) (congrArg₂ (fun a b : EReal => a * b) (congrArg x (idx2 rfl rfl)) ?_)
    ((val_main_v10_apply (F := Ideal) g i).trans (congrArg g (idx2 rfl rfl)))
  refine (val_main_v8_apply (F := Ideal) x i).trans ?_
  refine congrArg (fun s : EReal => Ideal.rsqrt (Ideal.div s (Scalar.ofBits (F := Ideal) .f32 0x44800000#32) + (Scalar.ofBits (F := Ideal) .f32 0x358637BD#32 : EReal))) ?_
  rw [val_main_v2_apply, val_main_v1_apply, h0, zero_add]
  exact Finset.sum_congr rfl fun k _ => congrArg₂ (fun a b : EReal => a * b) (congrArg x (idx2 rfl rfl)) (congrArg x (idx2 rfl rfl))

end Cert.RmsMixIdeal.Head

end
-- ==== Proof.GkFwdValue.lean ====
/- The decay of the gated attention: a product of low rank, its bias and the logarithm of the sigmoid. The kernel's tiles and
   the reference's array are the same. -/
module

public import proofs.«01_k».proof.Proof.Products
public import proofs.«01_k».proof.Proof.Gen.GkFwdIdeal.Value
public import proofs.«01_k».proof.Proof.Gen.GkFwdRefIdeal.Read
public import Idealize.ShloMosaic.Lib.IdealHost

@[expose] public section

noncomputable section

namespace Cert.GkFwdIdeal.Head

open Cert.GkFwdIdeal Cert.GkFwdIdeal.Gen Cert.GkFwdIdeal.Value Cert.Products Idealize.ShloMosaic Idealize.ShloMosaic.TcCoe
open Idealize.ShloMosaic.Pipeline (Dat)

/-! ## The logarithm of the sigmoid -/

/-- The logarithm of `1 + e^(-|p|)`. -/
def tail (p : EReal) : EReal := Ideal.log (1 + Ideal.exp (-max p (-p)))
/-- The logarithm of the sigmoid, written so that no exponential is large. -/
def logsig (p : EReal) : EReal := min p 0 - tail p

theorem log_one : Ideal.log 1 = 0 := by
  show (if (1 : ℝ) ≤ 0 then (⊥ : EReal) else ((Real.log 1 : ℝ) : EReal)) = 0
  rw [if_neg (by norm_num), Real.log_one, EReal.coe_zero]

theorem tail_ne_bot (p : EReal) : tail p ≠ ⊥ := by
  unfold tail
  induction p with
  | bot => rw [EReal.neg_bot, max_eq_right bot_le, EReal.neg_top, Ideal.exp_bot, add_zero, log_one]; exact EReal.zero_ne_bot
  | top => rw [EReal.neg_top, max_eq_left bot_le, EReal.neg_top, Ideal.exp_bot, add_zero, log_one]; exact EReal.zero_ne_bot
  | coe r =>
    have h : Ideal.log (1 + Ideal.exp (-max (r : EReal) (-(r : EReal)))) = ((Real.log (1 + Real.exp (-max r (-r))) : ℝ) : EReal) := by
      have hp : 0 < 1 + Real.exp (-max r (-r)) := by positivity
      rw [← EReal.coe_neg, ← (EReal.coe_strictMono.monotone.map_max), ← EReal.coe_neg, Ideal.exp_coe, ← EReal.coe_one, ← EReal.coe_add]
      show (if 1 + Real.exp (-max r (-r)) ≤ 0 then (⊥ : EReal) else _) = _
      rw [if_neg (not_le.mpr hp)]
    rw [h]
    exact EReal.coe_ne_bot _

theorem neg_max_neg (p : EReal) : -max (-p) 0 = min p 0 := by
  rcases le_total p 0 with h | h
  · rw [min_eq_left h, max_eq_left (by rw [EReal.le_neg, neg_zero]; exact h), neg_neg]
  · rw [min_eq_right h, max_eq_right (by rw [EReal.neg_le, neg_zero]; exact h), neg_zero]

/-- The reference takes the larger of `-p` and `0`, adds the same logarithm and changes the sign. -/
theorem logsig_ref (p : EReal) : -(max (-p) 0 + Ideal.log1p (Ideal.exp (-max (-p - 0) (-(-p - 0))))) = logsig p := by
  unfold Ideal.log1p
  rw [sub_zero, neg_neg, max_comm (-p) p]
  show -(max (-p) 0 + tail p) = _
  have hm : max (-p) 0 ≠ ⊥ := fun h => absurd (h ▸ le_max_right (-p) 0 : (0 : EReal) ≤ ⊥) (by simp)
  rw [EReal.neg_add (.inl hm) (.inr (tail_ne_bot p)), neg_max_neg]
  rfl

/-! ## The kernel's tiles -/

/-- The product of low rank and its bias, at an element. -/
def pre (x : Fin 1024 → EReal) (y : Fin 128 → Fin 1024 → EReal) (z : Fin 128 → EReal) (b : EReal) : EReal :=
  (∑ k, (∑ l, x l * y k l) * z k) + b

/-- The decay. -/
def whole (x : S2048x1024.Idx → EReal) (y : S5760x1024.Idx → EReal) (z : S128x512.Idx → EReal) (b : S1x512.Idx → EReal) (i : S2048x512.Idx) : EReal :=
  logsig (pre (fun l => x (ix2 (i 0) l)) (fun k l => y (ix2 ⟨5632 + k.val, by omega⟩ l)) (fun k => z (ix2 k (i 1))) (b (ix2 0 (i 1))))
    * ((1 / 16 : ℝ) : EReal)

theorem sixteenth : Ideal.ofBits .f32 0x3D800000#32 = ((1 / 16 : ℝ) : EReal) := by
  simp [Ideal.ofBits, Ideal.ieee, -EReal.coe_mul]
  try norm_num
theorem sixteen : Ideal.ofBits .f32 0x41800000#32 = ((16 : ℝ) : EReal) := by
  simp [Ideal.ofBits, Ideal.ieee, -EReal.coe_mul]
  try norm_num

theorem pre_at (x0 : FVec Ideal S512x1024 .bf16) (x1 : FVec Ideal S128x1024 .bf16) (x2 : FVec Ideal S128x512 .f32) (x3 : FVec Ideal S1x512 .f32) (j : S512x512.Idx) :
    @Eq EReal (addf (F := Ideal) (matmul dot_S512x128_S128x512_S512x512_1_0_0_1_n_n none
        (truncf .bf16 (matmul dot_S512x1024_S128x1024_S512x128_1_1_0_0_n_n none x0 x1 (constant S512x128 .f32 0x00000000#32)) bitsLt_bf16_f32)
        (truncf .bf16 x2 bitsLt_bf16_f32) (constant S512x512 .f32 0x00000000#32)) (broadcastTo S512x512 x3 broadcasts_S1x512_S512x512) j)
      (pre (fun l => x0 (ix2 (j 0) l)) (fun k l => x1 (ix2 k l)) (fun k => x2 (ix2 k (j 1))) (x3 (ix2 0 (j 1)))) := by
  refine congrArg₂ (fun a b : EReal => a + b) ?_ (congrArg x3 (idx2 rfl rfl))
  refine (mm (φ₁ := .bf16) (φ₂ := .bf16) (K := 128) dot_S512x128_S128x512_S512x512_1_0_0_1_n_n rfl rfl none _ _ j (fun k => ix2 (j 0) k) (fun k => ix2 k (j 1))
    (fun k => idx2 rfl rfl) (fun k => idx2 rfl rfl)).trans ?_
  refine Finset.sum_congr rfl fun k _ => congrArg₂ (fun a b : EReal => a * b) ?_ rfl
  exact mm (φ₁ := .bf16) (φ₂ := .bf16) (K := 1024) dot_S512x1024_S128x1024_S512x128_1_1_0_0_n_n rfl rfl none x0 x1 (ix2 (j 0) k) (fun l => ix2 (j 0) l) (fun l => ix2 k l)
    (fun k => idx2 rfl rfl) (fun k => idx2 rfl rfl)

theorem stored (x0 : FVec Ideal S512x1024 .bf16) (x1 : FVec Ideal S128x1024 .bf16) (x2 : FVec Ideal S128x512 .f32) (x3 : FVec Ideal S1x512 .f32) (j : S512x512.Idx) :
    @Eq EReal (k0_pay1 (F := Ideal) x0 x1 x2 x3 j)
      (logsig (pre (fun l => x0 (ix2 (j 0) l)) (fun k l => x1 (ix2 k l)) (fun k => x2 (ix2 k (j 1))) (x3 (ix2 0 (j 1)))) * ((1 / 16 : ℝ) : EReal)) := by
  rw [← pre_at x0 x1 x2 x3 j]
  unfold k0_pay1
  rw [shapeCast_self]
  generalize hp : addf (F := Ideal) (matmul dot_S512x128_S128x512_S512x512_1_0_0_1_n_n none _ _ _) _ = p
  show ((min (p j : EReal) (Ideal.ofBits .f32 0x00000000#32))
    - Ideal.log (Ideal.ofBits .f32 0x3F800000#32 + Ideal.exp (Ideal.ofBits .f32 0x00000000#32 - max (p j : EReal) (-(p j : EReal))))) * Ideal.ofBits .f32 0x3D800000#32 = _
  rw [Ideal.ofBits_zero_f32, Ideal.ofBits_one_f32, sixteenth, zero_sub]
  rfl

/-- What one grid point stores. -/
theorem block (x0 : Vec Ideal S512x1024 .bf16) (x1 : Vec Ideal S128x1024 .bf16) (x2 : Vec Ideal S128x512 .f32) (x3 : Vec Ideal S1x512 .f32) (j : S512x512.Idx) :
    @Eq EReal (out0_4 x0 x1 x2 x3 j)
      (logsig (pre (fun l => x0 (ix2 (j 0) l)) (fun k l => x1 (ix2 k l)) (fun k => x2 (ix2 k (j 1))) (x3 (ix2 0 (j 1)))) * ((1 / 16 : ℝ) : EReal)) := by
  unfold out0_4
  rw [View.canon_unit_zero zeros2, View.ld_unit_zero (S := S512x1024) zeros2, View.ld_unit_zero (S := S128x1024) zeros2, View.ld_unit_zero (S := S128x512) zeros2,
    View.ld_unit_zero (S := S1x512) zeros2]
  exact stored x0 x1 x2 x3 j

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = 44 ∧ win0_1.index t 1 = 0 :=
  (by decide +kernel : ∀ t : Fin grid0.N, win0_1.index t 0 = 44 ∧ win0_1.index t 1 = 0)
theorem index2 : ∀ t : Fin cfg0.N, win0_2.index t 0 = 0 ∧ win0_2.index t 1 = 0 :=
  (by decide +kernel : ∀ t : Fin grid0.N, win0_2.index t 0 = 0 ∧ win0_2.index t 1 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = t.val ∧ win0_4.index t 1 = 0 :=
  (by decide +kernel : ∀ t : Fin grid0.N, win0_4.index t 0 = t.val ∧ win0_4.index t 1 = 0)

variable (m : (ℓ : Loc nD τ sig) → Buf (Elt Ideal) ℓ) (c : Dev nD)

theorem blk0 (t : Fin cfg0.N) (a : Fin 512) (b : Fin 1024) (i : Fin 2048) (h : i.val = 512 * t.val + a.val) :
    @Eq EReal (iblk m c 0 t (ix2 a b)) (m ((c : Thread nD τ).loc main_arg0) (ix2 i b)) := by
  unfold iblk
  refine (View.read_apply _ _).trans ?_
  show @Eq EReal (V m c main_arg0 _) _
  rw [V_main_arg0]
  obtain ⟨e0, e1⟩ := index0 t
  refine congrArg _ (idx2 ?_ ?_)
  · show win0_0.index t 0 * 512 + 1 * a.val = i.val; omega
  · show win0_0.index t 1 * 1024 + 1 * b.val = b.val; omega
theorem blk1 (t : Fin cfg0.N) (a : Fin 128) (b : Fin 1024) :
    @Eq EReal (iblk m c 1 t (ix2 a b)) (m ((c : Thread nD τ).loc main_arg1) (ix2 (⟨5632 + a.val, by omega⟩ : Fin 5760) b)) := by
  unfold iblk
  refine (View.read_apply _ _).trans ?_
  show @Eq EReal (V m c main_arg1 _) _
  rw [V_main_arg1]
  obtain ⟨e0, e1⟩ := index1 t
  refine congrArg _ (idx2 ?_ ?_)
  · show win0_1.index t 0 * 128 + 1 * a.val = 5632 + a.val; omega
  · show win0_1.index t 1 * 1024 + 1 * b.val = b.val; omega
theorem blk2 (t : Fin cfg0.N) (a : Fin 128) (b d : Fin 512) (h : d.val = b.val) :
    @Eq EReal (iblk m c 2 t (ix2 a b)) (m ((c : Thread nD τ).loc main_arg2) (ix2 a d)) := by
  unfold iblk
  refine (View.read_apply _ _).trans ?_
  show @Eq EReal (V m c main_arg2 _) _
  rw [V_main_arg2]
  obtain ⟨e0, e1⟩ := index2 t
  refine congrArg _ (idx2 ?_ ?_)
  · show win0_2.index t 0 * 128 + 1 * a.val = a.val; omega
  · show win0_2.index t 1 * 512 + 1 * b.val = d.val; omega
theorem blk3 (t : Fin cfg0.N) (b d : Fin 512) (h : d.val = b.val) :
    @Eq EReal (iblk m c 3 t (ix2 (0 : Fin 1) b)) (m ((c : Thread nD τ).loc main_arg3) (ix2 (0 : Fin 1) d)) := by
  unfold iblk
  refine (View.read_apply _ _).trans ?_
  show @Eq EReal (V m c main_arg3 _) _
  rw [V_main_arg3]
  obtain ⟨e0, e1⟩ := index3 t
  refine congrArg _ (idx2 ?_ ?_)
  · show win0_3.index t 0 * 1 + 1 * 0 = 0; omega
  · show win0_3.index t 1 * 512 + 1 * b.val = d.val; omega

/-- What point `t` leaves at an element of its block is the decay there. -/
theorem at_block (t : Fin cfg0.N) (j : S512x512.Idx) (i : S2048x512.Idx) (h0 : (i 0).val = 512 * t.val + (j 0).val) (h1 : (i 1).val = (j 1).val) :
    @Eq EReal (out0_4 (iblk m c 0 t) (iblk m c 1 t) (iblk m c 2 t) (iblk m c 3 t) j)
      (whole (m ((c : Thread nD τ).loc main_arg0)) (m ((c : Thread nD τ).loc main_arg1)) (m ((c : Thread nD τ).loc main_arg2)) (m ((c : Thread nD τ).loc main_arg3)) i) := by
  refine (block _ _ _ _ j).trans (congrArg (fun p => logsig p * ((1 / 16 : ℝ) : EReal)) ?_)
  unfold pre
  refine congrArg₂ (fun a b : EReal => a + b) (Finset.sum_congr rfl fun k _ => congrArg₂ (fun a b : EReal => a * b)
    (Finset.sum_congr rfl fun l _ => congrArg₂ (fun a b : EReal => a * b) (blk0 m c t (j 0) l (i 0) h0) (blk1 m c t k l)) (blk2 m c t k (j 1) (i 1) h1))
    (blk3 m c t (j 1) (i 1) h1)

theorem arr : (dats m 0 c).arrAt 4 cfg0.N
    = whole (m ((c : Thread nD τ).loc main_arg0)) (m ((c : Thread nD τ).loc main_arg1)) (m ((c : Thread nD τ).loc main_arg2)) (m ((c : Thread nD τ).loc main_arg3)) := by
  refine (dats m 0 c).arrAt_eq_of_cover 4 _ (fun t _ => ?_) fun i => ?_
  · rw [flushed4]
    funext j
    rw [View.read_apply]
    obtain ⟨e0, e1⟩ := index4 t
    have d0 : (((cfg0.win 4).blk t).view.emb j 0).val = 512 * t.val + (j 0).val := by
      show win0_4.index t 0 * 512 + 1 * (j 0).val = _; omega
    have d1 : (((cfg0.win 4).blk t).view.emb j 1).val = (j 1).val := by
      show win0_4.index t 1 * 512 + 1 * (j 1).val = _; omega
    exact at_block m c t j _ d0 d1
  · have i0 : (i 0).val < 2048 := (i 0).isLt
    have i1 : (i 1).val < 512 := (i 1).isLt
    let t : Fin cfg0.N := ⟨(i 0).val / 512, by show _ < 4; omega⟩
    refine ⟨t, flush0_4 t, ?_⟩
    obtain ⟨e0, e1⟩ := index4 t
    have h := ((cfg0.win 4).blk t).view.emb_mem_set (ix2 (⟨(i 0).val % 512, by omega⟩ : Fin 512) (⟨(i 1).val, i1⟩ : Fin 512))
    refine Eq.mp (congrArg (· ∈ _) (idx2 ?_ ?_)) h
    · show win0_4.index t 0 * 512 + 1 * ((i 0).val % 512) = (i 0).val
      rw [e0]; show (i 0).val / 512 * 512 + _ = _; omega
    · show win0_4.index t 1 * 512 + 1 * (i 1).val = (i 1).val; omega

open Cert.GkFwdRefIdeal.Read in
/-- The reference's product and bias. -/
theorem ref_pre (x : S2048x1024.Idx → EReal) (y : S5760x1024.Idx → EReal) (z : S128x512.Idx → EReal) (b : S1x512.Idx → EReal) (i : S2048x512.Idx) :
    @Eq EReal (Cert.GkFwdRefIdeal.Read.val_main_v7 (F := Ideal) x y z b i)
      (pre (fun l => x (ix2 (i 0) l)) (fun k l => y (ix2 ⟨5632 + k.val, by omega⟩ l)) (fun k => z (ix2 k (i 1))) (b (ix2 0 (i 1)))) := by
  refine congrArg₂ (fun a b : EReal => a + b) ?_ ((val_main_v6_apply (F := Ideal) b i).trans (congrArg b (idx2 rfl rfl)))
  rw [val_main_v5_apply]
  refine Finset.sum_congr rfl fun k _ => congrArg₂ (fun a b : EReal => a * b) ?_ (congrArg z (idx2 rfl rfl))
  rw [val_main_v4_apply]
  refine Finset.sum_congr rfl fun l _ => congrArg₂ (fun a b : EReal => a * b) (congrArg x (idx2 rfl rfl)) ?_
  rw [val_main_v3_apply]
  show (val_main_v1 (F := Ideal) y _ : EReal) = _
  rw [val_main_v1_apply]
  exact congrArg y (idx2 rfl rfl)

open Cert.GkFwdRefIdeal.Read in
/-- The reference's stages, read back to its arguments. -/
theorem ref (x : S2048x1024.Idx → EReal) (y : S5760x1024.Idx → EReal) (z : S128x512.Idx → EReal) (b : S1x512.Idx → EReal) :
    Cert.GkFwdRefIdeal.Read.val_main_v10 (F := Ideal) x y z b = whole x y z b := by
  funext i
  have c16 : (val_main_v9 (F := Ideal) i : EReal) = ((16 : ℝ) : EReal) := (val_main_v9_apply (F := Ideal) i).trans sixteen
  have z0 : (val_main_call0_call0_v0 (F := Ideal) i : EReal) = 0 := (val_main_call0_call0_v0_apply (F := Ideal) i).trans Ideal.ofBits_zero_f32
  have z2 : (val_main_call0_call0_v2 (F := Ideal) i : EReal) = 0 := (val_main_call0_call0_v2_apply (F := Ideal) i).trans Ideal.ofBits_zero_f32
  have hs : @Eq EReal (val_main_call0_v1 (F := Ideal) x y z b i) (val_main_call0_call0_v11 (F := Ideal) x y z b i) := by
    show Scalar.select (Ideal.cmp .une (val_main_call0_call0_v3 (F := Ideal) x y z b i) (val_main_call0_call0_v3 (F := Ideal) x y z b i)) _ _ = _
    simp [Ideal.cmp, Scalar.select]
  show Ideal.div (-(val_main_call0_v1 (F := Ideal) x y z b i : EReal)) (val_main_v9 (F := Ideal) i : EReal) = _
  rw [c16, Ideal.div_coe (by norm_num), hs]
  unfold whole
  rw [← ref_pre, ← logsig_ref]
  refine congrArg (fun a : EReal => -a * ((1 / 16 : ℝ) : EReal)) ?_
  show max (-(val_main_v7 (F := Ideal) x y z b i : EReal)) (val_main_call0_call0_v0 (F := Ideal) i : EReal)
    + Ideal.log1p (Ideal.exp (-max (-(val_main_v7 (F := Ideal) x y z b i : EReal) - (val_main_call0_call0_v2 (F := Ideal) i : EReal))
      (-(-(val_main_v7 (F := Ideal) x y z b i : EReal) - (val_main_call0_call0_v2 (F := Ideal) i : EReal))))) = _
  rw [z0, z2]

end Cert.GkFwdIdeal.Head

end
-- ==== Proof.PairSumValue.lean ====
/- The sum of a pair of devices' parts of a gradient: each block is the sum of its entries, and so is the reference's array. -/
module

public import proofs.«01_k».proof.Proof.AdamW
public import proofs.«01_k».proof.Proof.Gen.PairSum.Frame
public import proofs.«01_k».proof.Proof.Gen.PairSumIdeal.Frame
public import proofs.«01_k».proof.Proof.Gen.PairSumRefIdeal.Read

@[expose] public section

noncomputable section

namespace Cert.PairSum.Head

open Cert.PairSum Cert.PairSum.Gen Idealize.ShloMosaic Idealize.ShloMosaic.TcCoe Idealize.ShloMosaic.Tactic

variable {F : FTy → Type} [FloatOps F] (m : (ℓ : Loc nD τ sig) → Buf (Elt F) ℓ)

/-- The table holds the number of the device's own part, which is zero. -/
theorem table (x : S1.Idx) : (V m 0 main_v0 : S1.Idx → BitVec 32) x = 0#32 := by
  have h : (V m 0 main_v0 : S1.Idx → BitVec 32) = broadcastInDim S1 ![] bcast_S_S1 (constantI S_ 32 0#32) := by
    after_results_simp <;> rfl
  rw [h]
  rfl
/-- The block of the parts that a point reads, when the table holds zero. -/
def own (i : grid0.Coords) : Fin 4 → Nat := ![(i 0).val, 0, (i 1).val, (i 2).val]
theorem small (i : grid0.Coords) : (i 0).val < 4 ∧ (i 1).val < 1 ∧ (i 2).val < 1 := ⟨(i 0).isLt, (i 1).isLt, (i 2).isLt⟩
theorem word (n : Nat) (h : n < 4) : (BitVec.ofNat 32 n).toNat = n := by
  rw [BitVec.toNat_ofNat, Nat.mod_eq_of_lt (by omega)]
theorem index_own (i : grid0.Coords) : cc0_transform_0 inb_S1_S1_0 numel1_S1 (tbl m) i = own i := by
  have h : (tbl m).at 0 (Rect.unit (s := S1) ![0] S1.size inb_S1_S1_0) numel1_S1 = (0#32 : BitVec 32) := table m _
  obtain ⟨h0, h1, h2⟩ := small i
  unfold cc0_transform_0 own
  dsimp only
  rw [h, word (i 0).val (by omega), word (i 1).val (by omega), word (i 2).val (by omega)]
  rfl
theorem inside (i : grid0.Coords) (a : Fin 4) : (own i a + 1) * S1x1x128x1024.size a ≤ S4x2x128x1024.size a := by
  obtain ⟨h0, h1, h2⟩ := small i
  match a with
  | ⟨0, _⟩ => show ((i 0).val + 1) * 1 ≤ 4; omega
  | ⟨1, _⟩ => show (0 + 1) * 1 ≤ 2; omega
  | ⟨2, _⟩ => show ((i 1).val + 1) * 128 ≤ 128; omega
  | ⟨3, _⟩ => show ((i 2).val + 1) * 1024 ≤ 1024; omega
/-- Every block the table points to lies inside its array. -/
theorem ok : Ok m := fun i => ⟨fun a => by rw [index_own]; exact inside i a, .inr (Affine.block_words_dvd (of_decide_eq_true rfl) (by decide))⟩

end Cert.PairSum.Head

namespace Cert.PairSumIdeal.Head

open Cert.PairSumIdeal Cert.PairSumIdeal.Gen Idealize.ShloMosaic Idealize.ShloMosaic.TcCoe Idealize.ShloMosaic.Tactic

variable {F : FTy → Type} [FloatOps F] (m : (ℓ : Loc nD τ sig) → Buf (Elt F) ℓ)

/-- The table holds the number of the device's own part, which is zero. -/
theorem table (x : S1.Idx) : (V m 0 main_v0 : S1.Idx → BitVec 32) x = 0#32 := by
  have h : (V m 0 main_v0 : S1.Idx → BitVec 32) = broadcastInDim S1 ![] bcast_S_S1 (constantI S_ 32 0#32) := by
    after_results_simp <;> rfl
  rw [h]
  rfl
/-- The block of the parts that a point reads, when the table holds zero. -/
def own (i : grid0.Coords) : Fin 4 → Nat := ![(i 0).val, 0, (i 1).val, (i 2).val]
theorem small (i : grid0.Coords) : (i 0).val < 4 ∧ (i 1).val < 1 ∧ (i 2).val < 1 := ⟨(i 0).isLt, (i 1).isLt, (i 2).isLt⟩
theorem word (n : Nat) (h : n < 4) : (BitVec.ofNat 32 n).toNat = n := by
  rw [BitVec.toNat_ofNat, Nat.mod_eq_of_lt (by omega)]
theorem index_own (i : grid0.Coords) : cc0_transform_0 inb_S1_S1_0 numel1_S1 (tbl m) i = own i := by
  have h : (tbl m).at 0 (Rect.unit (s := S1) ![0] S1.size inb_S1_S1_0) numel1_S1 = (0#32 : BitVec 32) := table m _
  obtain ⟨h0, h1, h2⟩ := small i
  unfold cc0_transform_0 own
  dsimp only
  rw [h, word (i 0).val (by omega), word (i 1).val (by omega), word (i 2).val (by omega)]
  rfl
theorem inside (i : grid0.Coords) (a : Fin 4) : (own i a + 1) * S1x1x128x1024.size a ≤ S4x2x128x1024.size a := by
  obtain ⟨h0, h1, h2⟩ := small i
  match a with
  | ⟨0, _⟩ => show ((i 0).val + 1) * 1 ≤ 4; omega
  | ⟨1, _⟩ => show (0 + 1) * 1 ≤ 2; omega
  | ⟨2, _⟩ => show ((i 1).val + 1) * 128 ≤ 128; omega
  | ⟨3, _⟩ => show ((i 2).val + 1) * 1024 ≤ 1024; omega
/-- Every block the table points to lies inside its array. -/
theorem ok : Ok m := fun i => ⟨fun a => by rw [index_own]; exact inside i a, .inr (Affine.block_words_dvd (of_decide_eq_true rfl) (by decide))⟩

end Cert.PairSumIdeal.Head

namespace Cert.PairSumIdeal.Head

open Cert.PairSumIdeal Cert.PairSumIdeal.Gen Cert.Products Cert.AdamW Idealize.ShloMosaic Idealize.ShloMosaic.TcCoe Idealize.ShloMosaic.Tactic
open Idealize.ShloMosaic.Pipeline (Dat)

/-- The device's own parts and the parts it received, added. -/
def both (p : S4x2x128x1024.Idx → EReal) (r : S4x128x1024.Idx → EReal) (i : S4x128x1024.Idx) : EReal :=
  p (ix4 (i 0) 0 (i 1) (i 2)) + r (ix3 (i 0) (i 1) (i 2))

theorem flat4 (x : FVec Ideal S1x1x128x1024 .bf16) (a : Fin 128) (b : Fin 1024) :
    shapeCast S128x1024 x shapeCasts_S1x1x128x1024_S128x1024 (ix2 a b) = x (ix4 0 0 a b) :=
  shapeCast_apply x _ _ _ (by
    rw [Shape.rowMajor_val_four, Shape.rowMajor_val_two]
    show ((0 * 1 + 0) * 128 + a.val) * 1024 + b.val = a.val * 1024 + b.val
    omega)
theorem flat3 (x : FVec Ideal S1x128x1024 .bf16) (a : Fin 128) (b : Fin 1024) :
    shapeCast S128x1024 x shapeCasts_S1x128x1024_S128x1024 (ix2 a b) = x (ix3 0 a b) :=
  shapeCast_apply x _ _ _ (by
    rw [Shape.rowMajor_val_three, Shape.rowMajor_val_two]
    show (0 * 128 + a.val) * 1024 + b.val = a.val * 1024 + b.val
    omega)

/-- What one grid point stores. -/
theorem stored (x : FVec Ideal S1x1x128x1024 .bf16) (y : FVec Ideal S1x128x1024 .bf16) (j : S1x128x1024.Idx) :
    @Eq EReal (k0_pay1 (F := Ideal) x y j) ((x (ix4 0 0 (j 1) (j 2)) : EReal) + (y (ix3 0 (j 1) (j 2)) : EReal)) := by
  unfold k0_pay1
  have j0 : (j 0).val < 1 := (j 0).isLt
  refine (shapeCast_apply _ shapeCasts_S128x1024_S1x128x1024 j (ix2 (j 1) (j 2)) ?_).trans ?_
  · rw [Shape.rowMajor_val_three, Shape.rowMajor_val_two]
    show (j 1).val * 1024 + (j 2).val = ((j 0).val * 128 + (j 1).val) * 1024 + (j 2).val
    omega
  · exact congrArg₂ (fun a b : EReal => a + b) (flat4 x (j 1) (j 2)) (flat3 y (j 1) (j 2))

section
variable (c : Dev nD) (i : grid0.Coords) (a4 : Memref sig .tc .vmem S1x1x128x1024 .bf16) (h4 : a4.IsWhole) (a5 : Memref sig .tc .vmem S1x128x1024 .bf16) (h5 : a5.IsWhole)
  (a6 : Memref sig .tc .vmem S1x128x1024 .bf16) (h6 : a6.IsWhole) (x0 : Vec Ideal S1x1x128x1024 .bf16) (x1 : Vec Ideal S1x128x1024 .bf16) (xt : TbBuf0 (F := Ideal) c tbM0_0)

theorem out2 : out0_A_2 c i a4 h4 a5 h5 a6 h6 x0 x1 xt = k0_pay1 x0 x1 := by
  unfold out0_A_2
  rw [View.read_writes_eq_canon _ _ _ (cover0_A_2 c i a4 h4 a5 h5 a6 h6 x0 x1 xt)]
  unfold kernelRun0_A
  dsimp only
  sl_unfold_words
  rw [View.canon_unit_zero zeros3]
  simp only [View.readAt_eq_ld, h4.read_unread, h5.read_unread, View.ld_unit_zero (S := S1x1x128x1024) zeros4, View.ld_unit_zero (S := S1x128x1024) zeros3]
end

theorem index0 : ∀ t : Fin grid0.N, own (grid0.coords t) 0 = t.val ∧ own (grid0.coords t) 1 = 0 ∧ own (grid0.coords t) 2 = 0 ∧ own (grid0.coords t) 3 = 0 := by decide +kernel
theorem index1 : ∀ t : Fin grid0.N, cc0_transform_1 (grid0.coords t) 0 = t.val ∧ cc0_transform_1 (grid0.coords t) 1 = 0 ∧ cc0_transform_1 (grid0.coords t) 2 = 0 := by decide +kernel
theorem index2 : ∀ t : Fin grid0.N, cc0_transform_2 (grid0.coords t) 0 = t.val ∧ cc0_transform_2 (grid0.coords t) 1 = 0 ∧ cc0_transform_2 (grid0.coords t) 2 = 0 := by decide +kernel

variable (m : (ℓ : Loc nD τ sig) → Buf (Elt Ideal) ℓ) (hO : Ok m) (c : Dev nD)

theorem blk0 (t : Fin (cfgM m hO).N) (a : Fin 128) (b : Fin 1024) (k : Fin 4) (x : Fin 128) (y : Fin 1024) (hk : k.val = t.val) (hx : x.val = a.val) (hy : y.val = b.val) :
    iblk m hO c 0 t (ix4 0 0 a b) = (m ((c.tc : Thread nD τ).loc main_arg0)) (ix4 k 0 x y) := by
  obtain ⟨e0, e1, e2, e3⟩ := index0 t
  rw [← index_own m] at e0 e1 e2 e3
  unfold iblk
  refine (View.read_apply _ _).trans ?_
  show V m c main_arg0 _ = _
  rw [V_main_arg0]
  refine congrArg _ (idx4 ?_ ?_ ?_ ?_)
  · show cc0_transform_0 inb_S1_S1_0 numel1_S1 (tbl m) (grid0.coords t) 0 * 1 + 1 * 0 = k.val; omega
  · show cc0_transform_0 inb_S1_S1_0 numel1_S1 (tbl m) (grid0.coords t) 1 * 1 + 1 * 0 = 0; omega
  · show cc0_transform_0 inb_S1_S1_0 numel1_S1 (tbl m) (grid0.coords t) 2 * 128 + 1 * a.val = x.val; omega
  · show cc0_transform_0 inb_S1_S1_0 numel1_S1 (tbl m) (grid0.coords t) 3 * 1024 + 1 * b.val = y.val; omega
theorem blk1 (t : Fin (cfgM m hO).N) (a : Fin 128) (b : Fin 1024) (k : Fin 4) (x : Fin 128) (y : Fin 1024) (hk : k.val = t.val) (hx : x.val = a.val) (hy : y.val = b.val) :
    iblk m hO c 1 t (ix3 0 a b) = (m ((c.tc : Thread nD τ).loc main_arg1)) (ix3 k x y) := by
  obtain ⟨e0, e1, e2⟩ := index1 t
  unfold iblk
  refine (View.read_apply _ _).trans ?_
  show V m c main_arg1 _ = _
  rw [V_main_arg1]
  refine congrArg _ (idx3 ?_ ?_ ?_)
  · show cc0_transform_1 (grid0.coords t) 0 * 1 + 1 * 0 = k.val; omega
  · show cc0_transform_1 (grid0.coords t) 1 * 128 + 1 * a.val = x.val; omega
  · show cc0_transform_1 (grid0.coords t) 2 * 1024 + 1 * b.val = y.val; omega

theorem outs (t : Fin (cfgM m hO).N) : outsAt0 m hO c t = k0_pay1 (iblk m hO c 0 t) (iblk m hO c 1 t) := by
  unfold outsAt0
  exact out2 c (grid0.coords t) (ms0_0 m hO t) (hs0_0 m hO t) (ms0_1 m hO t) (hs0_1 m hO t) (ms0_2 m hO t) (hs0_2 m hO t) (iblk m hO c 0 t) (iblk m hO c 1 t) (tbl m 0)

/-- What point `t` leaves at an element of its block is the sum there. -/
theorem point (t : Fin (cfgM m hO).N) (j : S1x128x1024.Idx) (i : S4x128x1024.Idx) (hk : (i 0).val = t.val) (hx : (i 1).val = (j 1).val) (hy : (i 2).val = (j 2).val) :
    @Eq EReal (outsAt0 m hO c t j) (both (m ((c.tc : Thread nD τ).loc main_arg0)) (m ((c.tc : Thread nD τ).loc main_arg1)) i) :=
  (congrFun (outs m hO c t) j).trans ((stored _ _ j).trans (congrArg₂ (fun a b : EReal => a + b)
    (blk0 m hO c t (j 1) (j 2) (i 0) (i 1) (i 2) hk hx hy) (blk1 m hO c t (j 1) (j 2) (i 0) (i 1) (i 2) hk hx hy)))

theorem arr : (dats m hO 0 c).arrAt 2 (cfgM m hO).N = both (m ((c.tc : Thread nD τ).loc main_arg0)) (m ((c.tc : Thread nD τ).loc main_arg1)) := by
  refine (dats m hO 0 c).arrAt_eq_of_cover 2 _ (fun t _ => ?_) fun (i : S4x128x1024.Idx) => ?_
  · show ((cfgM m hO).win 2).cut (grid0.coords t) ((dats m hO 0 c).after 2 t) = _
    rw [after0_2]
    refine funext fun (j : S1x128x1024.Idx) => ?_
    obtain ⟨e0, e1, e2⟩ := index2 t
    have j0 : (j 0).val < 1 := (j 0).isLt
    refine point m hO c t j ((((cfgM m hO).win 2).blk t).view.emb j) ?_ ?_ ?_
    · show cc0_transform_2 (grid0.coords t) 0 * 1 + 1 * (j 0).val = t.val; omega
    · show cc0_transform_2 (grid0.coords t) 1 * 128 + 1 * (j 1).val = (j 1).val; omega
    · show cc0_transform_2 (grid0.coords t) 2 * 1024 + 1 * (j 2).val = (j 2).val; omega
  · have i0 : (i 0).val < 4 := (i 0).isLt
    have i1 : (i 1).val < 128 := (i 1).isLt
    have i2 : (i 2).val < 1024 := (i 2).isLt
    let t : Fin (cfgM m hO).N := ⟨(i 0).val, i0⟩
    refine ⟨t, flush0_2 _ t, ?_⟩
    obtain ⟨e0, e1, e2⟩ := index2 t
    have h := (((cfgM m hO).win 2).blk t).view.emb_mem_set (ix3 (0 : Fin 1) (⟨(i 1).val, i1⟩ : Fin 128) (⟨(i 2).val, i2⟩ : Fin 1024))
    refine Eq.mp (congrArg (· ∈ _) (idx3 ?_ ?_ ?_)) h
    · show cc0_transform_2 (grid0.coords t) 0 * 1 + 1 * 0 = (i 0).val
      rw [e0]; show (i 0).val * 1 + 1 * 0 = (i 0).val; omega
    · show cc0_transform_2 (grid0.coords t) 1 * 128 + 1 * (i 1).val = (i 1).val
      rw [e1]; omega
    · show cc0_transform_2 (grid0.coords t) 2 * 1024 + 1 * (i 2).val = (i 2).val
      rw [e2]; omega

open Cert.PairSumRefIdeal.Read in
/-- The reference's stages, read back to its arguments. -/
theorem ref (p : S4x2x128x1024.Idx → EReal) (r : S4x128x1024.Idx → EReal) : Cert.PairSumRefIdeal.Read.val_main_v5 (F := Ideal) p r = both p r := by
  funext i
  have i0 : (i 0).val < 4 := (i 0).isLt
  have i1 : (i 1).val < 128 := (i 1).isLt
  have i2 : (i 2).val < 1024 := (i 2).isLt
  refine congrArg₂ (fun a b : EReal => a + b) ?_ (congrArg r (idx3 rfl rfl rfl))
  show (val_main_v1 (F := Ideal) p i : EReal) = _
  rw [val_main_v1_apply, val_main_v0_apply]
  refine congrArg p (idx4 ?_ rfl ?_ ?_)
  · show (((i 0).val * 128 + (i 1).val) * 1024 + (i 2).val) / 131072 = (i 0).val; omega
  · show (((i 0).val * 128 + (i 1).val) * 1024 + (i 2).val) / 1024 % 128 = (i 1).val; omega
  · show (((i 0).val * 128 + (i 1).val) * 1024 + (i 2).val) % 1024 = (i 2).val; omega

end Cert.PairSumIdeal.Head

end
-- ==== Proof.MoreCalls.lean ====
/- The norm in front of a mixer, the decay of the gated attention and the sum of a pair of devices' parts: each call runs, and at
   exact arithmetic its result is its reference's. -/
module

public import proofs.«01_k».proof.Defs
public import proofs.«01_k».proof.Proof.RmsMixValue
public import proofs.«01_k».proof.Proof.GkFwdValue
public import proofs.«01_k».proof.Proof.PairSumValue
public import proofs.«01_k».proof.Proof.Gen.RmsMix.Frame
public import proofs.«01_k».proof.Proof.Gen.RmsMixRefIdeal.Run
public import proofs.«01_k».proof.Proof.Gen.GkFwd.Frame
public import proofs.«01_k».proof.Proof.Gen.GkFwdRefIdeal.Run
public import proofs.«01_k».proof.Proof.Gen.PairSumRefIdeal.Run
public import Idealize.ShloMosaic.Adequacy
public import Idealize.ShloMosaic.Init

@[expose] public section

noncomputable section

namespace Cert.Proof

open Idealize.ShloMosaic Idealize.SL.Sem Idealize.ShloMosaic.StableHlo Idealize.ShloMosaic.TcCoe

theorem frame_p_RmsMix : Cert.quiescent_RmsMix := fun m ρ _ => Cert.RmsMix.Gen.frame m ρ
theorem frame_pi_RmsMix : Cert.quiescent_RmsMixIdeal := fun m ρ _ => Cert.RmsMixIdeal.Gen.frame m ρ
theorem frame_ri_RmsMix : Cert.quiescent_RmsMixRefIdeal := fun m ρ _ =>
  (θ_run Cert.RmsMixRefIdeal.defs _ _).mono (fun r h => ⟨fun c => (h c).2, sem_eq_zero_of_no_sems (by decide) r.2⟩)
    (Cert.RmsMixRefIdeal.Value.run (F := Ideal) m ρ)

open Cert.RmsMixIdeal Cert.RmsMixIdeal.Gen in
/-- Both programs end with the normed rows. -/
theorem algebraic_RmsMix : Cert.algebraic_RmsMixIdeal_RmsMixRefIdeal := by
  intro m ρ m' ρ' _ hargs
  refine ⟨fun c => Head.whole (m ((c.tc : Thread nD τ).loc main_arg0)) (m ((c.tc : Thread nD τ).loc main_arg1)), ?_, ?_⟩
  · refine (θ_run Cert.RmsMixIdeal.defs _ _).mono (fun r h c => ?_) (run_main (F := Ideal) m ρ)
    exact ⟨((h c).1 2).trans (Head.arr m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).2 main_arg2 (Pipeline.mem_restRefs_of main_arg2 (by decide) (by decide))).trans (V_main_arg2 m c)⟩
  · refine (θ_run Cert.RmsMixRefIdeal.defs _ _).mono (fun r h c => ?_) (Cert.RmsMixRefIdeal.Value.run (F := Ideal) m' ρ')
    obtain ⟨e0, e1, _⟩ := hargs c
    refine ⟨(h c).1.trans ?_, (h c).2⟩
    refine (Cert.RmsMixRefIdeal.Read.val_main_v12_eq (F := Ideal) _ _).trans ((Head.ref _ _).trans ?_)
    rw [e0, e1]

theorem frame_p_GkFwd : Cert.quiescent_GkFwd := fun m ρ _ => Cert.GkFwd.Gen.frame m ρ
theorem frame_pi_GkFwd : Cert.quiescent_GkFwdIdeal := fun m ρ _ => Cert.GkFwdIdeal.Gen.frame m ρ
theorem frame_ri_GkFwd : Cert.quiescent_GkFwdRefIdeal := fun m ρ _ =>
  (θ_run Cert.GkFwdRefIdeal.defs _ _).mono (fun r h => ⟨fun c => (h c).2, sem_eq_zero_of_no_sems (by decide) r.2⟩)
    (Cert.GkFwdRefIdeal.Value.run (F := Ideal) m ρ)

open Cert.GkFwdIdeal in
/-- Both programs end with the logarithm of the sigmoid of the product of low rank, over 16. -/
theorem algebraic_GkFwd : Cert.algebraic_GkFwdIdeal_GkFwdRefIdeal := by
  intro m ρ m' ρ' _ hargs
  refine ⟨fun c => Head.whole (m ((c.tc : Thread nD τ).loc main_arg0)) (m ((c.tc : Thread nD τ).loc main_arg1))
    (m ((c.tc : Thread nD τ).loc main_arg2)) (m ((c.tc : Thread nD τ).loc main_arg3)), ?_, ?_⟩
  · refine (θ_run Cert.GkFwdIdeal.defs _ _).mono (fun r h c => ?_) (Cert.GkFwdIdeal.Value.run_blocks (F := Ideal) m ρ)
    exact ⟨(h c).1.trans (Head.arr m c), (h c).2⟩
  · refine (θ_run Cert.GkFwdRefIdeal.defs _ _).mono (fun r h c => ?_) (Cert.GkFwdRefIdeal.Value.run (F := Ideal) m' ρ')
    obtain ⟨e0, e1, e2, e3⟩ := hargs c
    refine ⟨(h c).1.trans ?_, (h c).2⟩
    refine (Cert.GkFwdRefIdeal.Read.val_main_v10_eq (F := Ideal) _ _ _ _).trans ((Head.ref _ _ _ _).trans ?_)
    rw [e0, e1, e2, e3]

theorem frame_p_PairSum : Cert.quiescent_PairSum := fun m ρ _ => Cert.PairSum.Gen.frame m ρ (Cert.PairSum.Head.ok m)
theorem frame_pi_PairSum : Cert.quiescent_PairSumIdeal := fun m ρ _ => Cert.PairSumIdeal.Gen.frame m ρ (Cert.PairSumIdeal.Head.ok m)
theorem frame_ri_PairSum : Cert.quiescent_PairSumRefIdeal := fun m ρ _ =>
  (θ_run Cert.PairSumRefIdeal.defs _ _).mono (fun r h => ⟨fun c => (h c).2, sem_eq_zero_of_no_sems (by decide) r.2⟩)
    (Cert.PairSumRefIdeal.Value.run (F := Ideal) m ρ)

open Cert.PairSumIdeal Cert.PairSumIdeal.Gen in
/-- Both programs end with the sum of the device's own parts and the parts it received. -/
theorem algebraic_PairSum : Cert.algebraic_PairSumIdeal_PairSumRefIdeal := by
  intro m ρ m' ρ' _ hargs
  have hO := Head.ok m
  refine ⟨fun c => Head.both (m ((c.tc : Thread nD τ).loc main_arg0)) (m ((c.tc : Thread nD τ).loc main_arg1)), ?_, ?_⟩
  · refine (θ_run Cert.PairSumIdeal.defs _ _).mono (fun r h c => ?_) (run_main (F := Ideal) m ρ hO)
    exact ⟨((h c).1 2).trans (Head.arr m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c)))⟩
  · refine (θ_run Cert.PairSumRefIdeal.defs _ _).mono (fun r h c => ?_) (Cert.PairSumRefIdeal.Value.run (F := Ideal) m' ρ')
    obtain ⟨e0, e1⟩ := hargs c
    refine ⟨(h c).1.trans ?_, (h c).2⟩
    refine (Cert.PairSumRefIdeal.Read.val_main_v5_eq (F := Ideal) _ _).trans ((Head.ref _ _).trans ?_)
    rw [e0, e1]

end Cert.Proof

end
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Finite
public import proofs.«01_k».proof.Proof.KerArr
public import proofs.«01_k».proof.Proof.KerHost
public import proofs.«01_k».proof.Proof.Calls
public import proofs.«01_k».proof.Proof.NormCalls
public import proofs.«01_k».proof.Proof.LossCalls
public import proofs.«01_k».proof.Proof.AdamCalls
public import proofs.«01_k».proof.Proof.MoreCalls
public import Idealize.ShloMosaic.Adequacy
public import Idealize.ShloMosaic.Init

@[expose] public section

noncomputable section

namespace Cert.Proof

open Idealize.ShloMosaic Idealize.SL.Sem Idealize.ShloMosaic.StableHlo Idealize.ShloMosaic.TcCoe Cert.Gla

theorem frame_p : Cert.quiescent_Kernel := fun m ρ _ => Cert.Kernel.Gen.frame m ρ
theorem frame_pi : Cert.quiescent_KernelIdeal := fun m ρ _ => Cert.KernelIdeal.Gen.frame m ρ
theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The reals that the kernel's memory holds on a device. -/
def inputs (m : (ℓ : Loc Cert.KernelIdeal.nD Cert.KernelIdeal.τ Cert.KernelIdeal.sig) → Buf (Elt Ideal) ℓ) (c : Dev Cert.KernelIdeal.nD) : Inputs where
  Z r k := EReal.toReal (m ((c.tc : Thread Cert.KernelIdeal.nD Cert.KernelIdeal.τ).loc Cert.KernelIdeal.main_arg1) (ValueIdx.ix2 r k))
  A r k := EReal.toReal (m ((c.tc : Thread Cert.KernelIdeal.nD Cert.KernelIdeal.τ).loc Cert.KernelIdeal.main_arg2) (ValueIdx.ix2 r k))
  C r k := EReal.toReal (m ((c.tc : Thread Cert.KernelIdeal.nD Cert.KernelIdeal.τ).loc Cert.KernelIdeal.main_arg3) (ValueIdx.ix2 r k))

/-- An element's real part, named by its row and its column. -/
theorem real_at {a b : Nat} (f : Shape.Idx ⟨2, ![a, b]⟩ → EReal) (i : Shape.Idx ⟨2, ![a, b]⟩) :
    Real.toEReal (EReal.toReal (f i)) = Real.toEReal (EReal.toReal (f (ValueIdx.ix2 (i 0) (i 1)))) :=
  congrArg (fun j => Real.toEReal (EReal.toReal (f j))) (funext fun a => match a with
    | ⟨0, _⟩ => rfl
    | ⟨1, _⟩ => rfl)

open Cert.KernelIdeal in
/-- The reference's stages read the kernel's arguments, by the precondition. -/
theorem reads (m : (ℓ : Loc nD τ sig) → Buf (Elt Ideal) ℓ) (h : Cert.Pre_KernelIdeal_finite (hPre_finite := Cert.Pre_finite.conditions) m) (c : Dev nD) :
    Cert.ReferenceIdeal.Lift.Reads (m ((c.tc : Thread nD τ).loc main_arg1)) (m ((c.tc : Thread nD τ).loc main_arg2))
      (m ((c.tc : Thread nD τ).loc main_arg3)) (inputs m c) := by
  obtain ⟨h1, h2, h3⟩ := Cert.Pre_finite.real_of_fn _ _ _ _ (h c)
  exact ⟨fun i => (h1 i).trans (real_at _ i), fun i => (h2 i).trans (real_at _ i), fun i => (h3 i).trans (real_at _ i)⟩

open Cert.KernelIdeal in
/-- The kernel's region is entered with these reals, and with the states of the reference. -/
theorem entry (m : (ℓ : Loc nD τ sig) → Buf (Elt Ideal) ℓ) (h : Cert.Pre_KernelIdeal_finite (hPre_finite := Cert.Pre_finite.conditions) m) (c : Dev nD) :
    Cert.KernelIdeal.Head.Entry m c (inputs m c) where
  z := (reads m h c).z
  a := (reads m h c).a
  ct := (reads m h c).c
  st i := by
    rw [Cert.KernelIdeal.Head.host_states m c]
    exact (transpose_apply [0, 1, 3, 2] _ _ i (ValueIdx.ix4 (i 0) (i 1) (i 3) (i 2)) (fun b => match b with
      | ⟨0, _⟩ => rfl
      | ⟨1, _⟩ => rfl
      | ⟨2, _⟩ => rfl
      | ⟨3, _⟩ => rfl)).trans (Cert.ReferenceIdeal.Lift.r66 (reads m h c) _)
  dz i := by rw [Cert.KernelIdeal.Head.host_dz m c]

theorem same4 {A B C D E : Type} (f : A → B → C → D → E) {a a' : A} {b b' : B} {c c' : C} {d d' : D} (ha : a = a') (hb : b = b') (hc : c = c') (hd : d = d') :
    f a b c d = f a' b' c' d' := by rw [ha, hb, hc, hd]

theorem same3 {A B C D : Type} (f : A → B → C → D) {a a' : A} {b b' : B} {c c' : C} (ha : a = a') (hb : b = b') (hc : c = c') : f a b c = f a' b' c' := by
  rw [ha, hb, hc]

/-- Both programs end with the gradients, written as real sums. -/
theorem algebraic : Cert.algebraic_KernelIdeal_ReferenceIdeal_pre_finite (hPre_finite := Cert.Pre_finite.conditions) := by
  intro m ρ m' ρ' hpre hargs
  refine ⟨fun c => (inputs m c).packed (m ((c.tc : Thread Cert.KernelIdeal.nD Cert.KernelIdeal.τ).loc Cert.KernelIdeal.main_arg0)),
    fun c i => Real.toEReal ((inputs m c).dla (i 0) (i 1)), ?_, ?_⟩
  · refine (θ_run Cert.KernelIdeal.defs _ _).mono (fun r h c => ?_) (Cert.KernelIdeal.Value.run_blocks (F := Ideal) m ρ)
    exact ⟨(h c).1.trans (Cert.KernelIdeal.Head.arr4 (entry m hpre c)), (h c).2.1.trans (Cert.KernelIdeal.Head.arr5 (entry m hpre c)), (h c).2.2⟩
  · refine (θ_run Cert.ReferenceIdeal.defs _ _).mono (fun r h c => ?_) (Cert.ReferenceIdeal.Value.run (F := Ideal) m' ρ')
    obtain ⟨e0, e1, e2, e3⟩ := hargs c
    refine ⟨(h c).1.trans ?_, (h c).2.1.trans ?_, (h c).2.2⟩
    · refine (Cert.ReferenceIdeal.Read.val_main_v152_eq (F := Ideal) (launchContents m' c)).trans ?_
      exact (same4 (Cert.ReferenceIdeal.Read.val_main_v152 (F := Ideal)) e0 e1 e2 e3).trans (funext fun i => Cert.ReferenceIdeal.Lift.r152 (reads m hpre c) _ i)
    · refine (Cert.ReferenceIdeal.Read.val_main_v148_eq (F := Ideal) (launchContents m' c)).trans ?_
      exact (same3 (Cert.ReferenceIdeal.Read.val_main_v148 (F := Ideal)) e1 e2 e3).trans (funext fun i => Cert.ReferenceIdeal.Lift.r148 (reads m hpre c) i)

theorem claim : Cert.Claim :=
  ⟨Cert.Kernel.Gen.facts, Cert.KernelIdeal.Gen.facts, Cert.ReferenceIdeal.Gen.facts,
    Cert.MmIn.Gen.facts, Cert.MmInIdeal.Gen.facts, Cert.MmInRefIdeal.Gen.facts,
    Cert.MmDWcat.Gen.facts, Cert.MmDWcatIdeal.Gen.facts, Cert.MmDWcatRefIdeal.Gen.facts,
    Cert.MmDWup.Gen.facts, Cert.MmDWupIdeal.Gen.facts, Cert.MmDWupRefIdeal.Gen.facts,
    Cert.MmDAct.Gen.facts, Cert.MmDActIdeal.Gen.facts, Cert.MmDActRefIdeal.Gen.facts,
    Cert.MmDWdown.Gen.facts, Cert.MmDWdownIdeal.Gen.facts, Cert.MmDWdownRefIdeal.Gen.facts,
    Cert.MmDHRms.Gen.facts, Cert.MmDHRmsIdeal.Gen.facts, Cert.MmDHRmsRefIdeal.Gen.facts,
    Cert.MmDH2Rms.Gen.facts, Cert.MmDH2RmsIdeal.Gen.facts, Cert.MmDH2RmsRefIdeal.Gen.facts,
    Cert.MmDownLoss.Gen.facts, Cert.MmDownLossIdeal.Gen.facts, Cert.MmDownLossRefIdeal.Gen.facts,
    Cert.MmDWout.Gen.facts, Cert.MmDWoutIdeal.Gen.facts, Cert.MmDWoutRefIdeal.Gen.facts,
    Cert.MmDWgp.Gen.facts, Cert.MmDWgpIdeal.Gen.facts, Cert.MmDWgpRefIdeal.Gen.facts,
    Cert.MmDPs.Gen.facts, Cert.MmDPsIdeal.Gen.facts, Cert.MmDPsRefIdeal.Gen.facts,
    Cert.MmDWpp.Gen.facts, Cert.MmDWppIdeal.Gen.facts, Cert.MmDWppRefIdeal.Gen.facts,
    Cert.AdamSquare.Gen.facts, Cert.AdamSquareIdeal.Gen.facts, Cert.AdamSquareRefIdeal.Gen.facts,
    Cert.AdamPool.Gen.facts, Cert.AdamPoolIdeal.Gen.facts, Cert.AdamPoolRefIdeal.Gen.facts,
    Cert.AdamDown.Gen.facts, Cert.AdamDownIdeal.Gen.facts, Cert.AdamDownRefIdeal.Gen.facts,
    Cert.AdamUp.Gen.facts, Cert.AdamUpIdeal.Gen.facts, Cert.AdamUpRefIdeal.Gen.facts,
    Cert.AdamIn.Gen.facts, Cert.AdamInIdeal.Gen.facts, Cert.AdamInRefIdeal.Gen.facts,
    Cert.RmsMix.Gen.facts, Cert.RmsMixIdeal.Gen.facts, Cert.RmsMixRefIdeal.Gen.facts,
    Cert.GkFwd.Gen.facts, Cert.GkFwdIdeal.Gen.facts, Cert.GkFwdRefIdeal.Gen.facts,
    Cert.PairSum.Gen.facts, Cert.PairSumIdeal.Gen.facts, Cert.PairSumRefIdeal.Gen.facts,
    Cert.Pre_finite.conditions, Cert.Pre_finite_7.conditions, Cert.Pre_finite_8.conditions, Cert.Pre_finite_9.conditions,
    frame_p, frame_pi, fun m ρ _ => frame_pi m ρ trivial, frame_ri, fun m ρ _ => frame_ri m ρ trivial,
    frame_p_MmIn, frame_pi_MmIn, frame_ri_MmIn,
    frame_p_MmDWcat, frame_pi_MmDWcat, frame_ri_MmDWcat,
    frame_p_MmDWup, frame_pi_MmDWup, frame_ri_MmDWup,
    frame_p_MmDAct, frame_pi_MmDAct, frame_ri_MmDAct,
    frame_p_MmDWdown, frame_pi_MmDWdown, frame_ri_MmDWdown,
    frame_p_MmDHRms, frame_pi_MmDHRms, fun m ρ _ => frame_pi_MmDHRms m ρ trivial, frame_ri_MmDHRms, fun m ρ _ => frame_ri_MmDHRms m ρ trivial,
    frame_p_MmDH2Rms, frame_pi_MmDH2Rms, fun m ρ _ => frame_pi_MmDH2Rms m ρ trivial, frame_ri_MmDH2Rms, fun m ρ _ => frame_ri_MmDH2Rms m ρ trivial,
    frame_p_MmDownLoss, frame_pi_MmDownLoss, fun m ρ _ => frame_pi_MmDownLoss m ρ trivial, frame_ri_MmDownLoss, fun m ρ _ => frame_ri_MmDownLoss m ρ trivial,
    frame_p_MmDWout, frame_pi_MmDWout, frame_ri_MmDWout,
    frame_p_MmDWgp, frame_pi_MmDWgp, frame_ri_MmDWgp,
    frame_p_MmDPs, frame_pi_MmDPs, frame_ri_MmDPs,
    frame_p_MmDWpp, frame_pi_MmDWpp, frame_ri_MmDWpp,
    frame_p_AdamSquare, frame_pi_AdamSquare, frame_ri_AdamSquare,
    frame_p_AdamPool, frame_pi_AdamPool, frame_ri_AdamPool,
    frame_p_AdamDown, frame_pi_AdamDown, frame_ri_AdamDown,
    frame_p_AdamUp, frame_pi_AdamUp, frame_ri_AdamUp,
    frame_p_AdamIn, frame_pi_AdamIn, frame_ri_AdamIn,
    frame_p_RmsMix, frame_pi_RmsMix, frame_ri_RmsMix,
    frame_p_GkFwd, frame_pi_GkFwd, frame_ri_GkFwd,
    frame_p_PairSum, frame_pi_PairSum, frame_ri_PairSum,
    trivial, algebraic,
    trivial, algebraic_MmIn,
    trivial, algebraic_MmDWcat,
    trivial, algebraic_MmDWup,
    trivial, algebraic_MmDAct,
    trivial, algebraic_MmDWdown,
    trivial, algebraic_MmDHRms,
    trivial, algebraic_MmDH2Rms,
    trivial, algebraic_MmDownLoss,
    trivial, algebraic_MmDWout,
    trivial, algebraic_MmDWgp,
    trivial, algebraic_MmDPs,
    trivial, algebraic_MmDWpp,
    trivial, algebraic_AdamSquare,
    trivial, algebraic_AdamPool,
    trivial, algebraic_AdamDown,
    trivial, algebraic_AdamUp,
    trivial, algebraic_AdamIn,
    trivial, algebraic_RmsMix,
    trivial, algebraic_GkFwd,
    trivial, algebraic_PairSum⟩

end Cert.Proof

end
